-- ==== Defs.lean ====
def Pre_Grad (m : (ℓ : Loc Cert.Grad.nD Cert.Grad.τ Cert.Grad.sig) → Buf (Elt Bits) ℓ) : Prop :=
  True

def Pre_GradIdeal (m : (ℓ : Loc Cert.GradIdeal.nD Cert.GradIdeal.τ Cert.GradIdeal.sig) → Buf (Elt Ideal) ℓ) : Prop :=
  True

def Pre_GradRefIdeal (m : (ℓ : Loc Cert.GradRefIdeal.nD Cert.GradRefIdeal.τ Cert.GradRefIdeal.sig) → Buf (Elt Ideal) ℓ) : Prop :=
  True

def Pre_Stats (m : (ℓ : Loc Cert.Stats.nD Cert.Stats.τ Cert.Stats.sig) → Buf (Elt Bits) ℓ) : Prop :=
  True

def Pre_StatsIdeal (m : (ℓ : Loc Cert.StatsIdeal.nD Cert.StatsIdeal.τ Cert.StatsIdeal.sig) → Buf (Elt Ideal) ℓ) : Prop :=
  True

def Pre_StatsRefIdeal (m : (ℓ : Loc Cert.StatsRefIdeal.nD Cert.StatsRefIdeal.τ Cert.StatsRefIdeal.sig) → Buf (Elt Ideal) ℓ) : Prop :=
  True

def Pre_Coef (m : (ℓ : Loc Cert.Coef.nD Cert.Coef.τ Cert.Coef.sig) → Buf (Elt Bits) ℓ) : Prop :=
  True

def Pre_CoefIdeal (m : (ℓ : Loc Cert.CoefIdeal.nD Cert.CoefIdeal.τ Cert.CoefIdeal.sig) → Buf (Elt Ideal) ℓ) : Prop :=
  True

def Pre_CoefRefIdeal (m : (ℓ : Loc Cert.CoefRefIdeal.nD Cert.CoefRefIdeal.τ Cert.CoefRefIdeal.sig) → Buf (Elt Ideal) ℓ) : Prop :=
  True

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormRefIdeal (m : (ℓ : Loc Cert.NormRefIdeal.nD Cert.NormRefIdeal.τ Cert.NormRefIdeal.sig) → Buf (Elt Ideal) ℓ) : Prop :=
  True

def Pre_Bwd (m : (ℓ : Loc Cert.Bwd.nD Cert.Bwd.τ Cert.Bwd.sig) → Buf (Elt Bits) ℓ) : Prop :=
  True

def Pre_BwdIdeal (m : (ℓ : Loc Cert.BwdIdeal.nD Cert.BwdIdeal.τ Cert.BwdIdeal.sig) → Buf (Elt Ideal) ℓ) : Prop :=
  True

def Pre_BwdRefIdeal (m : (ℓ : Loc Cert.BwdRefIdeal.nD Cert.BwdRefIdeal.τ Cert.BwdRefIdeal.sig) → Buf (Elt Ideal) ℓ) : Prop :=
  True

def quiescent_Grad [hGrad : Cert.Grad.Facts] : Prop :=
  ∀ (m : (ℓ : Loc Cert.Grad.nD Cert.Grad.τ Cert.Grad.sig) → Buf (Elt Bits) ℓ) (g : Dev Cert.Grad.nD → PrngReg), Pre_Grad m →
    θ_run (Cert.Grad.defs (F := Bits)) (onTc (τ := Cert.Grad.τ) (Cert.Grad.main (F := Bits))) ⟨m, fun _ => 0, g⟩ (fun r => (∀ c : Dev Cert.Grad.nD,
      r.2.mem ((c.tc : Thread Cert.Grad.nD Cert.Grad.τ).loc Cert.Grad.main_arg0) = m ((c.tc : Thread Cert.Grad.nD Cert.Grad.τ).loc Cert.Grad.main_arg0)
      ∧ r.2.mem ((c.tc : Thread Cert.Grad.nD Cert.Grad.τ).loc Cert.Grad.main_arg1) = m ((c.tc : Thread Cert.Grad.nD Cert.Grad.τ).loc Cert.Grad.main_arg1)
      ∧ r.2.mem ((c.tc : Thread Cert.Grad.nD Cert.Grad.τ).loc Cert.Grad.main_arg2) = m ((c.tc : Thread Cert.Grad.nD Cert.Grad.τ).loc Cert.Grad.main_arg2)
      ∧ r.2.mem ((c.tc : Thread Cert.Grad.nD Cert.Grad.τ).loc Cert.Grad.main_arg3) = m ((c.tc : Thread Cert.Grad.nD Cert.Grad.τ).loc Cert.Grad.main_arg3)
      ∧ r.2.mem ((c.tc : Thread Cert.Grad.nD Cert.Grad.τ).loc Cert.Grad.main_arg4) = m ((c.tc : Thread Cert.Grad.nD Cert.Grad.τ).loc Cert.Grad.main_arg4)
      ∧ r.2.mem ((c.tc : Thread Cert.Grad.nD Cert.Grad.τ).loc Cert.Grad.main_arg5) = m ((c.tc : Thread Cert.Grad.nD Cert.Grad.τ).loc Cert.Grad.main_arg5)
      ∧ r.2.mem ((c.tc : Thread Cert.Grad.nD Cert.Grad.τ).loc Cert.Grad.main_arg6) = m ((c.tc : Thread Cert.Grad.nD Cert.Grad.τ).loc Cert.Grad.main_arg6))
      ∧ r.2.sem = fun _ => 0)

def quiescent_GradIdeal [hGradIdeal : Cert.GradIdeal.Facts] : Prop :=
  ∀ (m : (ℓ : Loc Cert.GradIdeal.nD Cert.GradIdeal.τ Cert.GradIdeal.sig) → Buf (Elt Ideal) ℓ) (g : Dev Cert.GradIdeal.nD → PrngReg), Pre_GradIdeal m →
    θ_run (Cert.GradIdeal.defs (F := Ideal)) (onTc (τ := Cert.GradIdeal.τ) (Cert.GradIdeal.main (F := Ideal))) ⟨m, fun _ => 0, g⟩ (fun r => (∀ c : Dev Cert.GradIdeal.nD,
      r.2.mem ((c.tc : Thread Cert.GradIdeal.nD Cert.GradIdeal.τ).loc Cert.GradIdeal.main_arg0) = m ((c.tc : Thread Cert.GradIdeal.nD Cert.GradIdeal.τ).loc Cert.GradIdeal.main_arg0)
      ∧ r.2.mem ((c.tc : Thread Cert.GradIdeal.nD Cert.GradIdeal.τ).loc Cert.GradIdeal.main_arg1) = m ((c.tc : Thread Cert.GradIdeal.nD Cert.GradIdeal.τ).loc Cert.GradIdeal.main_arg1)
      ∧ r.2.mem ((c.tc : Thread Cert.GradIdeal.nD Cert.GradIdeal.τ).loc Cert.GradIdeal.main_arg2) = m ((c.tc : Thread Cert.GradIdeal.nD Cert.GradIdeal.τ).loc Cert.GradIdeal.main_arg2)
      ∧ r.2.mem ((c.tc : Thread Cert.GradIdeal.nD Cert.GradIdeal.τ).loc Cert.GradIdeal.main_arg3) = m ((c.tc : Thread Cert.GradIdeal.nD Cert.GradIdeal.τ).loc Cert.GradIdeal.main_arg3)
      ∧ r.2.mem ((c.tc : Thread Cert.GradIdeal.nD Cert.GradIdeal.τ).loc Cert.GradIdeal.main_arg4) = m ((c.tc : Thread Cert.GradIdeal.nD Cert.GradIdeal.τ).loc Cert.GradIdeal.main_arg4)
      ∧ r.2.mem ((c.tc : Thread Cert.GradIdeal.nD Cert.GradIdeal.τ).loc Cert.GradIdeal.main_arg5) = m ((c.tc : Thread Cert.GradIdeal.nD Cert.GradIdeal.τ).loc Cert.GradIdeal.main_arg5)
      ∧ r.2.mem ((c.tc : Thread Cert.GradIdeal.nD Cert.GradIdeal.τ).loc Cert.GradIdeal.main_arg6) = m ((c.tc : Thread Cert.GradIdeal.nD Cert.GradIdeal.τ).loc Cert.GradIdeal.main_arg6))
      ∧ r.2.sem = fun _ => 0)

def quiescent_GradRefIdeal [hGradRefIdeal : Cert.GradRefIdeal.Facts] : Prop :=
  ∀ (m : (ℓ : Loc Cert.GradRefIdeal.nD Cert.GradRefIdeal.τ Cert.GradRefIdeal.sig) → Buf (Elt Ideal) ℓ) (g : Dev Cert.GradRefIdeal.nD → PrngReg), Pre_GradRefIdeal m →
    θ_run (Cert.GradRefIdeal.defs (F := Ideal)) (onTc (τ := Cert.GradRefIdeal.τ) (Cert.GradRefIdeal.main (F := Ideal))) ⟨m, fun _ => 0, g⟩ (fun r => (∀ c : Dev Cert.GradRefIdeal.nD,
      r.2.mem ((c.tc : Thread Cert.GradRefIdeal.nD Cert.GradRefIdeal.τ).loc Cert.GradRefIdeal.main_arg0) = m ((c.tc : Thread Cert.GradRefIdeal.nD Cert.GradRefIdeal.τ).loc Cert.GradRefIdeal.main_arg0)
      ∧ r.2.mem ((c.tc : Thread Cert.GradRefIdeal.nD Cert.GradRefIdeal.τ).loc Cert.GradRefIdeal.main_arg1) = m ((c.tc : Thread Cert.GradRefIdeal.nD Cert.GradRefIdeal.τ).loc Cert.GradRefIdeal.main_arg1)
      ∧ r.2.mem ((c.tc : Thread Cert.GradRefIdeal.nD Cert.GradRefIdeal.τ).loc Cert.GradRefIdeal.main_arg2) = m ((c.tc : Thread Cert.GradRefIdeal.nD Cert.GradRefIdeal.τ).loc Cert.GradRefIdeal.main_arg2)
      ∧ r.2.mem ((c.tc : Thread Cert.GradRefIdeal.nD Cert.GradRefIdeal.τ).loc Cert.GradRefIdeal.main_arg3) = m ((c.tc : Thread Cert.GradRefIdeal.nD Cert.GradRefIdeal.τ).loc Cert.GradRefIdeal.main_arg3)
      ∧ r.2.mem ((c.tc : Thread Cert.GradRefIdeal.nD Cert.GradRefIdeal.τ).loc Cert.GradRefIdeal.main_arg4) = m ((c.tc : Thread Cert.GradRefIdeal.nD Cert.GradRefIdeal.τ).loc Cert.GradRefIdeal.main_arg4)
      ∧ r.2.mem ((c.tc : Thread Cert.GradRefIdeal.nD Cert.GradRefIdeal.τ).loc Cert.GradRefIdeal.main_arg5) = m ((c.tc : Thread Cert.GradRefIdeal.nD Cert.GradRefIdeal.τ).loc Cert.GradRefIdeal.main_arg5)
      ∧ r.2.mem ((c.tc : Thread Cert.GradRefIdeal.nD Cert.GradRefIdeal.τ).loc Cert.GradRefIdeal.main_arg6) = m ((c.tc : Thread Cert.GradRefIdeal.nD Cert.GradRefIdeal.τ).loc Cert.GradRefIdeal.main_arg6))
      ∧ r.2.sem = fun _ => 0)

def quiescent_Stats [hStats : Cert.Stats.Facts] : Prop :=
  ∀ (m : (ℓ : Loc Cert.Stats.nD Cert.Stats.τ Cert.Stats.sig) → Buf (Elt Bits) ℓ) (g : Dev Cert.Stats.nD → PrngReg), Pre_Stats m →
    θ_run (Cert.Stats.defs (F := Bits)) (onTc (τ := Cert.Stats.τ) (Cert.Stats.main (F := Bits))) ⟨m, fun _ => 0, g⟩ (fun r => (∀ c : Dev Cert.Stats.nD,
      r.2.mem ((c.tc : Thread Cert.Stats.nD Cert.Stats.τ).loc Cert.Stats.main_arg0) = m ((c.tc : Thread Cert.Stats.nD Cert.Stats.τ).loc Cert.Stats.main_arg0)
      ∧ r.2.mem ((c.tc : Thread Cert.Stats.nD Cert.Stats.τ).loc Cert.Stats.main_arg1) = m ((c.tc : Thread Cert.Stats.nD Cert.Stats.τ).loc Cert.Stats.main_arg1)
      ∧ r.2.mem ((c.tc : Thread Cert.Stats.nD Cert.Stats.τ).loc Cert.Stats.main_arg2) = m ((c.tc : Thread Cert.Stats.nD Cert.Stats.τ).loc Cert.Stats.main_arg2)
      ∧ r.2.mem ((c.tc : Thread Cert.Stats.nD Cert.Stats.τ).loc Cert.Stats.main_arg3) = m ((c.tc : Thread Cert.Stats.nD Cert.Stats.τ).loc Cert.Stats.main_arg3)
      ∧ r.2.mem ((c.tc : Thread Cert.Stats.nD Cert.Stats.τ).loc Cert.Stats.main_arg4) = m ((c.tc : Thread Cert.Stats.nD Cert.Stats.τ).loc Cert.Stats.main_arg4)
      ∧ r.2.mem ((c.tc : Thread Cert.Stats.nD Cert.Stats.τ).loc Cert.Stats.main_arg5) = m ((c.tc : Thread Cert.Stats.nD Cert.Stats.τ).loc Cert.Stats.main_arg5)
      ∧ r.2.mem ((c.tc : Thread Cert.Stats.nD Cert.Stats.τ).loc Cert.Stats.main_arg6) = m ((c.tc : Thread Cert.Stats.nD Cert.Stats.τ).loc Cert.Stats.main_arg6))
      ∧ r.2.sem = fun _ => 0)

def quiescent_StatsIdeal [hStatsIdeal : Cert.StatsIdeal.Facts] : Prop :=
  ∀ (m : (ℓ : Loc Cert.StatsIdeal.nD Cert.StatsIdeal.τ Cert.StatsIdeal.sig) → Buf (Elt Ideal) ℓ) (g : Dev Cert.StatsIdeal.nD → PrngReg), Pre_StatsIdeal m →
    θ_run (Cert.StatsIdeal.defs (F := Ideal)) (onTc (τ := Cert.StatsIdeal.τ) (Cert.StatsIdeal.main (F := Ideal))) ⟨m, fun _ => 0, g⟩ (fun r => (∀ c : Dev Cert.StatsIdeal.nD,
      r.2.mem ((c.tc : Thread Cert.StatsIdeal.nD Cert.StatsIdeal.τ).loc Cert.StatsIdeal.main_arg0) = m ((c.tc : Thread Cert.StatsIdeal.nD Cert.StatsIdeal.τ).loc Cert.StatsIdeal.main_arg0)
      ∧ r.2.mem ((c.tc : Thread Cert.StatsIdeal.nD Cert.StatsIdeal.τ).loc Cert.StatsIdeal.main_arg1) = m ((c.tc : Thread Cert.StatsIdeal.nD Cert.StatsIdeal.τ).loc Cert.StatsIdeal.main_arg1)
      ∧ r.2.mem ((c.tc : Thread Cert.StatsIdeal.nD Cert.StatsIdeal.τ).loc Cert.StatsIdeal.main_arg2) = m ((c.tc : Thread Cert.StatsIdeal.nD Cert.StatsIdeal.τ).loc Cert.StatsIdeal.main_arg2)
      ∧ r.2.mem ((c.tc : Thread Cert.StatsIdeal.nD Cert.StatsIdeal.τ).loc Cert.StatsIdeal.main_arg3) = m ((c.tc : Thread Cert.StatsIdeal.nD Cert.StatsIdeal.τ).loc Cert.StatsIdeal.main_arg3)
      ∧ r.2.mem ((c.tc : Thread Cert.StatsIdeal.nD Cert.StatsIdeal.τ).loc Cert.StatsIdeal.main_arg4) = m ((c.tc : Thread Cert.StatsIdeal.nD Cert.StatsIdeal.τ).loc Cert.StatsIdeal.main_arg4)
      ∧ r.2.mem ((c.tc : Thread Cert.StatsIdeal.nD Cert.StatsIdeal.τ).loc Cert.StatsIdeal.main_arg5) = m ((c.tc : Thread Cert.StatsIdeal.nD Cert.StatsIdeal.τ).loc Cert.StatsIdeal.main_arg5)
      ∧ r.2.mem ((c.tc : Thread Cert.StatsIdeal.nD Cert.StatsIdeal.τ).loc Cert.StatsIdeal.main_arg6) = m ((c.tc : Thread Cert.StatsIdeal.nD Cert.StatsIdeal.τ).loc Cert.StatsIdeal.main_arg6))
      ∧ r.2.sem = fun _ => 0)

def quiescent_StatsRefIdeal [hStatsRefIdeal : Cert.StatsRefIdeal.Facts] : Prop :=
  ∀ (m : (ℓ : Loc Cert.StatsRefIdeal.nD Cert.StatsRefIdeal.τ Cert.StatsRefIdeal.sig) → Buf (Elt Ideal) ℓ) (g : Dev Cert.StatsRefIdeal.nD → PrngReg), Pre_StatsRefIdeal m →
    θ_run (Cert.StatsRefIdeal.defs (F := Ideal)) (onTc (τ := Cert.StatsRefIdeal.τ) (Cert.StatsRefIdeal.main (F := Ideal))) ⟨m, fun _ => 0, g⟩ (fun r => (∀ c : Dev Cert.StatsRefIdeal.nD,
      r.2.mem ((c.tc : Thread Cert.StatsRefIdeal.nD Cert.StatsRefIdeal.τ).loc Cert.StatsRefIdeal.main_arg0) = m ((c.tc : Thread Cert.StatsRefIdeal.nD Cert.StatsRefIdeal.τ).loc Cert.StatsRefIdeal.main_arg0)
      ∧ r.2.mem ((c.tc : Thread Cert.StatsRefIdeal.nD Cert.StatsRefIdeal.τ).loc Cert.StatsRefIdeal.main_arg1) = m ((c.tc : Thread Cert.StatsRefIdeal.nD Cert.StatsRefIdeal.τ).loc Cert.StatsRefIdeal.main_arg1)
      ∧ r.2.mem ((c.tc : Thread Cert.StatsRefIdeal.nD Cert.StatsRefIdeal.τ).loc Cert.StatsRefIdeal.main_arg2) = m ((c.tc : Thread Cert.StatsRefIdeal.nD Cert.StatsRefIdeal.τ).loc Cert.StatsRefIdeal.main_arg2)
      ∧ r.2.mem ((c.tc : Thread Cert.StatsRefIdeal.nD Cert.StatsRefIdeal.τ).loc Cert.StatsRefIdeal.main_arg3) = m ((c.tc : Thread Cert.StatsRefIdeal.nD Cert.StatsRefIdeal.τ).loc Cert.StatsRefIdeal.main_arg3)
      ∧ r.2.mem ((c.tc : Thread Cert.StatsRefIdeal.nD Cert.StatsRefIdeal.τ).loc Cert.StatsRefIdeal.main_arg4) = m ((c.tc : Thread Cert.StatsRefIdeal.nD Cert.StatsRefIdeal.τ).loc Cert.StatsRefIdeal.main_arg4)
      ∧ r.2.mem ((c.tc : Thread Cert.StatsRefIdeal.nD Cert.StatsRefIdeal.τ).loc Cert.StatsRefIdeal.main_arg5) = m ((c.tc : Thread Cert.StatsRefIdeal.nD Cert.StatsRefIdeal.τ).loc Cert.StatsRefIdeal.main_arg5)
      ∧ r.2.mem ((c.tc : Thread Cert.StatsRefIdeal.nD Cert.StatsRefIdeal.τ).loc Cert.StatsRefIdeal.main_arg6) = m ((c.tc : Thread Cert.StatsRefIdeal.nD Cert.StatsRefIdeal.τ).loc Cert.StatsRefIdeal.main_arg6))
      ∧ r.2.sem = fun _ => 0)

def quiescent_Coef [hCoef : Cert.Coef.Facts] : Prop :=
  ∀ (m : (ℓ : Loc Cert.Coef.nD Cert.Coef.τ Cert.Coef.sig) → Buf (Elt Bits) ℓ) (g : Dev Cert.Coef.nD → PrngReg), Pre_Coef m →
    θ_run (Cert.Coef.defs (F := Bits)) (onTc (τ := Cert.Coef.τ) (Cert.Coef.main (F := Bits))) ⟨m, fun _ => 0, g⟩ (fun r => (∀ c : Dev Cert.Coef.nD,
      r.2.mem ((c.tc : Thread Cert.Coef.nD Cert.Coef.τ).loc Cert.Coef.main_arg0) = m ((c.tc : Thread Cert.Coef.nD Cert.Coef.τ).loc Cert.Coef.main_arg0)
      ∧ r.2.mem ((c.tc : Thread Cert.Coef.nD Cert.Coef.τ).loc Cert.Coef.main_arg1) = m ((c.tc : Thread Cert.Coef.nD Cert.Coef.τ).loc Cert.Coef.main_arg1)
      ∧ r.2.mem ((c.tc : Thread Cert.Coef.nD Cert.Coef.τ).loc Cert.Coef.main_arg2) = m ((c.tc : Thread Cert.Coef.nD Cert.Coef.τ).loc Cert.Coef.main_arg2)
      ∧ r.2.mem ((c.tc : Thread Cert.Coef.nD Cert.Coef.τ).loc Cert.Coef.main_arg3) = m ((c.tc : Thread Cert.Coef.nD Cert.Coef.τ).loc Cert.Coef.main_arg3)
      ∧ r.2.mem ((c.tc : Thread Cert.Coef.nD Cert.Coef.τ).loc Cert.Coef.main_arg4) = m ((c.tc : Thread Cert.Coef.nD Cert.Coef.τ).loc Cert.Coef.main_arg4)
      ∧ r.2.mem ((c.tc : Thread Cert.Coef.nD Cert.Coef.τ).loc Cert.Coef.main_arg5) = m ((c.tc : Thread Cert.Coef.nD Cert.Coef.τ).loc Cert.Coef.main_arg5)
      ∧ r.2.mem ((c.tc : Thread Cert.Coef.nD Cert.Coef.τ).loc Cert.Coef.main_arg6) = m ((c.tc : Thread Cert.Coef.nD Cert.Coef.τ).loc Cert.Coef.main_arg6)
      ∧ r.2.mem ((c.tc : Thread Cert.Coef.nD Cert.Coef.τ).loc Cert.Coef.main_arg7) = m ((c.tc : Thread Cert.Coef.nD Cert.Coef.τ).loc Cert.Coef.main_arg7)
      ∧ r.2.mem ((c.tc : Thread Cert.Coef.nD Cert.Coef.τ).loc Cert.Coef.main_arg8) = m ((c.tc : Thread Cert.Coef.nD Cert.Coef.τ).loc Cert.Coef.main_arg8)
      ∧ r.2.mem ((c.tc : Thread Cert.Coef.nD Cert.Coef.τ).loc Cert.Coef.main_arg9) = m ((c.tc : Thread Cert.Coef.nD Cert.Coef.τ).loc Cert.Coef.main_arg9)
      ∧ r.2.mem ((c.tc : Thread Cert.Coef.nD Cert.Coef.τ).loc Cert.Coef.main_arg10) = m ((c.tc : Thread Cert.Coef.nD Cert.Coef.τ).loc Cert.Coef.main_arg10)
      ∧ r.2.mem ((c.tc : Thread Cert.Coef.nD Cert.Coef.τ).loc Cert.Coef.main_arg11) = m ((c.tc : Thread Cert.Coef.nD Cert.Coef.τ).loc Cert.Coef.main_arg11)
      ∧ r.2.mem ((c.tc : Thread Cert.Coef.nD Cert.Coef.τ).loc Cert.Coef.main_arg12) = m ((c.tc : Thread Cert.Coef.nD Cert.Coef.τ).loc Cert.Coef.main_arg12)
      ∧ r.2.mem ((c.tc : Thread Cert.Coef.nD Cert.Coef.τ).loc Cert.Coef.main_arg13) = m ((c.tc : Thread Cert.Coef.nD Cert.Coef.τ).loc Cert.Coef.main_arg13)
      ∧ r.2.mem ((c.tc : Thread Cert.Coef.nD Cert.Coef.τ).loc Cert.Coef.main_arg14) = m ((c.tc : Thread Cert.Coef.nD Cert.Coef.τ).loc Cert.Coef.main_arg14))
      ∧ r.2.sem = fun _ => 0)

def quiescent_CoefIdeal [hCoefIdeal : Cert.CoefIdeal.Facts] : Prop :=
  ∀ (m : (ℓ : Loc Cert.CoefIdeal.nD Cert.CoefIdeal.τ Cert.CoefIdeal.sig) → Buf (Elt Ideal) ℓ) (g : Dev Cert.CoefIdeal.nD → PrngReg), Pre_CoefIdeal m →
    θ_run (Cert.CoefIdeal.defs (F := Ideal)) (onTc (τ := Cert.CoefIdeal.τ) (Cert.CoefIdeal.main (F := Ideal))) ⟨m, fun _ => 0, g⟩ (fun r => (∀ c : Dev Cert.CoefIdeal.nD,
      r.2.mem ((c.tc : Thread Cert.CoefIdeal.nD Cert.CoefIdeal.τ).loc Cert.CoefIdeal.main_arg0) = m ((c.tc : Thread Cert.CoefIdeal.nD Cert.CoefIdeal.τ).loc Cert.CoefIdeal.main_arg0)
      ∧ r.2.mem ((c.tc : Thread Cert.CoefIdeal.nD Cert.CoefIdeal.τ).loc Cert.CoefIdeal.main_arg1) = m ((c.tc : Thread Cert.CoefIdeal.nD Cert.CoefIdeal.τ).loc Cert.CoefIdeal.main_arg1)
      ∧ r.2.mem ((c.tc : Thread Cert.CoefIdeal.nD Cert.CoefIdeal.τ).loc Cert.CoefIdeal.main_arg2) = m ((c.tc : Thread Cert.CoefIdeal.nD Cert.CoefIdeal.τ).loc Cert.CoefIdeal.main_arg2)
      ∧ r.2.mem ((c.tc : Thread Cert.CoefIdeal.nD Cert.CoefIdeal.τ).loc Cert.CoefIdeal.main_arg3) = m ((c.tc : Thread Cert.CoefIdeal.nD Cert.CoefIdeal.τ).loc Cert.CoefIdeal.main_arg3)
      ∧ r.2.mem ((c.tc : Thread Cert.CoefIdeal.nD Cert.CoefIdeal.τ).loc Cert.CoefIdeal.main_arg4) = m ((c.tc : Thread Cert.CoefIdeal.nD Cert.CoefIdeal.τ).loc Cert.CoefIdeal.main_arg4)
      ∧ r.2.mem ((c.tc : Thread Cert.CoefIdeal.nD Cert.CoefIdeal.τ).loc Cert.CoefIdeal.main_arg5) = m ((c.tc : Thread Cert.CoefIdeal.nD Cert.CoefIdeal.τ).loc Cert.CoefIdeal.main_arg5)
      ∧ r.2.mem ((c.tc : Thread Cert.CoefIdeal.nD Cert.CoefIdeal.τ).loc Cert.CoefIdeal.main_arg6) = m ((c.tc : Thread Cert.CoefIdeal.nD Cert.CoefIdeal.τ).loc Cert.CoefIdeal.main_arg6)
      ∧ r.2.mem ((c.tc : Thread Cert.CoefIdeal.nD Cert.CoefIdeal.τ).loc Cert.CoefIdeal.main_arg7) = m ((c.tc : Thread Cert.CoefIdeal.nD Cert.CoefIdeal.τ).loc Cert.CoefIdeal.main_arg7)
      ∧ r.2.mem ((c.tc : Thread Cert.CoefIdeal.nD Cert.CoefIdeal.τ).loc Cert.CoefIdeal.main_arg8) = m ((c.tc : Thread Cert.CoefIdeal.nD Cert.CoefIdeal.τ).loc Cert.CoefIdeal.main_arg8)
      ∧ r.2.mem ((c.tc : Thread Cert.CoefIdeal.nD Cert.CoefIdeal.τ).loc Cert.CoefIdeal.main_arg9) = m ((c.tc : Thread Cert.CoefIdeal.nD Cert.CoefIdeal.τ).loc Cert.CoefIdeal.main_arg9)
      ∧ r.2.mem ((c.tc : Thread Cert.CoefIdeal.nD Cert.CoefIdeal.τ).loc Cert.CoefIdeal.main_arg10) = m ((c.tc : Thread Cert.CoefIdeal.nD Cert.CoefIdeal.τ).loc Cert.CoefIdeal.main_arg10)
      ∧ r.2.mem ((c.tc : Thread Cert.CoefIdeal.nD Cert.CoefIdeal.τ).loc Cert.CoefIdeal.main_arg11) = m ((c.tc : Thread Cert.CoefIdeal.nD Cert.CoefIdeal.τ).loc Cert.CoefIdeal.main_arg11)
      ∧ r.2.mem ((c.tc : Thread Cert.CoefIdeal.nD Cert.CoefIdeal.τ).loc Cert.CoefIdeal.main_arg12) = m ((c.tc : Thread Cert.CoefIdeal.nD Cert.CoefIdeal.τ).loc Cert.CoefIdeal.main_arg12)
      ∧ r.2.mem ((c.tc : Thread Cert.CoefIdeal.nD Cert.CoefIdeal.τ).loc Cert.CoefIdeal.main_arg13) = m ((c.tc : Thread Cert.CoefIdeal.nD Cert.CoefIdeal.τ).loc Cert.CoefIdeal.main_arg13)
      ∧ r.2.mem ((c.tc : Thread Cert.CoefIdeal.nD Cert.CoefIdeal.τ).loc Cert.CoefIdeal.main_arg14) = m ((c.tc : Thread Cert.CoefIdeal.nD Cert.CoefIdeal.τ).loc Cert.CoefIdeal.main_arg14))
      ∧ r.2.sem = fun _ => 0)

def quiescent_CoefRefIdeal [hCoefRefIdeal : Cert.CoefRefIdeal.Facts] : Prop :=
  ∀ (m : (ℓ : Loc Cert.CoefRefIdeal.nD Cert.CoefRefIdeal.τ Cert.CoefRefIdeal.sig) → Buf (Elt Ideal) ℓ) (g : Dev Cert.CoefRefIdeal.nD → PrngReg), Pre_CoefRefIdeal m →
    θ_run (Cert.CoefRefIdeal.defs (F := Ideal)) (onTc (τ := Cert.CoefRefIdeal.τ) (Cert.CoefRefIdeal.main (F := Ideal))) ⟨m, fun _ => 0, g⟩ (fun r => (∀ c : Dev Cert.CoefRefIdeal.nD,
      r.2.mem ((c.tc : Thread Cert.CoefRefIdeal.nD Cert.CoefRefIdeal.τ).loc Cert.CoefRefIdeal.main_arg0) = m ((c.tc : Thread Cert.CoefRefIdeal.nD Cert.CoefRefIdeal.τ).loc Cert.CoefRefIdeal.main_arg0)
      ∧ r.2.mem ((c.tc : Thread Cert.CoefRefIdeal.nD Cert.CoefRefIdeal.τ).loc Cert.CoefRefIdeal.main_arg1) = m ((c.tc : Thread Cert.CoefRefIdeal.nD Cert.CoefRefIdeal.τ).loc Cert.CoefRefIdeal.main_arg1)
      ∧ r.2.mem ((c.tc : Thread Cert.CoefRefIdeal.nD Cert.CoefRefIdeal.τ).loc Cert.CoefRefIdeal.main_arg2) = m ((c.tc : Thread Cert.CoefRefIdeal.nD Cert.CoefRefIdeal.τ).loc Cert.CoefRefIdeal.main_arg2)
      ∧ r.2.mem ((c.tc : Thread Cert.CoefRefIdeal.nD Cert.CoefRefIdeal.τ).loc Cert.CoefRefIdeal.main_arg3) = m ((c.tc : Thread Cert.CoefRefIdeal.nD Cert.CoefRefIdeal.τ).loc Cert.CoefRefIdeal.main_arg3)
      ∧ r.2.mem ((c.tc : Thread Cert.CoefRefIdeal.nD Cert.CoefRefIdeal.τ).loc Cert.CoefRefIdeal.main_arg4) = m ((c.tc : Thread Cert.CoefRefIdeal.nD Cert.CoefRefIdeal.τ).loc Cert.CoefRefIdeal.main_arg4)
      ∧ r.2.mem ((c.tc : Thread Cert.CoefRefIdeal.nD Cert.CoefRefIdeal.τ).loc Cert.CoefRefIdeal.main_arg5) = m ((c.tc : Thread Cert.CoefRefIdeal.nD Cert.CoefRefIdeal.τ).loc Cert.CoefRefIdeal.main_arg5)
      ∧ r.2.mem ((c.tc : Thread Cert.CoefRefIdeal.nD Cert.CoefRefIdeal.τ).loc Cert.CoefRefIdeal.main_arg6) = m ((c.tc : Thread Cert.CoefRefIdeal.nD Cert.CoefRefIdeal.τ).loc Cert.CoefRefIdeal.main_arg6)
      ∧ r.2.mem ((c.tc : Thread Cert.CoefRefIdeal.nD Cert.CoefRefIdeal.τ).loc Cert.CoefRefIdeal.main_arg7) = m ((c.tc : Thread Cert.CoefRefIdeal.nD Cert.CoefRefIdeal.τ).loc Cert.CoefRefIdeal.main_arg7)
      ∧ r.2.mem ((c.tc : Thread Cert.CoefRefIdeal.nD Cert.CoefRefIdeal.τ).loc Cert.CoefRefIdeal.main_arg8) = m ((c.tc : Thread Cert.CoefRefIdeal.nD Cert.CoefRefIdeal.τ).loc Cert.CoefRefIdeal.main_arg8)
      ∧ r.2.mem ((c.tc : Thread Cert.CoefRefIdeal.nD Cert.CoefRefIdeal.τ).loc Cert.CoefRefIdeal.main_arg9) = m ((c.tc : Thread Cert.CoefRefIdeal.nD Cert.CoefRefIdeal.τ).loc Cert.CoefRefIdeal.main_arg9)
      ∧ r.2.mem ((c.tc : Thread Cert.CoefRefIdeal.nD Cert.CoefRefIdeal.τ).loc Cert.CoefRefIdeal.main_arg10) = m ((c.tc : Thread Cert.CoefRefIdeal.nD Cert.CoefRefIdeal.τ).loc Cert.CoefRefIdeal.main_arg10)
      ∧ r.2.mem ((c.tc : Thread Cert.CoefRefIdeal.nD Cert.CoefRefIdeal.τ).loc Cert.CoefRefIdeal.main_arg11) = m ((c.tc : Thread Cert.CoefRefIdeal.nD Cert.CoefRefIdeal.τ).loc Cert.CoefRefIdeal.main_arg11)
      ∧ r.2.mem ((c.tc : Thread Cert.CoefRefIdeal.nD Cert.CoefRefIdeal.τ).loc Cert.CoefRefIdeal.main_arg12) = m ((c.tc : Thread Cert.CoefRefIdeal.nD Cert.CoefRefIdeal.τ).loc Cert.CoefRefIdeal.main_arg12)
      ∧ r.2.mem ((c.tc : Thread Cert.CoefRefIdeal.nD Cert.CoefRefIdeal.τ).loc Cert.CoefRefIdeal.main_arg13) = m ((c.tc : Thread Cert.CoefRefIdeal.nD Cert.CoefRefIdeal.τ).loc Cert.CoefRefIdeal.main_arg13)
      ∧ r.2.mem ((c.tc : Thread Cert.CoefRefIdeal.nD Cert.CoefRefIdeal.τ).loc Cert.CoefRefIdeal.main_arg14) = m ((c.tc : Thread Cert.CoefRefIdeal.nD Cert.CoefRefIdeal.τ).loc Cert.CoefRefIdeal.main_arg14))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1)
      ∧ r.2.mem ((c.tc : Thread Cert.Norm.nD Cert.Norm.τ).loc Cert.Norm.main_arg2) = m ((c.tc : Thread Cert.Norm.nD Cert.Norm.τ).loc Cert.Norm.main_arg2)
      ∧ r.2.mem ((c.tc : Thread Cert.Norm.nD Cert.Norm.τ).loc Cert.Norm.main_arg3) = m ((c.tc : Thread Cert.Norm.nD Cert.Norm.τ).loc Cert.Norm.main_arg3)
      ∧ r.2.mem ((c.tc : Thread Cert.Norm.nD Cert.Norm.τ).loc Cert.Norm.main_arg4) = m ((c.tc : Thread Cert.Norm.nD Cert.Norm.τ).loc Cert.Norm.main_arg4))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
      ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
      ∧ r.2.mem ((c.tc : Thread Cert.NormIdeal.nD Cert.NormIdeal.τ).loc Cert.NormIdeal.main_arg3) = m ((c.tc : Thread Cert.NormIdeal.nD Cert.NormIdeal.τ).loc Cert.NormIdeal.main_arg3)
      ∧ r.2.mem ((c.tc : Thread Cert.NormIdeal.nD Cert.NormIdeal.τ).loc Cert.NormIdeal.main_arg4) = m ((c.tc : Thread Cert.NormIdeal.nD Cert.NormIdeal.τ).loc Cert.NormIdeal.main_arg4))
      ∧ r.2.sem = fun _ => 0)

def quiescent_NormRefIdeal [hNormRefIdeal : Cert.NormRefIdeal.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1)
      ∧ r.2.mem ((c.tc : Thread Cert.NormRefIdeal.nD Cert.NormRefIdeal.τ).loc Cert.NormRefIdeal.main_arg2) = m ((c.tc : Thread Cert.NormRefIdeal.nD Cert.NormRefIdeal.τ).loc Cert.NormRefIdeal.main_arg2)
      ∧ r.2.mem ((c.tc : Thread Cert.NormRefIdeal.nD Cert.NormRefIdeal.τ).loc Cert.NormRefIdeal.main_arg3) = m ((c.tc : Thread Cert.NormRefIdeal.nD Cert.NormRefIdeal.τ).loc Cert.NormRefIdeal.main_arg3)
      ∧ r.2.mem ((c.tc : Thread Cert.NormRefIdeal.nD Cert.NormRefIdeal.τ).loc Cert.NormRefIdeal.main_arg4) = m ((c.tc : Thread Cert.NormRefIdeal.nD Cert.NormRefIdeal.τ).loc Cert.NormRefIdeal.main_arg4))
      ∧ r.2.sem = fun _ => 0)

def quiescent_Bwd [hBwd : Cert.Bwd.Facts] : Prop :=
  ∀ (m : (ℓ : Loc Cert.Bwd.nD Cert.Bwd.τ Cert.Bwd.sig) → Buf (Elt Bits) ℓ) (g : Dev Cert.Bwd.nD → PrngReg), Pre_Bwd m →
    θ_run (Cert.Bwd.defs (F := Bits)) (onTc (τ := Cert.Bwd.τ) (Cert.Bwd.main (F := Bits))) ⟨m, fun _ => 0, g⟩ (fun r => (∀ c : Dev Cert.Bwd.nD,
      r.2.mem ((c.tc : Thread Cert.Bwd.nD Cert.Bwd.τ).loc Cert.Bwd.main_arg0) = m ((c.tc : Thread Cert.Bwd.nD Cert.Bwd.τ).loc Cert.Bwd.main_arg0)
      ∧ r.2.mem ((c.tc : Thread Cert.Bwd.nD Cert.Bwd.τ).loc Cert.Bwd.main_arg1) = m ((c.tc : Thread Cert.Bwd.nD Cert.Bwd.τ).loc Cert.Bwd.main_arg1)
      ∧ r.2.mem ((c.tc : Thread Cert.Bwd.nD Cert.Bwd.τ).loc Cert.Bwd.main_arg2) = m ((c.tc : Thread Cert.Bwd.nD Cert.Bwd.τ).loc Cert.Bwd.main_arg2)
      ∧ r.2.mem ((c.tc : Thread Cert.Bwd.nD Cert.Bwd.τ).loc Cert.Bwd.main_arg3) = m ((c.tc : Thread Cert.Bwd.nD Cert.Bwd.τ).loc Cert.Bwd.main_arg3))
      ∧ r.2.sem = fun _ => 0)

def quiescent_BwdIdeal [hBwdIdeal : Cert.BwdIdeal.Facts] : Prop :=
  ∀ (m : (ℓ : Loc Cert.BwdIdeal.nD Cert.BwdIdeal.τ Cert.BwdIdeal.sig) → Buf (Elt Ideal) ℓ) (g : Dev Cert.BwdIdeal.nD → PrngReg), Pre_BwdIdeal m →
    θ_run (Cert.BwdIdeal.defs (F := Ideal)) (onTc (τ := Cert.BwdIdeal.τ) (Cert.BwdIdeal.main (F := Ideal))) ⟨m, fun _ => 0, g⟩ (fun r => (∀ c : Dev Cert.BwdIdeal.nD,
      r.2.mem ((c.tc : Thread Cert.BwdIdeal.nD Cert.BwdIdeal.τ).loc Cert.BwdIdeal.main_arg0) = m ((c.tc : Thread Cert.BwdIdeal.nD Cert.BwdIdeal.τ).loc Cert.BwdIdeal.main_arg0)
      ∧ r.2.mem ((c.tc : Thread Cert.BwdIdeal.nD Cert.BwdIdeal.τ).loc Cert.BwdIdeal.main_arg1) = m ((c.tc : Thread Cert.BwdIdeal.nD Cert.BwdIdeal.τ).loc Cert.BwdIdeal.main_arg1)
      ∧ r.2.mem ((c.tc : Thread Cert.BwdIdeal.nD Cert.BwdIdeal.τ).loc Cert.BwdIdeal.main_arg2) = m ((c.tc : Thread Cert.BwdIdeal.nD Cert.BwdIdeal.τ).loc Cert.BwdIdeal.main_arg2)
      ∧ r.2.mem ((c.tc : Thread Cert.BwdIdeal.nD Cert.BwdIdeal.τ).loc Cert.BwdIdeal.main_arg3) = m ((c.tc : Thread Cert.BwdIdeal.nD Cert.BwdIdeal.τ).loc Cert.BwdIdeal.main_arg3))
      ∧ r.2.sem = fun _ => 0)

def quiescent_BwdRefIdeal [hBwdRefIdeal : Cert.BwdRefIdeal.Facts] : Prop :=
  ∀ (m : (ℓ : Loc Cert.BwdRefIdeal.nD Cert.BwdRefIdeal.τ Cert.BwdRefIdeal.sig) → Buf (Elt Ideal) ℓ) (g : Dev Cert.BwdRefIdeal.nD → PrngReg), Pre_BwdRefIdeal m →
    θ_run (Cert.BwdRefIdeal.defs (F := Ideal)) (onTc (τ := Cert.BwdRefIdeal.τ) (Cert.BwdRefIdeal.main (F := Ideal))) ⟨m, fun _ => 0, g⟩ (fun r => (∀ c : Dev Cert.BwdRefIdeal.nD,
      r.2.mem ((c.tc : Thread Cert.BwdRefIdeal.nD Cert.BwdRefIdeal.τ).loc Cert.BwdRefIdeal.main_arg0) = m ((c.tc : Thread Cert.BwdRefIdeal.nD Cert.BwdRefIdeal.τ).loc Cert.BwdRefIdeal.main_arg0)
      ∧ r.2.mem ((c.tc : Thread Cert.BwdRefIdeal.nD Cert.BwdRefIdeal.τ).loc Cert.BwdRefIdeal.main_arg1) = m ((c.tc : Thread Cert.BwdRefIdeal.nD Cert.BwdRefIdeal.τ).loc Cert.BwdRefIdeal.main_arg1)
      ∧ r.2.mem ((c.tc : Thread Cert.BwdRefIdeal.nD Cert.BwdRefIdeal.τ).loc Cert.BwdRefIdeal.main_arg2) = m ((c.tc : Thread Cert.BwdRefIdeal.nD Cert.BwdRefIdeal.τ).loc Cert.BwdRefIdeal.main_arg2)
      ∧ r.2.mem ((c.tc : Thread Cert.BwdRefIdeal.nD Cert.BwdRefIdeal.τ).loc Cert.BwdRefIdeal.main_arg3) = m ((c.tc : Thread Cert.BwdRefIdeal.nD Cert.BwdRefIdeal.τ).loc Cert.BwdRefIdeal.main_arg3))
      ∧ r.2.sem = fun _ => 0)

def preserves_Grad_GradIdeal : Prop :=
  True

def algebraic_GradIdeal_GradRefIdeal [hGradIdeal : Cert.GradIdeal.Facts] [hGradRefIdeal : Cert.GradRefIdeal.Facts] : Prop :=
  ∀ (m : (ℓ : Loc Cert.GradIdeal.nD Cert.GradIdeal.τ Cert.GradIdeal.sig) → Buf (Elt Ideal) ℓ) (g : Dev Cert.GradIdeal.nD → PrngReg)
    (m' : (ℓ : Loc Cert.GradRefIdeal.nD Cert.GradRefIdeal.τ Cert.GradRefIdeal.sig) → Buf (Elt Ideal) ℓ) (g' : Dev Cert.GradRefIdeal.nD → PrngReg), Pre_GradIdeal m →
    (∀ c : Dev Cert.GradIdeal.nD,
      m' ((c.tc : Thread Cert.GradRefIdeal.nD Cert.GradRefIdeal.τ).loc Cert.GradRefIdeal.main_arg0) = m ((c.tc : Thread Cert.GradIdeal.nD Cert.GradIdeal.τ).loc Cert.GradIdeal.main_arg0)
      ∧ m' ((c.tc : Thread Cert.GradRefIdeal.nD Cert.GradRefIdeal.τ).loc Cert.GradRefIdeal.main_arg1) = m ((c.tc : Thread Cert.GradIdeal.nD Cert.GradIdeal.τ).loc Cert.GradIdeal.main_arg1)
      ∧ m' ((c.tc : Thread Cert.GradRefIdeal.nD Cert.GradRefIdeal.τ).loc Cert.GradRefIdeal.main_arg2) = m ((c.tc : Thread Cert.GradIdeal.nD Cert.GradIdeal.τ).loc Cert.GradIdeal.main_arg2)
      ∧ m' ((c.tc : Thread Cert.GradRefIdeal.nD Cert.GradRefIdeal.τ).loc Cert.GradRefIdeal.main_arg3) = m ((c.tc : Thread Cert.GradIdeal.nD Cert.GradIdeal.τ).loc Cert.GradIdeal.main_arg3)
      ∧ m' ((c.tc : Thread Cert.GradRefIdeal.nD Cert.GradRefIdeal.τ).loc Cert.GradRefIdeal.main_arg4) = m ((c.tc : Thread Cert.GradIdeal.nD Cert.GradIdeal.τ).loc Cert.GradIdeal.main_arg4)
      ∧ m' ((c.tc : Thread Cert.GradRefIdeal.nD Cert.GradRefIdeal.τ).loc Cert.GradRefIdeal.main_arg5) = m ((c.tc : Thread Cert.GradIdeal.nD Cert.GradIdeal.τ).loc Cert.GradIdeal.main_arg5)
      ∧ m' ((c.tc : Thread Cert.GradRefIdeal.nD Cert.GradRefIdeal.τ).loc Cert.GradRefIdeal.main_arg6) = m ((c.tc : Thread Cert.GradIdeal.nD Cert.GradIdeal.τ).loc Cert.GradIdeal.main_arg6)) →
    ∃ (v0 : (c : Dev Cert.GradIdeal.nD) → Buf (Elt Ideal) ((c.tc : Thread Cert.GradIdeal.nD Cert.GradIdeal.τ).loc Cert.GradIdeal.main_v1_0)) (v1 : (c : Dev Cert.GradIdeal.nD) → Buf (Elt Ideal) ((c.tc : Thread Cert.GradIdeal.nD Cert.GradIdeal.τ).loc Cert.GradIdeal.main_v1_1)),
      θ_run (Cert.GradIdeal.defs (F := Ideal)) (onTc (τ := Cert.GradIdeal.τ) (Cert.GradIdeal.main (F := Ideal))) ⟨m, fun _ => 0, g⟩ (fun r => ∀ c : Dev Cert.GradIdeal.nD,
          r.2.mem ((c.tc : Thread Cert.GradIdeal.nD Cert.GradIdeal.τ).loc Cert.GradIdeal.main_v1_0) = v0 c
          ∧ r.2.mem ((c.tc : Thread Cert.GradIdeal.nD Cert.GradIdeal.τ).loc Cert.GradIdeal.main_v1_1) = v1 c
          ∧ r.2.mem ((c.tc : Thread Cert.GradIdeal.nD Cert.GradIdeal.τ).loc Cert.GradIdeal.main_arg0) = m ((c.tc : Thread Cert.GradIdeal.nD Cert.GradIdeal.τ).loc Cert.GradIdeal.main_arg0)
          ∧ r.2.mem ((c.tc : Thread Cert.GradIdeal.nD Cert.GradIdeal.τ).loc Cert.GradIdeal.main_arg1) = m ((c.tc : Thread Cert.GradIdeal.nD Cert.GradIdeal.τ).loc Cert.GradIdeal.main_arg1)
          ∧ r.2.mem ((c.tc : Thread Cert.GradIdeal.nD Cert.GradIdeal.τ).loc Cert.GradIdeal.main_arg2) = m ((c.tc : Thread Cert.GradIdeal.nD Cert.GradIdeal.τ).loc Cert.GradIdeal.main_arg2)
          ∧ r.2.mem ((c.tc : Thread Cert.GradIdeal.nD Cert.GradIdeal.τ).loc Cert.GradIdeal.main_arg3) = m ((c.tc : Thread Cert.GradIdeal.nD Cert.GradIdeal.τ).loc Cert.GradIdeal.main_arg3)
          ∧ r.2.mem ((c.tc : Thread Cert.GradIdeal.nD Cert.GradIdeal.τ).loc Cert.GradIdeal.main_arg4) = m ((c.tc : Thread Cert.GradIdeal.nD Cert.GradIdeal.τ).loc Cert.GradIdeal.main_arg4)
          ∧ r.2.mem ((c.tc : Thread Cert.GradIdeal.nD Cert.GradIdeal.τ).loc Cert.GradIdeal.main_arg5) = m ((c.tc : Thread Cert.GradIdeal.nD Cert.GradIdeal.τ).loc Cert.GradIdeal.main_arg5)
          ∧ r.2.mem ((c.tc : Thread Cert.GradIdeal.nD Cert.GradIdeal.τ).loc Cert.GradIdeal.main_arg6) = m ((c.tc : Thread Cert.GradIdeal.nD Cert.GradIdeal.τ).loc Cert.GradIdeal.main_arg6))
      ∧ θ_run (Cert.GradRefIdeal.defs (F := Ideal)) (onTc (τ := Cert.GradRefIdeal.τ) (Cert.GradRefIdeal.main (F := Ideal))) ⟨m', fun _ => 0, g'⟩ (fun r => ∀ c : Dev Cert.GradRefIdeal.nD,
          r.2.mem ((c.tc : Thread Cert.GradRefIdeal.nD Cert.GradRefIdeal.τ).loc Cert.GradRefIdeal.main_v1_0) = v0 c
          ∧ r.2.mem ((c.tc : Thread Cert.GradRefIdeal.nD Cert.GradRefIdeal.τ).loc Cert.GradRefIdeal.main_v1_1) = v1 c
          ∧ r.2.mem ((c.tc : Thread Cert.GradRefIdeal.nD Cert.GradRefIdeal.τ).loc Cert.GradRefIdeal.main_arg0) = m' ((c.tc : Thread Cert.GradRefIdeal.nD Cert.GradRefIdeal.τ).loc Cert.GradRefIdeal.main_arg0)
          ∧ r.2.mem ((c.tc : Thread Cert.GradRefIdeal.nD Cert.GradRefIdeal.τ).loc Cert.GradRefIdeal.main_arg1) = m' ((c.tc : Thread Cert.GradRefIdeal.nD Cert.GradRefIdeal.τ).loc Cert.GradRefIdeal.main_arg1)
          ∧ r.2.mem ((c.tc : Thread Cert.GradRefIdeal.nD Cert.GradRefIdeal.τ).loc Cert.GradRefIdeal.main_arg2) = m' ((c.tc : Thread Cert.GradRefIdeal.nD Cert.GradRefIdeal.τ).loc Cert.GradRefIdeal.main_arg2)
          ∧ r.2.mem ((c.tc : Thread Cert.GradRefIdeal.nD Cert.GradRefIdeal.τ).loc Cert.GradRefIdeal.main_arg3) = m' ((c.tc : Thread Cert.GradRefIdeal.nD Cert.GradRefIdeal.τ).loc Cert.GradRefIdeal.main_arg3)
          ∧ r.2.mem ((c.tc : Thread Cert.GradRefIdeal.nD Cert.GradRefIdeal.τ).loc Cert.GradRefIdeal.main_arg4) = m' ((c.tc : Thread Cert.GradRefIdeal.nD Cert.GradRefIdeal.τ).loc Cert.GradRefIdeal.main_arg4)
          ∧ r.2.mem ((c.tc : Thread Cert.GradRefIdeal.nD Cert.GradRefIdeal.τ).loc Cert.GradRefIdeal.main_arg5) = m' ((c.tc : Thread Cert.GradRefIdeal.nD Cert.GradRefIdeal.τ).loc Cert.GradRefIdeal.main_arg5)
          ∧ r.2.mem ((c.tc : Thread Cert.GradRefIdeal.nD Cert.GradRefIdeal.τ).loc Cert.GradRefIdeal.main_arg6) = m' ((c.tc : Thread Cert.GradRefIdeal.nD Cert.GradRefIdeal.τ).loc Cert.GradRefIdeal.main_arg6))

def preserves_Stats_StatsIdeal : Prop :=
  True

def algebraic_StatsIdeal_StatsRefIdeal [hStatsIdeal : Cert.StatsIdeal.Facts] [hStatsRefIdeal : Cert.StatsRefIdeal.Facts] : Prop :=
  ∀ (m : (ℓ : Loc Cert.StatsIdeal.nD Cert.StatsIdeal.τ Cert.StatsIdeal.sig) → Buf (Elt Ideal) ℓ) (g : Dev Cert.StatsIdeal.nD → PrngReg)
    (m' : (ℓ : Loc Cert.StatsRefIdeal.nD Cert.StatsRefIdeal.τ Cert.StatsRefIdeal.sig) → Buf (Elt Ideal) ℓ) (g' : Dev Cert.StatsRefIdeal.nD → PrngReg), Pre_StatsIdeal m →
    (∀ c : Dev Cert.StatsIdeal.nD,
      m' ((c.tc : Thread Cert.StatsRefIdeal.nD Cert.StatsRefIdeal.τ).loc Cert.StatsRefIdeal.main_arg0) = m ((c.tc : Thread Cert.StatsIdeal.nD Cert.StatsIdeal.τ).loc Cert.StatsIdeal.main_arg0)
      ∧ m' ((c.tc : Thread Cert.StatsRefIdeal.nD Cert.StatsRefIdeal.τ).loc Cert.StatsRefIdeal.main_arg1) = m ((c.tc : Thread Cert.StatsIdeal.nD Cert.StatsIdeal.τ).loc Cert.StatsIdeal.main_arg1)
      ∧ m' ((c.tc : Thread Cert.StatsRefIdeal.nD Cert.StatsRefIdeal.τ).loc Cert.StatsRefIdeal.main_arg2) = m ((c.tc : Thread Cert.StatsIdeal.nD Cert.StatsIdeal.τ).loc Cert.StatsIdeal.main_arg2)
      ∧ m' ((c.tc : Thread Cert.StatsRefIdeal.nD Cert.StatsRefIdeal.τ).loc Cert.StatsRefIdeal.main_arg3) = m ((c.tc : Thread Cert.StatsIdeal.nD Cert.StatsIdeal.τ).loc Cert.StatsIdeal.main_arg3)
      ∧ m' ((c.tc : Thread Cert.StatsRefIdeal.nD Cert.StatsRefIdeal.τ).loc Cert.StatsRefIdeal.main_arg4) = m ((c.tc : Thread Cert.StatsIdeal.nD Cert.StatsIdeal.τ).loc Cert.StatsIdeal.main_arg4)
      ∧ m' ((c.tc : Thread Cert.StatsRefIdeal.nD Cert.StatsRefIdeal.τ).loc Cert.StatsRefIdeal.main_arg5) = m ((c.tc : Thread Cert.StatsIdeal.nD Cert.StatsIdeal.τ).loc Cert.StatsIdeal.main_arg5)
      ∧ m' ((c.tc : Thread Cert.StatsRefIdeal.nD Cert.StatsRefIdeal.τ).loc Cert.StatsRefIdeal.main_arg6) = m ((c.tc : Thread Cert.StatsIdeal.nD Cert.StatsIdeal.τ).loc Cert.StatsIdeal.main_arg6)) →
    ∃ (v0 : (c : Dev Cert.StatsIdeal.nD) → Buf (Elt Ideal) ((c.tc : Thread Cert.StatsIdeal.nD Cert.StatsIdeal.τ).loc Cert.StatsIdeal.main_v1_0)) (v1 : (c : Dev Cert.StatsIdeal.nD) → Buf (Elt Ideal) ((c.tc : Thread Cert.StatsIdeal.nD Cert.StatsIdeal.τ).loc Cert.StatsIdeal.main_v1_1)) (v2 : (c : Dev Cert.StatsIdeal.nD) → Buf (Elt Ideal) ((c.tc : Thread Cert.StatsIdeal.nD Cert.StatsIdeal.τ).loc Cert.StatsIdeal.main_v1_2)) (v3 : (c : Dev Cert.StatsIdeal.nD) → Buf (Elt Ideal) ((c.tc : Thread Cert.StatsIdeal.nD Cert.StatsIdeal.τ).loc Cert.StatsIdeal.main_v1_3)) (v4 : (c : Dev Cert.StatsIdeal.nD) → Buf (Elt Ideal) ((c.tc : Thread Cert.StatsIdeal.nD Cert.StatsIdeal.τ).loc Cert.StatsIdeal.main_v1_4)) (v5 : (c : Dev Cert.StatsIdeal.nD) → Buf (Elt Ideal) ((c.tc : Thread Cert.StatsIdeal.nD Cert.StatsIdeal.τ).loc Cert.StatsIdeal.main_v1_5)) (v6 : (c : Dev Cert.StatsIdeal.nD) → Buf (Elt Ideal) ((c.tc : Thread Cert.StatsIdeal.nD Cert.StatsIdeal.τ).loc Cert.StatsIdeal.main_v1_6)) (v7 : (c : Dev Cert.StatsIdeal.nD) → Buf (Elt Ideal) ((c.tc : Thread Cert.StatsIdeal.nD Cert.StatsIdeal.τ).loc Cert.StatsIdeal.main_v1_7)),
      θ_run (Cert.StatsIdeal.defs (F := Ideal)) (onTc (τ := Cert.StatsIdeal.τ) (Cert.StatsIdeal.main (F := Ideal))) ⟨m, fun _ => 0, g⟩ (fun r => ∀ c : Dev Cert.StatsIdeal.nD,
          r.2.mem ((c.tc : Thread Cert.StatsIdeal.nD Cert.StatsIdeal.τ).loc Cert.StatsIdeal.main_v1_0) = v0 c
          ∧ r.2.mem ((c.tc : Thread Cert.StatsIdeal.nD Cert.StatsIdeal.τ).loc Cert.StatsIdeal.main_v1_1) = v1 c
          ∧ r.2.mem ((c.tc : Thread Cert.StatsIdeal.nD Cert.StatsIdeal.τ).loc Cert.StatsIdeal.main_v1_2) = v2 c
          ∧ r.2.mem ((c.tc : Thread Cert.StatsIdeal.nD Cert.StatsIdeal.τ).loc Cert.StatsIdeal.main_v1_3) = v3 c
          ∧ r.2.mem ((c.tc : Thread Cert.StatsIdeal.nD Cert.StatsIdeal.τ).loc Cert.StatsIdeal.main_v1_4) = v4 c
          ∧ r.2.mem ((c.tc : Thread Cert.StatsIdeal.nD Cert.StatsIdeal.τ).loc Cert.StatsIdeal.main_v1_5) = v5 c
          ∧ r.2.mem ((c.tc : Thread Cert.StatsIdeal.nD Cert.StatsIdeal.τ).loc Cert.StatsIdeal.main_v1_6) = v6 c
          ∧ r.2.mem ((c.tc : Thread Cert.StatsIdeal.nD Cert.StatsIdeal.τ).loc Cert.StatsIdeal.main_v1_7) = v7 c
          ∧ r.2.mem ((c.tc : Thread Cert.StatsIdeal.nD Cert.StatsIdeal.τ).loc Cert.StatsIdeal.main_arg0) = m ((c.tc : Thread Cert.StatsIdeal.nD Cert.StatsIdeal.τ).loc Cert.StatsIdeal.main_arg0)
          ∧ r.2.mem ((c.tc : Thread Cert.StatsIdeal.nD Cert.StatsIdeal.τ).loc Cert.StatsIdeal.main_arg1) = m ((c.tc : Thread Cert.StatsIdeal.nD Cert.StatsIdeal.τ).loc Cert.StatsIdeal.main_arg1)
          ∧ r.2.mem ((c.tc : Thread Cert.StatsIdeal.nD Cert.StatsIdeal.τ).loc Cert.StatsIdeal.main_arg2) = m ((c.tc : Thread Cert.StatsIdeal.nD Cert.StatsIdeal.τ).loc Cert.StatsIdeal.main_arg2)
          ∧ r.2.mem ((c.tc : Thread Cert.StatsIdeal.nD Cert.StatsIdeal.τ).loc Cert.StatsIdeal.main_arg3) = m ((c.tc : Thread Cert.StatsIdeal.nD Cert.StatsIdeal.τ).loc Cert.StatsIdeal.main_arg3)
          ∧ r.2.mem ((c.tc : Thread Cert.StatsIdeal.nD Cert.StatsIdeal.τ).loc Cert.StatsIdeal.main_arg4) = m ((c.tc : Thread Cert.StatsIdeal.nD Cert.StatsIdeal.τ).loc Cert.StatsIdeal.main_arg4)
          ∧ r.2.mem ((c.tc : Thread Cert.StatsIdeal.nD Cert.StatsIdeal.τ).loc Cert.StatsIdeal.main_arg5) = m ((c.tc : Thread Cert.StatsIdeal.nD Cert.StatsIdeal.τ).loc Cert.StatsIdeal.main_arg5)
          ∧ r.2.mem ((c.tc : Thread Cert.StatsIdeal.nD Cert.StatsIdeal.τ).loc Cert.StatsIdeal.main_arg6) = m ((c.tc : Thread Cert.StatsIdeal.nD Cert.StatsIdeal.τ).loc Cert.StatsIdeal.main_arg6))
      ∧ θ_run (Cert.StatsRefIdeal.defs (F := Ideal)) (onTc (τ := Cert.StatsRefIdeal.τ) (Cert.StatsRefIdeal.main (F := Ideal))) ⟨m', fun _ => 0, g'⟩ (fun r => ∀ c : Dev Cert.StatsRefIdeal.nD,
          r.2.mem ((c.tc : Thread Cert.StatsRefIdeal.nD Cert.StatsRefIdeal.τ).loc Cert.StatsRefIdeal.main_v1_0) = v0 c
          ∧ r.2.mem ((c.tc : Thread Cert.StatsRefIdeal.nD Cert.StatsRefIdeal.τ).loc Cert.StatsRefIdeal.main_v1_1) = v1 c
          ∧ r.2.mem ((c.tc : Thread Cert.StatsRefIdeal.nD Cert.StatsRefIdeal.τ).loc Cert.StatsRefIdeal.main_v1_2) = v2 c
          ∧ r.2.mem ((c.tc : Thread Cert.StatsRefIdeal.nD Cert.StatsRefIdeal.τ).loc Cert.StatsRefIdeal.main_v1_3) = v3 c
          ∧ r.2.mem ((c.tc : Thread Cert.StatsRefIdeal.nD Cert.StatsRefIdeal.τ).loc Cert.StatsRefIdeal.main_v1_4) = v4 c
          ∧ r.2.mem ((c.tc : Thread Cert.StatsRefIdeal.nD Cert.StatsRefIdeal.τ).loc Cert.StatsRefIdeal.main_v1_5) = v5 c
          ∧ r.2.mem ((c.tc : Thread Cert.StatsRefIdeal.nD Cert.StatsRefIdeal.τ).loc Cert.StatsRefIdeal.main_v1_6) = v6 c
          ∧ r.2.mem ((c.tc : Thread Cert.StatsRefIdeal.nD Cert.StatsRefIdeal.τ).loc Cert.StatsRefIdeal.main_v1_7) = v7 c
          ∧ r.2.mem ((c.tc : Thread Cert.StatsRefIdeal.nD Cert.StatsRefIdeal.τ).loc Cert.StatsRefIdeal.main_arg0) = m' ((c.tc : Thread Cert.StatsRefIdeal.nD Cert.StatsRefIdeal.τ).loc Cert.StatsRefIdeal.main_arg0)
          ∧ r.2.mem ((c.tc : Thread Cert.StatsRefIdeal.nD Cert.StatsRefIdeal.τ).loc Cert.StatsRefIdeal.main_arg1) = m' ((c.tc : Thread Cert.StatsRefIdeal.nD Cert.StatsRefIdeal.τ).loc Cert.StatsRefIdeal.main_arg1)
          ∧ r.2.mem ((c.tc : Thread Cert.StatsRefIdeal.nD Cert.StatsRefIdeal.τ).loc Cert.StatsRefIdeal.main_arg2) = m' ((c.tc : Thread Cert.StatsRefIdeal.nD Cert.StatsRefIdeal.τ).loc Cert.StatsRefIdeal.main_arg2)
          ∧ r.2.mem ((c.tc : Thread Cert.StatsRefIdeal.nD Cert.StatsRefIdeal.τ).loc Cert.StatsRefIdeal.main_arg3) = m' ((c.tc : Thread Cert.StatsRefIdeal.nD Cert.StatsRefIdeal.τ).loc Cert.StatsRefIdeal.main_arg3)
          ∧ r.2.mem ((c.tc : Thread Cert.StatsRefIdeal.nD Cert.StatsRefIdeal.τ).loc Cert.StatsRefIdeal.main_arg4) = m' ((c.tc : Thread Cert.StatsRefIdeal.nD Cert.StatsRefIdeal.τ).loc Cert.StatsRefIdeal.main_arg4)
          ∧ r.2.mem ((c.tc : Thread Cert.StatsRefIdeal.nD Cert.StatsRefIdeal.τ).loc Cert.StatsRefIdeal.main_arg5) = m' ((c.tc : Thread Cert.StatsRefIdeal.nD Cert.StatsRefIdeal.τ).loc Cert.StatsRefIdeal.main_arg5)
          ∧ r.2.mem ((c.tc : Thread Cert.StatsRefIdeal.nD Cert.StatsRefIdeal.τ).loc Cert.StatsRefIdeal.main_arg6) = m' ((c.tc : Thread Cert.StatsRefIdeal.nD Cert.StatsRefIdeal.τ).loc Cert.StatsRefIdeal.main_arg6))

def preserves_Coef_CoefIdeal : Prop :=
  True

def algebraic_CoefIdeal_CoefRefIdeal [hCoefIdeal : Cert.CoefIdeal.Facts] [hCoefRefIdeal : Cert.CoefRefIdeal.Facts] : Prop :=
  ∀ (m : (ℓ : Loc Cert.CoefIdeal.nD Cert.CoefIdeal.τ Cert.CoefIdeal.sig) → Buf (Elt Ideal) ℓ) (g : Dev Cert.CoefIdeal.nD → PrngReg)
    (m' : (ℓ : Loc Cert.CoefRefIdeal.nD Cert.CoefRefIdeal.τ Cert.CoefRefIdeal.sig) → Buf (Elt Ideal) ℓ) (g' : Dev Cert.CoefRefIdeal.nD → PrngReg), Pre_CoefIdeal m →
    (∀ c : Dev Cert.CoefIdeal.nD,
      m' ((c.tc : Thread Cert.CoefRefIdeal.nD Cert.CoefRefIdeal.τ).loc Cert.CoefRefIdeal.main_arg0) = m ((c.tc : Thread Cert.CoefIdeal.nD Cert.CoefIdeal.τ).loc Cert.CoefIdeal.main_arg0)
      ∧ m' ((c.tc : Thread Cert.CoefRefIdeal.nD Cert.CoefRefIdeal.τ).loc Cert.CoefRefIdeal.main_arg1) = m ((c.tc : Thread Cert.CoefIdeal.nD Cert.CoefIdeal.τ).loc Cert.CoefIdeal.main_arg1)
      ∧ m' ((c.tc : Thread Cert.CoefRefIdeal.nD Cert.CoefRefIdeal.τ).loc Cert.CoefRefIdeal.main_arg2) = m ((c.tc : Thread Cert.CoefIdeal.nD Cert.CoefIdeal.τ).loc Cert.CoefIdeal.main_arg2)
      ∧ m' ((c.tc : Thread Cert.CoefRefIdeal.nD Cert.CoefRefIdeal.τ).loc Cert.CoefRefIdeal.main_arg3) = m ((c.tc : Thread Cert.CoefIdeal.nD Cert.CoefIdeal.τ).loc Cert.CoefIdeal.main_arg3)
      ∧ m' ((c.tc : Thread Cert.CoefRefIdeal.nD Cert.CoefRefIdeal.τ).loc Cert.CoefRefIdeal.main_arg4) = m ((c.tc : Thread Cert.CoefIdeal.nD Cert.CoefIdeal.τ).loc Cert.CoefIdeal.main_arg4)
      ∧ m' ((c.tc : Thread Cert.CoefRefIdeal.nD Cert.CoefRefIdeal.τ).loc Cert.CoefRefIdeal.main_arg5) = m ((c.tc : Thread Cert.CoefIdeal.nD Cert.CoefIdeal.τ).loc Cert.CoefIdeal.main_arg5)
      ∧ m' ((c.tc : Thread Cert.CoefRefIdeal.nD Cert.CoefRefIdeal.τ).loc Cert.CoefRefIdeal.main_arg6) = m ((c.tc : Thread Cert.CoefIdeal.nD Cert.CoefIdeal.τ).loc Cert.CoefIdeal.main_arg6)
      ∧ m' ((c.tc : Thread Cert.CoefRefIdeal.nD Cert.CoefRefIdeal.τ).loc Cert.CoefRefIdeal.main_arg7) = m ((c.tc : Thread Cert.CoefIdeal.nD Cert.CoefIdeal.τ).loc Cert.CoefIdeal.main_arg7)
      ∧ m' ((c.tc : Thread Cert.CoefRefIdeal.nD Cert.CoefRefIdeal.τ).loc Cert.CoefRefIdeal.main_arg8) = m ((c.tc : Thread Cert.CoefIdeal.nD Cert.CoefIdeal.τ).loc Cert.CoefIdeal.main_arg8)
      ∧ m' ((c.tc : Thread Cert.CoefRefIdeal.nD Cert.CoefRefIdeal.τ).loc Cert.CoefRefIdeal.main_arg9) = m ((c.tc : Thread Cert.CoefIdeal.nD Cert.CoefIdeal.τ).loc Cert.CoefIdeal.main_arg9)
      ∧ m' ((c.tc : Thread Cert.CoefRefIdeal.nD Cert.CoefRefIdeal.τ).loc Cert.CoefRefIdeal.main_arg10) = m ((c.tc : Thread Cert.CoefIdeal.nD Cert.CoefIdeal.τ).loc Cert.CoefIdeal.main_arg10)
      ∧ m' ((c.tc : Thread Cert.CoefRefIdeal.nD Cert.CoefRefIdeal.τ).loc Cert.CoefRefIdeal.main_arg11) = m ((c.tc : Thread Cert.CoefIdeal.nD Cert.CoefIdeal.τ).loc Cert.CoefIdeal.main_arg11)
      ∧ m' ((c.tc : Thread Cert.CoefRefIdeal.nD Cert.CoefRefIdeal.τ).loc Cert.CoefRefIdeal.main_arg12) = m ((c.tc : Thread Cert.CoefIdeal.nD Cert.CoefIdeal.τ).loc Cert.CoefIdeal.main_arg12)
      ∧ m' ((c.tc : Thread Cert.CoefRefIdeal.nD Cert.CoefRefIdeal.τ).loc Cert.CoefRefIdeal.main_arg13) = m ((c.tc : Thread Cert.CoefIdeal.nD Cert.CoefIdeal.τ).loc Cert.CoefIdeal.main_arg13)
      ∧ m' ((c.tc : Thread Cert.CoefRefIdeal.nD Cert.CoefRefIdeal.τ).loc Cert.CoefRefIdeal.main_arg14) = m ((c.tc : Thread Cert.CoefIdeal.nD Cert.CoefIdeal.τ).loc Cert.CoefIdeal.main_arg14)) →
    ∃ (v0 : (c : Dev Cert.CoefIdeal.nD) → Buf (Elt Ideal) ((c.tc : Thread Cert.CoefIdeal.nD Cert.CoefIdeal.τ).loc Cert.CoefIdeal.main_v11_0)) (v1 : (c : Dev Cert.CoefIdeal.nD) → Buf (Elt Ideal) ((c.tc : Thread Cert.CoefIdeal.nD Cert.CoefIdeal.τ).loc Cert.CoefIdeal.main_v11_1)) (v2 : (c : Dev Cert.CoefIdeal.nD) → Buf (Elt Ideal) ((c.tc : Thread Cert.CoefIdeal.nD Cert.CoefIdeal.τ).loc Cert.CoefIdeal.main_v11_2)) (v3 : (c : Dev Cert.CoefIdeal.nD) → Buf (Elt Ideal) ((c.tc : Thread Cert.CoefIdeal.nD Cert.CoefIdeal.τ).loc Cert.CoefIdeal.main_v11_3)) (v4 : (c : Dev Cert.CoefIdeal.nD) → Buf (Elt Ideal) ((c.tc : Thread Cert.CoefIdeal.nD Cert.CoefIdeal.τ).loc Cert.CoefIdeal.main_v11_4)) (v5 : (c : Dev Cert.CoefIdeal.nD) → Buf (Elt Ideal) ((c.tc : Thread Cert.CoefIdeal.nD Cert.CoefIdeal.τ).loc Cert.CoefIdeal.main_v11_5)) (v6 : (c : Dev Cert.CoefIdeal.nD) → Buf (Elt Ideal) ((c.tc : Thread Cert.CoefIdeal.nD Cert.CoefIdeal.τ).loc Cert.CoefIdeal.main_v11_6)) (v7 : (c : Dev Cert.CoefIdeal.nD) → Buf (Elt Ideal) ((c.tc : Thread Cert.CoefIdeal.nD Cert.CoefIdeal.τ).loc Cert.CoefIdeal.main_v11_8)) (v8 : (c : Dev Cert.CoefIdeal.nD) → Buf (Elt Ideal) ((c.tc : Thread Cert.CoefIdeal.nD Cert.CoefIdeal.τ).loc Cert.CoefIdeal.main_v11_9)) (v9 : (c : Dev Cert.CoefIdeal.nD) → Buf (Elt Ideal) ((c.tc : Thread Cert.CoefIdeal.nD Cert.CoefIdeal.τ).loc Cert.CoefIdeal.main_v11_10)) (v10 : (c : Dev Cert.CoefIdeal.nD) → Buf (Elt Ideal) ((c.tc : Thread Cert.CoefIdeal.nD Cert.CoefIdeal.τ).loc Cert.CoefIdeal.main_v11_11)),
      θ_run (Cert.CoefIdeal.defs (F := Ideal)) (onTc (τ := Cert.CoefIdeal.τ) (Cert.CoefIdeal.main (F := Ideal))) ⟨m, fun _ => 0, g⟩ (fun r => ∀ c : Dev Cert.CoefIdeal.nD,
          r.2.mem ((c.tc : Thread Cert.CoefIdeal.nD Cert.CoefIdeal.τ).loc Cert.CoefIdeal.main_v11_0) = v0 c
          ∧ r.2.mem ((c.tc : Thread Cert.CoefIdeal.nD Cert.CoefIdeal.τ).loc Cert.CoefIdeal.main_v11_1) = v1 c
          ∧ r.2.mem ((c.tc : Thread Cert.CoefIdeal.nD Cert.CoefIdeal.τ).loc Cert.CoefIdeal.main_v11_2) = v2 c
          ∧ r.2.mem ((c.tc : Thread Cert.CoefIdeal.nD Cert.CoefIdeal.τ).loc Cert.CoefIdeal.main_v11_3) = v3 c
          ∧ r.2.mem ((c.tc : Thread Cert.CoefIdeal.nD Cert.CoefIdeal.τ).loc Cert.CoefIdeal.main_v11_4) = v4 c
          ∧ r.2.mem ((c.tc : Thread Cert.CoefIdeal.nD Cert.CoefIdeal.τ).loc Cert.CoefIdeal.main_v11_5) = v5 c
          ∧ r.2.mem ((c.tc : Thread Cert.CoefIdeal.nD Cert.CoefIdeal.τ).loc Cert.CoefIdeal.main_v11_6) = v6 c
          ∧ r.2.mem ((c.tc : Thread Cert.CoefIdeal.nD Cert.CoefIdeal.τ).loc Cert.CoefIdeal.main_v11_8) = v7 c
          ∧ r.2.mem ((c.tc : Thread Cert.CoefIdeal.nD Cert.CoefIdeal.τ).loc Cert.CoefIdeal.main_v11_9) = v8 c
          ∧ r.2.mem ((c.tc : Thread Cert.CoefIdeal.nD Cert.CoefIdeal.τ).loc Cert.CoefIdeal.main_v11_10) = v9 c
          ∧ r.2.mem ((c.tc : Thread Cert.CoefIdeal.nD Cert.CoefIdeal.τ).loc Cert.CoefIdeal.main_v11_11) = v10 c
          ∧ r.2.mem ((c.tc : Thread Cert.CoefIdeal.nD Cert.CoefIdeal.τ).loc Cert.CoefIdeal.main_arg0) = m ((c.tc : Thread Cert.CoefIdeal.nD Cert.CoefIdeal.τ).loc Cert.CoefIdeal.main_arg0)
          ∧ r.2.mem ((c.tc : Thread Cert.CoefIdeal.nD Cert.CoefIdeal.τ).loc Cert.CoefIdeal.main_arg1) = m ((c.tc : Thread Cert.CoefIdeal.nD Cert.CoefIdeal.τ).loc Cert.CoefIdeal.main_arg1)
          ∧ r.2.mem ((c.tc : Thread Cert.CoefIdeal.nD Cert.CoefIdeal.τ).loc Cert.CoefIdeal.main_arg2) = m ((c.tc : Thread Cert.CoefIdeal.nD Cert.CoefIdeal.τ).loc Cert.CoefIdeal.main_arg2)
          ∧ r.2.mem ((c.tc : Thread Cert.CoefIdeal.nD Cert.CoefIdeal.τ).loc Cert.CoefIdeal.main_arg3) = m ((c.tc : Thread Cert.CoefIdeal.nD Cert.CoefIdeal.τ).loc Cert.CoefIdeal.main_arg3)
          ∧ r.2.mem ((c.tc : Thread Cert.CoefIdeal.nD Cert.CoefIdeal.τ).loc Cert.CoefIdeal.main_arg4) = m ((c.tc : Thread Cert.CoefIdeal.nD Cert.CoefIdeal.τ).loc Cert.CoefIdeal.main_arg4)
          ∧ r.2.mem ((c.tc : Thread Cert.CoefIdeal.nD Cert.CoefIdeal.τ).loc Cert.CoefIdeal.main_arg5) = m ((c.tc : Thread Cert.CoefIdeal.nD Cert.CoefIdeal.τ).loc Cert.CoefIdeal.main_arg5)
          ∧ r.2.mem ((c.tc : Thread Cert.CoefIdeal.nD Cert.CoefIdeal.τ).loc Cert.CoefIdeal.main_arg6) = m ((c.tc : Thread Cert.CoefIdeal.nD Cert.CoefIdeal.τ).loc Cert.CoefIdeal.main_arg6)
          ∧ r.2.mem ((c.tc : Thread Cert.CoefIdeal.nD Cert.CoefIdeal.τ).loc Cert.CoefIdeal.main_arg7) = m ((c.tc : Thread Cert.CoefIdeal.nD Cert.CoefIdeal.τ).loc Cert.CoefIdeal.main_arg7)
          ∧ r.2.mem ((c.tc : Thread Cert.CoefIdeal.nD Cert.CoefIdeal.τ).loc Cert.CoefIdeal.main_arg8) = m ((c.tc : Thread Cert.CoefIdeal.nD Cert.CoefIdeal.τ).loc Cert.CoefIdeal.main_arg8)
          ∧ r.2.mem ((c.tc : Thread Cert.CoefIdeal.nD Cert.CoefIdeal.τ).loc Cert.CoefIdeal.main_arg9) = m ((c.tc : Thread Cert.CoefIdeal.nD Cert.CoefIdeal.τ).loc Cert.CoefIdeal.main_arg9)
          ∧ r.2.mem ((c.tc : Thread Cert.CoefIdeal.nD Cert.CoefIdeal.τ).loc Cert.CoefIdeal.main_arg10) = m ((c.tc : Thread Cert.CoefIdeal.nD Cert.CoefIdeal.τ).loc Cert.CoefIdeal.main_arg10)
          ∧ r.2.mem ((c.tc : Thread Cert.CoefIdeal.nD Cert.CoefIdeal.τ).loc Cert.CoefIdeal.main_arg11) = m ((c.tc : Thread Cert.CoefIdeal.nD Cert.CoefIdeal.τ).loc Cert.CoefIdeal.main_arg11)
          ∧ r.2.mem ((c.tc : Thread Cert.CoefIdeal.nD Cert.CoefIdeal.τ).loc Cert.CoefIdeal.main_arg12) = m ((c.tc : Thread Cert.CoefIdeal.nD Cert.CoefIdeal.τ).loc Cert.CoefIdeal.main_arg12)
          ∧ r.2.mem ((c.tc : Thread Cert.CoefIdeal.nD Cert.CoefIdeal.τ).loc Cert.CoefIdeal.main_arg13) = m ((c.tc : Thread Cert.CoefIdeal.nD Cert.CoefIdeal.τ).loc Cert.CoefIdeal.main_arg13)
          ∧ r.2.mem ((c.tc : Thread Cert.CoefIdeal.nD Cert.CoefIdeal.τ).loc Cert.CoefIdeal.main_arg14) = m ((c.tc : Thread Cert.CoefIdeal.nD Cert.CoefIdeal.τ).loc Cert.CoefIdeal.main_arg14))
      ∧ θ_run (Cert.CoefRefIdeal.defs (F := Ideal)) (onTc (τ := Cert.CoefRefIdeal.τ) (Cert.CoefRefIdeal.main (F := Ideal))) ⟨m', fun _ => 0, g'⟩ (fun r => ∀ c : Dev Cert.CoefRefIdeal.nD,
          r.2.mem ((c.tc : Thread Cert.CoefRefIdeal.nD Cert.CoefRefIdeal.τ).loc Cert.CoefRefIdeal.main_v116) = v0 c
          ∧ r.2.mem ((c.tc : Thread Cert.CoefRefIdeal.nD Cert.CoefRefIdeal.τ).loc Cert.CoefRefIdeal.main_v117) = v1 c
          ∧ r.2.mem ((c.tc : Thread Cert.CoefRefIdeal.nD Cert.CoefRefIdeal.τ).loc Cert.CoefRefIdeal.main_v118) = v2 c
          ∧ r.2.mem ((c.tc : Thread Cert.CoefRefIdeal.nD Cert.CoefRefIdeal.τ).loc Cert.CoefRefIdeal.main_v119) = v3 c
          ∧ r.2.mem ((c.tc : Thread Cert.CoefRefIdeal.nD Cert.CoefRefIdeal.τ).loc Cert.CoefRefIdeal.main_v122) = v4 c
          ∧ r.2.mem ((c.tc : Thread Cert.CoefRefIdeal.nD Cert.CoefRefIdeal.τ).loc Cert.CoefRefIdeal.main_v125) = v5 c
          ∧ r.2.mem ((c.tc : Thread Cert.CoefRefIdeal.nD Cert.CoefRefIdeal.τ).loc Cert.CoefRefIdeal.main_v126) = v6 c
          ∧ r.2.mem ((c.tc : Thread Cert.CoefRefIdeal.nD Cert.CoefRefIdeal.τ).loc Cert.CoefRefIdeal.main_v128) = v7 c
          ∧ r.2.mem ((c.tc : Thread Cert.CoefRefIdeal.nD Cert.CoefRefIdeal.τ).loc Cert.CoefRefIdeal.main_v130) = v8 c
          ∧ r.2.mem ((c.tc : Thread Cert.CoefRefIdeal.nD Cert.CoefRefIdeal.τ).loc Cert.CoefRefIdeal.main_v136) = v9 c
          ∧ r.2.mem ((c.tc : Thread Cert.CoefRefIdeal.nD Cert.CoefRefIdeal.τ).loc Cert.CoefRefIdeal.main_v138) = v10 c
          ∧ r.2.mem ((c.tc : Thread Cert.CoefRefIdeal.nD Cert.CoefRefIdeal.τ).loc Cert.CoefRefIdeal.main_arg0) = m' ((c.tc : Thread Cert.CoefRefIdeal.nD Cert.CoefRefIdeal.τ).loc Cert.CoefRefIdeal.main_arg0)
          ∧ r.2.mem ((c.tc : Thread Cert.CoefRefIdeal.nD Cert.CoefRefIdeal.τ).loc Cert.CoefRefIdeal.main_arg1) = m' ((c.tc : Thread Cert.CoefRefIdeal.nD Cert.CoefRefIdeal.τ).loc Cert.CoefRefIdeal.main_arg1)
          ∧ r.2.mem ((c.tc : Thread Cert.CoefRefIdeal.nD Cert.CoefRefIdeal.τ).loc Cert.CoefRefIdeal.main_arg2) = m' ((c.tc : Thread Cert.CoefRefIdeal.nD Cert.CoefRefIdeal.τ).loc Cert.CoefRefIdeal.main_arg2)
          ∧ r.2.mem ((c.tc : Thread Cert.CoefRefIdeal.nD Cert.CoefRefIdeal.τ).loc Cert.CoefRefIdeal.main_arg3) = m' ((c.tc : Thread Cert.CoefRefIdeal.nD Cert.CoefRefIdeal.τ).loc Cert.CoefRefIdeal.main_arg3)
          ∧ r.2.mem ((c.tc : Thread Cert.CoefRefIdeal.nD Cert.CoefRefIdeal.τ).loc Cert.CoefRefIdeal.main_arg4) = m' ((c.tc : Thread Cert.CoefRefIdeal.nD Cert.CoefRefIdeal.τ).loc Cert.CoefRefIdeal.main_arg4)
          ∧ r.2.mem ((c.tc : Thread Cert.CoefRefIdeal.nD Cert.CoefRefIdeal.τ).loc Cert.CoefRefIdeal.main_arg5) = m' ((c.tc : Thread Cert.CoefRefIdeal.nD Cert.CoefRefIdeal.τ).loc Cert.CoefRefIdeal.main_arg5)
          ∧ r.2.mem ((c.tc : Thread Cert.CoefRefIdeal.nD Cert.CoefRefIdeal.τ).loc Cert.CoefRefIdeal.main_arg6) = m' ((c.tc : Thread Cert.CoefRefIdeal.nD Cert.CoefRefIdeal.τ).loc Cert.CoefRefIdeal.main_arg6)
          ∧ r.2.mem ((c.tc : Thread Cert.CoefRefIdeal.nD Cert.CoefRefIdeal.τ).loc Cert.CoefRefIdeal.main_arg7) = m' ((c.tc : Thread Cert.CoefRefIdeal.nD Cert.CoefRefIdeal.τ).loc Cert.CoefRefIdeal.main_arg7)
          ∧ r.2.mem ((c.tc : Thread Cert.CoefRefIdeal.nD Cert.CoefRefIdeal.τ).loc Cert.CoefRefIdeal.main_arg8) = m' ((c.tc : Thread Cert.CoefRefIdeal.nD Cert.CoefRefIdeal.τ).loc Cert.CoefRefIdeal.main_arg8)
          ∧ r.2.mem ((c.tc : Thread Cert.CoefRefIdeal.nD Cert.CoefRefIdeal.τ).loc Cert.CoefRefIdeal.main_arg9) = m' ((c.tc : Thread Cert.CoefRefIdeal.nD Cert.CoefRefIdeal.τ).loc Cert.CoefRefIdeal.main_arg9)
          ∧ r.2.mem ((c.tc : Thread Cert.CoefRefIdeal.nD Cert.CoefRefIdeal.τ).loc Cert.CoefRefIdeal.main_arg10) = m' ((c.tc : Thread Cert.CoefRefIdeal.nD Cert.CoefRefIdeal.τ).loc Cert.CoefRefIdeal.main_arg10)
          ∧ r.2.mem ((c.tc : Thread Cert.CoefRefIdeal.nD Cert.CoefRefIdeal.τ).loc Cert.CoefRefIdeal.main_arg11) = m' ((c.tc : Thread Cert.CoefRefIdeal.nD Cert.CoefRefIdeal.τ).loc Cert.CoefRefIdeal.main_arg11)
          ∧ r.2.mem ((c.tc : Thread Cert.CoefRefIdeal.nD Cert.CoefRefIdeal.τ).loc Cert.CoefRefIdeal.main_arg12) = m' ((c.tc : Thread Cert.CoefRefIdeal.nD Cert.CoefRefIdeal.τ).loc Cert.CoefRefIdeal.main_arg12)
          ∧ r.2.mem ((c.tc : Thread Cert.CoefRefIdeal.nD Cert.CoefRefIdeal.τ).loc Cert.CoefRefIdeal.main_arg13) = m' ((c.tc : Thread Cert.CoefRefIdeal.nD Cert.CoefRefIdeal.τ).loc Cert.CoefRefIdeal.main_arg13)
          ∧ r.2.mem ((c.tc : Thread Cert.CoefRefIdeal.nD Cert.CoefRefIdeal.τ).loc Cert.CoefRefIdeal.main_arg14) = m' ((c.tc : Thread Cert.CoefRefIdeal.nD Cert.CoefRefIdeal.τ).loc Cert.CoefRefIdeal.main_arg14))

def preserves_Norm_NormIdeal : Prop :=
  True

def algebraic_NormIdeal_NormRefIdeal [hNormIdeal : Cert.NormIdeal.Facts] [hNormRefIdeal : Cert.NormRefIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormRefIdeal.nD Cert.NormRefIdeal.τ Cert.NormRefIdeal.sig) → Buf (Elt Ideal) ℓ) (g' : Dev Cert.NormRefIdeal.nD → PrngReg), Pre_NormIdeal m →
    (∀ c : Dev Cert.NormIdeal.nD,
      m' ((c.tc : Thread Cert.NormRefIdeal.nD Cert.NormRefIdeal.τ).loc Cert.NormRefIdeal.main_arg0) = m ((c.tc : Thread Cert.NormIdeal.nD Cert.NormIdeal.τ).loc Cert.NormIdeal.main_arg0)
      ∧ m' ((c.tc : Thread Cert.NormRefIdeal.nD Cert.NormRefIdeal.τ).loc Cert.NormRefIdeal.main_arg1) = m ((c.tc : Thread Cert.NormIdeal.nD Cert.NormIdeal.τ).loc Cert.NormIdeal.main_arg1)
      ∧ m' ((c.tc : Thread Cert.NormRefIdeal.nD Cert.NormRefIdeal.τ).loc Cert.NormRefIdeal.main_arg2) = m ((c.tc : Thread Cert.NormIdeal.nD Cert.NormIdeal.τ).loc Cert.NormIdeal.main_arg2)
      ∧ m' ((c.tc : Thread Cert.NormRefIdeal.nD Cert.NormRefIdeal.τ).loc Cert.NormRefIdeal.main_arg3) = m ((c.tc : Thread Cert.NormIdeal.nD Cert.NormIdeal.τ).loc Cert.NormIdeal.main_arg3)
      ∧ m' ((c.tc : Thread Cert.NormRefIdeal.nD Cert.NormRefIdeal.τ).loc Cert.NormRefIdeal.main_arg4) = m ((c.tc : Thread Cert.NormIdeal.nD Cert.NormIdeal.τ).loc Cert.NormIdeal.main_arg4)) →
    ∃ (v0 : (c : Dev Cert.NormIdeal.nD) → Buf (Elt Ideal) ((c.tc : Thread Cert.NormIdeal.nD Cert.NormIdeal.τ).loc Cert.NormIdeal.main_v3_0)) (v1 : (c : Dev Cert.NormIdeal.nD) → Buf (Elt Ideal) ((c.tc : Thread Cert.NormIdeal.nD Cert.NormIdeal.τ).loc Cert.NormIdeal.main_v3_1)) (v2 : (c : Dev Cert.NormIdeal.nD) → Buf (Elt Ideal) ((c.tc : Thread Cert.NormIdeal.nD Cert.NormIdeal.τ).loc Cert.NormIdeal.main_v3_2)) (v3 : (c : Dev Cert.NormIdeal.nD) → Buf (Elt Ideal) ((c.tc : Thread Cert.NormIdeal.nD Cert.NormIdeal.τ).loc Cert.NormIdeal.main_v3_3)) (v4 : (c : Dev Cert.NormIdeal.nD) → Buf (Elt Ideal) ((c.tc : Thread Cert.NormIdeal.nD Cert.NormIdeal.τ).loc Cert.NormIdeal.main_v3_4)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v3_0) = v0 c
          ∧ r.2.mem ((c.tc : Thread Cert.NormIdeal.nD Cert.NormIdeal.τ).loc Cert.NormIdeal.main_v3_1) = v1 c
          ∧ r.2.mem ((c.tc : Thread Cert.NormIdeal.nD Cert.NormIdeal.τ).loc Cert.NormIdeal.main_v3_2) = v2 c
          ∧ r.2.mem ((c.tc : Thread Cert.NormIdeal.nD Cert.NormIdeal.τ).loc Cert.NormIdeal.main_v3_3) = v3 c
          ∧ r.2.mem ((c.tc : Thread Cert.NormIdeal.nD Cert.NormIdeal.τ).loc Cert.NormIdeal.main_v3_4) = v4 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
          ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
          ∧ r.2.mem ((c.tc : Thread Cert.NormIdeal.nD Cert.NormIdeal.τ).loc Cert.NormIdeal.main_arg3) = m ((c.tc : Thread Cert.NormIdeal.nD Cert.NormIdeal.τ).loc Cert.NormIdeal.main_arg3)
          ∧ r.2.mem ((c.tc : Thread Cert.NormIdeal.nD Cert.NormIdeal.τ).loc Cert.NormIdeal.main_arg4) = m ((c.tc : Thread Cert.NormIdeal.nD Cert.NormIdeal.τ).loc Cert.NormIdeal.main_arg4))
      ∧ θ_run (Cert.NormRefIdeal.defs (F := Ideal)) (onTc (τ := Cert.NormRefIdeal.τ) (Cert.NormRefIdeal.main (F := Ideal))) ⟨m', fun _ => 0, g'⟩ (fun r => ∀ c : Dev Cert.NormRefIdeal.nD,
          r.2.mem ((c.tc : Thread Cert.NormRefIdeal.nD Cert.NormRefIdeal.τ).loc Cert.NormRefIdeal.main_v3_0) = v0 c
          ∧ r.2.mem ((c.tc : Thread Cert.NormRefIdeal.nD Cert.NormRefIdeal.τ).loc Cert.NormRefIdeal.main_v3_1) = v1 c
          ∧ r.2.mem ((c.tc : Thread Cert.NormRefIdeal.nD Cert.NormRefIdeal.τ).loc Cert.NormRefIdeal.main_v3_2) = v2 c
          ∧ r.2.mem ((c.tc : Thread Cert.NormRefIdeal.nD Cert.NormRefIdeal.τ).loc Cert.NormRefIdeal.main_v3_3) = v3 c
          ∧ r.2.mem ((c.tc : Thread Cert.NormRefIdeal.nD Cert.NormRefIdeal.τ).loc Cert.NormRefIdeal.main_v3_4) = v4 c
          ∧ r.2.mem ((c.tc : Thread Cert.NormRefIdeal.nD Cert.NormRefIdeal.τ).loc Cert.NormRefIdeal.main_arg0) = m' ((c.tc : Thread Cert.NormRefIdeal.nD Cert.NormRefIdeal.τ).loc Cert.NormRefIdeal.main_arg0)
          ∧ r.2.mem ((c.tc : Thread Cert.NormRefIdeal.nD Cert.NormRefIdeal.τ).loc Cert.NormRefIdeal.main_arg1) = m' ((c.tc : Thread Cert.NormRefIdeal.nD Cert.NormRefIdeal.τ).loc Cert.NormRefIdeal.main_arg1)
          ∧ r.2.mem ((c.tc : Thread Cert.NormRefIdeal.nD Cert.NormRefIdeal.τ).loc Cert.NormRefIdeal.main_arg2) = m' ((c.tc : Thread Cert.NormRefIdeal.nD Cert.NormRefIdeal.τ).loc Cert.NormRefIdeal.main_arg2)
          ∧ r.2.mem ((c.tc : Thread Cert.NormRefIdeal.nD Cert.NormRefIdeal.τ).loc Cert.NormRefIdeal.main_arg3) = m' ((c.tc : Thread Cert.NormRefIdeal.nD Cert.NormRefIdeal.τ).loc Cert.NormRefIdeal.main_arg3)
          ∧ r.2.mem ((c.tc : Thread Cert.NormRefIdeal.nD Cert.NormRefIdeal.τ).loc Cert.NormRefIdeal.main_arg4) = m' ((c.tc : Thread Cert.NormRefIdeal.nD Cert.NormRefIdeal.τ).loc Cert.NormRefIdeal.main_arg4))

def preserves_Bwd_BwdIdeal : Prop :=
  True

def algebraic_BwdIdeal_BwdRefIdeal [hBwdIdeal : Cert.BwdIdeal.Facts] [hBwdRefIdeal : Cert.BwdRefIdeal.Facts] : Prop :=
  ∀ (m : (ℓ : Loc Cert.BwdIdeal.nD Cert.BwdIdeal.τ Cert.BwdIdeal.sig) → Buf (Elt Ideal) ℓ) (g : Dev Cert.BwdIdeal.nD → PrngReg)
    (m' : (ℓ : Loc Cert.BwdRefIdeal.nD Cert.BwdRefIdeal.τ Cert.BwdRefIdeal.sig) → Buf (Elt Ideal) ℓ) (g' : Dev Cert.BwdRefIdeal.nD → PrngReg), Pre_BwdIdeal m →
    (∀ c : Dev Cert.BwdIdeal.nD,
      m' ((c.tc : Thread Cert.BwdRefIdeal.nD Cert.BwdRefIdeal.τ).loc Cert.BwdRefIdeal.main_arg0) = m ((c.tc : Thread Cert.BwdIdeal.nD Cert.BwdIdeal.τ).loc Cert.BwdIdeal.main_arg0)
      ∧ m' ((c.tc : Thread Cert.BwdRefIdeal.nD Cert.BwdRefIdeal.τ).loc Cert.BwdRefIdeal.main_arg1) = m ((c.tc : Thread Cert.BwdIdeal.nD Cert.BwdIdeal.τ).loc Cert.BwdIdeal.main_arg1)
      ∧ m' ((c.tc : Thread Cert.BwdRefIdeal.nD Cert.BwdRefIdeal.τ).loc Cert.BwdRefIdeal.main_arg2) = m ((c.tc : Thread Cert.BwdIdeal.nD Cert.BwdIdeal.τ).loc Cert.BwdIdeal.main_arg2)
      ∧ m' ((c.tc : Thread Cert.BwdRefIdeal.nD Cert.BwdRefIdeal.τ).loc Cert.BwdRefIdeal.main_arg3) = m ((c.tc : Thread Cert.BwdIdeal.nD Cert.BwdIdeal.τ).loc Cert.BwdIdeal.main_arg3)) →
    ∃ (v0 : (c : Dev Cert.BwdIdeal.nD) → Buf (Elt Ideal) ((c.tc : Thread Cert.BwdIdeal.nD Cert.BwdIdeal.τ).loc Cert.BwdIdeal.main_v1)),
      θ_run (Cert.BwdIdeal.defs (F := Ideal)) (onTc (τ := Cert.BwdIdeal.τ) (Cert.BwdIdeal.main (F := Ideal))) ⟨m, fun _ => 0, g⟩ (fun r => ∀ c : Dev Cert.BwdIdeal.nD,
          r.2.mem ((c.tc : Thread Cert.BwdIdeal.nD Cert.BwdIdeal.τ).loc Cert.BwdIdeal.main_v1) = v0 c
          ∧ r.2.mem ((c.tc : Thread Cert.BwdIdeal.nD Cert.BwdIdeal.τ).loc Cert.BwdIdeal.main_arg0) = m ((c.tc : Thread Cert.BwdIdeal.nD Cert.BwdIdeal.τ).loc Cert.BwdIdeal.main_arg0)
          ∧ r.2.mem ((c.tc : Thread Cert.BwdIdeal.nD Cert.BwdIdeal.τ).loc Cert.BwdIdeal.main_arg1) = m ((c.tc : Thread Cert.BwdIdeal.nD Cert.BwdIdeal.τ).loc Cert.BwdIdeal.main_arg1)
          ∧ r.2.mem ((c.tc : Thread Cert.BwdIdeal.nD Cert.BwdIdeal.τ).loc Cert.BwdIdeal.main_arg2) = m ((c.tc : Thread Cert.BwdIdeal.nD Cert.BwdIdeal.τ).loc Cert.BwdIdeal.main_arg2)
          ∧ r.2.mem ((c.tc : Thread Cert.BwdIdeal.nD Cert.BwdIdeal.τ).loc Cert.BwdIdeal.main_arg3) = m ((c.tc : Thread Cert.BwdIdeal.nD Cert.BwdIdeal.τ).loc Cert.BwdIdeal.main_arg3))
      ∧ θ_run (Cert.BwdRefIdeal.defs (F := Ideal)) (onTc (τ := Cert.BwdRefIdeal.τ) (Cert.BwdRefIdeal.main (F := Ideal))) ⟨m', fun _ => 0, g'⟩ (fun r => ∀ c : Dev Cert.BwdRefIdeal.nD,
          r.2.mem ((c.tc : Thread Cert.BwdRefIdeal.nD Cert.BwdRefIdeal.τ).loc Cert.BwdRefIdeal.main_v31) = v0 c
          ∧ r.2.mem ((c.tc : Thread Cert.BwdRefIdeal.nD Cert.BwdRefIdeal.τ).loc Cert.BwdRefIdeal.main_arg0) = m' ((c.tc : Thread Cert.BwdRefIdeal.nD Cert.BwdRefIdeal.τ).loc Cert.BwdRefIdeal.main_arg0)
          ∧ r.2.mem ((c.tc : Thread Cert.BwdRefIdeal.nD Cert.BwdRefIdeal.τ).loc Cert.BwdRefIdeal.main_arg1) = m' ((c.tc : Thread Cert.BwdRefIdeal.nD Cert.BwdRefIdeal.τ).loc Cert.BwdRefIdeal.main_arg1)
          ∧ r.2.mem ((c.tc : Thread Cert.BwdRefIdeal.nD Cert.BwdRefIdeal.τ).loc Cert.BwdRefIdeal.main_arg2) = m' ((c.tc : Thread Cert.BwdRefIdeal.nD Cert.BwdRefIdeal.τ).loc Cert.BwdRefIdeal.main_arg2)
          ∧ r.2.mem ((c.tc : Thread Cert.BwdRefIdeal.nD Cert.BwdRefIdeal.τ).loc Cert.BwdRefIdeal.main_arg3) = m' ((c.tc : Thread Cert.BwdRefIdeal.nD Cert.BwdRefIdeal.τ).loc Cert.BwdRefIdeal.main_arg3))

def Claim : Prop :=
  ∃ (hGrad : Cert.Grad.Facts) (hGradIdeal : Cert.GradIdeal.Facts) (hGradRefIdeal : Cert.GradRefIdeal.Facts) (hStats : Cert.Stats.Facts) (hStatsIdeal : Cert.StatsIdeal.Facts) (hStatsRefIdeal : Cert.StatsRefIdeal.Facts) (hCoef : Cert.Coef.Facts) (hCoefIdeal : Cert.CoefIdeal.Facts) (hCoefRefIdeal : Cert.CoefRefIdeal.Facts) (hNorm : Cert.Norm.Facts) (hNormIdeal : Cert.NormIdeal.Facts) (hNormRefIdeal : Cert.NormRefIdeal.Facts) (hBwd : Cert.Bwd.Facts) (hBwdIdeal : Cert.BwdIdeal.Facts) (hBwdRefIdeal : Cert.BwdRefIdeal.Facts),
    quiescent_Grad (hGrad := hGrad)
    ∧ quiescent_GradIdeal (hGradIdeal := hGradIdeal)
    ∧ quiescent_GradRefIdeal (hGradRefIdeal := hGradRefIdeal)
    ∧ quiescent_Stats (hStats := hStats)
    ∧ quiescent_StatsIdeal (hStatsIdeal := hStatsIdeal)
    ∧ quiescent_StatsRefIdeal (hStatsRefIdeal := hStatsRefIdeal)
    ∧ quiescent_Coef (hCoef := hCoef)
    ∧ quiescent_CoefIdeal (hCoefIdeal := hCoefIdeal)
    ∧ quiescent_CoefRefIdeal (hCoefRefIdeal := hCoefRefIdeal)
    ∧ quiescent_Norm (hNorm := hNorm)
    ∧ quiescent_NormIdeal (hNormIdeal := hNormIdeal)
    ∧ quiescent_NormRefIdeal (hNormRefIdeal := hNormRefIdeal)
    ∧ quiescent_Bwd (hBwd := hBwd)
    ∧ quiescent_BwdIdeal (hBwdIdeal := hBwdIdeal)
    ∧ quiescent_BwdRefIdeal (hBwdRefIdeal := hBwdRefIdeal)
    ∧ preserves_Grad_GradIdeal
    ∧ algebraic_GradIdeal_GradRefIdeal (hGradIdeal := hGradIdeal) (hGradRefIdeal := hGradRefIdeal)
    ∧ preserves_Stats_StatsIdeal
    ∧ algebraic_StatsIdeal_StatsRefIdeal (hStatsIdeal := hStatsIdeal) (hStatsRefIdeal := hStatsRefIdeal)
    ∧ preserves_Coef_CoefIdeal
    ∧ algebraic_CoefIdeal_CoefRefIdeal (hCoefIdeal := hCoefIdeal) (hCoefRefIdeal := hCoefRefIdeal)
    ∧ preserves_Norm_NormIdeal
    ∧ algebraic_NormIdeal_NormRefIdeal (hNormIdeal := hNormIdeal) (hNormRefIdeal := hNormRefIdeal)
    ∧ preserves_Bwd_BwdIdeal
    ∧ algebraic_BwdIdeal_BwdRefIdeal (hBwdIdeal := hBwdIdeal) (hBwdRefIdeal := hBwdRefIdeal)
-- ==== Grad.lean ====
abbrev S2048x128256 : Shape := ⟨2, ![2048, 128256]⟩
abbrev S128256x3072 : Shape := ⟨2, ![128256, 3072]⟩
abbrev S128256 : Shape := ⟨1, ![128256]⟩
abbrev S2048x128 : Shape := ⟨2, ![2048, 128]⟩
abbrev S167x1x768 : Shape := ⟨3, ![167, 1, 768]⟩
abbrev S2048x3072 : Shape := ⟨2, ![2048, 3072]⟩
abbrev S2048x768 : Shape := ⟨2, ![2048, 768]⟩
abbrev S768x3072 : Shape := ⟨2, ![768, 3072]⟩
abbrev S1x1x768 : Shape := ⟨3, ![1, 1, 768]⟩
abbrev S_ : Shape := ⟨0, ![]⟩
abbrev S1x768 : Shape := ⟨2, ![1, 768]⟩
abbrev S1x128 : Shape := ⟨2, ![1, 128]⟩
abbrev S256x128 : Shape := ⟨2, ![256, 128]⟩
abbrev S256x768 : Shape := ⟨2, ![256, 768]⟩
abbrev S256x3072 : Shape := ⟨2, ![256, 3072]⟩

abbrev nBuf : Space → Nat
  | .hbm => 10
  | .vmem => 13
  | .smem => 0
  | _ => 0

abbrev bufTy : (tb : Table) → Fin (tcTables nBuf tb) → BufTy
  | .hbm, ⟨0, _⟩ => ⟨S2048x128256, .f32⟩
  | .hbm, ⟨1, _⟩ => ⟨S128256x3072, .fp8e4m3⟩
  | .hbm, ⟨2, _⟩ => ⟨S128256, .f32⟩
  | .hbm, ⟨3, _⟩ => ⟨S2048x128, .f32⟩
  | .hbm, ⟨4, _⟩ => ⟨S2048x128, .f32⟩
  | .hbm, ⟨5, _⟩ => ⟨S2048x128, .f32⟩
  | .hbm, ⟨6, _⟩ => ⟨S2048x128, .i32⟩
  | .hbm, ⟨7, _⟩ => ⟨S167x1x768, .f32⟩
  | .hbm, ⟨8, _⟩ => ⟨S2048x128256, .fp8e5m2⟩
  | .hbm, ⟨9, _⟩ => ⟨S2048x3072, .f32⟩
  | .local _ .vmem, ⟨0, _⟩ => ⟨S2048x768, .f32⟩
  | .local _ .vmem, ⟨1, _⟩ => ⟨S2048x768, .f32⟩
  | .local _ .vmem, ⟨2, _⟩ => ⟨S768x3072, .fp8e4m3⟩
  | .local _ .vmem, ⟨3, _⟩ => ⟨S768x3072, .fp8e4m3⟩
  | .local _ .vmem, ⟨4, _⟩ => ⟨S1x1x768, .f32⟩
  | .local _ .vmem, ⟨5, _⟩ => ⟨S1x1x768, .f32⟩
  | .local _ .vmem, ⟨6, _⟩ => ⟨S2048x128, .f32⟩
  | .local _ .vmem, ⟨7, _⟩ => ⟨S2048x128, .f32⟩
  | .local _ .vmem, ⟨8, _⟩ => ⟨S2048x128, .f32⟩
  | .local _ .vmem, ⟨9, _⟩ => ⟨S2048x128, .i32⟩
  | .local _ .vmem, ⟨10, _⟩ => ⟨S2048x768, .fp8e5m2⟩
  | .local _ .vmem, ⟨11, _⟩ => ⟨S2048x768, .fp8e5m2⟩
  | .local _ .vmem, ⟨12, _⟩ => ⟨S2048x3072, .f32⟩
  | _, _ => ⟨S2048x128256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1_0 : Ref sig .tc := ⟨.hbm, 8, rfl⟩
abbrev main_v1_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![167], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2048x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S768x3072 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2048x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2048x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2048x128 .i32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S2048x768 .fp8e5m2 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== GradRefIdeal.lean ====
abbrev S2048x128256 : Shape := ⟨2, ![2048, 128256]⟩
abbrev S128256x3072 : Shape := ⟨2, ![128256, 3072]⟩
abbrev S128256 : Shape := ⟨1, ![128256]⟩
abbrev S2048x128 : Shape := ⟨2, ![2048, 128]⟩
abbrev S1x1002x128 : Shape := ⟨3, ![1, 1002, 128]⟩
abbrev S2048x3072 : Shape := ⟨2, ![2048, 3072]⟩
abbrev S2048x1002x128 : Shape := ⟨3, ![2048, 1002, 128]⟩
abbrev S2048x1x128 : Shape := ⟨3, ![2048, 1, 128]⟩

abbrev nBuf : Space → Nat
  | .hbm => 10
  | .vmem => 9
  | .smem => 0
  | _ => 0

abbrev bufTy : (tb : Table) → Fin (tcTables nBuf tb) → BufTy
  | .hbm, ⟨0, _⟩ => ⟨S2048x128256, .f32⟩
  | .hbm, ⟨1, _⟩ => ⟨S128256x3072, .fp8e4m3⟩
  | .hbm, ⟨2, _⟩ => ⟨S128256, .f32⟩
  | .hbm, ⟨3, _⟩ => ⟨S2048x128, .f32⟩
  | .hbm, ⟨4, _⟩ => ⟨S2048x128, .f32⟩
  | .hbm, ⟨5, _⟩ => ⟨S2048x128, .f32⟩
  | .hbm, ⟨6, _⟩ => ⟨S2048x128, .i32⟩
  | .hbm, ⟨7, _⟩ => ⟨S1x1002x128, .f32⟩
  | .hbm, ⟨8, _⟩ => ⟨S2048x128256, .fp8e5m2⟩
  | .hbm, ⟨9, _⟩ => ⟨S2048x3072, .f32⟩
  | .local _ .vmem, ⟨0, _⟩ => ⟨S2048x128256, .f32⟩
  | .local _ .vmem, ⟨1, _⟩ => ⟨S128256x3072, .fp8e4m3⟩
  | .local _ .vmem, ⟨2, _⟩ => ⟨S1x1002x128, .f32⟩
  | .local _ .vmem, ⟨3, _⟩ => ⟨S2048x128, .f32⟩
  | .local _ .vmem, ⟨4, _⟩ => ⟨S2048x128, .f32⟩
  | .local _ .vmem, ⟨5, _⟩ => ⟨S2048x128, .f32⟩
  | .local _ .vmem, ⟨6, _⟩ => ⟨S2048x128, .i32⟩
  | .local _ .vmem, ⟨7, _⟩ => ⟨S2048x128256, .fp8e5m2⟩
  | .local _ .vmem, ⟨8, _⟩ => ⟨S2048x3072, .f32⟩
  | _, _ => ⟨S2048x128256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1_0 : Ref sig .tc := ⟨.hbm, 8, rfl⟩
abbrev main_v1_1 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

abbrev stage0_0 : Fin 1 → Memref sig .tc .vmem S2048x128256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128256x3072 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x1002x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2048x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2048x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2048x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2048x128 .i32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2048x128256 .fp8e5m2 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S2048x3072 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== Stats.lean ====
abbrev S2048x3072 : Shape := ⟨2, ![2048, 3072]⟩
abbrev S2048x128 : Shape := ⟨2, ![2048, 128]⟩
abbrev S128256x3072 : Shape := ⟨2, ![128256, 3072]⟩
abbrev S128256 : Shape := ⟨1, ![128256]⟩
abbrev S167x1x768 : Shape := ⟨3, ![167, 1, 768]⟩
abbrev S2048x128256 : Shape := ⟨2, ![2048, 128256]⟩
abbrev S768x3072 : Shape := ⟨2, ![768, 3072]⟩
abbrev S1x1x768 : Shape := ⟨3, ![1, 1, 768]⟩
abbrev S2048x768 : Shape := ⟨2, ![2048, 768]⟩
abbrev S1x768 : Shape := ⟨2, ![1, 768]⟩
abbrev S1x128 : Shape := ⟨2, ![1, 128]⟩
abbrev S512x3072 : Shape := ⟨2, ![512, 3072]⟩
abbrev S512x768 : Shape := ⟨2, ![512, 768]⟩
abbrev S512x128 : Shape := ⟨2, ![512, 128]⟩

abbrev nBuf : Space → Nat
  | .hbm => 16
  | .vmem => 18
  | .smem => 0
  | _ => 0

abbrev bufTy : (tb : Table) → Fin (tcTables nBuf tb) → BufTy
  | .hbm, ⟨0, _⟩ => ⟨S2048x3072, .fp8e4m3⟩
  | .hbm, ⟨1, _⟩ => ⟨S2048x3072, .fp8e4m3⟩
  | .hbm, ⟨2, _⟩ => ⟨S2048x128, .f32⟩
  | .hbm, ⟨3, _⟩ => ⟨S2048x128, .f32⟩
  | .hbm, ⟨4, _⟩ => ⟨S2048x128, .i32⟩
  | .hbm, ⟨5, _⟩ => ⟨S128256x3072, .fp8e4m3⟩
  | .hbm, ⟨6, _⟩ => ⟨S128256, .f32⟩
  | .hbm, ⟨7, _⟩ => ⟨S167x1x768, .f32⟩
  | .hbm, ⟨8, _⟩ => ⟨S2048x128256, .f32⟩
  | .hbm, ⟨9, _⟩ => ⟨S2048x128, .f32⟩
  | .hbm, ⟨10, _⟩ => ⟨S2048x128, .f32⟩
  | .hbm, ⟨11, _⟩ => ⟨S2048x128, .f32⟩
  | .hbm, ⟨12, _⟩ => ⟨S2048x128, .f32⟩
  | .hbm, ⟨13, _⟩ => ⟨S2048x128, .f32⟩
  | .hbm, ⟨14, _⟩ => ⟨S2048x128, .f32⟩
  | .hbm, ⟨15, _⟩ => ⟨S2048x128, .f32⟩
  | .local _ .vmem, ⟨0, _⟩ => ⟨S2048x3072, .fp8e4m3⟩
  | .local _ .vmem, ⟨1, _⟩ => ⟨S2048x3072, .fp8e4m3⟩
  | .local _ .vmem, ⟨2, _⟩ => ⟨S2048x128, .f32⟩
  | .local _ .vmem, ⟨3, _⟩ => ⟨S2048x128, .f32⟩
  | .local _ .vmem, ⟨4, _⟩ => ⟨S2048x128, .i32⟩
  | .local _ .vmem, ⟨5, _⟩ => ⟨S768x3072, .fp8e4m3⟩
  | .local _ .vmem, ⟨6, _⟩ => ⟨S768x3072, .fp8e4m3⟩
  | .local _ .vmem, ⟨7, _⟩ => ⟨S1x1x768, .f32⟩
  | .local _ .vmem, ⟨8, _⟩ => ⟨S1x1x768, .f32⟩
  | .local _ .vmem, ⟨9, _⟩ => ⟨S2048x768, .f32⟩
  | .local _ .vmem, ⟨10, _⟩ => ⟨S2048x768, .f32⟩
  | .local _ .vmem, ⟨11, _⟩ => ⟨S2048x128, .f32⟩
  | .local _ .vmem, ⟨12, _⟩ => ⟨S2048x128, .f32⟩
  | .local _ .vmem, ⟨13, _⟩ => ⟨S2048x128, .f32⟩
  | .local _ .vmem, ⟨14, _⟩ => ⟨S2048x128, .f32⟩
  | .local _ .vmem, ⟨15, _⟩ => ⟨S2048x128, .f32⟩
  | .local _ .vmem, ⟨16, _⟩ => ⟨S2048x128, .f32⟩
  | .local _ .vmem, ⟨17, _⟩ => ⟨S2048x128, .f32⟩
  | _, _ => ⟨S2048x3072, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1_0 : Ref sig .tc := ⟨.hbm, 8, rfl⟩
abbrev main_v1_1 : Ref sig .tc := ⟨.hbm, 9, rfl⟩
abbrev main_v1_2 : Ref sig .tc := ⟨.hbm, 10, rfl⟩
abbrev main_v1_3 : Ref sig .tc := ⟨.hbm, 11, rfl⟩
abbrev main_v1_4 : Ref sig .tc := ⟨.hbm, 12, rfl⟩
abbrev main_v1_5 : Ref sig .tc := ⟨.hbm, 13, rfl⟩
abbrev main_v1_6 : Ref sig .tc := ⟨.hbm, 14, rfl⟩
abbrev main_v1_7 : Ref sig .tc := ⟨.hbm, 15, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg5_1 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem5_1 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17

abbrev nD : Nat := 1
abbrev τ : Topo := Topo.v7x

variable {F : FTy → Type} [FloatOps F]

abbrev grid0 : Pipeline.Grid := ⟨1, ![167], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S2048x3072 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S2048x3072 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x128 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S768x3072 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2048x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S2048x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S2048x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S2048x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S2048x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S2048x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S2048x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S2048x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== StatsRefIdeal.lean ====
abbrev S2048x3072 : Shape := ⟨2, ![2048, 3072]⟩
abbrev S2048x128 : Shape := ⟨2, ![2048, 128]⟩
abbrev S128256x3072 : Shape := ⟨2, ![128256, 3072]⟩
abbrev S128256 : Shape := ⟨1, ![128256]⟩
abbrev S1x1002x128 : Shape := ⟨3, ![1, 1002, 128]⟩
abbrev S2048x128256 : Shape := ⟨2, ![2048, 128256]⟩
abbrev S2048x1002x128 : Shape := ⟨3, ![2048, 1002, 128]⟩
abbrev S2048x1x128 : Shape := ⟨3, ![2048, 1, 128]⟩

abbrev nBuf : Space → Nat
  | .hbm => 16
  | .vmem => 15
  | .smem => 0
  | _ => 0

abbrev bufTy : (tb : Table) → Fin (tcTables nBuf tb) → BufTy
  | .hbm, ⟨0, _⟩ => ⟨S2048x3072, .fp8e4m3⟩
  | .hbm, ⟨1, _⟩ => ⟨S2048x3072, .fp8e4m3⟩
  | .hbm, ⟨2, _⟩ => ⟨S2048x128, .f32⟩
  | .hbm, ⟨3, _⟩ => ⟨S2048x128, .f32⟩
  | .hbm, ⟨4, _⟩ => ⟨S2048x128, .i32⟩
  | .hbm, ⟨5, _⟩ => ⟨S128256x3072, .fp8e4m3⟩
  | .hbm, ⟨6, _⟩ => ⟨S128256, .f32⟩
  | .hbm, ⟨7, _⟩ => ⟨S1x1002x128, .f32⟩
  | .hbm, ⟨8, _⟩ => ⟨S2048x128256, .f32⟩
  | .hbm, ⟨9, _⟩ => ⟨S2048x128, .f32⟩
  | .hbm, ⟨10, _⟩ => ⟨S2048x128, .f32⟩
  | .hbm, ⟨11, _⟩ => ⟨S2048x128, .f32⟩
  | .hbm, ⟨12, _⟩ => ⟨S2048x128, .f32⟩
  | .hbm, ⟨13, _⟩ => ⟨S2048x128, .f32⟩
  | .hbm, ⟨14, _⟩ => ⟨S2048x128, .f32⟩
  | .hbm, ⟨15, _⟩ => ⟨S2048x128, .f32⟩
  | .local _ .vmem, ⟨0, _⟩ => ⟨S2048x3072, .fp8e4m3⟩
  | .local _ .vmem, ⟨1, _⟩ => ⟨S2048x3072, .fp8e4m3⟩
  | .local _ .vmem, ⟨2, _⟩ => ⟨S2048x128, .f32⟩
  | .local _ .vmem, ⟨3, _⟩ => ⟨S2048x128, .f32⟩
  | .local _ .vmem, ⟨4, _⟩ => ⟨S2048x128, .i32⟩
  | .local _ .vmem, ⟨5, _⟩ => ⟨S128256x3072, .fp8e4m3⟩
  | .local _ .vmem, ⟨6, _⟩ => ⟨S1x1002x128, .f32⟩
  | .local _ .vmem, ⟨7, _⟩ => ⟨S2048x128256, .f32⟩
  | .local _ .vmem, ⟨8, _⟩ => ⟨S2048x128, .f32⟩
  | .local _ .vmem, ⟨9, _⟩ => ⟨S2048x128, .f32⟩
  | .local _ .vmem, ⟨10, _⟩ => ⟨S2048x128, .f32⟩
  | .local _ .vmem, ⟨11, _⟩ => ⟨S2048x128, .f32⟩
  | .local _ .vmem, ⟨12, _⟩ => ⟨S2048x128, .f32⟩
  | .local _ .vmem, ⟨13, _⟩ => ⟨S2048x128, .f32⟩
  | .local _ .vmem, ⟨14, _⟩ => ⟨S2048x128, .f32⟩
  | _, _ => ⟨S2048x3072, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1_0 : Ref sig .tc := ⟨.hbm, 8, rfl⟩
abbrev main_v1_1 : Ref sig .tc := ⟨.hbm, 9, rfl⟩
abbrev main_v1_2 : Ref sig .tc := ⟨.hbm, 10, rfl⟩
abbrev main_v1_3 : Ref sig .tc := ⟨.hbm, 11, rfl⟩
abbrev main_v1_4 : Ref sig .tc := ⟨.hbm, 12, rfl⟩
abbrev main_v1_5 : Ref sig .tc := ⟨.hbm, 13, rfl⟩
abbrev main_v1_6 : Ref sig .tc := ⟨.hbm, 14, rfl⟩
abbrev main_v1_7 : Ref sig .tc := ⟨.hbm, 15, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14

abbrev nD : Nat := 1
abbrev τ : Topo := Topo.v7x

variable {F : FTy → Type} [FloatOps F]

abbrev grid0 : Pipeline.Grid := .none

abbrev stage0_0 : Fin 1 → Memref sig .tc .vmem S2048x3072 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x3072 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2048x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2048x128 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S128256x3072 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x1002x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2048x128256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S2048x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S2048x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S2048x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S2048x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S2048x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S2048x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S2048x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
-- ==== Coef.lean ====
abbrev S2048x128 : Shape := ⟨2, ![2048, 128]⟩
abbrev S2048 : Shape := ⟨1, ![2048]⟩
abbrev S24 : Shape := ⟨1, ![24]⟩
abbrev S25 : Shape := ⟨1, ![25]⟩
abbrev S16x128 : Shape := ⟨2, ![16, 128]⟩
abbrev S1x24 : Shape := ⟨2, ![1, 24]⟩
abbrev S24x1 : Shape := ⟨2, ![24, 1]⟩
abbrev S8x128 : Shape := ⟨2, ![8, 128]⟩
abbrev S128x128 : Shape := ⟨2, ![128, 128]⟩
abbrev S128 : Shape := ⟨1, ![128]⟩
abbrev S1x128 : Shape := ⟨2, ![1, 128]⟩
abbrev S24x24 : Shape := ⟨2, ![24, 24]⟩
abbrev S24x128 : Shape := ⟨2, ![24, 128]⟩
abbrev S1x16x128 : Shape := ⟨3, ![1, 16, 128]⟩
abbrev S1 : Shape := ⟨1, ![1]⟩
abbrev S1x1x1 : Shape := ⟨3, ![1, 1, 1]⟩
abbrev S104x128 : Shape := ⟨2, ![104, 128]⟩

abbrev nBuf : Space → Nat
  | .hbm => 38
  | .vmem => 30
  | .smem => 0
  | _ => 0

abbrev bufTy : (tb : Table) → Fin (tcTables nBuf tb) → BufTy
  | .hbm, ⟨0, _⟩ => ⟨S2048x128, .f32⟩
  | .hbm, ⟨1, _⟩ => ⟨S2048x128, .f32⟩
  | .hbm, ⟨2, _⟩ => ⟨S2048x128, .f32⟩
  | .hbm, ⟨3, _⟩ => ⟨S2048x128, .f32⟩
  | .hbm, ⟨4, _⟩ => ⟨S2048x128, .f32⟩
  | .hbm, ⟨5, _⟩ => ⟨S2048x128, .f32⟩
  | .hbm, ⟨6, _⟩ => ⟨S2048x128, .f32⟩
  | .hbm, ⟨7, _⟩ => ⟨S2048x128, .f32⟩
  | .hbm, ⟨8, _⟩ => ⟨S2048x128, .f32⟩
  | .hbm, ⟨9, _⟩ => ⟨S2048, .f32⟩
  | .hbm, ⟨10, _⟩ => ⟨S2048, .i32⟩
  | .hbm, ⟨11, _⟩ => ⟨S2048, .f32⟩
  | .hbm, ⟨12, _⟩ => ⟨S24, .f32⟩
  | .hbm, ⟨13, _⟩ => ⟨S24, .i32⟩
  | .hbm, ⟨14, _⟩ => ⟨S25, .i32⟩
  | .hbm, ⟨15, _⟩ => ⟨S16x128, .f32⟩
  | .hbm, ⟨16, _⟩ => ⟨S16x128, .i32⟩
  | .hbm, ⟨17, _⟩ => ⟨S16x128, .f32⟩
  | .hbm, ⟨18, _⟩ => ⟨S1x24, .f32⟩
  | .hbm, ⟨19, _⟩ => ⟨S24x1, .f32⟩
  | .hbm, ⟨20, _⟩ => ⟨S1x24, .i32⟩
  | .hbm, ⟨21, _⟩ => ⟨S24x1, .i32⟩
  | .hbm, ⟨22, _⟩ => ⟨S24, .i32⟩
  | .hbm, ⟨23, _⟩ => ⟨S24x1, .i32⟩
  | .hbm, ⟨24, _⟩ => ⟨S24, .i32⟩
  | .hbm, ⟨25, _⟩ => ⟨S24x1, .i32⟩
  | .hbm, ⟨26, _⟩ => ⟨S16x128, .f32⟩
  | .hbm, ⟨27, _⟩ => ⟨S16x128, .f32⟩
  | .hbm, ⟨28, _⟩ => ⟨S16x128, .f32⟩
  | .hbm, ⟨29, _⟩ => ⟨S16x128, .f32⟩
  | .hbm, ⟨30, _⟩ => ⟨S16x128, .f32⟩
  | .hbm, ⟨31, _⟩ => ⟨S16x128, .f32⟩
  | .hbm, ⟨32, _⟩ => ⟨S1x24, .f32⟩
  | .hbm, ⟨33, _⟩ => ⟨S8x128, .f32⟩
  | .hbm, ⟨34, _⟩ => ⟨S2048x128, .f32⟩
  | .hbm, ⟨35, _⟩ => ⟨S2048x128, .f32⟩
  | .hbm, ⟨36, _⟩ => ⟨S2048x128, .f32⟩
  | .hbm, ⟨37, _⟩ => ⟨S2048x128, .f32⟩
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S2048x128, .f32⟩
  | .local _ .vmem, ⟨5, _⟩ => ⟨S2048x128, .f32⟩
  | .local _ .vmem, ⟨6, _⟩ => ⟨S2048x128, .f32⟩
  | .local _ .vmem, ⟨7, _⟩ => ⟨S2048x128, .f32⟩
  | .local _ .vmem, ⟨8, _⟩ => ⟨S2048x128, .f32⟩
  | .local _ .vmem, ⟨9, _⟩ => ⟨S16x128, .f32⟩
  | .local _ .vmem, ⟨10, _⟩ => ⟨S16x128, .i32⟩
  | .local _ .vmem, ⟨11, _⟩ => ⟨S16x128, .f32⟩
  | .local _ .vmem, ⟨12, _⟩ => ⟨S1x24, .f32⟩
  | .local _ .vmem, ⟨13, _⟩ => ⟨S24x1, .f32⟩
  | .local _ .vmem, ⟨14, _⟩ => ⟨S1x24, .i32⟩
  | .local _ .vmem, ⟨15, _⟩ => ⟨S24x1, .i32⟩
  | .local _ .vmem, ⟨16, _⟩ => ⟨S24x1, .i32⟩
  | .local _ .vmem, ⟨17, _⟩ => ⟨S24x1, .i32⟩
  | .local _ .vmem, ⟨18, _⟩ => ⟨S16x128, .f32⟩
  | .local _ .vmem, ⟨19, _⟩ => ⟨S16x128, .f32⟩
  | .local _ .vmem, ⟨20, _⟩ => ⟨S16x128, .f32⟩
  | .local _ .vmem, ⟨21, _⟩ => ⟨S16x128, .f32⟩
  | .local _ .vmem, ⟨22, _⟩ => ⟨S16x128, .f32⟩
  | .local _ .vmem, ⟨23, _⟩ => ⟨S16x128, .f32⟩
  | .local _ .vmem, ⟨24, _⟩ => ⟨S1x24, .f32⟩
  | .local _ .vmem, ⟨25, _⟩ => ⟨S8x128, .f32⟩
  | .local _ .vmem, ⟨26, _⟩ => ⟨S2048x128, .f32⟩
  | .local _ .vmem, ⟨27, _⟩ => ⟨S2048x128, .f32⟩
  | .local _ .vmem, ⟨28, _⟩ => ⟨S2048x128, .f32⟩
  | .local _ .vmem, ⟨29, _⟩ => ⟨S2048x128, .f32⟩
  | _, _ => ⟨S2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11_0 : Ref sig .tc := ⟨.hbm, 26, rfl⟩
abbrev main_v11_1 : Ref sig .tc := ⟨.hbm, 27, rfl⟩
abbrev main_v11_2 : Ref sig .tc := ⟨.hbm, 28, rfl⟩
abbrev main_v11_3 : Ref sig .tc := ⟨.hbm, 29, rfl⟩
abbrev main_v11_4 : Ref sig .tc := ⟨.hbm, 30, rfl⟩
abbrev main_v11_5 : Ref sig .tc := ⟨.hbm, 31, rfl⟩
abbrev main_v11_6 : Ref sig .tc := ⟨.hbm, 32, rfl⟩
abbrev main_v11_7 : Ref sig .tc := ⟨.hbm, 33, rfl⟩
abbrev main_v11_8 : Ref sig .tc := ⟨.hbm, 34, rfl⟩
abbrev main_v11_9 : Ref sig .tc := ⟨.hbm, 35, rfl⟩
abbrev main_v11_10 : Ref sig .tc := ⟨.hbm, 36, rfl⟩
abbrev main_v11_11 : Ref sig .tc := ⟨.hbm, 37, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_stg21_0 : Ref sig .tc := ⟨.vmem, 21, rfl⟩
abbrev cc0_stg22_0 : Ref sig .tc := ⟨.vmem, 22, rfl⟩
abbrev cc0_stg23_0 : Ref sig .tc := ⟨.vmem, 23, rfl⟩
abbrev cc0_stg24_0 : Ref sig .tc := ⟨.vmem, 24, rfl⟩
abbrev cc0_stg25_0 : Ref sig .tc := ⟨.vmem, 25, rfl⟩
abbrev cc0_stg26_0 : Ref sig .tc := ⟨.vmem, 26, rfl⟩
abbrev cc0_stg27_0 : Ref sig .tc := ⟨.vmem, 27, rfl⟩
abbrev cc0_stg28_0 : Ref sig .tc := ⟨.vmem, 28, rfl⟩
abbrev cc0_stg29_0 : Ref sig .tc := ⟨.vmem, 29, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21
abbrev cc0_sem22_0 : DmaSem sig := 22
abbrev cc0_sem23_0 : DmaSem sig := 23
abbrev cc0_sem24_0 : DmaSem sig := 24
abbrev cc0_sem25_0 : DmaSem sig := 25
abbrev cc0_sem26_0 : DmaSem sig := 26
abbrev cc0_sem27_0 : DmaSem sig := 27
abbrev cc0_sem28_0 : DmaSem sig := 28
abbrev cc0_sem29_0 : DmaSem sig := 29

abbrev nD : Nat := 1
abbrev τ : Topo := Topo.v7x

variable {F : FTy → Type} [FloatOps F]

abbrev grid0 : Pipeline.Grid := .none

abbrev stage0_0 : Fin 1 → Memref sig .tc .vmem S2048x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2048x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2048x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2048x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2048x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2048x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S2048x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S16x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S16x128 .i32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S16x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S1x24 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S24x1 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S1x24 .i32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S24x1 .i32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S24x1 .i32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S24x1 .i32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S16x128 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S16x128 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S16x128 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))

abbrev stage0_21 : Fin 1 → Memref sig .tc .vmem S16x128 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))

abbrev stage0_22 : Fin 1 → Memref sig .tc .vmem S16x128 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))

abbrev stage0_23 : Fin 1 → Memref sig .tc .vmem S16x128 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))

abbrev stage0_24 : Fin 1 → Memref sig .tc .vmem S1x24 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))

abbrev stage0_25 : Fin 1 → Memref sig .tc .vmem S8x128 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))

abbrev stage0_26 : Fin 1 → Memref sig .tc .vmem S2048x128 .f32 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))

abbrev stage0_27 : Fin 1 → Memref sig .tc .vmem S2048x128 .f32 := fun | 0 => Memref.whole cc0_stg27_0 | ⟨_ + 1, h⟩ => absurd h (Nat.not_lt.2 (Nat.le_add_left _ _))
abbrev sem0_27 : Fin 1 → DmaSem sig := fun | 0 => cc0_sem27_0 | ⟨_ + 1, h⟩ => absurd h (Nat.not_lt.2 (Nat.le_add_left _ _))

abbrev stage0_28 : Fin 1 → Memref sig .tc .vmem S2048x128 .f32 := fun | 0 => Memref.whole cc0_stg28_0 | ⟨_ + 1, h⟩ => absurd h (Nat.not_lt.2 (Nat.le_add_left _ _))
abbrev sem0_28 : Fin 1 → DmaSem sig := fun | 0 => cc0_sem28_0 | ⟨_ + 1, h⟩ => absurd h (Nat.not_lt.2 (Nat.le_add_left _ _))

abbrev stage0_29 : Fin 1 → Memref sig .tc .vmem S2048x128 .f32 := fun | 0 => Memref.whole cc0_stg29_0 | ⟨_ + 1, h⟩ => absurd h (Nat.not_lt.2 (Nat.le_add_left _ _))
abbrev sem0_29 : Fin 1 → DmaSem sig := fun | 0 => cc0_sem29_0 | ⟨_ + 1, h⟩ => absurd h (Nat.not_lt.2 (Nat.le_add_left _ _))
-- ==== CoefRefIdeal.lean ====
abbrev S2048x128 : Shape := ⟨2, ![2048, 128]⟩
abbrev S2048 : Shape := ⟨1, ![2048]⟩
abbrev S24 : Shape := ⟨1, ![24]⟩
abbrev S25 : Shape := ⟨1, ![25]⟩
abbrev S24x1 : Shape := ⟨2, ![24, 1]⟩
abbrev S1x24 : Shape := ⟨2, ![1, 24]⟩
abbrev S24x24 : Shape := ⟨2, ![24, 24]⟩
abbrev S_ : Shape := ⟨0, ![]⟩
abbrev S2048x1 : Shape := ⟨2, ![2048, 1]⟩
abbrev S2048x24 : Shape := ⟨2, ![2048, 24]⟩
abbrev S16x128 : Shape := ⟨2, ![16, 128]⟩

abbrev nBuf : Space → Nat
  | .hbm => 184
  | .vmem => 0
  | .smem => 0
  | _ => 0

abbrev hbmTy0_0 (i : Nat) : BufTy := match i % 128 with
  | 0 => ⟨S2048x128, .f32⟩
  | 1 => ⟨S2048x128, .f32⟩
  | 2 => ⟨S2048x128, .f32⟩
  | 3 => ⟨S2048x128, .f32⟩
  | 4 => ⟨S2048x128, .f32⟩
  | 5 => ⟨S2048x128, .f32⟩
  | 6 => ⟨S2048x128, .f32⟩
  | 7 => ⟨S2048x128, .f32⟩
  | 8 => ⟨S2048x128, .f32⟩
  | 9 => ⟨S2048, .f32⟩
  | 10 => ⟨S2048, .i32⟩
  | 11 => ⟨S2048, .f32⟩
  | 12 => ⟨S24, .f32⟩
  | 13 => ⟨S24, .i32⟩
  | 14 => ⟨S25, .i32⟩
  | 15 => ⟨S24x1, .i32⟩
  | 16 => ⟨S1x24, .i32⟩
  | 17 => ⟨S24x24, .i32⟩
  | 18 => ⟨S24x24, .i32⟩
  | 19 => ⟨S24x24, .i1⟩
  | 20 => ⟨S24x24, .f32⟩
  | 21 => ⟨S_, .f32⟩
  | 22 => ⟨S24, .f32⟩
  | 23 => ⟨S1x24, .f32⟩
  | 24 => ⟨S24x24, .f32⟩
  | 25 => ⟨S24x24, .f32⟩
  | 26 => ⟨S_, .f32⟩
  | 27 => ⟨S24, .f32⟩
  | 28 => ⟨S24, .f32⟩
  | 29 => ⟨S24, .f32⟩
  | 30 => ⟨S24, .f32⟩
  | 31 => ⟨S1x24, .f32⟩
  | 32 => ⟨S24x24, .f32⟩
  | 33 => ⟨S24x24, .f32⟩
  | 34 => ⟨S_, .f32⟩
  | 35 => ⟨S24, .f32⟩
  | 36 => ⟨S_, .f32⟩
  | 37 => ⟨S24, .f32⟩
  | 38 => ⟨S24, .f32⟩
  | 39 => ⟨S_, .f32⟩
  | 40 => ⟨S24, .f32⟩
  | 41 => ⟨S24, .f32⟩
  | 42 => ⟨S24, .f32⟩
  | 43 => ⟨S24, .f32⟩
  | 44 => ⟨S_, .f32⟩
  | 45 => ⟨S24, .f32⟩
  | 46 => ⟨S24, .f32⟩
  | 47 => ⟨S24, .f32⟩
  | 48 => ⟨S2048, .i32⟩
  | 49 => ⟨S2048x1, .i32⟩
  | 50 => ⟨S24, .i32⟩
  | 51 => ⟨S1x24, .i32⟩
  | 52 => ⟨S2048x24, .i32⟩
  | 53 => ⟨S2048x24, .i32⟩
  | 54 => ⟨S2048x24, .i1⟩
  | 55 => ⟨S24, .i32⟩
  | 56 => ⟨S1x24, .i32⟩
  | 57 => ⟨S2048x24, .i32⟩
  | 58 => ⟨S2048x24, .i32⟩
  | 59 => ⟨S2048x24, .i1⟩
  | 60 => ⟨S2048x24, .i1⟩
  | 61 => ⟨S2048x24, .f32⟩
  | 62 => ⟨S1x24, .f32⟩
  | 63 => ⟨S2048x24, .f32⟩
  | 64 => ⟨S2048x24, .f32⟩
  | 65 => ⟨S_, .f32⟩
  | 66 => ⟨S2048, .f32⟩
  | 67 => ⟨S_, .i32⟩
  | 68 => ⟨S_, .i32⟩
  | 69 => ⟨S_, .i32⟩
  | 70 => ⟨S_, .i32⟩
  | 71 => ⟨S_, .f32⟩
  | 72 => ⟨S2048, .f32⟩
  | 73 => ⟨S_, .f32⟩
  | 74 => ⟨S2048, .f32⟩
  | 75 => ⟨S2048, .f32⟩
  | 76 => ⟨S2048x1, .f32⟩
  | 77 => ⟨S2048x128, .f32⟩
  | 78 => ⟨S2048x128, .f32⟩
  | 79 => ⟨S_, .f32⟩
  | 80 => ⟨S2048x128, .f32⟩
  | 81 => ⟨S2048x128, .f32⟩
  | 82 => ⟨S2048x128, .f32⟩
  | 83 => ⟨S_, .f32⟩
  | 84 => ⟨S2048, .f32⟩
  | 85 => ⟨S_, .f32⟩
  | 86 => ⟨S2048, .f32⟩
  | 87 => ⟨S2048, .f32⟩
  | 88 => ⟨S2048x1, .f32⟩
  | 89 => ⟨S2048x128, .f32⟩
  | 90 => ⟨S2048x128, .f32⟩
  | 91 => ⟨S_, .f32⟩
  | 92 => ⟨S2048x128, .f32⟩
  | 93 => ⟨S2048x128, .f32⟩
  | 94 => ⟨S2048x128, .f32⟩
  | 95 => ⟨S_, .f32⟩
  | 96 => ⟨S2048, .f32⟩
  | 97 => ⟨S2048, .f32⟩
  | 98 => ⟨S_, .f32⟩
  | 99 => ⟨S2048, .f32⟩
  | 100 => ⟨S2048, .f32⟩
  | 101 => ⟨S2048, .f32⟩
  | 102 => ⟨S2048, .f32⟩
  | 103 => ⟨S_, .f32⟩
  | 104 => ⟨S2048, .f32⟩
  | 105 => ⟨S2048, .f32⟩
  | 106 => ⟨S_, .f32⟩
  | 107 => ⟨S2048, .f32⟩
  | 108 => ⟨S_, .f32⟩
  | 109 => ⟨S2048, .f32⟩
  | 110 => ⟨S2048, .f32⟩
  | 111 => ⟨S2048, .f32⟩
  | 112 => ⟨S_, .f32⟩
  | 113 => ⟨S2048, .f32⟩
  | 114 => ⟨S_, .f32⟩
  | 115 => ⟨S2048, .f32⟩
  | 116 => ⟨S2048, .f32⟩
  | 117 => ⟨S2048, .f32⟩
  | 118 => ⟨S_, .f32⟩
  | 119 => ⟨S2048, .f32⟩
  | 120 => ⟨S2048, .f32⟩
  | 121 => ⟨S2048, .f32⟩
  | 122 => ⟨S2048, .f32⟩
  | 123 => ⟨S_, .f32⟩
  | 124 => ⟨S2048, .f32⟩
  | 125 => ⟨S2048, .f32⟩
  | 126 => ⟨S2048, .f32⟩
  | 127 => ⟨S2048x1, .f32⟩
  | _ => ⟨S2048x128, .f32⟩

abbrev hbmTy0_1 (i : Nat) : BufTy := match i % 128 with
  | 0 => ⟨S2048x128, .f32⟩
  | 1 => ⟨S2048x128, .f32⟩
  | 2 => ⟨S_, .f32⟩
  | 3 => ⟨S2048x128, .f32⟩
  | 4 => ⟨S2048x128, .f32⟩
  | 5 => ⟨S2048x128, .f32⟩
  | 6 => ⟨S_, .f32⟩
  | 7 => ⟨S2048, .f32⟩
  | 8 => ⟨S_, .f32⟩
  | 9 => ⟨S2048, .f32⟩
  | 10 => ⟨S2048, .f32⟩
  | 11 => ⟨S2048, .f32⟩
  | 12 => ⟨S2048, .f32⟩
  | 13 => ⟨S2048, .f32⟩
  | 14 => ⟨S2048, .f32⟩
  | 15 => ⟨S_, .f32⟩
  | 16 => ⟨S2048, .f32⟩
  | 17 => ⟨S2048, .f32⟩
  | 18 => ⟨S2048, .f32⟩
  | 19 => ⟨S2048, .f32⟩
  | 20 => ⟨S2048, .f32⟩
  | 21 => ⟨S2048, .f32⟩
  | 22 => ⟨S_, .f32⟩
  | 23 => ⟨S2048, .f32⟩
  | 24 => ⟨S2048, .f32⟩
  | 25 => ⟨S_, .f32⟩
  | 26 => ⟨S2048, .f32⟩
  | 27 => ⟨S2048, .f32⟩
  | 28 => ⟨S2048, .f32⟩
  | 29 => ⟨S2048, .f32⟩
  | 30 => ⟨S2048, .f32⟩
  | 31 => ⟨S2048, .f32⟩
  | 32 => ⟨S16x128, .f32⟩
  | 33 => ⟨S16x128, .f32⟩
  | 34 => ⟨S16x128, .f32⟩
  | 35 => ⟨S16x128, .f32⟩
  | 36 => ⟨S2048x1, .f32⟩
  | 37 => ⟨S2048, .f32⟩
  | 38 => ⟨S16x128, .f32⟩
  | 39 => ⟨S2048x1, .f32⟩
  | 40 => ⟨S2048, .f32⟩
  | 41 => ⟨S16x128, .f32⟩
  | 42 => ⟨S1x24, .f32⟩
  | 43 => ⟨S2048x1, .f32⟩
  | 44 => ⟨S2048x128, .f32⟩
  | 45 => ⟨S2048x1, .f32⟩
  | 46 => ⟨S2048x128, .f32⟩
  | 47 => ⟨S2048, .f32⟩
  | 48 => ⟨S_, .f32⟩
  | 49 => ⟨S2048, .f32⟩
  | 50 => ⟨S2048, .f32⟩
  | 51 => ⟨S2048, .f32⟩
  | 52 => ⟨S2048x1, .f32⟩
  | 53 => ⟨S2048x128, .f32⟩
  | 54 => ⟨S2048x1, .f32⟩
  | 55 => ⟨S2048x128, .f32⟩
  | _ => ⟨S2048x128, .f32⟩

abbrev hbmTy (i : Nat) : BufTy := match i / 128 with
  | 0 => hbmTy0_0 i
  | 1 => hbmTy0_1 i
  | _ => ⟨S2048x128, .f32⟩

abbrev bufTy : (tb : Table) → Fin (tcTables nBuf tb) → BufTy
  | .hbm, ⟨i, _⟩ => hbmTy i
  | _, _ => ⟨S2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_cst : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_cst_0 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_cst_1 : Ref sig .tc := ⟨.hbm, 34, rfl⟩
abbrev main_v17 : Ref sig .tc := ⟨.hbm, 35, rfl⟩
abbrev main_cst_2 : Ref sig .tc := ⟨.hbm, 36, rfl⟩
abbrev main_v18 : Ref sig .tc := ⟨.hbm, 37, rfl⟩
abbrev main_v19 : Ref sig .tc := ⟨.hbm, 38, rfl⟩
abbrev main_cst_3 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_cst_4 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_5 : Ref sig .tc := ⟨.hbm, 65, rfl⟩
abbrev main_v44 : Ref sig .tc := ⟨.hbm, 66, rfl⟩
abbrev main_c : Ref sig .tc := ⟨.hbm, 67, rfl⟩
abbrev main_v45 : Ref sig .tc := ⟨.hbm, 68, rfl⟩
abbrev main_c_6 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_cst_7 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_cst_8 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_cst_9 : Ref sig .tc := ⟨.hbm, 83, rfl⟩
abbrev main_v57 : Ref sig .tc := ⟨.hbm, 84, rfl⟩
abbrev main_cst_10 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_cst_11 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_cst_12 : Ref sig .tc := ⟨.hbm, 95, rfl⟩
abbrev main_v66 : Ref sig .tc := ⟨.hbm, 96, rfl⟩
abbrev main_v67 : Ref sig .tc := ⟨.hbm, 97, rfl⟩
abbrev main_cst_13 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_cst_14 : Ref sig .tc := ⟨.hbm, 103, rfl⟩
abbrev main_v72 : Ref sig .tc := ⟨.hbm, 104, rfl⟩
abbrev main_v73 : Ref sig .tc := ⟨.hbm, 105, rfl⟩
abbrev main_cst_15 : Ref sig .tc := ⟨.hbm, 106, rfl⟩
abbrev main_v74 : Ref sig .tc := ⟨.hbm, 107, rfl⟩
abbrev main_cst_16 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_cst_17 : Ref sig .tc := ⟨.hbm, 112, rfl⟩
abbrev main_v78 : Ref sig .tc := ⟨.hbm, 113, rfl⟩
abbrev main_cst_18 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_cst_19 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_cst_20 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_cst_21 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_cst_22 : Ref sig .tc := ⟨.hbm, 134, rfl⟩
abbrev main_v95 : Ref sig .tc := ⟨.hbm, 135, rfl⟩
abbrev main_cst_23 : Ref sig .tc := ⟨.hbm, 136, rfl⟩
abbrev main_v96 : Ref sig .tc := ⟨.hbm, 137, rfl⟩
abbrev main_v97 : Ref sig .tc := ⟨.hbm, 138, rfl⟩
abbrev main_v98 : Ref sig .tc := ⟨.hbm, 139, rfl⟩
abbrev main_v99 : Ref sig .tc := ⟨.hbm, 140, rfl⟩
abbrev main_v100 : Ref sig .tc := ⟨.hbm, 141, rfl⟩
abbrev main_v101 : Ref sig .tc := ⟨.hbm, 142, rfl⟩
abbrev main_cst_24 : Ref sig .tc := ⟨.hbm, 143, rfl⟩
abbrev main_v102 : Ref sig .tc := ⟨.hbm, 144, rfl⟩
abbrev main_v103 : Ref sig .tc := ⟨.hbm, 145, rfl⟩
abbrev main_v104 : Ref sig .tc := ⟨.hbm, 146, rfl⟩
abbrev main_v105 : Ref sig .tc := ⟨.hbm, 147, rfl⟩
abbrev main_v106 : Ref sig .tc := ⟨.hbm, 148, rfl⟩
abbrev main_v107 : Ref sig .tc := ⟨.hbm, 149, rfl⟩
abbrev main_cst_25 : Ref sig .tc := ⟨.hbm, 150, rfl⟩
abbrev main_v108 : Ref sig .tc := ⟨.hbm, 151, rfl⟩
abbrev main_v109 : Ref sig .tc := ⟨.hbm, 152, rfl⟩
abbrev main_cst_26 : Ref sig .tc := ⟨.hbm, 153, rfl⟩
abbrev main_v110 : Ref sig .tc := ⟨.hbm, 154, rfl⟩
abbrev main_v111 : Ref sig .tc := ⟨.hbm, 155, rfl⟩
abbrev main_v112 : Ref sig .tc := ⟨.hbm, 156, rfl⟩
abbrev main_v113 : Ref sig .tc := ⟨.hbm, 157, rfl⟩
abbrev main_v114 : Ref sig .tc := ⟨.hbm, 158, rfl⟩
abbrev main_v115 : Ref sig .tc := ⟨.hbm, 159, rfl⟩
abbrev main_v116 : Ref sig .tc := ⟨.hbm, 160, rfl⟩
abbrev main_v117 : Ref sig .tc := ⟨.hbm, 161, rfl⟩
abbrev main_v118 : Ref sig .tc := ⟨.hbm, 162, rfl⟩
abbrev main_v119 : Ref sig .tc := ⟨.hbm, 163, rfl⟩
abbrev main_v120 : Ref sig .tc := ⟨.hbm, 164, rfl⟩
abbrev main_v121 : Ref sig .tc := ⟨.hbm, 165, rfl⟩
abbrev main_v122 : Ref sig .tc := ⟨.hbm, 166, rfl⟩
abbrev main_v123 : Ref sig .tc := ⟨.hbm, 167, rfl⟩
abbrev main_v124 : Ref sig .tc := ⟨.hbm, 168, rfl⟩
abbrev main_v125 : Ref sig .tc := ⟨.hbm, 169, rfl⟩
abbrev main_v126 : Ref sig .tc := ⟨.hbm, 170, rfl⟩
abbrev main_v127 : Ref sig .tc := ⟨.hbm, 171, rfl⟩
abbrev main_v128 : Ref sig .tc := ⟨.hbm, 172, rfl⟩
abbrev main_v129 : Ref sig .tc := ⟨.hbm, 173, rfl⟩
abbrev main_v130 : Ref sig .tc := ⟨.hbm, 174, rfl⟩
abbrev main_v131 : Ref sig .tc := ⟨.hbm, 175, rfl⟩
abbrev main_cst_27 : Ref sig .tc := ⟨.hbm, 176, rfl⟩
abbrev main_v132 : Ref sig .tc := ⟨.hbm, 177, rfl⟩
abbrev main_v133 : Ref sig .tc := ⟨.hbm, 178, rfl⟩
abbrev main_v134 : Ref sig .tc := ⟨.hbm, 179, rfl⟩
abbrev main_v135 : Ref sig .tc := ⟨.hbm, 180, rfl⟩
abbrev main_v136 : Ref sig .tc := ⟨.hbm, 181, rfl⟩
abbrev main_v137 : Ref sig .tc := ⟨.hbm, 182, rfl⟩
abbrev main_v138 : Ref sig .tc := ⟨.hbm, 183, rfl⟩

abbrev nD : Nat := 1
abbrev τ : Topo := Topo.v7x

variable {F : FTy → Type} [FloatOps F]
-- ==== Norm.lean ====
abbrev S2048x3072 : Shape := ⟨2, ![2048, 3072]⟩
abbrev S3072 : Shape := ⟨1, ![3072]⟩
abbrev S2048 : Shape := ⟨1, ![2048]⟩
abbrev S1x3072 : Shape := ⟨2, ![1, 3072]⟩
abbrev S16x1x128 : Shape := ⟨3, ![16, 1, 128]⟩
abbrev S2048x128 : Shape := ⟨2, ![2048, 128]⟩
abbrev S256x3072 : Shape := ⟨2, ![256, 3072]⟩
abbrev S2x1x128 : Shape := ⟨3, ![2, 1, 128]⟩
abbrev S256x128 : Shape := ⟨2, ![256, 128]⟩
abbrev S256 : Shape := ⟨1, ![256]⟩
abbrev S256x1 : Shape := ⟨2, ![256, 1]⟩
abbrev S1x1x128 : Shape := ⟨3, ![1, 1, 128]⟩
abbrev S1x128 : Shape := ⟨2, ![1, 128]⟩
abbrev S128x128 : Shape := ⟨2, ![128, 128]⟩

abbrev nBuf : Space → Nat
  | .hbm => 13
  | .vmem => 18
  | .smem => 0
  | _ => 0

abbrev bufTy : (tb : Table) → Fin (tcTables nBuf tb) → BufTy
  | .hbm, ⟨0, _⟩ => ⟨S2048x3072, .bf16⟩
  | .hbm, ⟨1, _⟩ => ⟨S2048x3072, .bf16⟩
  | .hbm, ⟨2, _⟩ => ⟨S3072, .f32⟩
  | .hbm, ⟨3, _⟩ => ⟨S3072, .f32⟩
  | .hbm, ⟨4, _⟩ => ⟨S2048, .i32⟩
  | .hbm, ⟨5, _⟩ => ⟨S1x3072, .f32⟩
  | .hbm, ⟨6, _⟩ => ⟨S1x3072, .f32⟩
  | .hbm, ⟨7, _⟩ => ⟨S16x1x128, .i32⟩
  | .hbm, ⟨8, _⟩ => ⟨S2048x3072, .fp8e4m3⟩
  | .hbm, ⟨9, _⟩ => ⟨S2048x3072, .fp8e4m3⟩
  | .hbm, ⟨10, _⟩ => ⟨S2048x128, .f32⟩
  | .hbm, ⟨11, _⟩ => ⟨S2048x128, .f32⟩
  | .hbm, ⟨12, _⟩ => ⟨S2048x128, .i32⟩
  | .local _ .vmem, ⟨0, _⟩ => ⟨S256x3072, .bf16⟩
  | .local _ .vmem, ⟨1, _⟩ => ⟨S256x3072, .bf16⟩
  | .local _ .vmem, ⟨2, _⟩ => ⟨S256x3072, .bf16⟩
  | .local _ .vmem, ⟨3, _⟩ => ⟨S256x3072, .bf16⟩
  | .local _ .vmem, ⟨4, _⟩ => ⟨S1x3072, .f32⟩
  | .local _ .vmem, ⟨5, _⟩ => ⟨S1x3072, .f32⟩
  | .local _ .vmem, ⟨6, _⟩ => ⟨S2x1x128, .i32⟩
  | .local _ .vmem, ⟨7, _⟩ => ⟨S2x1x128, .i32⟩
  | .local _ .vmem, ⟨8, _⟩ => ⟨S256x3072, .fp8e4m3⟩
  | .local _ .vmem, ⟨9, _⟩ => ⟨S256x3072, .fp8e4m3⟩
  | .local _ .vmem, ⟨10, _⟩ => ⟨S256x3072, .fp8e4m3⟩
  | .local _ .vmem, ⟨11, _⟩ => ⟨S256x3072, .fp8e4m3⟩
  | .local _ .vmem, ⟨12, _⟩ => ⟨S256x128, .f32⟩
  | .local _ .vmem, ⟨13, _⟩ => ⟨S256x128, .f32⟩
  | .local _ .vmem, ⟨14, _⟩ => ⟨S256x128, .f32⟩
  | .local _ .vmem, ⟨15, _⟩ => ⟨S256x128, .f32⟩
  | .local _ .vmem, ⟨16, _⟩ => ⟨S256x128, .i32⟩
  | .local _ .vmem, ⟨17, _⟩ => ⟨S256x128, .i32⟩
  | _, _ => ⟨S2048x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v3_3 : Ref sig .tc := ⟨.hbm, 11, rfl⟩
abbrev main_v3_4 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x3072 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x3072 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2x1x128 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x3072 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x3072 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x128 .i32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== NormRefIdeal.lean ====
abbrev S2048x3072 : Shape := ⟨2, ![2048, 3072]⟩
abbrev S3072 : Shape := ⟨1, ![3072]⟩
abbrev S2048 : Shape := ⟨1, ![2048]⟩
abbrev S1x3072 : Shape := ⟨2, ![1, 3072]⟩
abbrev S2048x1 : Shape := ⟨2, ![2048, 1]⟩
abbrev S2048x128 : Shape := ⟨2, ![2048, 128]⟩

abbrev nBuf : Space → Nat
  | .hbm => 13
  | .vmem => 10
  | .smem => 0
  | _ => 0

abbrev bufTy : (tb : Table) → Fin (tcTables nBuf tb) → BufTy
  | .hbm, ⟨0, _⟩ => ⟨S2048x3072, .bf16⟩
  | .hbm, ⟨1, _⟩ => ⟨S2048x3072, .bf16⟩
  | .hbm, ⟨2, _⟩ => ⟨S3072, .f32⟩
  | .hbm, ⟨3, _⟩ => ⟨S3072, .f32⟩
  | .hbm, ⟨4, _⟩ => ⟨S2048, .i32⟩
  | .hbm, ⟨5, _⟩ => ⟨S1x3072, .f32⟩
  | .hbm, ⟨6, _⟩ => ⟨S1x3072, .f32⟩
  | .hbm, ⟨7, _⟩ => ⟨S2048x1, .i32⟩
  | .hbm, ⟨8, _⟩ => ⟨S2048x3072, .fp8e4m3⟩
  | .hbm, ⟨9, _⟩ => ⟨S2048x3072, .fp8e4m3⟩
  | .hbm, ⟨10, _⟩ => ⟨S2048x128, .f32⟩
  | .hbm, ⟨11, _⟩ => ⟨S2048x128, .f32⟩
  | .hbm, ⟨12, _⟩ => ⟨S2048x128, .i32⟩
  | .local _ .vmem, ⟨0, _⟩ => ⟨S2048x3072, .bf16⟩
  | .local _ .vmem, ⟨1, _⟩ => ⟨S2048x3072, .bf16⟩
  | .local _ .vmem, ⟨2, _⟩ => ⟨S1x3072, .f32⟩
  | .local _ .vmem, ⟨3, _⟩ => ⟨S1x3072, .f32⟩
  | .local _ .vmem, ⟨4, _⟩ => ⟨S2048x1, .i32⟩
  | .local _ .vmem, ⟨5, _⟩ => ⟨S2048x3072, .fp8e4m3⟩
  | .local _ .vmem, ⟨6, _⟩ => ⟨S2048x3072, .fp8e4m3⟩
  | .local _ .vmem, ⟨7, _⟩ => ⟨S2048x128, .f32⟩
  | .local _ .vmem, ⟨8, _⟩ => ⟨S2048x128, .f32⟩
  | .local _ .vmem, ⟨9, _⟩ => ⟨S2048x128, .i32⟩
  | _, _ => ⟨S2048x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v3_3 : Ref sig .tc := ⟨.hbm, 11, rfl⟩
abbrev main_v3_4 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := .none

abbrev stage0_0 : Fin 1 → Memref sig .tc .vmem S2048x3072 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x3072 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2048x1 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2048x3072 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2048x3072 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2048x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S2048x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S2048x128 .i32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== Bwd.lean ====
abbrev S2048x3072 : Shape := ⟨2, ![2048, 3072]⟩
abbrev S3072 : Shape := ⟨1, ![3072]⟩
abbrev S2048x128 : Shape := ⟨2, ![2048, 128]⟩
abbrev S1x3072 : Shape := ⟨2, ![1, 3072]⟩
abbrev S256x3072 : Shape := ⟨2, ![256, 3072]⟩
abbrev S256x128 : Shape := ⟨2, ![256, 128]⟩
abbrev S256 : Shape := ⟨1, ![256]⟩
abbrev S256x1 : Shape := ⟨2, ![256, 1]⟩

abbrev nBuf : Space → Nat
  | .hbm => 6
  | .vmem => 9
  | .smem => 0
  | _ => 0

abbrev bufTy : (tb : Table) → Fin (tcTables nBuf tb) → BufTy
  | .hbm, ⟨0, _⟩ => ⟨S2048x3072, .f32⟩
  | .hbm, ⟨1, _⟩ => ⟨S2048x3072, .bf16⟩
  | .hbm, ⟨2, _⟩ => ⟨S3072, .f32⟩
  | .hbm, ⟨3, _⟩ => ⟨S2048x128, .f32⟩
  | .hbm, ⟨4, _⟩ => ⟨S1x3072, .f32⟩
  | .hbm, ⟨5, _⟩ => ⟨S2048x3072, .bf16⟩
  | .local _ .vmem, ⟨0, _⟩ => ⟨S256x3072, .f32⟩
  | .local _ .vmem, ⟨1, _⟩ => ⟨S256x3072, .f32⟩
  | .local _ .vmem, ⟨2, _⟩ => ⟨S256x3072, .bf16⟩
  | .local _ .vmem, ⟨3, _⟩ => ⟨S256x3072, .bf16⟩
  | .local _ .vmem, ⟨4, _⟩ => ⟨S1x3072, .f32⟩
  | .local _ .vmem, ⟨5, _⟩ => ⟨S256x128, .f32⟩
  | .local _ .vmem, ⟨6, _⟩ => ⟨S256x128, .f32⟩
  | .local _ .vmem, ⟨7, _⟩ => ⟨S256x3072, .bf16⟩
  | .local _ .vmem, ⟨8, _⟩ => ⟨S256x3072, .bf16⟩
  | _, _ => ⟨S2048x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x3072 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x3072 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x3072 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== BwdRefIdeal.lean ====
abbrev S2048x3072 : Shape := ⟨2, ![2048, 3072]⟩
abbrev S3072 : Shape := ⟨1, ![3072]⟩
abbrev S2048x128 : Shape := ⟨2, ![2048, 128]⟩
abbrev S_ : Shape := ⟨0, ![]⟩
abbrev S2048 : Shape := ⟨1, ![2048]⟩
abbrev S2048x1 : Shape := ⟨2, ![2048, 1]⟩
abbrev S1x3072 : Shape := ⟨2, ![1, 3072]⟩

abbrev nBuf : Space → Nat
  | .hbm => 42
  | .vmem => 0
  | .smem => 0
  | _ => 0

abbrev bufTy : (tb : Table) → Fin (tcTables nBuf tb) → BufTy
  | .hbm, ⟨0, _⟩ => ⟨S2048x3072, .f32⟩
  | .hbm, ⟨1, _⟩ => ⟨S2048x3072, .bf16⟩
  | .hbm, ⟨2, _⟩ => ⟨S3072, .f32⟩
  | .hbm, ⟨3, _⟩ => ⟨S2048x128, .f32⟩
  | .hbm, ⟨4, _⟩ => ⟨S2048x3072, .f32⟩
  | .hbm, ⟨5, _⟩ => ⟨S2048x3072, .f32⟩
  | .hbm, ⟨6, _⟩ => ⟨S_, .f32⟩
  | .hbm, ⟨7, _⟩ => ⟨S2048, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S_, .f32⟩
  | .hbm, ⟨17, _⟩ => ⟨S2048x1, .f32⟩
  | .hbm, ⟨18, _⟩ => ⟨S2048x1, .f32⟩
  | .hbm, ⟨19, _⟩ => ⟨S2048x1, .f32⟩
  | .hbm, ⟨20, _⟩ => ⟨S2048x3072, .f32⟩
  | .hbm, ⟨21, _⟩ => ⟨S2048x3072, .f32⟩
  | .hbm, ⟨22, _⟩ => ⟨S1x3072, .f32⟩
  | .hbm, ⟨23, _⟩ => ⟨S2048x3072, .f32⟩
  | .hbm, ⟨24, _⟩ => ⟨S2048x3072, .f32⟩
  | .hbm, ⟨25, _⟩ => ⟨S2048x3072, .f32⟩
  | .hbm, ⟨26, _⟩ => ⟨S2048x3072, .f32⟩
  | .hbm, ⟨27, _⟩ => ⟨S2048x1, .f32⟩
  | .hbm, ⟨28, _⟩ => ⟨S2048x1, .f32⟩
  | .hbm, ⟨29, _⟩ => ⟨S2048x3072, .f32⟩
  | .hbm, ⟨30, _⟩ => ⟨S2048x3072, .f32⟩
  | .hbm, ⟨31, _⟩ => ⟨S2048x3072, .f32⟩
  | .hbm, ⟨32, _⟩ => ⟨S_, .f32⟩
  | .hbm, ⟨33, _⟩ => ⟨S2048, .f32⟩
  | .hbm, ⟨34, _⟩ => ⟨S2048x1, .f32⟩
  | .hbm, ⟨35, _⟩ => ⟨S_, .f32⟩
  | .hbm, ⟨36, _⟩ => ⟨S2048x1, .f32⟩
  | .hbm, ⟨37, _⟩ => ⟨S2048x1, .f32⟩
  | .hbm, ⟨38, _⟩ => ⟨S2048x3072, .f32⟩
  | .hbm, ⟨39, _⟩ => ⟨S2048x3072, .f32⟩
  | .hbm, ⟨40, _⟩ => ⟨S2048x3072, .f32⟩
  | .hbm, ⟨41, _⟩ => ⟨S2048x3072, .bf16⟩
  | _, _ => ⟨S2048x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_3 : Ref sig .tc := ⟨.hbm, 32, rfl⟩
abbrev main_v24 : Ref sig .tc := ⟨.hbm, 33, rfl⟩
abbrev main_v25 : Ref sig .tc := ⟨.hbm, 34, rfl⟩
abbrev main_cst_4 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩

abbrev nD : Nat := 1
abbrev τ : Topo := Topo.v7x

variable {F : FTy → Type} [FloatOps F]
-- ==== Proof.GradFrame.lean ====
/- The run of the gradient kernel: what its outputs and its carried scratch hold case by case and point by point, the
   proof data, the obligation of the body, the run of the launch and the frame. Taken from the generated frame certificate of
   this program, with one proof replaced (`hout`: the invariant at the last point is opened without evaluating the points). -/
module

public import proofs.«01_k».proof.Proof.Gen.GradIdeal.Frame.RunC
public import Idealize.ShloMosaic.Lib.Claim

@[expose] public section

-- membership in a rectangle of production extents (`View.cover_of_tiled`): the elaborator's structural look
-- recurses once per coordinate of the long axes
set_option maxRecDepth 16384

noncomputable section

namespace Cert.GradIdeal.GradRun

open Cert.GradIdeal Cert.GradIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)
/-- Case A's pieces for output 7 tile its block (8 stores of `S256x768`, checked by the kernel's evaluation: Lib/Ring.lean `Piece.tiledL`, linear in the pieces, through a loop's `@[irreducible]` trip theorem too), so they cover it. -/
theorem cover0_A_7 (c : Dev nD) (i : grid0.Coords) (arg1 : Memref sig .tc .vmem S2048x768 .f32) (harg1 : arg1.IsWhole) (arg2 : Memref sig .tc .vmem S768x3072 .fp8e4m3) (harg2 : arg2.IsWhole) (arg3 : Memref sig .tc .vmem S1x1x768 .f32) (harg3 : arg3.IsWhole) (arg4 : Memref sig .tc .vmem S2048x128 .f32) (harg4 : arg4.IsWhole) (arg5 : Memref sig .tc .vmem S2048x128 .f32) (harg5 : arg5.IsWhole) (arg6 : Memref sig .tc .vmem S2048x128 .f32) (harg6 : arg6.IsWhole) (arg7 : Memref sig .tc .vmem S2048x128 .i32) (harg7 : arg7.IsWhole) (arg8 : Memref sig .tc .vmem S2048x768 .fp8e5m2) (harg8 : arg8.IsWhole) (arg10 : Memref sig .tc .vmem S2048x3072 .f32) (harg10 : arg10.IsWhole) (hc0 : cond0_0 i) (hc1 : ¬cond0_1 i)
    (x0 : Vec F S2048x768 .f32) (x1 : Vec F S768x3072 .fp8e4m3) (x2 : Vec F S1x1x768 .f32) (x3 : Vec F S2048x128 .f32) (x4 : Vec F S2048x128 .f32) (x5 : Vec F S2048x128 .f32) (x6 : Vec F S2048x128 .i32) (fw0 : HbBuf0 (F := F) c hbM0_0) (y : S2048x768.Idx) :
    ∃ pc ∈ (kernelRun0_A c i arg1 harg1 arg2 harg2 arg3 harg3 arg4 harg4 arg5 harg5 arg6 harg6 arg7 harg7 arg8 harg8 arg10 harg10 hc0 hc1 x0 x1 x2 x3 x4 x5 x6 fw0).1, y ∈ pc.1.set :=
  View.cover_of_tiledL (kernelRun0_A c i arg1 harg1 arg2 harg2 arg3 harg3 arg4 harg4 arg5 harg5 arg6 harg6 arg7 harg7 arg8 harg8 arg10 harg10 hc0 hc1 x0 x1 x2 x3 x4 x5 x6 fw0).1 S256x768.size (by sl_kernel_rfl) y

/-- What case A leaves in output 7's staging buffer: its pieces read back over junk. -/
def out0_A_7 (c : Dev nD) (i : grid0.Coords) (arg1 : Memref sig .tc .vmem S2048x768 .f32) (harg1 : arg1.IsWhole) (arg2 : Memref sig .tc .vmem S768x3072 .fp8e4m3) (harg2 : arg2.IsWhole) (arg3 : Memref sig .tc .vmem S1x1x768 .f32) (harg3 : arg3.IsWhole) (arg4 : Memref sig .tc .vmem S2048x128 .f32) (harg4 : arg4.IsWhole) (arg5 : Memref sig .tc .vmem S2048x128 .f32) (harg5 : arg5.IsWhole) (arg6 : Memref sig .tc .vmem S2048x128 .f32) (harg6 : arg6.IsWhole) (arg7 : Memref sig .tc .vmem S2048x128 .i32) (harg7 : arg7.IsWhole) (arg8 : Memref sig .tc .vmem S2048x768 .fp8e5m2) (harg8 : arg8.IsWhole) (arg10 : Memref sig .tc .vmem S2048x3072 .f32) (harg10 : arg10.IsWhole) (hc0 : cond0_0 i) (hc1 : ¬cond0_1 i)
    (x0 : Vec F S2048x768 .f32) (x1 : Vec F S768x3072 .fp8e4m3) (x2 : Vec F S1x1x768 .f32) (x3 : Vec F S2048x128 .f32) (x4 : Vec F S2048x128 .f32) (x5 : Vec F S2048x128 .f32) (x6 : Vec F S2048x128 .i32) (fw0 : HbBuf0 (F := F) c hbM0_0) : Vec F S2048x768 .fp8e5m2 :=
  VO0_7.read (Elt F) (VO0_7.writes (Elt F) VO0_7.junk (kernelRun0_A c i arg1 harg1 arg2 harg2 arg3 harg3 arg4 harg4 arg5 harg5 arg6 harg6 arg7 harg7 arg8 harg8 arg10 harg10 hc0 hc1 x0 x1 x2 x3 x4 x5 x6 fw0).1)

/-- Case A's pieces for scratch `arg10`, which the kernel carries between points, cover it: one of them a store of the WHOLE buffer (Lib/Ring.lean `sl_whole_mem`). -/
theorem scover0_A_0 (c : Dev nD) (i : grid0.Coords) (arg1 : Memref sig .tc .vmem S2048x768 .f32) (harg1 : arg1.IsWhole) (arg2 : Memref sig .tc .vmem S768x3072 .fp8e4m3) (harg2 : arg2.IsWhole) (arg3 : Memref sig .tc .vmem S1x1x768 .f32) (harg3 : arg3.IsWhole) (arg4 : Memref sig .tc .vmem S2048x128 .f32) (harg4 : arg4.IsWhole) (arg5 : Memref sig .tc .vmem S2048x128 .f32) (harg5 : arg5.IsWhole) (arg6 : Memref sig .tc .vmem S2048x128 .f32) (harg6 : arg6.IsWhole) (arg7 : Memref sig .tc .vmem S2048x128 .i32) (harg7 : arg7.IsWhole) (arg8 : Memref sig .tc .vmem S2048x768 .fp8e5m2) (harg8 : arg8.IsWhole) (arg10 : Memref sig .tc .vmem S2048x3072 .f32) (harg10 : arg10.IsWhole) (hc0 : cond0_0 i) (hc1 : ¬cond0_1 i)
    (x0 : Vec F S2048x768 .f32) (x1 : Vec F S768x3072 .fp8e4m3) (x2 : Vec F S1x1x768 .f32) (x3 : Vec F S2048x128 .f32) (x4 : Vec F S2048x128 .f32) (x5 : Vec F S2048x128 .f32) (x6 : Vec F S2048x128 .i32) (fw0 : HbBuf0 (F := F) c hbM0_0) (y : S2048x3072.Idx) :
    ∃ pc ∈ (kernelRun0_A c i arg1 harg1 arg2 harg2 arg3 harg3 arg4 harg4 arg5 harg5 arg6 harg6 arg7 harg7 arg8 harg8 arg10 harg10 hc0 hc1 x0 x1 x2 x3 x4 x5 x6 fw0).2.1, y ∈ pc.1.set :=
  View.cover_of_wholeMem (kernelRun0_A c i arg1 harg1 arg2 harg2 arg3 harg3 arg4 harg4 arg5 harg5 arg6 harg6 arg7 harg7 arg8 harg8 arg10 harg10 hc0 hc1 x0 x1 x2 x3 x4 x5 x6 fw0).2.1 (by sl_whole_mem) y

/-- What case A leaves in scratch `arg10`: its pieces read back over junk. -/
def sout0_A_0 (c : Dev nD) (i : grid0.Coords) (arg1 : Memref sig .tc .vmem S2048x768 .f32) (harg1 : arg1.IsWhole) (arg2 : Memref sig .tc .vmem S768x3072 .fp8e4m3) (harg2 : arg2.IsWhole) (arg3 : Memref sig .tc .vmem S1x1x768 .f32) (harg3 : arg3.IsWhole) (arg4 : Memref sig .tc .vmem S2048x128 .f32) (harg4 : arg4.IsWhole) (arg5 : Memref sig .tc .vmem S2048x128 .f32) (harg5 : arg5.IsWhole) (arg6 : Memref sig .tc .vmem S2048x128 .f32) (harg6 : arg6.IsWhole) (arg7 : Memref sig .tc .vmem S2048x128 .i32) (harg7 : arg7.IsWhole) (arg8 : Memref sig .tc .vmem S2048x768 .fp8e5m2) (harg8 : arg8.IsWhole) (arg10 : Memref sig .tc .vmem S2048x3072 .f32) (harg10 : arg10.IsWhole) (hc0 : cond0_0 i) (hc1 : ¬cond0_1 i)
    (x0 : Vec F S2048x768 .f32) (x1 : Vec F S768x3072 .fp8e4m3) (x2 : Vec F S1x1x768 .f32) (x3 : Vec F S2048x128 .f32) (x4 : Vec F S2048x128 .f32) (x5 : Vec F S2048x128 .f32) (x6 : Vec F S2048x128 .i32) (fw0 : HbBuf0 (F := F) c hbM0_0) : Vec F S2048x3072 .f32 :=
  VS0_0.read (Elt F) (VS0_0.writes (Elt F) VS0_0.junk (kernelRun0_A c i arg1 harg1 arg2 harg2 arg3 harg3 arg4 harg4 arg5 harg5 arg6 harg6 arg7 harg7 arg8 harg8 arg10 harg10 hc0 hc1 x0 x1 x2 x3 x4 x5 x6 fw0).2.1)

/-- Case A copies nothing into `main_v1_1`: it holds the contents it started from (`fw0`), as the run
    hands them back. -/
def hbw0_A_0 (c : Dev nD) (i : grid0.Coords) (arg1 : Memref sig .tc .vmem S2048x768 .f32) (harg1 : arg1.IsWhole) (arg2 : Memref sig .tc .vmem S768x3072 .fp8e4m3) (harg2 : arg2.IsWhole) (arg3 : Memref sig .tc .vmem S1x1x768 .f32) (harg3 : arg3.IsWhole) (arg4 : Memref sig .tc .vmem S2048x128 .f32) (harg4 : arg4.IsWhole) (arg5 : Memref sig .tc .vmem S2048x128 .f32) (harg5 : arg5.IsWhole) (arg6 : Memref sig .tc .vmem S2048x128 .f32) (harg6 : arg6.IsWhole) (arg7 : Memref sig .tc .vmem S2048x128 .i32) (harg7 : arg7.IsWhole) (arg8 : Memref sig .tc .vmem S2048x768 .fp8e5m2) (harg8 : arg8.IsWhole) (arg10 : Memref sig .tc .vmem S2048x3072 .f32) (harg10 : arg10.IsWhole) (hc0 : cond0_0 i) (hc1 : ¬cond0_1 i)
    (x0 : Vec F S2048x768 .f32) (x1 : Vec F S768x3072 .fp8e4m3) (x2 : Vec F S1x1x768 .f32) (x3 : Vec F S2048x128 .f32) (x4 : Vec F S2048x128 .f32) (x5 : Vec F S2048x128 .f32) (x6 : Vec F S2048x128 .i32) (fw0 : HbBuf0 (F := F) c hbM0_0) : HbBuf0 (F := F) c hbM0_0 := (kernelRun0_A c i arg1 harg1 arg2 harg2 arg3 harg3 arg4 harg4 arg5 harg5 arg6 harg6 arg7 harg7 arg8 harg8 arg10 harg10 hc0 hc1 x0 x1 x2 x3 x4 x5 x6 fw0).2.2.1

/-- Case B's pieces for output 7 tile its block (8 stores of `S256x768`, checked by the kernel's evaluation: Lib/Ring.lean `Piece.tiledL`, linear in the pieces, through a loop's `@[irreducible]` trip theorem too), so they cover it. -/
theorem cover0_B_7 (c : Dev nD) (i : grid0.Coords) (arg1 : Memref sig .tc .vmem S2048x768 .f32) (harg1 : arg1.IsWhole) (arg2 : Memref sig .tc .vmem S768x3072 .fp8e4m3) (harg2 : arg2.IsWhole) (arg3 : Memref sig .tc .vmem S1x1x768 .f32) (harg3 : arg3.IsWhole) (arg4 : Memref sig .tc .vmem S2048x128 .f32) (harg4 : arg4.IsWhole) (arg5 : Memref sig .tc .vmem S2048x128 .f32) (harg5 : arg5.IsWhole) (arg6 : Memref sig .tc .vmem S2048x128 .f32) (harg6 : arg6.IsWhole) (arg7 : Memref sig .tc .vmem S2048x128 .i32) (harg7 : arg7.IsWhole) (arg8 : Memref sig .tc .vmem S2048x768 .fp8e5m2) (harg8 : arg8.IsWhole) (arg10 : Memref sig .tc .vmem S2048x3072 .f32) (harg10 : arg10.IsWhole) (hc0 : ¬cond0_0 i) (hc1 : ¬cond0_1 i)
    (x0 : Vec F S2048x768 .f32) (x1 : Vec F S768x3072 .fp8e4m3) (x2 : Vec F S1x1x768 .f32) (x3 : Vec F S2048x128 .f32) (x4 : Vec F S2048x128 .f32) (x5 : Vec F S2048x128 .f32) (x6 : Vec F S2048x128 .i32) (xs0 : Vec F S2048x3072 .f32) (fw0 : HbBuf0 (F := F) c hbM0_0) (y : S2048x768.Idx) :
    ∃ pc ∈ (kernelRun0_B c i arg1 harg1 arg2 harg2 arg3 harg3 arg4 harg4 arg5 harg5 arg6 harg6 arg7 harg7 arg8 harg8 arg10 harg10 hc0 hc1 x0 x1 x2 x3 x4 x5 x6 xs0 fw0).1, y ∈ pc.1.set :=
  View.cover_of_tiledL (kernelRun0_B c i arg1 harg1 arg2 harg2 arg3 harg3 arg4 harg4 arg5 harg5 arg6 harg6 arg7 harg7 arg8 harg8 arg10 harg10 hc0 hc1 x0 x1 x2 x3 x4 x5 x6 xs0 fw0).1 S256x768.size (by sl_kernel_rfl) y

/-- What case B leaves in output 7's staging buffer: its pieces read back over junk. -/
def out0_B_7 (c : Dev nD) (i : grid0.Coords) (arg1 : Memref sig .tc .vmem S2048x768 .f32) (harg1 : arg1.IsWhole) (arg2 : Memref sig .tc .vmem S768x3072 .fp8e4m3) (harg2 : arg2.IsWhole) (arg3 : Memref sig .tc .vmem S1x1x768 .f32) (harg3 : arg3.IsWhole) (arg4 : Memref sig .tc .vmem S2048x128 .f32) (harg4 : arg4.IsWhole) (arg5 : Memref sig .tc .vmem S2048x128 .f32) (harg5 : arg5.IsWhole) (arg6 : Memref sig .tc .vmem S2048x128 .f32) (harg6 : arg6.IsWhole) (arg7 : Memref sig .tc .vmem S2048x128 .i32) (harg7 : arg7.IsWhole) (arg8 : Memref sig .tc .vmem S2048x768 .fp8e5m2) (harg8 : arg8.IsWhole) (arg10 : Memref sig .tc .vmem S2048x3072 .f32) (harg10 : arg10.IsWhole) (hc0 : ¬cond0_0 i) (hc1 : ¬cond0_1 i)
    (x0 : Vec F S2048x768 .f32) (x1 : Vec F S768x3072 .fp8e4m3) (x2 : Vec F S1x1x768 .f32) (x3 : Vec F S2048x128 .f32) (x4 : Vec F S2048x128 .f32) (x5 : Vec F S2048x128 .f32) (x6 : Vec F S2048x128 .i32) (xs0 : Vec F S2048x3072 .f32) (fw0 : HbBuf0 (F := F) c hbM0_0) : Vec F S2048x768 .fp8e5m2 :=
  VO0_7.read (Elt F) (VO0_7.writes (Elt F) VO0_7.junk (kernelRun0_B c i arg1 harg1 arg2 harg2 arg3 harg3 arg4 harg4 arg5 harg5 arg6 harg6 arg7 harg7 arg8 harg8 arg10 harg10 hc0 hc1 x0 x1 x2 x3 x4 x5 x6 xs0 fw0).1)

/-- Case B's pieces for scratch `arg10`, which the kernel carries between points, cover it: 8 pieces of `S256x3072` tiling it (Lib/Ring.lean `Piece.tiledL`). -/
theorem scover0_B_0 (c : Dev nD) (i : grid0.Coords) (arg1 : Memref sig .tc .vmem S2048x768 .f32) (harg1 : arg1.IsWhole) (arg2 : Memref sig .tc .vmem S768x3072 .fp8e4m3) (harg2 : arg2.IsWhole) (arg3 : Memref sig .tc .vmem S1x1x768 .f32) (harg3 : arg3.IsWhole) (arg4 : Memref sig .tc .vmem S2048x128 .f32) (harg4 : arg4.IsWhole) (arg5 : Memref sig .tc .vmem S2048x128 .f32) (harg5 : arg5.IsWhole) (arg6 : Memref sig .tc .vmem S2048x128 .f32) (harg6 : arg6.IsWhole) (arg7 : Memref sig .tc .vmem S2048x128 .i32) (harg7 : arg7.IsWhole) (arg8 : Memref sig .tc .vmem S2048x768 .fp8e5m2) (harg8 : arg8.IsWhole) (arg10 : Memref sig .tc .vmem S2048x3072 .f32) (harg10 : arg10.IsWhole) (hc0 : ¬cond0_0 i) (hc1 : ¬cond0_1 i)
    (x0 : Vec F S2048x768 .f32) (x1 : Vec F S768x3072 .fp8e4m3) (x2 : Vec F S1x1x768 .f32) (x3 : Vec F S2048x128 .f32) (x4 : Vec F S2048x128 .f32) (x5 : Vec F S2048x128 .f32) (x6 : Vec F S2048x128 .i32) (xs0 : Vec F S2048x3072 .f32) (fw0 : HbBuf0 (F := F) c hbM0_0) (y : S2048x3072.Idx) :
    ∃ pc ∈ (kernelRun0_B c i arg1 harg1 arg2 harg2 arg3 harg3 arg4 harg4 arg5 harg5 arg6 harg6 arg7 harg7 arg8 harg8 arg10 harg10 hc0 hc1 x0 x1 x2 x3 x4 x5 x6 xs0 fw0).2.1, y ∈ pc.1.set :=
  View.cover_of_tiledL (kernelRun0_B c i arg1 harg1 arg2 harg2 arg3 harg3 arg4 harg4 arg5 harg5 arg6 harg6 arg7 harg7 arg8 harg8 arg10 harg10 hc0 hc1 x0 x1 x2 x3 x4 x5 x6 xs0 fw0).2.1 S256x3072.size (by sl_kernel_rfl) y

/-- What case B leaves in scratch `arg10`: its pieces read back over junk. -/
def sout0_B_0 (c : Dev nD) (i : grid0.Coords) (arg1 : Memref sig .tc .vmem S2048x768 .f32) (harg1 : arg1.IsWhole) (arg2 : Memref sig .tc .vmem S768x3072 .fp8e4m3) (harg2 : arg2.IsWhole) (arg3 : Memref sig .tc .vmem S1x1x768 .f32) (harg3 : arg3.IsWhole) (arg4 : Memref sig .tc .vmem S2048x128 .f32) (harg4 : arg4.IsWhole) (arg5 : Memref sig .tc .vmem S2048x128 .f32) (harg5 : arg5.IsWhole) (arg6 : Memref sig .tc .vmem S2048x128 .f32) (harg6 : arg6.IsWhole) (arg7 : Memref sig .tc .vmem S2048x128 .i32) (harg7 : arg7.IsWhole) (arg8 : Memref sig .tc .vmem S2048x768 .fp8e5m2) (harg8 : arg8.IsWhole) (arg10 : Memref sig .tc .vmem S2048x3072 .f32) (harg10 : arg10.IsWhole) (hc0 : ¬cond0_0 i) (hc1 : ¬cond0_1 i)
    (x0 : Vec F S2048x768 .f32) (x1 : Vec F S768x3072 .fp8e4m3) (x2 : Vec F S1x1x768 .f32) (x3 : Vec F S2048x128 .f32) (x4 : Vec F S2048x128 .f32) (x5 : Vec F S2048x128 .f32) (x6 : Vec F S2048x128 .i32) (xs0 : Vec F S2048x3072 .f32) (fw0 : HbBuf0 (F := F) c hbM0_0) : Vec F S2048x3072 .f32 :=
  VS0_0.read (Elt F) (VS0_0.writes (Elt F) VS0_0.junk (kernelRun0_B c i arg1 harg1 arg2 harg2 arg3 harg3 arg4 harg4 arg5 harg5 arg6 harg6 arg7 harg7 arg8 harg8 arg10 harg10 hc0 hc1 x0 x1 x2 x3 x4 x5 x6 xs0 fw0).2.1)

/-- Case B copies nothing into `main_v1_1`: it holds the contents it started from (`fw0`), as the run
    hands them back. -/
def hbw0_B_0 (c : Dev nD) (i : grid0.Coords) (arg1 : Memref sig .tc .vmem S2048x768 .f32) (harg1 : arg1.IsWhole) (arg2 : Memref sig .tc .vmem S768x3072 .fp8e4m3) (harg2 : arg2.IsWhole) (arg3 : Memref sig .tc .vmem S1x1x768 .f32) (harg3 : arg3.IsWhole) (arg4 : Memref sig .tc .vmem S2048x128 .f32) (harg4 : arg4.IsWhole) (arg5 : Memref sig .tc .vmem S2048x128 .f32) (harg5 : arg5.IsWhole) (arg6 : Memref sig .tc .vmem S2048x128 .f32) (harg6 : arg6.IsWhole) (arg7 : Memref sig .tc .vmem S2048x128 .i32) (harg7 : arg7.IsWhole) (arg8 : Memref sig .tc .vmem S2048x768 .fp8e5m2) (harg8 : arg8.IsWhole) (arg10 : Memref sig .tc .vmem S2048x3072 .f32) (harg10 : arg10.IsWhole) (hc0 : ¬cond0_0 i) (hc1 : ¬cond0_1 i)
    (x0 : Vec F S2048x768 .f32) (x1 : Vec F S768x3072 .fp8e4m3) (x2 : Vec F S1x1x768 .f32) (x3 : Vec F S2048x128 .f32) (x4 : Vec F S2048x128 .f32) (x5 : Vec F S2048x128 .f32) (x6 : Vec F S2048x128 .i32) (xs0 : Vec F S2048x3072 .f32) (fw0 : HbBuf0 (F := F) c hbM0_0) : HbBuf0 (F := F) c hbM0_0 := (kernelRun0_B c i arg1 harg1 arg2 harg2 arg3 harg3 arg4 harg4 arg5 harg5 arg6 harg6 arg7 harg7 arg8 harg8 arg10 harg10 hc0 hc1 x0 x1 x2 x3 x4 x5 x6 xs0 fw0).2.2.1

/-- Case C's pieces for output 7 tile its block (8 stores of `S256x768`, checked by the kernel's evaluation: Lib/Ring.lean `Piece.tiledL`, linear in the pieces, through a loop's `@[irreducible]` trip theorem too), so they cover it. -/
theorem cover0_C_7 (c : Dev nD) (i : grid0.Coords) (arg1 : Memref sig .tc .vmem S2048x768 .f32) (harg1 : arg1.IsWhole) (arg2 : Memref sig .tc .vmem S768x3072 .fp8e4m3) (harg2 : arg2.IsWhole) (arg3 : Memref sig .tc .vmem S1x1x768 .f32) (harg3 : arg3.IsWhole) (arg4 : Memref sig .tc .vmem S2048x128 .f32) (harg4 : arg4.IsWhole) (arg5 : Memref sig .tc .vmem S2048x128 .f32) (harg5 : arg5.IsWhole) (arg6 : Memref sig .tc .vmem S2048x128 .f32) (harg6 : arg6.IsWhole) (arg7 : Memref sig .tc .vmem S2048x128 .i32) (harg7 : arg7.IsWhole) (arg8 : Memref sig .tc .vmem S2048x768 .fp8e5m2) (harg8 : arg8.IsWhole) (arg10 : Memref sig .tc .vmem S2048x3072 .f32) (harg10 : arg10.IsWhole) (hc0 : ¬cond0_0 i) (hc1 : cond0_1 i)
    (x0 : Vec F S2048x768 .f32) (x1 : Vec F S768x3072 .fp8e4m3) (x2 : Vec F S1x1x768 .f32) (x3 : Vec F S2048x128 .f32) (x4 : Vec F S2048x128 .f32) (x5 : Vec F S2048x128 .f32) (x6 : Vec F S2048x128 .i32) (xs0 : Vec F S2048x3072 .f32) (fw0 : HbBuf0 (F := F) c hbM0_0) (y : S2048x768.Idx) :
    ∃ pc ∈ (kernelRun0_C c i arg1 harg1 arg2 harg2 arg3 harg3 arg4 harg4 arg5 harg5 arg6 harg6 arg7 harg7 arg8 harg8 arg10 harg10 hc0 hc1 x0 x1 x2 x3 x4 x5 x6 xs0 fw0).1, y ∈ pc.1.set :=
  View.cover_of_tiledL (kernelRun0_C c i arg1 harg1 arg2 harg2 arg3 harg3 arg4 harg4 arg5 harg5 arg6 harg6 arg7 harg7 arg8 harg8 arg10 harg10 hc0 hc1 x0 x1 x2 x3 x4 x5 x6 xs0 fw0).1 S256x768.size (by sl_kernel_rfl) y

/-- What case C leaves in output 7's staging buffer: its pieces read back over junk. -/
def out0_C_7 (c : Dev nD) (i : grid0.Coords) (arg1 : Memref sig .tc .vmem S2048x768 .f32) (harg1 : arg1.IsWhole) (arg2 : Memref sig .tc .vmem S768x3072 .fp8e4m3) (harg2 : arg2.IsWhole) (arg3 : Memref sig .tc .vmem S1x1x768 .f32) (harg3 : arg3.IsWhole) (arg4 : Memref sig .tc .vmem S2048x128 .f32) (harg4 : arg4.IsWhole) (arg5 : Memref sig .tc .vmem S2048x128 .f32) (harg5 : arg5.IsWhole) (arg6 : Memref sig .tc .vmem S2048x128 .f32) (harg6 : arg6.IsWhole) (arg7 : Memref sig .tc .vmem S2048x128 .i32) (harg7 : arg7.IsWhole) (arg8 : Memref sig .tc .vmem S2048x768 .fp8e5m2) (harg8 : arg8.IsWhole) (arg10 : Memref sig .tc .vmem S2048x3072 .f32) (harg10 : arg10.IsWhole) (hc0 : ¬cond0_0 i) (hc1 : cond0_1 i)
    (x0 : Vec F S2048x768 .f32) (x1 : Vec F S768x3072 .fp8e4m3) (x2 : Vec F S1x1x768 .f32) (x3 : Vec F S2048x128 .f32) (x4 : Vec F S2048x128 .f32) (x5 : Vec F S2048x128 .f32) (x6 : Vec F S2048x128 .i32) (xs0 : Vec F S2048x3072 .f32) (fw0 : HbBuf0 (F := F) c hbM0_0) : Vec F S2048x768 .fp8e5m2 :=
  VO0_7.read (Elt F) (VO0_7.writes (Elt F) VO0_7.junk (kernelRun0_C c i arg1 harg1 arg2 harg2 arg3 harg3 arg4 harg4 arg5 harg5 arg6 harg6 arg7 harg7 arg8 harg8 arg10 harg10 hc0 hc1 x0 x1 x2 x3 x4 x5 x6 xs0 fw0).1)

/-- Case C's pieces for scratch `arg10`, which the kernel carries between points, cover it: 8 pieces of `S256x3072` tiling it (Lib/Ring.lean `Piece.tiledL`). -/
theorem scover0_C_0 (c : Dev nD) (i : grid0.Coords) (arg1 : Memref sig .tc .vmem S2048x768 .f32) (harg1 : arg1.IsWhole) (arg2 : Memref sig .tc .vmem S768x3072 .fp8e4m3) (harg2 : arg2.IsWhole) (arg3 : Memref sig .tc .vmem S1x1x768 .f32) (harg3 : arg3.IsWhole) (arg4 : Memref sig .tc .vmem S2048x128 .f32) (harg4 : arg4.IsWhole) (arg5 : Memref sig .tc .vmem S2048x128 .f32) (harg5 : arg5.IsWhole) (arg6 : Memref sig .tc .vmem S2048x128 .f32) (harg6 : arg6.IsWhole) (arg7 : Memref sig .tc .vmem S2048x128 .i32) (harg7 : arg7.IsWhole) (arg8 : Memref sig .tc .vmem S2048x768 .fp8e5m2) (harg8 : arg8.IsWhole) (arg10 : Memref sig .tc .vmem S2048x3072 .f32) (harg10 : arg10.IsWhole) (hc0 : ¬cond0_0 i) (hc1 : cond0_1 i)
    (x0 : Vec F S2048x768 .f32) (x1 : Vec F S768x3072 .fp8e4m3) (x2 : Vec F S1x1x768 .f32) (x3 : Vec F S2048x128 .f32) (x4 : Vec F S2048x128 .f32) (x5 : Vec F S2048x128 .f32) (x6 : Vec F S2048x128 .i32) (xs0 : Vec F S2048x3072 .f32) (fw0 : HbBuf0 (F := F) c hbM0_0) (y : S2048x3072.Idx) :
    ∃ pc ∈ (kernelRun0_C c i arg1 harg1 arg2 harg2 arg3 harg3 arg4 harg4 arg5 harg5 arg6 harg6 arg7 harg7 arg8 harg8 arg10 harg10 hc0 hc1 x0 x1 x2 x3 x4 x5 x6 xs0 fw0).2.1, y ∈ pc.1.set :=
  View.cover_of_tiledL (kernelRun0_C c i arg1 harg1 arg2 harg2 arg3 harg3 arg4 harg4 arg5 harg5 arg6 harg6 arg7 harg7 arg8 harg8 arg10 harg10 hc0 hc1 x0 x1 x2 x3 x4 x5 x6 xs0 fw0).2.1 S256x3072.size (by sl_kernel_rfl) y

/-- What case C leaves in scratch `arg10`: its pieces read back over junk. -/
def sout0_C_0 (c : Dev nD) (i : grid0.Coords) (arg1 : Memref sig .tc .vmem S2048x768 .f32) (harg1 : arg1.IsWhole) (arg2 : Memref sig .tc .vmem S768x3072 .fp8e4m3) (harg2 : arg2.IsWhole) (arg3 : Memref sig .tc .vmem S1x1x768 .f32) (harg3 : arg3.IsWhole) (arg4 : Memref sig .tc .vmem S2048x128 .f32) (harg4 : arg4.IsWhole) (arg5 : Memref sig .tc .vmem S2048x128 .f32) (harg5 : arg5.IsWhole) (arg6 : Memref sig .tc .vmem S2048x128 .f32) (harg6 : arg6.IsWhole) (arg7 : Memref sig .tc .vmem S2048x128 .i32) (harg7 : arg7.IsWhole) (arg8 : Memref sig .tc .vmem S2048x768 .fp8e5m2) (harg8 : arg8.IsWhole) (arg10 : Memref sig .tc .vmem S2048x3072 .f32) (harg10 : arg10.IsWhole) (hc0 : ¬cond0_0 i) (hc1 : cond0_1 i)
    (x0 : Vec F S2048x768 .f32) (x1 : Vec F S768x3072 .fp8e4m3) (x2 : Vec F S1x1x768 .f32) (x3 : Vec F S2048x128 .f32) (x4 : Vec F S2048x128 .f32) (x5 : Vec F S2048x128 .f32) (x6 : Vec F S2048x128 .i32) (xs0 : Vec F S2048x3072 .f32) (fw0 : HbBuf0 (F := F) c hbM0_0) : Vec F S2048x3072 .f32 :=
  VS0_0.read (Elt F) (VS0_0.writes (Elt F) VS0_0.junk (kernelRun0_C c i arg1 harg1 arg2 harg2 arg3 harg3 arg4 harg4 arg5 harg5 arg6 harg6 arg7 harg7 arg8 harg8 arg10 harg10 hc0 hc1 x0 x1 x2 x3 x4 x5 x6 xs0 fw0).2.1)

/-- What case C leaves in `main_v1_1`, the result left in HBM its copies out of scratch write: the contents
    it started from (`fw0`: what the point before left there, at the first point the launch's) with those copies written over
    them — the contents term the run finds, its witness. -/
def hbw0_C_0 (c : Dev nD) (i : grid0.Coords) (arg1 : Memref sig .tc .vmem S2048x768 .f32) (harg1 : arg1.IsWhole) (arg2 : Memref sig .tc .vmem S768x3072 .fp8e4m3) (harg2 : arg2.IsWhole) (arg3 : Memref sig .tc .vmem S1x1x768 .f32) (harg3 : arg3.IsWhole) (arg4 : Memref sig .tc .vmem S2048x128 .f32) (harg4 : arg4.IsWhole) (arg5 : Memref sig .tc .vmem S2048x128 .f32) (harg5 : arg5.IsWhole) (arg6 : Memref sig .tc .vmem S2048x128 .f32) (harg6 : arg6.IsWhole) (arg7 : Memref sig .tc .vmem S2048x128 .i32) (harg7 : arg7.IsWhole) (arg8 : Memref sig .tc .vmem S2048x768 .fp8e5m2) (harg8 : arg8.IsWhole) (arg10 : Memref sig .tc .vmem S2048x3072 .f32) (harg10 : arg10.IsWhole) (hc0 : ¬cond0_0 i) (hc1 : cond0_1 i)
    (x0 : Vec F S2048x768 .f32) (x1 : Vec F S768x3072 .fp8e4m3) (x2 : Vec F S1x1x768 .f32) (x3 : Vec F S2048x128 .f32) (x4 : Vec F S2048x128 .f32) (x5 : Vec F S2048x128 .f32) (x6 : Vec F S2048x128 .i32) (xs0 : Vec F S2048x3072 .f32) (fw0 : HbBuf0 (F := F) c hbM0_0) : HbBuf0 (F := F) c hbM0_0 := (kernelRun0_C c i arg1 harg1 arg2 harg2 arg3 harg3 arg4 harg4 arg5 harg5 arg6 harg6 arg7 harg7 arg8 harg8 arg10 harg10 hc0 hc1 x0 x1 x2 x3 x4 x5 x6 xs0 fw0).2.2.1

/-! ## What the outputs hold after each point -/

/-- THE ACCUMULATION. What the outputs' staging buffers and the scratch the kernel carries between points and the results its copies out write hold after the body at position `n` (a tuple: the outputs in window order, then the scratch, then the results held by value):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S2048x768 .fp8e5m2 × Vec F S2048x3072 .f32 × HbBuf0 (F := F) c hbM0_0
  | 0, hn => (out0_A_7 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (V m c main_v1_1), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (V m c main_v1_1), hbw0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (V m c main_v1_1))
  | n + 1, hn =>
    if h0 : (n + 1) % 167 = 0 then
      if h1 : (n + 1) % 167 = 166 then
        False.elim (by have hN : n + 1 < 167 := lt_of_lt_of_eq hn (show cfg0.N = 167 from N_0); omega)
      else
        (out0_A_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (V m c main_v1_1), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (V m c main_v1_1), hbw0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (V m c main_v1_1))
    else
      if h1 : (n + 1) % 167 = 166 then
        (out0_C_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt0 c n (Nat.lt_of_succ_lt hn)).2.1 (outsAt0 c n (Nat.lt_of_succ_lt hn)).2.2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt0 c n (Nat.lt_of_succ_lt hn)).2.1 (outsAt0 c n (Nat.lt_of_succ_lt hn)).2.2, hbw0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt0 c n (Nat.lt_of_succ_lt hn)).2.1 (outsAt0 c n (Nat.lt_of_succ_lt hn)).2.2)
      else
        (out0_B_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt0 c n (Nat.lt_of_succ_lt hn)).2.1 (outsAt0 c n (Nat.lt_of_succ_lt hn)).2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt0 c n (Nat.lt_of_succ_lt hn)).2.1 (outsAt0 c n (Nat.lt_of_succ_lt hn)).2.2, hbw0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt0 c n (Nat.lt_of_succ_lt hn)).2.1 (outsAt0 c n (Nat.lt_of_succ_lt hn)).2.2)

/-- `outsAt0` at a point of case A: that case's contents. -/
theorem outsAt0_A (c : Dev nD) (t : Fin cfg0.N) (h0 : t.val % 167 = 0) (h1 : ¬t.val % 167 = 166) :
    outsAt0 m c t.val t.isLt = (out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (V m c main_v1_1), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (V m c main_v1_1), hbw0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (V m c main_v1_1)) := by
  obtain ⟨n, hn⟩ := t
  cases n with
  | zero => exact rfl
  | succ n => exact (dif_pos h0).trans ((dif_neg h1).trans rfl)

/-- `outsAt0` at a point of case B: that case's contents, over what the point before left. -/
theorem outsAt0_B (c : Dev nD) (t : Fin cfg0.N) (h0 : ¬t.val % 167 = 0) (h1 : ¬t.val % 167 = 166) :
    outsAt0 m c t.val t.isLt = (out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.1 (outsAt0 m c (t.val - 1) (Nat.lt_of_le_of_lt (Nat.sub_le _ _) t.isLt)).2.2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.1 (outsAt0 m c (t.val - 1) (Nat.lt_of_le_of_lt (Nat.sub_le _ _) t.isLt)).2.2, hbw0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.1 (outsAt0 m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

/-- `outsAt0` at a point of case C: that case's contents, over what the point before left. -/
theorem outsAt0_C (c : Dev nD) (t : Fin cfg0.N) (h0 : ¬t.val % 167 = 0) (h1 : t.val % 167 = 166) :
    outsAt0 m c t.val t.isLt = (out0_C_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.1 (outsAt0 m c (t.val - 1) (Nat.lt_of_le_of_lt (Nat.sub_le _ _) t.isLt)).2.2, sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.1 (outsAt0 m c (t.val - 1) (Nat.lt_of_le_of_lt (Nat.sub_le _ _) t.isLt)).2.2, hbw0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.1 (outsAt0 m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-- The region invariant before position `n` with a scratch the kernel CARRIES between points: before the first point the
    launch's invariant (Lib/Pipeline/FrameValue.lean `ΦDRG`: every scratch at anything, the own cells at zero, the HBM operands read, those written at their launch contents, the generator register); afterwards the same with each carried
    scratch at what the point before left in it (`outsAt0`'s scratch components) and each result held by value at its `outsAt0` component, the others at anything. -/
def PhiS (c : Dev nD) : (n : ℕ) → n ≤ cfg0.N → sProp 𝕄
  | 0, _ => Pipeline.ΦDRG osem0 spec0 H0 R0 (V m) (V m) c
  | n + 1, hn => iprop(iprop(owns (c : Thread nD τ) scM0_0 fullShare ((outsAt0 m c n hn).2.1)) ∗ (∃ r, prngReg c r) ∗ iprop(semVal ((c : Thread nD τ), SemLoc.dma 12) 0) ∗ iprop(emp) ∗ iprop(hbPt0 c hbM0_0 ((outsAt0 m c n hn).2.2)))

theorem PhiS_zero (c : Dev nD) (n : ℕ) (h : n ≤ cfg0.N) (hz : n = 0) : PhiS m c n h = Pipeline.ΦDRG osem0 spec0 H0 R0 (V m) (V m) c := by
  subst hz; rfl

/-- After point `n` (before point `n + 1`): the carried scratch and each result held by value at that point's contents. -/
theorem PhiS_succ (c : Dev nD) (n : ℕ) (hn : n < cfg0.N) :
    PhiS m c (n + 1) hn = iprop(iprop(owns (c : Thread nD τ) scM0_0 fullShare ((outsAt0 m c n hn).2.1)) ∗ (∃ r, prngReg c r) ∗ iprop(semVal ((c : Thread nD τ), SemLoc.dma 12) 0) ∗ iprop(emp) ∗ iprop(hbPt0 c hbM0_0 ((outsAt0 m c n hn).2.2))) := rfl

/-- Before a point that is not the first: the carried scratch and each result held by value at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2.1)) ∗ (∃ r, prngReg c r) ∗ iprop(semVal ((c : Thread nD τ), SemLoc.dma 12) 0) ∗ iprop(emp) ∗ iprop(hbPt0 c hbM0_0 ((outsAt0 m c (n - 1) (by omega)).2.2))) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant
    (`PhiS`: Lib/Pipeline/FrameValue.lean `ΦDRG` before the first point — the scoped rest, the generator register, the own cells at zero,
    the HBM operands read and those written at their launch contents —, then the same with each written operand and each carried scratch
    at `outsAt0`'s component for the point before); nothing owed; full shares. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => (outsAt0 m c t.val t.isLt).1
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = (outsAt0 m c t.val t.isLt).1 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t))

set_option maxHeartbeats 9600000 in
/-- The body at any point: the inputs' memrefs hold their blocks (`before0_W`); the closed forms say which case the point is in (`by_cases`), an output the case reads before covering holds what the point before left (`before0_W_κ`); so the
    run applies; the invariant hands the body the carried scratch and each result its copies out write at what the point before left (`PhiS_pos`; at the first point the scratch at anything and the result at its launch contents, `PhiS_zero` opened by `PhiDRG0_in_eq`), the other scratch at anything, the register, its DMA cells at zero and the HBM operands it reads, and takes both back at this point's contents (`PhiS_succ`: a written result as the run's witness `hbw0_κ_N`, the scratch by `scover0_κ_N`), the rest as they were; the core's `owes` goes in at whatever the points before recorded and comes back with this point's waits, within the next point's bound (everything). -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).Φ t.succ = PhiS m c (t.val + 1) t.isLt from rfl, PhiS_succ,
    after0_0, after0_1, after0_2, after0_3, after0_4, after0_5, after0_6, after0_7]
  unfold Dat.owesAt Pipeline.owesWithin
  rw [show (dats m 0 c).owed t.castSucc = 0 from rfl, show (dats m 0 c).owed t.succ = 0 from rfl]
  have hN : t.val < 167 := lt_of_lt_of_eq t.isLt (show cfg0.N = 167 from N_0)
  by_cases h0 : t.val % 167 = 0
  · by_cases h1 : t.val % 167 = 166
    · exfalso; omega
    · by_cases hz : t.val = 0
      · rw [PhiS_castSucc m c t, PhiS_zero m c _ _ hz, PhiDRG0_in_eq]
        rw [outsAt0_A m c t h0 h1]
        unfold out0_A_7 sout0_A_0 hbw0_A_0; (try dsimp only)
        iintro ⟨⟨HS0, Hg, Hq0, -, Hh0⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun0_A c (grid0.coords t) _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t) (iblk m c 6 t) _).2.2.2 W _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexists _; iexact H7
        isplitl [HS0]; · iexact HS0
        isplitl [Hq0]; · iexact Hq0
        isplitl [Hh0]; · iexact Hh0
        isplitl [HW]; · iexact HW
        iintro ⟨H0, H1, H2, H3, H4, H5, H6, ⟨%e7, H7⟩, ⟨%es0, HS0⟩, Hq0, Hh0, ⟨%W', HW'⟩⟩
        isplitl [HS0 Hg Hq0 Hh0]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _ _ _ _ _ _)
          isplitl [Hg]
          · iexact Hg
          isplitl [Hq0]
          · iexact Hq0
          isplitr; · iempintro
          iexact Hh0
        isplitl [HW']
        · iexists W'; isplitr; · ipureintro; exact fun _ _ => Or.inl trivial
          iexact HW'
        isplitl [H0]; · iexact H0
        isplitl [H1]; · iexact H1
        isplitl [H2]; · iexact H2
        isplitl [H3]; · iexact H3
        isplitl [H4]; · iexact H4
        isplitl [H5]; · iexact H5
        isplitl [H6]; · iexact H6
        unfold owns; iexists _; isplitr
        swap; · iexact H7
        ipureintro; exact View.read_writes_of_cover _ _ _ _ _ (cover0_A_7 c _ _ _ _ _ _ _ _ _ _ _ _ _ _ _ _ _ _ _ _ _ _ _ _ _ _ _ _ _)
      · exfalso; have hN : t.val < 167 := lt_of_lt_of_eq t.isLt (show cfg0.N = 167 from N_0); omega
  · by_cases h1 : t.val % 167 = 166
    · by_cases hz : t.val = 0
      · exfalso; have hN : t.val < 167 := lt_of_lt_of_eq t.isLt (show cfg0.N = 167 from N_0); omega
      · rw [PhiS_castSucc m c t, PhiS_pos m c _ _ hz]
        rw [outsAt0_C m c t h0 h1]
        unfold out0_C_7 sout0_C_0 hbw0_C_0; (try dsimp only)
        iintro ⟨⟨HS0, Hg, Hq0, -, Hh0⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun0_C c (grid0.coords t) _ _ _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) (iblk m c 5 t) (iblk m c 6 t) _ _).2.2.2 W _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexists _; iexact H7
        isplitl [HS0]; · iexact HS0
        isplitl [Hq0]; · iexact Hq0
        isplitl [Hh0]; · iexact Hh0
        isplitl [HW]; · iexact HW
        iintro ⟨H0, H1, H2, H3, H4, H5, H6, ⟨%e7, H7⟩, ⟨%es0, HS0⟩, Hq0, Hh0, ⟨%W', HW'⟩⟩
        isplitl [HS0 Hg Hq0 Hh0]
        · isplitl [HS0]
          · unfold owns; iexists _; isplitr
            swap; · iexact HS0
            ipureintro; exact View.read_writes_of_cover _ _ _ _ _ (scover0_C_0 c _ _ _ _ _ _ _ _ _ _ _ _ _ _ _ _ _ _ _ _ _ _ _ _ _ _ _ _ _ _)
          isplitl [Hg]
          · iexact Hg
          isplitl [Hq0]
          · iexact Hq0
          isplitr; · iempintro
          iexact Hh0
        isplitl [HW']
        · iexists W'; isplitr; · ipureintro; exact fun _ _ => Or.inl trivial
          iexact HW'
        isplitl [H0]; · iexact H0
        isplitl [H1]; · iexact H1
        isplitl [H2]; · iexact H2
        isplitl [H3]; · iexact H3
        isplitl [H4]; · iexact H4
        isplitl [H5]; · iexact H5
        isplitl [H6]; · iexact H6
        unfold owns; iexists _; isplitr
        swap; · iexact H7
        ipureintro; exact View.read_writes_of_cover _ _ _ _ _ (cover0_C_7 c _ _ _ _ _ _ _ _ _ _ _ _ _ _ _ _ _ _ _ _ _ _ _ _ _ _ _ _ _ _)
    · by_cases hz : t.val = 0
      · exfalso; have hN : t.val < 167 := lt_of_lt_of_eq t.isLt (show cfg0.N = 167 from N_0); omega
      · rw [PhiS_castSucc m c t, PhiS_pos m c _ _ hz]
        rw [outsAt0_B m c t h0 h1]
        unfold out0_B_7 sout0_B_0 hbw0_B_0; (try dsimp only)
        iintro ⟨⟨HS0, Hg, Hq0, -, Hh0⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun0_B c (grid0.coords t) _ _ _ _ _ _ _ _ _ _ _ _ _ _ _ _ _ _ (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) _ _).2.2.2 W _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexists _; iexact H7
        isplitl [HS0]; · iexact HS0
        isplitl [Hq0]; · iexact Hq0
        isplitl [Hh0]; · iexact Hh0
        isplitl [HW]; · iexact HW
        iintro ⟨H0, H1, H2, H3, H4, H5, H6, ⟨%e7, H7⟩, ⟨%es0, HS0⟩, Hq0, Hh0, ⟨%W', HW'⟩⟩
        isplitl [HS0 Hg Hq0 Hh0]
        · isplitl [HS0]
          · unfold owns; iexists _; isplitr
            swap; · iexact HS0
            ipureintro; exact View.read_writes_of_cover _ _ _ _ _ (scover0_B_0 c _ _ _ _ _ _ _ _ _ _ _ _ _ _ _ _ _ _ _ _ _ _ _ _ _ _ _ _ _ _)
          isplitl [Hg]
          · iexact Hg
          isplitl [Hq0]
          · iexact Hq0
          isplitr; · iempintro
          iexact Hh0
        isplitl [HW']
        · iexists W'; isplitr; · ipureintro; exact fun _ _ => Or.inl trivial
          iexact HW'
        isplitl [H0]; · iexact H0
        isplitl [H1]; · iexact H1
        isplitl [H2]; · iexact H2
        isplitl [H3]; · iexact H3
        isplitl [H4]; · iexact H4
        isplitl [H5]; · iexact H5
        isplitl [H6]; · iexact H6
        unfold owns; iexists _; isplitr
        swap; · iexact H7
        ipureintro; exact View.read_writes_of_cover _ _ _ _ _ (cover0_B_7 c _ _ _ _ _ _ _ _ _ _ _ _ _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- The results the body's copies out write, AFTER THE LAST POINT, as a valuation of the unscoped buffers: the launch contents,
    updated at each written operand with `outsAt0`'s component for the last point — what the launch takes back from the region
    (Lib/Pipeline/FrameValue.lean `θ_run_frame_dmaRG`'s `G`) and its post states of them. -/
def hbG0 (k : ℕ) (hk : k < cfg0.N) (c : Dev nD) : (b : Ref sig .tc) → Buf (Elt F) ((c : Thread nD τ).loc b) :=
  Function.update ((V m) c) main_v1_1 (outsAt0 m c k hk).2.2
/-- `hbG0` at `main_v1_1`: `outsAt0`'s component. -/
theorem hbG0_0 (k : ℕ) (hk : k < cfg0.N) (c : Dev nD) : hbG0 m k hk c main_v1_1 = (outsAt0 m c k hk).2.2 := by
  unfold hbG0; simp only [Function.update_self]
/-- The written operands' points-tos after the last point (`Pipeline.routed` at `hbG`), listed: how the launch takes them back. -/
theorem heldG0_eq (k : ℕ) (hk : k < cfg0.N) (c : Dev nD) :
    (Pipeline.routed R0 c (hbG0 m k hk c) : sProp 𝕄) = iprop(hbPt0 c hbM0_0 ((outsAt0 m c k hk).2.2)) := by
  unfold Pipeline.routed; rw [BI.bigSep_eq_bigSepL_of_eq [main_v1_1] (by decide) (by decide)]
  simp only [BI.bigSepL_singleton, hbG0_0]; try rfl
/-- The invariant AFTER THE LAST POINT, `Pipeline.ΦDRG` at the launch contents and `hbG0`, conjunct by conjunct: what the launch takes back. -/
theorem PhiDRG0_out_eq (k : ℕ) (hk : k < cfg0.N) (c : Dev nD) :
    (Pipeline.ΦDRG osem0 spec0 H0 R0 (V m) (hbG0 m k hk) c : sProp 𝕄)
      = iprop(iprop((∃ d, owns (c : Thread nD τ) scM0_0 fullShare d)) ∗ (∃ r, prngReg c r) ∗ iprop(semVal ((c : Thread nD τ), SemLoc.dma 12) 0) ∗ iprop(emp) ∗ iprop(hbPt0 c hbM0_0 ((outsAt0 m c k hk).2.2))) := by
  rw [Pipeline.ΦDRG_eq, scopedRest0_eq, ownSems00_eq, hbmPts0_eq, heldG0_eq]; simp only [scM0_0, owns_whole]; try rfl

/-- What the launch hands the region (`ΦDRG`) is the invariant before the first point. -/
theorem hin (c : Dev nD) : Pipeline.ΦDRG osem0 spec0 H0 R0 (V m) (V m) c ⊢ (dats m 0 c).Φ 0 := by
  rw [show (dats m 0 c).Φ 0 = PhiS m c 0 (Nat.zero_le _) from rfl, PhiS_zero m c 0 _ rfl]
  try exact Idealize.SL.BI.Entails.refl _

/-- The invariant before any point, opened. -/
theorem Phi_eq (c : Dev nD) (t : Fin (cfg0.N + 1)) :
    (dats m 0 c).Φ t = PhiS m c t.val (Nat.le_of_lt_succ t.isLt) := by
  dsimp only [dats]

/-- The invariant after a point, opened. -/
theorem Phi_pos (c : Dev nD) (t : Fin (cfg0.N + 1)) (hz : t.val ≠ 0) :
    (dats m 0 c).Φ t = iprop(iprop(owns (c : Thread nD τ) scM0_0 fullShare ((outsAt0 m c (t.val - 1) (by omega)).2.1)) ∗ (∃ r, prngReg c r) ∗ iprop(semVal ((c : Thread nD τ), SemLoc.dma 12) 0) ∗ iprop(emp) ∗ iprop(hbPt0 c hbM0_0 ((outsAt0 m c (t.val - 1) (by omega)).2.2))) := by
  rw [Phi_eq, PhiS_pos m c _ _ hz]

end Cert.GradIdeal.GradRun

end
-- ==== Proof.GradRun.lean ====
/- The run of the gradient kernel's launch and its frame: every array at what the points leave in it, the arguments unchanged,
   every semaphore counter at zero. -/
module

public import proofs.«01_k».proof.Proof.GradFrame
public import Idealize.ShloMosaic.Lib.Claim

@[expose] public section

-- membership in a rectangle of production extents (`View.cover_of_tiled`): the elaborator's structural look
-- recurses once per coordinate of the long axes
set_option maxRecDepth 16384

noncomputable section

namespace Cert.GradIdeal.GradRun

open Cert.GradIdeal Cert.GradIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The carried scratch's contents are forgotten, the rest stands. -/
theorem forget (c : Dev nD) (X : Vec F S2048x3072 .f32) (Y : HbBuf0 (F := F) c hbM0_0) :
    (iprop(iprop(owns (c : Thread nD τ) scM0_0 fullShare X) ∗ (∃ r, prngReg c r) ∗ iprop(semVal ((c : Thread nD τ), SemLoc.dma 12) 0) ∗ iprop(emp) ∗ iprop(hbPt0 c hbM0_0 Y)) : sProp 𝕄)
      ⊢ iprop(iprop((∃ d, owns (c : Thread nD τ) scM0_0 fullShare d)) ∗ (∃ r, prngReg c r) ∗ iprop(semVal ((c : Thread nD τ), SemLoc.dma 12) 0) ∗ iprop(emp) ∗ iprop(hbPt0 c hbM0_0 Y)) := by
  iintro ⟨HS0, Hg, Hq0, Hh0⟩
  isplitl [HS0]
  · iexists _; iexact HS0
  isplitl [Hg]; · iexact Hg
  isplitl [Hq0]
  · iexact Hq0
  iexact Hh0

/-- An entailment between two sides each equal to what is entailed. -/
theorem entails_of_eqs {A B P Q : sProp 𝕄} (hA : A = P) (hB : B = Q) (h : P ⊢ Q) : A ⊢ B := by
  subst hA hB; exact h

/-- After point `k` the invariant gives `ΦDRG` back with each result the copies out write at what that point left in it (`hbG0`);
    the carried scratch's named contents are forgotten. -/
theorem hout_at (k : ℕ) (hk : k < cfg0.N) (c : Dev nD) (t : Fin (cfg0.N + 1)) (ht : t.val = k + 1) :
    (dats m 0 c).Φ t ⊢ Pipeline.ΦDRG osem0 spec0 H0 R0 (V m) (hbG0 m k hk) c := by
  obtain ⟨n, hn⟩ := t
  obtain rfl : n = k + 1 := ht
  refine entails_of_eqs ?_ (PhiDRG0_out_eq m k hk c) (forget c ((outsAt0 m c k hk).2.1) ((outsAt0 m c k hk).2.2))
  rw [Phi_eq, PhiS_succ]

/-! ## The run and the frame -/

-- `θ_run_frame_dmaRG`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent (k : ℕ) (hk : k < cfg0.N) (hl : cfg0.N = k + 1) : θ_run defs (onTc (τ := τ) (main (F := F))) (s₀ m ρ) (fun r => (Pipeline.FramePostRG cfgs (dats m) 0 R0 (V m) (hbG0 m k hk)) r ∧ r.2.sem = fun _ => 0) :=
  Pipeline.θ_run_frame_dmaRG (Q' := _) cfgs (dats m) (0 : Fin 1) launch0 osem0 defs₀ Variants.none ownSemFacts0 H0 R0 H0_sub R0_sub m ρ main
    (hbody := fun c => (body_obligation m c).loose) (hshare := fun c => (dats m 0 c).share_full fun _ => rfl)
    (howed := fun _ _ => rfl) (V := V m) (hmain := hmain m Variants.none) (hA := A_eq m) (G := hbG0 m k hk)
    (hin := hin m) (hout := fun c => hout_at m k hk c (Fin.last cfg0.N) hl)

/-- At the compiled mesh, for any values, from any memory with zero counters: every weakly fair execution of @main on the
    TensorCores terminates, and every final state has every array of the pipeline at what the library computes from the
    proof data, every result the body's copies out write (`R0`) at what the last point left in it (`hbG0`), and every other unscoped
    buffer at its region-entry contents (Lib/Pipeline/FrameValue.lean `FramePostRG`). -/
theorem run_main (k : ℕ) (hk : k < cfg0.N) (hl : cfg0.N = k + 1) : θ_run defs (onTc (τ := τ) (main (F := F))) (s₀ m ρ) (Pipeline.FramePostRG cfgs (dats m) 0 R0 (V m) (hbG0 m k hk)) :=
  (θ_run defs _ _).mono (fun _ h => h.1) (run_main_quiescent m ρ k hk hl)

theorem last_lt : 166 < cfg0.N := by have : cfg0.N = 167 := N_0; omega
theorem last_eq : cfg0.N = 166 + 1 := N_0

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (A_eq m) ((θ_run defs _ _).mono (fun _ h => h.toR) (run_main m ρ 166 last_lt last_eq))

/-- THE FRAME: `Cert.quiescent_GradIdeal`'s statement (Defs.lean) at any `F` — Proof.lean cites it at `Bits`:
    `theorem Cert.Proof.claim : Cert.Claim := ⟨Cert.GradIdeal.Gen.facts, fun m ρ _ => Cert.GradIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged m ρ) ((θ_run defs _ _).mono (fun _ h => h.2) (run_main_quiescent m ρ 166 last_lt last_eq))

end Cert.GradIdeal.GradRun

end
-- ==== Proof.GradBits.lean ====
module

public import proofs.«01_k».proof.Defs
public import proofs.«01_k».proof.Proof.Gen.Grad
public import proofs.«01_k».proof.Proof.GradRun

@[expose] public section

set_option maxRecDepth 16384

noncomputable section

namespace Cert.Proof.GradBits

open Idealize.ShloMosaic Idealize.ShloMosaic.TcCoe Idealize.SL.Sem

/-- The program with machine numbers and its idealization run the same body. -/
theorem bodies_eq : (Cert.Grad.defs₀ (F := Bits)) = (Cert.GradIdeal.defs₀ (F := Bits)) := by
  unfold Cert.Grad.defs₀ Cert.GradIdeal.defs₀
  congr 1
  funext t a
  match t, a with
  | 0, (t, s) => rfl

/-- And so the same table of bodies and pipelines. -/
theorem defs_eq : (Cert.Grad.defs (F := Bits)) = (Cert.GradIdeal.defs (F := Bits)) :=
  congrArg (Pipeline.defs (Cert.GradIdeal.pcfgs (F := Bits))) bodies_eq

/-- The call with machine numbers runs to its end, leaves its arguments as they were and every semaphore at zero. -/
theorem frame : Cert.quiescent_Grad := fun m ρ _ => by
  rw [defs_eq]
  exact Cert.GradIdeal.GradRun.frame (F := Bits) m ρ

end Cert.Proof.GradBits

end
-- ==== Proof.GradValue.lean ====
/- The run of the gradient kernel with each output array named, and what each point writes back. Taken from the generated
   value certificate of this program, over the run of GradFrame.lean. -/
module

public import proofs.«01_k».proof.Proof.GradRun
public import Idealize.ShloMosaic.Lib.Pipeline.Value

@[expose] public section

noncomputable section

namespace Cert.GradIdeal.GradValue

open Cert.GradIdeal Cert.GradIdeal.Gen Cert.GradIdeal.GradRun Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## Blockwise: what each point writes back, and the final array block by block -/

/-- WHAT POINT `t` WRITES BACK to output window 7's array: the run's contents for that window after the body (`Gen.outsAt0`: its component 0), read through the window's block. -/
theorem flushed7 (c : Dev nD) (t : Fin cfg0.N) :
    (dats m 0 c).flushed 7 t = (cfg0.win 7).cut (grid0.coords t) ((outsAt0 m c t.val t.isLt).1) := by
  show (cfg0.win 7).cut (grid0.coords t) ((dats m 0 c).after 7 t) = _
  rw [after0_7]

/-- … so at a point where case A runs, what its write-back would write is that case's NAMED TERM for the window (`Gen.out0_A_7`: the pieces
    its run found, read back) at the point's memrefs and input blocks, and for an output the case reads back what the point before left (`Gen.outsAt0` at `t - 1`) — by the frame's rewriting lemma for the case. -/
theorem flushed7_A (c : Dev nD) (t : Fin cfg0.N) (h0 : t.val % 167 = 0) (h1 : ¬t.val % 167 = 166) :
    (dats m 0 c).flushed 7 t = (cfg0.win 7).cut (grid0.coords t) (out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (V m c main_v1_1)) := by
  rw [flushed7, outsAt0_A m c t h0 h1]

/-- … so at a point where case B runs, what its write-back would write is that case's NAMED TERM for the window (`Gen.out0_B_7`: the pieces
    its run found, read back) at the point's memrefs and input blocks, and for an output the case reads back what the point before left (`Gen.outsAt0` at `t - 1`) — by the frame's rewriting lemma for the case. -/
theorem flushed7_B (c : Dev nD) (t : Fin cfg0.N) (h0 : ¬t.val % 167 = 0) (h1 : ¬t.val % 167 = 166) :
    (dats m 0 c).flushed 7 t = (cfg0.win 7).cut (grid0.coords t) (out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.1 (outsAt0 m c (t.val - 1) (Nat.lt_of_le_of_lt (Nat.sub_le _ _) t.isLt)).2.2) := by
  rw [flushed7, outsAt0_B m c t h0 h1]

/-- … so at a point where case C runs, what its write-back would write is that case's NAMED TERM for the window (`Gen.out0_C_7`: the pieces
    its run found, read back) at the point's memrefs and input blocks, and for an output the case reads back what the point before left (`Gen.outsAt0` at `t - 1`) — by the frame's rewriting lemma for the case. -/
theorem flushed7_C (c : Dev nD) (t : Fin cfg0.N) (h0 : ¬t.val % 167 = 0) (h1 : t.val % 167 = 166) :
    (dats m 0 c).flushed 7 t = (cfg0.win 7).cut (grid0.coords t) (out0_C_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.1 (outsAt0 m c (t.val - 1) (Nat.lt_of_le_of_lt (Nat.sub_le _ _) t.isLt)).2.2) := by
  rw [flushed7, outsAt0_C m c t h0 h1]

/-- The index map sends distinct grid points to distinct block indices (decided over the 167 points). -/
theorem idx_inj7 : ∀ t t' : Fin cfg0.N, win0_7.index t = win0_7.index t' → t = t' :=
  (by decide +kernel : ∀ t t' : Fin grid0.N, win0_7.index t = win0_7.index t' → t = t')

/-- So two flushing points' blocks share no array index (Lib/Pipeline/Cells.lean `Window.disjoint_blk`). -/
theorem disjoint7 : ∀ t t' : Fin cfg0.N, (cfg0.win 7).flush t = true → (cfg0.win 7).flush t' = true → t ≠ t' →
    Disjoint ((cfg0.win 7).blk t).view.set ((cfg0.win 7).blk t').view.set :=
  fun t t' _ _ hne => (cfg0.win 7).disjoint_blk fun h => hne (idx_inj7 t t' h)

/-- BLOCK `t` OF THE FINAL ARRAY, read back through the window, is what point `t` wrote back (`flushed7`), for every
    point that writes back: no other point's block meets it. -/
theorem blocks7 (c : Dev nD) (t : Fin cfg0.N) (hf : (cfg0.win 7).flush t = true) :
    ((cfg0.win 7).blk t).view.read (Elt F) ((dats m 0 c).arrAt 7 cfg0.N) = (dats m 0 c).flushed 7 t :=
  (dats m 0 c).read_blk_arrAt_eq_flushed 7 disjoint7 cfg0.N t t.isLt hf

/-- An index that no flushing point's block covers keeps output window 7's array contents at region entry. -/
theorem entry7 (c : Dev nD) (i : S2048x128256.Idx) (h : ∀ t : Fin cfg0.N, (cfg0.win 7).flush t = true → i ∉ ((cfg0.win 7).blk t).view.set) :
    (dats m 0 c).arrAt 7 cfg0.N i = V m c (Pipeline.arrRef spec0 7) i := by
  rw [(dats m 0 c).arrAt_apply_of_forall_not_mem 7 cfg0.N i (fun t _ hf => h t hf), A_eq]

/-- After the frame run, output window 7's array is `(dats m 0 c).arrAt 7 N`. -/
theorem post7 (k : ℕ) (hk : k < cfg0.N) (r : PUnit × MemSt nD τ sig (Elt F)) (h : Pipeline.FramePostRG cfgs (dats m) 0 R0 (V m) (hbG0 m k hk) r) (c : Dev nD) :
    r.2.mem ((c : Thread nD τ).loc main_v1_0) = (dats m 0 c).arrAt 7 cfg0.N :=
  (h.toR c).1 7

/-- After the frame run, argument `main_arg0` is as launched: input window 0 stages it and never writes it back. -/
theorem kept_main_arg0 (k : ℕ) (hk : k < cfg0.N) (r : PUnit × MemSt nD τ sig (Elt F)) (h : Pipeline.FramePostRG cfgs (dats m) 0 R0 (V m) (hbG0 m k hk) r) (c : Dev nD) :
    r.2.mem ((c : Thread nD τ).loc main_arg0) = m ((c : Thread nD τ).loc main_arg0) :=
  ((h.toR c).1 0).trans (((dats m 0 c).arrAt_in 0 rfl _).trans ((A_eq m c 0).trans (V_main_arg0 m c)))

/-- After the frame run, argument `main_arg1` is as launched: input window 1 stages it and never writes it back. -/
theorem kept_main_arg1 (k : ℕ) (hk : k < cfg0.N) (r : PUnit × MemSt nD τ sig (Elt F)) (h : Pipeline.FramePostRG cfgs (dats m) 0 R0 (V m) (hbG0 m k hk) r) (c : Dev nD) :
    r.2.mem ((c : Thread nD τ).loc main_arg1) = m ((c : Thread nD τ).loc main_arg1) :=
  ((h.toR c).1 1).trans (((dats m 0 c).arrAt_in 1 rfl _).trans ((A_eq m c 1).trans (V_main_arg1 m c)))

/-- After the frame run, argument `main_arg2` is as launched: no window stages it, and the run leaves the region's other buffers as they were (it is none of `Gen.R0`, the buffers the body itself writes). -/
theorem kept_main_arg2 (k : ℕ) (hk : k < cfg0.N) (r : PUnit × MemSt nD τ sig (Elt F)) (h : Pipeline.FramePostRG cfgs (dats m) 0 R0 (V m) (hbG0 m k hk) r) (c : Dev nD) :
    r.2.mem ((c : Thread nD τ).loc main_arg2) = m ((c : Thread nD τ).loc main_arg2) :=
  ((h.toR c).2 main_arg2 (Finset.mem_sdiff.mpr ⟨Pipeline.mem_restRefs_of main_arg2 (by decide) (by decide), by decide⟩)).trans (V_main_arg2 m c)

/-- After the frame run, argument `main_arg3` is as launched: input window 3 stages it and never writes it back. -/
theorem kept_main_arg3 (k : ℕ) (hk : k < cfg0.N) (r : PUnit × MemSt nD τ sig (Elt F)) (h : Pipeline.FramePostRG cfgs (dats m) 0 R0 (V m) (hbG0 m k hk) r) (c : Dev nD) :
    r.2.mem ((c : Thread nD τ).loc main_arg3) = m ((c : Thread nD τ).loc main_arg3) :=
  ((h.toR c).1 3).trans (((dats m 0 c).arrAt_in 3 rfl _).trans ((A_eq m c 3).trans (V_main_arg3 m c)))

/-- After the frame run, argument `main_arg4` is as launched: input window 4 stages it and never writes it back. -/
theorem kept_main_arg4 (k : ℕ) (hk : k < cfg0.N) (r : PUnit × MemSt nD τ sig (Elt F)) (h : Pipeline.FramePostRG cfgs (dats m) 0 R0 (V m) (hbG0 m k hk) r) (c : Dev nD) :
    r.2.mem ((c : Thread nD τ).loc main_arg4) = m ((c : Thread nD τ).loc main_arg4) :=
  ((h.toR c).1 4).trans (((dats m 0 c).arrAt_in 4 rfl _).trans ((A_eq m c 4).trans (V_main_arg4 m c)))

/-- After the frame run, argument `main_arg5` is as launched: input window 5 stages it and never writes it back. -/
theorem kept_main_arg5 (k : ℕ) (hk : k < cfg0.N) (r : PUnit × MemSt nD τ sig (Elt F)) (h : Pipeline.FramePostRG cfgs (dats m) 0 R0 (V m) (hbG0 m k hk) r) (c : Dev nD) :
    r.2.mem ((c : Thread nD τ).loc main_arg5) = m ((c : Thread nD τ).loc main_arg5) :=
  ((h.toR c).1 5).trans (((dats m 0 c).arrAt_in 5 rfl _).trans ((A_eq m c 5).trans (V_main_arg5 m c)))

/-- After the frame run, argument `main_arg6` is as launched: input window 6 stages it and never writes it back. -/
theorem kept_main_arg6 (k : ℕ) (hk : k < cfg0.N) (r : PUnit × MemSt nD τ sig (Elt F)) (h : Pipeline.FramePostRG cfgs (dats m) 0 R0 (V m) (hbG0 m k hk) r) (c : Dev nD) :
    r.2.mem ((c : Thread nD τ).loc main_arg6) = m ((c : Thread nD τ).loc main_arg6) :=
  ((h.toR c).1 6).trans (((dats m 0 c).arrAt_in 6 rfl _).trans ((A_eq m c 6).trans (V_main_arg6 m c)))

/-- After the frame run, `main_v1_1`, a result left in HBM that the body's copies out of scratch write, holds what the LAST point left
    in it: `Gen.outsAt0`'s component for it there (the value post states it at `Gen.hbG0`, which `Gen.hbG0_0` unfolds). -/
theorem held_main_v1_1 (k : ℕ) (hk : k < cfg0.N) (r : PUnit × MemSt nD τ sig (Elt F)) (h : Pipeline.FramePostRG cfgs (dats m) 0 R0 (V m) (hbG0 m k hk) r) (c : Dev nD) :
    r.2.mem ((c : Thread nD τ).loc main_v1_1) = (outsAt0 m c k hk).2.2 :=
  (h.written c (by decide : main_v1_1 ∈ R0)).trans (hbG0_0 m k hk c)

/-- The frame run with each output array after the run NAMED — `(dats m 0 c).arrAt w N`, which `blocks_w` / `entry_w` read —,
    the arguments unchanged; each result the body's copies out write at what the last point left in it. -/
theorem run_blocks (k : ℕ) (hk : k < cfg0.N) (hl : cfg0.N = k + 1) : θ_run defs (onTc (τ := τ) (main (F := F))) ⟨m, fun _ => 0, ρ⟩ fun r => ∀ c : Dev nD,
      r.2.mem ((c : Thread nD τ).loc main_v1_0) = (dats m 0 c).arrAt 7 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_v1_1) = (outsAt0 m c k hk).2.2 :=
  (θ_run defs _ _).mono (fun r h c => ⟨post7 m k hk r h c,
      kept_main_arg0 m k hk r h c,
      kept_main_arg1 m k hk r h c,
      kept_main_arg2 m k hk r h c,
      kept_main_arg3 m k hk r h c,
      kept_main_arg4 m k hk r h c,
      kept_main_arg5 m k hk r h c,
      kept_main_arg6 m k hk r h c,
      held_main_v1_1 m k hk r h c⟩)
    (run_main m ρ k hk hl)

/-! ## Carried scratch 0: what each point leaves in it, and its fold -/

/-- What point `n` leaves in carried scratch 0, over what the point before left in it (`acc`): the case the conditions'
    closed forms select at `n`, the frame's own term for it (`Gen.sout0_κ_0`; anything else the case takes of the point
    before, another carried scratch or an output it reads back, stays `Gen.outsAt0`'s at `n - 1`); a case at the first point
    stores the scratch whole without reading what it held, and `acc` does not enter there (nor where no point meets the
    conditions: `acc`, never read). -/
def scAt0_0 (c : Dev nD) (n : ℕ) (hb : n < cfg0.N) (acc : Vec F S2048x3072 .f32) : Vec F S2048x3072 .f32 :=
  if h0 : n % 167 = 0 then
    if h1 : n % 167 = 166 then
      acc
    else
      sout0_A_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) scM0_0 (Memref.isWhole_whole _) ((hcond0_0 (⟨n, hb⟩ : Fin cfg0.N)).mpr h0) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (V m c main_v1_1)
  else
    if h1 : n % 167 = 166 then
      sout0_C_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) scM0_0 (Memref.isWhole_whole _) (fun h => h0 ((hcond0_0 (⟨n, hb⟩ : Fin cfg0.N)).mp h)) ((hcond0_1 (⟨n, hb⟩ : Fin cfg0.N)).mpr h1) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) acc (outsAt0 m c ((⟨n, hb⟩ : Fin cfg0.N).val - 1) (Nat.lt_of_le_of_lt (Nat.sub_le _ _) (⟨n, hb⟩ : Fin cfg0.N).isLt)).2.2
    else
      sout0_B_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) scM0_0 (Memref.isWhole_whole _) (fun h => h0 ((hcond0_0 (⟨n, hb⟩ : Fin cfg0.N)).mp h)) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) acc (outsAt0 m c ((⟨n, hb⟩ : Fin cfg0.N).val - 1) (Nat.lt_of_le_of_lt (Nat.sub_le _ _) (⟨n, hb⟩ : Fin cfg0.N).isLt)).2.2

/-- WHAT CARRIED SCRATCH 0 HOLDS after point `t`: the fold of its run up to `t`, from the reset at the run's first point
    `167·(t / 167)` (Lib/Pipeline/Value.lean `Pipeline.eq_accAt_of_mod`, by the frame's `outsAt0_κ`; without enumerating the points). -/
theorem soutsAt0_0_eq (c : Dev nD) (t : Fin cfg0.N) :
    (outsAt0 m c t.val t.isLt).2.1 = Pipeline.accAt (fun n h => scAt0_0 m c n h (VS0_0.read (Elt F) VS0_0.junk)) (scAt0_0 m c) (167 * (t.val / 167)) (t.val % 167)
      (by have h1 := t.isLt; have h2 := Nat.div_add_mod t.val 167; omega) :=
  Pipeline.eq_accAt_of_mod (fun n h => (outsAt0 m c n h).2.1) 167 (fun n h => scAt0_0 m c n h (VS0_0.read (Elt F) VS0_0.junk)) (scAt0_0 m c)
    (fun n h hn => by
      have hN := lt_of_lt_of_eq h (show cfg0.N = 167 from N_0)
      by_cases h0 : n % 167 = 0 <;> by_cases h1 : n % 167 = 166
      all_goals first | (exfalso; omega) | (rw [outsAt0_A m c ⟨n, h⟩ h0 h1]; dsimp only; unfold scAt0_0; rw [dif_pos h0, dif_neg h1] <;> try rfl) | (rw [outsAt0_B m c ⟨n, h⟩ h0 h1]; dsimp only; unfold scAt0_0; rw [dif_neg h0, dif_neg h1] <;> try rfl) | (rw [outsAt0_C m c ⟨n, h⟩ h0 h1]; dsimp only; unfold scAt0_0; rw [dif_neg h0, dif_pos h1] <;> try rfl))
    (fun n h hn => by
      have hN := lt_of_lt_of_eq h (show cfg0.N = 167 from N_0)
      by_cases h0 : (n + 1) % 167 = 0 <;> by_cases h1 : (n + 1) % 167 = 166
      all_goals first | (exfalso; omega) | (rw [outsAt0_A m c ⟨n + 1, h⟩ h0 h1]; dsimp only; unfold scAt0_0; rw [dif_pos h0, dif_neg h1] <;> try rfl) | (rw [outsAt0_B m c ⟨n + 1, h⟩ h0 h1]; dsimp only; unfold scAt0_0; rw [dif_neg h0, dif_neg h1] <;> try rfl) | (rw [outsAt0_C m c ⟨n + 1, h⟩ h0 h1]; dsimp only; unfold scAt0_0; rw [dif_neg h0, dif_pos h1] <;> try rfl))
    (by decide) t.val t.isLt _

/-- One run spans the grid (the only reset is at point 0): after point `n` the scratch is the fold from 0 to `n`. -/
theorem soutsAt0_0_sweep (c : Dev nD) (n : ℕ) (hn : n < cfg0.N) :
    (outsAt0 m c n hn).2.1 = Pipeline.accAt (fun n h => scAt0_0 m c n h (VS0_0.read (Elt F) VS0_0.junk)) (scAt0_0 m c) 0 n (by omega) := by
  have e := soutsAt0_0_eq m c ⟨n, hn⟩
  have hN := lt_of_lt_of_eq hn (show cfg0.N = 167 from N_0)
  have hd : n / 167 = 0 := Nat.div_eq_of_lt hN
  have hm : n % 167 = n := Nat.mod_eq_of_lt hN
  simpa only [hd, hm, Nat.mul_zero] using e

end Cert.GradIdeal.GradValue

end
-- ==== Proof.GradBlock.lean ====
module

public import proofs.«01_k».proof.Defs
public import proofs.«01_k».proof.Proof.GradValue
public import Idealize.ShloMosaic.Lib.Pipeline.ValueKit

@[expose] public section

set_option maxRecDepth 16384

noncomputable section

namespace Cert.GradIdeal.GradBlock

open Idealize.ShloMosaic Idealize.ShloMosaic.TcCoe Idealize.SL.Sem
open Cert.GradIdeal Cert.GradIdeal.Gen Cert.GradIdeal.GradRun

/-- The part of a strip's codes in one group of 128 columns: the label's hit less the probability, times the row's and
    the column's factor, clipped and rounded. -/
def part (off : BitVec 32) (sw : FVec Ideal S1x128 .f32) (lab : IVec S256x128 32) (mx den fac s2 : Vec Ideal S256x128 .f32) :
    FVec Ideal S256x128 .fp8e5m2 :=
  truncf .fp8e5m2 (minimumf (broadcast S256x128 (Scalar.ofBits (F := Ideal) .f32 0x47600000#32))
    (maximumf (broadcast S256x128 (Scalar.ofBits (F := Ideal) .f32 0xC7600000#32))
      (mulf (mulf (subf (select (cmpi .eq lab (broadcastTo S256x128 (addi (iota .tc S1x128 32 [1] iota_S1x128_d1_w32)
          (broadcast S1x128 off)) broadcasts_S1x128_S256x128)) den (broadcast S256x128 (Scalar.ofBits (F := Ideal) .f32 0x00000000#32)))
        (exp2 (subf s2 mx))) fac) (broadcastTo S256x128 sw broadcasts_S1x128_S256x128)))) bitsLt_fp8e5m2_f32

/-- A strip of 256 rows of one block of codes: its six parts side by side. -/
def strip (a : BitVec 32) (sw : FVec Ideal S1x768 .f32) (mx den fac : Vec Ideal S256x128 .f32) (lab : Vec Ideal S256x128 .i32)
    (s0 s1 s2 s3 s4 s5 : Vec Ideal S256x128 .f32) : FVec Ideal S256x768 .fp8e5m2 :=
  concatenate S256x768 1
    [⟨S256x128, part 0#32 (extractStridedSlice S1x128 ![0, 0] sw slices_S1x768_o0_0_S1x128) (subi lab (broadcast S256x128 (Scalar.muli a 768#32))) mx den fac s0⟩,
     ⟨S256x128, part 128#32 (extractStridedSlice S1x128 ![0, 128] sw slices_S1x768_o0_128_S1x128) (subi lab (broadcast S256x128 (Scalar.muli a 768#32))) mx den fac s1⟩,
     ⟨S256x128, part 256#32 (extractStridedSlice S1x128 ![0, 256] sw slices_S1x768_o0_256_S1x128) (subi lab (broadcast S256x128 (Scalar.muli a 768#32))) mx den fac s2⟩,
     ⟨S256x128, part 384#32 (extractStridedSlice S1x128 ![0, 384] sw slices_S1x768_o0_384_S1x128) (subi lab (broadcast S256x128 (Scalar.muli a 768#32))) mx den fac s3⟩,
     ⟨S256x128, part 512#32 (extractStridedSlice S1x128 ![0, 512] sw slices_S1x768_o0_512_S1x128) (subi lab (broadcast S256x128 (Scalar.muli a 768#32))) mx den fac s4⟩,
     ⟨S256x128, part 640#32 (extractStridedSlice S1x128 ![0, 640] sw slices_S1x768_o0_640_S1x128) (subi lab (broadcast S256x128 (Scalar.muli a 768#32))) mx den fac s5⟩]
    concatenates_S256x128_S256x128_S256x128_S256x128_S256x128_S256x128_S256x768_d1

/-- One code: the hit (the row's denominator if the column is the label's, else zero) less the probability, times the
    row's and the column's factor, clipped to the format's range. -/
def codeAt (d col : BitVec 32) (s2 mx den fac sw : EReal) : EReal :=
  min (Ideal.ofBits .f32 0x47600000#32) (max (Ideal.ofBits .f32 0xC7600000#32)
    ((Scalar.select (IntOp.cmpi .eq d col) den 0 - FloatOps.exp2 (F := Ideal) (φ := .f32) (s2 - mx)) * fac * sw))

/-- A part, read at an index. -/
theorem part_apply (off : BitVec 32) (sw : FVec Ideal S1x128 .f32) (lab : IVec S256x128 32) (mx den fac s2 : Vec Ideal S256x128 .f32)
   (y : S256x128.Idx) : part off sw lab mx den fac s2 y
     = codeAt (lab y) (IntOp.addi (BitVec.ofNat 32 (y 1).val) off) (s2 y) (mx y) (den y) (fac y) (sw (ix2 0 (y 1))) := by
  unfold part codeAt
  pointwise

/-- The codes of a block: `a` is the number of the block, 768 columns each. -/
def codes (a : BitVec 32) (sw : FVec Ideal S1x768 .f32) (mx den fac : Vec Ideal S2048x128 .f32) (lab : Vec Ideal S2048x128 .i32)
    (s : Vec Ideal S2048x768 .f32) (y : S2048x768.Idx) : EReal :=
  codeAt (IntOp.subi (lab (ix2 (y 0) ⟨(y 1).val % 128, Nat.mod_lt _ (by decide)⟩)) (Scalar.muli a 768#32)) (BitVec.ofNat 32 (y 1).val) (s y)
    (mx (ix2 (y 0) ⟨(y 1).val % 128, Nat.mod_lt _ (by decide)⟩)) (den (ix2 (y 0) ⟨(y 1).val % 128, Nat.mod_lt _ (by decide)⟩))
    (fac (ix2 (y 0) ⟨(y 1).val % 128, Nat.mod_lt _ (by decide)⟩)) (sw (ix2 0 (y 1)))

/-- One part of a strip is the block's codes in those rows and columns. -/
theorem part_ld (a : BitVec 32) (sw : FVec Ideal S1x768 .f32) (mx den fac : Vec Ideal S2048x128 .f32) (lab : Vec Ideal S2048x128 .i32)
    (s : Vec Ideal S2048x768 .f32) (r k : Nat) (hr : ∀ a, (![r, 0] : Fin 2 → Nat) a + S256x128.size a ≤ S2048x128.size a)
    (hk : ∀ a, (![r, k] : Fin 2 → Nat) a + S256x128.size a ≤ S2048x768.size a) (hs : S1x768.Slices ![0, k] S1x128)
    (hd : k % 128 = 0) (y : S2048x768.Idx) (z : S256x128.Idx) (h0 : (y 0).val = r + (z 0).val) (h1 : (y 1).val = k + (z 1).val) :
    part (BitVec.ofNat 32 k) (extractStridedSlice S1x128 ![0, k] sw hs)
      (subi (View.ld lab (Rect.unit ![r, 0] ![256, 128] hr)) (broadcast S256x128 (Scalar.muli a 768#32)))
      (View.ld mx (Rect.unit ![r, 0] ![256, 128] hr)) (View.ld den (Rect.unit ![r, 0] ![256, 128] hr))
      (View.ld fac (Rect.unit ![r, 0] ![256, 128] hr)) (View.ld s (Rect.unit ![r, k] ![256, 128] hk)) z
    = codes a sw mx den fac lab s y := by
  have hz1 : (z 1).val < 128 := (z 1).isLt
  have e : ∀ b : Fin 2, ((ix2 (y 0) ⟨(y 1).val % 128, Nat.mod_lt _ (by decide)⟩ : S2048x128.Idx) b : Nat) = (![r, 0] : Fin 2 → Nat) b + z b := by
    intro b
    match b with
    | ⟨0, _⟩ => exact h0
    | ⟨1, _⟩ => show (y 1).val % 128 = 0 + (z 1).val; omega
  have e' : ∀ b : Fin 2, (y b : Nat) = (![r, k] : Fin 2 → Nat) b + z b := by
    intro b
    match b with
    | ⟨0, _⟩ => exact h0
    | ⟨1, _⟩ => exact h1
  rw [part_apply]
  unfold codes
  rw [View.ld_unit_apply_of mx _ _ hr z _ e, View.ld_unit_apply_of den _ _ hr z _ e, View.ld_unit_apply_of fac _ _ hr z _ e,
    View.ld_unit_apply_of s _ _ hk z _ e']
  have e1 : IntOp.addi (BitVec.ofNat 32 (z 1).val) (BitVec.ofNat 32 k) = BitVec.ofNat 32 (y 1).val := by
    rw [h1, Nat.add_comm k]; exact (BitVec.ofNat_add _ _).symm
  have e2 : (subi (View.ld lab (Rect.unit ![r, 0] ![256, 128] hr)) (broadcast S256x128 (Scalar.muli a 768#32)) : IVec S256x128 32) z
      = IntOp.subi (lab (ix2 (y 0) ⟨(y 1).val % 128, Nat.mod_lt _ (by decide)⟩)) (Scalar.muli a 768#32) := by
    rw [← View.ld_unit_apply_of lab _ _ hr z _ e]; rfl
  have e3 : (extractStridedSlice S1x128 ![0, k] sw hs : FVec Ideal S1x128 .f32) (ix2 0 (z 1)) = sw (ix2 0 (y 1)) := by
    refine congrArg sw (funext fun b => Fin.ext ?_)
    match b with
    | ⟨0, _⟩ => rfl
    | ⟨1, _⟩ => exact h1.symm
  rw [e1, e2, e3]

/-- A strip, read at an index, is the part that holds the index. -/
theorem strip_apply (a : BitVec 32) (sw : FVec Ideal S1x768 .f32) (mx den fac : Vec Ideal S256x128 .f32) (lab : Vec Ideal S256x128 .i32)
    (s0 s1 s2 s3 s4 s5 : Vec Ideal S256x128 .f32) (x : S256x768.Idx) (v : EReal)
    (H0 : ∀ z : S256x128.Idx, z 0 = x 0 → (x 1).val = 0 + (z 1).val → part (BitVec.ofNat 32 0) (extractStridedSlice S1x128 ![0, 0] sw slices_S1x768_o0_0_S1x128) (subi lab (broadcast S256x128 (Scalar.muli a 768#32))) mx den fac s0 z = v)
    (H1 : ∀ z : S256x128.Idx, z 0 = x 0 → (x 1).val = 128 + (z 1).val → part (BitVec.ofNat 32 128) (extractStridedSlice S1x128 ![0, 128] sw slices_S1x768_o0_128_S1x128) (subi lab (broadcast S256x128 (Scalar.muli a 768#32))) mx den fac s1 z = v)
    (H2 : ∀ z : S256x128.Idx, z 0 = x 0 → (x 1).val = 256 + (z 1).val → part (BitVec.ofNat 32 256) (extractStridedSlice S1x128 ![0, 256] sw slices_S1x768_o0_256_S1x128) (subi lab (broadcast S256x128 (Scalar.muli a 768#32))) mx den fac s2 z = v)
    (H3 : ∀ z : S256x128.Idx, z 0 = x 0 → (x 1).val = 384 + (z 1).val → part (BitVec.ofNat 32 384) (extractStridedSlice S1x128 ![0, 384] sw slices_S1x768_o0_384_S1x128) (subi lab (broadcast S256x128 (Scalar.muli a 768#32))) mx den fac s3 z = v)
    (H4 : ∀ z : S256x128.Idx, z 0 = x 0 → (x 1).val = 512 + (z 1).val → part (BitVec.ofNat 32 512) (extractStridedSlice S1x128 ![0, 512] sw slices_S1x768_o0_512_S1x128) (subi lab (broadcast S256x128 (Scalar.muli a 768#32))) mx den fac s4 z = v)
    (H5 : ∀ z : S256x128.Idx, z 0 = x 0 → (x 1).val = 640 + (z 1).val → part (BitVec.ofNat 32 640) (extractStridedSlice S1x128 ![0, 640] sw slices_S1x768_o0_640_S1x128) (subi lab (broadcast S256x128 (Scalar.muli a 768#32))) mx den fac s5 z = v) :
    strip a sw mx den fac lab s0 s1 s2 s3 s4 s5 x = v := by
  have hx : (x 1).val < 768 := (x 1).isLt
  have off (q : Fin 128) (b : Fin S256x128.rank) (hb : b.cast rfl ≠ (1 : Fin S256x768.rank)) :
      ((ix2 (x 0) q : S256x128.Idx) b).val = (x (b.cast rfl)).val := by
    match b with
    | ⟨0, _⟩ => rfl
    | ⟨1, _⟩ => exact absurd rfl hb
  unfold strip
  by_cases c1 : (x 1).val < 128
  · have hk : 0 ≤ (x 1).val := by omega
    exact (concatenate_apply_piece 1 _ _ x 0 (by simp) S256x128 _ rfl rfl 0 rfl (ix2 (x 0) ⟨(x 1).val - 0, by omega⟩) (off _)
      (Nat.add_sub_cancel' hk)).trans (H0 _ rfl (Nat.add_sub_cancel' hk).symm)
  by_cases c2 : (x 1).val < 256
  · have hk : 128 ≤ (x 1).val := by omega
    exact (concatenate_apply_piece 1 _ _ x 1 (by simp) S256x128 _ rfl rfl 128 rfl (ix2 (x 0) ⟨(x 1).val - 128, by omega⟩) (off _)
      (Nat.add_sub_cancel' hk)).trans (H1 _ rfl (Nat.add_sub_cancel' hk).symm)
  by_cases c3 : (x 1).val < 384
  · have hk : 256 ≤ (x 1).val := by omega
    exact (concatenate_apply_piece 1 _ _ x 2 (by simp) S256x128 _ rfl rfl 256 rfl (ix2 (x 0) ⟨(x 1).val - 256, by omega⟩) (off _)
      (Nat.add_sub_cancel' hk)).trans (H2 _ rfl (Nat.add_sub_cancel' hk).symm)
  by_cases c4 : (x 1).val < 512
  · have hk : 384 ≤ (x 1).val := by omega
    exact (concatenate_apply_piece 1 _ _ x 3 (by simp) S256x128 _ rfl rfl 384 rfl (ix2 (x 0) ⟨(x 1).val - 384, by omega⟩) (off _)
      (Nat.add_sub_cancel' hk)).trans (H3 _ rfl (Nat.add_sub_cancel' hk).symm)
  by_cases c5 : (x 1).val < 640
  · have hk : 512 ≤ (x 1).val := by omega
    exact (concatenate_apply_piece 1 _ _ x 4 (by simp) S256x128 _ rfl rfl 512 rfl (ix2 (x 0) ⟨(x 1).val - 512, by omega⟩) (off _)
      (Nat.add_sub_cancel' hk)).trans (H4 _ rfl (Nat.add_sub_cancel' hk).symm)
  · have hk : 640 ≤ (x 1).val := by omega
    exact (concatenate_apply_piece 1 _ _ x 5 (by simp) S256x128 _ rfl rfl 640 rfl (ix2 (x 0) ⟨(x 1).val - 640, by omega⟩) (off _)
      (Nat.add_sub_cancel' hk)).trans (H5 _ rfl (Nat.add_sub_cancel' hk).symm)

/-- A strip is the block's codes in those rows. -/
theorem strip_ld (a : BitVec 32) (sw : FVec Ideal S1x768 .f32) (mx den fac : Vec Ideal S2048x128 .f32) (lab : Vec Ideal S2048x128 .i32)
    (s : Vec Ideal S2048x768 .f32) (r : Nat) (hr : ∀ a, (![r, 0] : Fin 2 → Nat) a + S256x128.size a ≤ S2048x128.size a)
    (k0 : ∀ a, (![r, 0] : Fin 2 → Nat) a + S256x128.size a ≤ S2048x768.size a)
    (k1 : ∀ a, (![r, 128] : Fin 2 → Nat) a + S256x128.size a ≤ S2048x768.size a)
    (k2 : ∀ a, (![r, 256] : Fin 2 → Nat) a + S256x128.size a ≤ S2048x768.size a)
    (k3 : ∀ a, (![r, 384] : Fin 2 → Nat) a + S256x128.size a ≤ S2048x768.size a)
    (k4 : ∀ a, (![r, 512] : Fin 2 → Nat) a + S256x128.size a ≤ S2048x768.size a)
    (k5 : ∀ a, (![r, 640] : Fin 2 → Nat) a + S256x128.size a ≤ S2048x768.size a)
    (y : S2048x768.Idx) (x : S256x768.Idx) (h0 : (y 0).val = r + (x 0).val) (h1 : (y 1).val = (x 1).val) :
    strip a sw (View.ld mx (Rect.unit ![r, 0] ![256, 128] hr)) (View.ld den (Rect.unit ![r, 0] ![256, 128] hr))
      (View.ld fac (Rect.unit ![r, 0] ![256, 128] hr)) (View.ld lab (Rect.unit ![r, 0] ![256, 128] hr))
      (View.ld s (Rect.unit ![r, 0] ![256, 128] k0)) (View.ld s (Rect.unit ![r, 128] ![256, 128] k1))
      (View.ld s (Rect.unit ![r, 256] ![256, 128] k2)) (View.ld s (Rect.unit ![r, 384] ![256, 128] k3))
      (View.ld s (Rect.unit ![r, 512] ![256, 128] k4)) (View.ld s (Rect.unit ![r, 640] ![256, 128] k5)) x
    = codes a sw mx den fac lab s y := by
  apply strip_apply
  · exact fun z e0 e1 => part_ld a sw mx den fac lab s r 0 hr k0 _ (by decide) y z (by rw [h0, e0]) (h1.trans e1)
  · exact fun z e0 e1 => part_ld a sw mx den fac lab s r 128 hr k1 _ (by decide) y z (by rw [h0, e0]) (h1.trans e1)
  · exact fun z e0 e1 => part_ld a sw mx den fac lab s r 256 hr k2 _ (by decide) y z (by rw [h0, e0]) (h1.trans e1)
  · exact fun z e0 e1 => part_ld a sw mx den fac lab s r 384 hr k3 _ (by decide) y z (by rw [h0, e0]) (h1.trans e1)
  · exact fun z e0 e1 => part_ld a sw mx den fac lab s r 512 hr k4 _ (by decide) y z (by rw [h0, e0]) (h1.trans e1)
  · exact fun z e0 e1 => part_ld a sw mx den fac lab s r 640 hr k5 _ (by decide) y z (by rw [h0, e0]) (h1.trans e1)

/-- Rows of the accumulator after a point: what they held, and the rows' codes times the block of the matrix. -/
def accStrip (w : Vec Ideal S768x3072 .fp8e4m3) (st : FVec Ideal S256x768 .fp8e5m2) (base : Vec Ideal S256x3072 .f32) : FVec Ideal S256x3072 .f32 :=
  shapeCast S256x3072 (addf base (matmul (φ₂ := .fp8e4m3) dot_S256x768_S768x3072_S256x3072_1_0_0_1_n_n none st w (constant S256x3072 .f32 0x00000000#32)))
    shapeCasts_S256x3072_S256x3072

/-- The accumulator after a point: what it held, and the block's codes times the block of the matrix. -/
def accStep (cd : S2048x768.Idx → EReal) (w : Vec Ideal S768x3072 .fp8e4m3) (base : S2048x3072.Idx → EReal) (y : S2048x3072.Idx) : EReal :=
  base y + ∑ k : Fin 768, cd (ix2 (y 0) k) * w (ix2 k (y 1))

theorem accStrip_apply (w : Vec Ideal S768x3072 .fp8e4m3) (st : FVec Ideal S256x768 .fp8e5m2) (base : Vec Ideal S256x3072 .f32)
    (x : S256x3072.Idx) : accStrip w st base x = base x + ∑ k : Fin 768, st (ix2 (x 0) k) * w (ix2 k (x 1)) := by
  unfold accStrip
  pointwise

/-- A strip's rows of the accumulator are those rows of the whole one. -/
theorem accStrip_ld (w : Vec Ideal S768x3072 .fp8e4m3) (B : Vec Ideal S2048x3072 .f32)
    (a : BitVec 32) (sw : FVec Ideal S1x768 .f32) (mx den fac : Vec Ideal S2048x128 .f32) (lab : Vec Ideal S2048x128 .i32)
    (s : Vec Ideal S2048x768 .f32) (r : Nat) (hr : ∀ a, (![r, 0] : Fin 2 → Nat) a + S256x128.size a ≤ S2048x128.size a)
    (k0 : ∀ a, (![r, 0] : Fin 2 → Nat) a + S256x128.size a ≤ S2048x768.size a)
    (k1 : ∀ a, (![r, 128] : Fin 2 → Nat) a + S256x128.size a ≤ S2048x768.size a)
    (k2 : ∀ a, (![r, 256] : Fin 2 → Nat) a + S256x128.size a ≤ S2048x768.size a)
    (k3 : ∀ a, (![r, 384] : Fin 2 → Nat) a + S256x128.size a ≤ S2048x768.size a)
    (k4 : ∀ a, (![r, 512] : Fin 2 → Nat) a + S256x128.size a ≤ S2048x768.size a)
    (k5 : ∀ a, (![r, 640] : Fin 2 → Nat) a + S256x128.size a ≤ S2048x768.size a)
    (hB : ∀ a, (![r, 0] : Fin 2 → Nat) a + S256x3072.size a ≤ S2048x3072.size a)
    (y : S2048x3072.Idx) (x : S256x3072.Idx) (h0 : (y 0).val = r + (x 0).val) (h1 : (y 1).val = (x 1).val) :
    accStrip w (strip a sw (View.ld mx (Rect.unit ![r, 0] ![256, 128] hr)) (View.ld den (Rect.unit ![r, 0] ![256, 128] hr))
      (View.ld fac (Rect.unit ![r, 0] ![256, 128] hr)) (View.ld lab (Rect.unit ![r, 0] ![256, 128] hr))
      (View.ld s (Rect.unit ![r, 0] ![256, 128] k0)) (View.ld s (Rect.unit ![r, 128] ![256, 128] k1))
      (View.ld s (Rect.unit ![r, 256] ![256, 128] k2)) (View.ld s (Rect.unit ![r, 384] ![256, 128] k3))
      (View.ld s (Rect.unit ![r, 512] ![256, 128] k4)) (View.ld s (Rect.unit ![r, 640] ![256, 128] k5)))
      (View.ld B (Rect.unit ![r, 0] ![256, 3072] hB)) x
    = accStep (codes a sw mx den fac lab s) w B y := by
  rw [accStrip_apply]
  unfold accStep
  have e : ∀ b : Fin 2, (y b : Nat) = (![r, 0] : Fin 2 → Nat) b + x b := by
    intro b
    match b with
    | ⟨0, _⟩ => exact h0
    | ⟨1, _⟩ => exact h1.trans (Nat.zero_add _).symm
  rw [View.ld_unit_apply_of B _ _ hB x _ e]
  have e1 : x 1 = y 1 := Fin.ext h1.symm
  refine congrArg _ (Finset.sum_congr rfl fun k _ => ?_)
  rw [strip_ld a sw mx den fac lab s r hr k0 k1 k2 k3 k4 k5 (ix2 (y 0) k) (ix2 (x 0) k) h0 rfl, e1]

end Cert.GradIdeal.GradBlock

end
-- ==== Proof.GradPoint.lean ====
module

public import proofs.«01_k».proof.Defs
public import proofs.«01_k».proof.Proof.GradBlock
public import Idealize.ShloMosaic.Lib.Pipeline.ReadBack
public import Idealize.ShloMosaic.Lib.Pipeline.ValueKit

@[expose] public section

set_option maxRecDepth 16384

noncomputable section

namespace Cert.GradIdeal.GradPoint

open Idealize.ShloMosaic Idealize.ShloMosaic.TcCoe Idealize.SL.Sem
open Cert.GradIdeal Cert.GradIdeal.Gen Cert.GradIdeal.GradRun Cert.GradIdeal.GradBlock

set_option maxHeartbeats 2000000 in
/-- The codes a point of case A writes. -/
theorem out0_A_7_eq (c : Dev nD) (i : grid0.Coords) (arg1 : Memref sig .tc .vmem S2048x768 .f32) (harg1 : arg1.IsWhole) (arg2 : Memref sig .tc .vmem S768x3072 .fp8e4m3) (harg2 : arg2.IsWhole) (arg3 : Memref sig .tc .vmem S1x1x768 .f32) (harg3 : arg3.IsWhole) (arg4 : Memref sig .tc .vmem S2048x128 .f32) (harg4 : arg4.IsWhole) (arg5 : Memref sig .tc .vmem S2048x128 .f32) (harg5 : arg5.IsWhole) (arg6 : Memref sig .tc .vmem S2048x128 .f32) (harg6 : arg6.IsWhole) (arg7 : Memref sig .tc .vmem S2048x128 .i32) (harg7 : arg7.IsWhole) (arg8 : Memref sig .tc .vmem S2048x768 .fp8e5m2) (harg8 : arg8.IsWhole) (arg10 : Memref sig .tc .vmem S2048x3072 .f32) (harg10 : arg10.IsWhole) (hc0 : cond0_0 i) (hc1 : ¬cond0_1 i)
    (x0 : Vec Ideal S2048x768 .f32) (x1 : Vec Ideal S768x3072 .fp8e4m3) (x2 : Vec Ideal S1x1x768 .f32) (x3 : Vec Ideal S2048x128 .f32) (x4 : Vec Ideal S2048x128 .f32) (x5 : Vec Ideal S2048x128 .f32) (x6 : Vec Ideal S2048x128 .i32) (fw0 : HbBuf0 (F := Ideal) c hbM0_0) : out0_A_7 (F := Ideal) c i arg1 harg1 arg2 harg2 arg3 harg3 arg4 harg4 arg5 harg5 arg6 harg6 arg7 harg7 arg8 harg8 arg10 harg10 hc0 hc1 x0 x1 x2 x3 x4 x5 x6 fw0 = codes (BitVec.ofNat 32 (i 0).val) (k0_pay3 x2) x3 x4 x5 x6 x0 := by
  funext y
  frame_out
  canon_tiles x h
  all_goals exact strip_ld _ _ _ _ _ _ _ _ _ _ _ _ _ _ _ y x (by omega) h1

set_option maxHeartbeats 2000000 in
/-- The codes a point of case B writes. -/
theorem out0_B_7_eq (c : Dev nD) (i : grid0.Coords) (arg1 : Memref sig .tc .vmem S2048x768 .f32) (harg1 : arg1.IsWhole) (arg2 : Memref sig .tc .vmem S768x3072 .fp8e4m3) (harg2 : arg2.IsWhole) (arg3 : Memref sig .tc .vmem S1x1x768 .f32) (harg3 : arg3.IsWhole) (arg4 : Memref sig .tc .vmem S2048x128 .f32) (harg4 : arg4.IsWhole) (arg5 : Memref sig .tc .vmem S2048x128 .f32) (harg5 : arg5.IsWhole) (arg6 : Memref sig .tc .vmem S2048x128 .f32) (harg6 : arg6.IsWhole) (arg7 : Memref sig .tc .vmem S2048x128 .i32) (harg7 : arg7.IsWhole) (arg8 : Memref sig .tc .vmem S2048x768 .fp8e5m2) (harg8 : arg8.IsWhole) (arg10 : Memref sig .tc .vmem S2048x3072 .f32) (harg10 : arg10.IsWhole) (hc0 : ¬cond0_0 i) (hc1 : ¬cond0_1 i)
    (x0 : Vec Ideal S2048x768 .f32) (x1 : Vec Ideal S768x3072 .fp8e4m3) (x2 : Vec Ideal S1x1x768 .f32) (x3 : Vec Ideal S2048x128 .f32) (x4 : Vec Ideal S2048x128 .f32) (x5 : Vec Ideal S2048x128 .f32) (x6 : Vec Ideal S2048x128 .i32) (xs0 : Vec Ideal S2048x3072 .f32) (fw0 : HbBuf0 (F := Ideal) c hbM0_0) : out0_B_7 (F := Ideal) c i arg1 harg1 arg2 harg2 arg3 harg3 arg4 harg4 arg5 harg5 arg6 harg6 arg7 harg7 arg8 harg8 arg10 harg10 hc0 hc1 x0 x1 x2 x3 x4 x5 x6 xs0 fw0 = codes (BitVec.ofNat 32 (i 0).val) (k0_pay3 x2) x3 x4 x5 x6 x0 := by
  funext y
  frame_out
  canon_tiles x h
  all_goals exact strip_ld _ _ _ _ _ _ _ _ _ _ _ _ _ _ _ y x (by omega) h1

set_option maxHeartbeats 2000000 in
/-- The codes a point of case C writes. -/
theorem out0_C_7_eq (c : Dev nD) (i : grid0.Coords) (arg1 : Memref sig .tc .vmem S2048x768 .f32) (harg1 : arg1.IsWhole) (arg2 : Memref sig .tc .vmem S768x3072 .fp8e4m3) (harg2 : arg2.IsWhole) (arg3 : Memref sig .tc .vmem S1x1x768 .f32) (harg3 : arg3.IsWhole) (arg4 : Memref sig .tc .vmem S2048x128 .f32) (harg4 : arg4.IsWhole) (arg5 : Memref sig .tc .vmem S2048x128 .f32) (harg5 : arg5.IsWhole) (arg6 : Memref sig .tc .vmem S2048x128 .f32) (harg6 : arg6.IsWhole) (arg7 : Memref sig .tc .vmem S2048x128 .i32) (harg7 : arg7.IsWhole) (arg8 : Memref sig .tc .vmem S2048x768 .fp8e5m2) (harg8 : arg8.IsWhole) (arg10 : Memref sig .tc .vmem S2048x3072 .f32) (harg10 : arg10.IsWhole) (hc0 : ¬cond0_0 i) (hc1 : cond0_1 i)
    (x0 : Vec Ideal S2048x768 .f32) (x1 : Vec Ideal S768x3072 .fp8e4m3) (x2 : Vec Ideal S1x1x768 .f32) (x3 : Vec Ideal S2048x128 .f32) (x4 : Vec Ideal S2048x128 .f32) (x5 : Vec Ideal S2048x128 .f32) (x6 : Vec Ideal S2048x128 .i32) (xs0 : Vec Ideal S2048x3072 .f32) (fw0 : HbBuf0 (F := Ideal) c hbM0_0) : out0_C_7 (F := Ideal) c i arg1 harg1 arg2 harg2 arg3 harg3 arg4 harg4 arg5 harg5 arg6 harg6 arg7 harg7 arg8 harg8 arg10 harg10 hc0 hc1 x0 x1 x2 x3 x4 x5 x6 xs0 fw0 = codes (BitVec.ofNat 32 (i 0).val) (k0_pay3 x2) x3 x4 x5 x6 x0 := by
  funext y
  frame_out
  canon_tiles x h
  all_goals exact strip_ld _ _ _ _ _ _ _ _ _ _ _ _ _ _ _ y x (by omega) h1

set_option maxHeartbeats 2000000 in
/-- What the accumulator holds after the first point. -/
theorem sout0_A_0_eq (c : Dev nD) (i : grid0.Coords) (arg1 : Memref sig .tc .vmem S2048x768 .f32) (harg1 : arg1.IsWhole) (arg2 : Memref sig .tc .vmem S768x3072 .fp8e4m3) (harg2 : arg2.IsWhole) (arg3 : Memref sig .tc .vmem S1x1x768 .f32) (harg3 : arg3.IsWhole) (arg4 : Memref sig .tc .vmem S2048x128 .f32) (harg4 : arg4.IsWhole) (arg5 : Memref sig .tc .vmem S2048x128 .f32) (harg5 : arg5.IsWhole) (arg6 : Memref sig .tc .vmem S2048x128 .f32) (harg6 : arg6.IsWhole) (arg7 : Memref sig .tc .vmem S2048x128 .i32) (harg7 : arg7.IsWhole) (arg8 : Memref sig .tc .vmem S2048x768 .fp8e5m2) (harg8 : arg8.IsWhole) (arg10 : Memref sig .tc .vmem S2048x3072 .f32) (harg10 : arg10.IsWhole) (hc0 : cond0_0 i) (hc1 : ¬cond0_1 i)
    (x0 : Vec Ideal S2048x768 .f32) (x1 : Vec Ideal S768x3072 .fp8e4m3) (x2 : Vec Ideal S1x1x768 .f32) (x3 : Vec Ideal S2048x128 .f32) (x4 : Vec Ideal S2048x128 .f32) (x5 : Vec Ideal S2048x128 .f32) (x6 : Vec Ideal S2048x128 .i32) (fw0 : HbBuf0 (F := Ideal) c hbM0_0) : sout0_A_0 (F := Ideal) c i arg1 harg1 arg2 harg2 arg3 harg3 arg4 harg4 arg5 harg5 arg6 harg6 arg7 harg7 arg8 harg8 arg10 harg10 hc0 hc1 x0 x1 x2 x3 x4 x5 x6 fw0 =
    accStep (codes (BitVec.ofNat 32 (i 0).val) (k0_pay3 x2) x3 x4 x5 x6 x0) x1 (k0_pay2 (F := Ideal)) := by
  funext y
  unfold sout0_A_0
  frame_open
  simp (disch := decide) only [↓ View.readCov_skip, ↓ View.readCov_cons_toLoadRect, ↓ View.readCov_fill]
  frame_out
  refine View.canon_append_of_piecesOf (Val := Elt Ideal) (s := S2048x3072) (e := .f32) (accStep (codes (BitVec.ofNat 32 (i 0).val) (k0_pay3 x2) x3 x4 x5 x6 x0) x1 (k0_pay2 (F := Ideal)))
    [_] [_, _, _, _, _, _, _, _] ⟨?_, ?_, ?_, ?_, ?_, ?_, ?_, ?_, trivial⟩ y (View.cover_of_tiledL (s := S2048x3072) _ S256x3072.size (by sl_kernel_rfl) y)
  all_goals
    intro x
    refine accStrip_ld _ _ _ _ _ _ _ _ _ _ _ _ _ _ _ _ _ _ _ x ?_ ?_
    · exact congrArg (HAdd.hAdd _) (Nat.one_mul _)
    · exact (Nat.zero_add _).trans (Nat.one_mul _)

set_option maxHeartbeats 2000000 in
/-- What the accumulator holds after a point of case B. -/
theorem sout0_B_0_eq (c : Dev nD) (i : grid0.Coords) (arg1 : Memref sig .tc .vmem S2048x768 .f32) (harg1 : arg1.IsWhole) (arg2 : Memref sig .tc .vmem S768x3072 .fp8e4m3) (harg2 : arg2.IsWhole) (arg3 : Memref sig .tc .vmem S1x1x768 .f32) (harg3 : arg3.IsWhole) (arg4 : Memref sig .tc .vmem S2048x128 .f32) (harg4 : arg4.IsWhole) (arg5 : Memref sig .tc .vmem S2048x128 .f32) (harg5 : arg5.IsWhole) (arg6 : Memref sig .tc .vmem S2048x128 .f32) (harg6 : arg6.IsWhole) (arg7 : Memref sig .tc .vmem S2048x128 .i32) (harg7 : arg7.IsWhole) (arg8 : Memref sig .tc .vmem S2048x768 .fp8e5m2) (harg8 : arg8.IsWhole) (arg10 : Memref sig .tc .vmem S2048x3072 .f32) (harg10 : arg10.IsWhole) (hc0 : ¬cond0_0 i) (hc1 : ¬cond0_1 i)
    (x0 : Vec Ideal S2048x768 .f32) (x1 : Vec Ideal S768x3072 .fp8e4m3) (x2 : Vec Ideal S1x1x768 .f32) (x3 : Vec Ideal S2048x128 .f32) (x4 : Vec Ideal S2048x128 .f32) (x5 : Vec Ideal S2048x128 .f32) (x6 : Vec Ideal S2048x128 .i32) (xs0 : Vec Ideal S2048x3072 .f32) (fw0 : HbBuf0 (F := Ideal) c hbM0_0) : sout0_B_0 (F := Ideal) c i arg1 harg1 arg2 harg2 arg3 harg3 arg4 harg4 arg5 harg5 arg6 harg6 arg7 harg7 arg8 harg8 arg10 harg10 hc0 hc1 x0 x1 x2 x3 x4 x5 x6 xs0 fw0 =
    accStep (codes (BitVec.ofNat 32 (i 0).val) (k0_pay3 x2) x3 x4 x5 x6 x0) x1 xs0 := by
  funext y
  frame_out
  canon_tiles x h
  all_goals exact accStrip_ld _ _ _ _ _ _ _ _ _ _ _ _ _ _ _ _ _ _ y x (by omega) h1

set_option maxHeartbeats 2000000 in
/-- What the accumulator holds after a point of case C. -/
theorem sout0_C_0_eq (c : Dev nD) (i : grid0.Coords) (arg1 : Memref sig .tc .vmem S2048x768 .f32) (harg1 : arg1.IsWhole) (arg2 : Memref sig .tc .vmem S768x3072 .fp8e4m3) (harg2 : arg2.IsWhole) (arg3 : Memref sig .tc .vmem S1x1x768 .f32) (harg3 : arg3.IsWhole) (arg4 : Memref sig .tc .vmem S2048x128 .f32) (harg4 : arg4.IsWhole) (arg5 : Memref sig .tc .vmem S2048x128 .f32) (harg5 : arg5.IsWhole) (arg6 : Memref sig .tc .vmem S2048x128 .f32) (harg6 : arg6.IsWhole) (arg7 : Memref sig .tc .vmem S2048x128 .i32) (harg7 : arg7.IsWhole) (arg8 : Memref sig .tc .vmem S2048x768 .fp8e5m2) (harg8 : arg8.IsWhole) (arg10 : Memref sig .tc .vmem S2048x3072 .f32) (harg10 : arg10.IsWhole) (hc0 : ¬cond0_0 i) (hc1 : cond0_1 i)
    (x0 : Vec Ideal S2048x768 .f32) (x1 : Vec Ideal S768x3072 .fp8e4m3) (x2 : Vec Ideal S1x1x768 .f32) (x3 : Vec Ideal S2048x128 .f32) (x4 : Vec Ideal S2048x128 .f32) (x5 : Vec Ideal S2048x128 .f32) (x6 : Vec Ideal S2048x128 .i32) (xs0 : Vec Ideal S2048x3072 .f32) (fw0 : HbBuf0 (F := Ideal) c hbM0_0) : sout0_C_0 (F := Ideal) c i arg1 harg1 arg2 harg2 arg3 harg3 arg4 harg4 arg5 harg5 arg6 harg6 arg7 harg7 arg8 harg8 arg10 harg10 hc0 hc1 x0 x1 x2 x3 x4 x5 x6 xs0 fw0 =
    accStep (codes (BitVec.ofNat 32 (i 0).val) (k0_pay3 x2) x3 x4 x5 x6 x0) x1 xs0 := by
  funext y
  frame_out
  canon_tiles x h
  all_goals exact accStrip_ld _ _ _ _ _ _ _ _ _ _ _ _ _ _ _ _ _ _ y x (by omega) h1

/-- The last point copies the accumulator out as it leaves it. -/
theorem hbw0_C_0_eq (c : Dev nD) (i : grid0.Coords) (arg1 : Memref sig .tc .vmem S2048x768 .f32) (harg1 : arg1.IsWhole) (arg2 : Memref sig .tc .vmem S768x3072 .fp8e4m3) (harg2 : arg2.IsWhole) (arg3 : Memref sig .tc .vmem S1x1x768 .f32) (harg3 : arg3.IsWhole) (arg4 : Memref sig .tc .vmem S2048x128 .f32) (harg4 : arg4.IsWhole) (arg5 : Memref sig .tc .vmem S2048x128 .f32) (harg5 : arg5.IsWhole) (arg6 : Memref sig .tc .vmem S2048x128 .f32) (harg6 : arg6.IsWhole) (arg7 : Memref sig .tc .vmem S2048x128 .i32) (harg7 : arg7.IsWhole) (arg8 : Memref sig .tc .vmem S2048x768 .fp8e5m2) (harg8 : arg8.IsWhole) (arg10 : Memref sig .tc .vmem S2048x3072 .f32) (harg10 : arg10.IsWhole) (hc0 : ¬cond0_0 i) (hc1 : cond0_1 i)
    (x0 : Vec Ideal S2048x768 .f32) (x1 : Vec Ideal S768x3072 .fp8e4m3) (x2 : Vec Ideal S1x1x768 .f32) (x3 : Vec Ideal S2048x128 .f32) (x4 : Vec Ideal S2048x128 .f32) (x5 : Vec Ideal S2048x128 .f32) (x6 : Vec Ideal S2048x128 .i32) (xs0 : Vec Ideal S2048x3072 .f32) (fw0 : HbBuf0 (F := Ideal) c hbM0_0) : hbw0_C_0 (F := Ideal) c i arg1 harg1 arg2 harg2 arg3 harg3 arg4 harg4 arg5 harg5 arg6 harg6 arg7 harg7 arg8 harg8 arg10 harg10 hc0 hc1 x0 x1 x2 x3 x4 x5 x6 xs0 fw0 = sout0_C_0 (F := Ideal) c i arg1 harg1 arg2 harg2 arg3 harg3 arg4 harg4 arg5 harg5 arg6 harg6 arg7 harg7 arg8 harg8 arg10 harg10 hc0 hc1 x0 x1 x2 x3 x4 x5 x6 xs0 fw0 :=
  Eq.trans (b := arg10.view.read (Elt Ideal) (arg10.view.writes (Elt Ideal) (harg10.unread xs0) (kernelRun0_C (F := Ideal) c i arg1 harg1 arg2 harg2 arg3 harg3 arg4 harg4 arg5 harg5 arg6 harg6 arg7 harg7 arg8 harg8 arg10 harg10 hc0 hc1 x0 x1 x2 x3 x4 x5 x6 xs0 fw0).2.1))
    (View.write_whole_univ main_v1_1 fw0 _) (View.read_writes_of_cover _ _ _ _ _ (scover0_C_0 (F := Ideal) c i arg1 harg1 arg2 harg2 arg3 harg3 arg4 harg4 arg5 harg5 arg6 harg6 arg7 harg7 arg8 harg8 arg10 harg10 hc0 hc1 x0 x1 x2 x3 x4 x5 x6 xs0 fw0))

end Cert.GradIdeal.GradPoint

end
-- ==== Proof.GradRef.lean ====
module

public import proofs.«01_k».proof.Defs
public import proofs.«01_k».proof.Proof.Gen.GradRefIdeal.Value
public import proofs.«01_k».proof.Proof.GradBlock
public import Idealize.ShloMosaic.Lib.Pipeline.ValueKit

@[expose] public section

set_option maxRecDepth 16384

noncomputable section

namespace Cert.Proof.GradRef

open Idealize.ShloMosaic Idealize.ShloMosaic.TcCoe Idealize.SL.Sem
open Cert.GradRefIdeal Cert.GradRefIdeal.Gen
open Cert.GradIdeal.GradBlock (codeAt)

variable (m : (ℓ : Loc nD τ sig) → Buf (Elt Ideal) ℓ)

/-- The one grid point's blocks are the whole arrays. -/
theorem idx : ∀ t : Fin cfg0.N, win0_0.index t = ![0, 0] ∧ win0_1.index t = ![0, 0]
    ∧ win0_2.index t = ![0, 0, 0] ∧ win0_3.index t = ![0, 0] ∧ win0_4.index t = ![0, 0]
    ∧ win0_5.index t = ![0, 0] ∧ win0_6.index t = ![0, 0] ∧ win0_7.index t = ![0, 0]
    ∧ win0_8.index t = ![0, 0] := by
  decide +kernel

/-- The columns' factors as the call takes them: reshaped. -/
theorem V_v0 (c : Dev nD) : V m c main_v0 = shapeCast S1x1002x128 (m ((c : Thread nD τ).loc main_arg2)) shapeCasts_S128256_S1x1002x128 := by
  rfl

/-! The block a window shows is the array behind it. -/

theorem blk0 (c : Dev nD) (t : Fin cfg0.N) : iblk m c 0 t = V m c main_arg0 := by
  funext y; blk_ext [iblk, idx t]
theorem blk1 (c : Dev nD) (t : Fin cfg0.N) : iblk m c 1 t = V m c main_arg1 := by
  funext y; blk_ext [iblk, idx t]
theorem blk2 (c : Dev nD) (t : Fin cfg0.N) : iblk m c 2 t = V m c main_v0 := by
  funext y; blk_ext [iblk, idx t]
theorem blk3 (c : Dev nD) (t : Fin cfg0.N) : iblk m c 3 t = V m c main_arg3 := by
  funext y; blk_ext [iblk, idx t]
theorem blk4 (c : Dev nD) (t : Fin cfg0.N) : iblk m c 4 t = V m c main_arg4 := by
  funext y; blk_ext [iblk, idx t]
theorem blk5 (c : Dev nD) (t : Fin cfg0.N) : iblk m c 5 t = V m c main_arg5 := by
  funext y; blk_ext [iblk, idx t]
theorem blk6 (c : Dev nD) (t : Fin cfg0.N) : iblk m c 6 t = V m c main_arg6 := by
  funext y; blk_ext [iblk, idx t]

/-- The codes. -/
theorem final7 (c : Dev nD) : (dats m 0 c).arrAt 7 cfg0.N = k0_pay2 (F := Ideal) (m ((c : Thread nD τ).loc main_arg0)) (m ((c : Thread nD τ).loc main_arg3)) (m ((c : Thread nD τ).loc main_arg6)) (m ((c : Thread nD τ).loc main_arg4)) (m ((c : Thread nD τ).loc main_arg5)) (shapeCast S1x1002x128 (m ((c : Thread nD τ).loc main_arg2)) shapeCasts_S128256_S1x1002x128) := by
  refine (dats m 0 c).arrAt_eq_of_covers 7 _ (by decide +kernel) fun t hf y => ?_
  blk_simp
  rw [after0_7]
  frame_out
  rw [blk0, blk2, blk3, blk4, blk5, blk6, V_v0, V_main_arg0, V_main_arg3, V_main_arg4, V_main_arg5, V_main_arg6]
  generalize k0_pay2 (F := Ideal) (m ((c : Thread nD τ).loc main_arg0)) (m ((c : Thread nD τ).loc main_arg3)) (m ((c : Thread nD τ).loc main_arg6)) (m ((c : Thread nD τ).loc main_arg4)) (m ((c : Thread nD τ).loc main_arg5)) (shapeCast S1x1002x128 (m ((c : Thread nD τ).loc main_arg2)) shapeCasts_S128256_S1x1002x128) = X
  blk_ext [idx t]

/-- The product of the codes with the matrix. -/
theorem final8 (c : Dev nD) : (dats m 0 c).arrAt 8 cfg0.N = k0_pay1 (F := Ideal) (k0_pay2 (F := Ideal) (m ((c : Thread nD τ).loc main_arg0)) (m ((c : Thread nD τ).loc main_arg3)) (m ((c : Thread nD τ).loc main_arg6)) (m ((c : Thread nD τ).loc main_arg4)) (m ((c : Thread nD τ).loc main_arg5)) (shapeCast S1x1002x128 (m ((c : Thread nD τ).loc main_arg2)) shapeCasts_S128256_S1x1002x128)) (m ((c : Thread nD τ).loc main_arg1)) := by
  refine (dats m 0 c).arrAt_eq_of_covers 8 _ (by decide +kernel) fun t hf y => ?_
  blk_simp
  rw [after0_8]
  frame_out
  rw [blk0, blk1, blk2, blk3, blk4, blk5, blk6, V_v0, V_main_arg0, V_main_arg1, V_main_arg3, V_main_arg4, V_main_arg5, V_main_arg6]
  generalize k0_pay1 (F := Ideal) (k0_pay2 (F := Ideal) (m ((c : Thread nD τ).loc main_arg0)) (m ((c : Thread nD τ).loc main_arg3)) (m ((c : Thread nD τ).loc main_arg6)) (m ((c : Thread nD τ).loc main_arg4)) (m ((c : Thread nD τ).loc main_arg5)) (shapeCast S1x1002x128 (m ((c : Thread nD τ).loc main_arg2)) shapeCasts_S128256_S1x1002x128)) (m ((c : Thread nD τ).loc main_arg1)) = X
  blk_ext [idx t]

/-- Comparing for equality does not depend on the order. -/
theorem cmpi_eq_comm (a b : BitVec 32) : IntOp.cmpi .eq a b = IntOp.cmpi .eq b a := by
  show BitVec.ofBool (a == b) = BitVec.ofBool (b == a)
  rw [BEq.comm]

/-- One code of the reference, from its row's and its column's numbers. -/
theorem code (v0 : Vec Ideal S2048x128256 .f32) (v2 : Vec Ideal S2048x128 .f32) (v7 : Vec Ideal S2048x128 .i32) (v16 : Vec Ideal S2048x128 .f32)
    (v23 : Vec Ideal S2048x128 .f32) (v27 : Vec Ideal S128256 .f32) (y : S2048x128256.Idx) :
    k0_pay2 (F := Ideal) v0 v2 v7 v16 v23 (shapeCast S1x1002x128 v27 shapeCasts_S128256_S1x1002x128) y
      = codeAt (v7 (ix2 (y 0) ⟨(y 1).val % 128, Nat.mod_lt _ (by decide)⟩)) (BitVec.ofNat 32 (y 1).val) (v0 y)
          (v2 (ix2 (y 0) ⟨(y 1).val % 128, Nat.mod_lt _ (by decide)⟩)) (v16 (ix2 (y 0) ⟨(y 1).val % 128, Nat.mod_lt _ (by decide)⟩))
          (v23 (ix2 (y 0) ⟨(y 1).val % 128, Nat.mod_lt _ (by decide)⟩)) (v27 (ix1 (y 1))) := by
  unfold k0_pay2
  pointwise
  have e : IntOp.addi (IntOp.muli (BitVec.ofNat 32 ((y 1).val / 128)) 128#32) (BitVec.ofNat 32 ((y 1).val % 128)) = BitVec.ofNat 32 (y 1).val := by
    refine ((congrArg (IntOp.addi · _) (BitVec.ofNat_mul _ 128).symm).trans (BitVec.ofNat_add _ _).symm).trans ?_
    rw [Nat.div_add_mod']
  rw [e, cmpi_eq_comm]
  rfl

/-- The product, as a sum over the columns. -/
theorem prod (g : Vec Ideal S2048x128256 .fp8e5m2) (w : Vec Ideal S128256x3072 .fp8e4m3) (y : S2048x3072.Idx) :
    k0_pay1 (F := Ideal) g w y = ∑ k : Fin 128256, g (ix2 (y 0) k) * w (ix2 k (y 1)) := by
  unfold k0_pay1
  pointwise

end Cert.Proof.GradRef

end
-- ==== Proof.GradArr.lean ====
module

public import proofs.«01_k».proof.Defs
public import proofs.«01_k».proof.Proof.GradValue
public import proofs.«01_k».proof.Proof.GradPoint
public import proofs.«01_k».proof.Proof.GradRef
public import Idealize.ShloMosaic.Lib.Pipeline.ValueKit

@[expose] public section

set_option maxRecDepth 16384

noncomputable section

namespace Cert.Proof.Grad

open Idealize.ShloMosaic Idealize.ShloMosaic.TcCoe Idealize.SL.Sem
open Cert.GradIdeal.GradRun Cert.GradIdeal.GradBlock Cert.GradIdeal.GradPoint
open Cert.GradIdeal Cert.GradIdeal.Gen

variable (m : (ℓ : Loc nD τ sig) → Buf (Elt Ideal) ℓ)

/-- The index maps of the eight windows, and the one grid coordinate. -/
theorem idx : ∀ t : Fin cfg0.N, win0_0.index t = ![0, t.val] ∧ win0_1.index t = ![t.val, 0]
    ∧ win0_2.index t = ![t.val, 0, 0] ∧ win0_3.index t = ![0, 0] ∧ win0_4.index t = ![0, 0]
    ∧ win0_5.index t = ![0, 0] ∧ win0_6.index t = ![0, 0] ∧ win0_7.index t = ![0, t.val]
    ∧ (grid0.coords t 0).val = t.val := by
  decide +kernel

/-- The columns' factors as the call takes them: reshaped. -/
theorem V_v0 (c : Dev nD) : V m c main_v0 = shapeCast S167x1x768 (m ((c : Thread nD τ).loc main_arg2)) shapeCasts_S128256_S167x1x768 := by
  rfl

/-- The codes of one point: those of its 768 columns. -/
def pointCodes (c : Dev nD) (t : Fin cfg0.N) : S2048x768.Idx → EReal :=
  codes (BitVec.ofNat 32 (grid0.coords t 0).val) (k0_pay3 (F := Ideal) (iblk m c 2 t)) (iblk m c 3 t) (iblk m c 4 t) (iblk m c 5 t) (iblk m c 6 t) (iblk m c 0 t)

/-- The codes of the whole array, from the call's arguments. -/
def arrCodes (c : Dev nD) (y : S2048x128256.Idx) : EReal :=
  codeAt ((m ((c : Thread nD τ).loc main_arg6)) (ix2 (y 0) ⟨(y 1).val % 128, Nat.mod_lt _ (by decide)⟩)) (BitVec.ofNat 32 (y 1).val) ((m ((c : Thread nD τ).loc main_arg0)) y)
    ((m ((c : Thread nD τ).loc main_arg3)) (ix2 (y 0) ⟨(y 1).val % 128, Nat.mod_lt _ (by decide)⟩)) ((m ((c : Thread nD τ).loc main_arg4)) (ix2 (y 0) ⟨(y 1).val % 128, Nat.mod_lt _ (by decide)⟩))
    ((m ((c : Thread nD τ).loc main_arg5)) (ix2 (y 0) ⟨(y 1).val % 128, Nat.mod_lt _ (by decide)⟩)) ((m ((c : Thread nD τ).loc main_arg2)) (ix1 (y 1)))

/-- A label within a point's columns is the label within all columns, less the columns before. -/
theorem cmpi_shift (l : BitVec 32) (t k : ℕ) :
    IntOp.cmpi .eq (IntOp.subi l (Scalar.muli (BitVec.ofNat 32 t) 768#32)) (BitVec.ofNat 32 k) = IntOp.cmpi .eq l (BitVec.ofNat 32 (t * 768 + k)) := by
  show BitVec.ofBool (l - BitVec.ofNat 32 t * 768#32 == BitVec.ofNat 32 k) = BitVec.ofBool (l == BitVec.ofNat 32 (t * 768 + k))
  congr 1
  rw [BitVec.ofNat_add, BitVec.ofNat_mul, Bool.eq_iff_iff, beq_iff_eq, beq_iff_eq]
  generalize BitVec.ofNat 32 t * BitVec.ofNat 32 768 = p
  constructor <;> intro h <;> bv_omega

/-- The same for a code. -/
theorem codeAt_shift (l : BitVec 32) (t k : ℕ) (s mx den fac sw : EReal) :
    codeAt (IntOp.subi l (Scalar.muli (BitVec.ofNat 32 t) 768#32)) (BitVec.ofNat 32 k) s mx den fac sw
      = codeAt l (BitVec.ofNat 32 (t * 768 + k)) s mx den fac sw := by
  unfold codeAt
  rw [cmpi_shift]

/-- A block's code at a row and a column. -/
theorem codes_apply (a : BitVec 32) (sw : FVec Ideal S1x768 .f32) (mx den fac : Vec Ideal S2048x128 .f32) (lab : Vec Ideal S2048x128 .i32)
    (s : Vec Ideal S2048x768 .f32) (r : Fin 2048) (k : Fin 768) :
    codes a sw mx den fac lab s (ix2 r k) = codeAt (IntOp.subi (lab (ix2 r ⟨k.val % 128, Nat.mod_lt _ (by decide)⟩)) (Scalar.muli a 768#32))
      (BitVec.ofNat 32 k.val) (s (ix2 r k)) (mx (ix2 r ⟨k.val % 128, Nat.mod_lt _ (by decide)⟩)) (den (ix2 r ⟨k.val % 128, Nat.mod_lt _ (by decide)⟩))
      (fac (ix2 r ⟨k.val % 128, Nat.mod_lt _ (by decide)⟩)) (sw (ix2 0 k)) := rfl

/-- A point's codes are the array's at the point's columns. -/
theorem pointCodes_eq (c : Dev nD) (t : Fin cfg0.N) (r : Fin 2048) (k : Fin 768) (hk : t.val * 768 + k.val < 128256) :
    pointCodes m c t (ix2 r k) = arrCodes m c (ix2 r ⟨t.val * 768 + k.val, hk⟩) := by
  unfold pointCodes arrCodes
  have hm : (t.val * 768 + k.val) % 128 = k.val % 128 := by omega
  have e0 : iblk m c 0 t (ix2 r k) = (m ((c : Thread nD τ).loc main_arg0)) (ix2 r ⟨t.val * 768 + k.val, hk⟩) := by
    blk_point [iblk, V, idx t]
  have e2 : k0_pay3 (F := Ideal) (iblk m c 2 t) (ix2 0 k) = (m ((c : Thread nD τ).loc main_arg2)) (ix1 ⟨t.val * 768 + k.val, hk⟩) := by
    unfold k0_pay3
    pointwise
    blk_point [iblk, V_v0, idx t]
  have e6 : iblk m c 6 t (ix2 r ⟨k.val % 128, Nat.mod_lt _ (by decide)⟩) = (m ((c : Thread nD τ).loc main_arg6)) (ix2 r ⟨(t.val * 768 + k.val) % 128, Nat.mod_lt _ (by decide)⟩) := by
    blk_point [iblk, V, idx t]
  have e3 : iblk m c 3 t (ix2 r ⟨k.val % 128, Nat.mod_lt _ (by decide)⟩) = (m ((c : Thread nD τ).loc main_arg3)) (ix2 r ⟨(t.val * 768 + k.val) % 128, Nat.mod_lt _ (by decide)⟩) := by
    blk_point [iblk, V, idx t]
  have e4 : iblk m c 4 t (ix2 r ⟨k.val % 128, Nat.mod_lt _ (by decide)⟩) = (m ((c : Thread nD τ).loc main_arg4)) (ix2 r ⟨(t.val * 768 + k.val) % 128, Nat.mod_lt _ (by decide)⟩) := by
    blk_point [iblk, V, idx t]
  have e5 : iblk m c 5 t (ix2 r ⟨k.val % 128, Nat.mod_lt _ (by decide)⟩) = (m ((c : Thread nD τ).loc main_arg5)) (ix2 r ⟨(t.val * 768 + k.val) % 128, Nat.mod_lt _ (by decide)⟩) := by
    blk_point [iblk, V, idx t]
  rw [(idx t).2.2.2.2.2.2.2.2]
  rw [codes_apply, codeAt_shift, e0, e2, e3, e4, e5, e6]
  rfl
/-- The codes of the first point. -/
theorem fst_A (c : Dev nD) (t : Fin cfg0.N) (h0 : t.val % 167 = 0) (h1 : ¬t.val % 167 = 166) :
    (outsAt0 m c t.val t.isLt).1 = codes (BitVec.ofNat 32 (grid0.coords t 0).val) (k0_pay3 (F := Ideal) (iblk m c 2 t)) (iblk m c 3 t) (iblk m c 4 t) (iblk m c 5 t) (iblk m c 6 t) (iblk m c 0 t) := by
  have e : (outsAt0 m c t.val t.isLt).1 = out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (V m c main_v1_1) := by
    rw [outsAt0_A m c t h0 h1]
  have e' : out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (V m c main_v1_1) = codes (BitVec.ofNat 32 (grid0.coords t 0).val) (k0_pay3 (F := Ideal) (iblk m c 2 t)) (iblk m c 3 t) (iblk m c 4 t) (iblk m c 5 t) (iblk m c 6 t) (iblk m c 0 t) := out0_A_7_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (V m c main_v1_1)
  rw [e, e']

/-- The sum after the first point. -/
theorem snd_A (c : Dev nD) (t : Fin cfg0.N) (h0 : t.val % 167 = 0) (h1 : ¬t.val % 167 = 166) :
    (outsAt0 m c t.val t.isLt).2.1 = accStep (codes (BitVec.ofNat 32 (grid0.coords t 0).val) (k0_pay3 (F := Ideal) (iblk m c 2 t)) (iblk m c 3 t) (iblk m c 4 t) (iblk m c 5 t) (iblk m c 6 t) (iblk m c 0 t)) (iblk m c 1 t) (k0_pay2 (F := Ideal)) := by
  have e : (outsAt0 m c t.val t.isLt).2.1 = sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (V m c main_v1_1) := by
    rw [outsAt0_A m c t h0 h1]
  have e' : sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (V m c main_v1_1) = accStep (codes (BitVec.ofNat 32 (grid0.coords t 0).val) (k0_pay3 (F := Ideal) (iblk m c 2 t)) (iblk m c 3 t) (iblk m c 4 t) (iblk m c 5 t) (iblk m c 6 t) (iblk m c 0 t)) (iblk m c 1 t) (k0_pay2 (F := Ideal)) := sout0_A_0_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (V m c main_v1_1)
  rw [e, e']

/-- The codes of a point between the first and the last. -/
theorem fst_B (c : Dev nD) (t : Fin cfg0.N) (h0 : ¬t.val % 167 = 0) (h1 : ¬t.val % 167 = 166) :
    (outsAt0 m c t.val t.isLt).1 = codes (BitVec.ofNat 32 (grid0.coords t 0).val) (k0_pay3 (F := Ideal) (iblk m c 2 t)) (iblk m c 3 t) (iblk m c 4 t) (iblk m c 5 t) (iblk m c 6 t) (iblk m c 0 t) := by
  have e : (outsAt0 m c t.val t.isLt).1 = out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.1 (outsAt0 m c (t.val - 1) (Nat.lt_of_le_of_lt (Nat.sub_le _ _) t.isLt)).2.2 := by
    rw [outsAt0_B m c t h0 h1]
  have e' : out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.1 (outsAt0 m c (t.val - 1) (Nat.lt_of_le_of_lt (Nat.sub_le _ _) t.isLt)).2.2 = codes (BitVec.ofNat 32 (grid0.coords t 0).val) (k0_pay3 (F := Ideal) (iblk m c 2 t)) (iblk m c 3 t) (iblk m c 4 t) (iblk m c 5 t) (iblk m c 6 t) (iblk m c 0 t) := out0_B_7_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.1 (outsAt0 m c (t.val - 1) (Nat.lt_of_le_of_lt (Nat.sub_le _ _) t.isLt)).2.2
  rw [e, e']

/-- The sum after a point between the first and the last. -/
theorem snd_B (c : Dev nD) (t : Fin cfg0.N) (h0 : ¬t.val % 167 = 0) (h1 : ¬t.val % 167 = 166) :
    (outsAt0 m c t.val t.isLt).2.1 = accStep (codes (BitVec.ofNat 32 (grid0.coords t 0).val) (k0_pay3 (F := Ideal) (iblk m c 2 t)) (iblk m c 3 t) (iblk m c 4 t) (iblk m c 5 t) (iblk m c 6 t) (iblk m c 0 t)) (iblk m c 1 t) (outsAt0 m c (t.val - 1) (Nat.lt_of_le_of_lt (Nat.sub_le _ _) t.isLt)).2.1 := by
  have e : (outsAt0 m c t.val t.isLt).2.1 = sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.1 (outsAt0 m c (t.val - 1) (Nat.lt_of_le_of_lt (Nat.sub_le _ _) t.isLt)).2.2 := by
    rw [outsAt0_B m c t h0 h1]
  have e' : sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.1 (outsAt0 m c (t.val - 1) (Nat.lt_of_le_of_lt (Nat.sub_le _ _) t.isLt)).2.2 = accStep (codes (BitVec.ofNat 32 (grid0.coords t 0).val) (k0_pay3 (F := Ideal) (iblk m c 2 t)) (iblk m c 3 t) (iblk m c 4 t) (iblk m c 5 t) (iblk m c 6 t) (iblk m c 0 t)) (iblk m c 1 t) (outsAt0 m c (t.val - 1) (Nat.lt_of_le_of_lt (Nat.sub_le _ _) t.isLt)).2.1 := sout0_B_0_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.1 (outsAt0 m c (t.val - 1) (Nat.lt_of_le_of_lt (Nat.sub_le _ _) t.isLt)).2.2
  rw [e, e']

/-- The codes of the last point. -/
theorem fst_C (c : Dev nD) (t : Fin cfg0.N) (h0 : ¬t.val % 167 = 0) (h1 : t.val % 167 = 166) :
    (outsAt0 m c t.val t.isLt).1 = codes (BitVec.ofNat 32 (grid0.coords t 0).val) (k0_pay3 (F := Ideal) (iblk m c 2 t)) (iblk m c 3 t) (iblk m c 4 t) (iblk m c 5 t) (iblk m c 6 t) (iblk m c 0 t) := by
  have e : (outsAt0 m c t.val t.isLt).1 = out0_C_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.1 (outsAt0 m c (t.val - 1) (Nat.lt_of_le_of_lt (Nat.sub_le _ _) t.isLt)).2.2 := by
    rw [outsAt0_C m c t h0 h1]
  have e' : out0_C_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.1 (outsAt0 m c (t.val - 1) (Nat.lt_of_le_of_lt (Nat.sub_le _ _) t.isLt)).2.2 = codes (BitVec.ofNat 32 (grid0.coords t 0).val) (k0_pay3 (F := Ideal) (iblk m c 2 t)) (iblk m c 3 t) (iblk m c 4 t) (iblk m c 5 t) (iblk m c 6 t) (iblk m c 0 t) := out0_C_7_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.1 (outsAt0 m c (t.val - 1) (Nat.lt_of_le_of_lt (Nat.sub_le _ _) t.isLt)).2.2
  rw [e, e']

/-- The sum after the last point. -/
theorem snd_C (c : Dev nD) (t : Fin cfg0.N) (h0 : ¬t.val % 167 = 0) (h1 : t.val % 167 = 166) :
    (outsAt0 m c t.val t.isLt).2.1 = accStep (codes (BitVec.ofNat 32 (grid0.coords t 0).val) (k0_pay3 (F := Ideal) (iblk m c 2 t)) (iblk m c 3 t) (iblk m c 4 t) (iblk m c 5 t) (iblk m c 6 t) (iblk m c 0 t)) (iblk m c 1 t) (outsAt0 m c (t.val - 1) (Nat.lt_of_le_of_lt (Nat.sub_le _ _) t.isLt)).2.1 := by
  have e : (outsAt0 m c t.val t.isLt).2.1 = sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.1 (outsAt0 m c (t.val - 1) (Nat.lt_of_le_of_lt (Nat.sub_le _ _) t.isLt)).2.2 := by
    rw [outsAt0_C m c t h0 h1]
  have e' : sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.1 (outsAt0 m c (t.val - 1) (Nat.lt_of_le_of_lt (Nat.sub_le _ _) t.isLt)).2.2 = accStep (codes (BitVec.ofNat 32 (grid0.coords t 0).val) (k0_pay3 (F := Ideal) (iblk m c 2 t)) (iblk m c 3 t) (iblk m c 4 t) (iblk m c 5 t) (iblk m c 6 t) (iblk m c 0 t)) (iblk m c 1 t) (outsAt0 m c (t.val - 1) (Nat.lt_of_le_of_lt (Nat.sub_le _ _) t.isLt)).2.1 := sout0_C_0_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.1 (outsAt0 m c (t.val - 1) (Nat.lt_of_le_of_lt (Nat.sub_le _ _) t.isLt)).2.2
  rw [e, e']

/-- The last point writes the sum out as it is. -/
theorem out_last (c : Dev nD) (t : Fin cfg0.N) (h1 : t.val % 167 = 166) :
    (outsAt0 m c t.val t.isLt).2.2 = (outsAt0 m c t.val t.isLt).2.1 := by
  have h0 : ¬t.val % 167 = 0 := by omega
  have e : (outsAt0 m c t.val t.isLt).2.2 = hbw0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.1 (outsAt0 m c (t.val - 1) (Nat.lt_of_le_of_lt (Nat.sub_le _ _) t.isLt)).2.2 := by
    rw [outsAt0_C m c t h0 h1]
  have e' : (outsAt0 m c t.val t.isLt).2.1 = sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.1 (outsAt0 m c (t.val - 1) (Nat.lt_of_le_of_lt (Nat.sub_le _ _) t.isLt)).2.2 := by
    rw [outsAt0_C m c t h0 h1]
  have e'' : hbw0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.1 (outsAt0 m c (t.val - 1) (Nat.lt_of_le_of_lt (Nat.sub_le _ _) t.isLt)).2.2 = sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.1 (outsAt0 m c (t.val - 1) (Nat.lt_of_le_of_lt (Nat.sub_le _ _) t.isLt)).2.2 := hbw0_C_0_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.1 (outsAt0 m c (t.val - 1) (Nat.lt_of_le_of_lt (Nat.sub_le _ _) t.isLt)).2.2
  rw [e, e', e'']

/-- What a point leaves in the codes' window: its codes. -/
theorem out_codes (c : Dev nD) (t : Fin cfg0.N) : (outsAt0 m c t.val t.isLt).1 = pointCodes m c t := by
  by_cases h0 : t.val % 167 = 0
  · exact fst_A m c t h0 (by omega)
  · by_cases h1 : t.val % 167 = 166
    · exact fst_C m c t h0 h1
    · exact fst_B m c t h0 h1

/-- What one point adds to a sum: its codes times its block of the matrix. -/
def term (c : Dev nD) (t : Fin cfg0.N) (y : S2048x3072.Idx) : EReal :=
  ∑ k : Fin 768, pointCodes m c t (ix2 (y 0) k) * iblk m c 1 t (ix2 k (y 1))

/-- The first point's sum starts from zero. -/
theorem sum_first (c : Dev nD) (t : Fin cfg0.N) (h0 : t.val % 167 = 0) (y : S2048x3072.Idx) :
    (outsAt0 m c t.val t.isLt).2.1 y = k0_pay2 (F := Ideal) y + term m c t y := by
  have h1 : ¬t.val % 167 = 166 := by omega
  rw [snd_A m c t h0 h1]
  rfl

/-- Each later point adds its term to the sum the point before left. -/
theorem sum_next (c : Dev nD) (t : Fin cfg0.N) (h0 : ¬t.val % 167 = 0) (y : S2048x3072.Idx) :
    (outsAt0 m c t.val t.isLt).2.1 y = (outsAt0 m c (t.val - 1) (Nat.lt_of_le_of_lt (Nat.sub_le _ _) t.isLt)).2.1 y + term m c t y := by
  have e : (outsAt0 m c t.val t.isLt).2.1 = accStep (pointCodes m c t) (iblk m c 1 t) (outsAt0 m c (t.val - 1) (Nat.lt_of_le_of_lt (Nat.sub_le _ _) t.isLt)).2.1 := by
    by_cases h1 : t.val % 167 = 166
    · exact snd_C m c t h0 h1
    · exact snd_B m c t h0 h1
  rw [e]
  rfl

end Cert.Proof.Grad

end
-- ==== Proof.Grad.lean ====
module

public import proofs.«01_k».proof.Defs
public import proofs.«01_k».proof.Proof.GradValue
public import proofs.«01_k».proof.Proof.GradPoint
public import proofs.«01_k».proof.Proof.GradArr
public import proofs.«01_k».proof.Proof.GradRef
public import Idealize.ShloMosaic.Lib.Pipeline.ValueKit

@[expose] public section

set_option maxRecDepth 16384

noncomputable section

namespace Cert.Proof.Grad

open Idealize.ShloMosaic Idealize.ShloMosaic.TcCoe Idealize.SL.Sem
open Cert.GradIdeal.GradRun Cert.GradIdeal.GradBlock Cert.GradIdeal.GradPoint
open Cert.GradIdeal Cert.GradIdeal.Gen

variable (m : (ℓ : Loc nD τ sig) → Buf (Elt Ideal) ℓ)

/-- A position of a block is its row and its column. -/
theorem at_ix2 (f : S2048x768.Idx → EReal) (y : S2048x768.Idx) : f y = f (ix2 (y 0) (y 1)) := congrArg f (ix2_eta y).symm

/-- The codes. -/
theorem final_codes (c : Dev nD) : (dats m 0 c).arrAt 7 cfg0.N = arrCodes m c := by
  refine (dats m 0 c).arrAt_eq_of_covers 7 _ (by decide +kernel) fun t hf y => ?_
  blk_simp
  rw [after0_7, out_codes]
  have hN : t.val < 167 := lt_of_lt_of_eq t.isLt N_0
  have key : ∀ (r : Fin 2048) (k : Fin 768), pointCodes m c t (ix2 r k) = arrCodes m c (ix2 r ⟨t.val * 768 + k.val, by omega⟩) :=
    fun r k => pointCodes_eq m c t r k _
  refine (at_ix2 (pointCodes m c t) y).trans ((key (y 0) (y 1)).trans ?_)
  generalize arrCodes m c = X
  blk_ext [idx t]

/-- The product: the sum over all columns of code times matrix entry. -/
theorem final_sum (c : Dev nD) (k : ℕ) (hk : k < cfg0.N) (hl : cfg0.N = k + 1) (y : S2048x3072.Idx) :
    ((outsAt0 m c k hk).2.2 : Vec Ideal S2048x3072 .f32) y = ∑ q : Fin 128256, arrCodes m c (ix2 (y 0) q) * (m ((c : Thread nD τ).loc main_arg1)) (ix2 q (y 1)) := by
  have hN : cfg0.N = 167 := N_0
  have e := out_last m c ⟨k, hk⟩ (by show k % 167 = 166; omega)
  refine (congrFun e y).trans ?_
  have z : k0_pay2 (F := Ideal) y = 0 := by
    unfold k0_pay2
    pointwise
  refine (Pipeline.eq_sum_fin_of_reset_step_apply_last (fun n h => (outsAt0 m c n h).2.1) 167 (k0_pay2 (F := Ideal)) (term m c)
    (sum_first m c) (sum_next m c) hN.le ⟨k, hk⟩ hl.symm y).trans ?_
  rw [z, zero_add]
  unfold term
  rw [← Fin.sum_mul_add_fin 167 768 (fun q : Fin 128256 => arrCodes m c (ix2 (y 0) q) * (m ((c : Thread nD τ).loc main_arg1)) (ix2 q (y 1)))]
  refine Fintype.sum_equiv (finCongr hN) _ _ fun t => Finset.sum_congr rfl fun q _ => ?_
  have hq : t.val * 768 + q.val < 128256 := by have := t.isLt; have := q.isLt; omega
  have e1 : iblk m c 1 t (ix2 q (y 1)) = (m ((c : Thread nD τ).loc main_arg1)) (ix2 ⟨t.val * 768 + q.val, hq⟩ (y 1)) := by
    blk_point [iblk, V, idx t]
  rw [e1, pointCodes_eq m c t (y 0) q hq]
  rfl

set_option maxHeartbeats 1000000 in
/-- On equal arguments the call and its reference end with the same codes and the same product, exactly. -/
theorem algebraic : Cert.algebraic_GradIdeal_GradRefIdeal := by
  intro m ρ m' ρ' _ hagree
  refine ⟨fun c => (dats (F := Ideal) m 0 c).arrAt 7 cfg0.N, fun c => (outsAt0 m c 166 last_lt).2.2,
    (θ_run Cert.GradIdeal.defs _ _).mono (fun _ h c => ?_) (Cert.GradIdeal.GradValue.run_blocks (F := Ideal) m ρ 166 last_lt last_eq), ?_⟩
  · obtain ⟨a, b, c, d, e, f, g, i, j⟩ := h c
    exact ⟨a, j, b, c, d, e, f, g, i⟩
  refine (θ_run Cert.GradRefIdeal.defs _ _).mono (fun _ h c => ⟨(h c).1.trans ?_, (h c).2.1.trans ?_, (h c).2.2⟩)
    (Cert.GradRefIdeal.Value.run_blocks (F := Ideal) m' ρ')
  · refine Eq.trans ?_ (final_codes m c).symm
    rw [GradRef.final7]
    obtain ⟨a0, a1, a2, a3, a4, a5, a6⟩ := hagree c
    rw [a0, a2, a3, a4, a5, a6]
    exact funext fun y => GradRef.code _ _ _ _ _ _ y
  · rw [GradRef.final8]
    obtain ⟨a0, a1, a2, a3, a4, a5, a6⟩ := hagree c
    rw [a0, a1, a2, a3, a4, a5, a6]
    refine funext fun y => (GradRef.prod _ _ y).trans (Eq.trans ?_ (final_sum m c 166 last_lt last_eq y).symm)
    exact Finset.sum_congr rfl fun q _ => congrArg (· * _) (GradRef.code _ _ _ _ _ _ (ix2 (y 0) q))

end Cert.Proof.Grad

end
-- ==== Proof.StatsBlock.lean ====
module

public import proofs.«01_k».proof.Defs
public import proofs.«01_k».proof.Proof.Gen.StatsIdeal.Skeleton
public import Idealize.ShloMosaic.Lib.Pipeline.ValueKit

@[expose] public section

set_option maxRecDepth 16384

noncomputable section

namespace Cert.StatsIdeal.StatsBlock

open Idealize.ShloMosaic Idealize.ShloMosaic.TcCoe Idealize.SL.Sem
open Cert.StatsIdeal Cert.StatsIdeal.Gen

/-- A strip's scaled logits in one group of 128 columns. -/
def slab (k : Nat) (hA : S512x768.Slices ![0, k] S512x128) (hB : S1x768.Slices ![0, k] S1x128) (w : Vec Ideal S768x3072 .fp8e4m3)
    (sw : Vec Ideal S1x1x768 .f32) (x : Vec Ideal S512x3072 .fp8e4m3) (sx : Vec Ideal S512x128 .f32) : FVec Ideal S512x128 .f32 :=
  mulf (mulf (extractStridedSlice S512x128 ![0, k] (k0_pay10 (F := Ideal) w x) hA) sx)
    (broadcastTo S512x128 (extractStridedSlice S1x128 ![0, k] (k0_pay9 (F := Ideal) sw) hB) broadcasts_S1x128_S512x128)

/-- A strip's old contents, as the kernel reads them. -/
def old (v : Vec Ideal S512x128 .f32) : FVec Ideal S512x128 .f32 := shapeCast S512x128 v shapeCasts_S512x128_S512x128

/-- The running maximum of a strip after six groups. -/
def maxOf (m s0 s1 s2 s3 s4 s5 : FVec Ideal S512x128 .f32) : FVec Ideal S512x128 .f32 :=
  maximumf (maximumf (maximumf (maximumf (maximumf (maximumf m s0) s1) s2) s3) s4) s5

/-- The running denominator of a strip after six groups; `n` is the new maximum. -/
def denOf (m d n s0 s1 s2 s3 s4 s5 : FVec Ideal S512x128 .f32) : FVec Ideal S512x128 .f32 :=
  addf (addf (addf (addf (addf (addf (mulf d (exp2 (subf m n))) (exp2 (subf s0 n))) (exp2 (subf s1 n))) (exp2 (subf s2 n))) (exp2 (subf s3 n))) (exp2 (subf s4 n))) (exp2 (subf s5 n))

/-- The running numerator of a strip after six groups. -/
def numOf (m d n s0 s1 s2 s3 s4 s5 : FVec Ideal S512x128 .f32) : FVec Ideal S512x128 .f32 :=
  addf (addf (addf (addf (addf (addf (mulf d (exp2 (subf m n))) (mulf (exp2 (subf s0 n)) s0)) (mulf (exp2 (subf s1 n)) s1)) (mulf (exp2 (subf s2 n)) s2)) (mulf (exp2 (subf s3 n)) s3)) (mulf (exp2 (subf s4 n)) s4)) (mulf (exp2 (subf s5 n)) s5)

/-- The label's logit, if its column is among those of one group; zero otherwise. -/
def hitIn (off : BitVec 32) (lab : IVec S512x128 32) (s : FVec Ideal S512x128 .f32) : FVec Ideal S512x128 .f32 :=
  select (cmpi .eq lab (broadcastTo S512x128 (addi (iota .tc S1x128 32 [1] iota_S1x128_d1_w32) (broadcast S1x128 off)) broadcasts_S1x128_S512x128))
    s (broadcast S512x128 (Scalar.ofBits (F := Ideal) .f32 0x00000000#32))

/-- The running sum of the label's logit after six groups. -/
def hitOf (lab : IVec S512x128 32) (h s0 s1 s2 s3 s4 s5 : FVec Ideal S512x128 .f32) : FVec Ideal S512x128 .f32 :=
  addf (addf (addf (addf (addf (addf h (hitIn 0#32 lab s0)) (hitIn 128#32 lab s1)) (hitIn 256#32 lab s2)) (hitIn 384#32 lab s3)) (hitIn 512#32 lab s4)) (hitIn 640#32 lab s5)

/-- Group 0 of a strip's scaled logits. -/
def slab0 (w : Vec Ideal S768x3072 .fp8e4m3) (sw : Vec Ideal S1x1x768 .f32) (x : Vec Ideal S512x3072 .fp8e4m3) (sx : Vec Ideal S512x128 .f32) :
    FVec Ideal S512x128 .f32 := slab 0 slices_S512x768_o0_0_S512x128 slices_S1x768_o0_0_S1x128 w sw x sx

/-- Group 1 of a strip's scaled logits. -/
def slab1 (w : Vec Ideal S768x3072 .fp8e4m3) (sw : Vec Ideal S1x1x768 .f32) (x : Vec Ideal S512x3072 .fp8e4m3) (sx : Vec Ideal S512x128 .f32) :
    FVec Ideal S512x128 .f32 := slab 128 slices_S512x768_o0_128_S512x128 slices_S1x768_o0_128_S1x128 w sw x sx

/-- Group 2 of a strip's scaled logits. -/
def slab2 (w : Vec Ideal S768x3072 .fp8e4m3) (sw : Vec Ideal S1x1x768 .f32) (x : Vec Ideal S512x3072 .fp8e4m3) (sx : Vec Ideal S512x128 .f32) :
    FVec Ideal S512x128 .f32 := slab 256 slices_S512x768_o0_256_S512x128 slices_S1x768_o0_256_S1x128 w sw x sx

/-- Group 3 of a strip's scaled logits. -/
def slab3 (w : Vec Ideal S768x3072 .fp8e4m3) (sw : Vec Ideal S1x1x768 .f32) (x : Vec Ideal S512x3072 .fp8e4m3) (sx : Vec Ideal S512x128 .f32) :
    FVec Ideal S512x128 .f32 := slab 384 slices_S512x768_o0_384_S512x128 slices_S1x768_o0_384_S1x128 w sw x sx

/-- Group 4 of a strip's scaled logits. -/
def slab4 (w : Vec Ideal S768x3072 .fp8e4m3) (sw : Vec Ideal S1x1x768 .f32) (x : Vec Ideal S512x3072 .fp8e4m3) (sx : Vec Ideal S512x128 .f32) :
    FVec Ideal S512x128 .f32 := slab 512 slices_S512x768_o0_512_S512x128 slices_S1x768_o0_512_S1x128 w sw x sx

/-- Group 5 of a strip's scaled logits. -/
def slab5 (w : Vec Ideal S768x3072 .fp8e4m3) (sw : Vec Ideal S1x1x768 .f32) (x : Vec Ideal S512x3072 .fp8e4m3) (sx : Vec Ideal S512x128 .f32) :
    FVec Ideal S512x128 .f32 := slab 640 slices_S512x768_o0_640_S512x128 slices_S1x768_o0_640_S1x128 w sw x sx

/-- A strip's maximum after a point. -/
def maxStrip (w : Vec Ideal S768x3072 .fp8e4m3) (sw : Vec Ideal S1x1x768 .f32) (x : Vec Ideal S512x3072 .fp8e4m3) (sx : Vec Ideal S512x128 .f32) (m : Vec Ideal S512x128 .f32) : FVec Ideal S512x128 .f32 := maxOf (old m) (slab0 w sw x sx) (slab1 w sw x sx) (slab2 w sw x sx) (slab3 w sw x sx) (slab4 w sw x sx) (slab5 w sw x sx)

/-- A strip's denominator after a point. -/
def denStrip (w : Vec Ideal S768x3072 .fp8e4m3) (sw : Vec Ideal S1x1x768 .f32) (x : Vec Ideal S512x3072 .fp8e4m3) (sx : Vec Ideal S512x128 .f32) (m d : Vec Ideal S512x128 .f32) : FVec Ideal S512x128 .f32 := denOf (old m) (old d) (maxStrip w sw x sx m) (slab0 w sw x sx) (slab1 w sw x sx) (slab2 w sw x sx) (slab3 w sw x sx) (slab4 w sw x sx) (slab5 w sw x sx)

/-- A strip's numerator after a point. -/
def numStrip (w : Vec Ideal S768x3072 .fp8e4m3) (sw : Vec Ideal S1x1x768 .f32) (x : Vec Ideal S512x3072 .fp8e4m3) (sx : Vec Ideal S512x128 .f32) (m d : Vec Ideal S512x128 .f32) : FVec Ideal S512x128 .f32 := numOf (old m) (old d) (maxStrip w sw x sx m) (slab0 w sw x sx) (slab1 w sw x sx) (slab2 w sw x sx) (slab3 w sw x sx) (slab4 w sw x sx) (slab5 w sw x sx)

/-- A strip's label logit after a point. -/
def hitStrip (a : BitVec 32) (w : Vec Ideal S768x3072 .fp8e4m3) (sw : Vec Ideal S1x1x768 .f32) (x : Vec Ideal S512x3072 .fp8e4m3) (sx : Vec Ideal S512x128 .f32) (lab : Vec Ideal S512x128 .i32) (h : Vec Ideal S512x128 .f32) : FVec Ideal S512x128 .f32 :=
  hitOf (subi lab (broadcast S512x128 (Scalar.muli a 768#32))) (old h) (slab0 w sw x sx) (slab1 w sw x sx) (slab2 w sw x sx) (slab3 w sw x sx) (slab4 w sw x sx) (slab5 w sw x sx)

/-- Six logits into a running maximum. -/
def maxStep (m s0 s1 s2 s3 s4 s5 : EReal) : EReal := max (max (max (max (max (max m s0) s1) s2) s3) s4) s5
/-- Six logits into a running denominator. -/
def denStep (m d n s0 s1 s2 s3 s4 s5 : EReal) : EReal := d * Ideal.exp2 (m - n) + Ideal.exp2 (s0 - n) + Ideal.exp2 (s1 - n) + Ideal.exp2 (s2 - n) + Ideal.exp2 (s3 - n) + Ideal.exp2 (s4 - n) + Ideal.exp2 (s5 - n)
/-- Six logits into a running numerator. -/
def numStep (m d n s0 s1 s2 s3 s4 s5 : EReal) : EReal := d * Ideal.exp2 (m - n) + Ideal.exp2 (s0 - n) * s0 + Ideal.exp2 (s1 - n) * s1 + Ideal.exp2 (s2 - n) * s2 + Ideal.exp2 (s3 - n) * s3 + Ideal.exp2 (s4 - n) * s4 + Ideal.exp2 (s5 - n) * s5
/-- The logit `s`, if column `k` is the label's. -/
def hitAt (l k : BitVec 32) (s : EReal) : EReal := Scalar.select (IntOp.cmpi .eq l k) s 0
/-- Six logits into a running label logit. -/
def hitStep (l k : BitVec 32) (h s0 s1 s2 s3 s4 s5 : EReal) : EReal := h + hitAt l (IntOp.addi k 0#32) s0 + hitAt l (IntOp.addi k 128#32) s1 + hitAt l (IntOp.addi k 256#32) s2 + hitAt l (IntOp.addi k 384#32) s3 + hitAt l (IntOp.addi k 512#32) s4 + hitAt l (IntOp.addi k 640#32) s5

theorem old_apply (v : Vec Ideal S512x128 .f32) (z : S512x128.Idx) : old v z = v z := by
  unfold old
  pointwise

theorem maxOf_apply (m s0 s1 s2 s3 s4 s5 : FVec Ideal S512x128 .f32) (z : S512x128.Idx) : maxOf m s0 s1 s2 s3 s4 s5 z = maxStep (m z) (s0 z) (s1 z) (s2 z) (s3 z) (s4 z) (s5 z) := by
  unfold maxOf maxStep
  pointwise

theorem denOf_apply (m d n s0 s1 s2 s3 s4 s5 : FVec Ideal S512x128 .f32) (z : S512x128.Idx) : denOf m d n s0 s1 s2 s3 s4 s5 z = denStep (m z) (d z) (n z) (s0 z) (s1 z) (s2 z) (s3 z) (s4 z) (s5 z) := by
  unfold denOf denStep
  pointwise
  rfl

theorem numOf_apply (m d n s0 s1 s2 s3 s4 s5 : FVec Ideal S512x128 .f32) (z : S512x128.Idx) : numOf m d n s0 s1 s2 s3 s4 s5 z = numStep (m z) (d z) (n z) (s0 z) (s1 z) (s2 z) (s3 z) (s4 z) (s5 z) := by
  unfold numOf numStep
  pointwise
  rfl

theorem hitIn_apply (off : BitVec 32) (lab : IVec S512x128 32) (s : FVec Ideal S512x128 .f32) (z : S512x128.Idx) :
    hitIn off lab s z = hitAt (lab z) (IntOp.addi (BitVec.ofNat 32 (z 1).val) off) (s z) := by
  unfold hitIn hitAt
  pointwise

theorem hitOf_apply (lab : IVec S512x128 32) (h s0 s1 s2 s3 s4 s5 : FVec Ideal S512x128 .f32) (z : S512x128.Idx) :
    hitOf lab h s0 s1 s2 s3 s4 s5 z = hitStep (lab z) (BitVec.ofNat 32 (z 1).val) (h z) (s0 z) (s1 z) (s2 z) (s3 z) (s4 z) (s5 z) := by
  unfold hitOf hitStep
  simp only [← hitIn_apply]
  pointwise

/-- The product of two rows, scaled: a logit in units of log2. -/
def logit (w : Vec Ideal S768x3072 .fp8e4m3) (sw : Vec Ideal S1x1x768 .f32) (X : Vec Ideal S2048x3072 .fp8e4m3) (SX : Vec Ideal S2048x128 .f32)
    (r : Fin 2048) (l : Fin 128) (k : Fin 768) : EReal :=
  (∑ q : Fin 3072, X (ix2 r q) * w (ix2 k q)) * SX (ix2 r l) * (sw (ix3 0 0 k) * Ideal.ofBits .f32 0x3FE6D4CA#32)

theorem prod_apply (w : Vec Ideal S768x3072 .fp8e4m3) (x : Vec Ideal S512x3072 .fp8e4m3) (z : S512x768.Idx) :
    k0_pay10 (F := Ideal) w x z = ∑ q : Fin 3072, x (ix2 (z 0) q) * w (ix2 (z 1) q) := by
  unfold k0_pay10
  pointwise

theorem scale_apply (sw : Vec Ideal S1x1x768 .f32) (k : Fin 768) :
    k0_pay9 (F := Ideal) sw (ix2 0 k) = sw (ix3 0 0 k) * Ideal.ofBits .f32 0x3FE6D4CA#32 := by
  unfold k0_pay9
  pointwise

theorem slab_apply (k : Nat) (hA : S512x768.Slices ![0, k] S512x128) (hB : S1x768.Slices ![0, k] S1x128) (w : Vec Ideal S768x3072 .fp8e4m3)
    (sw : Vec Ideal S1x1x768 .f32) (x : Vec Ideal S512x3072 .fp8e4m3) (sx : Vec Ideal S512x128 .f32) (z : S512x128.Idx) (c : Fin 768)
    (hc : c.val = k + (z 1).val) :
    slab k hA hB w sw x sx z = (∑ q : Fin 3072, x (ix2 (z 0) q) * w (ix2 c q)) * sx z * (sw (ix3 0 0 c) * Ideal.ofBits .f32 0x3FE6D4CA#32) := by
  have e1 : (extractStridedSlice S512x128 ![0, k] (k0_pay10 (F := Ideal) w x) hA : FVec Ideal S512x128 .f32) z = k0_pay10 (F := Ideal) w x (ix2 (z 0) c) := by
    refine congrArg (k0_pay10 (F := Ideal) w x) (funext fun b => Fin.ext ?_)
    match b with
    | ⟨0, _⟩ => exact Nat.zero_add _
    | ⟨1, _⟩ => exact hc.symm
  have e2 : (broadcastTo S512x128 (extractStridedSlice S1x128 ![0, k] (k0_pay9 (F := Ideal) sw) hB) broadcasts_S1x128_S512x128 : FVec Ideal S512x128 .f32) z
      = k0_pay9 (F := Ideal) sw (ix2 0 c) := by
    refine congrArg (k0_pay9 (F := Ideal) sw) (funext fun b => Fin.ext ?_)
    match b with
    | ⟨0, _⟩ => rfl
    | ⟨1, _⟩ => exact hc.symm
  rw [scale_apply] at e2
  rw [prod_apply] at e1
  exact congrArg₂ (· * ·) (congrArg (· * sx z) e1) e2

/-- Column `l` of group `j` in a block. -/
def col (j : Fin 6) (l : Fin 128) : Fin 768 := ⟨128 * j.val + l.val, by omega⟩

/-- A group of a strip's logits is the block's logits in those rows. -/
theorem slab_ld (k : Nat) (j : Fin 6) (hk : k = 128 * j.val) (hA : S512x768.Slices ![0, k] S512x128) (hB : S1x768.Slices ![0, k] S1x128) (w : Vec Ideal S768x3072 .fp8e4m3)
    (sw : Vec Ideal S1x1x768 .f32) (X : Vec Ideal S2048x3072 .fp8e4m3) (SX : Vec Ideal S2048x128 .f32) (r : Nat)
    (hX : ∀ a, (![r, 0] : Fin 2 → Nat) a + S512x3072.size a ≤ S2048x3072.size a) (hr : ∀ a, (![r, 0] : Fin 2 → Nat) a + S512x128.size a ≤ S2048x128.size a)
    (a : Fin 2048) (l : Fin 128) (z : S512x128.Idx) (h0 : a.val = r + (z 0).val) (h1 : l.val = (z 1).val) :
    slab k hA hB w sw (View.ld X (Rect.unit ![r, 0] ![512, 3072] hX)) (View.ld SX (Rect.unit ![r, 0] ![512, 128] hr)) z = logit w sw X SX a l (col j l) := by
  rw [slab_apply k hA hB w sw _ _ z (col j l) (by show 128 * j.val + l.val = _; omega)]
  unfold logit
  have e : ∀ b : Fin 2, ((ix2 a l : S2048x128.Idx) b : Nat) = (![r, 0] : Fin 2 → Nat) b + z b := by
    intro b
    match b with
    | ⟨0, _⟩ => exact h0
    | ⟨1, _⟩ => exact h1.trans (Nat.zero_add _).symm
  rw [View.ld_unit_apply_of SX _ _ hr z _ e]
  refine congrArg (· * _ * _) (Finset.sum_congr rfl fun q _ => congrArg (· * _) ?_)
  refine View.ld_unit_apply_of X _ _ hX (ix2 (z 0) q) (ix2 a q) fun b => ?_
  match b with
  | ⟨0, _⟩ => exact h0
  | ⟨1, _⟩ => exact (Nat.zero_add _).symm

/-- The scaled logits of a block. -/
def logits (w : Vec Ideal S768x3072 .fp8e4m3) (sw : Vec Ideal S1x1x768 .f32) (X : Vec Ideal S2048x3072 .fp8e4m3) (SX : Vec Ideal S2048x128 .f32) : Vec Ideal S2048x768 .f32 := fun y => logit w sw X SX (y 0) ⟨(y 1).val % 128, Nat.mod_lt _ (by decide)⟩ (y 1)

/-- The maximum after a point. -/
def maxBlk (w : Vec Ideal S768x3072 .fp8e4m3) (sw : Vec Ideal S1x1x768 .f32) (X : Vec Ideal S2048x3072 .fp8e4m3) (SX : Vec Ideal S2048x128 .f32) (m : Vec Ideal S2048x128 .f32) : Vec Ideal S2048x128 .f32 := fun y => maxStep (m y) (logit w sw X SX (y 0) (y 1) (col 0 (y 1))) (logit w sw X SX (y 0) (y 1) (col 1 (y 1))) (logit w sw X SX (y 0) (y 1) (col 2 (y 1))) (logit w sw X SX (y 0) (y 1) (col 3 (y 1))) (logit w sw X SX (y 0) (y 1) (col 4 (y 1))) (logit w sw X SX (y 0) (y 1) (col 5 (y 1)))

/-- The denominator after a point. -/
def denBlk (w : Vec Ideal S768x3072 .fp8e4m3) (sw : Vec Ideal S1x1x768 .f32) (X : Vec Ideal S2048x3072 .fp8e4m3) (SX : Vec Ideal S2048x128 .f32) (m d : Vec Ideal S2048x128 .f32) : Vec Ideal S2048x128 .f32 := fun y => denStep (m y) (d y) (maxBlk w sw X SX m y) (logit w sw X SX (y 0) (y 1) (col 0 (y 1))) (logit w sw X SX (y 0) (y 1) (col 1 (y 1))) (logit w sw X SX (y 0) (y 1) (col 2 (y 1))) (logit w sw X SX (y 0) (y 1) (col 3 (y 1))) (logit w sw X SX (y 0) (y 1) (col 4 (y 1))) (logit w sw X SX (y 0) (y 1) (col 5 (y 1)))

/-- The numerator after a point. -/
def numBlk (w : Vec Ideal S768x3072 .fp8e4m3) (sw : Vec Ideal S1x1x768 .f32) (X : Vec Ideal S2048x3072 .fp8e4m3) (SX : Vec Ideal S2048x128 .f32) (m d : Vec Ideal S2048x128 .f32) : Vec Ideal S2048x128 .f32 := fun y => numStep (m y) (d y) (maxBlk w sw X SX m y) (logit w sw X SX (y 0) (y 1) (col 0 (y 1))) (logit w sw X SX (y 0) (y 1) (col 1 (y 1))) (logit w sw X SX (y 0) (y 1) (col 2 (y 1))) (logit w sw X SX (y 0) (y 1) (col 3 (y 1))) (logit w sw X SX (y 0) (y 1) (col 4 (y 1))) (logit w sw X SX (y 0) (y 1) (col 5 (y 1)))

/-- The label's logit after a point. -/
def hitBlk (a : BitVec 32) (w : Vec Ideal S768x3072 .fp8e4m3) (sw : Vec Ideal S1x1x768 .f32) (X : Vec Ideal S2048x3072 .fp8e4m3) (SX : Vec Ideal S2048x128 .f32) (lab : Vec Ideal S2048x128 .i32) (h : Vec Ideal S2048x128 .f32) : Vec Ideal S2048x128 .f32 := fun y =>
  hitStep (IntOp.subi (lab y) (Scalar.muli a 768#32)) (BitVec.ofNat 32 (y 1).val) (h y) (logit w sw X SX (y 0) (y 1) (col 0 (y 1))) (logit w sw X SX (y 0) (y 1) (col 1 (y 1))) (logit w sw X SX (y 0) (y 1) (col 2 (y 1))) (logit w sw X SX (y 0) (y 1) (col 3 (y 1))) (logit w sw X SX (y 0) (y 1) (col 4 (y 1))) (logit w sw X SX (y 0) (y 1) (col 5 (y 1)))

/-- A strip's row of an array is that row of the array. -/
theorem row_ld {α : EltTy} (m : Vec Ideal S2048x128 α) (r : Nat) (hr : ∀ a, (![r, 0] : Fin 2 → Nat) a + S512x128.size a ≤ S2048x128.size a)
    (y : S2048x128.Idx) (z : S512x128.Idx) (h0 : (y 0).val = r + (z 0).val) (h1 : (y 1).val = (z 1).val) :
    View.ld m (Rect.unit ![r, 0] ![512, 128] hr) z = m y := by
  refine View.ld_unit_apply_of m _ _ hr z y fun b => ?_
  match b with
  | ⟨0, _⟩ => exact h0
  | ⟨1, _⟩ => exact h1.trans (Nat.zero_add _).symm

/-- A strip of the logits' window is the block's logits in those rows and columns. -/
theorem logits_ld (k : Nat) (j : Fin 6) (hk : k = 128 * j.val) (hA : S512x768.Slices ![0, k] S512x128) (hB : S1x768.Slices ![0, k] S1x128) (w : Vec Ideal S768x3072 .fp8e4m3) (sw : Vec Ideal S1x1x768 .f32) (X : Vec Ideal S2048x3072 .fp8e4m3) (SX : Vec Ideal S2048x128 .f32) (r : Nat)
    (hX : ∀ a, (![r, 0] : Fin 2 → Nat) a + S512x3072.size a ≤ S2048x3072.size a) (hr : ∀ a, (![r, 0] : Fin 2 → Nat) a + S512x128.size a ≤ S2048x128.size a)
    (y : S2048x768.Idx) (z : S512x128.Idx) (h0 : (y 0).val = r + (z 0).val) (h1 : (y 1).val = k + (z 1).val) :
    slab k hA hB w sw (View.ld X (Rect.unit ![r, 0] ![512, 3072] hX)) (View.ld SX (Rect.unit ![r, 0] ![512, 128] hr)) z = logits w sw X SX y := by
  have hz : (z 1).val < 128 := (z 1).isLt
  rw [slab_ld k j hk hA hB w sw X SX r hX hr (y 0) ⟨(y 1).val % 128, Nat.mod_lt _ (by decide)⟩ z h0 (by show (y 1).val % 128 = _; omega)]
  unfold logits
  refine congrArg _ (Fin.ext ?_)
  show 128 * j.val + (y 1).val % 128 = (y 1).val
  omega

/-- A strip's maximum is the block's in those rows. -/
theorem maxStrip_ld (w : Vec Ideal S768x3072 .fp8e4m3) (sw : Vec Ideal S1x1x768 .f32) (X : Vec Ideal S2048x3072 .fp8e4m3) (SX : Vec Ideal S2048x128 .f32) (m : Vec Ideal S2048x128 .f32) (r : Nat) (hX : ∀ a, (![r, 0] : Fin 2 → Nat) a + S512x3072.size a ≤ S2048x3072.size a) (hr : ∀ a, (![r, 0] : Fin 2 → Nat) a + S512x128.size a ≤ S2048x128.size a)
    (y : S2048x128.Idx) (z : S512x128.Idx) (h0 : (y 0).val = r + (z 0).val) (h1 : (y 1).val = (z 1).val) :
    maxStrip w sw (View.ld X (Rect.unit ![r, 0] ![512, 3072] hX)) (View.ld SX (Rect.unit ![r, 0] ![512, 128] hr)) (View.ld m (Rect.unit ![r, 0] ![512, 128] hr)) z = maxBlk w sw X SX m y := by
  unfold maxStrip maxBlk slab0 slab1 slab2 slab3 slab4 slab5
  rw [maxOf_apply, old_apply, row_ld m r hr y z h0 h1, slab_ld 0 0 rfl _ _ w sw X SX r hX hr (y 0) (y 1) z h0 h1, slab_ld 128 1 rfl _ _ w sw X SX r hX hr (y 0) (y 1) z h0 h1, slab_ld 256 2 rfl _ _ w sw X SX r hX hr (y 0) (y 1) z h0 h1, slab_ld 384 3 rfl _ _ w sw X SX r hX hr (y 0) (y 1) z h0 h1, slab_ld 512 4 rfl _ _ w sw X SX r hX hr (y 0) (y 1) z h0 h1, slab_ld 640 5 rfl _ _ w sw X SX r hX hr (y 0) (y 1) z h0 h1]

/-- A strip's denominator is the block's in those rows. -/
theorem denStrip_ld (w : Vec Ideal S768x3072 .fp8e4m3) (sw : Vec Ideal S1x1x768 .f32) (X : Vec Ideal S2048x3072 .fp8e4m3) (SX : Vec Ideal S2048x128 .f32) (m d : Vec Ideal S2048x128 .f32) (r : Nat) (hX : ∀ a, (![r, 0] : Fin 2 → Nat) a + S512x3072.size a ≤ S2048x3072.size a) (hr : ∀ a, (![r, 0] : Fin 2 → Nat) a + S512x128.size a ≤ S2048x128.size a)
    (y : S2048x128.Idx) (z : S512x128.Idx) (h0 : (y 0).val = r + (z 0).val) (h1 : (y 1).val = (z 1).val) :
    denStrip w sw (View.ld X (Rect.unit ![r, 0] ![512, 3072] hX)) (View.ld SX (Rect.unit ![r, 0] ![512, 128] hr)) (View.ld m (Rect.unit ![r, 0] ![512, 128] hr)) (View.ld d (Rect.unit ![r, 0] ![512, 128] hr)) z = denBlk w sw X SX m d y := by
  unfold denStrip denBlk
  rw [denOf_apply, maxStrip_ld w sw X SX m r hX hr y z h0 h1]
  unfold slab0 slab1 slab2 slab3 slab4 slab5
  rw [old_apply, old_apply, row_ld m r hr y z h0 h1, row_ld d r hr y z h0 h1, slab_ld 0 0 rfl _ _ w sw X SX r hX hr (y 0) (y 1) z h0 h1, slab_ld 128 1 rfl _ _ w sw X SX r hX hr (y 0) (y 1) z h0 h1, slab_ld 256 2 rfl _ _ w sw X SX r hX hr (y 0) (y 1) z h0 h1, slab_ld 384 3 rfl _ _ w sw X SX r hX hr (y 0) (y 1) z h0 h1, slab_ld 512 4 rfl _ _ w sw X SX r hX hr (y 0) (y 1) z h0 h1, slab_ld 640 5 rfl _ _ w sw X SX r hX hr (y 0) (y 1) z h0 h1]

/-- A strip's numerator is the block's in those rows. -/
theorem numStrip_ld (w : Vec Ideal S768x3072 .fp8e4m3) (sw : Vec Ideal S1x1x768 .f32) (X : Vec Ideal S2048x3072 .fp8e4m3) (SX : Vec Ideal S2048x128 .f32) (m d : Vec Ideal S2048x128 .f32) (r : Nat) (hX : ∀ a, (![r, 0] : Fin 2 → Nat) a + S512x3072.size a ≤ S2048x3072.size a) (hr : ∀ a, (![r, 0] : Fin 2 → Nat) a + S512x128.size a ≤ S2048x128.size a)
    (y : S2048x128.Idx) (z : S512x128.Idx) (h0 : (y 0).val = r + (z 0).val) (h1 : (y 1).val = (z 1).val) :
    numStrip w sw (View.ld X (Rect.unit ![r, 0] ![512, 3072] hX)) (View.ld SX (Rect.unit ![r, 0] ![512, 128] hr)) (View.ld m (Rect.unit ![r, 0] ![512, 128] hr)) (View.ld d (Rect.unit ![r, 0] ![512, 128] hr)) z = numBlk w sw X SX m d y := by
  unfold numStrip numBlk
  rw [numOf_apply, maxStrip_ld w sw X SX m r hX hr y z h0 h1]
  unfold slab0 slab1 slab2 slab3 slab4 slab5
  rw [old_apply, old_apply, row_ld m r hr y z h0 h1, row_ld d r hr y z h0 h1, slab_ld 0 0 rfl _ _ w sw X SX r hX hr (y 0) (y 1) z h0 h1, slab_ld 128 1 rfl _ _ w sw X SX r hX hr (y 0) (y 1) z h0 h1, slab_ld 256 2 rfl _ _ w sw X SX r hX hr (y 0) (y 1) z h0 h1, slab_ld 384 3 rfl _ _ w sw X SX r hX hr (y 0) (y 1) z h0 h1, slab_ld 512 4 rfl _ _ w sw X SX r hX hr (y 0) (y 1) z h0 h1, slab_ld 640 5 rfl _ _ w sw X SX r hX hr (y 0) (y 1) z h0 h1]

/-- A strip's label logit is the block's in those rows. -/
theorem hitStrip_ld (a : BitVec 32) (w : Vec Ideal S768x3072 .fp8e4m3) (sw : Vec Ideal S1x1x768 .f32) (X : Vec Ideal S2048x3072 .fp8e4m3) (SX : Vec Ideal S2048x128 .f32) (lab : Vec Ideal S2048x128 .i32) (h : Vec Ideal S2048x128 .f32) (r : Nat) (hX : ∀ a, (![r, 0] : Fin 2 → Nat) a + S512x3072.size a ≤ S2048x3072.size a) (hr : ∀ a, (![r, 0] : Fin 2 → Nat) a + S512x128.size a ≤ S2048x128.size a)
    (y : S2048x128.Idx) (z : S512x128.Idx) (h0 : (y 0).val = r + (z 0).val) (h1 : (y 1).val = (z 1).val) :
    hitStrip a w sw (View.ld X (Rect.unit ![r, 0] ![512, 3072] hX)) (View.ld SX (Rect.unit ![r, 0] ![512, 128] hr)) (View.ld lab (Rect.unit ![r, 0] ![512, 128] hr)) (View.ld h (Rect.unit ![r, 0] ![512, 128] hr)) z = hitBlk a w sw X SX lab h y := by
  have e : (subi (View.ld lab (Rect.unit ![r, 0] ![512, 128] hr)) (broadcast S512x128 (Scalar.muli a 768#32)) : IVec S512x128 32) z = IntOp.subi (lab y) (Scalar.muli a 768#32) := by
    rw [← row_ld lab r hr y z h0 h1]; rfl
  unfold hitStrip hitBlk
  rw [hitOf_apply, e, ← h1]
  unfold slab0 slab1 slab2 slab3 slab4 slab5
  rw [old_apply, row_ld h r hr y z h0 h1, slab_ld 0 0 rfl _ _ w sw X SX r hX hr (y 0) (y 1) z h0 h1, slab_ld 128 1 rfl _ _ w sw X SX r hX hr (y 0) (y 1) z h0 h1, slab_ld 256 2 rfl _ _ w sw X SX r hX hr (y 0) (y 1) z h0 h1, slab_ld 384 3 rfl _ _ w sw X SX r hX hr (y 0) (y 1) z h0 h1, slab_ld 512 4 rfl _ _ w sw X SX r hX hr (y 0) (y 1) z h0 h1, slab_ld 640 5 rfl _ _ w sw X SX r hX hr (y 0) (y 1) z h0 h1]

end Cert.StatsIdeal.StatsBlock

end
-- ==== Proof.StatsPoint.lean ====
module

public import proofs.«01_k».proof.Defs
public import proofs.«01_k».proof.Proof.StatsBlock
public import proofs.«01_k».proof.Proof.Gen.StatsIdeal.Frame
public import Idealize.ShloMosaic.Lib.Pipeline.ReadBack
public import Idealize.ShloMosaic.Lib.Pipeline.ValueKit

@[expose] public section

set_option maxRecDepth 16384

noncomputable section

namespace Cert.StatsIdeal.StatsPoint

open Idealize.ShloMosaic Idealize.ShloMosaic.TcCoe Idealize.SL.Sem
open Cert.StatsIdeal Cert.StatsIdeal.Gen Cert.StatsIdeal.StatsBlock

set_option maxHeartbeats 2000000 in
/-- The scaled logits a point writes that starts the accumulation. -/
theorem out0_A_7_eq (c : Dev nD) (i : grid0.Coords) (arg1 : Memref sig .tc .vmem S2048x3072 .fp8e4m3) (harg1 : arg1.IsWhole) (arg2 : Memref sig .tc .vmem S2048x3072 .fp8e4m3) (harg2 : arg2.IsWhole) (arg3 : Memref sig .tc .vmem S2048x128 .f32) (harg3 : arg3.IsWhole) (arg4 : Memref sig .tc .vmem S2048x128 .f32) (harg4 : arg4.IsWhole) (arg5 : Memref sig .tc .vmem S2048x128 .i32) (harg5 : arg5.IsWhole) (arg6 : Memref sig .tc .vmem S768x3072 .fp8e4m3) (harg6 : arg6.IsWhole) (arg7 : Memref sig .tc .vmem S1x1x768 .f32) (harg7 : arg7.IsWhole) (arg8 : Memref sig .tc .vmem S2048x768 .f32) (harg8 : arg8.IsWhole) (arg9 : Memref sig .tc .vmem S2048x128 .f32) (harg9 : arg9.IsWhole) (arg10 : Memref sig .tc .vmem S2048x128 .f32) (harg10 : arg10.IsWhole) (arg11 : Memref sig .tc .vmem S2048x128 .f32) (harg11 : arg11.IsWhole) (arg12 : Memref sig .tc .vmem S2048x128 .f32) (harg12 : arg12.IsWhole) (arg13 : Memref sig .tc .vmem S2048x128 .f32) (harg13 : arg13.IsWhole) (arg14 : Memref sig .tc .vmem S2048x128 .f32) (harg14 : arg14.IsWhole) (arg15 : Memref sig .tc .vmem S2048x128 .f32) (harg15 : arg15.IsWhole) (hc0 : cond0_0 i)
    (x0 : Vec Ideal S2048x3072 .fp8e4m3) (x1 : Vec Ideal S2048x3072 .fp8e4m3) (x2 : Vec Ideal S2048x128 .f32) (x3 : Vec Ideal S2048x128 .f32) (x4 : Vec Ideal S2048x128 .i32) (x5 : Vec Ideal S768x3072 .fp8e4m3) (x6 : Vec Ideal S1x1x768 .f32) :
    out0_A_7 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 = logits x5 x6 x0 x2 := by
  funext y
  frame_out
  canon_tiles x h
  iterate 4
    · exact logits_ld 640 5 rfl _ _ x5 x6 x0 x2 _ _ _ y x (by omega) (by omega)
    · exact logits_ld 512 4 rfl _ _ x5 x6 x0 x2 _ _ _ y x (by omega) (by omega)
    · exact logits_ld 384 3 rfl _ _ x5 x6 x0 x2 _ _ _ y x (by omega) (by omega)
    · exact logits_ld 256 2 rfl _ _ x5 x6 x0 x2 _ _ _ y x (by omega) (by omega)
    · exact logits_ld 128 1 rfl _ _ x5 x6 x0 x2 _ _ _ y x (by omega) (by omega)
    · exact logits_ld 0 0 rfl _ _ x5 x6 x0 x2 _ _ _ y x (by omega) (by omega)

set_option maxHeartbeats 2000000 in
/-- The maximum after a point that starts the accumulation. -/
theorem out0_A_8_eq (c : Dev nD) (i : grid0.Coords) (arg1 : Memref sig .tc .vmem S2048x3072 .fp8e4m3) (harg1 : arg1.IsWhole) (arg2 : Memref sig .tc .vmem S2048x3072 .fp8e4m3) (harg2 : arg2.IsWhole) (arg3 : Memref sig .tc .vmem S2048x128 .f32) (harg3 : arg3.IsWhole) (arg4 : Memref sig .tc .vmem S2048x128 .f32) (harg4 : arg4.IsWhole) (arg5 : Memref sig .tc .vmem S2048x128 .i32) (harg5 : arg5.IsWhole) (arg6 : Memref sig .tc .vmem S768x3072 .fp8e4m3) (harg6 : arg6.IsWhole) (arg7 : Memref sig .tc .vmem S1x1x768 .f32) (harg7 : arg7.IsWhole) (arg8 : Memref sig .tc .vmem S2048x768 .f32) (harg8 : arg8.IsWhole) (arg9 : Memref sig .tc .vmem S2048x128 .f32) (harg9 : arg9.IsWhole) (arg10 : Memref sig .tc .vmem S2048x128 .f32) (harg10 : arg10.IsWhole) (arg11 : Memref sig .tc .vmem S2048x128 .f32) (harg11 : arg11.IsWhole) (arg12 : Memref sig .tc .vmem S2048x128 .f32) (harg12 : arg12.IsWhole) (arg13 : Memref sig .tc .vmem S2048x128 .f32) (harg13 : arg13.IsWhole) (arg14 : Memref sig .tc .vmem S2048x128 .f32) (harg14 : arg14.IsWhole) (arg15 : Memref sig .tc .vmem S2048x128 .f32) (harg15 : arg15.IsWhole) (hc0 : cond0_0 i)
    (x0 : Vec Ideal S2048x3072 .fp8e4m3) (x1 : Vec Ideal S2048x3072 .fp8e4m3) (x2 : Vec Ideal S2048x128 .f32) (x3 : Vec Ideal S2048x128 .f32) (x4 : Vec Ideal S2048x128 .i32) (x5 : Vec Ideal S768x3072 .fp8e4m3) (x6 : Vec Ideal S1x1x768 .f32) :
    out0_A_8 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 = maxBlk x5 x6 x0 x2 (k0_pay2 (F := Ideal)) := by
  funext y
  unfold out0_A_8
  frame_open
  simp (disch := decide) only [↓ View.readCov_skip, ↓ View.readCov_cons_toLoadRect, ↓ View.readCov_fill]
  frame_out
  refine View.canon_append_of_piecesOf (Val := Elt Ideal) (s := S2048x128) (e := .f32) (maxBlk x5 x6 x0 x2 (k0_pay2 (F := Ideal)))
    [_] [_, _, _, _] ⟨?_, ?_, ?_, ?_, trivial⟩ y (View.cover_of_tiledL (s := S2048x128) _ S512x128.size (by sl_kernel_rfl) y)
  all_goals
    intro x
    refine maxStrip_ld x5 x6 x0 x2 (k0_pay2 (F := Ideal)) _ _ _ _ x ?_ ?_
    · exact congrArg (HAdd.hAdd _) (Nat.one_mul _)
    · exact (Nat.zero_add _).trans (Nat.one_mul _)

set_option maxHeartbeats 2000000 in
/-- The denominator after a point that starts the accumulation. -/
theorem out0_A_9_eq (c : Dev nD) (i : grid0.Coords) (arg1 : Memref sig .tc .vmem S2048x3072 .fp8e4m3) (harg1 : arg1.IsWhole) (arg2 : Memref sig .tc .vmem S2048x3072 .fp8e4m3) (harg2 : arg2.IsWhole) (arg3 : Memref sig .tc .vmem S2048x128 .f32) (harg3 : arg3.IsWhole) (arg4 : Memref sig .tc .vmem S2048x128 .f32) (harg4 : arg4.IsWhole) (arg5 : Memref sig .tc .vmem S2048x128 .i32) (harg5 : arg5.IsWhole) (arg6 : Memref sig .tc .vmem S768x3072 .fp8e4m3) (harg6 : arg6.IsWhole) (arg7 : Memref sig .tc .vmem S1x1x768 .f32) (harg7 : arg7.IsWhole) (arg8 : Memref sig .tc .vmem S2048x768 .f32) (harg8 : arg8.IsWhole) (arg9 : Memref sig .tc .vmem S2048x128 .f32) (harg9 : arg9.IsWhole) (arg10 : Memref sig .tc .vmem S2048x128 .f32) (harg10 : arg10.IsWhole) (arg11 : Memref sig .tc .vmem S2048x128 .f32) (harg11 : arg11.IsWhole) (arg12 : Memref sig .tc .vmem S2048x128 .f32) (harg12 : arg12.IsWhole) (arg13 : Memref sig .tc .vmem S2048x128 .f32) (harg13 : arg13.IsWhole) (arg14 : Memref sig .tc .vmem S2048x128 .f32) (harg14 : arg14.IsWhole) (arg15 : Memref sig .tc .vmem S2048x128 .f32) (harg15 : arg15.IsWhole) (hc0 : cond0_0 i)
    (x0 : Vec Ideal S2048x3072 .fp8e4m3) (x1 : Vec Ideal S2048x3072 .fp8e4m3) (x2 : Vec Ideal S2048x128 .f32) (x3 : Vec Ideal S2048x128 .f32) (x4 : Vec Ideal S2048x128 .i32) (x5 : Vec Ideal S768x3072 .fp8e4m3) (x6 : Vec Ideal S1x1x768 .f32) :
    out0_A_9 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 = denBlk x5 x6 x0 x2 (k0_pay2 (F := Ideal)) (k0_pay4 (F := Ideal)) := by
  funext y
  unfold out0_A_9
  frame_open
  simp (disch := decide) only [↓ View.readCov_skip, ↓ View.readCov_cons_toLoadRect, ↓ View.readCov_fill]
  frame_out
  refine View.canon_append_of_piecesOf (Val := Elt Ideal) (s := S2048x128) (e := .f32) (denBlk x5 x6 x0 x2 (k0_pay2 (F := Ideal)) (k0_pay4 (F := Ideal)))
    [_] [_, _, _, _] ⟨?_, ?_, ?_, ?_, trivial⟩ y (View.cover_of_tiledL (s := S2048x128) _ S512x128.size (by sl_kernel_rfl) y)
  all_goals
    intro x
    refine denStrip_ld x5 x6 x0 x2 (k0_pay2 (F := Ideal)) (k0_pay4 (F := Ideal)) _ _ _ _ x ?_ ?_
    · exact congrArg (HAdd.hAdd _) (Nat.one_mul _)
    · exact (Nat.zero_add _).trans (Nat.one_mul _)

set_option maxHeartbeats 2000000 in
/-- The numerator after a point that starts the accumulation. -/
theorem out0_A_10_eq (c : Dev nD) (i : grid0.Coords) (arg1 : Memref sig .tc .vmem S2048x3072 .fp8e4m3) (harg1 : arg1.IsWhole) (arg2 : Memref sig .tc .vmem S2048x3072 .fp8e4m3) (harg2 : arg2.IsWhole) (arg3 : Memref sig .tc .vmem S2048x128 .f32) (harg3 : arg3.IsWhole) (arg4 : Memref sig .tc .vmem S2048x128 .f32) (harg4 : arg4.IsWhole) (arg5 : Memref sig .tc .vmem S2048x128 .i32) (harg5 : arg5.IsWhole) (arg6 : Memref sig .tc .vmem S768x3072 .fp8e4m3) (harg6 : arg6.IsWhole) (arg7 : Memref sig .tc .vmem S1x1x768 .f32) (harg7 : arg7.IsWhole) (arg8 : Memref sig .tc .vmem S2048x768 .f32) (harg8 : arg8.IsWhole) (arg9 : Memref sig .tc .vmem S2048x128 .f32) (harg9 : arg9.IsWhole) (arg10 : Memref sig .tc .vmem S2048x128 .f32) (harg10 : arg10.IsWhole) (arg11 : Memref sig .tc .vmem S2048x128 .f32) (harg11 : arg11.IsWhole) (arg12 : Memref sig .tc .vmem S2048x128 .f32) (harg12 : arg12.IsWhole) (arg13 : Memref sig .tc .vmem S2048x128 .f32) (harg13 : arg13.IsWhole) (arg14 : Memref sig .tc .vmem S2048x128 .f32) (harg14 : arg14.IsWhole) (arg15 : Memref sig .tc .vmem S2048x128 .f32) (harg15 : arg15.IsWhole) (hc0 : cond0_0 i)
    (x0 : Vec Ideal S2048x3072 .fp8e4m3) (x1 : Vec Ideal S2048x3072 .fp8e4m3) (x2 : Vec Ideal S2048x128 .f32) (x3 : Vec Ideal S2048x128 .f32) (x4 : Vec Ideal S2048x128 .i32) (x5 : Vec Ideal S768x3072 .fp8e4m3) (x6 : Vec Ideal S1x1x768 .f32) :
    out0_A_10 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 = numBlk x5 x6 x0 x2 (k0_pay2 (F := Ideal)) (k0_pay5 (F := Ideal)) := by
  funext y
  unfold out0_A_10
  frame_open
  simp (disch := decide) only [↓ View.readCov_skip, ↓ View.readCov_cons_toLoadRect, ↓ View.readCov_fill]
  frame_out
  refine View.canon_append_of_piecesOf (Val := Elt Ideal) (s := S2048x128) (e := .f32) (numBlk x5 x6 x0 x2 (k0_pay2 (F := Ideal)) (k0_pay5 (F := Ideal)))
    [_] [_, _, _, _] ⟨?_, ?_, ?_, ?_, trivial⟩ y (View.cover_of_tiledL (s := S2048x128) _ S512x128.size (by sl_kernel_rfl) y)
  all_goals
    intro x
    refine numStrip_ld x5 x6 x0 x2 (k0_pay2 (F := Ideal)) (k0_pay5 (F := Ideal)) _ _ _ _ x ?_ ?_
    · exact congrArg (HAdd.hAdd _) (Nat.one_mul _)
    · exact (Nat.zero_add _).trans (Nat.one_mul _)

set_option maxHeartbeats 2000000 in
/-- The label's logit after a point that starts the accumulation. -/
theorem out0_A_11_eq (c : Dev nD) (i : grid0.Coords) (arg1 : Memref sig .tc .vmem S2048x3072 .fp8e4m3) (harg1 : arg1.IsWhole) (arg2 : Memref sig .tc .vmem S2048x3072 .fp8e4m3) (harg2 : arg2.IsWhole) (arg3 : Memref sig .tc .vmem S2048x128 .f32) (harg3 : arg3.IsWhole) (arg4 : Memref sig .tc .vmem S2048x128 .f32) (harg4 : arg4.IsWhole) (arg5 : Memref sig .tc .vmem S2048x128 .i32) (harg5 : arg5.IsWhole) (arg6 : Memref sig .tc .vmem S768x3072 .fp8e4m3) (harg6 : arg6.IsWhole) (arg7 : Memref sig .tc .vmem S1x1x768 .f32) (harg7 : arg7.IsWhole) (arg8 : Memref sig .tc .vmem S2048x768 .f32) (harg8 : arg8.IsWhole) (arg9 : Memref sig .tc .vmem S2048x128 .f32) (harg9 : arg9.IsWhole) (arg10 : Memref sig .tc .vmem S2048x128 .f32) (harg10 : arg10.IsWhole) (arg11 : Memref sig .tc .vmem S2048x128 .f32) (harg11 : arg11.IsWhole) (arg12 : Memref sig .tc .vmem S2048x128 .f32) (harg12 : arg12.IsWhole) (arg13 : Memref sig .tc .vmem S2048x128 .f32) (harg13 : arg13.IsWhole) (arg14 : Memref sig .tc .vmem S2048x128 .f32) (harg14 : arg14.IsWhole) (arg15 : Memref sig .tc .vmem S2048x128 .f32) (harg15 : arg15.IsWhole) (hc0 : cond0_0 i)
    (x0 : Vec Ideal S2048x3072 .fp8e4m3) (x1 : Vec Ideal S2048x3072 .fp8e4m3) (x2 : Vec Ideal S2048x128 .f32) (x3 : Vec Ideal S2048x128 .f32) (x4 : Vec Ideal S2048x128 .i32) (x5 : Vec Ideal S768x3072 .fp8e4m3) (x6 : Vec Ideal S1x1x768 .f32) :
    out0_A_11 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 = hitBlk (BitVec.ofNat 32 (i 0).val) x5 x6 x0 x2 x4 (k0_pay6 (F := Ideal)) := by
  funext y
  unfold out0_A_11
  frame_open
  simp (disch := decide) only [↓ View.readCov_skip, ↓ View.readCov_cons_toLoadRect, ↓ View.readCov_fill]
  frame_out
  refine View.canon_append_of_piecesOf (Val := Elt Ideal) (s := S2048x128) (e := .f32) (hitBlk (BitVec.ofNat 32 (i 0).val) x5 x6 x0 x2 x4 (k0_pay6 (F := Ideal)))
    [_] [_, _, _, _] ⟨?_, ?_, ?_, ?_, trivial⟩ y (View.cover_of_tiledL (s := S2048x128) _ S512x128.size (by sl_kernel_rfl) y)
  all_goals
    intro x
    refine hitStrip_ld (BitVec.ofNat 32 (i 0).val) x5 x6 x0 x2 x4 (k0_pay6 (F := Ideal)) _ _ _ _ x ?_ ?_
    · exact congrArg (HAdd.hAdd _) (Nat.one_mul _)
    · exact (Nat.zero_add _).trans (Nat.one_mul _)

set_option maxHeartbeats 2000000 in
/-- The reference model's maximum after a point that starts the accumulation. -/
theorem out0_A_12_eq (c : Dev nD) (i : grid0.Coords) (arg1 : Memref sig .tc .vmem S2048x3072 .fp8e4m3) (harg1 : arg1.IsWhole) (arg2 : Memref sig .tc .vmem S2048x3072 .fp8e4m3) (harg2 : arg2.IsWhole) (arg3 : Memref sig .tc .vmem S2048x128 .f32) (harg3 : arg3.IsWhole) (arg4 : Memref sig .tc .vmem S2048x128 .f32) (harg4 : arg4.IsWhole) (arg5 : Memref sig .tc .vmem S2048x128 .i32) (harg5 : arg5.IsWhole) (arg6 : Memref sig .tc .vmem S768x3072 .fp8e4m3) (harg6 : arg6.IsWhole) (arg7 : Memref sig .tc .vmem S1x1x768 .f32) (harg7 : arg7.IsWhole) (arg8 : Memref sig .tc .vmem S2048x768 .f32) (harg8 : arg8.IsWhole) (arg9 : Memref sig .tc .vmem S2048x128 .f32) (harg9 : arg9.IsWhole) (arg10 : Memref sig .tc .vmem S2048x128 .f32) (harg10 : arg10.IsWhole) (arg11 : Memref sig .tc .vmem S2048x128 .f32) (harg11 : arg11.IsWhole) (arg12 : Memref sig .tc .vmem S2048x128 .f32) (harg12 : arg12.IsWhole) (arg13 : Memref sig .tc .vmem S2048x128 .f32) (harg13 : arg13.IsWhole) (arg14 : Memref sig .tc .vmem S2048x128 .f32) (harg14 : arg14.IsWhole) (arg15 : Memref sig .tc .vmem S2048x128 .f32) (harg15 : arg15.IsWhole) (hc0 : cond0_0 i)
    (x0 : Vec Ideal S2048x3072 .fp8e4m3) (x1 : Vec Ideal S2048x3072 .fp8e4m3) (x2 : Vec Ideal S2048x128 .f32) (x3 : Vec Ideal S2048x128 .f32) (x4 : Vec Ideal S2048x128 .i32) (x5 : Vec Ideal S768x3072 .fp8e4m3) (x6 : Vec Ideal S1x1x768 .f32) :
    out0_A_12 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 = maxBlk x5 x6 x1 x3 (k0_pay3 (F := Ideal)) := by
  funext y
  unfold out0_A_12
  frame_open
  simp (disch := decide) only [↓ View.readCov_skip, ↓ View.readCov_cons_toLoadRect, ↓ View.readCov_fill]
  frame_out
  refine View.canon_append_of_piecesOf (Val := Elt Ideal) (s := S2048x128) (e := .f32) (maxBlk x5 x6 x1 x3 (k0_pay3 (F := Ideal)))
    [_] [_, _, _, _] ⟨?_, ?_, ?_, ?_, trivial⟩ y (View.cover_of_tiledL (s := S2048x128) _ S512x128.size (by sl_kernel_rfl) y)
  all_goals
    intro x
    refine maxStrip_ld x5 x6 x1 x3 (k0_pay3 (F := Ideal)) _ _ _ _ x ?_ ?_
    · exact congrArg (HAdd.hAdd _) (Nat.one_mul _)
    · exact (Nat.zero_add _).trans (Nat.one_mul _)

set_option maxHeartbeats 2000000 in
/-- The reference model's denominator after a point that starts the accumulation. -/
theorem out0_A_13_eq (c : Dev nD) (i : grid0.Coords) (arg1 : Memref sig .tc .vmem S2048x3072 .fp8e4m3) (harg1 : arg1.IsWhole) (arg2 : Memref sig .tc .vmem S2048x3072 .fp8e4m3) (harg2 : arg2.IsWhole) (arg3 : Memref sig .tc .vmem S2048x128 .f32) (harg3 : arg3.IsWhole) (arg4 : Memref sig .tc .vmem S2048x128 .f32) (harg4 : arg4.IsWhole) (arg5 : Memref sig .tc .vmem S2048x128 .i32) (harg5 : arg5.IsWhole) (arg6 : Memref sig .tc .vmem S768x3072 .fp8e4m3) (harg6 : arg6.IsWhole) (arg7 : Memref sig .tc .vmem S1x1x768 .f32) (harg7 : arg7.IsWhole) (arg8 : Memref sig .tc .vmem S2048x768 .f32) (harg8 : arg8.IsWhole) (arg9 : Memref sig .tc .vmem S2048x128 .f32) (harg9 : arg9.IsWhole) (arg10 : Memref sig .tc .vmem S2048x128 .f32) (harg10 : arg10.IsWhole) (arg11 : Memref sig .tc .vmem S2048x128 .f32) (harg11 : arg11.IsWhole) (arg12 : Memref sig .tc .vmem S2048x128 .f32) (harg12 : arg12.IsWhole) (arg13 : Memref sig .tc .vmem S2048x128 .f32) (harg13 : arg13.IsWhole) (arg14 : Memref sig .tc .vmem S2048x128 .f32) (harg14 : arg14.IsWhole) (arg15 : Memref sig .tc .vmem S2048x128 .f32) (harg15 : arg15.IsWhole) (hc0 : cond0_0 i)
    (x0 : Vec Ideal S2048x3072 .fp8e4m3) (x1 : Vec Ideal S2048x3072 .fp8e4m3) (x2 : Vec Ideal S2048x128 .f32) (x3 : Vec Ideal S2048x128 .f32) (x4 : Vec Ideal S2048x128 .i32) (x5 : Vec Ideal S768x3072 .fp8e4m3) (x6 : Vec Ideal S1x1x768 .f32) :
    out0_A_13 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 = denBlk x5 x6 x1 x3 (k0_pay3 (F := Ideal)) (k0_pay7 (F := Ideal)) := by
  funext y
  unfold out0_A_13
  frame_open
  simp (disch := decide) only [↓ View.readCov_skip, ↓ View.readCov_cons_toLoadRect, ↓ View.readCov_fill]
  frame_out
  refine View.canon_append_of_piecesOf (Val := Elt Ideal) (s := S2048x128) (e := .f32) (denBlk x5 x6 x1 x3 (k0_pay3 (F := Ideal)) (k0_pay7 (F := Ideal)))
    [_] [_, _, _, _] ⟨?_, ?_, ?_, ?_, trivial⟩ y (View.cover_of_tiledL (s := S2048x128) _ S512x128.size (by sl_kernel_rfl) y)
  all_goals
    intro x
    refine denStrip_ld x5 x6 x1 x3 (k0_pay3 (F := Ideal)) (k0_pay7 (F := Ideal)) _ _ _ _ x ?_ ?_
    · exact congrArg (HAdd.hAdd _) (Nat.one_mul _)
    · exact (Nat.zero_add _).trans (Nat.one_mul _)

set_option maxHeartbeats 2000000 in
/-- The reference model's label logit after a point that starts the accumulation. -/
theorem out0_A_14_eq (c : Dev nD) (i : grid0.Coords) (arg1 : Memref sig .tc .vmem S2048x3072 .fp8e4m3) (harg1 : arg1.IsWhole) (arg2 : Memref sig .tc .vmem S2048x3072 .fp8e4m3) (harg2 : arg2.IsWhole) (arg3 : Memref sig .tc .vmem S2048x128 .f32) (harg3 : arg3.IsWhole) (arg4 : Memref sig .tc .vmem S2048x128 .f32) (harg4 : arg4.IsWhole) (arg5 : Memref sig .tc .vmem S2048x128 .i32) (harg5 : arg5.IsWhole) (arg6 : Memref sig .tc .vmem S768x3072 .fp8e4m3) (harg6 : arg6.IsWhole) (arg7 : Memref sig .tc .vmem S1x1x768 .f32) (harg7 : arg7.IsWhole) (arg8 : Memref sig .tc .vmem S2048x768 .f32) (harg8 : arg8.IsWhole) (arg9 : Memref sig .tc .vmem S2048x128 .f32) (harg9 : arg9.IsWhole) (arg10 : Memref sig .tc .vmem S2048x128 .f32) (harg10 : arg10.IsWhole) (arg11 : Memref sig .tc .vmem S2048x128 .f32) (harg11 : arg11.IsWhole) (arg12 : Memref sig .tc .vmem S2048x128 .f32) (harg12 : arg12.IsWhole) (arg13 : Memref sig .tc .vmem S2048x128 .f32) (harg13 : arg13.IsWhole) (arg14 : Memref sig .tc .vmem S2048x128 .f32) (harg14 : arg14.IsWhole) (arg15 : Memref sig .tc .vmem S2048x128 .f32) (harg15 : arg15.IsWhole) (hc0 : cond0_0 i)
    (x0 : Vec Ideal S2048x3072 .fp8e4m3) (x1 : Vec Ideal S2048x3072 .fp8e4m3) (x2 : Vec Ideal S2048x128 .f32) (x3 : Vec Ideal S2048x128 .f32) (x4 : Vec Ideal S2048x128 .i32) (x5 : Vec Ideal S768x3072 .fp8e4m3) (x6 : Vec Ideal S1x1x768 .f32) :
    out0_A_14 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 = hitBlk (BitVec.ofNat 32 (i 0).val) x5 x6 x1 x3 x4 (k0_pay8 (F := Ideal)) := by
  funext y
  unfold out0_A_14
  frame_open
  simp (disch := decide) only [↓ View.readCov_skip, ↓ View.readCov_cons_toLoadRect, ↓ View.readCov_fill]
  frame_out
  refine View.canon_append_of_piecesOf (Val := Elt Ideal) (s := S2048x128) (e := .f32) (hitBlk (BitVec.ofNat 32 (i 0).val) x5 x6 x1 x3 x4 (k0_pay8 (F := Ideal)))
    [_] [_, _, _, _] ⟨?_, ?_, ?_, ?_, trivial⟩ y (View.cover_of_tiledL (s := S2048x128) _ S512x128.size (by sl_kernel_rfl) y)
  all_goals
    intro x
    refine hitStrip_ld (BitVec.ofNat 32 (i 0).val) x5 x6 x1 x3 x4 (k0_pay8 (F := Ideal)) _ _ _ _ x ?_ ?_
    · exact congrArg (HAdd.hAdd _) (Nat.one_mul _)
    · exact (Nat.zero_add _).trans (Nat.one_mul _)

set_option maxHeartbeats 2000000 in
/-- The scaled logits a point writes that continues the accumulation. -/
theorem out0_B_7_eq (c : Dev nD) (i : grid0.Coords) (arg1 : Memref sig .tc .vmem S2048x3072 .fp8e4m3) (harg1 : arg1.IsWhole) (arg2 : Memref sig .tc .vmem S2048x3072 .fp8e4m3) (harg2 : arg2.IsWhole) (arg3 : Memref sig .tc .vmem S2048x128 .f32) (harg3 : arg3.IsWhole) (arg4 : Memref sig .tc .vmem S2048x128 .f32) (harg4 : arg4.IsWhole) (arg5 : Memref sig .tc .vmem S2048x128 .i32) (harg5 : arg5.IsWhole) (arg6 : Memref sig .tc .vmem S768x3072 .fp8e4m3) (harg6 : arg6.IsWhole) (arg7 : Memref sig .tc .vmem S1x1x768 .f32) (harg7 : arg7.IsWhole) (arg8 : Memref sig .tc .vmem S2048x768 .f32) (harg8 : arg8.IsWhole) (arg9 : Memref sig .tc .vmem S2048x128 .f32) (harg9 : arg9.IsWhole) (arg10 : Memref sig .tc .vmem S2048x128 .f32) (harg10 : arg10.IsWhole) (arg11 : Memref sig .tc .vmem S2048x128 .f32) (harg11 : arg11.IsWhole) (arg12 : Memref sig .tc .vmem S2048x128 .f32) (harg12 : arg12.IsWhole) (arg13 : Memref sig .tc .vmem S2048x128 .f32) (harg13 : arg13.IsWhole) (arg14 : Memref sig .tc .vmem S2048x128 .f32) (harg14 : arg14.IsWhole) (arg15 : Memref sig .tc .vmem S2048x128 .f32) (harg15 : arg15.IsWhole) (hc0 : ¬cond0_0 i)
    (x0 : Vec Ideal S2048x3072 .fp8e4m3) (x1 : Vec Ideal S2048x3072 .fp8e4m3) (x2 : Vec Ideal S2048x128 .f32) (x3 : Vec Ideal S2048x128 .f32) (x4 : Vec Ideal S2048x128 .i32) (x5 : Vec Ideal S768x3072 .fp8e4m3) (x6 : Vec Ideal S1x1x768 .f32) (xo8 : Vec Ideal S2048x128 .f32) (xo9 : Vec Ideal S2048x128 .f32) (xo10 : Vec Ideal S2048x128 .f32) (xo11 : Vec Ideal S2048x128 .f32) (xo12 : Vec Ideal S2048x128 .f32) (xo13 : Vec Ideal S2048x128 .f32) (xo14 : Vec Ideal S2048x128 .f32) :
    out0_B_7 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 xo8 xo9 xo10 xo11 xo12 xo13 xo14 = logits x5 x6 x0 x2 := by
  funext y
  frame_out
  canon_tiles x h
  iterate 4
    · exact logits_ld 640 5 rfl _ _ x5 x6 x0 x2 _ _ _ y x (by omega) (by omega)
    · exact logits_ld 512 4 rfl _ _ x5 x6 x0 x2 _ _ _ y x (by omega) (by omega)
    · exact logits_ld 384 3 rfl _ _ x5 x6 x0 x2 _ _ _ y x (by omega) (by omega)
    · exact logits_ld 256 2 rfl _ _ x5 x6 x0 x2 _ _ _ y x (by omega) (by omega)
    · exact logits_ld 128 1 rfl _ _ x5 x6 x0 x2 _ _ _ y x (by omega) (by omega)
    · exact logits_ld 0 0 rfl _ _ x5 x6 x0 x2 _ _ _ y x (by omega) (by omega)

set_option maxHeartbeats 2000000 in
/-- The maximum after a point that continues the accumulation. -/
theorem out0_B_8_eq (c : Dev nD) (i : grid0.Coords) (arg1 : Memref sig .tc .vmem S2048x3072 .fp8e4m3) (harg1 : arg1.IsWhole) (arg2 : Memref sig .tc .vmem S2048x3072 .fp8e4m3) (harg2 : arg2.IsWhole) (arg3 : Memref sig .tc .vmem S2048x128 .f32) (harg3 : arg3.IsWhole) (arg4 : Memref sig .tc .vmem S2048x128 .f32) (harg4 : arg4.IsWhole) (arg5 : Memref sig .tc .vmem S2048x128 .i32) (harg5 : arg5.IsWhole) (arg6 : Memref sig .tc .vmem S768x3072 .fp8e4m3) (harg6 : arg6.IsWhole) (arg7 : Memref sig .tc .vmem S1x1x768 .f32) (harg7 : arg7.IsWhole) (arg8 : Memref sig .tc .vmem S2048x768 .f32) (harg8 : arg8.IsWhole) (arg9 : Memref sig .tc .vmem S2048x128 .f32) (harg9 : arg9.IsWhole) (arg10 : Memref sig .tc .vmem S2048x128 .f32) (harg10 : arg10.IsWhole) (arg11 : Memref sig .tc .vmem S2048x128 .f32) (harg11 : arg11.IsWhole) (arg12 : Memref sig .tc .vmem S2048x128 .f32) (harg12 : arg12.IsWhole) (arg13 : Memref sig .tc .vmem S2048x128 .f32) (harg13 : arg13.IsWhole) (arg14 : Memref sig .tc .vmem S2048x128 .f32) (harg14 : arg14.IsWhole) (arg15 : Memref sig .tc .vmem S2048x128 .f32) (harg15 : arg15.IsWhole) (hc0 : ¬cond0_0 i)
    (x0 : Vec Ideal S2048x3072 .fp8e4m3) (x1 : Vec Ideal S2048x3072 .fp8e4m3) (x2 : Vec Ideal S2048x128 .f32) (x3 : Vec Ideal S2048x128 .f32) (x4 : Vec Ideal S2048x128 .i32) (x5 : Vec Ideal S768x3072 .fp8e4m3) (x6 : Vec Ideal S1x1x768 .f32) (xo8 : Vec Ideal S2048x128 .f32) (xo9 : Vec Ideal S2048x128 .f32) (xo10 : Vec Ideal S2048x128 .f32) (xo11 : Vec Ideal S2048x128 .f32) (xo12 : Vec Ideal S2048x128 .f32) (xo13 : Vec Ideal S2048x128 .f32) (xo14 : Vec Ideal S2048x128 .f32) :
    out0_B_8 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 xo8 xo9 xo10 xo11 xo12 xo13 xo14 = maxBlk x5 x6 x0 x2 xo8 := by
  funext y
  frame_out
  canon_tiles x h
  all_goals exact maxStrip_ld x5 x6 x0 x2 xo8 _ _ _ y x (by omega) h1

set_option maxHeartbeats 2000000 in
/-- The denominator after a point that continues the accumulation. -/
theorem out0_B_9_eq (c : Dev nD) (i : grid0.Coords) (arg1 : Memref sig .tc .vmem S2048x3072 .fp8e4m3) (harg1 : arg1.IsWhole) (arg2 : Memref sig .tc .vmem S2048x3072 .fp8e4m3) (harg2 : arg2.IsWhole) (arg3 : Memref sig .tc .vmem S2048x128 .f32) (harg3 : arg3.IsWhole) (arg4 : Memref sig .tc .vmem S2048x128 .f32) (harg4 : arg4.IsWhole) (arg5 : Memref sig .tc .vmem S2048x128 .i32) (harg5 : arg5.IsWhole) (arg6 : Memref sig .tc .vmem S768x3072 .fp8e4m3) (harg6 : arg6.IsWhole) (arg7 : Memref sig .tc .vmem S1x1x768 .f32) (harg7 : arg7.IsWhole) (arg8 : Memref sig .tc .vmem S2048x768 .f32) (harg8 : arg8.IsWhole) (arg9 : Memref sig .tc .vmem S2048x128 .f32) (harg9 : arg9.IsWhole) (arg10 : Memref sig .tc .vmem S2048x128 .f32) (harg10 : arg10.IsWhole) (arg11 : Memref sig .tc .vmem S2048x128 .f32) (harg11 : arg11.IsWhole) (arg12 : Memref sig .tc .vmem S2048x128 .f32) (harg12 : arg12.IsWhole) (arg13 : Memref sig .tc .vmem S2048x128 .f32) (harg13 : arg13.IsWhole) (arg14 : Memref sig .tc .vmem S2048x128 .f32) (harg14 : arg14.IsWhole) (arg15 : Memref sig .tc .vmem S2048x128 .f32) (harg15 : arg15.IsWhole) (hc0 : ¬cond0_0 i)
    (x0 : Vec Ideal S2048x3072 .fp8e4m3) (x1 : Vec Ideal S2048x3072 .fp8e4m3) (x2 : Vec Ideal S2048x128 .f32) (x3 : Vec Ideal S2048x128 .f32) (x4 : Vec Ideal S2048x128 .i32) (x5 : Vec Ideal S768x3072 .fp8e4m3) (x6 : Vec Ideal S1x1x768 .f32) (xo8 : Vec Ideal S2048x128 .f32) (xo9 : Vec Ideal S2048x128 .f32) (xo10 : Vec Ideal S2048x128 .f32) (xo11 : Vec Ideal S2048x128 .f32) (xo12 : Vec Ideal S2048x128 .f32) (xo13 : Vec Ideal S2048x128 .f32) (xo14 : Vec Ideal S2048x128 .f32) :
    out0_B_9 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 xo8 xo9 xo10 xo11 xo12 xo13 xo14 = denBlk x5 x6 x0 x2 xo8 xo9 := by
  funext y
  frame_out
  canon_tiles x h
  all_goals exact denStrip_ld x5 x6 x0 x2 xo8 xo9 _ _ _ y x (by omega) h1

set_option maxHeartbeats 2000000 in
/-- The numerator after a point that continues the accumulation. -/
theorem out0_B_10_eq (c : Dev nD) (i : grid0.Coords) (arg1 : Memref sig .tc .vmem S2048x3072 .fp8e4m3) (harg1 : arg1.IsWhole) (arg2 : Memref sig .tc .vmem S2048x3072 .fp8e4m3) (harg2 : arg2.IsWhole) (arg3 : Memref sig .tc .vmem S2048x128 .f32) (harg3 : arg3.IsWhole) (arg4 : Memref sig .tc .vmem S2048x128 .f32) (harg4 : arg4.IsWhole) (arg5 : Memref sig .tc .vmem S2048x128 .i32) (harg5 : arg5.IsWhole) (arg6 : Memref sig .tc .vmem S768x3072 .fp8e4m3) (harg6 : arg6.IsWhole) (arg7 : Memref sig .tc .vmem S1x1x768 .f32) (harg7 : arg7.IsWhole) (arg8 : Memref sig .tc .vmem S2048x768 .f32) (harg8 : arg8.IsWhole) (arg9 : Memref sig .tc .vmem S2048x128 .f32) (harg9 : arg9.IsWhole) (arg10 : Memref sig .tc .vmem S2048x128 .f32) (harg10 : arg10.IsWhole) (arg11 : Memref sig .tc .vmem S2048x128 .f32) (harg11 : arg11.IsWhole) (arg12 : Memref sig .tc .vmem S2048x128 .f32) (harg12 : arg12.IsWhole) (arg13 : Memref sig .tc .vmem S2048x128 .f32) (harg13 : arg13.IsWhole) (arg14 : Memref sig .tc .vmem S2048x128 .f32) (harg14 : arg14.IsWhole) (arg15 : Memref sig .tc .vmem S2048x128 .f32) (harg15 : arg15.IsWhole) (hc0 : ¬cond0_0 i)
    (x0 : Vec Ideal S2048x3072 .fp8e4m3) (x1 : Vec Ideal S2048x3072 .fp8e4m3) (x2 : Vec Ideal S2048x128 .f32) (x3 : Vec Ideal S2048x128 .f32) (x4 : Vec Ideal S2048x128 .i32) (x5 : Vec Ideal S768x3072 .fp8e4m3) (x6 : Vec Ideal S1x1x768 .f32) (xo8 : Vec Ideal S2048x128 .f32) (xo9 : Vec Ideal S2048x128 .f32) (xo10 : Vec Ideal S2048x128 .f32) (xo11 : Vec Ideal S2048x128 .f32) (xo12 : Vec Ideal S2048x128 .f32) (xo13 : Vec Ideal S2048x128 .f32) (xo14 : Vec Ideal S2048x128 .f32) :
    out0_B_10 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 xo8 xo9 xo10 xo11 xo12 xo13 xo14 = numBlk x5 x6 x0 x2 xo8 xo10 := by
  funext y
  frame_out
  canon_tiles x h
  all_goals exact numStrip_ld x5 x6 x0 x2 xo8 xo10 _ _ _ y x (by omega) h1

set_option maxHeartbeats 2000000 in
/-- The label's logit after a point that continues the accumulation. -/
theorem out0_B_11_eq (c : Dev nD) (i : grid0.Coords) (arg1 : Memref sig .tc .vmem S2048x3072 .fp8e4m3) (harg1 : arg1.IsWhole) (arg2 : Memref sig .tc .vmem S2048x3072 .fp8e4m3) (harg2 : arg2.IsWhole) (arg3 : Memref sig .tc .vmem S2048x128 .f32) (harg3 : arg3.IsWhole) (arg4 : Memref sig .tc .vmem S2048x128 .f32) (harg4 : arg4.IsWhole) (arg5 : Memref sig .tc .vmem S2048x128 .i32) (harg5 : arg5.IsWhole) (arg6 : Memref sig .tc .vmem S768x3072 .fp8e4m3) (harg6 : arg6.IsWhole) (arg7 : Memref sig .tc .vmem S1x1x768 .f32) (harg7 : arg7.IsWhole) (arg8 : Memref sig .tc .vmem S2048x768 .f32) (harg8 : arg8.IsWhole) (arg9 : Memref sig .tc .vmem S2048x128 .f32) (harg9 : arg9.IsWhole) (arg10 : Memref sig .tc .vmem S2048x128 .f32) (harg10 : arg10.IsWhole) (arg11 : Memref sig .tc .vmem S2048x128 .f32) (harg11 : arg11.IsWhole) (arg12 : Memref sig .tc .vmem S2048x128 .f32) (harg12 : arg12.IsWhole) (arg13 : Memref sig .tc .vmem S2048x128 .f32) (harg13 : arg13.IsWhole) (arg14 : Memref sig .tc .vmem S2048x128 .f32) (harg14 : arg14.IsWhole) (arg15 : Memref sig .tc .vmem S2048x128 .f32) (harg15 : arg15.IsWhole) (hc0 : ¬cond0_0 i)
    (x0 : Vec Ideal S2048x3072 .fp8e4m3) (x1 : Vec Ideal S2048x3072 .fp8e4m3) (x2 : Vec Ideal S2048x128 .f32) (x3 : Vec Ideal S2048x128 .f32) (x4 : Vec Ideal S2048x128 .i32) (x5 : Vec Ideal S768x3072 .fp8e4m3) (x6 : Vec Ideal S1x1x768 .f32) (xo8 : Vec Ideal S2048x128 .f32) (xo9 : Vec Ideal S2048x128 .f32) (xo10 : Vec Ideal S2048x128 .f32) (xo11 : Vec Ideal S2048x128 .f32) (xo12 : Vec Ideal S2048x128 .f32) (xo13 : Vec Ideal S2048x128 .f32) (xo14 : Vec Ideal S2048x128 .f32) :
    out0_B_11 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 xo8 xo9 xo10 xo11 xo12 xo13 xo14 = hitBlk (BitVec.ofNat 32 (i 0).val) x5 x6 x0 x2 x4 xo11 := by
  funext y
  frame_out
  canon_tiles x h
  all_goals exact hitStrip_ld (BitVec.ofNat 32 (i 0).val) x5 x6 x0 x2 x4 xo11 _ _ _ y x (by omega) h1

set_option maxHeartbeats 2000000 in
/-- The reference model's maximum after a point that continues the accumulation. -/
theorem out0_B_12_eq (c : Dev nD) (i : grid0.Coords) (arg1 : Memref sig .tc .vmem S2048x3072 .fp8e4m3) (harg1 : arg1.IsWhole) (arg2 : Memref sig .tc .vmem S2048x3072 .fp8e4m3) (harg2 : arg2.IsWhole) (arg3 : Memref sig .tc .vmem S2048x128 .f32) (harg3 : arg3.IsWhole) (arg4 : Memref sig .tc .vmem S2048x128 .f32) (harg4 : arg4.IsWhole) (arg5 : Memref sig .tc .vmem S2048x128 .i32) (harg5 : arg5.IsWhole) (arg6 : Memref sig .tc .vmem S768x3072 .fp8e4m3) (harg6 : arg6.IsWhole) (arg7 : Memref sig .tc .vmem S1x1x768 .f32) (harg7 : arg7.IsWhole) (arg8 : Memref sig .tc .vmem S2048x768 .f32) (harg8 : arg8.IsWhole) (arg9 : Memref sig .tc .vmem S2048x128 .f32) (harg9 : arg9.IsWhole) (arg10 : Memref sig .tc .vmem S2048x128 .f32) (harg10 : arg10.IsWhole) (arg11 : Memref sig .tc .vmem S2048x128 .f32) (harg11 : arg11.IsWhole) (arg12 : Memref sig .tc .vmem S2048x128 .f32) (harg12 : arg12.IsWhole) (arg13 : Memref sig .tc .vmem S2048x128 .f32) (harg13 : arg13.IsWhole) (arg14 : Memref sig .tc .vmem S2048x128 .f32) (harg14 : arg14.IsWhole) (arg15 : Memref sig .tc .vmem S2048x128 .f32) (harg15 : arg15.IsWhole) (hc0 : ¬cond0_0 i)
    (x0 : Vec Ideal S2048x3072 .fp8e4m3) (x1 : Vec Ideal S2048x3072 .fp8e4m3) (x2 : Vec Ideal S2048x128 .f32) (x3 : Vec Ideal S2048x128 .f32) (x4 : Vec Ideal S2048x128 .i32) (x5 : Vec Ideal S768x3072 .fp8e4m3) (x6 : Vec Ideal S1x1x768 .f32) (xo8 : Vec Ideal S2048x128 .f32) (xo9 : Vec Ideal S2048x128 .f32) (xo10 : Vec Ideal S2048x128 .f32) (xo11 : Vec Ideal S2048x128 .f32) (xo12 : Vec Ideal S2048x128 .f32) (xo13 : Vec Ideal S2048x128 .f32) (xo14 : Vec Ideal S2048x128 .f32) :
    out0_B_12 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 xo8 xo9 xo10 xo11 xo12 xo13 xo14 = maxBlk x5 x6 x1 x3 xo12 := by
  funext y
  frame_out
  canon_tiles x h
  all_goals exact maxStrip_ld x5 x6 x1 x3 xo12 _ _ _ y x (by omega) h1

set_option maxHeartbeats 2000000 in
/-- The reference model's denominator after a point that continues the accumulation. -/
theorem out0_B_13_eq (c : Dev nD) (i : grid0.Coords) (arg1 : Memref sig .tc .vmem S2048x3072 .fp8e4m3) (harg1 : arg1.IsWhole) (arg2 : Memref sig .tc .vmem S2048x3072 .fp8e4m3) (harg2 : arg2.IsWhole) (arg3 : Memref sig .tc .vmem S2048x128 .f32) (harg3 : arg3.IsWhole) (arg4 : Memref sig .tc .vmem S2048x128 .f32) (harg4 : arg4.IsWhole) (arg5 : Memref sig .tc .vmem S2048x128 .i32) (harg5 : arg5.IsWhole) (arg6 : Memref sig .tc .vmem S768x3072 .fp8e4m3) (harg6 : arg6.IsWhole) (arg7 : Memref sig .tc .vmem S1x1x768 .f32) (harg7 : arg7.IsWhole) (arg8 : Memref sig .tc .vmem S2048x768 .f32) (harg8 : arg8.IsWhole) (arg9 : Memref sig .tc .vmem S2048x128 .f32) (harg9 : arg9.IsWhole) (arg10 : Memref sig .tc .vmem S2048x128 .f32) (harg10 : arg10.IsWhole) (arg11 : Memref sig .tc .vmem S2048x128 .f32) (harg11 : arg11.IsWhole) (arg12 : Memref sig .tc .vmem S2048x128 .f32) (harg12 : arg12.IsWhole) (arg13 : Memref sig .tc .vmem S2048x128 .f32) (harg13 : arg13.IsWhole) (arg14 : Memref sig .tc .vmem S2048x128 .f32) (harg14 : arg14.IsWhole) (arg15 : Memref sig .tc .vmem S2048x128 .f32) (harg15 : arg15.IsWhole) (hc0 : ¬cond0_0 i)
    (x0 : Vec Ideal S2048x3072 .fp8e4m3) (x1 : Vec Ideal S2048x3072 .fp8e4m3) (x2 : Vec Ideal S2048x128 .f32) (x3 : Vec Ideal S2048x128 .f32) (x4 : Vec Ideal S2048x128 .i32) (x5 : Vec Ideal S768x3072 .fp8e4m3) (x6 : Vec Ideal S1x1x768 .f32) (xo8 : Vec Ideal S2048x128 .f32) (xo9 : Vec Ideal S2048x128 .f32) (xo10 : Vec Ideal S2048x128 .f32) (xo11 : Vec Ideal S2048x128 .f32) (xo12 : Vec Ideal S2048x128 .f32) (xo13 : Vec Ideal S2048x128 .f32) (xo14 : Vec Ideal S2048x128 .f32) :
    out0_B_13 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 xo8 xo9 xo10 xo11 xo12 xo13 xo14 = denBlk x5 x6 x1 x3 xo12 xo13 := by
  funext y
  frame_out
  canon_tiles x h
  all_goals exact denStrip_ld x5 x6 x1 x3 xo12 xo13 _ _ _ y x (by omega) h1

set_option maxHeartbeats 2000000 in
/-- The reference model's label logit after a point that continues the accumulation. -/
theorem out0_B_14_eq (c : Dev nD) (i : grid0.Coords) (arg1 : Memref sig .tc .vmem S2048x3072 .fp8e4m3) (harg1 : arg1.IsWhole) (arg2 : Memref sig .tc .vmem S2048x3072 .fp8e4m3) (harg2 : arg2.IsWhole) (arg3 : Memref sig .tc .vmem S2048x128 .f32) (harg3 : arg3.IsWhole) (arg4 : Memref sig .tc .vmem S2048x128 .f32) (harg4 : arg4.IsWhole) (arg5 : Memref sig .tc .vmem S2048x128 .i32) (harg5 : arg5.IsWhole) (arg6 : Memref sig .tc .vmem S768x3072 .fp8e4m3) (harg6 : arg6.IsWhole) (arg7 : Memref sig .tc .vmem S1x1x768 .f32) (harg7 : arg7.IsWhole) (arg8 : Memref sig .tc .vmem S2048x768 .f32) (harg8 : arg8.IsWhole) (arg9 : Memref sig .tc .vmem S2048x128 .f32) (harg9 : arg9.IsWhole) (arg10 : Memref sig .tc .vmem S2048x128 .f32) (harg10 : arg10.IsWhole) (arg11 : Memref sig .tc .vmem S2048x128 .f32) (harg11 : arg11.IsWhole) (arg12 : Memref sig .tc .vmem S2048x128 .f32) (harg12 : arg12.IsWhole) (arg13 : Memref sig .tc .vmem S2048x128 .f32) (harg13 : arg13.IsWhole) (arg14 : Memref sig .tc .vmem S2048x128 .f32) (harg14 : arg14.IsWhole) (arg15 : Memref sig .tc .vmem S2048x128 .f32) (harg15 : arg15.IsWhole) (hc0 : ¬cond0_0 i)
    (x0 : Vec Ideal S2048x3072 .fp8e4m3) (x1 : Vec Ideal S2048x3072 .fp8e4m3) (x2 : Vec Ideal S2048x128 .f32) (x3 : Vec Ideal S2048x128 .f32) (x4 : Vec Ideal S2048x128 .i32) (x5 : Vec Ideal S768x3072 .fp8e4m3) (x6 : Vec Ideal S1x1x768 .f32) (xo8 : Vec Ideal S2048x128 .f32) (xo9 : Vec Ideal S2048x128 .f32) (xo10 : Vec Ideal S2048x128 .f32) (xo11 : Vec Ideal S2048x128 .f32) (xo12 : Vec Ideal S2048x128 .f32) (xo13 : Vec Ideal S2048x128 .f32) (xo14 : Vec Ideal S2048x128 .f32) :
    out0_B_14 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 xo8 xo9 xo10 xo11 xo12 xo13 xo14 = hitBlk (BitVec.ofNat 32 (i 0).val) x5 x6 x1 x3 x4 xo14 := by
  funext y
  frame_out
  canon_tiles x h
  all_goals exact hitStrip_ld (BitVec.ofNat 32 (i 0).val) x5 x6 x1 x3 x4 xo14 _ _ _ y x (by omega) h1

end Cert.StatsIdeal.StatsPoint

end
-- ==== Proof.StatsOut.lean ====
module

public import proofs.«01_k».proof.Defs
public import proofs.«01_k».proof.Proof.StatsPoint
public import proofs.«01_k».proof.Proof.Gen.StatsIdeal.Value
public import Idealize.ShloMosaic.Lib.Pipeline.ValueKit

@[expose] public section

set_option maxRecDepth 16384

noncomputable section

namespace Cert.Proof.StatsOut

open Idealize.ShloMosaic Idealize.ShloMosaic.TcCoe Idealize.SL.Sem
open Cert.StatsIdeal Cert.StatsIdeal.Gen Cert.StatsIdeal.StatsBlock Cert.StatsIdeal.StatsPoint

variable (m : (ℓ : Loc nD τ sig) → Buf (Elt Ideal) ℓ)

/-- The scaled logits after the first point. -/
theorem out7_A (c : Dev nD) (t : Fin cfg0.N) (h0 : t.val % 167 = 0) : (outsAt0 m c t.val t.isLt).1 = logits (iblk m c 5 t) (iblk m c 6 t) (iblk m c 0 t) (iblk m c 2 t) := by
  have e : (outsAt0 m c t.val t.isLt).1 = out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) ((hcond0_0 t).mpr h0) (iblk m c 0 t) (iblk m c 1 t) (iblk m c 2 t) (iblk m c 3 t) (iblk m c 4 t) (iblk m c 5 t) (iblk m c 6 t) := by rw [outsAt0_A m c t h0]
  exact e.trans (out0_A_7_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) ((hcond0_0 t).mpr h0) (iblk m c 0 t) (iblk m c 1 t) (iblk m c 2 t) (iblk m c 3 t) (iblk m c 4 t) (iblk m c 5 t) (iblk m c 6 t))

/-- The maximum after the first point. -/
theorem out8_A (c : Dev nD) (t : Fin cfg0.N) (h0 : t.val % 167 = 0) : (outsAt0 m c t.val t.isLt).2.1 = maxBlk (iblk m c 5 t) (iblk m c 6 t) (iblk m c 0 t) (iblk m c 2 t) (k0_pay2 (F := Ideal)) := by
  have e : (outsAt0 m c t.val t.isLt).2.1 = out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) ((hcond0_0 t).mpr h0) (iblk m c 0 t) (iblk m c 1 t) (iblk m c 2 t) (iblk m c 3 t) (iblk m c 4 t) (iblk m c 5 t) (iblk m c 6 t) := by rw [outsAt0_A m c t h0]
  exact e.trans (out0_A_8_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) ((hcond0_0 t).mpr h0) (iblk m c 0 t) (iblk m c 1 t) (iblk m c 2 t) (iblk m c 3 t) (iblk m c 4 t) (iblk m c 5 t) (iblk m c 6 t))

/-- The denominator after the first point. -/
theorem out9_A (c : Dev nD) (t : Fin cfg0.N) (h0 : t.val % 167 = 0) : (outsAt0 m c t.val t.isLt).2.2.1 = denBlk (iblk m c 5 t) (iblk m c 6 t) (iblk m c 0 t) (iblk m c 2 t) (k0_pay2 (F := Ideal)) (k0_pay4 (F := Ideal)) := by
  have e : (outsAt0 m c t.val t.isLt).2.2.1 = out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) ((hcond0_0 t).mpr h0) (iblk m c 0 t) (iblk m c 1 t) (iblk m c 2 t) (iblk m c 3 t) (iblk m c 4 t) (iblk m c 5 t) (iblk m c 6 t) := by rw [outsAt0_A m c t h0]
  exact e.trans (out0_A_9_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) ((hcond0_0 t).mpr h0) (iblk m c 0 t) (iblk m c 1 t) (iblk m c 2 t) (iblk m c 3 t) (iblk m c 4 t) (iblk m c 5 t) (iblk m c 6 t))

/-- The numerator after the first point. -/
theorem out10_A (c : Dev nD) (t : Fin cfg0.N) (h0 : t.val % 167 = 0) : (outsAt0 m c t.val t.isLt).2.2.2.1 = numBlk (iblk m c 5 t) (iblk m c 6 t) (iblk m c 0 t) (iblk m c 2 t) (k0_pay2 (F := Ideal)) (k0_pay5 (F := Ideal)) := by
  have e : (outsAt0 m c t.val t.isLt).2.2.2.1 = out0_A_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) ((hcond0_0 t).mpr h0) (iblk m c 0 t) (iblk m c 1 t) (iblk m c 2 t) (iblk m c 3 t) (iblk m c 4 t) (iblk m c 5 t) (iblk m c 6 t) := by rw [outsAt0_A m c t h0]
  exact e.trans (out0_A_10_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) ((hcond0_0 t).mpr h0) (iblk m c 0 t) (iblk m c 1 t) (iblk m c 2 t) (iblk m c 3 t) (iblk m c 4 t) (iblk m c 5 t) (iblk m c 6 t))

/-- The label's logit after the first point. -/
theorem out11_A (c : Dev nD) (t : Fin cfg0.N) (h0 : t.val % 167 = 0) : (outsAt0 m c t.val t.isLt).2.2.2.2.1 = hitBlk (BitVec.ofNat 32 (grid0.coords t 0).val) (iblk m c 5 t) (iblk m c 6 t) (iblk m c 0 t) (iblk m c 2 t) (iblk m c 4 t) (k0_pay6 (F := Ideal)) := by
  have e : (outsAt0 m c t.val t.isLt).2.2.2.2.1 = out0_A_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) ((hcond0_0 t).mpr h0) (iblk m c 0 t) (iblk m c 1 t) (iblk m c 2 t) (iblk m c 3 t) (iblk m c 4 t) (iblk m c 5 t) (iblk m c 6 t) := by rw [outsAt0_A m c t h0]
  exact e.trans (out0_A_11_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) ((hcond0_0 t).mpr h0) (iblk m c 0 t) (iblk m c 1 t) (iblk m c 2 t) (iblk m c 3 t) (iblk m c 4 t) (iblk m c 5 t) (iblk m c 6 t))

/-- The reference model's maximum after the first point. -/
theorem out12_A (c : Dev nD) (t : Fin cfg0.N) (h0 : t.val % 167 = 0) : (outsAt0 m c t.val t.isLt).2.2.2.2.2.1 = maxBlk (iblk m c 5 t) (iblk m c 6 t) (iblk m c 1 t) (iblk m c 3 t) (k0_pay3 (F := Ideal)) := by
  have e : (outsAt0 m c t.val t.isLt).2.2.2.2.2.1 = out0_A_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) ((hcond0_0 t).mpr h0) (iblk m c 0 t) (iblk m c 1 t) (iblk m c 2 t) (iblk m c 3 t) (iblk m c 4 t) (iblk m c 5 t) (iblk m c 6 t) := by rw [outsAt0_A m c t h0]
  exact e.trans (out0_A_12_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) ((hcond0_0 t).mpr h0) (iblk m c 0 t) (iblk m c 1 t) (iblk m c 2 t) (iblk m c 3 t) (iblk m c 4 t) (iblk m c 5 t) (iblk m c 6 t))

/-- The reference model's denominator after the first point. -/
theorem out13_A (c : Dev nD) (t : Fin cfg0.N) (h0 : t.val % 167 = 0) : (outsAt0 m c t.val t.isLt).2.2.2.2.2.2.1 = denBlk (iblk m c 5 t) (iblk m c 6 t) (iblk m c 1 t) (iblk m c 3 t) (k0_pay3 (F := Ideal)) (k0_pay7 (F := Ideal)) := by
  have e : (outsAt0 m c t.val t.isLt).2.2.2.2.2.2.1 = out0_A_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) ((hcond0_0 t).mpr h0) (iblk m c 0 t) (iblk m c 1 t) (iblk m c 2 t) (iblk m c 3 t) (iblk m c 4 t) (iblk m c 5 t) (iblk m c 6 t) := by rw [outsAt0_A m c t h0]
  exact e.trans (out0_A_13_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) ((hcond0_0 t).mpr h0) (iblk m c 0 t) (iblk m c 1 t) (iblk m c 2 t) (iblk m c 3 t) (iblk m c 4 t) (iblk m c 5 t) (iblk m c 6 t))

/-- The reference model's label's logit after the first point. -/
theorem out14_A (c : Dev nD) (t : Fin cfg0.N) (h0 : t.val % 167 = 0) : (outsAt0 m c t.val t.isLt).2.2.2.2.2.2.2 = hitBlk (BitVec.ofNat 32 (grid0.coords t 0).val) (iblk m c 5 t) (iblk m c 6 t) (iblk m c 1 t) (iblk m c 3 t) (iblk m c 4 t) (k0_pay8 (F := Ideal)) := by
  have e : (outsAt0 m c t.val t.isLt).2.2.2.2.2.2.2 = out0_A_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) ((hcond0_0 t).mpr h0) (iblk m c 0 t) (iblk m c 1 t) (iblk m c 2 t) (iblk m c 3 t) (iblk m c 4 t) (iblk m c 5 t) (iblk m c 6 t) := by rw [outsAt0_A m c t h0]
  exact e.trans (out0_A_14_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) ((hcond0_0 t).mpr h0) (iblk m c 0 t) (iblk m c 1 t) (iblk m c 2 t) (iblk m c 3 t) (iblk m c 4 t) (iblk m c 5 t) (iblk m c 6 t))

/-- The scaled logits after a later point. -/
theorem out7_B (c : Dev nD) (t : Fin cfg0.N) (h0 : ¬t.val % 167 = 0) : (outsAt0 m c t.val t.isLt).1 = logits (iblk m c 5 t) (iblk m c 6 t) (iblk m c 0 t) (iblk m c 2 t) := by
  have e : (outsAt0 m c t.val t.isLt).1 = out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (fun h => h0 ((hcond0_0 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2 := by rw [outsAt0_B m c t h0]
  exact e.trans (out0_B_7_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (fun h => h0 ((hcond0_0 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2)

/-- The maximum after a later point. -/
theorem out8_B (c : Dev nD) (t : Fin cfg0.N) (h0 : ¬t.val % 167 = 0) : (outsAt0 m c t.val t.isLt).2.1 = maxBlk (iblk m c 5 t) (iblk m c 6 t) (iblk m c 0 t) (iblk m c 2 t) (outsAt0 m c (t.val - 1) (Nat.lt_of_le_of_lt (Nat.sub_le _ _) t.isLt)).2.1 := by
  have e : (outsAt0 m c t.val t.isLt).2.1 = out0_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (fun h => h0 ((hcond0_0 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2 := by rw [outsAt0_B m c t h0]
  exact e.trans (out0_B_8_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (fun h => h0 ((hcond0_0 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2)

/-- The denominator after a later point. -/
theorem out9_B (c : Dev nD) (t : Fin cfg0.N) (h0 : ¬t.val % 167 = 0) : (outsAt0 m c t.val t.isLt).2.2.1 = denBlk (iblk m c 5 t) (iblk m c 6 t) (iblk m c 0 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2.1 := by
  have e : (outsAt0 m c t.val t.isLt).2.2.1 = out0_B_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (fun h => h0 ((hcond0_0 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2 := by rw [outsAt0_B m c t h0]
  exact e.trans (out0_B_9_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (fun h => h0 ((hcond0_0 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2)

/-- The numerator after a later point. -/
theorem out10_B (c : Dev nD) (t : Fin cfg0.N) (h0 : ¬t.val % 167 = 0) : (outsAt0 m c t.val t.isLt).2.2.2.1 = numBlk (iblk m c 5 t) (iblk m c 6 t) (iblk m c 0 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2.2.1 := by
  have e : (outsAt0 m c t.val t.isLt).2.2.2.1 = out0_B_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (fun h => h0 ((hcond0_0 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2 := by rw [outsAt0_B m c t h0]
  exact e.trans (out0_B_10_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (fun h => h0 ((hcond0_0 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2)

/-- The label's logit after a later point. -/
theorem out11_B (c : Dev nD) (t : Fin cfg0.N) (h0 : ¬t.val % 167 = 0) : (outsAt0 m c t.val t.isLt).2.2.2.2.1 = hitBlk (BitVec.ofNat 32 (grid0.coords t 0).val) (iblk m c 5 t) (iblk m c 6 t) (iblk m c 0 t) (iblk m c 2 t) (iblk m c 4 t) (outsAt0 m c (t.val - 1) (Nat.lt_of_le_of_lt (Nat.sub_le _ _) t.isLt)).2.2.2.2.1 := by
  have e : (outsAt0 m c t.val t.isLt).2.2.2.2.1 = out0_B_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (fun h => h0 ((hcond0_0 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2 := by rw [outsAt0_B m c t h0]
  exact e.trans (out0_B_11_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (fun h => h0 ((hcond0_0 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2)

/-- The reference model's maximum after a later point. -/
theorem out12_B (c : Dev nD) (t : Fin cfg0.N) (h0 : ¬t.val % 167 = 0) : (outsAt0 m c t.val t.isLt).2.2.2.2.2.1 = maxBlk (iblk m c 5 t) (iblk m c 6 t) (iblk m c 1 t) (iblk m c 3 t) (outsAt0 m c (t.val - 1) (Nat.lt_of_le_of_lt (Nat.sub_le _ _) t.isLt)).2.2.2.2.2.1 := by
  have e : (outsAt0 m c t.val t.isLt).2.2.2.2.2.1 = out0_B_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (fun h => h0 ((hcond0_0 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2 := by rw [outsAt0_B m c t h0]
  exact e.trans (out0_B_12_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (fun h => h0 ((hcond0_0 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2)

/-- The reference model's denominator after a later point. -/
theorem out13_B (c : Dev nD) (t : Fin cfg0.N) (h0 : ¬t.val % 167 = 0) : (outsAt0 m c t.val t.isLt).2.2.2.2.2.2.1 = denBlk (iblk m c 5 t) (iblk m c 6 t) (iblk m c 1 t) (iblk m c 3 t) (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 := by
  have e : (outsAt0 m c t.val t.isLt).2.2.2.2.2.2.1 = out0_B_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (fun h => h0 ((hcond0_0 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2 := by rw [outsAt0_B m c t h0]
  exact e.trans (out0_B_13_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (fun h => h0 ((hcond0_0 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2)

/-- The reference model's label's logit after a later point. -/
theorem out14_B (c : Dev nD) (t : Fin cfg0.N) (h0 : ¬t.val % 167 = 0) : (outsAt0 m c t.val t.isLt).2.2.2.2.2.2.2 = hitBlk (BitVec.ofNat 32 (grid0.coords t 0).val) (iblk m c 5 t) (iblk m c 6 t) (iblk m c 1 t) (iblk m c 3 t) (iblk m c 4 t) (outsAt0 m c (t.val - 1) (Nat.lt_of_le_of_lt (Nat.sub_le _ _) t.isLt)).2.2.2.2.2.2.2 := by
  have e : (outsAt0 m c t.val t.isLt).2.2.2.2.2.2.2 = out0_B_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (fun h => h0 ((hcond0_0 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2 := by rw [outsAt0_B m c t h0]
  exact e.trans (out0_B_14_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (fun h => h0 ((hcond0_0 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2)

end Cert.Proof.StatsOut

end
-- ==== Proof.StatsMath.lean ====
module

public import proofs.«01_k».proof.Defs
public import Idealize.ShloMosaic.Lib.Pipeline.ValueKit

@[expose] public section

set_option maxRecDepth 16384

noncomputable section

namespace Cert.Proof.StatsMath

open Idealize.ShloMosaic Finset

/-- The word of minus infinity. -/
theorem ofBits_bot : Ideal.ofBits FTy.f32 4286578688#32 = ⊥ := by
  rfl

theorem sub_top (x : EReal) : x - ⊤ = ⊥ := by rw [sub_eq_add_neg, EReal.neg_top, EReal.add_bot]
theorem bot_sub (x : EReal) : ⊥ - x = ⊥ := by rw [sub_eq_add_neg, EReal.bot_add]

/-- Below a reference point, the power of two of the distance is a real number. -/
theorem exp2_real {s m : EReal} (h : s ≤ m) : ∃ r : ℝ, Ideal.exp2 (s - m) = r := by
  induction m with
  | top => exact ⟨0, by rw [sub_top]; rfl⟩
  | bot => exact ⟨0, by rw [le_bot_iff.mp h, bot_sub]; rfl⟩
  | coe m =>
    induction s with
    | bot => exact ⟨0, by rw [bot_sub]; rfl⟩
    | top => exact absurd h (by simp)
    | coe s => exact ⟨_, by rw [← EReal.coe_sub]; rfl⟩

/-- The same for that power times the value itself: an infinite value counts nothing. -/
theorem exp2_mul_real {s m : EReal} (h : s ≤ m) : ∃ r : ℝ, Ideal.exp2 (s - m) * s = r := by
  induction s with
  | bot => exact ⟨0, by rw [bot_sub]; simp⟩
  | top => exact ⟨0, by rw [top_le_iff.mp h, sub_top]; simp⟩
  | coe s =>
    obtain ⟨r, hr⟩ := exp2_real h
    exact ⟨r * s, by rw [hr, EReal.coe_mul]⟩

/-- Moving the reference point up multiplies by the power of two of the move. -/
theorem exp2_move {s m n : EReal} (h1 : s ≤ m) (h2 : m ≤ n) : Ideal.exp2 (s - m) * Ideal.exp2 (m - n) = Ideal.exp2 (s - n) := by
  induction n with
  | top => rw [sub_top, sub_top]; simp
  | bot => obtain rfl := le_bot_iff.mp h2; obtain rfl := le_bot_iff.mp h1; rw [bot_sub]; simp
  | coe n =>
    induction m with
    | top => exact absurd h2 (by simp)
    | bot => obtain rfl := le_bot_iff.mp h1; rw [bot_sub, bot_sub]; simp
    | coe m =>
      induction s with
      | top => exact absurd h1 (by simp)
      | bot => rw [bot_sub, bot_sub]; simp
      | coe s =>
        rw [← EReal.coe_sub, ← EReal.coe_sub, ← EReal.coe_sub]
        show ((Real.rpow 2 (s - m) : ℝ) : EReal) * (Real.rpow 2 (m - n) : ℝ) = (Real.rpow 2 (s - n) : ℝ)
        rw [← EReal.coe_mul]
        congr 1
        exact (Real.rpow_add (by norm_num) _ _).symm.trans (congrArg _ (by ring))

/-- A sum of real numbers times a real number, term by term. -/
theorem sum_mul_real (s : Finset ℕ) (f : ℕ → EReal) (hf : ∀ g ∈ s, ∃ r : ℝ, f g = r) (c : ℝ) :
    (∃ r : ℝ, ∑ g ∈ s, f g = r) ∧ (∑ g ∈ s, f g) * (c : EReal) = ∑ g ∈ s, f g * c := by
  induction s using Finset.induction with
  | empty => exact ⟨⟨0, by simp⟩, by simp⟩
  | insert a s ha ih =>
    obtain ⟨⟨R, hR⟩, e⟩ := ih fun g hg => hf g (mem_insert_of_mem hg)
    obtain ⟨r, hr⟩ := hf a (mem_insert_self a s)
    rw [sum_insert ha, sum_insert ha, ← e, hR, hr]
    refine ⟨⟨r + R, by rw [EReal.coe_add]⟩, ?_⟩
    rw [← EReal.coe_add, ← EReal.coe_mul, ← EReal.coe_mul, ← EReal.coe_mul, ← EReal.coe_add, add_mul]

/-! The statistics of the first `n` values of a sequence. -/

/-- Their maximum (minus infinity for none). -/
def runMax (G : ℕ → EReal) (n : ℕ) : EReal := (range n).sup G

/-- The sum of the powers of two of their distances from the maximum. -/
def runDen (G : ℕ → EReal) (n : ℕ) : EReal := ∑ g ∈ range n, Ideal.exp2 (G g - runMax G n)

/-- The same powers, each times its value. -/
def runNum (G : ℕ → EReal) (n : ℕ) : EReal := ∑ g ∈ range n, Ideal.exp2 (G g - runMax G n) * G g

/-- Those of the values that are picked, summed. -/
def runHit (H : ℕ → EReal) (n : ℕ) : EReal := ∑ g ∈ range n, H g

theorem runMax_succ (G : ℕ → EReal) (n : ℕ) : runMax G (n + 1) = max (runMax G n) (G n) := by
  rw [runMax, range_add_one, sup_insert, sup_comm]
  rfl

/-! What six more values make of them. -/

theorem max_step (G : ℕ → EReal) (n : ℕ) :
    max (max (max (max (max (max (runMax G n) (G n)) (G (n + 1))) (G (n + 2))) (G (n + 3))) (G (n + 4))) (G (n + 5)) = runMax G (n + 6) := by
  simp only [← runMax_succ]

theorem le_runMax (G : ℕ → EReal) {g n : ℕ} (h : g < n) : G g ≤ runMax G n := le_sup (mem_range.mpr h)

theorem runMax_mono (G : ℕ → EReal) (n k : ℕ) : runMax G n ≤ runMax G (n + k) :=
  sup_mono (range_mono (Nat.le_add_right n k))

theorem den_step (G : ℕ → EReal) (n : ℕ) (M : EReal) (hM : runMax G (n + 6) = M) :
    runDen G n * Ideal.exp2 (runMax G n - M) + Ideal.exp2 (G n - M) + Ideal.exp2 (G (n + 1) - M) + Ideal.exp2 (G (n + 2) - M)
      + Ideal.exp2 (G (n + 3) - M) + Ideal.exp2 (G (n + 4) - M) + Ideal.exp2 (G (n + 5) - M) = runDen G (n + 6) := by
  subst hM
  obtain ⟨c, hc⟩ := exp2_real (runMax_mono G n 6)
  have e : runDen G n * Ideal.exp2 (runMax G n - runMax G (n + 6)) = ∑ g ∈ range n, Ideal.exp2 (G g - runMax G (n + 6)) := by
    rw [hc]
    refine (sum_mul_real _ _ (fun g hg => exp2_real (le_runMax G (mem_range.mp hg))) c).2.trans ?_
    refine sum_congr rfl fun g hg => ?_
    rw [← hc, exp2_move (le_runMax G (mem_range.mp hg)) (runMax_mono G n 6)]
  rw [e, runDen]
  simp only [sum_range_succ]

theorem num_step (G : ℕ → EReal) (n : ℕ) (M : EReal) (hM : runMax G (n + 6) = M) :
    runNum G n * Ideal.exp2 (runMax G n - M) + Ideal.exp2 (G n - M) * G n + Ideal.exp2 (G (n + 1) - M) * G (n + 1)
      + Ideal.exp2 (G (n + 2) - M) * G (n + 2) + Ideal.exp2 (G (n + 3) - M) * G (n + 3) + Ideal.exp2 (G (n + 4) - M) * G (n + 4)
      + Ideal.exp2 (G (n + 5) - M) * G (n + 5) = runNum G (n + 6) := by
  subst hM
  obtain ⟨c, hc⟩ := exp2_real (runMax_mono G n 6)
  have e : runNum G n * Ideal.exp2 (runMax G n - runMax G (n + 6)) = ∑ g ∈ range n, Ideal.exp2 (G g - runMax G (n + 6)) * G g := by
    rw [hc]
    refine (sum_mul_real _ _ (fun g hg => exp2_mul_real (le_runMax G (mem_range.mp hg))) c).2.trans ?_
    refine sum_congr rfl fun g hg => ?_
    rw [← hc, mul_right_comm, exp2_move (le_runMax G (mem_range.mp hg)) (runMax_mono G n 6)]
  rw [e, runNum]
  simp only [sum_range_succ]

theorem hit_step (H : ℕ → EReal) (n : ℕ) :
    runHit H n + H n + H (n + 1) + H (n + 2) + H (n + 3) + H (n + 4) + H (n + 5) = runHit H (n + 6) := by
  simp only [runHit, sum_range_succ]

/-! Over an axis of `N` values. -/

theorem fold_max (N : ℕ) (G : ℕ → EReal) : Finset.fold max ⊥ (fun a : Fin N => G a.val) univ = runMax G N := by
  show (univ : Finset (Fin N)).sup (fun a : Fin N => G a.val) = (range N).sup G
  refine le_antisymm (Finset.sup_le fun a _ => le_sup (f := G) (mem_range.mpr a.isLt)) (Finset.sup_le fun g hg => ?_)
  exact le_sup (f := fun a : Fin N => G a.val) (mem_univ ⟨g, mem_range.mp hg⟩)

end Cert.Proof.StatsMath

end
-- ==== Proof.StatsVal.lean ====
module

public import proofs.«01_k».proof.Defs
public import proofs.«01_k».proof.Proof.StatsBlock
public import proofs.«01_k».proof.Proof.StatsMath
public import Idealize.ShloMosaic.Lib.Pipeline.ValueKit

@[expose] public section

set_option maxRecDepth 16384

noncomputable section

namespace Cert.StatsIdeal.StatsVal

open Idealize.ShloMosaic Idealize.ShloMosaic.TcCoe Idealize.SL.Sem
open Cert.StatsIdeal Cert.StatsIdeal.Gen Cert.StatsIdeal.StatsBlock Cert.Proof.StatsMath

/-- An array at an index is the array at the index's row and column. -/
theorem at_ix2 {n k : ℕ} {α : Type} (f : (⟨2, ![n, k]⟩ : Shape).Idx → α) (y : (⟨2, ![n, k]⟩ : Shape).Idx) : f y = f (ix2 (y 0) (y 1)) :=
  congrArg f (ix2_eta y).symm

/-- Two arrays of rows and columns agree when they agree at each row and column. -/
theorem ext_ix2 {n k : ℕ} {α : Type} (f g : (⟨2, ![n, k]⟩ : Shape).Idx → α) (h : ∀ a b, f (ix2 a b) = g (ix2 a b)) : f = g :=
  funext fun y => (at_ix2 f y).trans ((h _ _).trans (at_ix2 g y).symm)

/-- A label within a point's columns is the label within all columns, less the columns before. -/
theorem cmpi_shift (l : BitVec 32) (t k : ℕ) :
    IntOp.cmpi .eq (IntOp.subi l (Scalar.muli (BitVec.ofNat 32 t) 768#32)) (BitVec.ofNat 32 k) = IntOp.cmpi .eq l (BitVec.ofNat 32 (t * 768 + k)) := by
  show BitVec.ofBool (l - BitVec.ofNat 32 t * 768#32 == BitVec.ofNat 32 k) = BitVec.ofBool (l == BitVec.ofNat 32 (t * 768 + k))
  congr 1
  rw [BitVec.ofNat_add, BitVec.ofNat_mul, Bool.eq_iff_iff, beq_iff_eq, beq_iff_eq]
  generalize BitVec.ofNat 32 t * BitVec.ofNat 32 768 = p
  constructor <;> intro h <;> bv_omega

/-- The scaled logit of row `r` in lane `l` of group `g`: column `128 g + l`. -/
def G (x : Vec Ideal S2048x3072 .fp8e4m3) (w : Vec Ideal S128256x3072 .fp8e4m3) (sx : Vec Ideal S2048x128 .f32) (s : Vec Ideal S128256 .f32) (r : Fin 2048) (l : Fin 128) (g : ℕ) : EReal :=
  if h : g * 128 + l.val < 128256 then
    (∑ q : Fin 3072, x (ix2 r q) * w (ix2 ⟨g * 128 + l.val, h⟩ q)) * sx (ix2 r l) * (s (ix1 ⟨g * 128 + l.val, h⟩) * Ideal.ofBits .f32 0x3FE6D4CA#32)
  else 0

/-- The same logit if that column is the label's, zero otherwise. -/
def H (lab : Vec Ideal S2048x128 .i32) (x : Vec Ideal S2048x3072 .fp8e4m3) (w : Vec Ideal S128256x3072 .fp8e4m3) (sx : Vec Ideal S2048x128 .f32) (s : Vec Ideal S128256 .f32) (r : Fin 2048) (l : Fin 128) (g : ℕ) : EReal :=
  hitAt (lab (ix2 r l)) (BitVec.ofNat 32 (g * 128 + l.val)) (G x w sx s r l g)

/-! The arrays both programs compute: the logits, and over the 1002 groups of a lane the maximum, the sums and the label's logit. -/

/-- The scaled logits. -/
def logitArr (x : Vec Ideal S2048x3072 .fp8e4m3) (w : Vec Ideal S128256x3072 .fp8e4m3) (sx : Vec Ideal S2048x128 .f32) (s : Vec Ideal S128256 .f32) : Vec Ideal S2048x128256 .f32 := fun y => G x w sx s (y 0) ⟨(y 1).val % 128, Nat.mod_lt _ (by decide)⟩ ((y 1).val / 128)
/-- The maximum of each lane. -/
def maxArr (x : Vec Ideal S2048x3072 .fp8e4m3) (w : Vec Ideal S128256x3072 .fp8e4m3) (sx : Vec Ideal S2048x128 .f32) (s : Vec Ideal S128256 .f32) : Vec Ideal S2048x128 .f32 := fun y => runMax (G x w sx s (y 0) (y 1)) 1002
/-- The softmax denominator of each lane. -/
def denArr (x : Vec Ideal S2048x3072 .fp8e4m3) (w : Vec Ideal S128256x3072 .fp8e4m3) (sx : Vec Ideal S2048x128 .f32) (s : Vec Ideal S128256 .f32) : Vec Ideal S2048x128 .f32 := fun y => runDen (G x w sx s (y 0) (y 1)) 1002
/-- The entropy numerator of each lane. -/
def numArr (x : Vec Ideal S2048x3072 .fp8e4m3) (w : Vec Ideal S128256x3072 .fp8e4m3) (sx : Vec Ideal S2048x128 .f32) (s : Vec Ideal S128256 .f32) : Vec Ideal S2048x128 .f32 := fun y => runNum (G x w sx s (y 0) (y 1)) 1002
/-- The label's logit in the lane that holds it. -/
def hitArr (lab : Vec Ideal S2048x128 .i32) (x : Vec Ideal S2048x3072 .fp8e4m3) (w : Vec Ideal S128256x3072 .fp8e4m3) (sx : Vec Ideal S2048x128 .f32) (s : Vec Ideal S128256 .f32) : Vec Ideal S2048x128 .f32 := fun y => runHit (H lab x w sx s (y 0) (y 1)) 1002

/-! One point's blocks hold six groups; what a point makes of what it finds. -/

theorem maxBlk_run (w : Vec Ideal S768x3072 .fp8e4m3) (sw : Vec Ideal S1x1x768 .f32) (X : Vec Ideal S2048x3072 .fp8e4m3) (SX : Vec Ideal S2048x128 .f32) (m : Vec Ideal S2048x128 .f32) (G : ℕ → EReal) (n : ℕ) (y : S2048x128.Idx) (hG : ∀ j : Fin 6, logit w sw X SX (y 0) (y 1) (col j (y 1)) = G (n + j.val))
    (hm : m y = runMax G n) : maxBlk w sw X SX m y = runMax G (n + 6) := by
  show maxStep _ _ _ _ _ _ _ = _
  rw [hm, hG 0, hG 1, hG 2, hG 3, hG 4, hG 5]
  exact max_step G n

theorem denBlk_run (w : Vec Ideal S768x3072 .fp8e4m3) (sw : Vec Ideal S1x1x768 .f32) (X : Vec Ideal S2048x3072 .fp8e4m3) (SX : Vec Ideal S2048x128 .f32) (m d : Vec Ideal S2048x128 .f32) (G : ℕ → EReal) (n : ℕ) (y : S2048x128.Idx) (hG : ∀ j : Fin 6, logit w sw X SX (y 0) (y 1) (col j (y 1)) = G (n + j.val))
    (hm : m y = runMax G n) (hd : d y = runDen G n) : denBlk w sw X SX m d y = runDen G (n + 6) := by
  have e := maxBlk_run w sw X SX m G n y hG hm
  show denStep (m y) (d y) (maxBlk w sw X SX m y) _ _ _ _ _ _ = _
  rw [e, hm, hd, hG 0, hG 1, hG 2, hG 3, hG 4, hG 5]
  exact den_step G n _ rfl

theorem numBlk_run (w : Vec Ideal S768x3072 .fp8e4m3) (sw : Vec Ideal S1x1x768 .f32) (X : Vec Ideal S2048x3072 .fp8e4m3) (SX : Vec Ideal S2048x128 .f32) (m d : Vec Ideal S2048x128 .f32) (G : ℕ → EReal) (n : ℕ) (y : S2048x128.Idx) (hG : ∀ j : Fin 6, logit w sw X SX (y 0) (y 1) (col j (y 1)) = G (n + j.val))
    (hm : m y = runMax G n) (hd : d y = runNum G n) : numBlk w sw X SX m d y = runNum G (n + 6) := by
  have e := maxBlk_run w sw X SX m G n y hG hm
  show numStep (m y) (d y) (maxBlk w sw X SX m y) _ _ _ _ _ _ = _
  rw [e, hm, hd, hG 0, hG 1, hG 2, hG 3, hG 4, hG 5]
  exact num_step G n _ rfl

/-- Whether a group's column is the label's, counted within a point's columns or within all of them. -/
theorem hit_shift (l : BitVec 32) (t k : ℕ) (j : Fin 6) (s : EReal) (c : BitVec 32) (hc : c = BitVec.ofNat 32 (128 * j.val)) :
    hitAt (IntOp.subi l (Scalar.muli (BitVec.ofNat 32 t) 768#32)) (IntOp.addi (BitVec.ofNat 32 k) c) s
      = hitAt l (BitVec.ofNat 32 ((6 * t + j.val) * 128 + k)) s := by
  have e : IntOp.addi (BitVec.ofNat 32 k) c = BitVec.ofNat 32 (k + 128 * j.val) := by
    rw [hc]
    exact (BitVec.ofNat_add _ _).symm
  have e' : (6 * t + j.val) * 128 + k = t * 768 + (k + 128 * j.val) := by omega
  unfold hitAt
  rw [e, cmpi_shift, e']

theorem hitBlk_run (t : ℕ) (w : Vec Ideal S768x3072 .fp8e4m3) (sw : Vec Ideal S1x1x768 .f32) (X : Vec Ideal S2048x3072 .fp8e4m3) (SX : Vec Ideal S2048x128 .f32) (lab : Vec Ideal S2048x128 .i32) (h : Vec Ideal S2048x128 .f32) (G : ℕ → EReal) (y : S2048x128.Idx)
    (hG : ∀ j : Fin 6, logit w sw X SX (y 0) (y 1) (col j (y 1)) = G (6 * t + j.val))
    (hh : h y = runHit (fun g => hitAt (lab y) (BitVec.ofNat 32 (g * 128 + (y 1).val)) (G g)) (6 * t)) :
    hitBlk (BitVec.ofNat 32 t) w sw X SX lab h y = runHit (fun g => hitAt (lab y) (BitVec.ofNat 32 (g * 128 + (y 1).val)) (G g)) (6 * t + 6) := by
  show hitStep _ _ _ _ _ _ _ _ _ = _
  unfold hitStep
  rw [hh, hG 0, hG 1, hG 2, hG 3, hG 4, hG 5, hit_shift _ _ _ 0 _ 0#32 rfl, hit_shift _ _ _ 1 _ 128#32 rfl, hit_shift _ _ _ 2 _ 256#32 rfl, hit_shift _ _ _ 3 _ 384#32 rfl, hit_shift _ _ _ 4 _ 512#32 rfl, hit_shift _ _ _ 5 _ 640#32 rfl]
  exact hit_step (fun g => hitAt (lab y) (BitVec.ofNat 32 (g * 128 + (y 1).val)) (G g)) (6 * t)

/-- The label's logits of a row and lane, written with the label there. -/
theorem H_eq (lab : Vec Ideal S2048x128 .i32) (x : Vec Ideal S2048x3072 .fp8e4m3) (w : Vec Ideal S128256x3072 .fp8e4m3) (sx : Vec Ideal S2048x128 .f32) (s : Vec Ideal S128256 .f32) (y : S2048x128.Idx) :
    H lab x w sx s (y 0) (y 1) = fun g => hitAt (lab y) (BitVec.ofNat 32 (g * 128 + (y 1).val)) (G x w sx s (y 0) (y 1) g) :=
  funext fun _ => congrArg (hitAt · _ _) (congrArg lab (ix2_eta y))

end Cert.StatsIdeal.StatsVal

end
-- ==== Proof.StatsArr.lean ====
module

public import proofs.«01_k».proof.Defs
public import proofs.«01_k».proof.Proof.StatsOut
public import proofs.«01_k».proof.Proof.StatsVal
public import Idealize.ShloMosaic.Lib.Pipeline.ValueKit

@[expose] public section

set_option maxRecDepth 16384

noncomputable section

namespace Cert.Proof.StatsArr

open Idealize.ShloMosaic Idealize.ShloMosaic.TcCoe Idealize.SL.Sem
open Cert.StatsIdeal Cert.StatsIdeal.Gen Cert.StatsIdeal.StatsBlock Cert.StatsIdeal.StatsVal
open Cert.Proof.StatsOut Cert.Proof.StatsMath

variable (m : (ℓ : Loc nD τ sig) → Buf (Elt Ideal) ℓ)

/-- The index maps of the windows, and the one grid coordinate. -/
theorem idx : ∀ t : Fin cfg0.N, win0_0.index t = ![0, 0] ∧ win0_1.index t = ![0, 0]
    ∧ win0_2.index t = ![0, 0] ∧ win0_3.index t = ![0, 0] ∧ win0_4.index t = ![0, 0]
    ∧ win0_5.index t = ![t.val, 0] ∧ win0_6.index t = ![t.val, 0, 0] ∧ win0_7.index t = ![0, t.val]
    ∧ win0_8.index t = ![0, 0] ∧ win0_9.index t = ![0, 0] ∧ win0_10.index t = ![0, 0] ∧ win0_11.index t = ![0, 0]
    ∧ win0_12.index t = ![0, 0] ∧ win0_13.index t = ![0, 0] ∧ win0_14.index t = ![0, 0]
    ∧ (grid0.coords t 0).val = t.val := by
  decide +kernel

theorem coord (t : Fin cfg0.N) : (grid0.coords t 0).val = t.val := (idx t).2.2.2.2.2.2.2.2.2.2.2.2.2.2.2

/-- The columns' factors as the call takes them: reshaped. -/
theorem V_v0 (c : Dev nD) : V m c main_v0 = shapeCast S167x1x768 (m ((c : Thread nD τ).loc main_arg6)) shapeCasts_S128256_S167x1x768 := by
  rfl

/-! The blocks of the inputs that are not split are the arrays. -/

theorem blk0 (c : Dev nD) (t : Fin cfg0.N) : iblk m c 0 t = V m c main_arg0 := by
  funext y; blk_ext [iblk, idx t]
theorem blk1 (c : Dev nD) (t : Fin cfg0.N) : iblk m c 1 t = V m c main_arg1 := by
  funext y; blk_ext [iblk, idx t]
theorem blk2 (c : Dev nD) (t : Fin cfg0.N) : iblk m c 2 t = V m c main_arg2 := by
  funext y; blk_ext [iblk, idx t]
theorem blk3 (c : Dev nD) (t : Fin cfg0.N) : iblk m c 3 t = V m c main_arg3 := by
  funext y; blk_ext [iblk, idx t]
theorem blk4 (c : Dev nD) (t : Fin cfg0.N) : iblk m c 4 t = V m c main_arg4 := by
  funext y; blk_ext [iblk, idx t]

/-- A point's rows of the weights. -/
theorem blk5 (c : Dev nD) (t : Fin cfg0.N) (k : Fin 768) (q : Fin 3072) (hk : t.val * 768 + k.val < 128256) :
    iblk m c 5 t (ix2 k q) = (m ((c : Thread nD τ).loc main_arg5)) (ix2 ⟨t.val * 768 + k.val, hk⟩ q) := by
  blk_point [iblk, V, idx t]

/-- A point's factors of the columns. -/
theorem blk6 (c : Dev nD) (t : Fin cfg0.N) (k : Fin 768) (hk : t.val * 768 + k.val < 128256) :
    iblk m c 6 t (ix3 0 0 k) = (m ((c : Thread nD τ).loc main_arg6)) (ix1 ⟨t.val * 768 + k.val, hk⟩) := by
  blk_point [iblk, V_v0, idx t]

/-- A point's column is in the array. -/
theorem col_lt (t : Fin cfg0.N) (k : Fin 768) : t.val * 768 + k.val < 128256 := by
  have h : t.val < 167 := t.isLt
  omega

/-- A scaled logit of a point, from the whole arrays. -/
theorem logit_at (c : Dev nD) (t : Fin cfg0.N) (x : Vec Ideal S2048x3072 .fp8e4m3) (sx : Vec Ideal S2048x128 .f32) (r : Fin 2048) (l : Fin 128) (k : Fin 768) (g : ℕ)
    (hg : g * 128 + l.val = t.val * 768 + k.val) :
    logit (iblk m c 5 t) (iblk m c 6 t) x sx r l k = G x (m ((c : Thread nD τ).loc main_arg5)) sx (m ((c : Thread nD τ).loc main_arg6)) r l g := by
  have hk := col_lt t k
  unfold logit G
  rw [dif_pos (hg ▸ hk), blk6 m c t k hk]
  simp only [hg, blk5 m c t k _ hk]

/-- The same in group `j` of the point. -/
theorem logit_col (c : Dev nD) (t : Fin cfg0.N) (x : Vec Ideal S2048x3072 .fp8e4m3) (sx : Vec Ideal S2048x128 .f32) (r : Fin 2048) (l : Fin 128) (j : Fin 6) :
    logit (iblk m c 5 t) (iblk m c 6 t) x sx r l (col j l) = G x (m ((c : Thread nD τ).loc main_arg5)) sx (m ((c : Thread nD τ).loc main_arg6)) r l (6 * t.val + j.val) :=
  logit_at m c t x sx r l (col j l) _ (by show (6 * t.val + j.val) * 128 + l.val = t.val * 768 + (128 * j.val + l.val); omega)

/-! The fills the first point starts from. -/
theorem fill2 (y : S2048x128.Idx) : k0_pay2 (F := Ideal) y = ⊥ := by
  unfold k0_pay2
  pointwise
  exact ofBits_bot
theorem fill3 (y : S2048x128.Idx) : k0_pay3 (F := Ideal) y = ⊥ := by
  unfold k0_pay3
  pointwise
  exact ofBits_bot
theorem fill4 (y : S2048x128.Idx) : k0_pay4 (F := Ideal) y = 0 := by
  unfold k0_pay4
  pointwise
theorem fill5 (y : S2048x128.Idx) : k0_pay5 (F := Ideal) y = 0 := by
  unfold k0_pay5
  pointwise
theorem fill6 (y : S2048x128.Idx) : k0_pay6 (F := Ideal) y = 0 := by
  unfold k0_pay6
  pointwise
theorem fill7 (y : S2048x128.Idx) : k0_pay7 (F := Ideal) y = 0 := by
  unfold k0_pay7
  pointwise
theorem fill8 (y : S2048x128.Idx) : k0_pay8 (F := Ideal) y = 0 := by
  unfold k0_pay8
  pointwise

/-- What the seven running windows hold after `n` groups, at one row and lane. -/
def Running (c : Dev nD) (y : S2048x128.Idx) (n : ℕ) (v8 v9 v10 v11 v12 v13 v14 : Vec Ideal S2048x128 .f32) : Prop :=
  v8 y = runMax (G (m ((c : Thread nD τ).loc main_arg0)) (m ((c : Thread nD τ).loc main_arg5)) (m ((c : Thread nD τ).loc main_arg2)) (m ((c : Thread nD τ).loc main_arg6)) (y 0) (y 1)) n ∧ v9 y = runDen (G (m ((c : Thread nD τ).loc main_arg0)) (m ((c : Thread nD τ).loc main_arg5)) (m ((c : Thread nD τ).loc main_arg2)) (m ((c : Thread nD τ).loc main_arg6)) (y 0) (y 1)) n ∧ v10 y = runNum (G (m ((c : Thread nD τ).loc main_arg0)) (m ((c : Thread nD τ).loc main_arg5)) (m ((c : Thread nD τ).loc main_arg2)) (m ((c : Thread nD τ).loc main_arg6)) (y 0) (y 1)) n ∧ v11 y = runHit (H (m ((c : Thread nD τ).loc main_arg4)) (m ((c : Thread nD τ).loc main_arg0)) (m ((c : Thread nD τ).loc main_arg5)) (m ((c : Thread nD τ).loc main_arg2)) (m ((c : Thread nD τ).loc main_arg6)) (y 0) (y 1)) n
    ∧ v12 y = runMax (G (m ((c : Thread nD τ).loc main_arg1)) (m ((c : Thread nD τ).loc main_arg5)) (m ((c : Thread nD τ).loc main_arg3)) (m ((c : Thread nD τ).loc main_arg6)) (y 0) (y 1)) n ∧ v13 y = runDen (G (m ((c : Thread nD τ).loc main_arg1)) (m ((c : Thread nD τ).loc main_arg5)) (m ((c : Thread nD τ).loc main_arg3)) (m ((c : Thread nD τ).loc main_arg6)) (y 0) (y 1)) n ∧ v14 y = runHit (H (m ((c : Thread nD τ).loc main_arg4)) (m ((c : Thread nD τ).loc main_arg1)) (m ((c : Thread nD τ).loc main_arg5)) (m ((c : Thread nD τ).loc main_arg3)) (m ((c : Thread nD τ).loc main_arg6)) (y 0) (y 1)) n

/-- One point takes them six groups further. -/
theorem running_step (c : Dev nD) (t : Fin cfg0.N) (y : S2048x128.Idx) (v8 v9 v10 v11 v12 v13 v14 : Vec Ideal S2048x128 .f32)
    (h : Running m c y (6 * t.val) v8 v9 v10 v11 v12 v13 v14) :
    Running m c y (6 * t.val + 6) (maxBlk (iblk m c 5 t) (iblk m c 6 t) (iblk m c 0 t) (iblk m c 2 t) v8) (denBlk (iblk m c 5 t) (iblk m c 6 t) (iblk m c 0 t) (iblk m c 2 t) v8 v9) (numBlk (iblk m c 5 t) (iblk m c 6 t) (iblk m c 0 t) (iblk m c 2 t) v8 v10) (hitBlk (BitVec.ofNat 32 (grid0.coords t 0).val) (iblk m c 5 t) (iblk m c 6 t) (iblk m c 0 t) (iblk m c 2 t) (iblk m c 4 t) v11)
      (maxBlk (iblk m c 5 t) (iblk m c 6 t) (iblk m c 1 t) (iblk m c 3 t) v12) (denBlk (iblk m c 5 t) (iblk m c 6 t) (iblk m c 1 t) (iblk m c 3 t) v12 v13) (hitBlk (BitVec.ofNat 32 (grid0.coords t 0).val) (iblk m c 5 t) (iblk m c 6 t) (iblk m c 1 t) (iblk m c 3 t) (iblk m c 4 t) v14) := by
  obtain ⟨h8, h9, h10, h11, h12, h13, h14⟩ := h
  have hp := logit_col m c t (m ((c : Thread nD τ).loc main_arg0)) (m ((c : Thread nD τ).loc main_arg2)) (y 0) (y 1)
  have hr := logit_col m c t (m ((c : Thread nD τ).loc main_arg1)) (m ((c : Thread nD τ).loc main_arg3)) (y 0) (y 1)
  have e0 : iblk m c 0 t = (m ((c : Thread nD τ).loc main_arg0)) := (blk0 m c t).trans (V_main_arg0 m c)
  have e1 : iblk m c 1 t = (m ((c : Thread nD τ).loc main_arg1)) := (blk1 m c t).trans (V_main_arg1 m c)
  have e2 : iblk m c 2 t = (m ((c : Thread nD τ).loc main_arg2)) := (blk2 m c t).trans (V_main_arg2 m c)
  have e3 : iblk m c 3 t = (m ((c : Thread nD τ).loc main_arg3)) := (blk3 m c t).trans (V_main_arg3 m c)
  have e4 : iblk m c 4 t = (m ((c : Thread nD τ).loc main_arg4)) := (blk4 m c t).trans (V_main_arg4 m c)
  rw [coord, e0, e1, e2, e3, e4]
  refine ⟨maxBlk_run _ _ _ _ _ _ _ y hp h8, denBlk_run _ _ _ _ _ _ _ _ y hp h8 h9, numBlk_run _ _ _ _ _ _ _ _ y hp h8 h10, ?_,
    maxBlk_run _ _ _ _ _ _ _ y hr h12, denBlk_run _ _ _ _ _ _ _ _ y hr h12 h13, ?_⟩
  · have e := congrArg (fun f => runHit f (6 * t.val)) (H_eq (m ((c : Thread nD τ).loc main_arg4)) (m ((c : Thread nD τ).loc main_arg0)) (m ((c : Thread nD τ).loc main_arg5)) (m ((c : Thread nD τ).loc main_arg2)) (m ((c : Thread nD τ).loc main_arg6)) y)
    exact (hitBlk_run _ _ _ _ _ _ _ _ y hp (h11.trans e)).trans (congrArg (fun f => runHit f (6 * t.val + 6)) (H_eq (m ((c : Thread nD τ).loc main_arg4)) (m ((c : Thread nD τ).loc main_arg0)) (m ((c : Thread nD τ).loc main_arg5)) (m ((c : Thread nD τ).loc main_arg2)) (m ((c : Thread nD τ).loc main_arg6)) y)).symm
  · have e := congrArg (fun f => runHit f (6 * t.val)) (H_eq (m ((c : Thread nD τ).loc main_arg4)) (m ((c : Thread nD τ).loc main_arg1)) (m ((c : Thread nD τ).loc main_arg5)) (m ((c : Thread nD τ).loc main_arg3)) (m ((c : Thread nD τ).loc main_arg6)) y)
    exact (hitBlk_run _ _ _ _ _ _ _ _ y hr (h14.trans e)).trans (congrArg (fun f => runHit f (6 * t.val + 6)) (H_eq (m ((c : Thread nD τ).loc main_arg4)) (m ((c : Thread nD τ).loc main_arg1)) (m ((c : Thread nD τ).loc main_arg5)) (m ((c : Thread nD τ).loc main_arg3)) (m ((c : Thread nD τ).loc main_arg6)) y)).symm

/-- The same of equal windows. -/
theorem running_congr (c : Dev nD) (y : S2048x128.Idx) (n : ℕ) {v8 v9 v10 v11 v12 v13 v14 w8 w9 w10 w11 w12 w13 w14 : Vec Ideal S2048x128 .f32}
    (e8 : v8 = w8) (e9 : v9 = w9) (e10 : v10 = w10) (e11 : v11 = w11) (e12 : v12 = w12) (e13 : v13 = w13) (e14 : v14 = w14)
    (h : Running m c y n w8 w9 w10 w11 w12 w13 w14) : Running m c y n v8 v9 v10 v11 v12 v13 v14 := by
  subst e8 e9 e10 e11 e12 e13 e14
  exact h

/-- At every point the windows hold the numbers of all groups up to that point's. -/
theorem running (c : Dev nD) (y : S2048x128.Idx) : ∀ (n : ℕ) (hn : n < cfg0.N), Running m c y (6 * n + 6) (outsAt0 m c n hn).2.1 (outsAt0 m c n hn).2.2.1 (outsAt0 m c n hn).2.2.2.1 (outsAt0 m c n hn).2.2.2.2.1 (outsAt0 m c n hn).2.2.2.2.2.1 (outsAt0 m c n hn).2.2.2.2.2.2.1 (outsAt0 m c n hn).2.2.2.2.2.2.2 := by
  intro n
  induction n with
  | zero =>
    intro hn
    have h0 : (⟨0, hn⟩ : Fin cfg0.N).val % 167 = 0 := rfl
    have e := running_step m c ⟨0, hn⟩ y (k0_pay2 (F := Ideal)) (k0_pay4 (F := Ideal)) (k0_pay5 (F := Ideal)) (k0_pay6 (F := Ideal)) (k0_pay3 (F := Ideal)) (k0_pay7 (F := Ideal)) (k0_pay8 (F := Ideal))
      ⟨(fill2 y).trans rfl, (fill4 y).trans rfl, (fill5 y).trans rfl, (fill6 y).trans rfl, (fill3 y).trans rfl, (fill7 y).trans rfl, (fill8 y).trans rfl⟩
    exact running_congr m c y _ (out8_A m c ⟨0, hn⟩ h0) (out9_A m c ⟨0, hn⟩ h0) (out10_A m c ⟨0, hn⟩ h0) (out11_A m c ⟨0, hn⟩ h0) (out12_A m c ⟨0, hn⟩ h0) (out13_A m c ⟨0, hn⟩ h0) (out14_A m c ⟨0, hn⟩ h0) e
  | succ n ih =>
    intro hn
    have hN : n + 1 < 167 := hn
    have h0 : ¬(⟨n + 1, hn⟩ : Fin cfg0.N).val % 167 = 0 := by
      show ¬(n + 1) % 167 = 0
      omega
    have e := running_step m c ⟨n + 1, hn⟩ y _ _ _ _ _ _ _ (ih (Nat.lt_of_succ_lt hn))
    exact running_congr m c y _ (out8_B m c ⟨n + 1, hn⟩ h0) (out9_B m c ⟨n + 1, hn⟩ h0) (out10_B m c ⟨n + 1, hn⟩ h0) (out11_B m c ⟨n + 1, hn⟩ h0) (out12_B m c ⟨n + 1, hn⟩ h0) (out13_B m c ⟨n + 1, hn⟩ h0) (out14_B m c ⟨n + 1, hn⟩ h0) e

/-- After the last point they hold the numbers of all 1002 groups. -/
theorem running_last (c : Dev nD) (t : Fin cfg0.N) (ht : t.val = 166) (y : S2048x128.Idx) : Running m c y 1002 (outsAt0 m c t.val t.isLt).2.1 (outsAt0 m c t.val t.isLt).2.2.1 (outsAt0 m c t.val t.isLt).2.2.2.1 (outsAt0 m c t.val t.isLt).2.2.2.2.1 (outsAt0 m c t.val t.isLt).2.2.2.2.2.1 (outsAt0 m c t.val t.isLt).2.2.2.2.2.2.1 (outsAt0 m c t.val t.isLt).2.2.2.2.2.2.2 := by
  have e := running m c y t.val t.isLt
  have e2 : 6 * t.val + 6 = 1002 := by omega
  rw [e2] at e
  exact e

/-! The eight arrays after the whole run. -/

/-- The logits of a point are the array's at the point's columns. -/
theorem out_logits (c : Dev nD) (t : Fin cfg0.N) (r : Fin 2048) (k : Fin 768) :
    (outsAt0 m c t.val t.isLt).1 (ix2 r k) = logitArr (m ((c : Thread nD τ).loc main_arg0)) (m ((c : Thread nD τ).loc main_arg5)) (m ((c : Thread nD τ).loc main_arg2)) (m ((c : Thread nD τ).loc main_arg6)) (ix2 r ⟨t.val * 768 + k.val, col_lt t k⟩) := by
  have e : (outsAt0 m c t.val t.isLt).1 = logits (iblk m c 5 t) (iblk m c 6 t) (iblk m c 0 t) (iblk m c 2 t) := by
    by_cases h0 : t.val % 167 = 0
    · exact out7_A m c t h0
    · exact out7_B m c t h0
  have e0 : iblk m c 0 t = (m ((c : Thread nD τ).loc main_arg0)) := (blk0 m c t).trans (V_main_arg0 m c)
  have e2 : iblk m c 2 t = (m ((c : Thread nD τ).loc main_arg2)) := (blk2 m c t).trans (V_main_arg2 m c)
  rw [e, e0, e2]
  have el : (⟨k.val % 128, Nat.mod_lt _ (by decide)⟩ : Fin 128) = ⟨(t.val * 768 + k.val) % 128, Nat.mod_lt _ (by decide)⟩ :=
    Fin.ext (by show k.val % 128 = (t.val * 768 + k.val) % 128; omega)
  show logit _ _ _ _ r ⟨k.val % 128, Nat.mod_lt _ (by decide)⟩ k = G _ _ _ _ r ⟨(t.val * 768 + k.val) % 128, Nat.mod_lt _ (by decide)⟩ ((t.val * 768 + k.val) / 128)
  rw [el]
  exact logit_at m c t _ _ r _ k _ (by show (t.val * 768 + k.val) / 128 * 128 + (t.val * 768 + k.val) % 128 = t.val * 768 + k.val; omega)

/-- The scaled logits. -/
theorem tie7 (c : Dev nD) : (dats m 0 c).arrAt 7 cfg0.N = logitArr (m ((c : Thread nD τ).loc main_arg0)) (m ((c : Thread nD τ).loc main_arg5)) (m ((c : Thread nD τ).loc main_arg2)) (m ((c : Thread nD τ).loc main_arg6)) := by
  refine (dats m 0 c).arrAt_eq_of_covers 7 _ (by decide +kernel) fun t hf y => ?_
  blk_simp
  rw [after0_7]
  refine (at_ix2 _ y).trans ((out_logits m c t (y 0) (y 1)).trans ?_)
  generalize logitArr (m ((c : Thread nD τ).loc main_arg0)) (m ((c : Thread nD τ).loc main_arg5)) (m ((c : Thread nD τ).loc main_arg2)) (m ((c : Thread nD τ).loc main_arg6)) = X
  blk_ext [idx t]

/-- Only the last point writes a running window back. -/
theorem last : ∀ t : Fin cfg0.N, ((cfg0.win 8).flush t = true → t.val = 166) ∧ ((cfg0.win 9).flush t = true → t.val = 166)
    ∧ ((cfg0.win 10).flush t = true → t.val = 166) ∧ ((cfg0.win 11).flush t = true → t.val = 166) ∧ ((cfg0.win 12).flush t = true → t.val = 166)
    ∧ ((cfg0.win 13).flush t = true → t.val = 166) ∧ ((cfg0.win 14).flush t = true → t.val = 166) := by
  decide +kernel

/-- The maximum. -/
theorem tie8 (c : Dev nD) : (dats m 0 c).arrAt 8 cfg0.N = maxArr (m ((c : Thread nD τ).loc main_arg0)) (m ((c : Thread nD τ).loc main_arg5)) (m ((c : Thread nD τ).loc main_arg2)) (m ((c : Thread nD τ).loc main_arg6)) := by
  refine (dats m 0 c).arrAt_eq_of_covers 8 _ (by decide +kernel) fun t hf y => ?_
  have ht : t.val = 166 := (last t).1 hf
  blk_simp
  rw [after0_8]
  refine (at_ix2 _ y).trans (((running_last m c t ht (ix2 (y 0) (y 1))).1).trans ?_)
  show maxArr (m ((c : Thread nD τ).loc main_arg0)) (m ((c : Thread nD τ).loc main_arg5)) (m ((c : Thread nD τ).loc main_arg2)) (m ((c : Thread nD τ).loc main_arg6)) (ix2 (y 0) (y 1)) = _
  generalize maxArr (m ((c : Thread nD τ).loc main_arg0)) (m ((c : Thread nD τ).loc main_arg5)) (m ((c : Thread nD τ).loc main_arg2)) (m ((c : Thread nD τ).loc main_arg6)) = X
  blk_ext [idx t]

/-- The denominator. -/
theorem tie9 (c : Dev nD) : (dats m 0 c).arrAt 9 cfg0.N = denArr (m ((c : Thread nD τ).loc main_arg0)) (m ((c : Thread nD τ).loc main_arg5)) (m ((c : Thread nD τ).loc main_arg2)) (m ((c : Thread nD τ).loc main_arg6)) := by
  refine (dats m 0 c).arrAt_eq_of_covers 9 _ (by decide +kernel) fun t hf y => ?_
  have ht : t.val = 166 := (last t).2.1 hf
  blk_simp
  rw [after0_9]
  refine (at_ix2 _ y).trans (((running_last m c t ht (ix2 (y 0) (y 1))).2.1).trans ?_)
  show denArr (m ((c : Thread nD τ).loc main_arg0)) (m ((c : Thread nD τ).loc main_arg5)) (m ((c : Thread nD τ).loc main_arg2)) (m ((c : Thread nD τ).loc main_arg6)) (ix2 (y 0) (y 1)) = _
  generalize denArr (m ((c : Thread nD τ).loc main_arg0)) (m ((c : Thread nD τ).loc main_arg5)) (m ((c : Thread nD τ).loc main_arg2)) (m ((c : Thread nD τ).loc main_arg6)) = X
  blk_ext [idx t]

/-- The numerator. -/
theorem tie10 (c : Dev nD) : (dats m 0 c).arrAt 10 cfg0.N = numArr (m ((c : Thread nD τ).loc main_arg0)) (m ((c : Thread nD τ).loc main_arg5)) (m ((c : Thread nD τ).loc main_arg2)) (m ((c : Thread nD τ).loc main_arg6)) := by
  refine (dats m 0 c).arrAt_eq_of_covers 10 _ (by decide +kernel) fun t hf y => ?_
  have ht : t.val = 166 := (last t).2.2.1 hf
  blk_simp
  rw [after0_10]
  refine (at_ix2 _ y).trans (((running_last m c t ht (ix2 (y 0) (y 1))).2.2.1).trans ?_)
  show numArr (m ((c : Thread nD τ).loc main_arg0)) (m ((c : Thread nD τ).loc main_arg5)) (m ((c : Thread nD τ).loc main_arg2)) (m ((c : Thread nD τ).loc main_arg6)) (ix2 (y 0) (y 1)) = _
  generalize numArr (m ((c : Thread nD τ).loc main_arg0)) (m ((c : Thread nD τ).loc main_arg5)) (m ((c : Thread nD τ).loc main_arg2)) (m ((c : Thread nD τ).loc main_arg6)) = X
  blk_ext [idx t]

/-- The label's logit. -/
theorem tie11 (c : Dev nD) : (dats m 0 c).arrAt 11 cfg0.N = hitArr (m ((c : Thread nD τ).loc main_arg4)) (m ((c : Thread nD τ).loc main_arg0)) (m ((c : Thread nD τ).loc main_arg5)) (m ((c : Thread nD τ).loc main_arg2)) (m ((c : Thread nD τ).loc main_arg6)) := by
  refine (dats m 0 c).arrAt_eq_of_covers 11 _ (by decide +kernel) fun t hf y => ?_
  have ht : t.val = 166 := (last t).2.2.2.1 hf
  blk_simp
  rw [after0_11]
  refine (at_ix2 _ y).trans (((running_last m c t ht (ix2 (y 0) (y 1))).2.2.2.1).trans ?_)
  show hitArr (m ((c : Thread nD τ).loc main_arg4)) (m ((c : Thread nD τ).loc main_arg0)) (m ((c : Thread nD τ).loc main_arg5)) (m ((c : Thread nD τ).loc main_arg2)) (m ((c : Thread nD τ).loc main_arg6)) (ix2 (y 0) (y 1)) = _
  generalize hitArr (m ((c : Thread nD τ).loc main_arg4)) (m ((c : Thread nD τ).loc main_arg0)) (m ((c : Thread nD τ).loc main_arg5)) (m ((c : Thread nD τ).loc main_arg2)) (m ((c : Thread nD τ).loc main_arg6)) = X
  blk_ext [idx t]

/-- The reference model's maximum. -/
theorem tie12 (c : Dev nD) : (dats m 0 c).arrAt 12 cfg0.N = maxArr (m ((c : Thread nD τ).loc main_arg1)) (m ((c : Thread nD τ).loc main_arg5)) (m ((c : Thread nD τ).loc main_arg3)) (m ((c : Thread nD τ).loc main_arg6)) := by
  refine (dats m 0 c).arrAt_eq_of_covers 12 _ (by decide +kernel) fun t hf y => ?_
  have ht : t.val = 166 := (last t).2.2.2.2.1 hf
  blk_simp
  rw [after0_12]
  refine (at_ix2 _ y).trans (((running_last m c t ht (ix2 (y 0) (y 1))).2.2.2.2.1).trans ?_)
  show maxArr (m ((c : Thread nD τ).loc main_arg1)) (m ((c : Thread nD τ).loc main_arg5)) (m ((c : Thread nD τ).loc main_arg3)) (m ((c : Thread nD τ).loc main_arg6)) (ix2 (y 0) (y 1)) = _
  generalize maxArr (m ((c : Thread nD τ).loc main_arg1)) (m ((c : Thread nD τ).loc main_arg5)) (m ((c : Thread nD τ).loc main_arg3)) (m ((c : Thread nD τ).loc main_arg6)) = X
  blk_ext [idx t]

/-- The reference model's denominator. -/
theorem tie13 (c : Dev nD) : (dats m 0 c).arrAt 13 cfg0.N = denArr (m ((c : Thread nD τ).loc main_arg1)) (m ((c : Thread nD τ).loc main_arg5)) (m ((c : Thread nD τ).loc main_arg3)) (m ((c : Thread nD τ).loc main_arg6)) := by
  refine (dats m 0 c).arrAt_eq_of_covers 13 _ (by decide +kernel) fun t hf y => ?_
  have ht : t.val = 166 := (last t).2.2.2.2.2.1 hf
  blk_simp
  rw [after0_13]
  refine (at_ix2 _ y).trans (((running_last m c t ht (ix2 (y 0) (y 1))).2.2.2.2.2.1).trans ?_)
  show denArr (m ((c : Thread nD τ).loc main_arg1)) (m ((c : Thread nD τ).loc main_arg5)) (m ((c : Thread nD τ).loc main_arg3)) (m ((c : Thread nD τ).loc main_arg6)) (ix2 (y 0) (y 1)) = _
  generalize denArr (m ((c : Thread nD τ).loc main_arg1)) (m ((c : Thread nD τ).loc main_arg5)) (m ((c : Thread nD τ).loc main_arg3)) (m ((c : Thread nD τ).loc main_arg6)) = X
  blk_ext [idx t]

/-- The reference model's label's logit. -/
theorem tie14 (c : Dev nD) : (dats m 0 c).arrAt 14 cfg0.N = hitArr (m ((c : Thread nD τ).loc main_arg4)) (m ((c : Thread nD τ).loc main_arg1)) (m ((c : Thread nD τ).loc main_arg5)) (m ((c : Thread nD τ).loc main_arg3)) (m ((c : Thread nD τ).loc main_arg6)) := by
  refine (dats m 0 c).arrAt_eq_of_covers 14 _ (by decide +kernel) fun t hf y => ?_
  have ht : t.val = 166 := (last t).2.2.2.2.2.2 hf
  blk_simp
  rw [after0_14]
  refine (at_ix2 _ y).trans (((running_last m c t ht (ix2 (y 0) (y 1))).2.2.2.2.2.2).trans ?_)
  show hitArr (m ((c : Thread nD τ).loc main_arg4)) (m ((c : Thread nD τ).loc main_arg1)) (m ((c : Thread nD τ).loc main_arg5)) (m ((c : Thread nD τ).loc main_arg3)) (m ((c : Thread nD τ).loc main_arg6)) (ix2 (y 0) (y 1)) = _
  generalize hitArr (m ((c : Thread nD τ).loc main_arg4)) (m ((c : Thread nD τ).loc main_arg1)) (m ((c : Thread nD τ).loc main_arg5)) (m ((c : Thread nD τ).loc main_arg3)) (m ((c : Thread nD τ).loc main_arg6)) = X
  blk_ext [idx t]

end Cert.Proof.StatsArr

end
-- ==== Proof.StatsRef.lean ====
module

public import proofs.«01_k».proof.Defs
public import proofs.«01_k».proof.Proof.Gen.StatsRefIdeal.Value
public import proofs.«01_k».proof.Proof.StatsVal
public import Idealize.ShloMosaic.Lib.Pipeline.ValueKit

@[expose] public section

set_option maxRecDepth 16384

noncomputable section

namespace Cert.Proof.StatsRef

open Idealize.ShloMosaic Idealize.ShloMosaic.TcCoe Idealize.SL.Sem
open Cert.StatsRefIdeal Cert.StatsRefIdeal.Gen
open Cert.StatsIdeal.StatsVal Cert.StatsIdeal.StatsBlock Cert.Proof.StatsMath

/-- The columns' factors, seen as 1002 groups of 128. -/
abbrev cast3 (s : Vec Ideal S128256 .f32) : Vec Ideal S1x1002x128 .f32 := shapeCast S1x1002x128 s shapeCasts_S128256_S1x1002x128

/-- A group and a lane are a column. -/
theorem col_lt (g : Fin 1002) (l : Fin 128) : g.val * 128 + l.val < 128256 := by omega

/-- One scaled logit of the reference. -/
theorem logit3 (x : Vec Ideal S2048x3072 .fp8e4m3) (w : Vec Ideal S128256x3072 .fp8e4m3) (sx : Vec Ideal S2048x128 .f32) (s : Vec Ideal S128256 .f32)
    (r : Fin 2048) (g : Fin 1002) (l : Fin 128) :
    k0_pay2 (F := Ideal) x w sx (cast3 s) (ix3 r g l) = G x w sx s r l g.val := by
  unfold k0_pay2 cast3 G
  rw [dif_pos (col_lt g l)]
  pointwise
  exact mul_assoc _ _ _

/-- The maximum of a lane. -/
theorem max3 (x : Vec Ideal S2048x3072 .fp8e4m3) (w : Vec Ideal S128256x3072 .fp8e4m3) (sx : Vec Ideal S2048x128 .f32) (s : Vec Ideal S128256 .f32)
    (r : Fin 2048) (l : Fin 128) :
    k0_pay3 (F := Ideal) x w sx (cast3 s) (ix2 r l) = runMax (G x w sx s r l) 1002 := by
  unfold k0_pay3
  pointwise
  rw [ofBits_bot]
  exact (congrArg (fun f => Finset.fold max ⊥ f Finset.univ) (funext fun a => logit3 x w sx s r a l)).trans (fold_max 1002 (G x w sx s r l))

/-- One power of two. -/
theorem exp3 (x : Vec Ideal S2048x3072 .fp8e4m3) (w : Vec Ideal S128256x3072 .fp8e4m3) (sx : Vec Ideal S2048x128 .f32) (s : Vec Ideal S128256 .f32)
    (r : Fin 2048) (g : Fin 1002) (l : Fin 128) :
    k0_pay4 (F := Ideal) x w sx (cast3 s) (ix3 r g l) = Ideal.exp2 (G x w sx s r l g.val - runMax (G x w sx s r l) 1002) := by
  unfold k0_pay4
  pointwise
  rw [logit3, max3]
  rfl

/-- The denominator of a lane. -/
theorem den3 (x : Vec Ideal S2048x3072 .fp8e4m3) (w : Vec Ideal S128256x3072 .fp8e4m3) (sx : Vec Ideal S2048x128 .f32) (s : Vec Ideal S128256 .f32)
    (r : Fin 2048) (l : Fin 128) :
    k0_pay6 (F := Ideal) x w sx (cast3 s) (ix2 r l) = runDen (G x w sx s r l) 1002 := by
  unfold k0_pay6
  pointwise
  exact (Finset.sum_congr rfl fun a _ => exp3 x w sx s r a l).trans
    (Fin.sum_univ_eq_sum_range (fun g => Ideal.exp2 (G x w sx s r l g - runMax (G x w sx s r l) 1002)) 1002)

/-- The numerator of a lane. -/
theorem num3 (x : Vec Ideal S2048x3072 .fp8e4m3) (w : Vec Ideal S128256x3072 .fp8e4m3) (sx : Vec Ideal S2048x128 .f32) (s : Vec Ideal S128256 .f32)
    (r : Fin 2048) (l : Fin 128) :
    k0_pay7 (F := Ideal) x w sx (cast3 s) (ix2 r l) = runNum (G x w sx s r l) 1002 := by
  unfold k0_pay7
  pointwise
  refine (Finset.sum_congr rfl fun a _ => congrArg₂ (· * ·) (exp3 x w sx s r a l) (logit3 x w sx s r a l)).trans
    (Fin.sum_univ_eq_sum_range (fun g => Ideal.exp2 (G x w sx s r l g - runMax (G x w sx s r l) 1002) * G x w sx s r l g) 1002)

/-- The test of one column against the label, as the reference writes it. -/
theorem hit_eq (g l : ℕ) (lab : BitVec 32) (v : EReal) :
    Scalar.select (IntOp.cmpi .eq (IntOp.addi (IntOp.muli (BitVec.ofNat 32 g) 128#32) (BitVec.ofNat 32 l)) lab) v 0
      = hitAt lab (BitVec.ofNat 32 (g * 128 + l)) v := by
  have e : IntOp.addi (IntOp.muli (BitVec.ofNat 32 g) 128#32) (BitVec.ofNat 32 l) = BitVec.ofNat 32 (g * 128 + l) :=
    (congrArg (IntOp.addi · _) (BitVec.ofNat_mul _ 128).symm).trans (BitVec.ofNat_add _ _).symm
  rw [e]
  show Scalar.select (BitVec.ofBool (_ == lab)) v 0 = Scalar.select (BitVec.ofBool (lab == _)) v 0
  rw [BEq.comm]

/-- The label's logit. -/
theorem hit3 (lab : Vec Ideal S2048x128 .i32) (x : Vec Ideal S2048x3072 .fp8e4m3) (w : Vec Ideal S128256x3072 .fp8e4m3) (sx : Vec Ideal S2048x128 .f32) (s : Vec Ideal S128256 .f32)
    (r : Fin 2048) (l : Fin 128) :
    k0_pay9 (F := Ideal) (k0_pay2 (F := Ideal) x w sx (cast3 s)) lab k0_pay8 (ix2 r l) = runHit (H lab x w sx s r l) 1002 := by
  unfold k0_pay9 k0_pay8
  pointwise
  exact (Finset.sum_congr rfl fun a _ => (congrArg (Scalar.select _ · 0) (logit3 x w sx s r a l)).trans (hit_eq _ _ _ _)).trans
    (Fin.sum_univ_eq_sum_range (H lab x w sx s r l) 1002)

/-- The logits, in one row again. -/
theorem row3 (x : Vec Ideal S2048x3072 .fp8e4m3) (w : Vec Ideal S128256x3072 .fp8e4m3) (sx : Vec Ideal S2048x128 .f32) (s : Vec Ideal S128256 .f32)
    (r : Fin 2048) (k : Fin 128256) :
    k0_pay5 (F := Ideal) x w sx (cast3 s) (ix2 r k) = logitArr x w sx s (ix2 r k) := by
  unfold k0_pay5
  pointwise
  rw [logit3]
  rfl

/-! The same for the reference model, whose payloads repeat the policy's. -/

theorem pay10 (x : Vec Ideal S2048x3072 .fp8e4m3) (w : Vec Ideal S128256x3072 .fp8e4m3) (sx : Vec Ideal S2048x128 .f32) (s : Vec Ideal S1x1002x128 .f32) :
    k0_pay10 (F := Ideal) x w sx s = k0_pay2 (F := Ideal) x w sx s := rfl

theorem max3r (x : Vec Ideal S2048x3072 .fp8e4m3) (w : Vec Ideal S128256x3072 .fp8e4m3) (sx : Vec Ideal S2048x128 .f32) (s : Vec Ideal S128256 .f32) (r : Fin 2048) (l : Fin 128) :
    k0_pay11 (F := Ideal) x w sx (cast3 s) (ix2 r l) = runMax (G x w sx s r l) 1002 := by
  unfold k0_pay11
  rw [pay10]
  exact max3 x w sx s r l

theorem den3r (x : Vec Ideal S2048x3072 .fp8e4m3) (w : Vec Ideal S128256x3072 .fp8e4m3) (sx : Vec Ideal S2048x128 .f32) (s : Vec Ideal S128256 .f32) (r : Fin 2048) (l : Fin 128) :
    k0_pay12 (F := Ideal) x w sx (cast3 s) (ix2 r l) = runDen (G x w sx s r l) 1002 := by
  unfold k0_pay12 k0_pay11
  rw [pay10]
  exact den3 x w sx s r l

theorem hit3r (lab : Vec Ideal S2048x128 .i32) (x : Vec Ideal S2048x3072 .fp8e4m3) (w : Vec Ideal S128256x3072 .fp8e4m3) (sx : Vec Ideal S2048x128 .f32) (s : Vec Ideal S128256 .f32) (r : Fin 2048) (l : Fin 128) :
    k0_pay1 (F := Ideal) (k0_pay10 (F := Ideal) x w sx (cast3 s)) lab (iota .tc S2048x1002x128 32 [1] iota_S2048x1002x128_d1_w32) 128#32 (ix2 r l)
      = runHit (H lab x w sx s r l) 1002 := by
  rw [pay10]
  exact hit3 lab x w sx s r l

variable (m : (ℓ : Loc nD τ sig) → Buf (Elt Ideal) ℓ)

/-- The one grid point's blocks are the whole arrays. -/
theorem idx : ∀ t : Fin cfg0.N, win0_0.index t = ![0, 0] ∧ win0_1.index t = ![0, 0]
    ∧ win0_2.index t = ![0, 0] ∧ win0_3.index t = ![0, 0] ∧ win0_4.index t = ![0, 0]
    ∧ win0_5.index t = ![0, 0] ∧ win0_6.index t = ![0, 0, 0] ∧ win0_7.index t = ![0, 0]
    ∧ win0_8.index t = ![0, 0] ∧ win0_9.index t = ![0, 0] ∧ win0_10.index t = ![0, 0] ∧ win0_11.index t = ![0, 0]
    ∧ win0_12.index t = ![0, 0] ∧ win0_13.index t = ![0, 0] ∧ win0_14.index t = ![0, 0] := by
  decide +kernel

/-- The columns' factors as the call takes them: reshaped. -/
theorem V_v0 (c : Dev nD) : V m c main_v0 = cast3 (m ((c : Thread nD τ).loc main_arg6)) := by
  rfl

/-! The block a window shows is the array behind it. -/

theorem blk0 (c : Dev nD) (t : Fin cfg0.N) : iblk m c 0 t = V m c main_arg0 := by
  funext y; blk_ext [iblk, idx t]
theorem blk1 (c : Dev nD) (t : Fin cfg0.N) : iblk m c 1 t = V m c main_arg1 := by
  funext y; blk_ext [iblk, idx t]
theorem blk2 (c : Dev nD) (t : Fin cfg0.N) : iblk m c 2 t = V m c main_arg2 := by
  funext y; blk_ext [iblk, idx t]
theorem blk3 (c : Dev nD) (t : Fin cfg0.N) : iblk m c 3 t = V m c main_arg3 := by
  funext y; blk_ext [iblk, idx t]
theorem blk4 (c : Dev nD) (t : Fin cfg0.N) : iblk m c 4 t = V m c main_arg4 := by
  funext y; blk_ext [iblk, idx t]
theorem blk5 (c : Dev nD) (t : Fin cfg0.N) : iblk m c 5 t = V m c main_arg5 := by
  funext y; blk_ext [iblk, idx t]
theorem blk6 (c : Dev nD) (t : Fin cfg0.N) : iblk m c 6 t = V m c main_v0 := by
  funext y; blk_ext [iblk, idx t]

/-- The scaled logits. -/
theorem final7 (c : Dev nD) : (dats m 0 c).arrAt 7 cfg0.N = logitArr (m ((c : Thread nD τ).loc main_arg0)) (m ((c : Thread nD τ).loc main_arg5)) (m ((c : Thread nD τ).loc main_arg2)) (m ((c : Thread nD τ).loc main_arg6)) := by
  have key : k0_pay5 (F := Ideal) (m ((c : Thread nD τ).loc main_arg0)) (m ((c : Thread nD τ).loc main_arg5)) (m ((c : Thread nD τ).loc main_arg2)) (cast3 (m ((c : Thread nD τ).loc main_arg6))) = logitArr (m ((c : Thread nD τ).loc main_arg0)) (m ((c : Thread nD τ).loc main_arg5)) (m ((c : Thread nD τ).loc main_arg2)) (m ((c : Thread nD τ).loc main_arg6)) := ext_ix2 _ _ fun a b => row3 _ _ _ _  a b
  rw [← key]
  refine (dats m 0 c).arrAt_eq_of_covers 7 _ (by decide +kernel) fun t hf y => ?_
  blk_simp
  rw [after0_7]
  frame_out
  rw [blk0, blk5, blk2, blk6, V_v0, V_main_arg0, V_main_arg5, V_main_arg2]
  generalize k0_pay5 (F := Ideal) (m ((c : Thread nD τ).loc main_arg0)) (m ((c : Thread nD τ).loc main_arg5)) (m ((c : Thread nD τ).loc main_arg2)) (cast3 (m ((c : Thread nD τ).loc main_arg6))) = X
  blk_ext [idx t]

/-- The maximum. -/
theorem final8 (c : Dev nD) : (dats m 0 c).arrAt 8 cfg0.N = maxArr (m ((c : Thread nD τ).loc main_arg0)) (m ((c : Thread nD τ).loc main_arg5)) (m ((c : Thread nD τ).loc main_arg2)) (m ((c : Thread nD τ).loc main_arg6)) := by
  have key : k0_pay3 (F := Ideal) (m ((c : Thread nD τ).loc main_arg0)) (m ((c : Thread nD τ).loc main_arg5)) (m ((c : Thread nD τ).loc main_arg2)) (cast3 (m ((c : Thread nD τ).loc main_arg6))) = maxArr (m ((c : Thread nD τ).loc main_arg0)) (m ((c : Thread nD τ).loc main_arg5)) (m ((c : Thread nD τ).loc main_arg2)) (m ((c : Thread nD τ).loc main_arg6)) := ext_ix2 _ _ fun a b => max3 _ _ _ _  a b
  rw [← key]
  refine (dats m 0 c).arrAt_eq_of_covers 8 _ (by decide +kernel) fun t hf y => ?_
  blk_simp
  rw [after0_8]
  frame_out
  rw [blk0, blk5, blk2, blk6, V_v0, V_main_arg0, V_main_arg5, V_main_arg2]
  generalize k0_pay3 (F := Ideal) (m ((c : Thread nD τ).loc main_arg0)) (m ((c : Thread nD τ).loc main_arg5)) (m ((c : Thread nD τ).loc main_arg2)) (cast3 (m ((c : Thread nD τ).loc main_arg6))) = X
  blk_ext [idx t]

/-- The denominator. -/
theorem final9 (c : Dev nD) : (dats m 0 c).arrAt 9 cfg0.N = denArr (m ((c : Thread nD τ).loc main_arg0)) (m ((c : Thread nD τ).loc main_arg5)) (m ((c : Thread nD τ).loc main_arg2)) (m ((c : Thread nD τ).loc main_arg6)) := by
  have key : k0_pay6 (F := Ideal) (m ((c : Thread nD τ).loc main_arg0)) (m ((c : Thread nD τ).loc main_arg5)) (m ((c : Thread nD τ).loc main_arg2)) (cast3 (m ((c : Thread nD τ).loc main_arg6))) = denArr (m ((c : Thread nD τ).loc main_arg0)) (m ((c : Thread nD τ).loc main_arg5)) (m ((c : Thread nD τ).loc main_arg2)) (m ((c : Thread nD τ).loc main_arg6)) := ext_ix2 _ _ fun a b => den3 _ _ _ _  a b
  rw [← key]
  refine (dats m 0 c).arrAt_eq_of_covers 9 _ (by decide +kernel) fun t hf y => ?_
  blk_simp
  rw [after0_9]
  frame_out
  rw [blk0, blk5, blk2, blk6, V_v0, V_main_arg0, V_main_arg5, V_main_arg2]
  generalize k0_pay6 (F := Ideal) (m ((c : Thread nD τ).loc main_arg0)) (m ((c : Thread nD τ).loc main_arg5)) (m ((c : Thread nD τ).loc main_arg2)) (cast3 (m ((c : Thread nD τ).loc main_arg6))) = X
  blk_ext [idx t]

/-- The numerator. -/
theorem final10 (c : Dev nD) : (dats m 0 c).arrAt 10 cfg0.N = numArr (m ((c : Thread nD τ).loc main_arg0)) (m ((c : Thread nD τ).loc main_arg5)) (m ((c : Thread nD τ).loc main_arg2)) (m ((c : Thread nD τ).loc main_arg6)) := by
  have key : k0_pay7 (F := Ideal) (m ((c : Thread nD τ).loc main_arg0)) (m ((c : Thread nD τ).loc main_arg5)) (m ((c : Thread nD τ).loc main_arg2)) (cast3 (m ((c : Thread nD τ).loc main_arg6))) = numArr (m ((c : Thread nD τ).loc main_arg0)) (m ((c : Thread nD τ).loc main_arg5)) (m ((c : Thread nD τ).loc main_arg2)) (m ((c : Thread nD τ).loc main_arg6)) := ext_ix2 _ _ fun a b => num3 _ _ _ _  a b
  rw [← key]
  refine (dats m 0 c).arrAt_eq_of_covers 10 _ (by decide +kernel) fun t hf y => ?_
  blk_simp
  rw [after0_10]
  frame_out
  rw [blk0, blk5, blk2, blk6, V_v0, V_main_arg0, V_main_arg5, V_main_arg2]
  generalize k0_pay7 (F := Ideal) (m ((c : Thread nD τ).loc main_arg0)) (m ((c : Thread nD τ).loc main_arg5)) (m ((c : Thread nD τ).loc main_arg2)) (cast3 (m ((c : Thread nD τ).loc main_arg6))) = X
  blk_ext [idx t]

/-- The label's logit. -/
theorem final11 (c : Dev nD) : (dats m 0 c).arrAt 11 cfg0.N = hitArr (m ((c : Thread nD τ).loc main_arg4)) (m ((c : Thread nD τ).loc main_arg0)) (m ((c : Thread nD τ).loc main_arg5)) (m ((c : Thread nD τ).loc main_arg2)) (m ((c : Thread nD τ).loc main_arg6)) := by
  have key : k0_pay9 (F := Ideal) (k0_pay2 (F := Ideal) (m ((c : Thread nD τ).loc main_arg0)) (m ((c : Thread nD τ).loc main_arg5)) (m ((c : Thread nD τ).loc main_arg2)) (cast3 (m ((c : Thread nD τ).loc main_arg6)))) (m ((c : Thread nD τ).loc main_arg4)) k0_pay8 = hitArr (m ((c : Thread nD τ).loc main_arg4)) (m ((c : Thread nD τ).loc main_arg0)) (m ((c : Thread nD τ).loc main_arg5)) (m ((c : Thread nD τ).loc main_arg2)) (m ((c : Thread nD τ).loc main_arg6)) := ext_ix2 _ _ fun a b => hit3 _ _ _ _ _  a b
  rw [← key]
  refine (dats m 0 c).arrAt_eq_of_covers 11 _ (by decide +kernel) fun t hf y => ?_
  blk_simp
  rw [after0_11]
  frame_out
  rw [blk0, blk5, blk2, blk6, blk4, V_v0, V_main_arg0, V_main_arg5, V_main_arg2, V_main_arg4]
  generalize k0_pay9 (F := Ideal) (k0_pay2 (F := Ideal) (m ((c : Thread nD τ).loc main_arg0)) (m ((c : Thread nD τ).loc main_arg5)) (m ((c : Thread nD τ).loc main_arg2)) (cast3 (m ((c : Thread nD τ).loc main_arg6)))) (m ((c : Thread nD τ).loc main_arg4)) k0_pay8 = X
  blk_ext [idx t]

/-- The reference model's maximum. -/
theorem final12 (c : Dev nD) : (dats m 0 c).arrAt 12 cfg0.N = maxArr (m ((c : Thread nD τ).loc main_arg1)) (m ((c : Thread nD τ).loc main_arg5)) (m ((c : Thread nD τ).loc main_arg3)) (m ((c : Thread nD τ).loc main_arg6)) := by
  have key : k0_pay11 (F := Ideal) (m ((c : Thread nD τ).loc main_arg1)) (m ((c : Thread nD τ).loc main_arg5)) (m ((c : Thread nD τ).loc main_arg3)) (cast3 (m ((c : Thread nD τ).loc main_arg6))) = maxArr (m ((c : Thread nD τ).loc main_arg1)) (m ((c : Thread nD τ).loc main_arg5)) (m ((c : Thread nD τ).loc main_arg3)) (m ((c : Thread nD τ).loc main_arg6)) := ext_ix2 _ _ fun a b => max3r _ _ _ _  a b
  rw [← key]
  refine (dats m 0 c).arrAt_eq_of_covers 12 _ (by decide +kernel) fun t hf y => ?_
  blk_simp
  rw [after0_12]
  frame_out
  rw [blk1, blk5, blk3, blk6, V_v0, V_main_arg1, V_main_arg5, V_main_arg3]
  generalize k0_pay11 (F := Ideal) (m ((c : Thread nD τ).loc main_arg1)) (m ((c : Thread nD τ).loc main_arg5)) (m ((c : Thread nD τ).loc main_arg3)) (cast3 (m ((c : Thread nD τ).loc main_arg6))) = X
  blk_ext [idx t]

/-- The reference model's denominator. -/
theorem final13 (c : Dev nD) : (dats m 0 c).arrAt 13 cfg0.N = denArr (m ((c : Thread nD τ).loc main_arg1)) (m ((c : Thread nD τ).loc main_arg5)) (m ((c : Thread nD τ).loc main_arg3)) (m ((c : Thread nD τ).loc main_arg6)) := by
  have key : k0_pay12 (F := Ideal) (m ((c : Thread nD τ).loc main_arg1)) (m ((c : Thread nD τ).loc main_arg5)) (m ((c : Thread nD τ).loc main_arg3)) (cast3 (m ((c : Thread nD τ).loc main_arg6))) = denArr (m ((c : Thread nD τ).loc main_arg1)) (m ((c : Thread nD τ).loc main_arg5)) (m ((c : Thread nD τ).loc main_arg3)) (m ((c : Thread nD τ).loc main_arg6)) := ext_ix2 _ _ fun a b => den3r _ _ _ _  a b
  rw [← key]
  refine (dats m 0 c).arrAt_eq_of_covers 13 _ (by decide +kernel) fun t hf y => ?_
  blk_simp
  rw [after0_13]
  frame_out
  rw [blk1, blk5, blk3, blk6, V_v0, V_main_arg1, V_main_arg5, V_main_arg3]
  generalize k0_pay12 (F := Ideal) (m ((c : Thread nD τ).loc main_arg1)) (m ((c : Thread nD τ).loc main_arg5)) (m ((c : Thread nD τ).loc main_arg3)) (cast3 (m ((c : Thread nD τ).loc main_arg6))) = X
  blk_ext [idx t]

/-- The reference model's label's logit. -/
theorem final14 (c : Dev nD) : (dats m 0 c).arrAt 14 cfg0.N = hitArr (m ((c : Thread nD τ).loc main_arg4)) (m ((c : Thread nD τ).loc main_arg1)) (m ((c : Thread nD τ).loc main_arg5)) (m ((c : Thread nD τ).loc main_arg3)) (m ((c : Thread nD τ).loc main_arg6)) := by
  have key : k0_pay1 (F := Ideal) (k0_pay10 (F := Ideal) (m ((c : Thread nD τ).loc main_arg1)) (m ((c : Thread nD τ).loc main_arg5)) (m ((c : Thread nD τ).loc main_arg3)) (cast3 (m ((c : Thread nD τ).loc main_arg6)))) (m ((c : Thread nD τ).loc main_arg4)) (iota .tc S2048x1002x128 32 [1] iota_S2048x1002x128_d1_w32) 128#32 = hitArr (m ((c : Thread nD τ).loc main_arg4)) (m ((c : Thread nD τ).loc main_arg1)) (m ((c : Thread nD τ).loc main_arg5)) (m ((c : Thread nD τ).loc main_arg3)) (m ((c : Thread nD τ).loc main_arg6)) := ext_ix2 _ _ fun a b => hit3r _ _ _ _ _  a b
  rw [← key]
  refine (dats m 0 c).arrAt_eq_of_covers 14 _ (by decide +kernel) fun t hf y => ?_
  blk_simp
  rw [after0_14]
  frame_out
  rw [blk1, blk5, blk3, blk6, blk4, V_v0, V_main_arg1, V_main_arg5, V_main_arg3, V_main_arg4]
  generalize k0_pay1 (F := Ideal) (k0_pay10 (F := Ideal) (m ((c : Thread nD τ).loc main_arg1)) (m ((c : Thread nD τ).loc main_arg5)) (m ((c : Thread nD τ).loc main_arg3)) (cast3 (m ((c : Thread nD τ).loc main_arg6)))) (m ((c : Thread nD τ).loc main_arg4)) (iota .tc S2048x1002x128 32 [1] iota_S2048x1002x128_d1_w32) 128#32 = X
  blk_ext [idx t]

end Cert.Proof.StatsRef

end
-- ==== Proof.Stats.lean ====
module

public import proofs.«01_k».proof.Defs
public import proofs.«01_k».proof.Proof.StatsArr
public import proofs.«01_k».proof.Proof.StatsRef
public import Idealize.ShloMosaic.Lib.Pipeline.ValueKit

@[expose] public section

set_option maxRecDepth 16384

noncomputable section

namespace Cert.Proof.Stats

open Idealize.ShloMosaic Idealize.ShloMosaic.TcCoe Idealize.SL.Sem
open Cert.StatsIdeal Cert.StatsIdeal.Gen
open Cert.Proof.StatsArr

/-- On equal arguments the call and its reference end with the same eight arrays, exactly: the scaled logits, and per row and lane
the maximum, the softmax denominator, the entropy numerator and the label's logit, of the policy and (but for the numerator) of the
reference model. -/
theorem algebraic : Cert.algebraic_StatsIdeal_StatsRefIdeal := by
  intro m ρ m' ρ' _ hagree
  refine ⟨fun c => (dats (F := Ideal) m 0 c).arrAt 7 cfg0.N,
    fun c => (dats (F := Ideal) m 0 c).arrAt 8 cfg0.N,
    fun c => (dats (F := Ideal) m 0 c).arrAt 9 cfg0.N,
    fun c => (dats (F := Ideal) m 0 c).arrAt 10 cfg0.N,
    fun c => (dats (F := Ideal) m 0 c).arrAt 11 cfg0.N,
    fun c => (dats (F := Ideal) m 0 c).arrAt 12 cfg0.N,
    fun c => (dats (F := Ideal) m 0 c).arrAt 13 cfg0.N,
    fun c => (dats (F := Ideal) m 0 c).arrAt 14 cfg0.N, Cert.StatsIdeal.Value.run_blocks (F := Ideal) m ρ, ?_⟩
  refine (θ_run Cert.StatsRefIdeal.defs _ _).mono (fun _ h c => ⟨(h c).1.trans ?_, (h c).2.1.trans ?_, (h c).2.2.1.trans ?_, (h c).2.2.2.1.trans ?_, (h c).2.2.2.2.1.trans ?_, (h c).2.2.2.2.2.1.trans ?_, (h c).2.2.2.2.2.2.1.trans ?_, (h c).2.2.2.2.2.2.2.1.trans ?_, (h c).2.2.2.2.2.2.2.2⟩)
    (Cert.StatsRefIdeal.Value.run_blocks (F := Ideal) m' ρ')
  all_goals obtain ⟨a0, a1, a2, a3, a4, a5, a6⟩ := hagree c
  · refine Eq.trans ?_ (tie7 m c).symm
    rw [StatsRef.final7, a0, a2, a5, a6]
  · refine Eq.trans ?_ (tie8 m c).symm
    rw [StatsRef.final8, a0, a2, a5, a6]
  · refine Eq.trans ?_ (tie9 m c).symm
    rw [StatsRef.final9, a0, a2, a5, a6]
  · refine Eq.trans ?_ (tie10 m c).symm
    rw [StatsRef.final10, a0, a2, a5, a6]
  · refine Eq.trans ?_ (tie11 m c).symm
    rw [StatsRef.final11, a0, a2, a4, a5, a6]
  · refine Eq.trans ?_ (tie12 m c).symm
    rw [StatsRef.final12, a1, a3, a5, a6]
  · refine Eq.trans ?_ (tie13 m c).symm
    rw [StatsRef.final13, a1, a3, a5, a6]
  · refine Eq.trans ?_ (tie14 m c).symm
    rw [StatsRef.final14, a1, a3, a4, a5, a6]

end Cert.Proof.Stats

end
-- ==== Proof.CoefFrame.lean ====
/- The run of the token coefficients' kernel, first part: the arrays at the region's entry, the named values the body
   computes from its input blocks, what each output holds, the body's triple and the proof data. Taken from the generated
   frame certificate of this program. -/
module

public import proofs.«01_k».proof.Proof.Gen.CoefIdeal.Launch
public import proofs.«01_k».proof.Proof.Gen.CoefIdeal.Skeleton
public import proofs.«01_k».proof.Proof.Gen.CoefIdeal.Points
public import Idealize.ShloMosaic.Lib.Pipeline.FrameBody
public import Idealize.ShloMosaic.Lib.Claim
public import Idealize.ShloMosaic.Lib.Ring
public import Idealize.ShloMosaic.Lib.Tactic
public import Idealize.ShloMosaic.Lib.UnfoldOut
public import Idealize.ShloMosaic.Lib.WordCmp

@[expose] public section

-- membership in a rectangle of production extents (`View.cover_of_tiled`): the elaborator's structural look
-- recurses once per coordinate of the long axes
set_option maxRecDepth 16384

noncomputable section

namespace Cert.CoefIdeal.CoefRun

open Cert.CoefIdeal Cert.CoefIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg14 (c : Dev nD) : V m c main_arg14 = m ((c : Thread nD τ).loc main_arg14) :=
  StableHlo.after_of_forall_not_mem (b := Proc.devRef .tc main_arg14) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
theorem before0_11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)
theorem before0_12_of {c : Dev nD} (dat : Dat τ (Elt F) Unit ℕ (UR sig nD τ) ℕ cfg0 c) (hA : dat.A 12 = V m c (Pipeline.arrRef spec0 12))
    (hafter : ∀ t, dat.after 12 t = iblk m c 12 t) (t : Fin cfg0.N) (d) : dat.before 12 t d = iblk m c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)
theorem before0_13_of {c : Dev nD} (dat : Dat τ (Elt F) Unit ℕ (UR sig nD τ) ℕ cfg0 c) (hA : dat.A 13 = V m c (Pipeline.arrRef spec0 13))
    (hafter : ∀ t, dat.after 13 t = iblk m c 13 t) (t : Fin cfg0.N) (d) : dat.before 13 t d = iblk m c 13 t :=
  (dat.before_in_eq_fetched 13 rfl (fun _ => rfl) (fun _ _ _ => rfl) (fun t => by rw [hafter]; unfold Dat.blockOf iblk; rw [hA]; try rfl) t d).trans
    (by unfold Dat.fetched Dat.blockOf iblk; rw [hA]; try rfl)
theorem before0_14_of {c : Dev nD} (dat : Dat τ (Elt F) Unit ℕ (UR sig nD τ) ℕ cfg0 c) (hA : dat.A 14 = V m c (Pipeline.arrRef spec0 14))
    (hafter : ∀ t, dat.after 14 t = iblk m c 14 t) (t : Fin cfg0.N) (d) : dat.before 14 t d = iblk m c 14 t :=
  (dat.before_in_eq_fetched 14 rfl (fun _ => rfl) (fun _ _ _ => rfl) (fun t => by rw [hafter]; unfold Dat.blockOf iblk; rw [hA]; try rfl) t d).trans
    (by unfold Dat.fetched Dat.blockOf iblk; rw [hA]; try rfl)
theorem before0_15_of {c : Dev nD} (dat : Dat τ (Elt F) Unit ℕ (UR sig nD τ) ℕ cfg0 c) (hA : dat.A 15 = V m c (Pipeline.arrRef spec0 15))
    (hafter : ∀ t, dat.after 15 t = iblk m c 15 t) (t : Fin cfg0.N) (d) : dat.before 15 t d = iblk m c 15 t :=
  (dat.before_in_eq_fetched 15 rfl (fun _ => rfl) (fun _ _ _ => rfl) (fun t => by rw [hafter]; unfold Dat.blockOf iblk; rw [hA]; try rfl) t d).trans
    (by unfold Dat.fetched Dat.blockOf iblk; rw [hA]; try rfl)
theorem before0_16_of {c : Dev nD} (dat : Dat τ (Elt F) Unit ℕ (UR sig nD τ) ℕ cfg0 c) (hA : dat.A 16 = V m c (Pipeline.arrRef spec0 16))
    (hafter : ∀ t, dat.after 16 t = iblk m c 16 t) (t : Fin cfg0.N) (d) : dat.before 16 t d = iblk m c 16 t :=
  (dat.before_in_eq_fetched 16 rfl (fun _ => rfl) (fun _ _ _ => rfl) (fun t => by rw [hafter]; unfold Dat.blockOf iblk; rw [hA]; try rfl) t d).trans
    (by unfold Dat.fetched Dat.blockOf iblk; rw [hA]; try rfl)
theorem before0_17_of {c : Dev nD} (dat : Dat τ (Elt F) Unit ℕ (UR sig nD τ) ℕ cfg0 c) (hA : dat.A 17 = V m c (Pipeline.arrRef spec0 17))
    (hafter : ∀ t, dat.after 17 t = iblk m c 17 t) (t : Fin cfg0.N) (d) : dat.before 17 t d = iblk m c 17 t :=
  (dat.before_in_eq_fetched 17 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

set_option maxHeartbeats 1800000 in
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).1 2).trans (((dats 0 c).arrAt_in 2 rfl _).trans ((hA c 2).trans (V_main_arg2 m c))),
      ((h c).1 3).trans (((dats 0 c).arrAt_in 3 rfl _).trans ((hA c 3).trans (V_main_arg3 m c))),
      ((h c).1 4).trans (((dats 0 c).arrAt_in 4 rfl _).trans ((hA c 4).trans (V_main_arg4 m c))),
      ((h c).1 5).trans (((dats 0 c).arrAt_in 5 rfl _).trans ((hA c 5).trans (V_main_arg5 m c))),
      ((h c).1 6).trans (((dats 0 c).arrAt_in 6 rfl _).trans ((hA c 6).trans (V_main_arg6 m c))),
      ((h c).1 7).trans (((dats 0 c).arrAt_in 7 rfl _).trans ((hA c 7).trans (V_main_arg7 m c))),
      ((h c).1 8).trans (((dats 0 c).arrAt_in 8 rfl _).trans ((hA c 8).trans (V_main_arg8 m c))),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c)⟩) h

/-! ## The body's accesses -/

abbrev r0_0 : Rect S2048x128 := Rect.unit (s := S2048x128) ![0, 0] S128x128.size inb_S2048x128_S128x128_0_0
abbrev r0_1 : Rect S2048x128 := Rect.unit (s := S2048x128) ![128, 0] S128x128.size inb_S2048x128_S128x128_128_0
abbrev r0_2 : Rect S2048x128 := Rect.unit (s := S2048x128) ![256, 0] S128x128.size inb_S2048x128_S128x128_256_0
abbrev r0_3 : Rect S2048x128 := Rect.unit (s := S2048x128) ![384, 0] S128x128.size inb_S2048x128_S128x128_384_0
abbrev r0_4 : Rect S2048x128 := Rect.unit (s := S2048x128) ![512, 0] S128x128.size inb_S2048x128_S128x128_512_0
abbrev r0_5 : Rect S2048x128 := Rect.unit (s := S2048x128) ![640, 0] S128x128.size inb_S2048x128_S128x128_640_0
abbrev r0_6 : Rect S2048x128 := Rect.unit (s := S2048x128) ![768, 0] S128x128.size inb_S2048x128_S128x128_768_0
abbrev r0_7 : Rect S2048x128 := Rect.unit (s := S2048x128) ![896, 0] S128x128.size inb_S2048x128_S128x128_896_0
abbrev r0_8 : Rect S2048x128 := Rect.unit (s := S2048x128) ![1024, 0] S128x128.size inb_S2048x128_S128x128_1024_0
abbrev r0_9 : Rect S2048x128 := Rect.unit (s := S2048x128) ![1152, 0] S128x128.size inb_S2048x128_S128x128_1152_0
abbrev r0_10 : Rect S2048x128 := Rect.unit (s := S2048x128) ![1280, 0] S128x128.size inb_S2048x128_S128x128_1280_0
abbrev r0_11 : Rect S2048x128 := Rect.unit (s := S2048x128) ![1408, 0] S128x128.size inb_S2048x128_S128x128_1408_0
abbrev r0_12 : Rect S2048x128 := Rect.unit (s := S2048x128) ![1536, 0] S128x128.size inb_S2048x128_S128x128_1536_0
abbrev r0_13 : Rect S2048x128 := Rect.unit (s := S2048x128) ![1664, 0] S128x128.size inb_S2048x128_S128x128_1664_0
abbrev r0_14 : Rect S2048x128 := Rect.unit (s := S2048x128) ![1792, 0] S128x128.size inb_S2048x128_S128x128_1792_0
abbrev r0_15 : Rect S2048x128 := Rect.unit (s := S2048x128) ![1920, 0] S128x128.size inb_S2048x128_S128x128_1920_0
abbrev r0_16 : Rect S16x128 := Rect.unit (s := S16x128) ![0, 0] S16x128.size inb_S16x128_S16x128_0_0
abbrev r0_17 : Rect S24x1 := Rect.unit (s := S24x1) ![0, 0] S24x1.size inb_S24x1_S24x1_0_0
abbrev r0_18 : Rect S1x24 := Rect.unit (s := S1x24) ![0, 0] S1x24.size inb_S1x24_S1x24_0_0
abbrev r0_19 : Rect S8x128 := Rect.unit (s := S8x128) ![0, 0] S8x128.size inb_S8x128_S8x128_0_0

/-! ## What the body leaves in each output window's buffer -/

/-! ### Values of the body that the stores' payloads, spelt out, would write more than once

    Each is a vector the body binds (often a part call's result), stated over the input windows' blocks and
    numbered on from the skeleton's payload functions (`k0_pay322` …, after `k0_pay321`), so that
    `out0_W` and the values after it name it instead of spelling it out (`unfold_out out0_W` opens a canon
    with them, `unfold_payloads` opens them with the payloads); the comment after each is the printed function's
    name for the value (a count appended where that name is bound again). -/

def k0_pay322 (x0 : Vec F S2048x128 .f32) (x1 : Vec F S2048x128 .f32) (x2 : Vec F S2048x128 .f32) (x3 : Vec F S2048x128 .f32) (x4 : Vec F S2048x128 .f32) (x5 : Vec F S2048x128 .f32) (x6 : Vec F S2048x128 .f32) (x7 : Vec F S2048x128 .f32) (x8 : Vec F S2048x128 .f32) (x9 : Vec F S16x128 .f32) (x10 : Vec F S16x128 .i32) (x11 : Vec F S16x128 .f32) (x12 : Vec F S1x24 .f32) (x13 : Vec F S24x1 .f32) (x14 : Vec F S1x24 .i32) (x15 : Vec F S24x1 .i32) (x16 : Vec F S24x1 .i32) (x17 : Vec F S24x1 .i32) : FVec F S128x128 .f32 :=
  k0_pay11 (View.ld x0 r0_2) -- `v37`
def k0_pay323 (x0 : Vec F S2048x128 .f32) (x1 : Vec F S2048x128 .f32) (x2 : Vec F S2048x128 .f32) (x3 : Vec F S2048x128 .f32) (x4 : Vec F S2048x128 .f32) (x5 : Vec F S2048x128 .f32) (x6 : Vec F S2048x128 .f32) (x7 : Vec F S2048x128 .f32) (x8 : Vec F S2048x128 .f32) (x9 : Vec F S16x128 .f32) (x10 : Vec F S16x128 .i32) (x11 : Vec F S16x128 .f32) (x12 : Vec F S1x24 .f32) (x13 : Vec F S24x1 .f32) (x14 : Vec F S1x24 .i32) (x15 : Vec F S24x1 .i32) (x16 : Vec F S24x1 .i32) (x17 : Vec F S24x1 .i32) : FVec F S128 .f32 :=
  k0_pay12 (View.ld x0 r0_2) -- `v38`
def k0_pay324 (x0 : Vec F S2048x128 .f32) (x1 : Vec F S2048x128 .f32) (x2 : Vec F S2048x128 .f32) (x3 : Vec F S2048x128 .f32) (x4 : Vec F S2048x128 .f32) (x5 : Vec F S2048x128 .f32) (x6 : Vec F S2048x128 .f32) (x7 : Vec F S2048x128 .f32) (x8 : Vec F S2048x128 .f32) (x9 : Vec F S16x128 .f32) (x10 : Vec F S16x128 .i32) (x11 : Vec F S16x128 .f32) (x12 : Vec F S1x24 .f32) (x13 : Vec F S24x1 .f32) (x14 : Vec F S1x24 .i32) (x15 : Vec F S24x1 .i32) (x16 : Vec F S24x1 .i32) (x17 : Vec F S24x1 .i32) : FVec F S128x128 .f32 :=
  k0_pay24 (View.ld x0 r0_4) -- `v79`
def k0_pay325 (x0 : Vec F S2048x128 .f32) (x1 : Vec F S2048x128 .f32) (x2 : Vec F S2048x128 .f32) (x3 : Vec F S2048x128 .f32) (x4 : Vec F S2048x128 .f32) (x5 : Vec F S2048x128 .f32) (x6 : Vec F S2048x128 .f32) (x7 : Vec F S2048x128 .f32) (x8 : Vec F S2048x128 .f32) (x9 : Vec F S16x128 .f32) (x10 : Vec F S16x128 .i32) (x11 : Vec F S16x128 .f32) (x12 : Vec F S1x24 .f32) (x13 : Vec F S24x1 .f32) (x14 : Vec F S1x24 .i32) (x15 : Vec F S24x1 .i32) (x16 : Vec F S24x1 .i32) (x17 : Vec F S24x1 .i32) : FVec F S128x128 .f32 :=
  k0_pay69 (View.ld x0 r0_13) -- `v235`
def k0_pay326 (x0 : Vec F S2048x128 .f32) (x1 : Vec F S2048x128 .f32) (x2 : Vec F S2048x128 .f32) (x3 : Vec F S2048x128 .f32) (x4 : Vec F S2048x128 .f32) (x5 : Vec F S2048x128 .f32) (x6 : Vec F S2048x128 .f32) (x7 : Vec F S2048x128 .f32) (x8 : Vec F S2048x128 .f32) (x9 : Vec F S16x128 .f32) (x10 : Vec F S16x128 .i32) (x11 : Vec F S16x128 .f32) (x12 : Vec F S1x24 .f32) (x13 : Vec F S24x1 .f32) (x14 : Vec F S1x24 .i32) (x15 : Vec F S24x1 .i32) (x16 : Vec F S24x1 .i32) (x17 : Vec F S24x1 .i32) : FVec F S128x128 .f32 :=
  k0_pay71 (View.ld x0 r0_13) -- `v239`
def k0_pay327 (x0 : Vec F S2048x128 .f32) (x1 : Vec F S2048x128 .f32) (x2 : Vec F S2048x128 .f32) (x3 : Vec F S2048x128 .f32) (x4 : Vec F S2048x128 .f32) (x5 : Vec F S2048x128 .f32) (x6 : Vec F S2048x128 .f32) (x7 : Vec F S2048x128 .f32) (x8 : Vec F S2048x128 .f32) (x9 : Vec F S16x128 .f32) (x10 : Vec F S16x128 .i32) (x11 : Vec F S16x128 .f32) (x12 : Vec F S1x24 .f32) (x13 : Vec F S24x1 .f32) (x14 : Vec F S1x24 .i32) (x15 : Vec F S24x1 .i32) (x16 : Vec F S24x1 .i32) (x17 : Vec F S24x1 .i32) : FVec F S128x128 .f32 :=
  k0_pay82 (View.ld x0 r0_15) -- `v277`
def k0_pay328 (x0 : Vec F S2048x128 .f32) (x1 : Vec F S2048x128 .f32) (x2 : Vec F S2048x128 .f32) (x3 : Vec F S2048x128 .f32) (x4 : Vec F S2048x128 .f32) (x5 : Vec F S2048x128 .f32) (x6 : Vec F S2048x128 .f32) (x7 : Vec F S2048x128 .f32) (x8 : Vec F S2048x128 .f32) (x9 : Vec F S16x128 .f32) (x10 : Vec F S16x128 .i32) (x11 : Vec F S16x128 .f32) (x12 : Vec F S1x24 .f32) (x13 : Vec F S24x1 .f32) (x14 : Vec F S1x24 .i32) (x15 : Vec F S24x1 .i32) (x16 : Vec F S24x1 .i32) (x17 : Vec F S24x1 .i32) : FVec F S16x128 .f32 :=
  k0_pay84 (k0_pay2 (View.ld x0 r0_0)) (k0_pay7 (View.ld x0 r0_1)) (k0_pay13 (k0_pay323 x0 x1 x2 x3 x4 x5 x6 x7 x8 x9 x10 x11 x12 x13 x14 x15 x16 x17)) (k0_pay18 (View.ld x0 r0_3)) (k0_pay23 (View.ld x0 r0_4)) (k0_pay28 (View.ld x0 r0_5)) (k0_pay33 (View.ld x0 r0_6)) (k0_pay39 (View.ld x0 r0_7)) (k0_pay44 (View.ld x0 r0_8)) (k0_pay50 (View.ld x0 r0_9)) (k0_pay55 (View.ld x0 r0_10)) (k0_pay60 (View.ld x0 r0_11)) (k0_pay65 (View.ld x0 r0_12)) (k0_pay70 (View.ld x0 r0_13)) (k0_pay76 (View.ld x0 r0_14)) (k0_pay81 (View.ld x0 r0_15)) -- `v288`
def k0_pay329 (x0 : Vec F S2048x128 .f32) (x1 : Vec F S2048x128 .f32) (x2 : Vec F S2048x128 .f32) (x3 : Vec F S2048x128 .f32) (x4 : Vec F S2048x128 .f32) (x5 : Vec F S2048x128 .f32) (x6 : Vec F S2048x128 .f32) (x7 : Vec F S2048x128 .f32) (x8 : Vec F S2048x128 .f32) (x9 : Vec F S16x128 .f32) (x10 : Vec F S16x128 .i32) (x11 : Vec F S16x128 .f32) (x12 : Vec F S1x24 .f32) (x13 : Vec F S24x1 .f32) (x14 : Vec F S1x24 .i32) (x15 : Vec F S24x1 .i32) (x16 : Vec F S24x1 .i32) (x17 : Vec F S24x1 .i32) : FVec F S16x128 .f32 :=
  k0_pay85 (k0_pay4 (View.ld x0 r0_0) (View.ld x1 r0_0)) (k0_pay9 (View.ld x0 r0_1) (View.ld x1 r0_1)) (k0_pay15 (k0_pay322 x0 x1 x2 x3 x4 x5 x6 x7 x8 x9 x10 x11 x12 x13 x14 x15 x16 x17) (k0_pay323 x0 x1 x2 x3 x4 x5 x6 x7 x8 x9 x10 x11 x12 x13 x14 x15 x16 x17) (View.ld x1 r0_2)) (k0_pay20 (View.ld x0 r0_3) (View.ld x1 r0_3)) (k0_pay25 (k0_pay324 x0 x1 x2 x3 x4 x5 x6 x7 x8 x9 x10 x11 x12 x13 x14 x15 x16 x17) (View.ld x1 r0_4)) (k0_pay30 (View.ld x0 r0_5) (View.ld x1 r0_5)) (k0_pay36 (k0_pay35 (View.ld x0 r0_6) (View.ld x1 r0_6))) (k0_pay41 (View.ld x0 r0_7) (View.ld x1 r0_7)) (k0_pay46 (View.ld x0 r0_8) (View.ld x1 r0_8)) (k0_pay52 (View.ld x0 r0_9) (View.ld x1 r0_9)) (k0_pay57 (View.ld x0 r0_10) (View.ld x1 r0_10)) (k0_pay62 (View.ld x0 r0_11) (View.ld x1 r0_11)) (k0_pay67 (View.ld x0 r0_12) (View.ld x1 r0_12)) (k0_pay73 (k0_pay325 x0 x1 x2 x3 x4 x5 x6 x7 x8 x9 x10 x11 x12 x13 x14 x15 x16 x17) (k0_pay326 x0 x1 x2 x3 x4 x5 x6 x7 x8 x9 x10 x11 x12 x13 x14 x15 x16 x17) (View.ld x1 r0_13)) (k0_pay78 (View.ld x0 r0_14) (View.ld x1 r0_14)) (k0_pay327 x0 x1 x2 x3 x4 x5 x6 x7 x8 x9 x10 x11 x12 x13 x14 x15 x16 x17) (k0_pay83 (View.ld x1 r0_15)) -- `v289`
def k0_pay330 (x0 : Vec F S2048x128 .f32) (x1 : Vec F S2048x128 .f32) (x2 : Vec F S2048x128 .f32) (x3 : Vec F S2048x128 .f32) (x4 : Vec F S2048x128 .f32) (x5 : Vec F S2048x128 .f32) (x6 : Vec F S2048x128 .f32) (x7 : Vec F S2048x128 .f32) (x8 : Vec F S2048x128 .f32) (x9 : Vec F S16x128 .f32) (x10 : Vec F S16x128 .i32) (x11 : Vec F S16x128 .f32) (x12 : Vec F S1x24 .f32) (x13 : Vec F S24x1 .f32) (x14 : Vec F S1x24 .i32) (x15 : Vec F S24x1 .i32) (x16 : Vec F S24x1 .i32) (x17 : Vec F S24x1 .i32) : FVec F S16x128 .f32 :=
  k0_pay86 (k0_pay5 (View.ld x0 r0_0) (View.ld x2 r0_0)) (k0_pay10 (View.ld x0 r0_1) (View.ld x2 r0_1)) (k0_pay16 (k0_pay322 x0 x1 x2 x3 x4 x5 x6 x7 x8 x9 x10 x11 x12 x13 x14 x15 x16 x17) (k0_pay323 x0 x1 x2 x3 x4 x5 x6 x7 x8 x9 x10 x11 x12 x13 x14 x15 x16 x17) (View.ld x2 r0_2)) (k0_pay21 (View.ld x0 r0_3) (View.ld x2 r0_3)) (k0_pay26 (k0_pay324 x0 x1 x2 x3 x4 x5 x6 x7 x8 x9 x10 x11 x12 x13 x14 x15 x16 x17) (View.ld x2 r0_4)) (k0_pay31 (View.ld x0 r0_5) (View.ld x2 r0_5)) (k0_pay37 (k0_pay34 (View.ld x0 r0_6)) (View.ld x2 r0_6)) (k0_pay42 (View.ld x0 r0_7) (View.ld x2 r0_7)) (k0_pay48 (k0_pay47 (View.ld x0 r0_8) (View.ld x2 r0_8))) (k0_pay53 (View.ld x0 r0_9) (View.ld x2 r0_9)) (k0_pay58 (View.ld x0 r0_10) (View.ld x2 r0_10)) (k0_pay63 (View.ld x0 r0_11) (View.ld x2 r0_11)) (k0_pay68 (View.ld x0 r0_12) (View.ld x2 r0_12)) (k0_pay74 (k0_pay325 x0 x1 x2 x3 x4 x5 x6 x7 x8 x9 x10 x11 x12 x13 x14 x15 x16 x17) (k0_pay326 x0 x1 x2 x3 x4 x5 x6 x7 x8 x9 x10 x11 x12 x13 x14 x15 x16 x17) (View.ld x2 r0_13)) (k0_pay79 (View.ld x0 r0_14) (View.ld x2 r0_14)) (k0_pay327 x0 x1 x2 x3 x4 x5 x6 x7 x8 x9 x10 x11 x12 x13 x14 x15 x16 x17) (View.ld x2 r0_15) -- `v290`
def k0_pay331 (x0 : Vec F S2048x128 .f32) (x1 : Vec F S2048x128 .f32) (x2 : Vec F S2048x128 .f32) (x3 : Vec F S2048x128 .f32) (x4 : Vec F S2048x128 .f32) (x5 : Vec F S2048x128 .f32) (x6 : Vec F S2048x128 .f32) (x7 : Vec F S2048x128 .f32) (x8 : Vec F S2048x128 .f32) (x9 : Vec F S16x128 .f32) (x10 : Vec F S16x128 .i32) (x11 : Vec F S16x128 .f32) (x12 : Vec F S1x24 .f32) (x13 : Vec F S24x1 .f32) (x14 : Vec F S1x24 .i32) (x15 : Vec F S24x1 .i32) (x16 : Vec F S24x1 .i32) (x17 : Vec F S24x1 .i32) : FVec F S1x128 .f32 :=
  k0_pay94 (View.ld x4 r0_2) -- `v320`
def k0_pay332 (x0 : Vec F S2048x128 .f32) (x1 : Vec F S2048x128 .f32) (x2 : Vec F S2048x128 .f32) (x3 : Vec F S2048x128 .f32) (x4 : Vec F S2048x128 .f32) (x5 : Vec F S2048x128 .f32) (x6 : Vec F S2048x128 .f32) (x7 : Vec F S2048x128 .f32) (x8 : Vec F S2048x128 .f32) (x9 : Vec F S16x128 .f32) (x10 : Vec F S16x128 .i32) (x11 : Vec F S16x128 .f32) (x12 : Vec F S1x24 .f32) (x13 : Vec F S24x1 .f32) (x14 : Vec F S1x24 .i32) (x15 : Vec F S24x1 .i32) (x16 : Vec F S24x1 .i32) (x17 : Vec F S24x1 .i32) : FVec F S16x128 .f32 :=
  k0_pay136 (k0_pay328 x0 x1 x2 x3 x4 x5 x6 x7 x8 x9 x10 x11 x12 x13 x14 x15 x16 x17) (k0_pay329 x0 x1 x2 x3 x4 x5 x6 x7 x8 x9 x10 x11 x12 x13 x14 x15 x16 x17) -- `v507`
def k0_pay333 (x0 : Vec F S2048x128 .f32) (x1 : Vec F S2048x128 .f32) (x2 : Vec F S2048x128 .f32) (x3 : Vec F S2048x128 .f32) (x4 : Vec F S2048x128 .f32) (x5 : Vec F S2048x128 .f32) (x6 : Vec F S2048x128 .f32) (x7 : Vec F S2048x128 .f32) (x8 : Vec F S2048x128 .f32) (x9 : Vec F S16x128 .f32) (x10 : Vec F S16x128 .i32) (x11 : Vec F S16x128 .f32) (x12 : Vec F S1x24 .f32) (x13 : Vec F S24x1 .f32) (x14 : Vec F S1x24 .i32) (x15 : Vec F S24x1 .i32) (x16 : Vec F S24x1 .i32) (x17 : Vec F S24x1 .i32) : FVec F S16x128 .f32 :=
  k0_pay137 (k0_pay88 (View.ld x4 r0_0)) (k0_pay89 (View.ld x4 r0_0) (View.ld x5 r0_0)) (k0_pay91 (View.ld x4 r0_1)) (k0_pay92 (View.ld x4 r0_1) (View.ld x5 r0_1)) (k0_pay95 (k0_pay331 x0 x1 x2 x3 x4 x5 x6 x7 x8 x9 x10 x11 x12 x13 x14 x15 x16 x17)) (k0_pay96 (k0_pay93 (View.ld x4 r0_2)) (k0_pay331 x0 x1 x2 x3 x4 x5 x6 x7 x8 x9 x10 x11 x12 x13 x14 x15 x16 x17) (View.ld x5 r0_2)) (k0_pay98 (View.ld x4 r0_3)) (k0_pay99 (View.ld x4 r0_3) (View.ld x5 r0_3)) (k0_pay101 (View.ld x4 r0_4)) (k0_pay102 (View.ld x4 r0_4) (View.ld x5 r0_4)) (k0_pay104 (View.ld x4 r0_5)) (k0_pay106 (k0_pay105 (View.ld x4 r0_5)) (View.ld x5 r0_5)) (k0_pay108 (View.ld x4 r0_6)) (k0_pay109 (View.ld x4 r0_6) (View.ld x5 r0_6)) (k0_pay111 (View.ld x4 r0_7)) (k0_pay112 (View.ld x4 r0_7) (View.ld x5 r0_7)) (k0_pay114 (View.ld x4 r0_8)) (k0_pay116 (k0_pay115 (View.ld x4 r0_8)) (View.ld x5 r0_8)) (k0_pay118 (View.ld x4 r0_9)) (k0_pay119 (View.ld x4 r0_9) (View.ld x5 r0_9)) (k0_pay121 (View.ld x4 r0_10)) (k0_pay122 (View.ld x4 r0_10) (View.ld x5 r0_10)) (k0_pay124 (View.ld x4 r0_11)) (k0_pay126 (k0_pay125 (View.ld x4 r0_11) (View.ld x5 r0_11))) (k0_pay128 (View.ld x4 r0_12)) (k0_pay129 (View.ld x4 r0_12) (View.ld x5 r0_12)) (k0_pay131 (View.ld x4 r0_13)) (k0_pay132 (View.ld x4 r0_13) (View.ld x5 r0_13)) (k0_pay134 (View.ld x4 r0_14)) (k0_pay135 (View.ld x4 r0_14) (View.ld x5 r0_14)) (View.ld x4 r0_15) (View.ld x5 r0_15) -- `v514`
def k0_pay334 (x0 : Vec F S2048x128 .f32) (x1 : Vec F S2048x128 .f32) (x2 : Vec F S2048x128 .f32) (x3 : Vec F S2048x128 .f32) (x4 : Vec F S2048x128 .f32) (x5 : Vec F S2048x128 .f32) (x6 : Vec F S2048x128 .f32) (x7 : Vec F S2048x128 .f32) (x8 : Vec F S2048x128 .f32) (x9 : Vec F S16x128 .f32) (x10 : Vec F S16x128 .i32) (x11 : Vec F S16x128 .f32) (x12 : Vec F S1x24 .f32) (x13 : Vec F S24x1 .f32) (x14 : Vec F S1x24 .i32) (x15 : Vec F S24x1 .i32) (x16 : Vec F S24x1 .i32) (x17 : Vec F S24x1 .i32) : FVec F S16x128 .f32 :=
  k0_pay150 (k0_pay332 x0 x1 x2 x3 x4 x5 x6 x7 x8 x9 x10 x11 x12 x13 x14 x15 x16 x17) (k0_pay138 (View.ld x3 r0_0)) (k0_pay139 (View.ld x3 r0_1)) (k0_pay140 (View.ld x3 r0_2)) (k0_pay141 (View.ld x3 r0_3)) (k0_pay142 (View.ld x3 r0_4)) (k0_pay143 (View.ld x3 r0_5)) (k0_pay144 (View.ld x3 r0_6)) (k0_pay145 (View.ld x3 r0_7)) (k0_pay146 (View.ld x3 r0_8)) (k0_pay147 (View.ld x3 r0_9)) (k0_pay148 (View.ld x3 r0_10)) (k0_pay149 (View.ld x3 r0_11)) (View.ld x3 r0_12) (View.ld x3 r0_13) (View.ld x3 r0_14) (View.ld x3 r0_15) -- `v582`
def k0_pay335 (x0 : Vec F S2048x128 .f32) (x1 : Vec F S2048x128 .f32) (x2 : Vec F S2048x128 .f32) (x3 : Vec F S2048x128 .f32) (x4 : Vec F S2048x128 .f32) (x5 : Vec F S2048x128 .f32) (x6 : Vec F S2048x128 .f32) (x7 : Vec F S2048x128 .f32) (x8 : Vec F S2048x128 .f32) (x9 : Vec F S16x128 .f32) (x10 : Vec F S16x128 .i32) (x11 : Vec F S16x128 .f32) (x12 : Vec F S1x24 .f32) (x13 : Vec F S24x1 .f32) (x14 : Vec F S1x24 .i32) (x15 : Vec F S24x1 .i32) (x16 : Vec F S24x1 .i32) (x17 : Vec F S24x1 .i32) : FVec F S1x128 .f32 :=
  k0_pay151 (View.ld x6 r0_0) -- `v586`
def k0_pay336 (x0 : Vec F S2048x128 .f32) (x1 : Vec F S2048x128 .f32) (x2 : Vec F S2048x128 .f32) (x3 : Vec F S2048x128 .f32) (x4 : Vec F S2048x128 .f32) (x5 : Vec F S2048x128 .f32) (x6 : Vec F S2048x128 .f32) (x7 : Vec F S2048x128 .f32) (x8 : Vec F S2048x128 .f32) (x9 : Vec F S16x128 .f32) (x10 : Vec F S16x128 .i32) (x11 : Vec F S16x128 .f32) (x12 : Vec F S1x24 .f32) (x13 : Vec F S24x1 .f32) (x14 : Vec F S1x24 .i32) (x15 : Vec F S24x1 .i32) (x16 : Vec F S24x1 .i32) (x17 : Vec F S24x1 .i32) : FVec F S1x128 .f32 :=
  k0_pay152 (View.ld x6 r0_1) -- `v590`
def k0_pay337 (x0 : Vec F S2048x128 .f32) (x1 : Vec F S2048x128 .f32) (x2 : Vec F S2048x128 .f32) (x3 : Vec F S2048x128 .f32) (x4 : Vec F S2048x128 .f32) (x5 : Vec F S2048x128 .f32) (x6 : Vec F S2048x128 .f32) (x7 : Vec F S2048x128 .f32) (x8 : Vec F S2048x128 .f32) (x9 : Vec F S16x128 .f32) (x10 : Vec F S16x128 .i32) (x11 : Vec F S16x128 .f32) (x12 : Vec F S1x24 .f32) (x13 : Vec F S24x1 .f32) (x14 : Vec F S1x24 .i32) (x15 : Vec F S24x1 .i32) (x16 : Vec F S24x1 .i32) (x17 : Vec F S24x1 .i32) : FVec F S1x128 .f32 :=
  k0_pay153 (View.ld x6 r0_2) -- `v594`
def k0_pay338 (x0 : Vec F S2048x128 .f32) (x1 : Vec F S2048x128 .f32) (x2 : Vec F S2048x128 .f32) (x3 : Vec F S2048x128 .f32) (x4 : Vec F S2048x128 .f32) (x5 : Vec F S2048x128 .f32) (x6 : Vec F S2048x128 .f32) (x7 : Vec F S2048x128 .f32) (x8 : Vec F S2048x128 .f32) (x9 : Vec F S16x128 .f32) (x10 : Vec F S16x128 .i32) (x11 : Vec F S16x128 .f32) (x12 : Vec F S1x24 .f32) (x13 : Vec F S24x1 .f32) (x14 : Vec F S1x24 .i32) (x15 : Vec F S24x1 .i32) (x16 : Vec F S24x1 .i32) (x17 : Vec F S24x1 .i32) : FVec F S1x128 .f32 :=
  k0_pay154 (View.ld x6 r0_3) -- `v598`
def k0_pay339 (x0 : Vec F S2048x128 .f32) (x1 : Vec F S2048x128 .f32) (x2 : Vec F S2048x128 .f32) (x3 : Vec F S2048x128 .f32) (x4 : Vec F S2048x128 .f32) (x5 : Vec F S2048x128 .f32) (x6 : Vec F S2048x128 .f32) (x7 : Vec F S2048x128 .f32) (x8 : Vec F S2048x128 .f32) (x9 : Vec F S16x128 .f32) (x10 : Vec F S16x128 .i32) (x11 : Vec F S16x128 .f32) (x12 : Vec F S1x24 .f32) (x13 : Vec F S24x1 .f32) (x14 : Vec F S1x24 .i32) (x15 : Vec F S24x1 .i32) (x16 : Vec F S24x1 .i32) (x17 : Vec F S24x1 .i32) : FVec F S1x128 .f32 :=
  k0_pay155 (View.ld x6 r0_4) -- `v602`
def k0_pay340 (x0 : Vec F S2048x128 .f32) (x1 : Vec F S2048x128 .f32) (x2 : Vec F S2048x128 .f32) (x3 : Vec F S2048x128 .f32) (x4 : Vec F S2048x128 .f32) (x5 : Vec F S2048x128 .f32) (x6 : Vec F S2048x128 .f32) (x7 : Vec F S2048x128 .f32) (x8 : Vec F S2048x128 .f32) (x9 : Vec F S16x128 .f32) (x10 : Vec F S16x128 .i32) (x11 : Vec F S16x128 .f32) (x12 : Vec F S1x24 .f32) (x13 : Vec F S24x1 .f32) (x14 : Vec F S1x24 .i32) (x15 : Vec F S24x1 .i32) (x16 : Vec F S24x1 .i32) (x17 : Vec F S24x1 .i32) : FVec F S1x128 .f32 :=
  k0_pay156 (View.ld x6 r0_5) -- `v606`
def k0_pay341 (x0 : Vec F S2048x128 .f32) (x1 : Vec F S2048x128 .f32) (x2 : Vec F S2048x128 .f32) (x3 : Vec F S2048x128 .f32) (x4 : Vec F S2048x128 .f32) (x5 : Vec F S2048x128 .f32) (x6 : Vec F S2048x128 .f32) (x7 : Vec F S2048x128 .f32) (x8 : Vec F S2048x128 .f32) (x9 : Vec F S16x128 .f32) (x10 : Vec F S16x128 .i32) (x11 : Vec F S16x128 .f32) (x12 : Vec F S1x24 .f32) (x13 : Vec F S24x1 .f32) (x14 : Vec F S1x24 .i32) (x15 : Vec F S24x1 .i32) (x16 : Vec F S24x1 .i32) (x17 : Vec F S24x1 .i32) : FVec F S1x128 .f32 :=
  k0_pay157 (View.ld x6 r0_6) -- `v610`
def k0_pay342 (x0 : Vec F S2048x128 .f32) (x1 : Vec F S2048x128 .f32) (x2 : Vec F S2048x128 .f32) (x3 : Vec F S2048x128 .f32) (x4 : Vec F S2048x128 .f32) (x5 : Vec F S2048x128 .f32) (x6 : Vec F S2048x128 .f32) (x7 : Vec F S2048x128 .f32) (x8 : Vec F S2048x128 .f32) (x9 : Vec F S16x128 .f32) (x10 : Vec F S16x128 .i32) (x11 : Vec F S16x128 .f32) (x12 : Vec F S1x24 .f32) (x13 : Vec F S24x1 .f32) (x14 : Vec F S1x24 .i32) (x15 : Vec F S24x1 .i32) (x16 : Vec F S24x1 .i32) (x17 : Vec F S24x1 .i32) : FVec F S1x128 .f32 :=
  k0_pay158 (View.ld x6 r0_7) -- `v614`
def k0_pay343 (x0 : Vec F S2048x128 .f32) (x1 : Vec F S2048x128 .f32) (x2 : Vec F S2048x128 .f32) (x3 : Vec F S2048x128 .f32) (x4 : Vec F S2048x128 .f32) (x5 : Vec F S2048x128 .f32) (x6 : Vec F S2048x128 .f32) (x7 : Vec F S2048x128 .f32) (x8 : Vec F S2048x128 .f32) (x9 : Vec F S16x128 .f32) (x10 : Vec F S16x128 .i32) (x11 : Vec F S16x128 .f32) (x12 : Vec F S1x24 .f32) (x13 : Vec F S24x1 .f32) (x14 : Vec F S1x24 .i32) (x15 : Vec F S24x1 .i32) (x16 : Vec F S24x1 .i32) (x17 : Vec F S24x1 .i32) : FVec F S1x128 .f32 :=
  k0_pay159 (View.ld x6 r0_8) -- `v618`
def k0_pay344 (x0 : Vec F S2048x128 .f32) (x1 : Vec F S2048x128 .f32) (x2 : Vec F S2048x128 .f32) (x3 : Vec F S2048x128 .f32) (x4 : Vec F S2048x128 .f32) (x5 : Vec F S2048x128 .f32) (x6 : Vec F S2048x128 .f32) (x7 : Vec F S2048x128 .f32) (x8 : Vec F S2048x128 .f32) (x9 : Vec F S16x128 .f32) (x10 : Vec F S16x128 .i32) (x11 : Vec F S16x128 .f32) (x12 : Vec F S1x24 .f32) (x13 : Vec F S24x1 .f32) (x14 : Vec F S1x24 .i32) (x15 : Vec F S24x1 .i32) (x16 : Vec F S24x1 .i32) (x17 : Vec F S24x1 .i32) : FVec F S1x128 .f32 :=
  k0_pay160 (View.ld x6 r0_9) -- `v622`
def k0_pay345 (x0 : Vec F S2048x128 .f32) (x1 : Vec F S2048x128 .f32) (x2 : Vec F S2048x128 .f32) (x3 : Vec F S2048x128 .f32) (x4 : Vec F S2048x128 .f32) (x5 : Vec F S2048x128 .f32) (x6 : Vec F S2048x128 .f32) (x7 : Vec F S2048x128 .f32) (x8 : Vec F S2048x128 .f32) (x9 : Vec F S16x128 .f32) (x10 : Vec F S16x128 .i32) (x11 : Vec F S16x128 .f32) (x12 : Vec F S1x24 .f32) (x13 : Vec F S24x1 .f32) (x14 : Vec F S1x24 .i32) (x15 : Vec F S24x1 .i32) (x16 : Vec F S24x1 .i32) (x17 : Vec F S24x1 .i32) : FVec F S1x128 .f32 :=
  k0_pay161 (View.ld x6 r0_10) -- `v626`
def k0_pay346 (x0 : Vec F S2048x128 .f32) (x1 : Vec F S2048x128 .f32) (x2 : Vec F S2048x128 .f32) (x3 : Vec F S2048x128 .f32) (x4 : Vec F S2048x128 .f32) (x5 : Vec F S2048x128 .f32) (x6 : Vec F S2048x128 .f32) (x7 : Vec F S2048x128 .f32) (x8 : Vec F S2048x128 .f32) (x9 : Vec F S16x128 .f32) (x10 : Vec F S16x128 .i32) (x11 : Vec F S16x128 .f32) (x12 : Vec F S1x24 .f32) (x13 : Vec F S24x1 .f32) (x14 : Vec F S1x24 .i32) (x15 : Vec F S24x1 .i32) (x16 : Vec F S24x1 .i32) (x17 : Vec F S24x1 .i32) : FVec F S1x128 .f32 :=
  k0_pay162 (View.ld x6 r0_11) -- `v630`
def k0_pay347 (x0 : Vec F S2048x128 .f32) (x1 : Vec F S2048x128 .f32) (x2 : Vec F S2048x128 .f32) (x3 : Vec F S2048x128 .f32) (x4 : Vec F S2048x128 .f32) (x5 : Vec F S2048x128 .f32) (x6 : Vec F S2048x128 .f32) (x7 : Vec F S2048x128 .f32) (x8 : Vec F S2048x128 .f32) (x9 : Vec F S16x128 .f32) (x10 : Vec F S16x128 .i32) (x11 : Vec F S16x128 .f32) (x12 : Vec F S1x24 .f32) (x13 : Vec F S24x1 .f32) (x14 : Vec F S1x24 .i32) (x15 : Vec F S24x1 .i32) (x16 : Vec F S24x1 .i32) (x17 : Vec F S24x1 .i32) : FVec F S16x128 .f32 :=
  k0_pay163 (k0_pay333 x0 x1 x2 x3 x4 x5 x6 x7 x8 x9 x10 x11 x12 x13 x14 x15 x16 x17) (k0_pay335 x0 x1 x2 x3 x4 x5 x6 x7 x8 x9 x10 x11 x12 x13 x14 x15 x16 x17) (k0_pay336 x0 x1 x2 x3 x4 x5 x6 x7 x8 x9 x10 x11 x12 x13 x14 x15 x16 x17) (k0_pay337 x0 x1 x2 x3 x4 x5 x6 x7 x8 x9 x10 x11 x12 x13 x14 x15 x16 x17) (k0_pay338 x0 x1 x2 x3 x4 x5 x6 x7 x8 x9 x10 x11 x12 x13 x14 x15 x16 x17) (k0_pay339 x0 x1 x2 x3 x4 x5 x6 x7 x8 x9 x10 x11 x12 x13 x14 x15 x16 x17) (k0_pay340 x0 x1 x2 x3 x4 x5 x6 x7 x8 x9 x10 x11 x12 x13 x14 x15 x16 x17) (k0_pay341 x0 x1 x2 x3 x4 x5 x6 x7 x8 x9 x10 x11 x12 x13 x14 x15 x16 x17) (k0_pay342 x0 x1 x2 x3 x4 x5 x6 x7 x8 x9 x10 x11 x12 x13 x14 x15 x16 x17) (k0_pay343 x0 x1 x2 x3 x4 x5 x6 x7 x8 x9 x10 x11 x12 x13 x14 x15 x16 x17) (k0_pay344 x0 x1 x2 x3 x4 x5 x6 x7 x8 x9 x10 x11 x12 x13 x14 x15 x16 x17) (k0_pay345 x0 x1 x2 x3 x4 x5 x6 x7 x8 x9 x10 x11 x12 x13 x14 x15 x16 x17) (k0_pay346 x0 x1 x2 x3 x4 x5 x6 x7 x8 x9 x10 x11 x12 x13 x14 x15 x16 x17) (View.ld x6 r0_12) (View.ld x6 r0_13) (View.ld x6 r0_14) (View.ld x6 r0_15) -- `v650`
def k0_pay348 (x0 : Vec F S2048x128 .f32) (x1 : Vec F S2048x128 .f32) (x2 : Vec F S2048x128 .f32) (x3 : Vec F S2048x128 .f32) (x4 : Vec F S2048x128 .f32) (x5 : Vec F S2048x128 .f32) (x6 : Vec F S2048x128 .f32) (x7 : Vec F S2048x128 .f32) (x8 : Vec F S2048x128 .f32) (x9 : Vec F S16x128 .f32) (x10 : Vec F S16x128 .i32) (x11 : Vec F S16x128 .f32) (x12 : Vec F S1x24 .f32) (x13 : Vec F S24x1 .f32) (x14 : Vec F S1x24 .i32) (x15 : Vec F S24x1 .i32) (x16 : Vec F S24x1 .i32) (x17 : Vec F S24x1 .i32) : FVec F S24x24 .f32 :=
  k0_pay190 (View.ld x15 r0_17) (View.ld x14 r0_18) -- `v766`
def k0_pay349 (x0 : Vec F S2048x128 .f32) (x1 : Vec F S2048x128 .f32) (x2 : Vec F S2048x128 .f32) (x3 : Vec F S2048x128 .f32) (x4 : Vec F S2048x128 .f32) (x5 : Vec F S2048x128 .f32) (x6 : Vec F S2048x128 .f32) (x7 : Vec F S2048x128 .f32) (x8 : Vec F S2048x128 .f32) (x9 : Vec F S16x128 .f32) (x10 : Vec F S16x128 .i32) (x11 : Vec F S16x128 .f32) (x12 : Vec F S1x24 .f32) (x13 : Vec F S24x1 .f32) (x14 : Vec F S1x24 .i32) (x15 : Vec F S24x1 .i32) (x16 : Vec F S24x1 .i32) (x17 : Vec F S24x1 .i32) : FVec F S1x24 .f32 :=
  k0_pay191 (View.ld x12 r0_18) -- `v768`
def k0_pay350 (x0 : Vec F S2048x128 .f32) (x1 : Vec F S2048x128 .f32) (x2 : Vec F S2048x128 .f32) (x3 : Vec F S2048x128 .f32) (x4 : Vec F S2048x128 .f32) (x5 : Vec F S2048x128 .f32) (x6 : Vec F S2048x128 .f32) (x7 : Vec F S2048x128 .f32) (x8 : Vec F S2048x128 .f32) (x9 : Vec F S16x128 .f32) (x10 : Vec F S16x128 .i32) (x11 : Vec F S16x128 .f32) (x12 : Vec F S1x24 .f32) (x13 : Vec F S24x1 .f32) (x14 : Vec F S1x24 .i32) (x15 : Vec F S24x1 .i32) (x16 : Vec F S24x1 .i32) (x17 : Vec F S24x1 .i32) : FVec F S24x1 .f32 :=
  k0_pay197 (k0_pay348 x0 x1 x2 x3 x4 x5 x6 x7 x8 x9 x10 x11 x12 x13 x14 x15 x16 x17) (k0_pay349 x0 x1 x2 x3 x4 x5 x6 x7 x8 x9 x10 x11 x12 x13 x14 x15 x16 x17) (View.ld x13 r0_17) -- `v811`
def k0_pay351 (x0 : Vec F S2048x128 .f32) (x1 : Vec F S2048x128 .f32) (x2 : Vec F S2048x128 .f32) (x3 : Vec F S2048x128 .f32) (x4 : Vec F S2048x128 .f32) (x5 : Vec F S2048x128 .f32) (x6 : Vec F S2048x128 .f32) (x7 : Vec F S2048x128 .f32) (x8 : Vec F S2048x128 .f32) (x9 : Vec F S16x128 .f32) (x10 : Vec F S16x128 .i32) (x11 : Vec F S16x128 .f32) (x12 : Vec F S1x24 .f32) (x13 : Vec F S24x1 .f32) (x14 : Vec F S1x24 .i32) (x15 : Vec F S24x1 .i32) (x16 : Vec F S24x1 .i32) (x17 : Vec F S24x1 .i32) : IVec S1x128 32 :=
  iota .tc S1x128 32 [1] iota_S1x128_d1_w32 -- `v816`
def k0_pay352 (x0 : Vec F S2048x128 .f32) (x1 : Vec F S2048x128 .f32) (x2 : Vec F S2048x128 .f32) (x3 : Vec F S2048x128 .f32) (x4 : Vec F S2048x128 .f32) (x5 : Vec F S2048x128 .f32) (x6 : Vec F S2048x128 .f32) (x7 : Vec F S2048x128 .f32) (x8 : Vec F S2048x128 .f32) (x9 : Vec F S16x128 .f32) (x10 : Vec F S16x128 .i32) (x11 : Vec F S16x128 .f32) (x12 : Vec F S1x24 .f32) (x13 : Vec F S24x1 .f32) (x14 : Vec F S1x24 .i32) (x15 : Vec F S24x1 .i32) (x16 : Vec F S24x1 .i32) (x17 : Vec F S24x1 .i32) : FVec F S24x128 .f32 :=
  k0_pay199 (View.ld x16 r0_17) (View.ld x17 r0_17) -- `v831`
def k0_pay353 (x0 : Vec F S2048x128 .f32) (x1 : Vec F S2048x128 .f32) (x2 : Vec F S2048x128 .f32) (x3 : Vec F S2048x128 .f32) (x4 : Vec F S2048x128 .f32) (x5 : Vec F S2048x128 .f32) (x6 : Vec F S2048x128 .f32) (x7 : Vec F S2048x128 .f32) (x8 : Vec F S2048x128 .f32) (x9 : Vec F S16x128 .f32) (x10 : Vec F S16x128 .i32) (x11 : Vec F S16x128 .f32) (x12 : Vec F S1x24 .f32) (x13 : Vec F S24x1 .f32) (x14 : Vec F S1x24 .i32) (x15 : Vec F S24x1 .i32) (x16 : Vec F S24x1 .i32) (x17 : Vec F S24x1 .i32) : FVec F S24x128 .f32 :=
  k0_pay200 (View.ld x16 r0_17) (View.ld x17 r0_17) -- `v846`
def k0_pay354 (x0 : Vec F S2048x128 .f32) (x1 : Vec F S2048x128 .f32) (x2 : Vec F S2048x128 .f32) (x3 : Vec F S2048x128 .f32) (x4 : Vec F S2048x128 .f32) (x5 : Vec F S2048x128 .f32) (x6 : Vec F S2048x128 .f32) (x7 : Vec F S2048x128 .f32) (x8 : Vec F S2048x128 .f32) (x9 : Vec F S16x128 .f32) (x10 : Vec F S16x128 .i32) (x11 : Vec F S16x128 .f32) (x12 : Vec F S1x24 .f32) (x13 : Vec F S24x1 .f32) (x14 : Vec F S1x24 .i32) (x15 : Vec F S24x1 .i32) (x16 : Vec F S24x1 .i32) (x17 : Vec F S24x1 .i32) : FVec F S24x128 .f32 :=
  k0_pay202 (F := F) (k0_pay201 (View.ld x16 r0_17) (View.ld x17 r0_17)) -- `v861`
def k0_pay355 (x0 : Vec F S2048x128 .f32) (x1 : Vec F S2048x128 .f32) (x2 : Vec F S2048x128 .f32) (x3 : Vec F S2048x128 .f32) (x4 : Vec F S2048x128 .f32) (x5 : Vec F S2048x128 .f32) (x6 : Vec F S2048x128 .f32) (x7 : Vec F S2048x128 .f32) (x8 : Vec F S2048x128 .f32) (x9 : Vec F S16x128 .f32) (x10 : Vec F S16x128 .i32) (x11 : Vec F S16x128 .f32) (x12 : Vec F S1x24 .f32) (x13 : Vec F S24x1 .f32) (x14 : Vec F S1x24 .i32) (x15 : Vec F S24x1 .i32) (x16 : Vec F S24x1 .i32) (x17 : Vec F S24x1 .i32) : FVec F S24x128 .f32 :=
  k0_pay203 (k0_pay351 x0 x1 x2 x3 x4 x5 x6 x7 x8 x9 x10 x11 x12 x13 x14 x15 x16 x17) (View.ld x16 r0_17) (View.ld x17 r0_17) -- `v876`
def k0_pay356 (x0 : Vec F S2048x128 .f32) (x1 : Vec F S2048x128 .f32) (x2 : Vec F S2048x128 .f32) (x3 : Vec F S2048x128 .f32) (x4 : Vec F S2048x128 .f32) (x5 : Vec F S2048x128 .f32) (x6 : Vec F S2048x128 .f32) (x7 : Vec F S2048x128 .f32) (x8 : Vec F S2048x128 .f32) (x9 : Vec F S16x128 .f32) (x10 : Vec F S16x128 .i32) (x11 : Vec F S16x128 .f32) (x12 : Vec F S1x24 .f32) (x13 : Vec F S24x1 .f32) (x14 : Vec F S1x24 .i32) (x15 : Vec F S24x1 .i32) (x16 : Vec F S24x1 .i32) (x17 : Vec F S24x1 .i32) : FVec F S24x128 .f32 :=
  k0_pay204 (k0_pay351 x0 x1 x2 x3 x4 x5 x6 x7 x8 x9 x10 x11 x12 x13 x14 x15 x16 x17) (View.ld x16 r0_17) (View.ld x17 r0_17) -- `v891`
def k0_pay357 (x0 : Vec F S2048x128 .f32) (x1 : Vec F S2048x128 .f32) (x2 : Vec F S2048x128 .f32) (x3 : Vec F S2048x128 .f32) (x4 : Vec F S2048x128 .f32) (x5 : Vec F S2048x128 .f32) (x6 : Vec F S2048x128 .f32) (x7 : Vec F S2048x128 .f32) (x8 : Vec F S2048x128 .f32) (x9 : Vec F S16x128 .f32) (x10 : Vec F S16x128 .i32) (x11 : Vec F S16x128 .f32) (x12 : Vec F S1x24 .f32) (x13 : Vec F S24x1 .f32) (x14 : Vec F S1x24 .i32) (x15 : Vec F S24x1 .i32) (x16 : Vec F S24x1 .i32) (x17 : Vec F S24x1 .i32) : FVec F S24x128 .f32 :=
  k0_pay206 (F := F) (k0_pay205 (k0_pay351 x0 x1 x2 x3 x4 x5 x6 x7 x8 x9 x10 x11 x12 x13 x14 x15 x16 x17) (View.ld x16 r0_17) (View.ld x17 r0_17)) -- `v906`
def k0_pay358 (x0 : Vec F S2048x128 .f32) (x1 : Vec F S2048x128 .f32) (x2 : Vec F S2048x128 .f32) (x3 : Vec F S2048x128 .f32) (x4 : Vec F S2048x128 .f32) (x5 : Vec F S2048x128 .f32) (x6 : Vec F S2048x128 .f32) (x7 : Vec F S2048x128 .f32) (x8 : Vec F S2048x128 .f32) (x9 : Vec F S16x128 .f32) (x10 : Vec F S16x128 .i32) (x11 : Vec F S16x128 .f32) (x12 : Vec F S1x24 .f32) (x13 : Vec F S24x1 .f32) (x14 : Vec F S1x24 .i32) (x15 : Vec F S24x1 .i32) (x16 : Vec F S24x1 .i32) (x17 : Vec F S24x1 .i32) : FVec F S24x128 .f32 :=
  k0_pay207 (k0_pay351 x0 x1 x2 x3 x4 x5 x6 x7 x8 x9 x10 x11 x12 x13 x14 x15 x16 x17) (View.ld x16 r0_17) (View.ld x17 r0_17) -- `v921`
def k0_pay359 (x0 : Vec F S2048x128 .f32) (x1 : Vec F S2048x128 .f32) (x2 : Vec F S2048x128 .f32) (x3 : Vec F S2048x128 .f32) (x4 : Vec F S2048x128 .f32) (x5 : Vec F S2048x128 .f32) (x6 : Vec F S2048x128 .f32) (x7 : Vec F S2048x128 .f32) (x8 : Vec F S2048x128 .f32) (x9 : Vec F S16x128 .f32) (x10 : Vec F S16x128 .i32) (x11 : Vec F S16x128 .f32) (x12 : Vec F S1x24 .f32) (x13 : Vec F S24x1 .f32) (x14 : Vec F S1x24 .i32) (x15 : Vec F S24x1 .i32) (x16 : Vec F S24x1 .i32) (x17 : Vec F S24x1 .i32) : FVec F S24x128 .f32 :=
  k0_pay208 (k0_pay351 x0 x1 x2 x3 x4 x5 x6 x7 x8 x9 x10 x11 x12 x13 x14 x15 x16 x17) (View.ld x16 r0_17) (View.ld x17 r0_17) -- `v936`
def k0_pay360 (x0 : Vec F S2048x128 .f32) (x1 : Vec F S2048x128 .f32) (x2 : Vec F S2048x128 .f32) (x3 : Vec F S2048x128 .f32) (x4 : Vec F S2048x128 .f32) (x5 : Vec F S2048x128 .f32) (x6 : Vec F S2048x128 .f32) (x7 : Vec F S2048x128 .f32) (x8 : Vec F S2048x128 .f32) (x9 : Vec F S16x128 .f32) (x10 : Vec F S16x128 .i32) (x11 : Vec F S16x128 .f32) (x12 : Vec F S1x24 .f32) (x13 : Vec F S24x1 .f32) (x14 : Vec F S1x24 .i32) (x15 : Vec F S24x1 .i32) (x16 : Vec F S24x1 .i32) (x17 : Vec F S24x1 .i32) : FVec F S24x128 .f32 :=
  k0_pay210 (F := F) (k0_pay209 (k0_pay351 x0 x1 x2 x3 x4 x5 x6 x7 x8 x9 x10 x11 x12 x13 x14 x15 x16 x17) (View.ld x16 r0_17) (View.ld x17 r0_17)) -- `v951`
def k0_pay361 (x0 : Vec F S2048x128 .f32) (x1 : Vec F S2048x128 .f32) (x2 : Vec F S2048x128 .f32) (x3 : Vec F S2048x128 .f32) (x4 : Vec F S2048x128 .f32) (x5 : Vec F S2048x128 .f32) (x6 : Vec F S2048x128 .f32) (x7 : Vec F S2048x128 .f32) (x8 : Vec F S2048x128 .f32) (x9 : Vec F S16x128 .f32) (x10 : Vec F S16x128 .i32) (x11 : Vec F S16x128 .f32) (x12 : Vec F S1x24 .f32) (x13 : Vec F S24x1 .f32) (x14 : Vec F S1x24 .i32) (x15 : Vec F S24x1 .i32) (x16 : Vec F S24x1 .i32) (x17 : Vec F S24x1 .i32) : FVec F S24x128 .f32 :=
  k0_pay211 (k0_pay351 x0 x1 x2 x3 x4 x5 x6 x7 x8 x9 x10 x11 x12 x13 x14 x15 x16 x17) (View.ld x16 r0_17) (View.ld x17 r0_17) -- `v966`
def k0_pay362 (x0 : Vec F S2048x128 .f32) (x1 : Vec F S2048x128 .f32) (x2 : Vec F S2048x128 .f32) (x3 : Vec F S2048x128 .f32) (x4 : Vec F S2048x128 .f32) (x5 : Vec F S2048x128 .f32) (x6 : Vec F S2048x128 .f32) (x7 : Vec F S2048x128 .f32) (x8 : Vec F S2048x128 .f32) (x9 : Vec F S16x128 .f32) (x10 : Vec F S16x128 .i32) (x11 : Vec F S16x128 .f32) (x12 : Vec F S1x24 .f32) (x13 : Vec F S24x1 .f32) (x14 : Vec F S1x24 .i32) (x15 : Vec F S24x1 .i32) (x16 : Vec F S24x1 .i32) (x17 : Vec F S24x1 .i32) : FVec F S24x128 .f32 :=
  k0_pay212 (k0_pay351 x0 x1 x2 x3 x4 x5 x6 x7 x8 x9 x10 x11 x12 x13 x14 x15 x16 x17) (View.ld x16 r0_17) (View.ld x17 r0_17) -- `v981`
def k0_pay363 (x0 : Vec F S2048x128 .f32) (x1 : Vec F S2048x128 .f32) (x2 : Vec F S2048x128 .f32) (x3 : Vec F S2048x128 .f32) (x4 : Vec F S2048x128 .f32) (x5 : Vec F S2048x128 .f32) (x6 : Vec F S2048x128 .f32) (x7 : Vec F S2048x128 .f32) (x8 : Vec F S2048x128 .f32) (x9 : Vec F S16x128 .f32) (x10 : Vec F S16x128 .i32) (x11 : Vec F S16x128 .f32) (x12 : Vec F S1x24 .f32) (x13 : Vec F S24x1 .f32) (x14 : Vec F S1x24 .i32) (x15 : Vec F S24x1 .i32) (x16 : Vec F S24x1 .i32) (x17 : Vec F S24x1 .i32) : FVec F S24x128 .f32 :=
  k0_pay214 (F := F) (k0_pay213 (k0_pay351 x0 x1 x2 x3 x4 x5 x6 x7 x8 x9 x10 x11 x12 x13 x14 x15 x16 x17) (View.ld x16 r0_17) (View.ld x17 r0_17)) -- `v996`
def k0_pay364 (x0 : Vec F S2048x128 .f32) (x1 : Vec F S2048x128 .f32) (x2 : Vec F S2048x128 .f32) (x3 : Vec F S2048x128 .f32) (x4 : Vec F S2048x128 .f32) (x5 : Vec F S2048x128 .f32) (x6 : Vec F S2048x128 .f32) (x7 : Vec F S2048x128 .f32) (x8 : Vec F S2048x128 .f32) (x9 : Vec F S16x128 .f32) (x10 : Vec F S16x128 .i32) (x11 : Vec F S16x128 .f32) (x12 : Vec F S1x24 .f32) (x13 : Vec F S24x1 .f32) (x14 : Vec F S1x24 .i32) (x15 : Vec F S24x1 .i32) (x16 : Vec F S24x1 .i32) (x17 : Vec F S24x1 .i32) : FVec F S24x128 .f32 :=
  k0_pay215 (k0_pay351 x0 x1 x2 x3 x4 x5 x6 x7 x8 x9 x10 x11 x12 x13 x14 x15 x16 x17) (View.ld x16 r0_17) (View.ld x17 r0_17) -- `v1011`
def k0_pay365 (x0 : Vec F S2048x128 .f32) (x1 : Vec F S2048x128 .f32) (x2 : Vec F S2048x128 .f32) (x3 : Vec F S2048x128 .f32) (x4 : Vec F S2048x128 .f32) (x5 : Vec F S2048x128 .f32) (x6 : Vec F S2048x128 .f32) (x7 : Vec F S2048x128 .f32) (x8 : Vec F S2048x128 .f32) (x9 : Vec F S16x128 .f32) (x10 : Vec F S16x128 .i32) (x11 : Vec F S16x128 .f32) (x12 : Vec F S1x24 .f32) (x13 : Vec F S24x1 .f32) (x14 : Vec F S1x24 .i32) (x15 : Vec F S24x1 .i32) (x16 : Vec F S24x1 .i32) (x17 : Vec F S24x1 .i32) : FVec F S24x128 .f32 :=
  k0_pay216 (k0_pay351 x0 x1 x2 x3 x4 x5 x6 x7 x8 x9 x10 x11 x12 x13 x14 x15 x16 x17) (View.ld x16 r0_17) (View.ld x17 r0_17) -- `v1026`
def k0_pay366 (x0 : Vec F S2048x128 .f32) (x1 : Vec F S2048x128 .f32) (x2 : Vec F S2048x128 .f32) (x3 : Vec F S2048x128 .f32) (x4 : Vec F S2048x128 .f32) (x5 : Vec F S2048x128 .f32) (x6 : Vec F S2048x128 .f32) (x7 : Vec F S2048x128 .f32) (x8 : Vec F S2048x128 .f32) (x9 : Vec F S16x128 .f32) (x10 : Vec F S16x128 .i32) (x11 : Vec F S16x128 .f32) (x12 : Vec F S1x24 .f32) (x13 : Vec F S24x1 .f32) (x14 : Vec F S1x24 .i32) (x15 : Vec F S24x1 .i32) (x16 : Vec F S24x1 .i32) (x17 : Vec F S24x1 .i32) : FVec F S24x128 .f32 :=
  k0_pay218 (F := F) (k0_pay217 (k0_pay351 x0 x1 x2 x3 x4 x5 x6 x7 x8 x9 x10 x11 x12 x13 x14 x15 x16 x17) (View.ld x16 r0_17) (View.ld x17 r0_17)) -- `v1041`
def k0_pay367 (x0 : Vec F S2048x128 .f32) (x1 : Vec F S2048x128 .f32) (x2 : Vec F S2048x128 .f32) (x3 : Vec F S2048x128 .f32) (x4 : Vec F S2048x128 .f32) (x5 : Vec F S2048x128 .f32) (x6 : Vec F S2048x128 .f32) (x7 : Vec F S2048x128 .f32) (x8 : Vec F S2048x128 .f32) (x9 : Vec F S16x128 .f32) (x10 : Vec F S16x128 .i32) (x11 : Vec F S16x128 .f32) (x12 : Vec F S1x24 .f32) (x13 : Vec F S24x1 .f32) (x14 : Vec F S1x24 .i32) (x15 : Vec F S24x1 .i32) (x16 : Vec F S24x1 .i32) (x17 : Vec F S24x1 .i32) : FVec F S24x128 .f32 :=
  k0_pay219 (k0_pay351 x0 x1 x2 x3 x4 x5 x6 x7 x8 x9 x10 x11 x12 x13 x14 x15 x16 x17) (View.ld x16 r0_17) (View.ld x17 r0_17) -- `v1056`
def k0_pay368 (x0 : Vec F S2048x128 .f32) (x1 : Vec F S2048x128 .f32) (x2 : Vec F S2048x128 .f32) (x3 : Vec F S2048x128 .f32) (x4 : Vec F S2048x128 .f32) (x5 : Vec F S2048x128 .f32) (x6 : Vec F S2048x128 .f32) (x7 : Vec F S2048x128 .f32) (x8 : Vec F S2048x128 .f32) (x9 : Vec F S16x128 .f32) (x10 : Vec F S16x128 .i32) (x11 : Vec F S16x128 .f32) (x12 : Vec F S1x24 .f32) (x13 : Vec F S24x1 .f32) (x14 : Vec F S1x24 .i32) (x15 : Vec F S24x1 .i32) (x16 : Vec F S24x1 .i32) (x17 : Vec F S24x1 .i32) : FVec F S16x128 .f32 :=
  k0_pay228 (k0_pay350 x0 x1 x2 x3 x4 x5 x6 x7 x8 x9 x10 x11 x12 x13 x14 x15 x16 x17) (k0_pay360 x0 x1 x2 x3 x4 x5 x6 x7 x8 x9 x10 x11 x12 x13 x14 x15 x16 x17) (k0_pay361 x0 x1 x2 x3 x4 x5 x6 x7 x8 x9 x10 x11 x12 x13 x14 x15 x16 x17) (k0_pay362 x0 x1 x2 x3 x4 x5 x6 x7 x8 x9 x10 x11 x12 x13 x14 x15 x16 x17) (k0_pay363 x0 x1 x2 x3 x4 x5 x6 x7 x8 x9 x10 x11 x12 x13 x14 x15 x16 x17) (k0_pay364 x0 x1 x2 x3 x4 x5 x6 x7 x8 x9 x10 x11 x12 x13 x14 x15 x16 x17) (k0_pay365 x0 x1 x2 x3 x4 x5 x6 x7 x8 x9 x10 x11 x12 x13 x14 x15 x16 x17) (k0_pay366 x0 x1 x2 x3 x4 x5 x6 x7 x8 x9 x10 x11 x12 x13 x14 x15 x16 x17) (k0_pay367 x0 x1 x2 x3 x4 x5 x6 x7 x8 x9 x10 x11 x12 x13 x14 x15 x16 x17) (k0_pay220 (k0_pay350 x0 x1 x2 x3 x4 x5 x6 x7 x8 x9 x10 x11 x12 x13 x14 x15 x16 x17) (k0_pay352 x0 x1 x2 x3 x4 x5 x6 x7 x8 x9 x10 x11 x12 x13 x14 x15 x16 x17)) (k0_pay221 (k0_pay350 x0 x1 x2 x3 x4 x5 x6 x7 x8 x9 x10 x11 x12 x13 x14 x15 x16 x17) (k0_pay353 x0 x1 x2 x3 x4 x5 x6 x7 x8 x9 x10 x11 x12 x13 x14 x15 x16 x17)) (k0_pay222 (k0_pay350 x0 x1 x2 x3 x4 x5 x6 x7 x8 x9 x10 x11 x12 x13 x14 x15 x16 x17) (k0_pay354 x0 x1 x2 x3 x4 x5 x6 x7 x8 x9 x10 x11 x12 x13 x14 x15 x16 x17)) (k0_pay223 (k0_pay350 x0 x1 x2 x3 x4 x5 x6 x7 x8 x9 x10 x11 x12 x13 x14 x15 x16 x17) (k0_pay355 x0 x1 x2 x3 x4 x5 x6 x7 x8 x9 x10 x11 x12 x13 x14 x15 x16 x17)) (k0_pay224 (k0_pay350 x0 x1 x2 x3 x4 x5 x6 x7 x8 x9 x10 x11 x12 x13 x14 x15 x16 x17) (k0_pay356 x0 x1 x2 x3 x4 x5 x6 x7 x8 x9 x10 x11 x12 x13 x14 x15 x16 x17)) (k0_pay225 (k0_pay350 x0 x1 x2 x3 x4 x5 x6 x7 x8 x9 x10 x11 x12 x13 x14 x15 x16 x17) (k0_pay357 x0 x1 x2 x3 x4 x5 x6 x7 x8 x9 x10 x11 x12 x13 x14 x15 x16 x17)) (k0_pay226 (k0_pay350 x0 x1 x2 x3 x4 x5 x6 x7 x8 x9 x10 x11 x12 x13 x14 x15 x16 x17) (k0_pay358 x0 x1 x2 x3 x4 x5 x6 x7 x8 x9 x10 x11 x12 x13 x14 x15 x16 x17)) (k0_pay227 (k0_pay350 x0 x1 x2 x3 x4 x5 x6 x7 x8 x9 x10 x11 x12 x13 x14 x15 x16 x17) (k0_pay359 x0 x1 x2 x3 x4 x5 x6 x7 x8 x9 x10 x11 x12 x13 x14 x15 x16 x17)) -- `v1121`
def k0_pay369 (x0 : Vec F S2048x128 .f32) (x1 : Vec F S2048x128 .f32) (x2 : Vec F S2048x128 .f32) (x3 : Vec F S2048x128 .f32) (x4 : Vec F S2048x128 .f32) (x5 : Vec F S2048x128 .f32) (x6 : Vec F S2048x128 .f32) (x7 : Vec F S2048x128 .f32) (x8 : Vec F S2048x128 .f32) (x9 : Vec F S16x128 .f32) (x10 : Vec F S16x128 .i32) (x11 : Vec F S16x128 .f32) (x12 : Vec F S1x24 .f32) (x13 : Vec F S24x1 .f32) (x14 : Vec F S1x24 .i32) (x15 : Vec F S24x1 .i32) (x16 : Vec F S24x1 .i32) (x17 : Vec F S24x1 .i32) : FVec F S16x128 .f32 :=
  k0_pay231 (View.ld x10 r0_16) -- `v1130`
def k0_pay370 (x0 : Vec F S2048x128 .f32) (x1 : Vec F S2048x128 .f32) (x2 : Vec F S2048x128 .f32) (x3 : Vec F S2048x128 .f32) (x4 : Vec F S2048x128 .f32) (x5 : Vec F S2048x128 .f32) (x6 : Vec F S2048x128 .f32) (x7 : Vec F S2048x128 .f32) (x8 : Vec F S2048x128 .f32) (x9 : Vec F S16x128 .f32) (x10 : Vec F S16x128 .i32) (x11 : Vec F S16x128 .f32) (x12 : Vec F S1x24 .f32) (x13 : Vec F S24x1 .f32) (x14 : Vec F S1x24 .i32) (x15 : Vec F S24x1 .i32) (x16 : Vec F S24x1 .i32) (x17 : Vec F S24x1 .i32) : FVec F S16x128 .f32 :=
  k0_pay232 (View.ld x9 r0_16) -- `v1132`
def k0_pay371 (x0 : Vec F S2048x128 .f32) (x1 : Vec F S2048x128 .f32) (x2 : Vec F S2048x128 .f32) (x3 : Vec F S2048x128 .f32) (x4 : Vec F S2048x128 .f32) (x5 : Vec F S2048x128 .f32) (x6 : Vec F S2048x128 .f32) (x7 : Vec F S2048x128 .f32) (x8 : Vec F S2048x128 .f32) (x9 : Vec F S16x128 .f32) (x10 : Vec F S16x128 .i32) (x11 : Vec F S16x128 .f32) (x12 : Vec F S1x24 .f32) (x13 : Vec F S24x1 .f32) (x14 : Vec F S1x24 .i32) (x15 : Vec F S24x1 .i32) (x16 : Vec F S24x1 .i32) (x17 : Vec F S24x1 .i32) : IVec S1x128 32 :=
  iota .tc S1x128 32 [1] iota_S1x128_d1_w32 -- `v1154`
def k0_pay372 (x0 : Vec F S2048x128 .f32) (x1 : Vec F S2048x128 .f32) (x2 : Vec F S2048x128 .f32) (x3 : Vec F S2048x128 .f32) (x4 : Vec F S2048x128 .f32) (x5 : Vec F S2048x128 .f32) (x6 : Vec F S2048x128 .f32) (x7 : Vec F S2048x128 .f32) (x8 : Vec F S2048x128 .f32) (x9 : Vec F S16x128 .f32) (x10 : Vec F S16x128 .i32) (x11 : Vec F S16x128 .f32) (x12 : Vec F S1x24 .f32) (x13 : Vec F S24x1 .f32) (x14 : Vec F S1x24 .i32) (x15 : Vec F S24x1 .i32) (x16 : Vec F S24x1 .i32) (x17 : Vec F S24x1 .i32) : FVec F S16x128 .f32 :=
  k0_pay239 (k0_pay334 x0 x1 x2 x3 x4 x5 x6 x7 x8 x9 x10 x11 x12 x13 x14 x15 x16 x17) (k0_pay347 x0 x1 x2 x3 x4 x5 x6 x7 x8 x9 x10 x11 x12 x13 x14 x15 x16 x17) (k0_pay369 x0 x1 x2 x3 x4 x5 x6 x7 x8 x9 x10 x11 x12 x13 x14 x15 x16 x17) -- `v1161`
def k0_pay373 (x0 : Vec F S2048x128 .f32) (x1 : Vec F S2048x128 .f32) (x2 : Vec F S2048x128 .f32) (x3 : Vec F S2048x128 .f32) (x4 : Vec F S2048x128 .f32) (x5 : Vec F S2048x128 .f32) (x6 : Vec F S2048x128 .f32) (x7 : Vec F S2048x128 .f32) (x8 : Vec F S2048x128 .f32) (x9 : Vec F S16x128 .f32) (x10 : Vec F S16x128 .i32) (x11 : Vec F S16x128 .f32) (x12 : Vec F S1x24 .f32) (x13 : Vec F S24x1 .f32) (x14 : Vec F S1x24 .i32) (x15 : Vec F S24x1 .i32) (x16 : Vec F S24x1 .i32) (x17 : Vec F S24x1 .i32) : FVec F S16x128 .f32 :=
  k0_pay240 (k0_pay164 (k0_pay329 x0 x1 x2 x3 x4 x5 x6 x7 x8 x9 x10 x11 x12 x13 x14 x15 x16 x17) (k0_pay330 x0 x1 x2 x3 x4 x5 x6 x7 x8 x9 x10 x11 x12 x13 x14 x15 x16 x17) (k0_pay332 x0 x1 x2 x3 x4 x5 x6 x7 x8 x9 x10 x11 x12 x13 x14 x15 x16 x17)) (k0_pay369 x0 x1 x2 x3 x4 x5 x6 x7 x8 x9 x10 x11 x12 x13 x14 x15 x16 x17) -- `v1162`
def k0_pay374 (x0 : Vec F S2048x128 .f32) (x1 : Vec F S2048x128 .f32) (x2 : Vec F S2048x128 .f32) (x3 : Vec F S2048x128 .f32) (x4 : Vec F S2048x128 .f32) (x5 : Vec F S2048x128 .f32) (x6 : Vec F S2048x128 .f32) (x7 : Vec F S2048x128 .f32) (x8 : Vec F S2048x128 .f32) (x9 : Vec F S16x128 .f32) (x10 : Vec F S16x128 .i32) (x11 : Vec F S16x128 .f32) (x12 : Vec F S1x24 .f32) (x13 : Vec F S24x1 .f32) (x14 : Vec F S1x24 .i32) (x15 : Vec F S24x1 .i32) (x16 : Vec F S24x1 .i32) (x17 : Vec F S24x1 .i32) : FVec F S16x128 .f32 :=
  k0_pay251 (View.ld x11 r0_16) -- `v1391`
def k0_pay375 (x0 : Vec F S2048x128 .f32) (x1 : Vec F S2048x128 .f32) (x2 : Vec F S2048x128 .f32) (x3 : Vec F S2048x128 .f32) (x4 : Vec F S2048x128 .f32) (x5 : Vec F S2048x128 .f32) (x6 : Vec F S2048x128 .f32) (x7 : Vec F S2048x128 .f32) (x8 : Vec F S2048x128 .f32) (x9 : Vec F S16x128 .f32) (x10 : Vec F S16x128 .i32) (x11 : Vec F S16x128 .f32) (x12 : Vec F S1x24 .f32) (x13 : Vec F S24x1 .f32) (x14 : Vec F S1x24 .i32) (x15 : Vec F S24x1 .i32) (x16 : Vec F S24x1 .i32) (x17 : Vec F S24x1 .i32) : FVec F S16x128 .f32 :=
  k0_pay252 (k0_pay329 x0 x1 x2 x3 x4 x5 x6 x7 x8 x9 x10 x11 x12 x13 x14 x15 x16 x17) (k0_pay236 (k0_pay334 x0 x1 x2 x3 x4 x5 x6 x7 x8 x9 x10 x11 x12 x13 x14 x15 x16 x17) (k0_pay347 x0 x1 x2 x3 x4 x5 x6 x7 x8 x9 x10 x11 x12 x13 x14 x15 x16 x17) (k0_pay368 x0 x1 x2 x3 x4 x5 x6 x7 x8 x9 x10 x11 x12 x13 x14 x15 x16 x17) (k0_pay230 (View.ld x10 r0_16)) (k0_pay369 x0 x1 x2 x3 x4 x5 x6 x7 x8 x9 x10 x11 x12 x13 x14 x15 x16 x17) (k0_pay370 x0 x1 x2 x3 x4 x5 x6 x7 x8 x9 x10 x11 x12 x13 x14 x15 x16 x17)) (View.ld x11 r0_16) -- `v1395`

def out0_18 (x0 : Vec F S2048x128 .f32) (x1 : Vec F S2048x128 .f32) (x2 : Vec F S2048x128 .f32) (x3 : Vec F S2048x128 .f32) (x4 : Vec F S2048x128 .f32) (x5 : Vec F S2048x128 .f32) (x6 : Vec F S2048x128 .f32) (x7 : Vec F S2048x128 .f32) (x8 : Vec F S2048x128 .f32) (x9 : Vec F S16x128 .f32) (x10 : Vec F S16x128 .i32) (x11 : Vec F S16x128 .f32) (x12 : Vec F S1x24 .f32) (x13 : Vec F S24x1 .f32) (x14 : Vec F S1x24 .i32) (x15 : Vec F S24x1 .i32) (x16 : Vec F S24x1 .i32) (x17 : Vec F S24x1 .i32) : Vec F S16x128 .f32 :=
  View.canon [⟨r0_16, k0_pay334 x0 x1 x2 x3 x4 x5 x6 x7 x8 x9 x10 x11 x12 x13 x14 x15 x16 x17⟩]

theorem cover0_18 (p0 : Vec F S16x128 .f32) (y : S16x128.Idx) :
    ∃ pc ∈ ([⟨r0_16, p0⟩] : List (View.Piece (Elt F) S16x128 .f32)), y ∈ pc.1.set :=
  View.cover_of_tiled [⟨r0_16, p0⟩] S16x128.size (by rfl) y

def out0_19 (x0 : Vec F S2048x128 .f32) (x1 : Vec F S2048x128 .f32) (x2 : Vec F S2048x128 .f32) (x3 : Vec F S2048x128 .f32) (x4 : Vec F S2048x128 .f32) (x5 : Vec F S2048x128 .f32) (x6 : Vec F S2048x128 .f32) (x7 : Vec F S2048x128 .f32) (x8 : Vec F S2048x128 .f32) (x9 : Vec F S16x128 .f32) (x10 : Vec F S16x128 .i32) (x11 : Vec F S16x128 .f32) (x12 : Vec F S1x24 .f32) (x13 : Vec F S24x1 .f32) (x14 : Vec F S1x24 .i32) (x15 : Vec F S24x1 .i32) (x16 : Vec F S24x1 .i32) (x17 : Vec F S24x1 .i32) : Vec F S16x128 .f32 :=
  View.canon [⟨r0_16, k0_pay163 (k0_pay333 x0 x1 x2 x3 x4 x5 x6 x7 x8 x9 x10 x11 x12 x13 x14 x15 x16 x17) (k0_pay335 x0 x1 x2 x3 x4 x5 x6 x7 x8 x9 x10 x11 x12 x13 x14 x15 x16 x17) (k0_pay336 x0 x1 x2 x3 x4 x5 x6 x7 x8 x9 x10 x11 x12 x13 x14 x15 x16 x17) (k0_pay337 x0 x1 x2 x3 x4 x5 x6 x7 x8 x9 x10 x11 x12 x13 x14 x15 x16 x17) (k0_pay338 x0 x1 x2 x3 x4 x5 x6 x7 x8 x9 x10 x11 x12 x13 x14 x15 x16 x17) (k0_pay339 x0 x1 x2 x3 x4 x5 x6 x7 x8 x9 x10 x11 x12 x13 x14 x15 x16 x17) (k0_pay340 x0 x1 x2 x3 x4 x5 x6 x7 x8 x9 x10 x11 x12 x13 x14 x15 x16 x17) (k0_pay341 x0 x1 x2 x3 x4 x5 x6 x7 x8 x9 x10 x11 x12 x13 x14 x15 x16 x17) (k0_pay342 x0 x1 x2 x3 x4 x5 x6 x7 x8 x9 x10 x11 x12 x13 x14 x15 x16 x17) (k0_pay343 x0 x1 x2 x3 x4 x5 x6 x7 x8 x9 x10 x11 x12 x13 x14 x15 x16 x17) (k0_pay344 x0 x1 x2 x3 x4 x5 x6 x7 x8 x9 x10 x11 x12 x13 x14 x15 x16 x17) (k0_pay345 x0 x1 x2 x3 x4 x5 x6 x7 x8 x9 x10 x11 x12 x13 x14 x15 x16 x17) (k0_pay346 x0 x1 x2 x3 x4 x5 x6 x7 x8 x9 x10 x11 x12 x13 x14 x15 x16 x17) (View.ld x6 r0_12) (View.ld x6 r0_13) (View.ld x6 r0_14) (View.ld x6 r0_15)⟩]

theorem cover0_19 (p0 : Vec F S16x128 .f32) (y : S16x128.Idx) :
    ∃ pc ∈ ([⟨r0_16, p0⟩] : List (View.Piece (Elt F) S16x128 .f32)), y ∈ pc.1.set :=
  View.cover_of_tiled [⟨r0_16, p0⟩] S16x128.size (by rfl) y

def out0_20 (x0 : Vec F S2048x128 .f32) (x1 : Vec F S2048x128 .f32) (x2 : Vec F S2048x128 .f32) (x3 : Vec F S2048x128 .f32) (x4 : Vec F S2048x128 .f32) (x5 : Vec F S2048x128 .f32) (x6 : Vec F S2048x128 .f32) (x7 : Vec F S2048x128 .f32) (x8 : Vec F S2048x128 .f32) (x9 : Vec F S16x128 .f32) (x10 : Vec F S16x128 .i32) (x11 : Vec F S16x128 .f32) (x12 : Vec F S1x24 .f32) (x13 : Vec F S24x1 .f32) (x14 : Vec F S1x24 .i32) (x15 : Vec F S24x1 .i32) (x16 : Vec F S24x1 .i32) (x17 : Vec F S24x1 .i32) : Vec F S16x128 .f32 :=
  View.canon [⟨r0_16, k0_pay164 (k0_pay329 x0 x1 x2 x3 x4 x5 x6 x7 x8 x9 x10 x11 x12 x13 x14 x15 x16 x17) (k0_pay330 x0 x1 x2 x3 x4 x5 x6 x7 x8 x9 x10 x11 x12 x13 x14 x15 x16 x17) (k0_pay332 x0 x1 x2 x3 x4 x5 x6 x7 x8 x9 x10 x11 x12 x13 x14 x15 x16 x17)⟩]

theorem cover0_20 (p0 : Vec F S16x128 .f32) (y : S16x128.Idx) :
    ∃ pc ∈ ([⟨r0_16, p0⟩] : List (View.Piece (Elt F) S16x128 .f32)), y ∈ pc.1.set :=
  View.cover_of_tiled [⟨r0_16, p0⟩] S16x128.size (by rfl) y

def out0_21 (x0 : Vec F S2048x128 .f32) (x1 : Vec F S2048x128 .f32) (x2 : Vec F S2048x128 .f32) (x3 : Vec F S2048x128 .f32) (x4 : Vec F S2048x128 .f32) (x5 : Vec F S2048x128 .f32) (x6 : Vec F S2048x128 .f32) (x7 : Vec F S2048x128 .f32) (x8 : Vec F S2048x128 .f32) (x9 : Vec F S16x128 .f32) (x10 : Vec F S16x128 .i32) (x11 : Vec F S16x128 .f32) (x12 : Vec F S1x24 .f32) (x13 : Vec F S24x1 .f32) (x14 : Vec F S1x24 .i32) (x15 : Vec F S24x1 .i32) (x16 : Vec F S24x1 .i32) (x17 : Vec F S24x1 .i32) : Vec F S16x128 .f32 :=
  View.canon [⟨r0_16, k0_pay236 (k0_pay334 x0 x1 x2 x3 x4 x5 x6 x7 x8 x9 x10 x11 x12 x13 x14 x15 x16 x17) (k0_pay347 x0 x1 x2 x3 x4 x5 x6 x7 x8 x9 x10 x11 x12 x13 x14 x15 x16 x17) (k0_pay368 x0 x1 x2 x3 x4 x5 x6 x7 x8 x9 x10 x11 x12 x13 x14 x15 x16 x17) (k0_pay230 (View.ld x10 r0_16)) (k0_pay369 x0 x1 x2 x3 x4 x5 x6 x7 x8 x9 x10 x11 x12 x13 x14 x15 x16 x17) (k0_pay370 x0 x1 x2 x3 x4 x5 x6 x7 x8 x9 x10 x11 x12 x13 x14 x15 x16 x17)⟩]

theorem cover0_21 (p0 : Vec F S16x128 .f32) (y : S16x128.Idx) :
    ∃ pc ∈ ([⟨r0_16, p0⟩] : List (View.Piece (Elt F) S16x128 .f32)), y ∈ pc.1.set :=
  View.cover_of_tiled [⟨r0_16, p0⟩] S16x128.size (by rfl) y

def out0_22 (x0 : Vec F S2048x128 .f32) (x1 : Vec F S2048x128 .f32) (x2 : Vec F S2048x128 .f32) (x3 : Vec F S2048x128 .f32) (x4 : Vec F S2048x128 .f32) (x5 : Vec F S2048x128 .f32) (x6 : Vec F S2048x128 .f32) (x7 : Vec F S2048x128 .f32) (x8 : Vec F S2048x128 .f32) (x9 : Vec F S16x128 .f32) (x10 : Vec F S16x128 .i32) (x11 : Vec F S16x128 .f32) (x12 : Vec F S1x24 .f32) (x13 : Vec F S24x1 .f32) (x14 : Vec F S1x24 .i32) (x15 : Vec F S24x1 .i32) (x16 : Vec F S24x1 .i32) (x17 : Vec F S24x1 .i32) : Vec F S16x128 .f32 :=
  View.canon [⟨r0_16, k0_pay179 (k0_pay165 (View.ld x7 r0_0)) (k0_pay166 (View.ld x7 r0_1)) (k0_pay167 (View.ld x7 r0_2)) (k0_pay168 (View.ld x7 r0_3)) (k0_pay169 (View.ld x7 r0_4)) (k0_pay170 (View.ld x7 r0_5)) (k0_pay171 (View.ld x7 r0_6)) (k0_pay172 (View.ld x7 r0_7)) (k0_pay173 (View.ld x7 r0_8)) (k0_pay174 (View.ld x7 r0_9)) (k0_pay175 (View.ld x7 r0_10)) (k0_pay176 (View.ld x7 r0_11)) (k0_pay177 (View.ld x7 r0_12)) (k0_pay178 (View.ld x7 r0_13)) (View.ld x7 r0_14) (View.ld x7 r0_15)⟩]

theorem cover0_22 (p0 : Vec F S16x128 .f32) (y : S16x128.Idx) :
    ∃ pc ∈ ([⟨r0_16, p0⟩] : List (View.Piece (Elt F) S16x128 .f32)), y ∈ pc.1.set :=
  View.cover_of_tiled [⟨r0_16, p0⟩] S16x128.size (by rfl) y

def out0_23 (x0 : Vec F S2048x128 .f32) (x1 : Vec F S2048x128 .f32) (x2 : Vec F S2048x128 .f32) (x3 : Vec F S2048x128 .f32) (x4 : Vec F S2048x128 .f32) (x5 : Vec F S2048x128 .f32) (x6 : Vec F S2048x128 .f32) (x7 : Vec F S2048x128 .f32) (x8 : Vec F S2048x128 .f32) (x9 : Vec F S16x128 .f32) (x10 : Vec F S16x128 .i32) (x11 : Vec F S16x128 .f32) (x12 : Vec F S1x24 .f32) (x13 : Vec F S24x1 .f32) (x14 : Vec F S1x24 .i32) (x15 : Vec F S24x1 .i32) (x16 : Vec F S24x1 .i32) (x17 : Vec F S24x1 .i32) : Vec F S16x128 .f32 :=
  View.canon [⟨r0_16, k0_pay189 (k0_pay180 (View.ld x8 r0_0)) (k0_pay181 (View.ld x8 r0_1)) (k0_pay182 (View.ld x8 r0_2)) (k0_pay183 (View.ld x8 r0_3)) (k0_pay184 (View.ld x8 r0_4)) (k0_pay185 (View.ld x8 r0_5)) (k0_pay186 (View.ld x8 r0_6)) (k0_pay187 (View.ld x8 r0_7)) (k0_pay188 (View.ld x8 r0_8)) (View.ld x8 r0_9) (View.ld x8 r0_10) (View.ld x8 r0_11) (View.ld x8 r0_12) (View.ld x8 r0_13) (View.ld x8 r0_14) (View.ld x8 r0_15)⟩]

theorem cover0_23 (p0 : Vec F S16x128 .f32) (y : S16x128.Idx) :
    ∃ pc ∈ ([⟨r0_16, p0⟩] : List (View.Piece (Elt F) S16x128 .f32)), y ∈ pc.1.set :=
  View.cover_of_tiled [⟨r0_16, p0⟩] S16x128.size (by rfl) y

def out0_24 (x0 : Vec F S2048x128 .f32) (x1 : Vec F S2048x128 .f32) (x2 : Vec F S2048x128 .f32) (x3 : Vec F S2048x128 .f32) (x4 : Vec F S2048x128 .f32) (x5 : Vec F S2048x128 .f32) (x6 : Vec F S2048x128 .f32) (x7 : Vec F S2048x128 .f32) (x8 : Vec F S2048x128 .f32) (x9 : Vec F S16x128 .f32) (x10 : Vec F S16x128 .i32) (x11 : Vec F S16x128 .f32) (x12 : Vec F S1x24 .f32) (x13 : Vec F S24x1 .f32) (x14 : Vec F S1x24 .i32) (x15 : Vec F S24x1 .i32) (x16 : Vec F S24x1 .i32) (x17 : Vec F S24x1 .i32) : Vec F S1x24 .f32 :=
  View.canon [⟨r0_18, k0_pay198 (k0_pay348 x0 x1 x2 x3 x4 x5 x6 x7 x8 x9 x10 x11 x12 x13 x14 x15 x16 x17) (k0_pay349 x0 x1 x2 x3 x4 x5 x6 x7 x8 x9 x10 x11 x12 x13 x14 x15 x16 x17) (View.ld x13 r0_17)⟩]

theorem cover0_24 (p0 : Vec F S1x24 .f32) (y : S1x24.Idx) :
    ∃ pc ∈ ([⟨r0_18, p0⟩] : List (View.Piece (Elt F) S1x24 .f32)), y ∈ pc.1.set :=
  View.cover_of_tiled [⟨r0_18, p0⟩] S1x24.size (by rfl) y

def out0_25 (x0 : Vec F S2048x128 .f32) (x1 : Vec F S2048x128 .f32) (x2 : Vec F S2048x128 .f32) (x3 : Vec F S2048x128 .f32) (x4 : Vec F S2048x128 .f32) (x5 : Vec F S2048x128 .f32) (x6 : Vec F S2048x128 .f32) (x7 : Vec F S2048x128 .f32) (x8 : Vec F S2048x128 .f32) (x9 : Vec F S16x128 .f32) (x10 : Vec F S16x128 .i32) (x11 : Vec F S16x128 .f32) (x12 : Vec F S1x24 .f32) (x13 : Vec F S24x1 .f32) (x14 : Vec F S1x24 .i32) (x15 : Vec F S24x1 .i32) (x16 : Vec F S24x1 .i32) (x17 : Vec F S24x1 .i32) : Vec F S8x128 .f32 :=
  View.canon [⟨r0_19, k0_pay250 (k0_pay363 x0 x1 x2 x3 x4 x5 x6 x7 x8 x9 x10 x11 x12 x13 x14 x15 x16 x17) (k0_pay364 x0 x1 x2 x3 x4 x5 x6 x7 x8 x9 x10 x11 x12 x13 x14 x15 x16 x17) (k0_pay365 x0 x1 x2 x3 x4 x5 x6 x7 x8 x9 x10 x11 x12 x13 x14 x15 x16 x17) (k0_pay366 x0 x1 x2 x3 x4 x5 x6 x7 x8 x9 x10 x11 x12 x13 x14 x15 x16 x17) (k0_pay367 x0 x1 x2 x3 x4 x5 x6 x7 x8 x9 x10 x11 x12 x13 x14 x15 x16 x17) (k0_pay371 x0 x1 x2 x3 x4 x5 x6 x7 x8 x9 x10 x11 x12 x13 x14 x15 x16 x17) (k0_pay373 x0 x1 x2 x3 x4 x5 x6 x7 x8 x9 x10 x11 x12 x13 x14 x15 x16 x17) (k0_pay248 (k0_pay367 x0 x1 x2 x3 x4 x5 x6 x7 x8 x9 x10 x11 x12 x13 x14 x15 x16 x17) (k0_pay371 x0 x1 x2 x3 x4 x5 x6 x7 x8 x9 x10 x11 x12 x13 x14 x15 x16 x17) (k0_pay243 (k0_pay356 x0 x1 x2 x3 x4 x5 x6 x7 x8 x9 x10 x11 x12 x13 x14 x15 x16 x17) (k0_pay357 x0 x1 x2 x3 x4 x5 x6 x7 x8 x9 x10 x11 x12 x13 x14 x15 x16 x17) (k0_pay358 x0 x1 x2 x3 x4 x5 x6 x7 x8 x9 x10 x11 x12 x13 x14 x15 x16 x17) (k0_pay359 x0 x1 x2 x3 x4 x5 x6 x7 x8 x9 x10 x11 x12 x13 x14 x15 x16 x17) (k0_pay360 x0 x1 x2 x3 x4 x5 x6 x7 x8 x9 x10 x11 x12 x13 x14 x15 x16 x17) (k0_pay361 x0 x1 x2 x3 x4 x5 x6 x7 x8 x9 x10 x11 x12 x13 x14 x15 x16 x17) (k0_pay362 x0 x1 x2 x3 x4 x5 x6 x7 x8 x9 x10 x11 x12 x13 x14 x15 x16 x17) (k0_pay363 x0 x1 x2 x3 x4 x5 x6 x7 x8 x9 x10 x11 x12 x13 x14 x15 x16 x17) (k0_pay364 x0 x1 x2 x3 x4 x5 x6 x7 x8 x9 x10 x11 x12 x13 x14 x15 x16 x17) (k0_pay365 x0 x1 x2 x3 x4 x5 x6 x7 x8 x9 x10 x11 x12 x13 x14 x15 x16 x17) (k0_pay366 x0 x1 x2 x3 x4 x5 x6 x7 x8 x9 x10 x11 x12 x13 x14 x15 x16 x17) (k0_pay367 x0 x1 x2 x3 x4 x5 x6 x7 x8 x9 x10 x11 x12 x13 x14 x15 x16 x17) (k0_pay371 x0 x1 x2 x3 x4 x5 x6 x7 x8 x9 x10 x11 x12 x13 x14 x15 x16 x17) (k0_pay237 (F := F)) (k0_pay238 (k0_pay334 x0 x1 x2 x3 x4 x5 x6 x7 x8 x9 x10 x11 x12 x13 x14 x15 x16 x17) (k0_pay368 x0 x1 x2 x3 x4 x5 x6 x7 x8 x9 x10 x11 x12 x13 x14 x15 x16 x17) (k0_pay369 x0 x1 x2 x3 x4 x5 x6 x7 x8 x9 x10 x11 x12 x13 x14 x15 x16 x17) (k0_pay370 x0 x1 x2 x3 x4 x5 x6 x7 x8 x9 x10 x11 x12 x13 x14 x15 x16 x17)) (k0_pay241 (k0_pay334 x0 x1 x2 x3 x4 x5 x6 x7 x8 x9 x10 x11 x12 x13 x14 x15 x16 x17) (k0_pay352 x0 x1 x2 x3 x4 x5 x6 x7 x8 x9 x10 x11 x12 x13 x14 x15 x16 x17) (k0_pay353 x0 x1 x2 x3 x4 x5 x6 x7 x8 x9 x10 x11 x12 x13 x14 x15 x16 x17) (k0_pay354 x0 x1 x2 x3 x4 x5 x6 x7 x8 x9 x10 x11 x12 x13 x14 x15 x16 x17) (k0_pay355 x0 x1 x2 x3 x4 x5 x6 x7 x8 x9 x10 x11 x12 x13 x14 x15 x16 x17) (k0_pay368 x0 x1 x2 x3 x4 x5 x6 x7 x8 x9 x10 x11 x12 x13 x14 x15 x16 x17) (k0_pay369 x0 x1 x2 x3 x4 x5 x6 x7 x8 x9 x10 x11 x12 x13 x14 x15 x16 x17) (k0_pay370 x0 x1 x2 x3 x4 x5 x6 x7 x8 x9 x10 x11 x12 x13 x14 x15 x16 x17)) (k0_pay242 (k0_pay334 x0 x1 x2 x3 x4 x5 x6 x7 x8 x9 x10 x11 x12 x13 x14 x15 x16 x17) (k0_pay368 x0 x1 x2 x3 x4 x5 x6 x7 x8 x9 x10 x11 x12 x13 x14 x15 x16 x17) (k0_pay369 x0 x1 x2 x3 x4 x5 x6 x7 x8 x9 x10 x11 x12 x13 x14 x15 x16 x17) (k0_pay370 x0 x1 x2 x3 x4 x5 x6 x7 x8 x9 x10 x11 x12 x13 x14 x15 x16 x17))) (k0_pay246 (k0_pay352 x0 x1 x2 x3 x4 x5 x6 x7 x8 x9 x10 x11 x12 x13 x14 x15 x16 x17) (k0_pay353 x0 x1 x2 x3 x4 x5 x6 x7 x8 x9 x10 x11 x12 x13 x14 x15 x16 x17) (k0_pay354 x0 x1 x2 x3 x4 x5 x6 x7 x8 x9 x10 x11 x12 x13 x14 x15 x16 x17) (k0_pay355 x0 x1 x2 x3 x4 x5 x6 x7 x8 x9 x10 x11 x12 x13 x14 x15 x16 x17) (k0_pay356 x0 x1 x2 x3 x4 x5 x6 x7 x8 x9 x10 x11 x12 x13 x14 x15 x16 x17) (k0_pay357 x0 x1 x2 x3 x4 x5 x6 x7 x8 x9 x10 x11 x12 x13 x14 x15 x16 x17) (k0_pay358 x0 x1 x2 x3 x4 x5 x6 x7 x8 x9 x10 x11 x12 x13 x14 x15 x16 x17) (k0_pay359 x0 x1 x2 x3 x4 x5 x6 x7 x8 x9 x10 x11 x12 x13 x14 x15 x16 x17) (k0_pay360 x0 x1 x2 x3 x4 x5 x6 x7 x8 x9 x10 x11 x12 x13 x14 x15 x16 x17) (k0_pay361 x0 x1 x2 x3 x4 x5 x6 x7 x8 x9 x10 x11 x12 x13 x14 x15 x16 x17) (k0_pay362 x0 x1 x2 x3 x4 x5 x6 x7 x8 x9 x10 x11 x12 x13 x14 x15 x16 x17) (k0_pay363 x0 x1 x2 x3 x4 x5 x6 x7 x8 x9 x10 x11 x12 x13 x14 x15 x16 x17) (k0_pay364 x0 x1 x2 x3 x4 x5 x6 x7 x8 x9 x10 x11 x12 x13 x14 x15 x16 x17) (k0_pay365 x0 x1 x2 x3 x4 x5 x6 x7 x8 x9 x10 x11 x12 x13 x14 x15 x16 x17) (k0_pay366 x0 x1 x2 x3 x4 x5 x6 x7 x8 x9 x10 x11 x12 x13 x14 x15 x16 x17) (k0_pay372 x0 x1 x2 x3 x4 x5 x6 x7 x8 x9 x10 x11 x12 x13 x14 x15 x16 x17) (k0_pay244 (F := F)) (k0_pay245 (k0_pay372 x0 x1 x2 x3 x4 x5 x6 x7 x8 x9 x10 x11 x12 x13 x14 x15 x16 x17))) (k0_pay247 (k0_pay372 x0 x1 x2 x3 x4 x5 x6 x7 x8 x9 x10 x11 x12 x13 x14 x15 x16 x17))) (k0_pay249 (k0_pay352 x0 x1 x2 x3 x4 x5 x6 x7 x8 x9 x10 x11 x12 x13 x14 x15 x16 x17) (k0_pay353 x0 x1 x2 x3 x4 x5 x6 x7 x8 x9 x10 x11 x12 x13 x14 x15 x16 x17) (k0_pay354 x0 x1 x2 x3 x4 x5 x6 x7 x8 x9 x10 x11 x12 x13 x14 x15 x16 x17) (k0_pay355 x0 x1 x2 x3 x4 x5 x6 x7 x8 x9 x10 x11 x12 x13 x14 x15 x16 x17) (k0_pay356 x0 x1 x2 x3 x4 x5 x6 x7 x8 x9 x10 x11 x12 x13 x14 x15 x16 x17) (k0_pay357 x0 x1 x2 x3 x4 x5 x6 x7 x8 x9 x10 x11 x12 x13 x14 x15 x16 x17) (k0_pay358 x0 x1 x2 x3 x4 x5 x6 x7 x8 x9 x10 x11 x12 x13 x14 x15 x16 x17) (k0_pay359 x0 x1 x2 x3 x4 x5 x6 x7 x8 x9 x10 x11 x12 x13 x14 x15 x16 x17) (k0_pay360 x0 x1 x2 x3 x4 x5 x6 x7 x8 x9 x10 x11 x12 x13 x14 x15 x16 x17) (k0_pay361 x0 x1 x2 x3 x4 x5 x6 x7 x8 x9 x10 x11 x12 x13 x14 x15 x16 x17) (k0_pay362 x0 x1 x2 x3 x4 x5 x6 x7 x8 x9 x10 x11 x12 x13 x14 x15 x16 x17) (k0_pay373 x0 x1 x2 x3 x4 x5 x6 x7 x8 x9 x10 x11 x12 x13 x14 x15 x16 x17))⟩]

theorem cover0_25 (p0 : Vec F S8x128 .f32) (y : S8x128.Idx) :
    ∃ pc ∈ ([⟨r0_19, p0⟩] : List (View.Piece (Elt F) S8x128 .f32)), y ∈ pc.1.set :=
  View.cover_of_tiled [⟨r0_19, p0⟩] S8x128.size (by rfl) y

def out0_26 (x0 : Vec F S2048x128 .f32) (x1 : Vec F S2048x128 .f32) (x2 : Vec F S2048x128 .f32) (x3 : Vec F S2048x128 .f32) (x4 : Vec F S2048x128 .f32) (x5 : Vec F S2048x128 .f32) (x6 : Vec F S2048x128 .f32) (x7 : Vec F S2048x128 .f32) (x8 : Vec F S2048x128 .f32) (x9 : Vec F S16x128 .f32) (x10 : Vec F S16x128 .i32) (x11 : Vec F S16x128 .f32) (x12 : Vec F S1x24 .f32) (x13 : Vec F S24x1 .f32) (x14 : Vec F S1x24 .i32) (x15 : Vec F S24x1 .i32) (x16 : Vec F S24x1 .i32) (x17 : Vec F S24x1 .i32) : Vec F S2048x128 .f32 :=
  View.canon [⟨r0_15, k0_pay317 (k0_pay328 x0 x1 x2 x3 x4 x5 x6 x7 x8 x9 x10 x11 x12 x13 x14 x15 x16 x17)⟩,
    ⟨r0_14, k0_pay313 (k0_pay328 x0 x1 x2 x3 x4 x5 x6 x7 x8 x9 x10 x11 x12 x13 x14 x15 x16 x17)⟩,
    ⟨r0_13, k0_pay309 (k0_pay328 x0 x1 x2 x3 x4 x5 x6 x7 x8 x9 x10 x11 x12 x13 x14 x15 x16 x17)⟩,
    ⟨r0_12, k0_pay305 (k0_pay328 x0 x1 x2 x3 x4 x5 x6 x7 x8 x9 x10 x11 x12 x13 x14 x15 x16 x17)⟩,
    ⟨r0_11, k0_pay300 (k0_pay328 x0 x1 x2 x3 x4 x5 x6 x7 x8 x9 x10 x11 x12 x13 x14 x15 x16 x17)⟩,
    ⟨r0_10, k0_pay296 (k0_pay328 x0 x1 x2 x3 x4 x5 x6 x7 x8 x9 x10 x11 x12 x13 x14 x15 x16 x17)⟩,
    ⟨r0_9, k0_pay292 (k0_pay328 x0 x1 x2 x3 x4 x5 x6 x7 x8 x9 x10 x11 x12 x13 x14 x15 x16 x17)⟩,
    ⟨r0_8, k0_pay288 (k0_pay328 x0 x1 x2 x3 x4 x5 x6 x7 x8 x9 x10 x11 x12 x13 x14 x15 x16 x17)⟩,
    ⟨r0_7, k0_pay283 (k0_pay328 x0 x1 x2 x3 x4 x5 x6 x7 x8 x9 x10 x11 x12 x13 x14 x15 x16 x17)⟩,
    ⟨r0_6, k0_pay279 (k0_pay328 x0 x1 x2 x3 x4 x5 x6 x7 x8 x9 x10 x11 x12 x13 x14 x15 x16 x17)⟩,
    ⟨r0_5, k0_pay275 (k0_pay328 x0 x1 x2 x3 x4 x5 x6 x7 x8 x9 x10 x11 x12 x13 x14 x15 x16 x17)⟩,
    ⟨r0_4, k0_pay271 (k0_pay270 (k0_pay328 x0 x1 x2 x3 x4 x5 x6 x7 x8 x9 x10 x11 x12 x13 x14 x15 x16 x17))⟩,
    ⟨r0_3, k0_pay266 (k0_pay328 x0 x1 x2 x3 x4 x5 x6 x7 x8 x9 x10 x11 x12 x13 x14 x15 x16 x17)⟩,
    ⟨r0_2, k0_pay262 (k0_pay328 x0 x1 x2 x3 x4 x5 x6 x7 x8 x9 x10 x11 x12 x13 x14 x15 x16 x17)⟩,
    ⟨r0_1, k0_pay258 (k0_pay328 x0 x1 x2 x3 x4 x5 x6 x7 x8 x9 x10 x11 x12 x13 x14 x15 x16 x17)⟩,
    ⟨r0_0, k0_pay253 (k0_pay328 x0 x1 x2 x3 x4 x5 x6 x7 x8 x9 x10 x11 x12 x13 x14 x15 x16 x17)⟩]

theorem cover0_26 (p0 : Vec F S128x128 .f32) (p1 : Vec F S128x128 .f32) (p2 : Vec F S128x128 .f32) (p3 : Vec F S128x128 .f32) (p4 : Vec F S128x128 .f32) (p5 : Vec F S128x128 .f32) (p6 : Vec F S128x128 .f32) (p7 : Vec F S128x128 .f32) (p8 : Vec F S128x128 .f32) (p9 : Vec F S128x128 .f32) (p10 : Vec F S128x128 .f32) (p11 : Vec F S128x128 .f32) (p12 : Vec F S128x128 .f32) (p13 : Vec F S128x128 .f32) (p14 : Vec F S128x128 .f32) (p15 : Vec F S128x128 .f32) (y : S2048x128.Idx) :
    ∃ pc ∈ ([⟨r0_15, p0⟩, ⟨r0_14, p1⟩, ⟨r0_13, p2⟩, ⟨r0_12, p3⟩, ⟨r0_11, p4⟩, ⟨r0_10, p5⟩, ⟨r0_9, p6⟩, ⟨r0_8, p7⟩, ⟨r0_7, p8⟩, ⟨r0_6, p9⟩, ⟨r0_5, p10⟩, ⟨r0_4, p11⟩, ⟨r0_3, p12⟩, ⟨r0_2, p13⟩, ⟨r0_1, p14⟩, ⟨r0_0, p15⟩] : List (View.Piece (Elt F) S2048x128 .f32)), y ∈ pc.1.set :=
  View.cover_of_tiled [⟨r0_15, p0⟩, ⟨r0_14, p1⟩, ⟨r0_13, p2⟩, ⟨r0_12, p3⟩, ⟨r0_11, p4⟩, ⟨r0_10, p5⟩, ⟨r0_9, p6⟩, ⟨r0_8, p7⟩, ⟨r0_7, p8⟩, ⟨r0_6, p9⟩, ⟨r0_5, p10⟩, ⟨r0_4, p11⟩, ⟨r0_3, p12⟩, ⟨r0_2, p13⟩, ⟨r0_1, p14⟩, ⟨r0_0, p15⟩] S128x128.size (by rfl) y

def out0_27 (x0 : Vec F S2048x128 .f32) (x1 : Vec F S2048x128 .f32) (x2 : Vec F S2048x128 .f32) (x3 : Vec F S2048x128 .f32) (x4 : Vec F S2048x128 .f32) (x5 : Vec F S2048x128 .f32) (x6 : Vec F S2048x128 .f32) (x7 : Vec F S2048x128 .f32) (x8 : Vec F S2048x128 .f32) (x9 : Vec F S16x128 .f32) (x10 : Vec F S16x128 .i32) (x11 : Vec F S16x128 .f32) (x12 : Vec F S1x24 .f32) (x13 : Vec F S24x1 .f32) (x14 : Vec F S1x24 .i32) (x15 : Vec F S24x1 .i32) (x16 : Vec F S24x1 .i32) (x17 : Vec F S24x1 .i32) : Vec F S2048x128 .f32 :=
  View.canon [⟨r0_15, k0_pay319 (k0_pay318 (k0_pay329 x0 x1 x2 x3 x4 x5 x6 x7 x8 x9 x10 x11 x12 x13 x14 x15 x16 x17))⟩,
    ⟨r0_14, k0_pay314 (k0_pay329 x0 x1 x2 x3 x4 x5 x6 x7 x8 x9 x10 x11 x12 x13 x14 x15 x16 x17)⟩,
    ⟨r0_13, k0_pay310 (k0_pay329 x0 x1 x2 x3 x4 x5 x6 x7 x8 x9 x10 x11 x12 x13 x14 x15 x16 x17)⟩,
    ⟨r0_12, k0_pay306 (k0_pay329 x0 x1 x2 x3 x4 x5 x6 x7 x8 x9 x10 x11 x12 x13 x14 x15 x16 x17)⟩,
    ⟨r0_11, k0_pay301 (k0_pay329 x0 x1 x2 x3 x4 x5 x6 x7 x8 x9 x10 x11 x12 x13 x14 x15 x16 x17)⟩,
    ⟨r0_10, k0_pay297 (k0_pay329 x0 x1 x2 x3 x4 x5 x6 x7 x8 x9 x10 x11 x12 x13 x14 x15 x16 x17)⟩,
    ⟨r0_9, k0_pay293 (k0_pay329 x0 x1 x2 x3 x4 x5 x6 x7 x8 x9 x10 x11 x12 x13 x14 x15 x16 x17)⟩,
    ⟨r0_8, k0_pay289 (k0_pay329 x0 x1 x2 x3 x4 x5 x6 x7 x8 x9 x10 x11 x12 x13 x14 x15 x16 x17)⟩,
    ⟨r0_7, k0_pay284 (k0_pay329 x0 x1 x2 x3 x4 x5 x6 x7 x8 x9 x10 x11 x12 x13 x14 x15 x16 x17)⟩,
    ⟨r0_6, k0_pay280 (k0_pay329 x0 x1 x2 x3 x4 x5 x6 x7 x8 x9 x10 x11 x12 x13 x14 x15 x16 x17)⟩,
    ⟨r0_5, k0_pay276 (k0_pay329 x0 x1 x2 x3 x4 x5 x6 x7 x8 x9 x10 x11 x12 x13 x14 x15 x16 x17)⟩,
    ⟨r0_4, k0_pay272 (k0_pay329 x0 x1 x2 x3 x4 x5 x6 x7 x8 x9 x10 x11 x12 x13 x14 x15 x16 x17)⟩,
    ⟨r0_3, k0_pay267 (k0_pay329 x0 x1 x2 x3 x4 x5 x6 x7 x8 x9 x10 x11 x12 x13 x14 x15 x16 x17)⟩,
    ⟨r0_2, k0_pay263 (k0_pay329 x0 x1 x2 x3 x4 x5 x6 x7 x8 x9 x10 x11 x12 x13 x14 x15 x16 x17)⟩,
    ⟨r0_1, k0_pay259 (k0_pay329 x0 x1 x2 x3 x4 x5 x6 x7 x8 x9 x10 x11 x12 x13 x14 x15 x16 x17)⟩,
    ⟨r0_0, k0_pay255 (k0_pay254 (k0_pay329 x0 x1 x2 x3 x4 x5 x6 x7 x8 x9 x10 x11 x12 x13 x14 x15 x16 x17))⟩]

theorem cover0_27 (p0 : Vec F S128x128 .f32) (p1 : Vec F S128x128 .f32) (p2 : Vec F S128x128 .f32) (p3 : Vec F S128x128 .f32) (p4 : Vec F S128x128 .f32) (p5 : Vec F S128x128 .f32) (p6 : Vec F S128x128 .f32) (p7 : Vec F S128x128 .f32) (p8 : Vec F S128x128 .f32) (p9 : Vec F S128x128 .f32) (p10 : Vec F S128x128 .f32) (p11 : Vec F S128x128 .f32) (p12 : Vec F S128x128 .f32) (p13 : Vec F S128x128 .f32) (p14 : Vec F S128x128 .f32) (p15 : Vec F S128x128 .f32) (y : S2048x128.Idx) :
    ∃ pc ∈ ([⟨r0_15, p0⟩, ⟨r0_14, p1⟩, ⟨r0_13, p2⟩, ⟨r0_12, p3⟩, ⟨r0_11, p4⟩, ⟨r0_10, p5⟩, ⟨r0_9, p6⟩, ⟨r0_8, p7⟩, ⟨r0_7, p8⟩, ⟨r0_6, p9⟩, ⟨r0_5, p10⟩, ⟨r0_4, p11⟩, ⟨r0_3, p12⟩, ⟨r0_2, p13⟩, ⟨r0_1, p14⟩, ⟨r0_0, p15⟩] : List (View.Piece (Elt F) S2048x128 .f32)), y ∈ pc.1.set :=
  View.cover_of_tiled [⟨r0_15, p0⟩, ⟨r0_14, p1⟩, ⟨r0_13, p2⟩, ⟨r0_12, p3⟩, ⟨r0_11, p4⟩, ⟨r0_10, p5⟩, ⟨r0_9, p6⟩, ⟨r0_8, p7⟩, ⟨r0_7, p8⟩, ⟨r0_6, p9⟩, ⟨r0_5, p10⟩, ⟨r0_4, p11⟩, ⟨r0_3, p12⟩, ⟨r0_2, p13⟩, ⟨r0_1, p14⟩, ⟨r0_0, p15⟩] S128x128.size (by rfl) y

def out0_28 (x0 : Vec F S2048x128 .f32) (x1 : Vec F S2048x128 .f32) (x2 : Vec F S2048x128 .f32) (x3 : Vec F S2048x128 .f32) (x4 : Vec F S2048x128 .f32) (x5 : Vec F S2048x128 .f32) (x6 : Vec F S2048x128 .f32) (x7 : Vec F S2048x128 .f32) (x8 : Vec F S2048x128 .f32) (x9 : Vec F S16x128 .f32) (x10 : Vec F S16x128 .i32) (x11 : Vec F S16x128 .f32) (x12 : Vec F S1x24 .f32) (x13 : Vec F S24x1 .f32) (x14 : Vec F S1x24 .i32) (x15 : Vec F S24x1 .i32) (x16 : Vec F S24x1 .i32) (x17 : Vec F S24x1 .i32) : Vec F S2048x128 .f32 :=
  View.canon [⟨r0_15, k0_pay320 (k0_pay375 x0 x1 x2 x3 x4 x5 x6 x7 x8 x9 x10 x11 x12 x13 x14 x15 x16 x17)⟩,
    ⟨r0_14, k0_pay315 (k0_pay375 x0 x1 x2 x3 x4 x5 x6 x7 x8 x9 x10 x11 x12 x13 x14 x15 x16 x17)⟩,
    ⟨r0_13, k0_pay311 (k0_pay375 x0 x1 x2 x3 x4 x5 x6 x7 x8 x9 x10 x11 x12 x13 x14 x15 x16 x17)⟩,
    ⟨r0_12, k0_pay307 (k0_pay375 x0 x1 x2 x3 x4 x5 x6 x7 x8 x9 x10 x11 x12 x13 x14 x15 x16 x17)⟩,
    ⟨r0_11, k0_pay303 (k0_pay302 (k0_pay375 x0 x1 x2 x3 x4 x5 x6 x7 x8 x9 x10 x11 x12 x13 x14 x15 x16 x17))⟩,
    ⟨r0_10, k0_pay298 (k0_pay375 x0 x1 x2 x3 x4 x5 x6 x7 x8 x9 x10 x11 x12 x13 x14 x15 x16 x17)⟩,
    ⟨r0_9, k0_pay294 (k0_pay375 x0 x1 x2 x3 x4 x5 x6 x7 x8 x9 x10 x11 x12 x13 x14 x15 x16 x17)⟩,
    ⟨r0_8, k0_pay290 (k0_pay375 x0 x1 x2 x3 x4 x5 x6 x7 x8 x9 x10 x11 x12 x13 x14 x15 x16 x17)⟩,
    ⟨r0_7, k0_pay285 (k0_pay375 x0 x1 x2 x3 x4 x5 x6 x7 x8 x9 x10 x11 x12 x13 x14 x15 x16 x17)⟩,
    ⟨r0_6, k0_pay281 (k0_pay375 x0 x1 x2 x3 x4 x5 x6 x7 x8 x9 x10 x11 x12 x13 x14 x15 x16 x17)⟩,
    ⟨r0_5, k0_pay277 (k0_pay375 x0 x1 x2 x3 x4 x5 x6 x7 x8 x9 x10 x11 x12 x13 x14 x15 x16 x17)⟩,
    ⟨r0_4, k0_pay273 (k0_pay375 x0 x1 x2 x3 x4 x5 x6 x7 x8 x9 x10 x11 x12 x13 x14 x15 x16 x17)⟩,
    ⟨r0_3, k0_pay268 (k0_pay375 x0 x1 x2 x3 x4 x5 x6 x7 x8 x9 x10 x11 x12 x13 x14 x15 x16 x17)⟩,
    ⟨r0_2, k0_pay264 (k0_pay375 x0 x1 x2 x3 x4 x5 x6 x7 x8 x9 x10 x11 x12 x13 x14 x15 x16 x17)⟩,
    ⟨r0_1, k0_pay260 (k0_pay375 x0 x1 x2 x3 x4 x5 x6 x7 x8 x9 x10 x11 x12 x13 x14 x15 x16 x17)⟩,
    ⟨r0_0, k0_pay256 (k0_pay375 x0 x1 x2 x3 x4 x5 x6 x7 x8 x9 x10 x11 x12 x13 x14 x15 x16 x17)⟩]

theorem cover0_28 (p0 : Vec F S128x128 .f32) (p1 : Vec F S128x128 .f32) (p2 : Vec F S128x128 .f32) (p3 : Vec F S128x128 .f32) (p4 : Vec F S128x128 .f32) (p5 : Vec F S128x128 .f32) (p6 : Vec F S128x128 .f32) (p7 : Vec F S128x128 .f32) (p8 : Vec F S128x128 .f32) (p9 : Vec F S128x128 .f32) (p10 : Vec F S128x128 .f32) (p11 : Vec F S128x128 .f32) (p12 : Vec F S128x128 .f32) (p13 : Vec F S128x128 .f32) (p14 : Vec F S128x128 .f32) (p15 : Vec F S128x128 .f32) (y : S2048x128.Idx) :
    ∃ pc ∈ ([⟨r0_15, p0⟩, ⟨r0_14, p1⟩, ⟨r0_13, p2⟩, ⟨r0_12, p3⟩, ⟨r0_11, p4⟩, ⟨r0_10, p5⟩, ⟨r0_9, p6⟩, ⟨r0_8, p7⟩, ⟨r0_7, p8⟩, ⟨r0_6, p9⟩, ⟨r0_5, p10⟩, ⟨r0_4, p11⟩, ⟨r0_3, p12⟩, ⟨r0_2, p13⟩, ⟨r0_1, p14⟩, ⟨r0_0, p15⟩] : List (View.Piece (Elt F) S2048x128 .f32)), y ∈ pc.1.set :=
  View.cover_of_tiled [⟨r0_15, p0⟩, ⟨r0_14, p1⟩, ⟨r0_13, p2⟩, ⟨r0_12, p3⟩, ⟨r0_11, p4⟩, ⟨r0_10, p5⟩, ⟨r0_9, p6⟩, ⟨r0_8, p7⟩, ⟨r0_7, p8⟩, ⟨r0_6, p9⟩, ⟨r0_5, p10⟩, ⟨r0_4, p11⟩, ⟨r0_3, p12⟩, ⟨r0_2, p13⟩, ⟨r0_1, p14⟩, ⟨r0_0, p15⟩] S128x128.size (by rfl) y

def out0_29 (x0 : Vec F S2048x128 .f32) (x1 : Vec F S2048x128 .f32) (x2 : Vec F S2048x128 .f32) (x3 : Vec F S2048x128 .f32) (x4 : Vec F S2048x128 .f32) (x5 : Vec F S2048x128 .f32) (x6 : Vec F S2048x128 .f32) (x7 : Vec F S2048x128 .f32) (x8 : Vec F S2048x128 .f32) (x9 : Vec F S16x128 .f32) (x10 : Vec F S16x128 .i32) (x11 : Vec F S16x128 .f32) (x12 : Vec F S1x24 .f32) (x13 : Vec F S24x1 .f32) (x14 : Vec F S1x24 .i32) (x15 : Vec F S24x1 .i32) (x16 : Vec F S24x1 .i32) (x17 : Vec F S24x1 .i32) : Vec F S2048x128 .f32 :=
  View.canon [⟨r0_15, k0_pay321 (k0_pay374 x0 x1 x2 x3 x4 x5 x6 x7 x8 x9 x10 x11 x12 x13 x14 x15 x16 x17)⟩,
    ⟨r0_14, k0_pay316 (k0_pay374 x0 x1 x2 x3 x4 x5 x6 x7 x8 x9 x10 x11 x12 x13 x14 x15 x16 x17)⟩,
    ⟨r0_13, k0_pay312 (k0_pay374 x0 x1 x2 x3 x4 x5 x6 x7 x8 x9 x10 x11 x12 x13 x14 x15 x16 x17)⟩,
    ⟨r0_12, k0_pay308 (k0_pay374 x0 x1 x2 x3 x4 x5 x6 x7 x8 x9 x10 x11 x12 x13 x14 x15 x16 x17)⟩,
    ⟨r0_11, k0_pay304 (k0_pay374 x0 x1 x2 x3 x4 x5 x6 x7 x8 x9 x10 x11 x12 x13 x14 x15 x16 x17)⟩,
    ⟨r0_10, k0_pay299 (k0_pay374 x0 x1 x2 x3 x4 x5 x6 x7 x8 x9 x10 x11 x12 x13 x14 x15 x16 x17)⟩,
    ⟨r0_9, k0_pay295 (k0_pay374 x0 x1 x2 x3 x4 x5 x6 x7 x8 x9 x10 x11 x12 x13 x14 x15 x16 x17)⟩,
    ⟨r0_8, k0_pay291 (k0_pay374 x0 x1 x2 x3 x4 x5 x6 x7 x8 x9 x10 x11 x12 x13 x14 x15 x16 x17)⟩,
    ⟨r0_7, k0_pay287 (k0_pay286 (k0_pay374 x0 x1 x2 x3 x4 x5 x6 x7 x8 x9 x10 x11 x12 x13 x14 x15 x16 x17))⟩,
    ⟨r0_6, k0_pay282 (k0_pay374 x0 x1 x2 x3 x4 x5 x6 x7 x8 x9 x10 x11 x12 x13 x14 x15 x16 x17)⟩,
    ⟨r0_5, k0_pay278 (k0_pay374 x0 x1 x2 x3 x4 x5 x6 x7 x8 x9 x10 x11 x12 x13 x14 x15 x16 x17)⟩,
    ⟨r0_4, k0_pay274 (k0_pay374 x0 x1 x2 x3 x4 x5 x6 x7 x8 x9 x10 x11 x12 x13 x14 x15 x16 x17)⟩,
    ⟨r0_3, k0_pay269 (k0_pay374 x0 x1 x2 x3 x4 x5 x6 x7 x8 x9 x10 x11 x12 x13 x14 x15 x16 x17)⟩,
    ⟨r0_2, k0_pay265 (k0_pay374 x0 x1 x2 x3 x4 x5 x6 x7 x8 x9 x10 x11 x12 x13 x14 x15 x16 x17)⟩,
    ⟨r0_1, k0_pay261 (k0_pay374 x0 x1 x2 x3 x4 x5 x6 x7 x8 x9 x10 x11 x12 x13 x14 x15 x16 x17)⟩,
    ⟨r0_0, k0_pay257 (k0_pay374 x0 x1 x2 x3 x4 x5 x6 x7 x8 x9 x10 x11 x12 x13 x14 x15 x16 x17)⟩]

theorem cover0_29 (p0 : Vec F S128x128 .f32) (p1 : Vec F S128x128 .f32) (p2 : Vec F S128x128 .f32) (p3 : Vec F S128x128 .f32) (p4 : Vec F S128x128 .f32) (p5 : Vec F S128x128 .f32) (p6 : Vec F S128x128 .f32) (p7 : Vec F S128x128 .f32) (p8 : Vec F S128x128 .f32) (p9 : Vec F S128x128 .f32) (p10 : Vec F S128x128 .f32) (p11 : Vec F S128x128 .f32) (p12 : Vec F S128x128 .f32) (p13 : Vec F S128x128 .f32) (p14 : Vec F S128x128 .f32) (p15 : Vec F S128x128 .f32) (y : S2048x128.Idx) :
    ∃ pc ∈ ([⟨r0_15, p0⟩, ⟨r0_14, p1⟩, ⟨r0_13, p2⟩, ⟨r0_12, p3⟩, ⟨r0_11, p4⟩, ⟨r0_10, p5⟩, ⟨r0_9, p6⟩, ⟨r0_8, p7⟩, ⟨r0_7, p8⟩, ⟨r0_6, p9⟩, ⟨r0_5, p10⟩, ⟨r0_4, p11⟩, ⟨r0_3, p12⟩, ⟨r0_2, p13⟩, ⟨r0_1, p14⟩, ⟨r0_0, p15⟩] : List (View.Piece (Elt F) S2048x128 .f32)), y ∈ pc.1.set :=
  View.cover_of_tiled [⟨r0_15, p0⟩, ⟨r0_14, p1⟩, ⟨r0_13, p2⟩, ⟨r0_12, p3⟩, ⟨r0_11, p4⟩, ⟨r0_10, p5⟩, ⟨r0_9, p6⟩, ⟨r0_8, p7⟩, ⟨r0_7, p8⟩, ⟨r0_6, p9⟩, ⟨r0_5, p10⟩, ⟨r0_4, p11⟩, ⟨r0_3, p12⟩, ⟨r0_2, p13⟩, ⟨r0_1, p14⟩, ⟨r0_0, p15⟩] S128x128.size (by rfl) y

/-! ## The body's triple -/

set_option maxHeartbeats 9499250 in
theorem sound_kernel (c : Dev nD) (E : Set ℕ) (arg0 : Memref sig .tc .vmem S2048x128 .f32) (harg0 : arg0.IsWhole) (arg1 : Memref sig .tc .vmem S2048x128 .f32) (harg1 : arg1.IsWhole) (arg2 : Memref sig .tc .vmem S2048x128 .f32) (harg2 : arg2.IsWhole) (arg3 : Memref sig .tc .vmem S2048x128 .f32) (harg3 : arg3.IsWhole) (arg4 : Memref sig .tc .vmem S2048x128 .f32) (harg4 : arg4.IsWhole) (arg5 : Memref sig .tc .vmem S2048x128 .f32) (harg5 : arg5.IsWhole) (arg6 : Memref sig .tc .vmem S2048x128 .f32) (harg6 : arg6.IsWhole) (arg7 : Memref sig .tc .vmem S2048x128 .f32) (harg7 : arg7.IsWhole) (arg8 : Memref sig .tc .vmem S2048x128 .f32) (harg8 : arg8.IsWhole) (arg9 : Memref sig .tc .vmem S16x128 .f32) (harg9 : arg9.IsWhole) (arg10 : Memref sig .tc .vmem S16x128 .i32) (harg10 : arg10.IsWhole) (arg11 : Memref sig .tc .vmem S16x128 .f32) (harg11 : arg11.IsWhole) (arg12 : Memref sig .tc .vmem S1x24 .f32) (harg12 : arg12.IsWhole) (arg13 : Memref sig .tc .vmem S24x1 .f32) (harg13 : arg13.IsWhole) (arg14 : Memref sig .tc .vmem S1x24 .i32) (harg14 : arg14.IsWhole) (arg15 : Memref sig .tc .vmem S24x1 .i32) (harg15 : arg15.IsWhole) (arg16 : Memref sig .tc .vmem S24x1 .i32) (harg16 : arg16.IsWhole) (arg17 : Memref sig .tc .vmem S24x1 .i32) (harg17 : arg17.IsWhole) (arg18 : Memref sig .tc .vmem S16x128 .f32) (harg18 : arg18.IsWhole) (arg19 : Memref sig .tc .vmem S16x128 .f32) (harg19 : arg19.IsWhole) (arg20 : Memref sig .tc .vmem S16x128 .f32) (harg20 : arg20.IsWhole) (arg21 : Memref sig .tc .vmem S16x128 .f32) (harg21 : arg21.IsWhole) (arg22 : Memref sig .tc .vmem S16x128 .f32) (harg22 : arg22.IsWhole) (arg23 : Memref sig .tc .vmem S16x128 .f32) (harg23 : arg23.IsWhole) (arg24 : Memref sig .tc .vmem S1x24 .f32) (harg24 : arg24.IsWhole) (arg25 : Memref sig .tc .vmem S8x128 .f32) (harg25 : arg25.IsWhole) (arg26 : Memref sig .tc .vmem S2048x128 .f32) (harg26 : arg26.IsWhole) (arg27 : Memref sig .tc .vmem S2048x128 .f32) (harg27 : arg27.IsWhole) (arg28 : Memref sig .tc .vmem S2048x128 .f32) (harg28 : arg28.IsWhole) (arg29 : Memref sig .tc .vmem S2048x128 .f32) (harg29 : arg29.IsWhole)
    (x0 : Vec F S2048x128 .f32) (x1 : Vec F S2048x128 .f32) (x2 : Vec F S2048x128 .f32) (x3 : Vec F S2048x128 .f32) (x4 : Vec F S2048x128 .f32) (x5 : Vec F S2048x128 .f32) (x6 : Vec F S2048x128 .f32) (x7 : Vec F S2048x128 .f32) (x8 : Vec F S2048x128 .f32) (x9 : Vec F S16x128 .f32) (x10 : Vec F S16x128 .i32) (x11 : Vec F S16x128 .f32) (x12 : Vec F S1x24 .f32) (x13 : Vec F S24x1 .f32) (x14 : Vec F S1x24 .i32) (x15 : Vec F S24x1 .i32) (x16 : Vec F S24x1 .i32) (x17 : Vec F S24x1 .i32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ owns (c : Thread nD τ) arg18 fullShare (out0_18 x0 x1 x2 x3 x4 x5 x6 x7 x8 x9 x10 x11 x12 x13 x14 x15 x16 x17) ∗ owns (c : Thread nD τ) arg19 fullShare (out0_19 x0 x1 x2 x3 x4 x5 x6 x7 x8 x9 x10 x11 x12 x13 x14 x15 x16 x17) ∗ owns (c : Thread nD τ) arg20 fullShare (out0_20 x0 x1 x2 x3 x4 x5 x6 x7 x8 x9 x10 x11 x12 x13 x14 x15 x16 x17) ∗ owns (c : Thread nD τ) arg21 fullShare (out0_21 x0 x1 x2 x3 x4 x5 x6 x7 x8 x9 x10 x11 x12 x13 x14 x15 x16 x17) ∗ owns (c : Thread nD τ) arg22 fullShare (out0_22 x0 x1 x2 x3 x4 x5 x6 x7 x8 x9 x10 x11 x12 x13 x14 x15 x16 x17) ∗ owns (c : Thread nD τ) arg23 fullShare (out0_23 x0 x1 x2 x3 x4 x5 x6 x7 x8 x9 x10 x11 x12 x13 x14 x15 x16 x17) ∗ owns (c : Thread nD τ) arg24 fullShare (out0_24 x0 x1 x2 x3 x4 x5 x6 x7 x8 x9 x10 x11 x12 x13 x14 x15 x16 x17) ∗ owns (c : Thread nD τ) arg25 fullShare (out0_25 x0 x1 x2 x3 x4 x5 x6 x7 x8 x9 x10 x11 x12 x13 x14 x15 x16 x17) ∗ owns (c : Thread nD τ) arg26 fullShare (out0_26 x0 x1 x2 x3 x4 x5 x6 x7 x8 x9 x10 x11 x12 x13 x14 x15 x16 x17) ∗ owns (c : Thread nD τ) arg27 fullShare (out0_27 x0 x1 x2 x3 x4 x5 x6 x7 x8 x9 x10 x11 x12 x13 x14 x15 x16 x17) ∗ owns (c : Thread nD τ) arg28 fullShare (out0_28 x0 x1 x2 x3 x4 x5 x6 x7 x8 x9 x10 x11 x12 x13 x14 x15 x16 x17) ∗ owns (c : Thread nD τ) arg29 fullShare (out0_29 x0 x1 x2 x3 x4 x5 x6 x7 x8 x9 x10 x11 x12 x13 x14 x15 x16 x17)) -∗ K ⟨⟩))
      ⊢ wp frame (wpE (defs₀ (F := F)) Variants.none c none) E (cc0_token_coefficients arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29) K := by
  simp only [cc0_token_coefficients_eq_skeleton]; unfold cc0_token_coefficients_skel
  simp only [k0_part42_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, ⟨%d24, %f24, -, H24⟩, ⟨%d25, %f25, -, H25⟩, ⟨%d26, %f26, -, H26⟩, ⟨%d27, %f27, -, H27⟩, ⟨%d28, %f28, -, H28⟩, ⟨%d29, %f29, -, H29⟩, Hk⟩
  subst hf0 hf1 hf2 hf3 hf4 hf5 hf6 hf7 hf8 hf9 hf10 hf11 hf12 hf13 hf14 hf15 hf16 hf17
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  isplitl [H17]
  · iexists f17; isplitr; · ipureintro; rfl
    iexact H17
  isplitl [H18]
  · iexists _; isplitr
    swap; · iexact H18
    ipureintro
    refine (View.read_writes_eq_canon _ _ _ (cover0_18 _)).trans ?_
    rfl
  isplitl [H19]
  · iexists _; isplitr
    swap; · iexact H19
    ipureintro
    refine (View.read_writes_eq_canon _ _ _ (cover0_19 _)).trans ?_
    rfl
  isplitl [H20]
  · iexists _; isplitr
    swap; · iexact H20
    ipureintro
    refine (View.read_writes_eq_canon _ _ _ (cover0_20 _)).trans ?_
    rfl
  isplitl [H21]
  · iexists _; isplitr
    swap; · iexact H21
    ipureintro
    refine (View.read_writes_eq_canon _ _ _ (cover0_21 _)).trans ?_
    rfl
  isplitl [H22]
  · iexists _; isplitr
    swap; · iexact H22
    ipureintro
    refine (View.read_writes_eq_canon _ _ _ (cover0_22 _)).trans ?_
    rfl
  isplitl [H23]
  · iexists _; isplitr
    swap; · iexact H23
    ipureintro
    refine (View.read_writes_eq_canon _ _ _ (cover0_23 _)).trans ?_
    rfl
  isplitl [H24]
  · iexists _; isplitr
    swap; · iexact H24
    ipureintro
    refine (View.read_writes_eq_canon _ _ _ (cover0_24 _)).trans ?_
    rfl
  isplitl [H25]
  · iexists _; isplitr
    swap; · iexact H25
    ipureintro
    refine (View.read_writes_eq_canon _ _ _ (cover0_25 _)).trans ?_
    rfl
  isplitl [H26]
  · iexists _; isplitr
    swap; · iexact H26
    ipureintro
    refine (View.read_writes_eq_canon _ _ _ (cover0_26 _ _ _ _ _ _ _ _ _ _ _ _ _ _ _ _)).trans ?_
    rfl
  isplitl [H27]
  · iexists _; isplitr
    swap; · iexact H27
    ipureintro
    refine (View.read_writes_eq_canon _ _ _ (cover0_27 _ _ _ _ _ _ _ _ _ _ _ _ _ _ _ _)).trans ?_
    rfl
  isplitl [H28]
  · iexists _; isplitr
    swap; · iexact H28
    ipureintro
    refine (View.read_writes_eq_canon _ _ _ (cover0_28 _ _ _ _ _ _ _ _ _ _ _ _ _ _ _ _)).trans ?_
    rfl
  iexists _; isplitr
  swap; · iexact H29
  ipureintro
  refine (View.read_writes_eq_canon _ _ _ (cover0_29 _ _ _ _ _ _ _ _ _ _ _ _ _ _ _ _)).trans ?_
  rfl

/-! ## The pipeline's proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => out0_18 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t)
    | ⟨19, _⟩ => out0_19 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t)
    | ⟨20, _⟩ => out0_20 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t)
    | ⟨21, _⟩ => out0_21 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t)
    | ⟨22, _⟩ => out0_22 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t)
    | ⟨23, _⟩ => out0_23 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t)
    | ⟨24, _⟩ => out0_24 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t)
    | ⟨25, _⟩ => out0_25 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t)
    | ⟨26, _⟩ => out0_26 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t)
    | ⟨27, _⟩ => out0_27 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t)
    | ⟨28, _⟩ => out0_28 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t)
    | ⟨29, _⟩ => out0_29 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t)
    | ⟨_ + 30, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = iblk m c 17 t := by dsimp only [dats]
theorem after0_18 (c : Dev nD) (t : Fin cfg0.N) : (dats m 0 c).after 18 t = out0_18 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) := by dsimp only [dats]
theorem after0_19 (c : Dev nD) (t : Fin cfg0.N) : (dats m 0 c).after 19 t = out0_19 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) := by dsimp only [dats]
theorem after0_20 (c : Dev nD) (t : Fin cfg0.N) : (dats m 0 c).after 20 t = out0_20 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) := by dsimp only [dats]
theorem after0_21 (c : Dev nD) (t : Fin cfg0.N) : (dats m 0 c).after 21 t = out0_21 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) := by dsimp only [dats]
theorem after0_22 (c : Dev nD) (t : Fin cfg0.N) : (dats m 0 c).after 22 t = out0_22 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) := by dsimp only [dats]
theorem after0_23 (c : Dev nD) (t : Fin cfg0.N) : (dats m 0 c).after 23 t = out0_23 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) := by dsimp only [dats]
theorem after0_24 (c : Dev nD) (t : Fin cfg0.N) : (dats m 0 c).after 24 t = out0_24 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) := by dsimp only [dats]
theorem after0_25 (c : Dev nD) (t : Fin cfg0.N) : (dats m 0 c).after 25 t = out0_25 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) := by dsimp only [dats]
theorem after0_26 (c : Dev nD) (t : Fin cfg0.N) : (dats m 0 c).after 26 t = out0_26 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) := by dsimp only [dats]
theorem after0_27 (c : Dev nD) (t : Fin cfg0.N) : (dats m 0 c).after 27 t = out0_27 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) := by dsimp only [dats]
theorem after0_28 (c : Dev nD) (t : Fin cfg0.N) : (dats m 0 c).after 28 t = out0_28 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) := by dsimp only [dats]
theorem after0_29 (c : Dev nD) (t : Fin cfg0.N) : (dats m 0 c).after 29 t = out0_29 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d
theorem before0_17 (c : Dev nD) (t : Fin cfg0.N) (d) : (dats m 0 c).before 17 t d = iblk m c 17 t :=
  before0_17_of m (dats m 0 c) (A_eq m c 17) (after0_17 m c) t d

end Cert.CoefIdeal.CoefRun

end
-- ==== Proof.CoefRun.lean ====
/- The run of the token coefficients' kernel, second part: the obligation of the body, the run of the launch and the
   frame. Taken from the generated frame certificate of this program, with more time allowed to two proofs. -/
module

public import proofs.«01_k».proof.Proof.CoefFrame
public import Idealize.ShloMosaic.Lib.Claim

@[expose] public section

-- membership in a rectangle of production extents (`View.cover_of_tiled`): the elaborator's structural look
-- recurses once per coordinate of the long axes
set_option maxRecDepth 16384

noncomputable section

namespace Cert.CoefIdeal.CoefRun

open Cert.CoefIdeal Cert.CoefIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d))
    ∗ (∃ d, owns (c : Thread nD τ) (st0_19 t) fullShare ((dats m 0 c).before 19 t d))
    ∗ (∃ d, owns (c : Thread nD τ) (st0_20 t) fullShare ((dats m 0 c).before 20 t d))
    ∗ (∃ d, owns (c : Thread nD τ) (st0_21 t) fullShare ((dats m 0 c).before 21 t d))
    ∗ (∃ d, owns (c : Thread nD τ) (st0_22 t) fullShare ((dats m 0 c).before 22 t d))
    ∗ (∃ d, owns (c : Thread nD τ) (st0_23 t) fullShare ((dats m 0 c).before 23 t d))
    ∗ (∃ d, owns (c : Thread nD τ) (st0_24 t) fullShare ((dats m 0 c).before 24 t d))
    ∗ (∃ d, owns (c : Thread nD τ) (st0_25 t) fullShare ((dats m 0 c).before 25 t d))
    ∗ (∃ d, owns (c : Thread nD τ) (st0_26 t) fullShare ((dats m 0 c).before 26 t d))
    ∗ (∃ d, owns (c : Thread nD τ) (st0_27 t) fullShare ((dats m 0 c).before 27 t d))
    ∗ (∃ d, owns (c : Thread nD τ) (st0_28 t) fullShare ((dats m 0 c).before 28 t d))
    ∗ (∃ d, owns (c : Thread nD τ) (st0_29 t) fullShare ((dats m 0 c).before 29 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t)
    ∗ owns (c : Thread nD τ) (st0_18 t) fullShare ((dats m 0 c).after 18 t)
    ∗ owns (c : Thread nD τ) (st0_19 t) fullShare ((dats m 0 c).after 19 t)
    ∗ owns (c : Thread nD τ) (st0_20 t) fullShare ((dats m 0 c).after 20 t)
    ∗ owns (c : Thread nD τ) (st0_21 t) fullShare ((dats m 0 c).after 21 t)
    ∗ owns (c : Thread nD τ) (st0_22 t) fullShare ((dats m 0 c).after 22 t)
    ∗ owns (c : Thread nD τ) (st0_23 t) fullShare ((dats m 0 c).after 23 t)
    ∗ owns (c : Thread nD τ) (st0_24 t) fullShare ((dats m 0 c).after 24 t)
    ∗ owns (c : Thread nD τ) (st0_25 t) fullShare ((dats m 0 c).after 25 t)
    ∗ owns (c : Thread nD τ) (st0_26 t) fullShare ((dats m 0 c).after 26 t)
    ∗ owns (c : Thread nD τ) (st0_27 t) fullShare ((dats m 0 c).after 27 t)
    ∗ owns (c : Thread nD τ) (st0_28 t) fullShare ((dats m 0 c).after 28 t)
    ∗ owns (c : Thread nD τ) (st0_29 t) fullShare ((dats m 0 c).after 29 t))

set_option maxHeartbeats 8000000 in
/-- The body at any point: the inputs' memrefs hold their blocks (`before0_W`), so `sound_kernel` applies; the invariant and
    the core's `owes` pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23, after0_24, after0_25, after0_26, after0_27, after0_28, after0_29]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩, ⟨%d29, H29⟩⟩
  iapply (sound_kernel c Set.univ _ _ _ _ _ _ _ _ _ _ _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexists _; iexact H18
  isplitl [H19]; · iexists _; iexact H19
  isplitl [H20]; · iexists _; iexact H20
  isplitl [H21]; · iexists _; iexact H21
  isplitl [H22]; · iexists _; iexact H22
  isplitl [H23]; · iexists _; iexact H23
  isplitl [H24]; · iexists _; iexact H24
  isplitl [H25]; · iexists _; iexact H25
  isplitl [H26]; · iexists _; iexact H26
  isplitl [H27]; · iexists _; iexact H27
  isplitl [H28]; · iexists _; iexact H28
  isplitl [H29]; · iexists _; iexact H29
  iintro ⟨H0, H1, H2, H3, H4, H5, H6, H7, H8, H9, H10, H11, H12, H13, H14, H15, H16, H17, H18, H19, H20, H21, H22, H23, H24, H25, H26, H27, H28, H29⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  iexact H29

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

set_option maxHeartbeats 8000000 in
/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  frame_of m ρ (dats m) (A_eq m) (run_main m ρ)

/-- THE FRAME: `Cert.quiescent_CoefIdeal`'s statement (Defs.lean) at any `F` — Proof.lean cites it at `Bits`:
    `theorem Cert.Proof.claim : Cert.Claim := ⟨Cert.CoefIdeal.Gen.facts, fun m ρ _ => Cert.CoefIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14))
      ∧ r.2.sem = fun _ => 0) :=
  θ_run_and (unchanged m ρ) ((θ_run defs _ _).mono (fun _ h => h.2) (run_main_quiescent m ρ))

end Cert.CoefIdeal.CoefRun

end
-- ==== Proof.CoefBits.lean ====
module

public import proofs.«01_k».proof.Defs
public import proofs.«01_k».proof.Proof.Gen.Coef
public import proofs.«01_k».proof.Proof.CoefRun

@[expose] public section

set_option maxRecDepth 16384

noncomputable section

namespace Cert.Proof.CoefBits

open Idealize.ShloMosaic Idealize.ShloMosaic.TcCoe Idealize.SL.Sem

set_option maxHeartbeats 4000000 in
/-- The program with machine numbers and its idealization run the same body. -/
theorem bodies_eq : (Cert.Coef.defs₀ (F := Bits)) = (Cert.CoefIdeal.defs₀ (F := Bits)) := by
  unfold Cert.Coef.defs₀ Cert.CoefIdeal.defs₀
  congr 1
  funext t a
  match t, a with
  | 0, (t, s) => rfl

set_option maxHeartbeats 4000000 in
/-- And so the same table of bodies and pipelines. -/
theorem defs_eq : (Cert.Coef.defs (F := Bits)) = (Cert.CoefIdeal.defs (F := Bits)) :=
  congrArg (Pipeline.defs (Cert.CoefIdeal.pcfgs (F := Bits))) bodies_eq

set_option maxHeartbeats 4000000 in
/-- The call with machine numbers runs to its end, leaves its arguments as they were and every semaphore at zero. -/
theorem frame : Cert.quiescent_Coef := fun m ρ _ => by
  rw [defs_eq]
  exact Cert.CoefIdeal.CoefRun.frame (F := Bits) m ρ

end Cert.Proof.CoefBits

end
-- ==== Proof.CoefArr.lean ====
/- The output arrays of the token coefficients' kernel after its run, each as what the kernel stores, of the call's arrays. -/
module

public import proofs.«01_k».proof.Proof.CoefFrame
public import Idealize.ShloMosaic.Lib.Pipeline.ValueKit

@[expose] public section

set_option maxRecDepth 16384

noncomputable section

namespace Cert.Proof.CoefArr

open Idealize.ShloMosaic Idealize.ShloMosaic.TcCoe Idealize.SL.Sem
open Cert.CoefIdeal Cert.CoefIdeal.Gen Cert.CoefIdeal.CoefRun

variable (m : (ℓ : Loc nD τ sig) → Buf (Elt Ideal) ℓ)

/-- The one grid point's blocks are the whole arrays. -/
theorem idx0 : ∀ t : Fin cfg0.N, win0_0.index t = ![0, 0] ∧ win0_1.index t = ![0, 0] ∧ win0_2.index t = ![0, 0] ∧ win0_3.index t = ![0, 0] ∧ win0_4.index t = ![0, 0] ∧ win0_5.index t = ![0, 0] ∧ win0_6.index t = ![0, 0] ∧ win0_7.index t = ![0, 0] ∧ win0_8.index t = ![0, 0] ∧ win0_9.index t = ![0, 0] := by
  decide +kernel
theorem idx1 : ∀ t : Fin cfg0.N, win0_10.index t = ![0, 0] ∧ win0_11.index t = ![0, 0] ∧ win0_12.index t = ![0, 0] ∧ win0_13.index t = ![0, 0] ∧ win0_14.index t = ![0, 0] ∧ win0_15.index t = ![0, 0] ∧ win0_16.index t = ![0, 0] ∧ win0_17.index t = ![0, 0] ∧ win0_18.index t = ![0, 0] ∧ win0_19.index t = ![0, 0] := by
  decide +kernel
theorem idx2 : ∀ t : Fin cfg0.N, win0_20.index t = ![0, 0] ∧ win0_21.index t = ![0, 0] ∧ win0_22.index t = ![0, 0] ∧ win0_23.index t = ![0, 0] ∧ win0_24.index t = ![0, 0] ∧ win0_25.index t = ![0, 0] ∧ win0_26.index t = ![0, 0] ∧ win0_27.index t = ![0, 0] ∧ win0_28.index t = ![0, 0] ∧ win0_29.index t = ![0, 0] := by
  decide +kernel

/-- The block a window shows is the array behind it. -/
theorem blk0 (c : Dev nD) (t : Fin cfg0.N) : iblk m c 0 t = V m c main_arg0 := by
  funext y; blk_ext [iblk, idx0 t]
theorem blk1 (c : Dev nD) (t : Fin cfg0.N) : iblk m c 1 t = V m c main_arg1 := by
  funext y; blk_ext [iblk, idx0 t]
theorem blk2 (c : Dev nD) (t : Fin cfg0.N) : iblk m c 2 t = V m c main_arg2 := by
  funext y; blk_ext [iblk, idx0 t]
theorem blk3 (c : Dev nD) (t : Fin cfg0.N) : iblk m c 3 t = V m c main_arg3 := by
  funext y; blk_ext [iblk, idx0 t]
theorem blk4 (c : Dev nD) (t : Fin cfg0.N) : iblk m c 4 t = V m c main_arg4 := by
  funext y; blk_ext [iblk, idx0 t]
theorem blk5 (c : Dev nD) (t : Fin cfg0.N) : iblk m c 5 t = V m c main_arg5 := by
  funext y; blk_ext [iblk, idx0 t]
theorem blk6 (c : Dev nD) (t : Fin cfg0.N) : iblk m c 6 t = V m c main_arg6 := by
  funext y; blk_ext [iblk, idx0 t]
theorem blk7 (c : Dev nD) (t : Fin cfg0.N) : iblk m c 7 t = V m c main_arg7 := by
  funext y; blk_ext [iblk, idx0 t]
theorem blk8 (c : Dev nD) (t : Fin cfg0.N) : iblk m c 8 t = V m c main_arg8 := by
  funext y; blk_ext [iblk, idx0 t]
theorem blk9 (c : Dev nD) (t : Fin cfg0.N) : iblk m c 9 t = V m c main_v0 := by
  funext y; blk_ext [iblk, idx0 t]
theorem blk10 (c : Dev nD) (t : Fin cfg0.N) : iblk m c 10 t = V m c main_v1 := by
  funext y; blk_ext [iblk, idx1 t]
theorem blk11 (c : Dev nD) (t : Fin cfg0.N) : iblk m c 11 t = V m c main_v2 := by
  funext y; blk_ext [iblk, idx1 t]
theorem blk12 (c : Dev nD) (t : Fin cfg0.N) : iblk m c 12 t = V m c main_v3 := by
  funext y; blk_ext [iblk, idx1 t]
theorem blk13 (c : Dev nD) (t : Fin cfg0.N) : iblk m c 13 t = V m c main_v4 := by
  funext y; blk_ext [iblk, idx1 t]
theorem blk14 (c : Dev nD) (t : Fin cfg0.N) : iblk m c 14 t = V m c main_v5 := by
  funext y; blk_ext [iblk, idx1 t]
theorem blk15 (c : Dev nD) (t : Fin cfg0.N) : iblk m c 15 t = V m c main_v6 := by
  funext y; blk_ext [iblk, idx1 t]
theorem blk16 (c : Dev nD) (t : Fin cfg0.N) : iblk m c 16 t = V m c main_v8 := by
  funext y; blk_ext [iblk, idx1 t]
theorem blk17 (c : Dev nD) (t : Fin cfg0.N) : iblk m c 17 t = V m c main_v10 := by
  funext y; blk_ext [iblk, idx1 t]

theorem arr18 (c : Dev nD) : (dats m 0 c).arrAt 18 cfg0.N = out0_18 (V m c main_arg0) (V m c main_arg1) (V m c main_arg2) (V m c main_arg3) (V m c main_arg4) (V m c main_arg5) (V m c main_arg6) (V m c main_arg7) (V m c main_arg8) (V m c main_v0) (V m c main_v1) (V m c main_v2) (V m c main_v3) (V m c main_v4) (V m c main_v5) (V m c main_v6) (V m c main_v8) (V m c main_v10) := by
  refine (dats m 0 c).arrAt_eq_of_covers 18 _ (by decide +kernel) fun t hf y => ?_
  blk_simp
  rw [after0_18, blk0, blk1, blk2, blk3, blk4, blk5, blk6, blk7, blk8, blk9, blk10, blk11, blk12, blk13, blk14, blk15, blk16, blk17]
  generalize out0_18 (V m c main_arg0) (V m c main_arg1) (V m c main_arg2) (V m c main_arg3) (V m c main_arg4) (V m c main_arg5) (V m c main_arg6) (V m c main_arg7) (V m c main_arg8) (V m c main_v0) (V m c main_v1) (V m c main_v2) (V m c main_v3) (V m c main_v4) (V m c main_v5) (V m c main_v6) (V m c main_v8) (V m c main_v10) = X
  blk_ext [idx1 t]
theorem arr19 (c : Dev nD) : (dats m 0 c).arrAt 19 cfg0.N = out0_19 (V m c main_arg0) (V m c main_arg1) (V m c main_arg2) (V m c main_arg3) (V m c main_arg4) (V m c main_arg5) (V m c main_arg6) (V m c main_arg7) (V m c main_arg8) (V m c main_v0) (V m c main_v1) (V m c main_v2) (V m c main_v3) (V m c main_v4) (V m c main_v5) (V m c main_v6) (V m c main_v8) (V m c main_v10) := by
  refine (dats m 0 c).arrAt_eq_of_covers 19 _ (by decide +kernel) fun t hf y => ?_
  blk_simp
  rw [after0_19, blk0, blk1, blk2, blk3, blk4, blk5, blk6, blk7, blk8, blk9, blk10, blk11, blk12, blk13, blk14, blk15, blk16, blk17]
  generalize out0_19 (V m c main_arg0) (V m c main_arg1) (V m c main_arg2) (V m c main_arg3) (V m c main_arg4) (V m c main_arg5) (V m c main_arg6) (V m c main_arg7) (V m c main_arg8) (V m c main_v0) (V m c main_v1) (V m c main_v2) (V m c main_v3) (V m c main_v4) (V m c main_v5) (V m c main_v6) (V m c main_v8) (V m c main_v10) = X
  blk_ext [idx1 t]
theorem arr20 (c : Dev nD) : (dats m 0 c).arrAt 20 cfg0.N = out0_20 (V m c main_arg0) (V m c main_arg1) (V m c main_arg2) (V m c main_arg3) (V m c main_arg4) (V m c main_arg5) (V m c main_arg6) (V m c main_arg7) (V m c main_arg8) (V m c main_v0) (V m c main_v1) (V m c main_v2) (V m c main_v3) (V m c main_v4) (V m c main_v5) (V m c main_v6) (V m c main_v8) (V m c main_v10) := by
  refine (dats m 0 c).arrAt_eq_of_covers 20 _ (by decide +kernel) fun t hf y => ?_
  blk_simp
  rw [after0_20, blk0, blk1, blk2, blk3, blk4, blk5, blk6, blk7, blk8, blk9, blk10, blk11, blk12, blk13, blk14, blk15, blk16, blk17]
  generalize out0_20 (V m c main_arg0) (V m c main_arg1) (V m c main_arg2) (V m c main_arg3) (V m c main_arg4) (V m c main_arg5) (V m c main_arg6) (V m c main_arg7) (V m c main_arg8) (V m c main_v0) (V m c main_v1) (V m c main_v2) (V m c main_v3) (V m c main_v4) (V m c main_v5) (V m c main_v6) (V m c main_v8) (V m c main_v10) = X
  blk_ext [idx2 t]
theorem arr21 (c : Dev nD) : (dats m 0 c).arrAt 21 cfg0.N = out0_21 (V m c main_arg0) (V m c main_arg1) (V m c main_arg2) (V m c main_arg3) (V m c main_arg4) (V m c main_arg5) (V m c main_arg6) (V m c main_arg7) (V m c main_arg8) (V m c main_v0) (V m c main_v1) (V m c main_v2) (V m c main_v3) (V m c main_v4) (V m c main_v5) (V m c main_v6) (V m c main_v8) (V m c main_v10) := by
  refine (dats m 0 c).arrAt_eq_of_covers 21 _ (by decide +kernel) fun t hf y => ?_
  blk_simp
  rw [after0_21, blk0, blk1, blk2, blk3, blk4, blk5, blk6, blk7, blk8, blk9, blk10, blk11, blk12, blk13, blk14, blk15, blk16, blk17]
  generalize out0_21 (V m c main_arg0) (V m c main_arg1) (V m c main_arg2) (V m c main_arg3) (V m c main_arg4) (V m c main_arg5) (V m c main_arg6) (V m c main_arg7) (V m c main_arg8) (V m c main_v0) (V m c main_v1) (V m c main_v2) (V m c main_v3) (V m c main_v4) (V m c main_v5) (V m c main_v6) (V m c main_v8) (V m c main_v10) = X
  blk_ext [idx2 t]
theorem arr22 (c : Dev nD) : (dats m 0 c).arrAt 22 cfg0.N = out0_22 (V m c main_arg0) (V m c main_arg1) (V m c main_arg2) (V m c main_arg3) (V m c main_arg4) (V m c main_arg5) (V m c main_arg6) (V m c main_arg7) (V m c main_arg8) (V m c main_v0) (V m c main_v1) (V m c main_v2) (V m c main_v3) (V m c main_v4) (V m c main_v5) (V m c main_v6) (V m c main_v8) (V m c main_v10) := by
  refine (dats m 0 c).arrAt_eq_of_covers 22 _ (by decide +kernel) fun t hf y => ?_
  blk_simp
  rw [after0_22, blk0, blk1, blk2, blk3, blk4, blk5, blk6, blk7, blk8, blk9, blk10, blk11, blk12, blk13, blk14, blk15, blk16, blk17]
  generalize out0_22 (V m c main_arg0) (V m c main_arg1) (V m c main_arg2) (V m c main_arg3) (V m c main_arg4) (V m c main_arg5) (V m c main_arg6) (V m c main_arg7) (V m c main_arg8) (V m c main_v0) (V m c main_v1) (V m c main_v2) (V m c main_v3) (V m c main_v4) (V m c main_v5) (V m c main_v6) (V m c main_v8) (V m c main_v10) = X
  blk_ext [idx2 t]
theorem arr23 (c : Dev nD) : (dats m 0 c).arrAt 23 cfg0.N = out0_23 (V m c main_arg0) (V m c main_arg1) (V m c main_arg2) (V m c main_arg3) (V m c main_arg4) (V m c main_arg5) (V m c main_arg6) (V m c main_arg7) (V m c main_arg8) (V m c main_v0) (V m c main_v1) (V m c main_v2) (V m c main_v3) (V m c main_v4) (V m c main_v5) (V m c main_v6) (V m c main_v8) (V m c main_v10) := by
  refine (dats m 0 c).arrAt_eq_of_covers 23 _ (by decide +kernel) fun t hf y => ?_
  blk_simp
  rw [after0_23, blk0, blk1, blk2, blk3, blk4, blk5, blk6, blk7, blk8, blk9, blk10, blk11, blk12, blk13, blk14, blk15, blk16, blk17]
  generalize out0_23 (V m c main_arg0) (V m c main_arg1) (V m c main_arg2) (V m c main_arg3) (V m c main_arg4) (V m c main_arg5) (V m c main_arg6) (V m c main_arg7) (V m c main_arg8) (V m c main_v0) (V m c main_v1) (V m c main_v2) (V m c main_v3) (V m c main_v4) (V m c main_v5) (V m c main_v6) (V m c main_v8) (V m c main_v10) = X
  blk_ext [idx2 t]
theorem arr24 (c : Dev nD) : (dats m 0 c).arrAt 24 cfg0.N = out0_24 (V m c main_arg0) (V m c main_arg1) (V m c main_arg2) (V m c main_arg3) (V m c main_arg4) (V m c main_arg5) (V m c main_arg6) (V m c main_arg7) (V m c main_arg8) (V m c main_v0) (V m c main_v1) (V m c main_v2) (V m c main_v3) (V m c main_v4) (V m c main_v5) (V m c main_v6) (V m c main_v8) (V m c main_v10) := by
  refine (dats m 0 c).arrAt_eq_of_covers 24 _ (by decide +kernel) fun t hf y => ?_
  blk_simp
  rw [after0_24, blk0, blk1, blk2, blk3, blk4, blk5, blk6, blk7, blk8, blk9, blk10, blk11, blk12, blk13, blk14, blk15, blk16, blk17]
  generalize out0_24 (V m c main_arg0) (V m c main_arg1) (V m c main_arg2) (V m c main_arg3) (V m c main_arg4) (V m c main_arg5) (V m c main_arg6) (V m c main_arg7) (V m c main_arg8) (V m c main_v0) (V m c main_v1) (V m c main_v2) (V m c main_v3) (V m c main_v4) (V m c main_v5) (V m c main_v6) (V m c main_v8) (V m c main_v10) = X
  blk_ext [idx2 t]
theorem arr26 (c : Dev nD) : (dats m 0 c).arrAt 26 cfg0.N = out0_26 (V m c main_arg0) (V m c main_arg1) (V m c main_arg2) (V m c main_arg3) (V m c main_arg4) (V m c main_arg5) (V m c main_arg6) (V m c main_arg7) (V m c main_arg8) (V m c main_v0) (V m c main_v1) (V m c main_v2) (V m c main_v3) (V m c main_v4) (V m c main_v5) (V m c main_v6) (V m c main_v8) (V m c main_v10) := by
  refine (dats m 0 c).arrAt_eq_of_covers 26 _ (by decide +kernel) fun t hf y => ?_
  blk_simp
  rw [after0_26, blk0, blk1, blk2, blk3, blk4, blk5, blk6, blk7, blk8, blk9, blk10, blk11, blk12, blk13, blk14, blk15, blk16, blk17]
  generalize out0_26 (V m c main_arg0) (V m c main_arg1) (V m c main_arg2) (V m c main_arg3) (V m c main_arg4) (V m c main_arg5) (V m c main_arg6) (V m c main_arg7) (V m c main_arg8) (V m c main_v0) (V m c main_v1) (V m c main_v2) (V m c main_v3) (V m c main_v4) (V m c main_v5) (V m c main_v6) (V m c main_v8) (V m c main_v10) = X
  blk_ext [idx2 t]
theorem arr27 (c : Dev nD) : (dats m 0 c).arrAt 27 cfg0.N = out0_27 (V m c main_arg0) (V m c main_arg1) (V m c main_arg2) (V m c main_arg3) (V m c main_arg4) (V m c main_arg5) (V m c main_arg6) (V m c main_arg7) (V m c main_arg8) (V m c main_v0) (V m c main_v1) (V m c main_v2) (V m c main_v3) (V m c main_v4) (V m c main_v5) (V m c main_v6) (V m c main_v8) (V m c main_v10) := by
  refine (dats m 0 c).arrAt_eq_of_covers 27 _ (by decide +kernel) fun t hf y => ?_
  blk_simp
  rw [after0_27, blk0, blk1, blk2, blk3, blk4, blk5, blk6, blk7, blk8, blk9, blk10, blk11, blk12, blk13, blk14, blk15, blk16, blk17]
  generalize out0_27 (V m c main_arg0) (V m c main_arg1) (V m c main_arg2) (V m c main_arg3) (V m c main_arg4) (V m c main_arg5) (V m c main_arg6) (V m c main_arg7) (V m c main_arg8) (V m c main_v0) (V m c main_v1) (V m c main_v2) (V m c main_v3) (V m c main_v4) (V m c main_v5) (V m c main_v6) (V m c main_v8) (V m c main_v10) = X
  blk_ext [idx2 t]
theorem arr28 (c : Dev nD) : (dats m 0 c).arrAt 28 cfg0.N = out0_28 (V m c main_arg0) (V m c main_arg1) (V m c main_arg2) (V m c main_arg3) (V m c main_arg4) (V m c main_arg5) (V m c main_arg6) (V m c main_arg7) (V m c main_arg8) (V m c main_v0) (V m c main_v1) (V m c main_v2) (V m c main_v3) (V m c main_v4) (V m c main_v5) (V m c main_v6) (V m c main_v8) (V m c main_v10) := by
  refine (dats m 0 c).arrAt_eq_of_covers 28 _ (by decide +kernel) fun t hf y => ?_
  blk_simp
  rw [after0_28, blk0, blk1, blk2, blk3, blk4, blk5, blk6, blk7, blk8, blk9, blk10, blk11, blk12, blk13, blk14, blk15, blk16, blk17]
  generalize out0_28 (V m c main_arg0) (V m c main_arg1) (V m c main_arg2) (V m c main_arg3) (V m c main_arg4) (V m c main_arg5) (V m c main_arg6) (V m c main_arg7) (V m c main_arg8) (V m c main_v0) (V m c main_v1) (V m c main_v2) (V m c main_v3) (V m c main_v4) (V m c main_v5) (V m c main_v6) (V m c main_v8) (V m c main_v10) = X
  blk_ext [idx2 t]
theorem arr29 (c : Dev nD) : (dats m 0 c).arrAt 29 cfg0.N = out0_29 (V m c main_arg0) (V m c main_arg1) (V m c main_arg2) (V m c main_arg3) (V m c main_arg4) (V m c main_arg5) (V m c main_arg6) (V m c main_arg7) (V m c main_arg8) (V m c main_v0) (V m c main_v1) (V m c main_v2) (V m c main_v3) (V m c main_v4) (V m c main_v5) (V m c main_v6) (V m c main_v8) (V m c main_v10) := by
  refine (dats m 0 c).arrAt_eq_of_covers 29 _ (by decide +kernel) fun t hf y => ?_
  blk_simp
  rw [after0_29, blk0, blk1, blk2, blk3, blk4, blk5, blk6, blk7, blk8, blk9, blk10, blk11, blk12, blk13, blk14, blk15, blk16, blk17]
  generalize out0_29 (V m c main_arg0) (V m c main_arg1) (V m c main_arg2) (V m c main_arg3) (V m c main_arg4) (V m c main_arg5) (V m c main_arg6) (V m c main_arg7) (V m c main_arg8) (V m c main_v0) (V m c main_v1) (V m c main_v2) (V m c main_v3) (V m c main_v4) (V m c main_v5) (V m c main_v6) (V m c main_v8) (V m c main_v10) = X
  blk_ext [idx2 t]

end Cert.Proof.CoefArr

end
-- ==== Proof.CoefRows.lean ====
/- The rows of the token coefficients' kernel, over the extended reals: what one block of 128 tokens by 128 lanes gives per token,
   and sixteen such rows set below one another. -/
module

public import proofs.«01_k».proof.Proof.CoefFrame
public import Idealize.ShloMosaic.Lib.Pipeline.ValueKit

@[expose] public section

set_option maxRecDepth 16384

noncomputable section

namespace Cert.Proof.CoefRows

open Idealize.ShloMosaic Idealize.ShloMosaic.TcCoe Idealize.SL.Sem
open Cert.CoefIdeal Cert.CoefIdeal.Gen Cert.CoefIdeal.CoefRun

/-- Two arrays of rows and columns agree when they agree at each row and column. -/
theorem ext_ix2 {n k : ℕ} {α : Type} (f g : (⟨2, ![n, k]⟩ : Shape).Idx → α) (h : ∀ a b, f (ix2 a b) = g (ix2 a b)) : f = g :=
  funext fun y => (congrArg f (ix2_eta y).symm).trans ((h _ _).trans (congrArg g (ix2_eta y)))

/-- The token in lane `b` of row `a` of sixteen rows. -/
def tok (a : Fin 16) (b : Fin 128) : Fin 2048 := ⟨a.val * 128 + b.val, by omega⟩

/-- The maximum over the lanes, rounded up. -/
def top (M : Vec Ideal S2048x128 .f32) (r : Fin 2048) : EReal :=
  Ideal.liftRound Int.ceil (Finset.fold max (Ideal.ofBits .f32 4286578688#32) (fun l : Fin 128 => M (ix2 r l)) Finset.univ)

/-- The sum over the lanes, each rescaled from its own maximum to the common one. -/
def rescaled (M D : Vec Ideal S2048x128 .f32) (r : Fin 2048) : EReal := ∑ l : Fin 128, D (ix2 r l) * Ideal.exp2 (M (ix2 r l) - top M r)

/-- The plain sum over the lanes. -/
def total (H : Vec Ideal S2048x128 .f32) (r : Fin 2048) : EReal := ∑ l : Fin 128, H (ix2 r l)

theorem inb_block (a : Fin 16) : ∀ d : Fin 2, (![a.val * 128, 0] : Fin 2 → ℕ) d + S128x128.size d ≤ S2048x128.size d := by
  intro d; match d with
  | 0 => show a.val * 128 + 128 ≤ 2048; omega
  | 1 => show 0 + 128 ≤ 128; omega

/-- The 128 tokens of row `a`. -/
abbrev blk (a : Fin 16) : Rect S2048x128 := Rect.unit (s := S2048x128) ![a.val * 128, 0] S128x128.size (inb_block a)

theorem ld_blk (X : Vec Ideal S2048x128 .f32) (a : Fin 16) (b l : Fin 128) : View.ld X (blk a) (ix2 b l) = X (ix2 (tok a b) l) :=
  View.ld_unit_apply_of X _ _ (inb_block a) (ix2 b l) (ix2 (tok a b) l) fun d => by
    match d with
    | 0 => rfl
    | 1 => show l.val = 0 + l.val; omega

/-- Sixteen rows set below one another. -/
theorem cat (f : Fin 16 → FVec Ideal S1x128 .f32) :
    concatenate S16x128 0 [⟨S1x128, f 0⟩, ⟨S1x128, f 1⟩, ⟨S1x128, f 2⟩, ⟨S1x128, f 3⟩, ⟨S1x128, f 4⟩, ⟨S1x128, f 5⟩, ⟨S1x128, f 6⟩, ⟨S1x128, f 7⟩, ⟨S1x128, f 8⟩, ⟨S1x128, f 9⟩, ⟨S1x128, f 10⟩, ⟨S1x128, f 11⟩, ⟨S1x128, f 12⟩, ⟨S1x128, f 13⟩, ⟨S1x128, f 14⟩, ⟨S1x128, f 15⟩] concatenates_S1x128_S1x128_S1x128_S1x128_S1x128_S1x128_S1x128_S1x128_S1x128_S1x128_S1x128_S1x128_S1x128_S1x128_S1x128_S1x128_S16x128_d0
      = fun y : S16x128.Idx => f (y 0) (ix2 0 (y 1)) := by
  funext y
  refine concatenate_ofFn_apply (0 : Fin S16x128.rank) f concatenates_S1x128_S1x128_S1x128_S1x128_S1x128_S1x128_S1x128_S1x128_S1x128_S1x128_S1x128_S1x128_S1x128_S1x128_S1x128_S1x128_S16x128_d0 rfl 1 rfl y (y 0) (Nat.div_one _) (ix2 0 (y 1)) (Nat.mod_one _).symm fun b hb => ?_
  match b, hb with
  | 0, hb => exact absurd rfl hb
  | 1, _ => rfl

/-- The kernel's row of rounded maxima, of a block. -/
def topRow (M : Vec Ideal S128x128 .f32) : FVec Ideal S1x128 .f32 :=
  ceil (shapeCast S1x128 (multiReduction .maximumf [0] S128 (transpose S128x128 [1, 0] M transposes_S128x128_p1_0_S128x128) 0xFF800000#32 reduces_S128x128_S128 (.inl rfl) rfl) shapeCasts_S128_S1x128)

/-- Its row of rescaled sums. -/
def sumRow (M D : Vec Ideal S128x128 .f32) : FVec Ideal S1x128 .f32 :=
  shapeCast S1x128 (multiReduction .add [0] S128 (mulf (transpose S128x128 [1, 0] D transposes_S128x128_p1_0_S128x128)
    (exp2 (subf (transpose S128x128 [1, 0] M transposes_S128x128_p1_0_S128x128) (broadcastTo S128x128 (topRow M) broadcasts_S1x128_S128x128))))
    0x00000000#32 reduces_S128x128_S128 (.inl rfl) rfl) shapeCasts_S128_S1x128

/-- Its row of plain sums. -/
def plainRow (D : Vec Ideal S128x128 .f32) : FVec Ideal S1x128 .f32 :=
  shapeCast S1x128 (multiReduction .add [0] S128 (transpose S128x128 [1, 0] D transposes_S128x128_p1_0_S128x128) 0x00000000#32 reduces_S128x128_S128 (.inl rfl) rfl) shapeCasts_S128_S1x128

/-- Its row of first lanes. -/
def firstRow (D : Vec Ideal S128x128 .f32) : FVec Ideal S1x128 .f32 :=
  extractStridedSlice S1x128 ![0, 0] (transpose S128x128 [1, 0] D transposes_S128x128_p1_0_S128x128) slices_S128x128_o0_0_S1x128

theorem topRow_apply (M : Vec Ideal S128x128 .f32) (b : Fin 128) :
    topRow M (ix2 0 b) = Ideal.liftRound Int.ceil (Finset.fold max (Ideal.ofBits .f32 4286578688#32) (fun l : Fin 128 => M (ix2 b l)) Finset.univ) := by
  unfold topRow
  pointwise

theorem sumRow_aux (M D : Vec Ideal S128x128 .f32) (T : FVec Ideal S1x128 .f32) (b : Fin 128) :
    shapeCast S1x128 (multiReduction .add [0] S128 (mulf (transpose S128x128 [1, 0] D transposes_S128x128_p1_0_S128x128)
    (exp2 (subf (transpose S128x128 [1, 0] M transposes_S128x128_p1_0_S128x128) (broadcastTo S128x128 T broadcasts_S1x128_S128x128))))
    0x00000000#32 reduces_S128x128_S128 (.inl rfl) rfl) shapeCasts_S128_S1x128 (ix2 0 b)
      = ∑ l : Fin 128, D (ix2 b l) * Ideal.exp2 (M (ix2 b l) - T (ix2 0 b)) := by
  pointwise
  rfl

theorem sumRow_apply (M D : Vec Ideal S128x128 .f32) (b : Fin 128) :
    sumRow M D (ix2 0 b) = ∑ l : Fin 128, D (ix2 b l) * Ideal.exp2 (M (ix2 b l) - topRow M (ix2 0 b)) := sumRow_aux M D (topRow M) b

theorem plainRow_apply (D : Vec Ideal S128x128 .f32) (b : Fin 128) : plainRow D (ix2 0 b) = ∑ l : Fin 128, D (ix2 b l) := by
  unfold plainRow
  pointwise

theorem firstRow_apply (D : Vec Ideal S128x128 .f32) (b : Fin 128) : firstRow D (ix2 0 b) = D (ix2 b 0) := by
  unfold firstRow
  pointwise

theorem top_blk (M : Vec Ideal S2048x128 .f32) (a : Fin 16) (b : Fin 128) : topRow (View.ld M (blk a)) (ix2 0 b) = top M (tok a b) :=
  (topRow_apply _ b).trans (congrArg (fun f : Fin 128 → EReal => Ideal.liftRound Int.ceil (Finset.fold max (Ideal.ofBits .f32 4286578688#32) f Finset.univ))
    (funext fun l => ld_blk M a b l))

theorem sum_blk (M D : Vec Ideal S2048x128 .f32) (a : Fin 16) (b : Fin 128) :
    sumRow (View.ld M (blk a)) (View.ld D (blk a)) (ix2 0 b) = rescaled M D (tok a b) :=
  (sumRow_apply _ _ b).trans (Finset.sum_congr rfl fun l _ => congrArg₂ (· * ·) (ld_blk D a b l)
    (congrArg Ideal.exp2 (congrArg₂ (· - ·) (ld_blk M a b l) (top_blk M a b))))

theorem plain_blk (H : Vec Ideal S2048x128 .f32) (a : Fin 16) (b : Fin 128) : plainRow (View.ld H (blk a)) (ix2 0 b) = total H (tok a b) :=
  (plainRow_apply _ b).trans (Finset.sum_congr rfl fun l _ => ld_blk H a b l)

theorem first_blk (H : Vec Ideal S2048x128 .f32) (a : Fin 16) (b : Fin 128) : firstRow (View.ld H (blk a)) (ix2 0 b) = H (ix2 (tok a b) 0) :=
  (firstRow_apply _ b).trans (ld_blk H a b 0)

/-! ## Per token -/

/-- The logarithm to the base two. -/
def lg (v : EReal) : EReal := Ideal.div (Ideal.log v) (Ideal.log (Ideal.ofBits .f32 0x40000000#32))

/-- The logarithm of the sum of the exponentials. -/
def lse (M D : Vec Ideal S2048x128 .f32) (r : Fin 2048) : EReal := Ideal.div (top M r + lg (rescaled M D r)) (Ideal.ofBits .f32 0x3FB8AA3B#32)

/-- The log-probability of the label. -/
def logp (H M D : Vec Ideal S2048x128 .f32) (r : Fin 2048) : EReal := Ideal.div (total H r) (Ideal.ofBits .f32 0x3FB8AA3B#32) - lse M D r

/-- The entropy. -/
def entropy (M D N : Vec Ideal S2048x128 .f32) (r : Fin 2048) : EReal :=
  lse M D r - Ideal.div (Ideal.div (rescaled M N r) (Ideal.ofBits .f32 0x3FB8AA3B#32)) (rescaled M D r)

/-! ## The kernel's rows -/

variable (x0 x1 x2 x3 x4 x5 x6 x7 x8 : Vec Ideal S2048x128 .f32) (x9 : Vec Ideal S16x128 .f32) (x10 : Vec Ideal S16x128 .i32) (x11 : Vec Ideal S16x128 .f32)
  (x12 : Vec Ideal S1x24 .f32) (x13 : Vec Ideal S24x1 .f32) (x14 : Vec Ideal S1x24 .i32) (x15 x16 x17 : Vec Ideal S24x1 .i32)

theorem k_top : k0_pay328 (F := Ideal) x0 x1 x2 x3 x4 x5 x6 x7 x8 x9 x10 x11 x12 x13 x14 x15 x16 x17 = fun y : S16x128.Idx => top x0 (tok (y 0) (y 1)) :=
  (cat fun a => topRow (View.ld x0 (blk a))).trans (funext fun y => top_blk x0 (y 0) (y 1))

theorem k_den : k0_pay329 (F := Ideal) x0 x1 x2 x3 x4 x5 x6 x7 x8 x9 x10 x11 x12 x13 x14 x15 x16 x17 = fun y : S16x128.Idx => rescaled x0 x1 (tok (y 0) (y 1)) :=
  (cat fun a => sumRow (View.ld x0 (blk a)) (View.ld x1 (blk a))).trans (funext fun y => sum_blk x0 x1 (y 0) (y 1))

theorem k_num : k0_pay330 (F := Ideal) x0 x1 x2 x3 x4 x5 x6 x7 x8 x9 x10 x11 x12 x13 x14 x15 x16 x17 = fun y : S16x128.Idx => rescaled x0 x2 (tok (y 0) (y 1)) :=
  (cat fun a => sumRow (View.ld x0 (blk a)) (View.ld x2 (blk a))).trans (funext fun y => sum_blk x0 x2 (y 0) (y 1))

/-- The kernel's logarithm of the sum of the exponentials, of its rows of maxima and sums. -/
def lseRows (M D : FVec Ideal S16x128 .f32) : FVec Ideal S16x128 .f32 :=
  divf (addf M (divf (log D) (log (broadcast S16x128 (Scalar.ofBits (F := Ideal) .f32 0x40000000#32))))) (broadcast S16x128 (Scalar.ofBits (F := Ideal) .f32 0x3FB8AA3B#32))

/-- Its log-probability. -/
def logpRows (H M D : FVec Ideal S16x128 .f32) : FVec Ideal S16x128 .f32 :=
  subf (divf H (broadcast S16x128 (Scalar.ofBits (F := Ideal) .f32 0x3FB8AA3B#32))) (lseRows M D)

theorem k_lse : k0_pay332 (F := Ideal) x0 x1 x2 x3 x4 x5 x6 x7 x8 x9 x10 x11 x12 x13 x14 x15 x16 x17 = fun y : S16x128.Idx => lse x0 x1 (tok (y 0) (y 1)) :=
  congrArg₂ lseRows (k_top x0 x1 x2 x3 x4 x5 x6 x7 x8 x9 x10 x11 x12 x13 x14 x15 x16 x17) (k_den x0 x1 x2 x3 x4 x5 x6 x7 x8 x9 x10 x11 x12 x13 x14 x15 x16 x17)

theorem k_logp : k0_pay334 (F := Ideal) x0 x1 x2 x3 x4 x5 x6 x7 x8 x9 x10 x11 x12 x13 x14 x15 x16 x17 = fun y : S16x128.Idx => logp x3 x0 x1 (tok (y 0) (y 1)) :=
  (congrArg (fun H => logpRows H (k0_pay328 x0 x1 x2 x3 x4 x5 x6 x7 x8 x9 x10 x11 x12 x13 x14 x15 x16 x17) (k0_pay329 x0 x1 x2 x3 x4 x5 x6 x7 x8 x9 x10 x11 x12 x13 x14 x15 x16 x17)) ((cat fun a => plainRow (View.ld x3 (blk a))).trans (funext fun y => plain_blk x3 (y 0) (y 1)))).trans
    (congrArg₂ (logpRows _) (k_top x0 x1 x2 x3 x4 x5 x6 x7 x8 x9 x10 x11 x12 x13 x14 x15 x16 x17) (k_den x0 x1 x2 x3 x4 x5 x6 x7 x8 x9 x10 x11 x12 x13 x14 x15 x16 x17))

theorem k_rlogp : k0_pay347 (F := Ideal) x0 x1 x2 x3 x4 x5 x6 x7 x8 x9 x10 x11 x12 x13 x14 x15 x16 x17 = fun y : S16x128.Idx => logp x6 x4 x5 (tok (y 0) (y 1)) :=
  Eq.trans (congrArg (fun H => logpRows H _ _) ((cat fun a => plainRow (View.ld x6 (blk a))).trans (funext fun y => plain_blk x6 (y 0) (y 1))))
    (congrArg₂ (logpRows _) ((cat fun a => topRow (View.ld x4 (blk a))).trans (funext fun y => top_blk x4 (y 0) (y 1)))
      ((cat fun a => sumRow (View.ld x4 (blk a)) (View.ld x5 (blk a))).trans (funext fun y => sum_blk x4 x5 (y 0) (y 1))))

/-- Its entropy. -/
theorem k_entropy : k0_pay164 (F := Ideal) (k0_pay329 x0 x1 x2 x3 x4 x5 x6 x7 x8 x9 x10 x11 x12 x13 x14 x15 x16 x17) (k0_pay330 x0 x1 x2 x3 x4 x5 x6 x7 x8 x9 x10 x11 x12 x13 x14 x15 x16 x17) (k0_pay332 x0 x1 x2 x3 x4 x5 x6 x7 x8 x9 x10 x11 x12 x13 x14 x15 x16 x17) = fun y : S16x128.Idx => entropy x0 x1 x2 (tok (y 0) (y 1)) := by
  rw [k_den, k_num, k_lse]; rfl

end Cert.Proof.CoefRows

end
-- ==== Proof.CoefAdv.lean ====
/- The advantages, over the extended reals: each sequence's reward against the others of its group. -/
module

public import proofs.«01_k».proof.Proof.CoefRows

@[expose] public section

set_option maxRecDepth 16384

noncomputable section

namespace Cert.Proof.CoefAdv

open Idealize.ShloMosaic Idealize.ShloMosaic.TcCoe Idealize.SL.Sem
open Cert.CoefIdeal Cert.CoefIdeal.Gen Cert.CoefIdeal.CoefRun Cert.Proof.CoefRows

/-- One where a condition holds, zero elsewhere. -/
def bit (b : BitVec 1) : EReal := ((b.toNat : ℝ) : EReal)

/-- A condition widened to 32 bits, as a signed number. -/
theorem bit_eq (b : BitVec 1) : FloatOps.sitofp (F := Ideal) (φ := .f32) (BitVec.setWidth 32 b) = bit b := by
  have h : (BitVec.setWidth 32 b).toInt = (b.toNat : ℤ) := by revert b; decide
  show (((BitVec.setWidth 32 b).toInt : ℝ) : EReal) = ((b.toNat : ℝ) : EReal)
  rw [h, Int.cast_natCast]

theorem k_same (x15 : Vec Ideal S24x1 .i32) (x14 : Vec Ideal S1x24 .i32) (i j : Fin 24) :
    k0_pay190 (F := Ideal) x15 x14 (ix2 i j) = bit (IntOp.cmpi .eq (x15 (ix2 i 0)) (x14 (ix2 0 j))) := by
  unfold k0_pay190
  pointwise
  exact bit_eq _

variable (S : FVec Ideal S24x24 .f32) (R : FVec Ideal S1x24 .f32) (C : Vec Ideal S24x1 .f32)

theorem k193 (i : Fin 24) : k0_pay193 S (ix2 i 0) = ∑ k : Fin 24, S (ix2 i k) := by
  unfold k0_pay193
  pointwise

theorem k194 (j : Fin 24) : k0_pay194 S (ix2 0 j) = ∑ k : Fin 24, S (ix2 k j) := by
  unfold k0_pay194
  pointwise

theorem k195 (i : Fin 24) : k0_pay195 S R C (ix2 i 0) = C (ix2 i 0) - Ideal.div (∑ k : Fin 24, S (ix2 i k) * R (ix2 0 k)) (∑ k : Fin 24, S (ix2 i k)) := by
  rw [← k193]
  unfold k0_pay195 k0_pay192
  generalize k0_pay193 S = N
  pointwise

theorem k196 (j : Fin 24) : k0_pay196 S R C (ix2 0 j) = R (ix2 0 j) - Ideal.div (∑ k : Fin 24, S (ix2 k j) * C (ix2 k 0)) (∑ k : Fin 24, S (ix2 k j)) := by
  rw [← k194]
  unfold k0_pay196 k0_pay192
  generalize k0_pay194 S = N
  pointwise

theorem k197 (i : Fin 24) : k0_pay197 S R C (ix2 i 0) = Ideal.div (k0_pay195 S R C (ix2 i 0))
    (Ideal.sqrt (Ideal.div (∑ k : Fin 24, S (ix2 i k) * (k0_pay196 S R C (ix2 0 k) * k0_pay196 S R C (ix2 0 k)))
      (max ((∑ k : Fin 24, S (ix2 i k)) - Ideal.ofBits .f32 0x3F800000#32) (Ideal.ofBits .f32 0x3F800000#32))) + Ideal.ofBits .f32 0x38D1B717#32) := by
  rw [← k193]
  unfold k0_pay197
  generalize k0_pay193 S = N
  generalize k0_pay195 S R C = A
  generalize k0_pay196 S R C = B
  pointwise

theorem k198 (j : Fin 24) : k0_pay198 S R C (ix2 0 j) = Ideal.div (k0_pay196 S R C (ix2 0 j))
    (Ideal.sqrt (Ideal.div (∑ k : Fin 24, S (ix2 k j) * (k0_pay195 S R C (ix2 k 0) * k0_pay195 S R C (ix2 k 0)))
      (max ((∑ k : Fin 24, S (ix2 k j)) - Ideal.ofBits .f32 0x3F800000#32) (Ideal.ofBits .f32 0x3F800000#32))) + Ideal.ofBits .f32 0x38D1B717#32) := by
  rw [← k194]
  unfold k0_pay198
  generalize k0_pay194 S = N
  generalize k0_pay195 S R C = A
  generalize k0_pay196 S R C = B
  pointwise

/-- A reward less its group's mean. -/
def dev (E : Fin 24 → Fin 24 → EReal) (r : Fin 24 → EReal) (j : Fin 24) : EReal :=
  r j - Ideal.div (∑ k : Fin 24, E j k * r k) (∑ k : Fin 24, E j k)

/-- The advantage: that over the group's standard deviation. -/
def adv (E : Fin 24 → Fin 24 → EReal) (r : Fin 24 → EReal) (j : Fin 24) : EReal :=
  Ideal.div (dev E r j) (Ideal.sqrt (Ideal.div (∑ k : Fin 24, E j k * (dev E r k * dev E r k))
    (max ((∑ k : Fin 24, E j k) - Ideal.ofBits .f32 0x3F800000#32) (Ideal.ofBits .f32 0x3F800000#32))) + Ideal.ofBits .f32 0x38D1B717#32)

variable (E : Fin 24 → Fin 24 → EReal) (r : Fin 24 → EReal) (hE : ∀ a b, E a b = E b a) (hS : ∀ a b, S (ix2 a b) = E a b)
  (hR : ∀ k, R (ix2 0 k) = r k) (hC : ∀ k, C (ix2 k 0) = r k)

include hS hR hC in
theorem dev_col (i : Fin 24) : k0_pay195 S R C (ix2 i 0) = dev E r i := by
  rw [k195]; simp only [hS, hR, hC]; rfl

include hE hS hR hC in
theorem dev_row (j : Fin 24) : k0_pay196 S R C (ix2 0 j) = dev E r j := by
  rw [k196]; simp only [hS, hR, hC, hE _ j]; rfl

include hE hS hR hC in
/-- The kernel's column of advantages. -/
theorem adv_col (i : Fin 24) : k0_pay197 S R C (ix2 i 0) = adv E r i := by
  rw [k197]; simp only [dev_col S R C E r hS hR hC, dev_row S R C E r hE hS hR hC, hS]; rfl

include hE hS hR hC in
/-- Its row of advantages. -/
theorem adv_row (j : Fin 24) : k0_pay198 S R C (ix2 0 j) = adv E r j := by
  rw [k198]; simp only [dev_col S R C E r hS hR hC, dev_row S R C E r hE hS hR hC, hS, hE _ j]; rfl

/-! ## The tokens of each sequence -/

/-- The kernel's tokens of each sequence, among the 128 from `off` on. -/
def segBlk (off : BitVec 32) (lo hi : Vec Ideal S24x1 .i32) : FVec Ideal S24x128 .f32 :=
  sitofp .f32 (extui 32 (andi
    (cmpi .sge (broadcastTo S24x128 (addi (iota .tc S1x128 32 [1] iota_S1x128_d1_w32) (broadcast S1x128 off)) broadcasts_S1x128_S24x128)
      (broadcastTo S24x128 (shapeCast S24x1 lo shapeCasts_S24x1_S24x1) broadcasts_S24x1_S24x128))
    (cmpi .slt (broadcastTo S24x128 (addi (iota .tc S1x128 32 [1] iota_S1x128_d1_w32) (broadcast S1x128 off)) broadcasts_S1x128_S24x128)
      (broadcastTo S24x128 (shapeCast S24x1 hi shapeCasts_S24x1_S24x1) broadcasts_S24x1_S24x128))) natLt_1_32)

/-- Token `t` within a sequence's bounds. -/
def inSeg (lo hi : BitVec 32) (t : ℕ) : EReal :=
  bit (IntOp.andi (IntOp.cmpi .sge (BitVec.ofNat 32 t) lo) (IntOp.cmpi .slt (BitVec.ofNat 32 t) hi))

theorem segBlk_apply (a : Fin 16) (lo hi : Vec Ideal S24x1 .i32) (g : Fin 24) (b : Fin 128) :
    segBlk (BitVec.ofNat 32 (a.val * 128)) lo hi (ix2 g b) = inSeg (lo (ix2 g 0)) (hi (ix2 g 0)) (tok a b).val := by
  have e : BitVec.ofNat 32 (tok a b).val = BitVec.ofNat 32 b.val + BitVec.ofNat 32 (a.val * 128) := by
    show BitVec.ofNat 32 (a.val * 128 + b.val) = _
    rw [Nat.add_comm, BitVec.ofNat_add]
  unfold segBlk inSeg
  rw [← bit_eq, e]
  generalize BitVec.ofNat 32 (a.val * 128) = o
  pointwise
  rfl

/-- The kernel's row of each token's advantage. -/
def segRow (A : FVec Ideal S24x1 .f32) (X : FVec Ideal S24x128 .f32) : FVec Ideal S1x128 .f32 :=
  shapeCast S1x128 (multiReduction .add [0] S128 (mulf X (broadcastTo S24x128 A broadcasts_S24x1_S24x128)) 0x00000000#32 reduces_S24x128_S128 (.inl rfl) rfl) shapeCasts_S128_S1x128

theorem segRow_apply (A : FVec Ideal S24x1 .f32) (X : FVec Ideal S24x128 .f32) (b : Fin 128) :
    segRow A X (ix2 0 b) = ∑ g : Fin 24, X (ix2 g b) * A (ix2 g 0) := by
  unfold segRow
  pointwise

variable (x0 x1 x2 x3 x4 x5 x6 x7 x8 : Vec Ideal S2048x128 .f32) (x9 : Vec Ideal S16x128 .f32) (x10 : Vec Ideal S16x128 .i32) (x11 : Vec Ideal S16x128 .f32)
  (x12 : Vec Ideal S1x24 .f32) (x13 : Vec Ideal S24x1 .f32) (x14 : Vec Ideal S1x24 .i32) (x15 x16 x17 : Vec Ideal S24x1 .i32)

theorem k_atok : k0_pay368 (F := Ideal) x0 x1 x2 x3 x4 x5 x6 x7 x8 x9 x10 x11 x12 x13 x14 x15 x16 x17 = fun y : S16x128.Idx =>
    ∑ g : Fin 24, inSeg (View.ld x16 r0_17 (ix2 g 0)) (View.ld x17 r0_17 (ix2 g 0)) (tok (y 0) (y 1)).val * k0_pay350 x0 x1 x2 x3 x4 x5 x6 x7 x8 x9 x10 x11 x12 x13 x14 x15 x16 x17 (ix2 g 0) :=
  (cat fun a => segRow (k0_pay350 x0 x1 x2 x3 x4 x5 x6 x7 x8 x9 x10 x11 x12 x13 x14 x15 x16 x17) (segBlk (BitVec.ofNat 32 (a.val * 128)) (View.ld x16 r0_17) (View.ld x17 r0_17))).trans
    (funext fun y => (segRow_apply _ _ (y 1)).trans (Finset.sum_congr rfl fun g _ => congrArg (· * k0_pay350 x0 x1 x2 x3 x4 x5 x6 x7 x8 x9 x10 x11 x12 x13 x14 x15 x16 x17 (ix2 g 0))
      (segBlk_apply (y 0) (View.ld x16 r0_17) (View.ld x17 r0_17) g (y 1))))

/-! ## The coefficient of a token -/

/-- A token's advantage: that of the sequence it lies in. -/
def perTok (lo hi : Fin 24 → BitVec 32) (A : Fin 24 → EReal) (t : Fin 2048) : EReal := ∑ g : Fin 24, inSeg (lo g) (hi g) t.val * A g

/-- The number of the answers' tokens, at least one. -/
def tokens (w : BitVec 32) : EReal := FloatOps.sitofp (F := Ideal) (φ := .f32) (IntOp.maxsi w 1#32)

/-- The coefficient, of the token's mask, advantage and three log-probabilities. -/
def coef (k : BitVec 32) (a lp rlp old n : EReal) : EReal :=
  Ideal.div (FloatOps.sitofp (F := Ideal) (φ := .f32) k * (-a * min (Ideal.exp (lp - old)) (Ideal.ofBits .f32 0x3FA3D70A#32)
    + Ideal.ofBits .f32 0x3DCCCCCD#32 * (Ideal.ofBits .f32 0x3F800000#32 - Ideal.exp (rlp - lp)))) n

/-- Its gradient's factor. -/
def factor (k d s : EReal) : EReal := Ideal.div (Ideal.div (Ideal.div k d) (Ideal.ofBits .f32 0x3F4CCCCD#32)) s

/-- Two sequences in the same group. -/
def same (gid : Fin 24 → BitVec 32) (i j : Fin 24) : EReal := bit (IntOp.cmpi .eq (gid i) (gid j))

theorem same_comm (gid : Fin 24 → BitVec 32) (i j : Fin 24) : same gid i j = same gid j i := by
  unfold same IntOp.cmpi
  exact congrArg (fun b => bit (BitVec.ofBool b)) BEq.comm

/-- A sum of words does not depend on how they are arranged. -/
theorem fold_shapeCast {s t : Shape} (x : s.Idx → BitVec 32) (h : s.ShapeCasts t) :
    Finset.univ.fold IntOp.addi 0#32 (shapeCast t x h) = Finset.univ.fold IntOp.addi 0#32 x := by
  rw [← Finset.map_univ_equiv (Shape.reshapeEquiv h), Finset.fold_map]
  rfl

end Cert.Proof.CoefAdv

end
-- ==== Proof.CoefOut.lean ====
/- What the token coefficients' kernel stores, over the extended reals, per token. -/
module

public import proofs.«01_k».proof.Proof.CoefAdv
public import Idealize.ShloMosaic.Lib.Pipeline.ValueKit

@[expose] public section

set_option maxRecDepth 16384

noncomputable section

namespace Cert.Proof.CoefOut

open Idealize.ShloMosaic Idealize.ShloMosaic.TcCoe Idealize.SL.Sem
open Cert.CoefIdeal Cert.CoefIdeal.Gen Cert.CoefIdeal.CoefRun Cert.Proof.CoefRows Cert.Proof.CoefAdv

/-- Loads of a whole array. -/
theorem ld16 {e : EltTy} (X : Vec Ideal S16x128 e) : View.ld X r0_16 = X :=
  ext_ix2 _ _ fun a b => View.ld_unit_apply_of X _ _ inb_S16x128_S16x128_0_0 (ix2 a b) (ix2 a b) fun d => by
    match d with
    | 0 => show a.val = 0 + a.val; omega
    | 1 => show b.val = 0 + b.val; omega

theorem ld17 {e : EltTy} (X : Vec Ideal S24x1 e) : View.ld X r0_17 = X :=
  ext_ix2 _ _ fun a b => View.ld_unit_apply_of X _ _ inb_S24x1_S24x1_0_0 (ix2 a b) (ix2 a b) fun d => by
    match d with
    | 0 => show a.val = 0 + a.val; omega
    | 1 => show b.val = 0 + b.val; omega

theorem ld18 {e : EltTy} (X : Vec Ideal S1x24 e) : View.ld X r0_18 = X :=
  ext_ix2 _ _ fun a b => View.ld_unit_apply_of X _ _ inb_S1x24_S1x24_0_0 (ix2 a b) (ix2 a b) fun d => by
    match d with
    | 0 => show a.val = 0 + a.val; omega
    | 1 => show b.val = 0 + b.val; omega

/-- Stores of a whole array. -/
theorem st16 (p : Vec Ideal S16x128 .f32) : View.canon [⟨r0_16, p⟩] = p :=
  funext fun y => View.canon_apply_of_pieces p _ (List.forall_mem_cons.2 ⟨fun x => (congrFun (ld16 p) x).symm, fun _ h => absurd h List.not_mem_nil⟩) y (cover0_18 p y)

theorem st18 (p : Vec Ideal S1x24 .f32) : View.canon [⟨r0_18, p⟩] = p :=
  funext fun y => View.canon_apply_of_pieces p _ (List.forall_mem_cons.2 ⟨fun x => (congrFun (ld18 p) x).symm, fun _ h => absurd h List.not_mem_nil⟩) y (cover0_24 p y)

/-! ## Arrays across the lanes -/

/-- One row of tokens, each across the lanes. -/
def laneBlk (v : FVec Ideal S16x128 .f32) (a : Fin 16) (h : S16x128.Slices ![a.val, 0] S1x128) : FVec Ideal S128x128 .f32 :=
  transpose S128x128 [1, 0] (broadcastTo S128x128 (shapeCast S1x128 (extractStridedSlice S1x128 ![a.val, 0] v h) shapeCasts_S1x128_S1x128) broadcasts_S1x128_S128x128) transposes_S128x128_p1_0_S128x128

theorem lane_aux (w : FVec Ideal S1x128 .f32) (b l : Fin 128) :
    transpose S128x128 [1, 0] (broadcastTo S128x128 (shapeCast S1x128 w shapeCasts_S1x128_S1x128) broadcasts_S1x128_S128x128) transposes_S128x128_p1_0_S128x128 (ix2 b l) = w (ix2 0 b) := by
  pointwise

theorem laneBlk_apply (v : FVec Ideal S16x128 .f32) (a : Fin 16) (h : S16x128.Slices ![a.val, 0] S1x128) (b l : Fin 128) :
    laneBlk v a h (ix2 b l) = v (ix2 a b) :=
  (lane_aux _ b l).trans (congrArg v (funext fun d => by
    match d with
    | 0 => exact Fin.ext (by show a.val + 0 = a.val; omega)
    | 1 => exact Fin.ext (by show 0 + b.val = b.val; omega)))

/-- A value of each token, across the lanes. -/
def lanes (f : Fin 2048 → EReal) : Vec Ideal S2048x128 .f32 := fun y : S2048x128.Idx => f (y 0)

theorem piece (v : FVec Ideal S16x128 .f32) (f : Fin 2048 → EReal) (hv : v = fun y : S16x128.Idx => f (tok (y 0) (y 1))) (a : Fin 16)
    (h : S16x128.Slices ![a.val, 0] S1x128) (x : S128x128.Idx) :
    laneBlk v a h x = lanes f ((blk a).emb x) := by
  refine congrFun (ext_ix2 (laneBlk v a h) (View.ld (lanes f) (blk a)) fun b l => ?_) x
  rw [laneBlk_apply, hv]
  exact (ld_blk (lanes f) a b l).symm

/-- Sixteen rows of tokens, each token across the lanes. -/
theorem wide (v : FVec Ideal S16x128 .f32) (f : Fin 2048 → EReal) (hv : v = fun y : S16x128.Idx => f (tok (y 0) (y 1))) :
    View.canon ([⟨r0_15, laneBlk v 15 slices_S16x128_o15_0_S1x128⟩, ⟨r0_14, laneBlk v 14 slices_S16x128_o14_0_S1x128⟩, ⟨r0_13, laneBlk v 13 slices_S16x128_o13_0_S1x128⟩, ⟨r0_12, laneBlk v 12 slices_S16x128_o12_0_S1x128⟩, ⟨r0_11, laneBlk v 11 slices_S16x128_o11_0_S1x128⟩, ⟨r0_10, laneBlk v 10 slices_S16x128_o10_0_S1x128⟩, ⟨r0_9, laneBlk v 9 slices_S16x128_o9_0_S1x128⟩, ⟨r0_8, laneBlk v 8 slices_S16x128_o8_0_S1x128⟩, ⟨r0_7, laneBlk v 7 slices_S16x128_o7_0_S1x128⟩, ⟨r0_6, laneBlk v 6 slices_S16x128_o6_0_S1x128⟩, ⟨r0_5, laneBlk v 5 slices_S16x128_o5_0_S1x128⟩, ⟨r0_4, laneBlk v 4 slices_S16x128_o4_0_S1x128⟩, ⟨r0_3, laneBlk v 3 slices_S16x128_o3_0_S1x128⟩, ⟨r0_2, laneBlk v 2 slices_S16x128_o2_0_S1x128⟩, ⟨r0_1, laneBlk v 1 slices_S16x128_o1_0_S1x128⟩, ⟨r0_0, laneBlk v 0 slices_S16x128_o0_0_S1x128⟩] : List (View.Piece (Elt Ideal) S2048x128 .f32)) = lanes f :=
  funext fun y => View.canon_apply_of_pieces (lanes f) _
    (List.forall_mem_cons.2 ⟨piece v f hv 15 slices_S16x128_o15_0_S1x128, List.forall_mem_cons.2 ⟨piece v f hv 14 slices_S16x128_o14_0_S1x128, List.forall_mem_cons.2 ⟨piece v f hv 13 slices_S16x128_o13_0_S1x128, List.forall_mem_cons.2 ⟨piece v f hv 12 slices_S16x128_o12_0_S1x128, List.forall_mem_cons.2 ⟨piece v f hv 11 slices_S16x128_o11_0_S1x128, List.forall_mem_cons.2 ⟨piece v f hv 10 slices_S16x128_o10_0_S1x128, List.forall_mem_cons.2 ⟨piece v f hv 9 slices_S16x128_o9_0_S1x128, List.forall_mem_cons.2 ⟨piece v f hv 8 slices_S16x128_o8_0_S1x128, List.forall_mem_cons.2 ⟨piece v f hv 7 slices_S16x128_o7_0_S1x128, List.forall_mem_cons.2 ⟨piece v f hv 6 slices_S16x128_o6_0_S1x128, List.forall_mem_cons.2 ⟨piece v f hv 5 slices_S16x128_o5_0_S1x128, List.forall_mem_cons.2 ⟨piece v f hv 4 slices_S16x128_o4_0_S1x128, List.forall_mem_cons.2 ⟨piece v f hv 3 slices_S16x128_o3_0_S1x128, List.forall_mem_cons.2 ⟨piece v f hv 2 slices_S16x128_o2_0_S1x128, List.forall_mem_cons.2 ⟨piece v f hv 1 slices_S16x128_o1_0_S1x128, List.forall_mem_cons.2 ⟨piece v f hv 0 slices_S16x128_o0_0_S1x128, fun _ h => absurd h List.not_mem_nil⟩⟩⟩⟩⟩⟩⟩⟩⟩⟩⟩⟩⟩⟩⟩⟩) y (cover0_26 _ _ _ _ _ _ _ _ _ _ _ _ _ _ _ _ y)

/-! ## The coefficient -/

/-- The only index. -/
theorem one_idx (i j : S1.Idx) : i = j := funext fun a => by
  match a with
  | 0 => exact Subsingleton.elim (α := Fin 1) _ _

theorem k_count (k : Vec Ideal S16x128 .i32) : k0_pay230 (F := Ideal) k = tokens (Finset.univ.fold IntOp.addi 0#32 k) := by
  have h : ∀ j, multiReductionI .add [1, 2] S1 (shapeCast S1x16x128 (shapeCast S16x128 k shapeCasts_S16x128_S16x128) shapeCasts_S16x128_S1x16x128) 0#32 reduces_S1x16x128_S1 rfl j
      = Finset.univ.fold IntOp.addi 0#32 k := by
    intro j
    refine (multiReductionI_eq_fold ..).trans ?_
    rw [Finset.filter_true_of_mem fun i _ => one_idx _ _]
    exact (fold_shapeCast _ _).trans (fold_shapeCast _ _)
  exact congrArg tokens (h _)

theorem k_mask (k : Vec Ideal S16x128 .i32) : k0_pay231 (F := Ideal) k = fun y => FloatOps.sitofp (F := Ideal) (φ := .f32) (k y) := by
  refine ext_ix2 _ _ fun a b => ?_
  unfold k0_pay231 k0_pay229
  pointwise

theorem k_old (o : Vec Ideal S16x128 .f32) : k0_pay232 (F := Ideal) o = o := by
  refine ext_ix2 _ _ fun a b => ?_
  unfold k0_pay232
  pointwise

theorem k_scale (o : Vec Ideal S16x128 .f32) : k0_pay251 (F := Ideal) o = o := by
  refine ext_ix2 _ _ fun a b => ?_
  unfold k0_pay251
  pointwise

theorem k_reward (o : Vec Ideal S1x24 .f32) : k0_pay191 (F := Ideal) o = o := by
  refine ext_ix2 _ _ fun a b => ?_
  unfold k0_pay191
  pointwise

theorem k_coef (L R A O : FVec Ideal S16x128 .f32) (n : EReal) (k : Vec Ideal S16x128 .i32) :
    k0_pay236 (F := Ideal) L R A n (fun y => FloatOps.sitofp (F := Ideal) (φ := .f32) (k y)) O = fun y => coef (k y) (A y) (L y) (R y) (O y) n := by
  funext y
  have z : -(A y) = Ideal.ofBits .f32 0x00000000#32 - A y := by rw [Ideal.ofBits_zero_f32, zero_sub]
  show _ = Ideal.div _ _
  rw [z]
  rfl

theorem k_factor (D K S : FVec Ideal S16x128 .f32) : k0_pay252 (F := Ideal) D K S = fun y => factor (K y) (D y) (S y) := by
  unfold k0_pay252
  rw [k_scale]
  rfl

/-! ## The kernel's outputs -/

variable (x0 x1 x2 x3 x4 x5 x6 x7 x8 : Vec Ideal S2048x128 .f32) (x9 : Vec Ideal S16x128 .f32) (x10 : Vec Ideal S16x128 .i32) (x11 : Vec Ideal S16x128 .f32)
  (x12 : Vec Ideal S1x24 .f32) (x13 : Vec Ideal S24x1 .f32) (x14 : Vec Ideal S1x24 .i32) (x15 x16 x17 : Vec Ideal S24x1 .i32)

theorem o18 : out0_18 (F := Ideal) x0 x1 x2 x3 x4 x5 x6 x7 x8 x9 x10 x11 x12 x13 x14 x15 x16 x17 = fun y : S16x128.Idx => logp x3 x0 x1 (tok (y 0) (y 1)) := (st16 _).trans (k_logp x0 x1 x2 x3 x4 x5 x6 x7 x8 x9 x10 x11 x12 x13 x14 x15 x16 x17)
theorem o19 : out0_19 (F := Ideal) x0 x1 x2 x3 x4 x5 x6 x7 x8 x9 x10 x11 x12 x13 x14 x15 x16 x17 = fun y : S16x128.Idx => logp x6 x4 x5 (tok (y 0) (y 1)) := (st16 _).trans (k_rlogp x0 x1 x2 x3 x4 x5 x6 x7 x8 x9 x10 x11 x12 x13 x14 x15 x16 x17)
theorem o20 : out0_20 (F := Ideal) x0 x1 x2 x3 x4 x5 x6 x7 x8 x9 x10 x11 x12 x13 x14 x15 x16 x17 = fun y : S16x128.Idx => entropy x0 x1 x2 (tok (y 0) (y 1)) := (st16 _).trans (k_entropy x0 x1 x2 x3 x4 x5 x6 x7 x8 x9 x10 x11 x12 x13 x14 x15 x16 x17)
theorem o22 : out0_22 (F := Ideal) x0 x1 x2 x3 x4 x5 x6 x7 x8 x9 x10 x11 x12 x13 x14 x15 x16 x17 = fun y : S16x128.Idx => x7 (ix2 (tok (y 0) (y 1)) 0) :=
  (st16 _).trans ((cat fun a => firstRow (View.ld x7 (blk a))).trans (funext fun y => first_blk x7 (y 0) (y 1)))
theorem o23 : out0_23 (F := Ideal) x0 x1 x2 x3 x4 x5 x6 x7 x8 x9 x10 x11 x12 x13 x14 x15 x16 x17 = fun y : S16x128.Idx => x8 (ix2 (tok (y 0) (y 1)) 0) :=
  (st16 _).trans ((cat fun a => firstRow (View.ld x8 (blk a))).trans (funext fun y => first_blk x8 (y 0) (y 1)))
theorem o26 : out0_26 (F := Ideal) x0 x1 x2 x3 x4 x5 x6 x7 x8 x9 x10 x11 x12 x13 x14 x15 x16 x17 = fun y : S2048x128.Idx => top x0 (y 0) := wide _ _ (k_top x0 x1 x2 x3 x4 x5 x6 x7 x8 x9 x10 x11 x12 x13 x14 x15 x16 x17)
theorem o27 : out0_27 (F := Ideal) x0 x1 x2 x3 x4 x5 x6 x7 x8 x9 x10 x11 x12 x13 x14 x15 x16 x17 = fun y : S2048x128.Idx => rescaled x0 x1 (y 0) := wide _ _ (k_den x0 x1 x2 x3 x4 x5 x6 x7 x8 x9 x10 x11 x12 x13 x14 x15 x16 x17)

variable (gid : Fin 24 → BitVec 32) (r : Fin 24 → EReal) (lo hi : Fin 24 → BitVec 32) (old gs : Fin 2048 → EReal) (k : Fin 2048 → BitVec 32)
  (h9 : x9 = fun y : S16x128.Idx => old (tok (y 0) (y 1))) (h10 : x10 = fun y : S16x128.Idx => k (tok (y 0) (y 1)))
  (h11 : x11 = fun y : S16x128.Idx => gs (tok (y 0) (y 1)))
  (h12 : ∀ j, x12 (ix2 0 j) = r j) (h13 : ∀ j, x13 (ix2 j 0) = r j) (h14 : ∀ j, x14 (ix2 0 j) = gid j) (h15 : ∀ j, x15 (ix2 j 0) = gid j)
  (h16 : ∀ j, x16 (ix2 j 0) = lo j) (h17 : ∀ j, x17 (ix2 j 0) = hi j)

include h14 h15 in
theorem k_groups (a b : Fin 24) : k0_pay348 (F := Ideal) x0 x1 x2 x3 x4 x5 x6 x7 x8 x9 x10 x11 x12 x13 x14 x15 x16 x17 (ix2 a b) = same gid a b := by
  refine (k_same (View.ld x15 r0_17) (View.ld x14 r0_18) a b).trans ?_
  rw [ld17, ld18, h14, h15]; rfl

theorem k_rewards : k0_pay349 (F := Ideal) x0 x1 x2 x3 x4 x5 x6 x7 x8 x9 x10 x11 x12 x13 x14 x15 x16 x17 = x12 := (k_reward _).trans (ld18 _)

include h12 h13 h14 h15 in
theorem k_adv (g : Fin 24) : k0_pay350 (F := Ideal) x0 x1 x2 x3 x4 x5 x6 x7 x8 x9 x10 x11 x12 x13 x14 x15 x16 x17 (ix2 g 0) = adv (same gid) r g :=
  adv_col (k0_pay348 (F := Ideal) x0 x1 x2 x3 x4 x5 x6 x7 x8 x9 x10 x11 x12 x13 x14 x15 x16 x17) (k0_pay349 (F := Ideal) x0 x1 x2 x3 x4 x5 x6 x7 x8 x9 x10 x11 x12 x13 x14 x15 x16 x17) (View.ld x13 r0_17) (same gid) r (same_comm gid) (fun a b => k_groups x0 x1 x2 x3 x4 x5 x6 x7 x8 x9 x10 x11 x12 x13 x14 x15 x16 x17 gid h14 h15 a b)
    (fun j => (congrFun (k_rewards x0 x1 x2 x3 x4 x5 x6 x7 x8 x9 x10 x11 x12 x13 x14 x15 x16 x17) _).trans (h12 j)) (fun j => (congrFun (ld17 x13) _).trans (h13 j)) g

include h12 h13 h14 h15 in
theorem o24 : out0_24 (F := Ideal) x0 x1 x2 x3 x4 x5 x6 x7 x8 x9 x10 x11 x12 x13 x14 x15 x16 x17 = fun y : S1x24.Idx => adv (same gid) r (y 1) :=
  (st18 _).trans (ext_ix2 _ _ fun z j => by
    obtain rfl : z = 0 := Subsingleton.elim _ _
    exact adv_row (k0_pay348 (F := Ideal) x0 x1 x2 x3 x4 x5 x6 x7 x8 x9 x10 x11 x12 x13 x14 x15 x16 x17) (k0_pay349 (F := Ideal) x0 x1 x2 x3 x4 x5 x6 x7 x8 x9 x10 x11 x12 x13 x14 x15 x16 x17) (View.ld x13 r0_17) (same gid) r (same_comm gid) (fun a b => k_groups x0 x1 x2 x3 x4 x5 x6 x7 x8 x9 x10 x11 x12 x13 x14 x15 x16 x17 gid h14 h15 a b)
      (fun j => (congrFun (k_rewards x0 x1 x2 x3 x4 x5 x6 x7 x8 x9 x10 x11 x12 x13 x14 x15 x16 x17) _).trans (h12 j)) (fun j => (congrFun (ld17 x13) _).trans (h13 j)) j)

include h12 h13 h14 h15 h16 h17 in
theorem k_per : k0_pay368 (F := Ideal) x0 x1 x2 x3 x4 x5 x6 x7 x8 x9 x10 x11 x12 x13 x14 x15 x16 x17 = fun y : S16x128.Idx => perTok lo hi (adv (same gid) r) (tok (y 0) (y 1)) := by
  refine (k_atok x0 x1 x2 x3 x4 x5 x6 x7 x8 x9 x10 x11 x12 x13 x14 x15 x16 x17).trans (funext fun y => Finset.sum_congr rfl fun g _ => ?_)
  rw [ld17, ld17, h16, h17, k_adv x0 x1 x2 x3 x4 x5 x6 x7 x8 x9 x10 x11 x12 x13 x14 x15 x16 x17 gid r h12 h13 h14 h15]

/-- The coefficient of each token. -/
def tokCoef (t : Fin 2048) : EReal :=
  coef (k t) (perTok lo hi (adv (same gid) r) t) (logp x3 x0 x1 t) (logp x6 x4 x5 t) (old t) (tokens (Finset.univ.fold IntOp.addi 0#32 x10))

include h9 h10 h12 h13 h14 h15 h16 h17 in
theorem k_tok : k0_pay236 (F := Ideal) (k0_pay334 (F := Ideal) x0 x1 x2 x3 x4 x5 x6 x7 x8 x9 x10 x11 x12 x13 x14 x15 x16 x17) (k0_pay347 (F := Ideal) x0 x1 x2 x3 x4 x5 x6 x7 x8 x9 x10 x11 x12 x13 x14 x15 x16 x17) (k0_pay368 (F := Ideal) x0 x1 x2 x3 x4 x5 x6 x7 x8 x9 x10 x11 x12 x13 x14 x15 x16 x17) (k0_pay230 (View.ld x10 r0_16)) (k0_pay369 (F := Ideal) x0 x1 x2 x3 x4 x5 x6 x7 x8 x9 x10 x11 x12 x13 x14 x15 x16 x17) (k0_pay370 (F := Ideal) x0 x1 x2 x3 x4 x5 x6 x7 x8 x9 x10 x11 x12 x13 x14 x15 x16 x17)
    = fun y : S16x128.Idx => tokCoef x0 x1 x3 x4 x5 x6 x10 gid r lo hi old k (tok (y 0) (y 1)) := by
  have e1 : k0_pay369 (F := Ideal) x0 x1 x2 x3 x4 x5 x6 x7 x8 x9 x10 x11 x12 x13 x14 x15 x16 x17 = fun y => FloatOps.sitofp (F := Ideal) (φ := .f32) (x10 y) := (k_mask _).trans (by rw [ld16])
  have e2 : k0_pay370 (F := Ideal) x0 x1 x2 x3 x4 x5 x6 x7 x8 x9 x10 x11 x12 x13 x14 x15 x16 x17 = x9 := (k_old _).trans (ld16 _)
  rw [e1, e2, k_logp, k_rlogp, k_per x0 x1 x2 x3 x4 x5 x6 x7 x8 x9 x10 x11 x12 x13 x14 x15 x16 x17 gid r lo hi h12 h13 h14 h15 h16 h17, ld16, k_count, k_coef]
  funext y
  unfold tokCoef
  rw [h9]
  simp only [congrFun h10 y]

include h9 h10 h12 h13 h14 h15 h16 h17 in
theorem o21 : out0_21 (F := Ideal) x0 x1 x2 x3 x4 x5 x6 x7 x8 x9 x10 x11 x12 x13 x14 x15 x16 x17 = fun y : S16x128.Idx => tokCoef x0 x1 x3 x4 x5 x6 x10 gid r lo hi old k (tok (y 0) (y 1)) :=
  (st16 _).trans (k_tok x0 x1 x2 x3 x4 x5 x6 x7 x8 x9 x10 x11 x12 x13 x14 x15 x16 x17 gid r lo hi old k h9 h10 h12 h13 h14 h15 h16 h17)

include h9 h10 h11 h12 h13 h14 h15 h16 h17 in
theorem k_fac : k0_pay375 (F := Ideal) x0 x1 x2 x3 x4 x5 x6 x7 x8 x9 x10 x11 x12 x13 x14 x15 x16 x17 = fun y : S16x128.Idx => factor (tokCoef x0 x1 x3 x4 x5 x6 x10 gid r lo hi old k (tok (y 0) (y 1))) (rescaled x0 x1 (tok (y 0) (y 1))) (gs (tok (y 0) (y 1))) := by
  refine (k_factor _ _ _).trans ?_
  rw [k_tok x0 x1 x2 x3 x4 x5 x6 x7 x8 x9 x10 x11 x12 x13 x14 x15 x16 x17 gid r lo hi old k h9 h10 h12 h13 h14 h15 h16 h17, k_den, ld16, h11]

include h9 h10 h11 h12 h13 h14 h15 h16 h17 in
theorem o28 : out0_28 (F := Ideal) x0 x1 x2 x3 x4 x5 x6 x7 x8 x9 x10 x11 x12 x13 x14 x15 x16 x17 = fun y : S2048x128.Idx => factor (tokCoef x0 x1 x3 x4 x5 x6 x10 gid r lo hi old k (y 0)) (rescaled x0 x1 (y 0)) (gs (y 0)) :=
  wide _ (fun t => factor (tokCoef x0 x1 x3 x4 x5 x6 x10 gid r lo hi old k t) (rescaled x0 x1 t) (gs t)) (k_fac x0 x1 x2 x3 x4 x5 x6 x7 x8 x9 x10 x11 x12 x13 x14 x15 x16 x17 gid r lo hi old gs k h9 h10 h11 h12 h13 h14 h15 h16 h17)

include h11 in
theorem o29 : out0_29 (F := Ideal) x0 x1 x2 x3 x4 x5 x6 x7 x8 x9 x10 x11 x12 x13 x14 x15 x16 x17 = fun y : S2048x128.Idx => gs (y 0) :=
  wide _ gs (((k_scale _).trans (ld16 _)).trans h11)

end Cert.Proof.CoefOut

end
-- ==== Proof.CoefRef.lean ====
/- The reference's token coefficients, over the extended reals, per token. -/
module

public import proofs.«01_k».proof.Proof.CoefAdv
public import proofs.«01_k».proof.Proof.Gen.CoefRefIdeal.Run
public import Idealize.ShloMosaic.Lib.KernelVsHost
public import Idealize.ShloMosaic.Lib.IdealHost
public import Idealize.ShloMosaic.Lib.Pipeline.ValueKit

@[expose] public section

set_option maxRecDepth 16384

noncomputable section

namespace Cert.Proof.CoefRef

open Idealize.ShloMosaic Idealize.ShloMosaic.TcCoe Idealize.SL.Sem
open Cert.CoefRefIdeal Cert.CoefRefIdeal.Gen
open Cert.Proof.CoefRows Cert.Proof.CoefAdv

/-- The word of two is two. -/
theorem two : Ideal.ofBits .f32 0x40000000#32 = ((2 : ℝ) : EReal) := by
  simp [Ideal.ofBits, Ideal.ieee, -EReal.coe_mul]; norm_num

/-- Two to a power. -/
theorem pow_two (v : EReal) : Ideal.pow (Ideal.ofBits .f32 0x40000000#32) v = Ideal.exp2 v := by
  rw [two]
  induction v using EReal.rec with
  | bot => show (if (2 : ℝ) < 0 then ⊥ else if 1 < (2 : ℝ) then (0 : EReal) else if (2 : ℝ) = 1 then 1 else ⊤) = 0; norm_num
  | coe x => rfl
  | top => show (if (2 : ℝ) < 0 then ⊥ else if 1 < (2 : ℝ) then (⊤ : EReal) else if (2 : ℝ) = 1 then 1 else 0) = ⊤; norm_num

/-- The reference's rounded maxima. -/
def hTop (M : FVec Ideal S2048x128 .f32) : FVec Ideal S2048 .f32 :=
  Host.ceil (Host.reduce FloatOps.maximumf M (constant S_ .f32 0xFF800000#32) reducesTo_S2048x128_S2048_d1 h_S_)

theorem hTop_apply (M : FVec Ideal S2048x128 .f32) (r : Fin 2048) : hTop M (ix1 r) = top M r := by
  unfold hTop top
  pointwise

/-- The reference's powers of two. -/
def hPow (M : FVec Ideal S2048x128 .f32) (T : FVec Ideal S2048 .f32) : FVec Ideal S2048x128 .f32 :=
  Host.powf (broadcastInDim S2048x128 ![] bcast_S_S2048x128 (constant S_ .f32 0x40000000#32))
    (subf M (broadcastInDim S2048x128 ![0, 1] bcast_S2048x1_S2048x128_0_1 (broadcastInDim S2048x1 ![0] bcast_S2048_S2048x1_0 T)))

theorem hPow_apply (M : FVec Ideal S2048x128 .f32) (T : FVec Ideal S2048 .f32) (r : Fin 2048) (l : Fin 128) :
    hPow M T (ix2 r l) = Ideal.exp2 (M (ix2 r l) - T (ix1 r)) := by
  rw [← pow_two]
  unfold hPow
  pointwise

/-- Sums over the lanes. -/
def hTotal (H : FVec Ideal S2048x128 .f32) : FVec Ideal S2048 .f32 :=
  Host.reduceAdd H (constant S_ .f32 0x00000000#32) reducesTo_S2048x128_S2048_d1 h_S_

theorem hTotal_apply (H : FVec Ideal S2048x128 .f32) (r : Fin 2048) : hTotal H (ix1 r) = total H r := by
  unfold hTotal total
  pointwise

def hSum (M D : FVec Ideal S2048x128 .f32) : FVec Ideal S2048 .f32 := hTotal (mulf D (hPow M (hTop M)))

theorem hSum_apply (M D : FVec Ideal S2048x128 .f32) (r : Fin 2048) : hSum M D (ix1 r) = rescaled M D r :=
  (hTotal_apply _ r).trans (Finset.sum_congr rfl fun l _ => congrArg (D (ix2 r l) * ·)
    ((hPow_apply M (hTop M) r l).trans (congrArg (fun t => Ideal.exp2 (M (ix2 r l) - t)) (hTop_apply M r))))

/-- The logarithm of the sum of the exponentials. -/
def hLse (T D : FVec Ideal S2048 .f32) : FVec Ideal S2048 .f32 :=
  Host.divf (addf T (Host.divf (Host.log D) (Host.log (broadcastInDim S2048 ![] bcast_S_S2048 (constant S_ .f32 0x40000000#32)))))
    (broadcastInDim S2048 ![] bcast_S_S2048 (constant S_ .f32 0x3FB8AA3B#32))

theorem hLse_apply (T D : FVec Ideal S2048 .f32) (r : Fin 2048) :
    hLse T D (ix1 r) = Ideal.div (T (ix1 r) + lg (D (ix1 r))) (Ideal.ofBits .f32 0x3FB8AA3B#32) := by
  unfold hLse lg
  pointwise

theorem hLse_eq (M D : FVec Ideal S2048x128 .f32) (r : Fin 2048) : hLse (hTop M) (hSum M D) (ix1 r) = lse M D r := by
  rw [hLse_apply, hTop_apply, hSum_apply]; rfl

/-- The log-probability of the label. -/
def hLogp (H L : FVec Ideal S2048 .f32) : FVec Ideal S2048 .f32 :=
  subf (Host.divf H (broadcastInDim S2048 ![] bcast_S_S2048 (constant S_ .f32 0x3FB8AA3B#32))) L

theorem hLogp_apply (H L : FVec Ideal S2048 .f32) (r : Fin 2048) :
    hLogp H L (ix1 r) = Ideal.div (H (ix1 r)) (Ideal.ofBits .f32 0x3FB8AA3B#32) - L (ix1 r) := by
  unfold hLogp
  pointwise

/-- A token's log-probability. -/
def tLogp (H M D : FVec Ideal S2048x128 .f32) : FVec Ideal S2048 .f32 := hLogp (hTotal H) (hLse (hTop M) (hSum M D))

theorem tLogp_eq (H M D : FVec Ideal S2048x128 .f32) (r : Fin 2048) : tLogp H M D (ix1 r) = logp H M D r := by
  unfold tLogp
  rw [hLogp_apply, hTotal_apply, hLse_eq]; rfl

/-- The entropy. -/
def hEnt (L N D : FVec Ideal S2048 .f32) : FVec Ideal S2048 .f32 :=
  subf L (Host.divf (Host.divf N (broadcastInDim S2048 ![] bcast_S_S2048 (constant S_ .f32 0x3FB8AA3B#32))) D)

theorem hEnt_apply (L N D : FVec Ideal S2048 .f32) (r : Fin 2048) :
    hEnt L N D (ix1 r) = L (ix1 r) - Ideal.div (Ideal.div (N (ix1 r)) (Ideal.ofBits .f32 0x3FB8AA3B#32)) (D (ix1 r)) := by
  unfold hEnt
  pointwise

theorem hEnt_eq (M D N : FVec Ideal S2048x128 .f32) (r : Fin 2048) :
    hEnt (hLse (hTop M) (hSum M D)) (hSum M N) (hSum M D) (ix1 r) = entropy M D N r := by
  rw [hEnt_apply, hLse_eq, hSum_apply, hSum_apply]; rfl

/-! ## The advantages -/

/-- A vector along the columns. -/
abbrev row24 {α : Type} (v : S24.Idx → α) : S24x24.Idx → α :=
  broadcastInDim S24x24 ![0, 1] bcast_S1x24_S24x24_0_1 (broadcastInDim S1x24 ![1] bcast_S24_S1x24_1 v)

/-- Two sequences in the same group. -/
def hSame (g : IVec S24 32) : FVec Ideal S24x24 .f32 :=
  uitofp .f32 (cmpi .eq (broadcastInDim S24x24 ![0, 1] bcast_S24x1_S24x24_0_1 (broadcastInDim S24x1 ![0] bcast_S24_S24x1_0 g)) (row24 g))

theorem hSame_apply (g : IVec S24 32) (i j : Fin 24) : hSame g (ix2 i j) = same (fun k => g (ix1 k)) i j := by
  unfold hSame same
  pointwise
  rfl

/-- Sums over a group. -/
abbrev hSum24 (X : FVec Ideal S24x24 .f32) : FVec Ideal S24 .f32 :=
  Host.reduceAdd X (constant S_ .f32 0x00000000#32) reducesTo_S24x24_S24_d1 h_S_

def hDev (S : FVec Ideal S24x24 .f32) (r : FVec Ideal S24 .f32) : FVec Ideal S24 .f32 :=
  subf r (Host.divf (hSum24 (mulf S (row24 r))) (hSum24 S))

theorem hDev_apply (S : FVec Ideal S24x24 .f32) (r : FVec Ideal S24 .f32) (j : Fin 24) :
    hDev S r (ix1 j) = dev (fun a b => S (ix2 a b)) (fun k => r (ix1 k)) j := by
  unfold hDev dev
  pointwise

def hStd (S : FVec Ideal S24x24 .f32) (v : FVec Ideal S24 .f32) : FVec Ideal S24 .f32 :=
  Host.divf v (addf (Host.sqrt (Host.divf (hSum24 (mulf S (row24 (mulf v v))))
    (maximumf (subf (hSum24 S) (broadcastInDim S24 ![] bcast_S_S24 (constant S_ .f32 0x3F800000#32))) (broadcastInDim S24 ![] bcast_S_S24 (constant S_ .f32 0x3F800000#32)))))
    (broadcastInDim S24 ![] bcast_S_S24 (constant S_ .f32 0x38D1B717#32)))

theorem hStd_apply (S : FVec Ideal S24x24 .f32) (v : FVec Ideal S24 .f32) (j : Fin 24) :
    hStd S v (ix1 j) = Ideal.div (v (ix1 j)) (Ideal.sqrt (Ideal.div (∑ k : Fin 24, S (ix2 j k) * (v (ix1 k) * v (ix1 k)))
    (max ((∑ k : Fin 24, S (ix2 j k)) - Ideal.ofBits .f32 0x3F800000#32) (Ideal.ofBits .f32 0x3F800000#32))) + Ideal.ofBits .f32 0x38D1B717#32) := by
  unfold hStd
  pointwise

def hAdv (g : IVec S24 32) (r : FVec Ideal S24 .f32) : FVec Ideal S24 .f32 := hStd (hSame g) (hDev (hSame g) r)

theorem hAdv_apply (g : IVec S24 32) (r : FVec Ideal S24 .f32) (j : Fin 24) :
    hAdv g r (ix1 j) = adv (same fun k => g (ix1 k)) (fun k => r (ix1 k)) j := by
  unfold hAdv
  rw [hStd_apply]
  simp only [hDev_apply, hSame_apply]
  rfl

/-! ## The coefficients -/

/-- The tokens of each sequence. -/
def hSeg (lo hi : IVec S24 32) : FVec Ideal S2048x24 .f32 :=
  uitofp .f32 (andi
    (cmpi .sge (broadcastInDim S2048x24 ![0, 1] bcast_S2048x1_S2048x24_0_1 (broadcastInDim S2048x1 ![0] bcast_S2048_S2048x1_0 (iotaInDim S2048 32 0)))
      (broadcastInDim S2048x24 ![0, 1] bcast_S1x24_S2048x24_0_1 (broadcastInDim S1x24 ![1] bcast_S24_S1x24_1 lo)))
    (cmpi .slt (broadcastInDim S2048x24 ![0, 1] bcast_S2048x1_S2048x24_0_1 (broadcastInDim S2048x1 ![0] bcast_S2048_S2048x1_0 (iotaInDim S2048 32 0)))
      (broadcastInDim S2048x24 ![0, 1] bcast_S1x24_S2048x24_0_1 (broadcastInDim S1x24 ![1] bcast_S24_S1x24_1 hi))))

theorem hSeg_apply (lo hi : IVec S24 32) (t : Fin 2048) (g : Fin 24) : hSeg lo hi (ix2 t g) = inSeg (lo (ix1 g)) (hi (ix1 g)) t.val := by
  unfold hSeg inSeg
  pointwise
  rfl

/-- Each token's advantage. -/
def hPer (X : FVec Ideal S2048x24 .f32) (A : FVec Ideal S24 .f32) : FVec Ideal S2048 .f32 :=
  Host.reduceAdd (mulf X (broadcastInDim S2048x24 ![0, 1] bcast_S1x24_S2048x24_0_1 (broadcastInDim S1x24 ![1] bcast_S24_S1x24_1 A)))
    (constant S_ .f32 0x00000000#32) reducesTo_S2048x24_S2048_d1 h_S_

theorem hPer_apply (X : FVec Ideal S2048x24 .f32) (A : FVec Ideal S24 .f32) (t : Fin 2048) :
    hPer X A (ix1 t) = ∑ g : Fin 24, X (ix2 t g) * A (ix1 g) := by
  unfold hPer
  pointwise

theorem hPer_eq (lo hi : IVec S24 32) (A : FVec Ideal S24 .f32) (t : Fin 2048) :
    hPer (hSeg lo hi) A (ix1 t) = perTok (fun g => lo (ix1 g)) (fun g => hi (ix1 g)) (fun g => A (ix1 g)) t := by
  rw [hPer_apply]
  simp only [hSeg_apply]
  rfl

/-- The number of the answers' tokens, at least one. -/
def hCount (k : IVec S2048 32) : FVec Ideal S_ .f32 :=
  sitofp .f32 (maxsi (Host.reduce IntOp.addi k (constantI S_ 32 0#32) reducesTo_S2048_S_d0 h_S_) (constantI S_ 32 1#32))

theorem hCount_apply (k : IVec S2048 32) (j : S_.Idx) : hCount k j = tokens (Finset.univ.fold IntOp.addi 0#32 k) := by
  have h : Host.reduce IntOp.addi k (constantI S_ 32 0#32) reducesTo_S2048_S_d0 h_S_ j = Finset.univ.fold IntOp.addi 0#32 k := by
    rw [Host.reduce_eq_fold, Finset.filter_true_of_mem fun i _ => funext fun a => a.elim0]
    rfl
  exact congrArg tokens h

def hCoef (k : IVec S2048 32) (a lp rlp old : FVec Ideal S2048 .f32) (n : FVec Ideal S_ .f32) : FVec Ideal S2048 .f32 :=
  Host.divf (mulf (sitofp .f32 k) (addf (mulf (Host.negf a) (minimumf (Host.exp (subf lp old)) (broadcastInDim S2048 ![] bcast_S_S2048 (constant S_ .f32 0x3FA3D70A#32))))
    (mulf (broadcastInDim S2048 ![] bcast_S_S2048 (constant S_ .f32 0x3DCCCCCD#32)) (subf (broadcastInDim S2048 ![] bcast_S_S2048 (constant S_ .f32 0x3F800000#32)) (Host.exp (subf rlp lp))))))
    (broadcastInDim S2048 ![] bcast_S_S2048 n)

theorem hCoef_apply (k : IVec S2048 32) (a lp rlp old : FVec Ideal S2048 .f32) (n : FVec Ideal S_ .f32) (t : Fin 2048) :
    hCoef k a lp rlp old n (ix1 t) = coef (k (ix1 t)) (a (ix1 t)) (lp (ix1 t)) (rlp (ix1 t)) (old (ix1 t)) (n ix0) := by
  unfold hCoef coef
  pointwise

def hFac (k d s : FVec Ideal S2048 .f32) : FVec Ideal S2048 .f32 :=
  Host.divf (Host.divf (Host.divf k d) (broadcastInDim S2048 ![] bcast_S_S2048 (constant S_ .f32 0x3F4CCCCD#32))) s

theorem hFac_apply (k d s : FVec Ideal S2048 .f32) (t : Fin 2048) : hFac k d s (ix1 t) = factor (k (ix1 t)) (d (ix1 t)) (s (ix1 t)) := by
  unfold hFac factor
  pointwise

/-! ## Their layouts -/

/-- Sixteen rows of 128 tokens. -/
theorem rows_apply {α : Type} (v : S2048.Idx → α) : shapeCast S16x128 v shapeCasts_S2048_S16x128 = fun y : S16x128.Idx => v (ix1 (tok (y 0) (y 1))) := by
  refine ext_ix2 _ _ fun a b => ?_
  show shapeCast S16x128 v shapeCasts_S2048_S16x128 (ix2 a b) = v (ix1 (tok a b))
  unfold tok
  pointwise

/-- A value of each token across the lanes. -/
theorem lanes_apply {α : Type} (v : S2048.Idx → α) :
    broadcastInDim S2048x128 ![0, 1] bcast_S2048x1_S2048x128_0_1 (broadcastInDim S2048x1 ![0] bcast_S2048_S2048x1_0 v) = fun y : S2048x128.Idx => v (ix1 (y 0)) := by
  refine ext_ix2 _ _ fun a b => ?_
  show broadcastInDim S2048x128 ![0, 1] bcast_S2048x1_S2048x128_0_1 (broadcastInDim S2048x1 ![0] bcast_S2048_S2048x1_0 v) (ix2 a b) = v (ix1 a)
  pointwise

/-- The first lane. -/
theorem first_apply {α : Type} (v : S2048x128.Idx → α) :
    shapeCast S16x128 (shapeCast S2048 (extractStridedSlice S2048x1 ![0, 0] v slices_S2048x128_S2048x1_0_0) shapeCasts_S2048x1_S2048) shapeCasts_S2048_S16x128
      = fun y : S16x128.Idx => v (ix2 (tok (y 0) (y 1)) 0) := by
  rw [rows_apply]
  refine ext_ix2 _ _ fun a b => ?_
  show shapeCast S2048 (extractStridedSlice S2048x1 ![0, 0] v slices_S2048x128_S2048x1_0_0) shapeCasts_S2048x1_S2048 (ix1 (tok a b)) = v (ix2 (tok a b) 0)
  generalize tok a b = t
  pointwise

end Cert.Proof.CoefRef

end
-- ==== Proof.CoefValue.lean ====
/- The run of the token coefficients' kernel with each output array named. Taken from the generated value certificate of this
   program, over the run of CoefRun.lean. -/
module

public import proofs.«01_k».proof.Proof.CoefRun
public import Idealize.ShloMosaic.Lib.Pipeline.Value

@[expose] public section

noncomputable section

namespace Cert.CoefIdeal.CoefValue

open Cert.CoefIdeal Cert.CoefIdeal.Gen Cert.CoefIdeal.CoefRun Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- After the frame run, output window 18's array is `(dats m 0 c).arrAt 18 N`. -/
theorem post18 (r : PUnit × MemSt nD τ sig (Elt F)) (h : Pipeline.FramePost cfgs (dats m) 0 (V m) r) (c : Dev nD) :
    r.2.mem ((c : Thread nD τ).loc main_v11_0) = (dats m 0 c).arrAt 18 cfg0.N :=
  (h c).1 18

/-- After the frame run, output window 19's array is `(dats m 0 c).arrAt 19 N`. -/
theorem post19 (r : PUnit × MemSt nD τ sig (Elt F)) (h : Pipeline.FramePost cfgs (dats m) 0 (V m) r) (c : Dev nD) :
    r.2.mem ((c : Thread nD τ).loc main_v11_1) = (dats m 0 c).arrAt 19 cfg0.N :=
  (h c).1 19

/-- After the frame run, output window 20's array is `(dats m 0 c).arrAt 20 N`. -/
theorem post20 (r : PUnit × MemSt nD τ sig (Elt F)) (h : Pipeline.FramePost cfgs (dats m) 0 (V m) r) (c : Dev nD) :
    r.2.mem ((c : Thread nD τ).loc main_v11_2) = (dats m 0 c).arrAt 20 cfg0.N :=
  (h c).1 20

/-- After the frame run, output window 21's array is `(dats m 0 c).arrAt 21 N`. -/
theorem post21 (r : PUnit × MemSt nD τ sig (Elt F)) (h : Pipeline.FramePost cfgs (dats m) 0 (V m) r) (c : Dev nD) :
    r.2.mem ((c : Thread nD τ).loc main_v11_3) = (dats m 0 c).arrAt 21 cfg0.N :=
  (h c).1 21

/-- After the frame run, output window 22's array is `(dats m 0 c).arrAt 22 N`. -/
theorem post22 (r : PUnit × MemSt nD τ sig (Elt F)) (h : Pipeline.FramePost cfgs (dats m) 0 (V m) r) (c : Dev nD) :
    r.2.mem ((c : Thread nD τ).loc main_v11_4) = (dats m 0 c).arrAt 22 cfg0.N :=
  (h c).1 22

/-- After the frame run, output window 23's array is `(dats m 0 c).arrAt 23 N`. -/
theorem post23 (r : PUnit × MemSt nD τ sig (Elt F)) (h : Pipeline.FramePost cfgs (dats m) 0 (V m) r) (c : Dev nD) :
    r.2.mem ((c : Thread nD τ).loc main_v11_5) = (dats m 0 c).arrAt 23 cfg0.N :=
  (h c).1 23

/-- After the frame run, output window 24's array is `(dats m 0 c).arrAt 24 N`. -/
theorem post24 (r : PUnit × MemSt nD τ sig (Elt F)) (h : Pipeline.FramePost cfgs (dats m) 0 (V m) r) (c : Dev nD) :
    r.2.mem ((c : Thread nD τ).loc main_v11_6) = (dats m 0 c).arrAt 24 cfg0.N :=
  (h c).1 24

/-- After the frame run, output window 25's array is `(dats m 0 c).arrAt 25 N`. -/
theorem post25 (r : PUnit × MemSt nD τ sig (Elt F)) (h : Pipeline.FramePost cfgs (dats m) 0 (V m) r) (c : Dev nD) :
    r.2.mem ((c : Thread nD τ).loc main_v11_7) = (dats m 0 c).arrAt 25 cfg0.N :=
  (h c).1 25

/-- After the frame run, output window 26's array is `(dats m 0 c).arrAt 26 N`. -/
theorem post26 (r : PUnit × MemSt nD τ sig (Elt F)) (h : Pipeline.FramePost cfgs (dats m) 0 (V m) r) (c : Dev nD) :
    r.2.mem ((c : Thread nD τ).loc main_v11_8) = (dats m 0 c).arrAt 26 cfg0.N :=
  (h c).1 26

/-- After the frame run, output window 27's array is `(dats m 0 c).arrAt 27 N`. -/
theorem post27 (r : PUnit × MemSt nD τ sig (Elt F)) (h : Pipeline.FramePost cfgs (dats m) 0 (V m) r) (c : Dev nD) :
    r.2.mem ((c : Thread nD τ).loc main_v11_9) = (dats m 0 c).arrAt 27 cfg0.N :=
  (h c).1 27

/-- After the frame run, output window 28's array is `(dats m 0 c).arrAt 28 N`. -/
theorem post28 (r : PUnit × MemSt nD τ sig (Elt F)) (h : Pipeline.FramePost cfgs (dats m) 0 (V m) r) (c : Dev nD) :
    r.2.mem ((c : Thread nD τ).loc main_v11_10) = (dats m 0 c).arrAt 28 cfg0.N :=
  (h c).1 28

/-- After the frame run, output window 29's array is `(dats m 0 c).arrAt 29 N`. -/
theorem post29 (r : PUnit × MemSt nD τ sig (Elt F)) (h : Pipeline.FramePost cfgs (dats m) 0 (V m) r) (c : Dev nD) :
    r.2.mem ((c : Thread nD τ).loc main_v11_11) = (dats m 0 c).arrAt 29 cfg0.N :=
  (h c).1 29

/-- After the frame run, argument `main_arg0` is as launched: input window 0 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

/-- After the frame run, argument `main_arg1` is as launched: input window 1 stages it and never writes it back. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))

/-- After the frame run, argument `main_arg2` is as launched: input window 2 stages it and never writes it back. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 2).trans (((dats m 0 c).arrAt_in 2 rfl _).trans ((A_eq m c 2).trans (V_main_arg2 m c)))

/-- After the frame run, argument `main_arg3` is as launched: input window 3 stages it and never writes it back. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).1 3).trans (((dats m 0 c).arrAt_in 3 rfl _).trans ((A_eq m c 3).trans (V_main_arg3 m c)))

/-- After the frame run, argument `main_arg4` is as launched: input window 4 stages it and never writes it back. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).1 4).trans (((dats m 0 c).arrAt_in 4 rfl _).trans ((A_eq m c 4).trans (V_main_arg4 m c)))

/-- After the frame run, argument `main_arg5` is as launched: input window 5 stages it and never writes it back. -/
theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).1 5).trans (((dats m 0 c).arrAt_in 5 rfl _).trans ((A_eq m c 5).trans (V_main_arg5 m c)))

/-- After the frame run, argument `main_arg6` is as launched: input window 6 stages it and never writes it back. -/
theorem kept_main_arg6 (r : PUnit × MemSt nD τ sig (Elt F)) (h : Pipeline.FramePost cfgs (dats m) 0 (V m) r) (c : Dev nD) :
    r.2.mem ((c : Thread nD τ).loc main_arg6) = m ((c : Thread nD τ).loc main_arg6) :=
  ((h c).1 6).trans (((dats m 0 c).arrAt_in 6 rfl _).trans ((A_eq m c 6).trans (V_main_arg6 m c)))

/-- After the frame run, argument `main_arg7` is as launched: input window 7 stages it and never writes it back. -/
theorem kept_main_arg7 (r : PUnit × MemSt nD τ sig (Elt F)) (h : Pipeline.FramePost cfgs (dats m) 0 (V m) r) (c : Dev nD) :
    r.2.mem ((c : Thread nD τ).loc main_arg7) = m ((c : Thread nD τ).loc main_arg7) :=
  ((h c).1 7).trans (((dats m 0 c).arrAt_in 7 rfl _).trans ((A_eq m c 7).trans (V_main_arg7 m c)))

/-- After the frame run, argument `main_arg8` is as launched: input window 8 stages it and never writes it back. -/
theorem kept_main_arg8 (r : PUnit × MemSt nD τ sig (Elt F)) (h : Pipeline.FramePost cfgs (dats m) 0 (V m) r) (c : Dev nD) :
    r.2.mem ((c : Thread nD τ).loc main_arg8) = m ((c : Thread nD τ).loc main_arg8) :=
  ((h c).1 8).trans (((dats m 0 c).arrAt_in 8 rfl _).trans ((A_eq m c 8).trans (V_main_arg8 m c)))

/-- After the frame run, argument `main_arg9` is as launched: no window stages it, and the run leaves the region's other buffers as they were. -/
theorem kept_main_arg9 (r : PUnit × MemSt nD τ sig (Elt F)) (h : Pipeline.FramePost cfgs (dats m) 0 (V m) r) (c : Dev nD) :
    r.2.mem ((c : Thread nD τ).loc main_arg9) = m ((c : Thread nD τ).loc main_arg9) :=
  ((h c).2 main_arg9 (Pipeline.mem_restRefs_of main_arg9 (by decide) (by decide))).trans (V_main_arg9 m c)

/-- After the frame run, argument `main_arg10` is as launched: no window stages it, and the run leaves the region's other buffers as they were. -/
theorem kept_main_arg10 (r : PUnit × MemSt nD τ sig (Elt F)) (h : Pipeline.FramePost cfgs (dats m) 0 (V m) r) (c : Dev nD) :
    r.2.mem ((c : Thread nD τ).loc main_arg10) = m ((c : Thread nD τ).loc main_arg10) :=
  ((h c).2 main_arg10 (Pipeline.mem_restRefs_of main_arg10 (by decide) (by decide))).trans (V_main_arg10 m c)

/-- After the frame run, argument `main_arg11` is as launched: no window stages it, and the run leaves the region's other buffers as they were. -/
theorem kept_main_arg11 (r : PUnit × MemSt nD τ sig (Elt F)) (h : Pipeline.FramePost cfgs (dats m) 0 (V m) r) (c : Dev nD) :
    r.2.mem ((c : Thread nD τ).loc main_arg11) = m ((c : Thread nD τ).loc main_arg11) :=
  ((h c).2 main_arg11 (Pipeline.mem_restRefs_of main_arg11 (by decide) (by decide))).trans (V_main_arg11 m c)

/-- After the frame run, argument `main_arg12` is as launched: no window stages it, and the run leaves the region's other buffers as they were. -/
theorem kept_main_arg12 (r : PUnit × MemSt nD τ sig (Elt F)) (h : Pipeline.FramePost cfgs (dats m) 0 (V m) r) (c : Dev nD) :
    r.2.mem ((c : Thread nD τ).loc main_arg12) = m ((c : Thread nD τ).loc main_arg12) :=
  ((h c).2 main_arg12 (Pipeline.mem_restRefs_of main_arg12 (by decide) (by decide))).trans (V_main_arg12 m c)

/-- After the frame run, argument `main_arg13` is as launched: no window stages it, and the run leaves the region's other buffers as they were. -/
theorem kept_main_arg13 (r : PUnit × MemSt nD τ sig (Elt F)) (h : Pipeline.FramePost cfgs (dats m) 0 (V m) r) (c : Dev nD) :
    r.2.mem ((c : Thread nD τ).loc main_arg13) = m ((c : Thread nD τ).loc main_arg13) :=
  ((h c).2 main_arg13 (Pipeline.mem_restRefs_of main_arg13 (by decide) (by decide))).trans (V_main_arg13 m c)

/-- After the frame run, argument `main_arg14` is as launched: no window stages it, and the run leaves the region's other buffers as they were. -/
theorem kept_main_arg14 (r : PUnit × MemSt nD τ sig (Elt F)) (h : Pipeline.FramePost cfgs (dats m) 0 (V m) r) (c : Dev nD) :
    r.2.mem ((c : Thread nD τ).loc main_arg14) = m ((c : Thread nD τ).loc main_arg14) :=
  ((h c).2 main_arg14 (Pipeline.mem_restRefs_of main_arg14 (by decide) (by decide))).trans (V_main_arg14 m c)

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v11_0) = (dats m 0 c).arrAt 18 cfg0.N
      ∧ r.2.mem ((c : Thread nD τ).loc main_v11_1) = (dats m 0 c).arrAt 19 cfg0.N
      ∧ r.2.mem ((c : Thread nD τ).loc main_v11_2) = (dats m 0 c).arrAt 20 cfg0.N
      ∧ r.2.mem ((c : Thread nD τ).loc main_v11_3) = (dats m 0 c).arrAt 21 cfg0.N
      ∧ r.2.mem ((c : Thread nD τ).loc main_v11_4) = (dats m 0 c).arrAt 22 cfg0.N
      ∧ r.2.mem ((c : Thread nD τ).loc main_v11_5) = (dats m 0 c).arrAt 23 cfg0.N
      ∧ r.2.mem ((c : Thread nD τ).loc main_v11_6) = (dats m 0 c).arrAt 24 cfg0.N
      ∧ r.2.mem ((c : Thread nD τ).loc main_v11_7) = (dats m 0 c).arrAt 25 cfg0.N
      ∧ r.2.mem ((c : Thread nD τ).loc main_v11_8) = (dats m 0 c).arrAt 26 cfg0.N
      ∧ r.2.mem ((c : Thread nD τ).loc main_v11_9) = (dats m 0 c).arrAt 27 cfg0.N
      ∧ r.2.mem ((c : Thread nD τ).loc main_v11_10) = (dats m 0 c).arrAt 28 cfg0.N
      ∧ r.2.mem ((c : Thread nD τ).loc main_v11_11) = (dats m 0 c).arrAt 29 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14) :=
  (θ_run defs _ _).mono (fun r h c => ⟨post18 m r h c,
      post19 m r h c,
      post20 m r h c,
      post21 m r h c,
      post22 m r h c,
      post23 m r h c,
      post24 m r h c,
      post25 m r h c,
      post26 m r h c,
      post27 m r h c,
      post28 m r h c,
      post29 m r h c,
      kept_main_arg0 m r h c,
      kept_main_arg1 m r h c,
      kept_main_arg2 m r h c,
      kept_main_arg3 m r h c,
      kept_main_arg4 m r h c,
      kept_main_arg5 m r h c,
      kept_main_arg6 m r h c,
      kept_main_arg7 m r h c,
      kept_main_arg8 m r h c,
      kept_main_arg9 m r h c,
      kept_main_arg10 m r h c,
      kept_main_arg11 m r h c,
      kept_main_arg12 m r h c,
      kept_main_arg13 m r h c,
      kept_main_arg14 m r h c⟩)
    (run_main m ρ)

end Cert.CoefIdeal.CoefValue

end
-- ==== Proof.Coef.lean ====
/- The token coefficients: the kernel's outputs are the reference's. -/
module

public import proofs.«01_k».proof.Defs
public import proofs.«01_k».proof.Proof.CoefArr
public import proofs.«01_k».proof.Proof.CoefOut
public import proofs.«01_k».proof.Proof.CoefRef
public import proofs.«01_k».proof.Proof.CoefValue

@[expose] public section

set_option maxRecDepth 16384

noncomputable section

namespace Cert.Proof.Coef

open Idealize.ShloMosaic Idealize.ShloMosaic.TcCoe Idealize.SL.Sem
open Cert.CoefIdeal Cert.CoefIdeal.Gen Cert.CoefIdeal.CoefRun
open Cert.Proof.CoefRows Cert.Proof.CoefAdv Cert.Proof.CoefArr Cert.Proof.CoefOut Cert.Proof.CoefRef

/-! ## The reference's results, of its arguments -/

section Ref
open Cert.CoefRefIdeal.Gen

variable (a0 a1 a2 a3 a4 a5 a6 a7 a8 : FVec Ideal CoefRefIdeal.S2048x128 .f32) (a9 : FVec Ideal CoefRefIdeal.S2048 .f32) (a10 : IVec CoefRefIdeal.S2048 32)
  (a11 : FVec Ideal CoefRefIdeal.S2048 .f32) (a12 : FVec Ideal CoefRefIdeal.S24 .f32) (a13 : IVec CoefRefIdeal.S24 32) (a14 : IVec CoefRefIdeal.S25 32)

/-- The first and the last bounds of the sequences. -/
abbrev los : IVec CoefRefIdeal.S24 32 := extractStridedSlice CoefRefIdeal.S24 ![0] a14 CoefRefIdeal.Gen.slices_S25_S24_0
abbrev his : IVec CoefRefIdeal.S24 32 := extractStridedSlice CoefRefIdeal.S24 ![1] a14 CoefRefIdeal.Gen.slices_S25_S24_1

def refCoef : FVec Ideal CoefRefIdeal.S2048 .f32 :=
  hCoef a10 (hPer (hSeg (los a14) (his a14)) (hAdv a13 a12)) (tLogp a3 a0 a1) (tLogp a6 a4 a5) a9 (hCount a10)

def refFac : FVec Ideal CoefRefIdeal.S2048 .f32 := hFac (refCoef a0 a1 a3 a4 a5 a6 a9 a10 a12 a13 a14) (hSum a0 a1) a11

theorem r_logp : shapeCast CoefRefIdeal.S16x128 (tLogp a3 a0 a1) CoefRefIdeal.Gen.shapeCasts_S2048_S16x128 = fun y : S16x128.Idx => logp a3 a0 a1 (tok (y 0) (y 1)) :=
  (rows_apply _).trans (funext fun y => tLogp_eq a3 a0 a1 (tok (y 0) (y 1)))

theorem r_ent : shapeCast CoefRefIdeal.S16x128 (hEnt (hLse (hTop a0) (hSum a0 a1)) (hSum a0 a2) (hSum a0 a1)) CoefRefIdeal.Gen.shapeCasts_S2048_S16x128
    = fun y : S16x128.Idx => entropy a0 a1 a2 (tok (y 0) (y 1)) :=
  (rows_apply _).trans (funext fun y => hEnt_eq a0 a1 a2 (tok (y 0) (y 1)))

/-- The coefficient of each token, of the arguments. -/
abbrev tc (t : Fin 2048) : EReal :=
  coef (a10 (ix1 t)) (perTok (fun g => los a14 (ix1 g)) (fun g => his a14 (ix1 g)) (adv (same fun j => a13 (ix1 j)) fun j => a12 (ix1 j)) t)
    (logp a3 a0 a1 t) (logp a6 a4 a5 t) (a9 (ix1 t)) (tokens (Finset.univ.fold IntOp.addi 0#32 a10))

theorem refCoef_eq (t : Fin 2048) : refCoef a0 a1 a3 a4 a5 a6 a9 a10 a12 a13 a14 (ix1 t) = tc a0 a1 a3 a4 a5 a6 a9 a10 a12 a13 a14 t := by
  unfold refCoef tc
  rw [hCoef_apply, hPer_eq, tLogp_eq, tLogp_eq, hCount_apply]
  simp only [hAdv_apply]

theorem r_coef : shapeCast CoefRefIdeal.S16x128 (refCoef a0 a1 a3 a4 a5 a6 a9 a10 a12 a13 a14) CoefRefIdeal.Gen.shapeCasts_S2048_S16x128
    = fun y : S16x128.Idx => tc a0 a1 a3 a4 a5 a6 a9 a10 a12 a13 a14 (tok (y 0) (y 1)) :=
  (rows_apply _).trans (funext fun y => refCoef_eq a0 a1 a3 a4 a5 a6 a9 a10 a12 a13 a14 (tok (y 0) (y 1)))

theorem r_adv : shapeCast CoefRefIdeal.S1x24 (hAdv a13 a12) CoefRefIdeal.Gen.shapeCasts_S24_S1x24
    = fun y : S1x24.Idx => adv (same fun j => a13 (ix1 j)) (fun j => a12 (ix1 j)) (y 1) := by
  refine ext_ix2 _ _ fun z j => ?_
  refine Eq.trans ?_ (hAdv_apply a13 a12 j)
  generalize hAdv a13 a12 = X
  pointwise

theorem r_top : broadcastInDim CoefRefIdeal.S2048x128 ![0, 1] CoefRefIdeal.Gen.bcast_S2048x1_S2048x128_0_1 (broadcastInDim CoefRefIdeal.S2048x1 ![0] CoefRefIdeal.Gen.bcast_S2048_S2048x1_0 (hTop a0))
    = fun y : S2048x128.Idx => top a0 (y 0) :=
  (lanes_apply _).trans (funext fun y => hTop_apply a0 (y 0))

theorem r_sum : broadcastInDim CoefRefIdeal.S2048x128 ![0, 1] CoefRefIdeal.Gen.bcast_S2048x1_S2048x128_0_1 (broadcastInDim CoefRefIdeal.S2048x1 ![0] CoefRefIdeal.Gen.bcast_S2048_S2048x1_0 (hSum a0 a1))
    = fun y : S2048x128.Idx => rescaled a0 a1 (y 0) :=
  (lanes_apply _).trans (funext fun y => hSum_apply a0 a1 (y 0))

theorem r_fac : broadcastInDim CoefRefIdeal.S2048x128 ![0, 1] CoefRefIdeal.Gen.bcast_S2048x1_S2048x128_0_1 (broadcastInDim CoefRefIdeal.S2048x1 ![0] CoefRefIdeal.Gen.bcast_S2048_S2048x1_0 (refFac a0 a1 a3 a4 a5 a6 a9 a10 a11 a12 a13 a14))
    = fun y : S2048x128.Idx => factor (tc a0 a1 a3 a4 a5 a6 a9 a10 a12 a13 a14 (y 0)) (rescaled a0 a1 (y 0)) (a11 (ix1 (y 0))) :=
  (lanes_apply _).trans (funext fun y => by
    unfold refFac
    exact (hFac_apply _ _ _ (y 0)).trans (congrArg₂ (fun a b => factor a b _) (refCoef_eq a0 a1 a3 a4 a5 a6 a9 a10 a12 a13 a14 (y 0)) (hSum_apply a0 a1 (y 0))))

end Ref

/-! ## The kernel's outputs, of the same arguments -/

variable (m : (ℓ : Loc nD τ sig) → Buf (Elt Ideal) ℓ)

/-- The arrays the call takes, of the arguments. -/
theorem v0_eq (c : Dev nD) : V m c main_v0 = fun y : S16x128.Idx => (m ((c.tc : Thread nD τ).loc main_arg9)) (ix1 (tok (y 0) (y 1))) := rows_apply (m ((c.tc : Thread nD τ).loc main_arg9))
theorem v1_eq (c : Dev nD) : V m c main_v1 = fun y : S16x128.Idx => (m ((c.tc : Thread nD τ).loc main_arg10)) (ix1 (tok (y 0) (y 1))) := rows_apply (m ((c.tc : Thread nD τ).loc main_arg10))
theorem v2_eq (c : Dev nD) : V m c main_v2 = fun y : S16x128.Idx => (m ((c.tc : Thread nD τ).loc main_arg11)) (ix1 (tok (y 0) (y 1))) := rows_apply (m ((c.tc : Thread nD τ).loc main_arg11))

theorem to_row {α : Type} (v : S24.Idx → α) (j : Fin 24) : shapeCast S1x24 v shapeCasts_S24_S1x24 (ix2 0 j) = v (ix1 j) := by pointwise
theorem to_col {α : Type} (v : S24.Idx → α) (j : Fin 24) : shapeCast S24x1 v shapeCasts_S24_S24x1 (ix2 j 0) = v (ix1 j) := by pointwise

theorem v3_eq (c : Dev nD) (j : Fin 24) : V m c main_v3 (ix2 0 j) = (m ((c.tc : Thread nD τ).loc main_arg12)) (ix1 j) := to_row (m ((c.tc : Thread nD τ).loc main_arg12)) j
theorem v4_eq (c : Dev nD) (j : Fin 24) : V m c main_v4 (ix2 j 0) = (m ((c.tc : Thread nD τ).loc main_arg12)) (ix1 j) := to_col (m ((c.tc : Thread nD τ).loc main_arg12)) j
theorem v5_eq (c : Dev nD) (j : Fin 24) : V m c main_v5 (ix2 0 j) = (m ((c.tc : Thread nD τ).loc main_arg13)) (ix1 j) := to_row (m ((c.tc : Thread nD τ).loc main_arg13)) j
theorem v6_eq (c : Dev nD) (j : Fin 24) : V m c main_v6 (ix2 j 0) = (m ((c.tc : Thread nD τ).loc main_arg13)) (ix1 j) := to_col (m ((c.tc : Thread nD τ).loc main_arg13)) j
theorem v8_eq (c : Dev nD) (j : Fin 24) : V m c main_v8 (ix2 j 0) = los (m ((c.tc : Thread nD τ).loc main_arg14)) (ix1 j) := to_col (los (m ((c.tc : Thread nD τ).loc main_arg14))) j
theorem v10_eq (c : Dev nD) (j : Fin 24) : V m c main_v10 (ix2 j 0) = his (m ((c.tc : Thread nD τ).loc main_arg14)) (ix1 j) := to_col (his (m ((c.tc : Thread nD τ).loc main_arg14))) j

theorem count_eq (c : Dev nD) : Finset.univ.fold IntOp.addi 0#32 (V m c main_v1) = Finset.univ.fold IntOp.addi 0#32 (m ((c.tc : Thread nD τ).loc main_arg10)) :=
  fold_shapeCast (m ((c.tc : Thread nD τ).loc main_arg10)) shapeCasts_S2048_S16x128

theorem tie18 (c : Dev nD) : (dats m 0 c).arrAt 18 cfg0.N = fun y : S16x128.Idx => logp (m ((c.tc : Thread nD τ).loc main_arg3)) (m ((c.tc : Thread nD τ).loc main_arg0)) (m ((c.tc : Thread nD τ).loc main_arg1)) (tok (y 0) (y 1)) := by
  refine (arr18 m c).trans ((o18 _ _ _ _ _ _ _ _ _ _ _ _ _ _ _ _ _ _).trans ?_)
  rw [V_main_arg0, V_main_arg1, V_main_arg3]

theorem tie19 (c : Dev nD) : (dats m 0 c).arrAt 19 cfg0.N = fun y : S16x128.Idx => logp (m ((c.tc : Thread nD τ).loc main_arg6)) (m ((c.tc : Thread nD τ).loc main_arg4)) (m ((c.tc : Thread nD τ).loc main_arg5)) (tok (y 0) (y 1)) := by
  refine (arr19 m c).trans ((o19 _ _ _ _ _ _ _ _ _ _ _ _ _ _ _ _ _ _).trans ?_)
  rw [V_main_arg4, V_main_arg5, V_main_arg6]

theorem tie20 (c : Dev nD) : (dats m 0 c).arrAt 20 cfg0.N = fun y : S16x128.Idx => entropy (m ((c.tc : Thread nD τ).loc main_arg0)) (m ((c.tc : Thread nD τ).loc main_arg1)) (m ((c.tc : Thread nD τ).loc main_arg2)) (tok (y 0) (y 1)) := by
  refine (arr20 m c).trans ((o20 _ _ _ _ _ _ _ _ _ _ _ _ _ _ _ _ _ _).trans ?_)
  rw [V_main_arg0, V_main_arg1, V_main_arg2]

theorem tokCoef_eq (c : Dev nD) (t : Fin 2048) : tokCoef (V m c main_arg0) (V m c main_arg1) (V m c main_arg3) (V m c main_arg4) (V m c main_arg5) (V m c main_arg6) (V m c main_v1)
      (fun j => (m ((c.tc : Thread nD τ).loc main_arg13)) (ix1 j)) (fun j => (m ((c.tc : Thread nD τ).loc main_arg12)) (ix1 j)) (fun j => los (m ((c.tc : Thread nD τ).loc main_arg14)) (ix1 j)) (fun j => his (m ((c.tc : Thread nD τ).loc main_arg14)) (ix1 j)) (fun t => (m ((c.tc : Thread nD τ).loc main_arg9)) (ix1 t)) (fun t => (m ((c.tc : Thread nD τ).loc main_arg10)) (ix1 t)) t
    = tc (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg9)) (m ((c.tc : Thread nD τ).loc main_arg10)) (m ((c.tc : Thread nD τ).loc main_arg12)) (m ((c.tc : Thread nD τ).loc main_arg13)) (m ((c.tc : Thread nD τ).loc main_arg14)) t := by
  unfold tokCoef tc
  rw [count_eq, V_main_arg0, V_main_arg1, V_main_arg3, V_main_arg4, V_main_arg5, V_main_arg6]

theorem tie21 (c : Dev nD) : (dats m 0 c).arrAt 21 cfg0.N = fun y : S16x128.Idx => tc (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg9)) (m ((c.tc : Thread nD τ).loc main_arg10)) (m ((c.tc : Thread nD τ).loc main_arg12)) (m ((c.tc : Thread nD τ).loc main_arg13)) (m ((c.tc : Thread nD τ).loc main_arg14)) (tok (y 0) (y 1)) :=
  (arr21 m c).trans ((o21 _ _ _ _ _ _ _ _ _ _ _ _ _ _ _ _ _ _ (fun j => (m ((c.tc : Thread nD τ).loc main_arg13)) (ix1 j)) (fun j => (m ((c.tc : Thread nD τ).loc main_arg12)) (ix1 j)) (fun j => los (m ((c.tc : Thread nD τ).loc main_arg14)) (ix1 j)) (fun j => his (m ((c.tc : Thread nD τ).loc main_arg14)) (ix1 j)) (fun t => (m ((c.tc : Thread nD τ).loc main_arg9)) (ix1 t)) (fun t => (m ((c.tc : Thread nD τ).loc main_arg10)) (ix1 t))
    (v0_eq m c) (v1_eq m c) (v3_eq m c) (v4_eq m c) (v5_eq m c) (v6_eq m c) (v8_eq m c) (v10_eq m c)).trans (funext fun y => tokCoef_eq m c (tok (y 0) (y 1))))

theorem tie22 (c : Dev nD) : (dats m 0 c).arrAt 22 cfg0.N = fun y : S16x128.Idx => (m ((c.tc : Thread nD τ).loc main_arg7)) (ix2 (tok (y 0) (y 1)) 0) := by
  refine (arr22 m c).trans ((o22 _ _ _ _ _ _ _ _ _ _ _ _ _ _ _ _ _ _).trans ?_)
  rw [V_main_arg7]

theorem tie23 (c : Dev nD) : (dats m 0 c).arrAt 23 cfg0.N = fun y : S16x128.Idx => (m ((c.tc : Thread nD τ).loc main_arg8)) (ix2 (tok (y 0) (y 1)) 0) := by
  refine (arr23 m c).trans ((o23 _ _ _ _ _ _ _ _ _ _ _ _ _ _ _ _ _ _).trans ?_)
  rw [V_main_arg8]

theorem tie24 (c : Dev nD) : (dats m 0 c).arrAt 24 cfg0.N = fun y : S1x24.Idx => adv (same fun j => (m ((c.tc : Thread nD τ).loc main_arg13)) (ix1 j)) (fun j => (m ((c.tc : Thread nD τ).loc main_arg12)) (ix1 j)) (y 1) :=
  (arr24 m c).trans (o24 _ _ _ _ _ _ _ _ _ _ _ _ _ _ _ _ _ _ (fun j => (m ((c.tc : Thread nD τ).loc main_arg13)) (ix1 j)) (fun j => (m ((c.tc : Thread nD τ).loc main_arg12)) (ix1 j)) (v3_eq m c) (v4_eq m c) (v5_eq m c) (v6_eq m c))

theorem tie26 (c : Dev nD) : (dats m 0 c).arrAt 26 cfg0.N = fun y : S2048x128.Idx => top (m ((c.tc : Thread nD τ).loc main_arg0)) (y 0) := by
  refine (arr26 m c).trans ((o26 _ _ _ _ _ _ _ _ _ _ _ _ _ _ _ _ _ _).trans ?_)
  rw [V_main_arg0]

theorem tie27 (c : Dev nD) : (dats m 0 c).arrAt 27 cfg0.N = fun y : S2048x128.Idx => rescaled (m ((c.tc : Thread nD τ).loc main_arg0)) (m ((c.tc : Thread nD τ).loc main_arg1)) (y 0) := by
  refine (arr27 m c).trans ((o27 _ _ _ _ _ _ _ _ _ _ _ _ _ _ _ _ _ _).trans ?_)
  rw [V_main_arg0, V_main_arg1]

theorem tie28 (c : Dev nD) : (dats m 0 c).arrAt 28 cfg0.N = fun y : S2048x128.Idx =>
    factor (tc (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg9)) (m ((c.tc : Thread nD τ).loc main_arg10)) (m ((c.tc : Thread nD τ).loc main_arg12)) (m ((c.tc : Thread nD τ).loc main_arg13)) (m ((c.tc : Thread nD τ).loc main_arg14)) (y 0)) (rescaled (m ((c.tc : Thread nD τ).loc main_arg0)) (m ((c.tc : Thread nD τ).loc main_arg1)) (y 0)) ((m ((c.tc : Thread nD τ).loc main_arg11)) (ix1 (y 0))) :=
  (arr28 m c).trans ((o28 _ _ _ _ _ _ _ _ _ _ _ _ _ _ _ _ _ _ (fun j => (m ((c.tc : Thread nD τ).loc main_arg13)) (ix1 j)) (fun j => (m ((c.tc : Thread nD τ).loc main_arg12)) (ix1 j)) (fun j => los (m ((c.tc : Thread nD τ).loc main_arg14)) (ix1 j)) (fun j => his (m ((c.tc : Thread nD τ).loc main_arg14)) (ix1 j)) (fun t => (m ((c.tc : Thread nD τ).loc main_arg9)) (ix1 t)) (fun t => (m ((c.tc : Thread nD τ).loc main_arg11)) (ix1 t)) (fun t => (m ((c.tc : Thread nD τ).loc main_arg10)) (ix1 t))
    (v0_eq m c) (v1_eq m c) (v2_eq m c) (v3_eq m c) (v4_eq m c) (v5_eq m c) (v6_eq m c) (v8_eq m c) (v10_eq m c)).trans (funext fun y =>
      congrArg₂ (fun a b => factor a b ((m ((c.tc : Thread nD τ).loc main_arg11)) (ix1 (y 0)))) (tokCoef_eq m c (y 0)) (congrArg₂ (fun a b => rescaled a b (y 0)) (V_main_arg0 m c) (V_main_arg1 m c))))

theorem tie29 (c : Dev nD) : (dats m 0 c).arrAt 29 cfg0.N = fun y : S2048x128.Idx => (m ((c.tc : Thread nD τ).loc main_arg11)) (ix1 (y 0)) :=
  (arr29 m c).trans (o29 _ _ _ _ _ _ _ _ _ _ _ _ _ _ _ _ _ _ (fun t => (m ((c.tc : Thread nD τ).loc main_arg11)) (ix1 t)) (v2_eq m c))

set_option maxHeartbeats 4000000 in
theorem algebraic : Cert.algebraic_CoefIdeal_CoefRefIdeal := by
  intro m ρ m' ρ' _ hagree
  refine ⟨fun c => (dats (F := Ideal) m 0 c).arrAt 18 cfg0.N, fun c => (dats (F := Ideal) m 0 c).arrAt 19 cfg0.N, fun c => (dats (F := Ideal) m 0 c).arrAt 20 cfg0.N,
    fun c => (dats (F := Ideal) m 0 c).arrAt 21 cfg0.N, fun c => (dats (F := Ideal) m 0 c).arrAt 22 cfg0.N, fun c => (dats (F := Ideal) m 0 c).arrAt 23 cfg0.N,
    fun c => (dats (F := Ideal) m 0 c).arrAt 24 cfg0.N, fun c => (dats (F := Ideal) m 0 c).arrAt 26 cfg0.N, fun c => (dats (F := Ideal) m 0 c).arrAt 27 cfg0.N,
    fun c => (dats (F := Ideal) m 0 c).arrAt 28 cfg0.N, fun c => (dats (F := Ideal) m 0 c).arrAt 29 cfg0.N, ?_, ?_⟩
  · refine (θ_run Cert.CoefIdeal.defs _ _).mono (fun _ h c => ?_) (Cert.CoefIdeal.CoefValue.run_blocks (F := Ideal) m ρ)
    obtain ⟨h0, h1, h2, h3, h4, h5, h6, _, h8⟩ := h c
    exact ⟨h0, h1, h2, h3, h4, h5, h6, h8⟩
  refine (θ_run Cert.CoefRefIdeal.defs _ _).mono (fun _ h c => ?_) (Cert.CoefRefIdeal.Value.run (F := Ideal) m' ρ')
  obtain ⟨h0, h1, h2, h3, h4, h5, h6, h7, h8, h9, h10, hrest⟩ := h c
  obtain ⟨a0, a1, a2, a3, a4, a5, a6, a7, a8, a9, a10, a11, a12, a13, a14⟩ := hagree c
  refine ⟨h0.trans ?_, h1.trans ?_, h2.trans ?_, h3.trans ?_, h4.trans ?_, h5.trans ?_, h6.trans ?_, h7.trans ?_, h8.trans ?_, h9.trans ?_, h10.trans ?_, hrest⟩
  · refine (r_logp (m' ((c.tc : Thread CoefRefIdeal.nD CoefRefIdeal.τ).loc CoefRefIdeal.main_arg0)) (m' ((c.tc : Thread CoefRefIdeal.nD CoefRefIdeal.τ).loc CoefRefIdeal.main_arg1)) (m' ((c.tc : Thread CoefRefIdeal.nD CoefRefIdeal.τ).loc CoefRefIdeal.main_arg3))).trans (Eq.trans ?_ (tie18 m c).symm)
    rw [a0, a1, a3]
  · refine (r_logp (m' ((c.tc : Thread CoefRefIdeal.nD CoefRefIdeal.τ).loc CoefRefIdeal.main_arg4)) (m' ((c.tc : Thread CoefRefIdeal.nD CoefRefIdeal.τ).loc CoefRefIdeal.main_arg5)) (m' ((c.tc : Thread CoefRefIdeal.nD CoefRefIdeal.τ).loc CoefRefIdeal.main_arg6))).trans (Eq.trans ?_ (tie19 m c).symm)
    rw [a4, a5, a6]
  · refine (r_ent (m' ((c.tc : Thread CoefRefIdeal.nD CoefRefIdeal.τ).loc CoefRefIdeal.main_arg0)) (m' ((c.tc : Thread CoefRefIdeal.nD CoefRefIdeal.τ).loc CoefRefIdeal.main_arg1)) (m' ((c.tc : Thread CoefRefIdeal.nD CoefRefIdeal.τ).loc CoefRefIdeal.main_arg2))).trans (Eq.trans ?_ (tie20 m c).symm)
    rw [a0, a1, a2]
  · refine (r_coef (m' ((c.tc : Thread CoefRefIdeal.nD CoefRefIdeal.τ).loc CoefRefIdeal.main_arg0)) (m' ((c.tc : Thread CoefRefIdeal.nD CoefRefIdeal.τ).loc CoefRefIdeal.main_arg1)) (m' ((c.tc : Thread CoefRefIdeal.nD CoefRefIdeal.τ).loc CoefRefIdeal.main_arg3)) (m' ((c.tc : Thread CoefRefIdeal.nD CoefRefIdeal.τ).loc CoefRefIdeal.main_arg4)) (m' ((c.tc : Thread CoefRefIdeal.nD CoefRefIdeal.τ).loc CoefRefIdeal.main_arg5)) (m' ((c.tc : Thread CoefRefIdeal.nD CoefRefIdeal.τ).loc CoefRefIdeal.main_arg6)) (m' ((c.tc : Thread CoefRefIdeal.nD CoefRefIdeal.τ).loc CoefRefIdeal.main_arg9)) (m' ((c.tc : Thread CoefRefIdeal.nD CoefRefIdeal.τ).loc CoefRefIdeal.main_arg10)) (m' ((c.tc : Thread CoefRefIdeal.nD CoefRefIdeal.τ).loc CoefRefIdeal.main_arg12)) (m' ((c.tc : Thread CoefRefIdeal.nD CoefRefIdeal.τ).loc CoefRefIdeal.main_arg13)) (m' ((c.tc : Thread CoefRefIdeal.nD CoefRefIdeal.τ).loc CoefRefIdeal.main_arg14))).trans (Eq.trans ?_ (tie21 m c).symm)
    rw [a0, a1, a3, a4, a5, a6, a9, a10, a12, a13, a14]
  · refine (first_apply (m' ((c.tc : Thread CoefRefIdeal.nD CoefRefIdeal.τ).loc CoefRefIdeal.main_arg7))).trans (Eq.trans ?_ (tie22 m c).symm)
    rw [a7]
  · refine (first_apply (m' ((c.tc : Thread CoefRefIdeal.nD CoefRefIdeal.τ).loc CoefRefIdeal.main_arg8))).trans (Eq.trans ?_ (tie23 m c).symm)
    rw [a8]
  · refine (r_adv (m' ((c.tc : Thread CoefRefIdeal.nD CoefRefIdeal.τ).loc CoefRefIdeal.main_arg12)) (m' ((c.tc : Thread CoefRefIdeal.nD CoefRefIdeal.τ).loc CoefRefIdeal.main_arg13))).trans (Eq.trans ?_ (tie24 m c).symm)
    rw [a12, a13]
  · refine (r_top (m' ((c.tc : Thread CoefRefIdeal.nD CoefRefIdeal.τ).loc CoefRefIdeal.main_arg0))).trans (Eq.trans ?_ (tie26 m c).symm)
    rw [a0]
  · refine (r_sum (m' ((c.tc : Thread CoefRefIdeal.nD CoefRefIdeal.τ).loc CoefRefIdeal.main_arg0)) (m' ((c.tc : Thread CoefRefIdeal.nD CoefRefIdeal.τ).loc CoefRefIdeal.main_arg1))).trans (Eq.trans ?_ (tie27 m c).symm)
    rw [a0, a1]
  · refine (r_fac (m' ((c.tc : Thread CoefRefIdeal.nD CoefRefIdeal.τ).loc CoefRefIdeal.main_arg0)) (m' ((c.tc : Thread CoefRefIdeal.nD CoefRefIdeal.τ).loc CoefRefIdeal.main_arg1)) (m' ((c.tc : Thread CoefRefIdeal.nD CoefRefIdeal.τ).loc CoefRefIdeal.main_arg3)) (m' ((c.tc : Thread CoefRefIdeal.nD CoefRefIdeal.τ).loc CoefRefIdeal.main_arg4)) (m' ((c.tc : Thread CoefRefIdeal.nD CoefRefIdeal.τ).loc CoefRefIdeal.main_arg5)) (m' ((c.tc : Thread CoefRefIdeal.nD CoefRefIdeal.τ).loc CoefRefIdeal.main_arg6)) (m' ((c.tc : Thread CoefRefIdeal.nD CoefRefIdeal.τ).loc CoefRefIdeal.main_arg9)) (m' ((c.tc : Thread CoefRefIdeal.nD CoefRefIdeal.τ).loc CoefRefIdeal.main_arg10)) (m' ((c.tc : Thread CoefRefIdeal.nD CoefRefIdeal.τ).loc CoefRefIdeal.main_arg11)) (m' ((c.tc : Thread CoefRefIdeal.nD CoefRefIdeal.τ).loc CoefRefIdeal.main_arg12)) (m' ((c.tc : Thread CoefRefIdeal.nD CoefRefIdeal.τ).loc CoefRefIdeal.main_arg13)) (m' ((c.tc : Thread CoefRefIdeal.nD CoefRefIdeal.τ).loc CoefRefIdeal.main_arg14))).trans (Eq.trans ?_ (tie28 m c).symm)
    rw [a0, a1, a3, a4, a5, a6, a9, a10, a11, a12, a13, a14]
  · refine (lanes_apply (m' ((c.tc : Thread CoefRefIdeal.nD CoefRefIdeal.τ).loc CoefRefIdeal.main_arg11))).trans (Eq.trans ?_ (tie29 m c).symm)
    rw [a11]

end Cert.Proof.Coef

end
-- ==== Proof.NormRef.lean ====
module

public import proofs.«01_k».proof.Proof.Gen.NormRefIdeal.Value
public import Idealize.ShloMosaic.Lib.Pipeline.ValueKit

@[expose] public section

set_option maxRecDepth 16384

noncomputable section

namespace Cert.Proof.NormRef

open Idealize.ShloMosaic Idealize.ShloMosaic.TcCoe Idealize.SL.Sem
open Cert.NormRefIdeal Cert.NormRefIdeal.Gen

variable (m : (ℓ : Loc nD τ sig) → Buf (Elt Ideal) ℓ)

/-- The one grid point's blocks are the whole arrays. -/
theorem idx : ∀ t : Fin cfg0.N, win0_0.index t = ![0, 0] ∧ win0_1.index t = ![0, 0]
    ∧ win0_2.index t = ![0, 0] ∧ win0_3.index t = ![0, 0] ∧ win0_4.index t = ![0, 0]
    ∧ win0_5.index t = ![0, 0] ∧ win0_6.index t = ![0, 0] ∧ win0_7.index t = ![0, 0]
    ∧ win0_8.index t = ![0, 0] ∧ win0_9.index t = ![0, 0] := by
  decide +kernel

/-- The gains and the labels as the call takes them: reshaped. -/
theorem V_v0 (c : Dev nD) : V m c main_v0 = shapeCast S1x3072 (m ((c : Thread nD τ).loc main_arg2)) shapeCasts_S3072_S1x3072 := by
  rfl
theorem V_v1 (c : Dev nD) : V m c main_v1 = shapeCast S1x3072 (m ((c : Thread nD τ).loc main_arg3)) shapeCasts_S3072_S1x3072 := by
  rfl
theorem V_v2 (c : Dev nD) : V m c main_v2 = shapeCast S2048x1 (m ((c : Thread nD τ).loc main_arg4)) shapeCasts_S2048_S2048x1 := by
  rfl

/-- The block a window shows is the array behind it. -/
theorem blk0 (c : Dev nD) (t : Fin cfg0.N) : iblk m c 0 t = V m c main_arg0 := by
  funext y; blk_ext [iblk, idx t]
theorem blk1 (c : Dev nD) (t : Fin cfg0.N) : iblk m c 1 t = V m c main_arg1 := by
  funext y; blk_ext [iblk, idx t]
theorem blk2 (c : Dev nD) (t : Fin cfg0.N) : iblk m c 2 t = V m c main_v0 := by
  funext y; blk_ext [iblk, idx t]

theorem blk3 (c : Dev nD) (t : Fin cfg0.N) : iblk m c 3 t = V m c main_v1 := by
  funext y; blk_ext [iblk, idx t]
theorem blk4 (c : Dev nD) (t : Fin cfg0.N) : iblk m c 4 t = V m c main_v2 := by
  funext y; blk_ext [iblk, idx t]

/-- The codes of the first rows. -/
theorem final5 (c : Dev nD) : (dats m 0 c).arrAt 5 cfg0.N = k0_pay4 (F := Ideal) (m ((c : Thread nD τ).loc main_arg0)) (shapeCast S1x3072 (m ((c : Thread nD τ).loc main_arg2)) shapeCasts_S3072_S1x3072) := by
  refine (dats m 0 c).arrAt_eq_of_covers 5 _ (by decide +kernel) fun t hf y => ?_
  blk_simp
  rw [after0_5]
  frame_out
  rw [blk0, blk2, V_v0, V_main_arg0]
  generalize k0_pay4 (F := Ideal) (m ((c : Thread nD τ).loc main_arg0)) (shapeCast S1x3072 (m ((c : Thread nD τ).loc main_arg2)) shapeCasts_S3072_S1x3072) = X
  blk_ext [idx t]

/-- The codes of the second rows. -/
theorem final6 (c : Dev nD) : (dats m 0 c).arrAt 6 cfg0.N = k0_pay8 (F := Ideal) (m ((c : Thread nD τ).loc main_arg1)) (shapeCast S1x3072 (m ((c : Thread nD τ).loc main_arg3)) shapeCasts_S3072_S1x3072) := by
  refine (dats m 0 c).arrAt_eq_of_covers 6 _ (by decide +kernel) fun t hf y => ?_
  blk_simp
  rw [after0_6]
  frame_out
  rw [blk1, blk3, V_v1, V_main_arg1]
  generalize k0_pay8 (F := Ideal) (m ((c : Thread nD τ).loc main_arg1)) (shapeCast S1x3072 (m ((c : Thread nD τ).loc main_arg3)) shapeCasts_S3072_S1x3072) = X
  blk_ext [idx t]

/-- The scales of the first rows. -/
theorem final7 (c : Dev nD) : (dats m 0 c).arrAt 7 cfg0.N = k0_pay5 (F := Ideal) (m ((c : Thread nD τ).loc main_arg0)) (shapeCast S1x3072 (m ((c : Thread nD τ).loc main_arg2)) shapeCasts_S3072_S1x3072) := by
  refine (dats m 0 c).arrAt_eq_of_covers 7 _ (by decide +kernel) fun t hf y => ?_
  blk_simp
  rw [after0_7]
  frame_out
  rw [blk0, blk2, V_v0, V_main_arg0]
  generalize k0_pay5 (F := Ideal) (m ((c : Thread nD τ).loc main_arg0)) (shapeCast S1x3072 (m ((c : Thread nD τ).loc main_arg2)) shapeCasts_S3072_S1x3072) = X
  blk_ext [idx t]

/-- The scales of the second rows. -/
theorem final8 (c : Dev nD) : (dats m 0 c).arrAt 8 cfg0.N = k0_pay9 (F := Ideal) (m ((c : Thread nD τ).loc main_arg1)) (shapeCast S1x3072 (m ((c : Thread nD τ).loc main_arg3)) shapeCasts_S3072_S1x3072) := by
  refine (dats m 0 c).arrAt_eq_of_covers 8 _ (by decide +kernel) fun t hf y => ?_
  blk_simp
  rw [after0_8]
  frame_out
  rw [blk1, blk3, V_v1, V_main_arg1]
  generalize k0_pay9 (F := Ideal) (m ((c : Thread nD τ).loc main_arg1)) (shapeCast S1x3072 (m ((c : Thread nD τ).loc main_arg3)) shapeCasts_S3072_S1x3072) = X
  blk_ext [idx t]

/-- The labels. -/
theorem final9 (c : Dev nD) : (dats m 0 c).arrAt 9 cfg0.N = k0_pay1 (k0_pay10 (F := Ideal) (shapeCast S2048x1 (m ((c : Thread nD τ).loc main_arg4)) shapeCasts_S2048_S2048x1)) := by
  refine (dats m 0 c).arrAt_eq_of_covers 9 _ (by decide +kernel) fun t hf y => ?_
  blk_simp
  rw [after0_9]
  frame_out
  rw [blk4, V_v2]
  generalize k0_pay1 (k0_pay10 (F := Ideal) (shapeCast S2048x1 (m ((c : Thread nD τ).loc main_arg4)) shapeCasts_S2048_S2048x1)) = X
  blk_ext [idx t]

end Cert.Proof.NormRef

end
-- ==== Proof.NormRows.lean ====
module

public import proofs.«01_k».proof.Defs
public import proofs.«01_k».proof.Proof.NormRef
public import proofs.«01_k».proof.Proof.Gen.NormIdeal.Value
public import Idealize.ShloMosaic.Lib.Pipeline.ValueKit

@[expose] public section

set_option maxRecDepth 16384

noncomputable section

namespace Cert.Proof.NormRows

open Idealize.ShloMosaic Idealize.ShloMosaic.TcCoe Idealize.SL.Sem
open Cert.NormIdeal Cert.NormIdeal.Gen

/-- One element of a row after the normalisation by its root mean square and the gain. -/
def normRow (x g : Fin 3072 → EReal) (j : Fin 3072) : EReal :=
  x j * Ideal.div 1 (Ideal.sqrt (Ideal.div (∑ k, x k * x k) (Ideal.ofBits FTy.f32 1161822208#32) + Ideal.ofBits FTy.f32 897988541#32)) * g j

/-- The largest magnitude in a row. -/
def maxRow (r : Fin 3072 → EReal) : EReal :=
  Finset.fold max (Ideal.ofBits FTy.f32 4286578688#32) (fun k => FloatOps.absf (F := Ideal) (φ := .f32) (r k)) Finset.univ

/-- The quantisation scale for a largest magnitude. -/
def scaleOf (M : EReal) : EReal := if M = 0 then 1 else Ideal.div M (Ideal.ofBits FTy.f32 1138753536#32)

/-- The quantisation scale of a row. -/
def scaleRow (r : Fin 3072 → EReal) : EReal := scaleOf (maxRow r)

/-- A code: the element over the scale, clipped to the format's range. -/
def codeOf (v d : EReal) : EReal :=
  min (Ideal.ofBits FTy.f32 1138753536#32) (max (Ideal.ofBits FTy.f32 3286237184#32) (Ideal.div v d))

/-- One code of a row. -/
def codeRow (r : Fin 3072 → EReal) (j : Fin 3072) : EReal := codeOf (r j) (scaleRow r)

/-! The kernel's block of rows. -/

/-- A normalised element. -/
theorem k_norm (P : Vec Ideal S256x3072 .bf16) (G : Vec Ideal S1x3072 .f32) (a : Fin 256) (b : Fin 3072) : k0_pay3 (F := Ideal) P G (ix2 a b) = normRow (fun k => P (ix2 a k)) (fun k => G (ix2 0 k)) b := by
  unfold k0_pay3
  pointwise
  simp only [normRow]

/-- The largest magnitude of a row. -/
theorem k_max (N : FVec Ideal S256x3072 .f32) (a : Fin 256) : multiReduction .maximumf [1] S256 (absf N) 4286578688#32 reduces_S256x3072_S256 (.inl rfl) rfl (ix1 a) = maxRow (fun k => N (ix2 a k)) := by
  unfold maxRow
  pointwise

/-- The scale for a largest magnitude. -/
theorem k_select (M : FVec Ideal S256 .f32) (a : Fin 256) (b : Fin 1) :
    select (cmpf .oeq (shapeCast S256x1 M shapeCasts_S256_S256x1) (broadcast S256x1 (FloatOps.ofBits (F := Ideal) .f32 0#32)))
      (broadcast S256x1 (FloatOps.ofBits (F := Ideal) .f32 1065353216#32))
      (divf (shapeCast S256x1 M shapeCasts_S256_S256x1) (broadcast S256x1 (FloatOps.ofBits (F := Ideal) .f32 1138753536#32))) (ix2 a b)
      = scaleOf (M (ix1 a)) := by
  pointwise
  rfl

/-- A row's scale. -/
theorem k_scale (P : Vec Ideal S256x3072 .bf16) (G : Vec Ideal S1x3072 .f32) (a : Fin 256) (b : Fin 1) : k0_pay4 (F := Ideal) P G (ix2 a b) = scaleRow (normRow (fun k => P (ix2 a k)) (fun k => G (ix2 0 k))) := by
  have e : k0_pay4 (F := Ideal) P G (ix2 a b) = scaleOf (maxRow (fun k => k0_pay3 (F := Ideal) P G (ix2 a k))) :=
    (k_select _ a b).trans (congrArg scaleOf (k_max _ a))
  rw [e]
  simp only [k_norm]
  unfold scaleRow
  exact rfl

/-- The codes of an array over a column of scales. -/
theorem k_clip (N : FVec Ideal S256x3072 .f32) (D : FVec Ideal S256x1 .f32) (a : Fin 256) (b : Fin 3072) :
    truncf .fp8e4m3 (minimumf (broadcast S256x3072 (FloatOps.ofBits (F := Ideal) .f32 1138753536#32))
      (maximumf (broadcast S256x3072 (FloatOps.ofBits (F := Ideal) .f32 3286237184#32)) (divf N (broadcastTo S256x3072 D broadcasts_S256x1_S256x3072)))) bitsLt_fp8e4m3_f32 (ix2 a b)
      = codeOf (N (ix2 a b)) (D (ix2 a 0)) := by
  pointwise
  rfl

/-- A code. -/
theorem k_code (P : Vec Ideal S256x3072 .bf16) (G : Vec Ideal S1x3072 .f32) (a : Fin 256) (b : Fin 3072) : k0_pay5 (F := Ideal) P G (ix2 a b) = codeRow (normRow (fun k => P (ix2 a k)) (fun k => G (ix2 0 k))) b := by
  have e : k0_pay5 (F := Ideal) P G (ix2 a b) = codeOf (k0_pay3 (F := Ideal) P G (ix2 a b)) (k0_pay4 (F := Ideal) P G (ix2 a 0)) :=
    k_clip _ _ a b
  rw [e, k_norm, k_scale]
  unfold codeRow
  exact rfl

/-- A column repeated along the lanes. -/
theorem k_lanes (D : FVec Ideal S256x1 .f32) (a : Fin 256) (b : Fin 128) :
    broadcastTo S256x128 (shapeCast S256x1 D shapeCasts_S256x1_S256x1) broadcasts_S256x1_S256x128 (ix2 a b) = D (ix2 a 0) := by
  pointwise

/-- The scale, repeated along the lanes. -/
theorem k_scales (P : Vec Ideal S256x3072 .bf16) (G : Vec Ideal S1x3072 .f32) (a : Fin 256) (b : Fin 128) : k0_pay6 (F := Ideal) P G (ix2 a b) = scaleRow (normRow (fun k => P (ix2 a k)) (fun k => G (ix2 0 k))) := by
  have e : k0_pay6 (F := Ideal) P G (ix2 a b) = k0_pay4 (F := Ideal) P G (ix2 a 0) := k_lanes _ a b
  rw [e, k_scale]

/-! The reference's whole array. -/

/-- A normalised element. -/
theorem r_norm (P : Vec Ideal NormRefIdeal.S2048x3072 .bf16) (G : Vec Ideal NormRefIdeal.S1x3072 .f32) (a : Fin 2048) (b : Fin 3072) : NormRefIdeal.Gen.k0_pay2 (F := Ideal) P G (ix2 a b) = normRow (fun k => P (ix2 a k)) (fun k => G (ix2 0 k)) b := by
  unfold NormRefIdeal.Gen.k0_pay2
  pointwise
  simp only [normRow]

/-- The largest magnitude of a row. -/
theorem r_max (N : FVec Ideal NormRefIdeal.S2048x3072 .f32) (a : Fin 2048) : multiReduction .maximumf [1] NormRefIdeal.S2048 (absf N) 4286578688#32 NormRefIdeal.Gen.reduces_S2048x3072_S2048 (.inl rfl) rfl (ix1 a) = maxRow (fun k => N (ix2 a k)) := by
  unfold maxRow
  pointwise

/-- The scale for a largest magnitude. -/
theorem r_select (M : FVec Ideal NormRefIdeal.S2048 .f32) (a : Fin 2048) (b : Fin 1) :
    select (cmpf .oeq (shapeCast NormRefIdeal.S2048x1 M NormRefIdeal.Gen.shapeCasts_S2048_S2048x1) (broadcast NormRefIdeal.S2048x1 (FloatOps.ofBits (F := Ideal) .f32 0#32)))
      (broadcast NormRefIdeal.S2048x1 (FloatOps.ofBits (F := Ideal) .f32 1065353216#32))
      (divf (shapeCast NormRefIdeal.S2048x1 M NormRefIdeal.Gen.shapeCasts_S2048_S2048x1) (broadcast NormRefIdeal.S2048x1 (FloatOps.ofBits (F := Ideal) .f32 1138753536#32))) (ix2 a b)
      = scaleOf (M (ix1 a)) := by
  pointwise
  rfl

/-- A row's scale. -/
theorem r_scale (P : Vec Ideal NormRefIdeal.S2048x3072 .bf16) (G : Vec Ideal NormRefIdeal.S1x3072 .f32) (a : Fin 2048) (b : Fin 1) : NormRefIdeal.Gen.k0_pay3 (F := Ideal) P G (ix2 a b) = scaleRow (normRow (fun k => P (ix2 a k)) (fun k => G (ix2 0 k))) := by
  have e : NormRefIdeal.Gen.k0_pay3 (F := Ideal) P G (ix2 a b) = scaleOf (maxRow (fun k => NormRefIdeal.Gen.k0_pay2 (F := Ideal) P G (ix2 a k))) :=
    (r_select _ a b).trans (congrArg scaleOf (r_max _ a))
  rw [e]
  simp only [r_norm]
  unfold scaleRow
  exact rfl

/-- The codes of an array over a column of scales. -/
theorem r_clip (N : FVec Ideal NormRefIdeal.S2048x3072 .f32) (D : FVec Ideal NormRefIdeal.S2048x1 .f32) (a : Fin 2048) (b : Fin 3072) :
    truncf .fp8e4m3 (minimumf (broadcast NormRefIdeal.S2048x3072 (FloatOps.ofBits (F := Ideal) .f32 1138753536#32))
      (maximumf (broadcast NormRefIdeal.S2048x3072 (FloatOps.ofBits (F := Ideal) .f32 3286237184#32)) (divf N (broadcastTo NormRefIdeal.S2048x3072 D NormRefIdeal.Gen.broadcasts_S2048x1_S2048x3072)))) bitsLt_fp8e4m3_f32 (ix2 a b)
      = codeOf (N (ix2 a b)) (D (ix2 a 0)) := by
  pointwise
  rfl

/-- A code. -/
theorem r_code (P : Vec Ideal NormRefIdeal.S2048x3072 .bf16) (G : Vec Ideal NormRefIdeal.S1x3072 .f32) (a : Fin 2048) (b : Fin 3072) : NormRefIdeal.Gen.k0_pay4 (F := Ideal) P G (ix2 a b) = codeRow (normRow (fun k => P (ix2 a k)) (fun k => G (ix2 0 k))) b := by
  have e : NormRefIdeal.Gen.k0_pay4 (F := Ideal) P G (ix2 a b) = codeOf (NormRefIdeal.Gen.k0_pay2 (F := Ideal) P G (ix2 a b)) (NormRefIdeal.Gen.k0_pay3 (F := Ideal) P G (ix2 a 0)) :=
    r_clip _ _ a b
  rw [e, r_norm, r_scale]
  unfold codeRow
  exact rfl

/-- A column repeated along the lanes. -/
theorem r_lanes (D : FVec Ideal NormRefIdeal.S2048x1 .f32) (a : Fin 2048) (b : Fin 128) :
    broadcastTo NormRefIdeal.S2048x128 (shapeCast NormRefIdeal.S2048x1 D NormRefIdeal.Gen.shapeCasts_S2048x1_S2048x1) NormRefIdeal.Gen.broadcasts_S2048x1_S2048x128 (ix2 a b) = D (ix2 a 0) := by
  pointwise

/-- The scale, repeated along the lanes. -/
theorem r_scales (P : Vec Ideal NormRefIdeal.S2048x3072 .bf16) (G : Vec Ideal NormRefIdeal.S1x3072 .f32) (a : Fin 2048) (b : Fin 128) : NormRefIdeal.Gen.k0_pay5 (F := Ideal) P G (ix2 a b) = scaleRow (normRow (fun k => P (ix2 a k)) (fun k => G (ix2 0 k))) := by
  have e : NormRefIdeal.Gen.k0_pay5 (F := Ideal) P G (ix2 a b) = NormRefIdeal.Gen.k0_pay3 (F := Ideal) P G (ix2 a 0) := r_lanes _ a b
  rw [e, r_scale]

/-! The second array goes the same way as the first. -/

/-- The kernel's second codes. -/
theorem k_code' : k0_pay9 (F := Ideal) = k0_pay5 := rfl

/-- The kernel's second scales. -/
theorem k_scales' : k0_pay10 (F := Ideal) = k0_pay6 := rfl

/-- The reference's second codes. -/
theorem r_code' : NormRefIdeal.Gen.k0_pay8 (F := Ideal) = NormRefIdeal.Gen.k0_pay4 := rfl

/-- The reference's second scales. -/
theorem r_scales' : NormRefIdeal.Gen.k0_pay9 (F := Ideal) = NormRefIdeal.Gen.k0_pay5 := rfl

end Cert.Proof.NormRows

end
-- ==== Proof.Norm.lean ====
module

public import proofs.«01_k».proof.Defs
public import proofs.«01_k».proof.Proof.NormRows
public import proofs.«01_k».proof.Proof.NormRef
public import Idealize.ShloMosaic.Lib.Pipeline.ValueKit

@[expose] public section

set_option maxRecDepth 16384

noncomputable section

namespace Cert.Proof.Norm

open Idealize.ShloMosaic Idealize.ShloMosaic.TcCoe Idealize.SL.Sem
open Cert.NormIdeal Cert.NormIdeal.Gen
open Cert.Proof.NormRows

variable (m : (ℓ : Loc nD τ sig) → Buf (Elt Ideal) ℓ)

/-- The index maps of the ten windows. -/
theorem idx : ∀ t : Fin cfg0.N, win0_0.index t = ![t.val, 0] ∧ win0_1.index t = ![t.val, 0]
    ∧ win0_2.index t = ![0, 0] ∧ win0_3.index t = ![0, 0] ∧ win0_4.index t = ![t.val, 0, 0]
    ∧ win0_5.index t = ![t.val, 0] ∧ win0_6.index t = ![t.val, 0]
    ∧ win0_7.index t = ![t.val, 0] ∧ win0_8.index t = ![t.val, 0]
    ∧ win0_9.index t = ![t.val, 0] := by
  decide +kernel

/-- A position of a block is its row and its column. -/
theorem at_ix2 {n k : ℕ} {α : Type} (f : (⟨2, ![n, k]⟩ : Shape).Idx → α) (y : (⟨2, ![n, k]⟩ : Shape).Idx) : f y = f (ix2 (y 0) (y 1)) :=
  congrArg f (ix2_eta y).symm

/-- A point's rows of argument 0. -/
theorem rows0 (c : Dev nD) (t : Fin cfg0.N) (a : Fin 256) (h : t.val * 256 + a.val < 2048) :
    (fun k => iblk m c 0 t (ix2 a k)) = fun k => m ((c.tc : Thread nD τ).loc main_arg0) (ix2 ⟨t.val * 256 + a.val, h⟩ k) := by
  funext k
  blk_point [iblk, V, idx t]

/-- The gains a point sees. -/
theorem gain0 (c : Dev nD) (t : Fin cfg0.N) :
    (fun k => iblk m c 2 t (ix2 0 k)) = fun k => shapeCast NormRefIdeal.S1x3072 (m ((c.tc : Thread nD τ).loc main_arg2)) NormRefIdeal.Gen.shapeCasts_S3072_S1x3072 (ix2 0 k) := by
  have e : V m c main_v0 = shapeCast S1x3072 (m ((c.tc : Thread nD τ).loc main_arg2)) shapeCasts_S3072_S1x3072 := rfl
  funext k
  blk_point [iblk, e, idx t]

/-- A point's rows of argument 1. -/
theorem rows1 (c : Dev nD) (t : Fin cfg0.N) (a : Fin 256) (h : t.val * 256 + a.val < 2048) :
    (fun k => iblk m c 1 t (ix2 a k)) = fun k => m ((c.tc : Thread nD τ).loc main_arg1) (ix2 ⟨t.val * 256 + a.val, h⟩ k) := by
  funext k
  blk_point [iblk, V, idx t]

/-- The gains a point sees. -/
theorem gain1 (c : Dev nD) (t : Fin cfg0.N) :
    (fun k => iblk m c 3 t (ix2 0 k)) = fun k => shapeCast NormRefIdeal.S1x3072 (m ((c.tc : Thread nD τ).loc main_arg3)) NormRefIdeal.Gen.shapeCasts_S3072_S1x3072 (ix2 0 k) := by
  have e : V m c main_v1 = shapeCast S1x3072 (m ((c.tc : Thread nD τ).loc main_arg3)) shapeCasts_S3072_S1x3072 := rfl
  funext k
  blk_point [iblk, e, idx t]

/-- Window 5 ends as the reference's array, on the same arguments. -/
theorem tie5 (c : Dev nD) : (dats m 0 c).arrAt 5 cfg0.N = NormRefIdeal.Gen.k0_pay4 (F := Ideal) (m ((c.tc : Thread nD τ).loc main_arg0)) (shapeCast NormRefIdeal.S1x3072 (m ((c.tc : Thread nD τ).loc main_arg2)) NormRefIdeal.Gen.shapeCasts_S3072_S1x3072) := by
  refine (dats m 0 c).arrAt_eq_of_covers 5 _ (by decide +kernel) fun t hf y => ?_
  blk_simp
  rw [after0_5]
  frame_out
  have hN : t.val < 8 := lt_of_lt_of_eq t.isLt N_0
  have key : ∀ (a : Fin 256) (b : Fin 3072), k0_pay5 (F := Ideal) (iblk m c 0 t) (iblk m c 2 t) (ix2 a b)
      = NormRefIdeal.Gen.k0_pay4 (F := Ideal) (m ((c.tc : Thread nD τ).loc main_arg0)) (shapeCast NormRefIdeal.S1x3072 (m ((c.tc : Thread nD τ).loc main_arg2)) NormRefIdeal.Gen.shapeCasts_S3072_S1x3072) (ix2 ⟨t.val * 256 + a.val, by omega⟩ b) := by
    intro a b
    rw [k_code, r_code, rows0 m c t a (by omega), gain0 m c t]
  refine (at_ix2 _ y).trans ((key (y 0) (y 1)).trans ?_)
  generalize NormRefIdeal.Gen.k0_pay4 (F := Ideal) (m ((c.tc : Thread nD τ).loc main_arg0)) (shapeCast NormRefIdeal.S1x3072 (m ((c.tc : Thread nD τ).loc main_arg2)) NormRefIdeal.Gen.shapeCasts_S3072_S1x3072) = X
  blk_ext [idx t]

/-- Window 6 ends as the reference's array, on the same arguments. -/
theorem tie6 (c : Dev nD) : (dats m 0 c).arrAt 6 cfg0.N = NormRefIdeal.Gen.k0_pay8 (F := Ideal) (m ((c.tc : Thread nD τ).loc main_arg1)) (shapeCast NormRefIdeal.S1x3072 (m ((c.tc : Thread nD τ).loc main_arg3)) NormRefIdeal.Gen.shapeCasts_S3072_S1x3072) := by
  refine (dats m 0 c).arrAt_eq_of_covers 6 _ (by decide +kernel) fun t hf y => ?_
  blk_simp
  rw [after0_6]
  frame_out
  have hN : t.val < 8 := lt_of_lt_of_eq t.isLt N_0
  have key : ∀ (a : Fin 256) (b : Fin 3072), k0_pay9 (F := Ideal) (iblk m c 1 t) (iblk m c 3 t) (ix2 a b)
      = NormRefIdeal.Gen.k0_pay8 (F := Ideal) (m ((c.tc : Thread nD τ).loc main_arg1)) (shapeCast NormRefIdeal.S1x3072 (m ((c.tc : Thread nD τ).loc main_arg3)) NormRefIdeal.Gen.shapeCasts_S3072_S1x3072) (ix2 ⟨t.val * 256 + a.val, by omega⟩ b) := by
    intro a b
    simp only [k_code', r_code']; rw [k_code, r_code, rows1 m c t a (by omega), gain1 m c t]
  refine (at_ix2 _ y).trans ((key (y 0) (y 1)).trans ?_)
  generalize NormRefIdeal.Gen.k0_pay8 (F := Ideal) (m ((c.tc : Thread nD τ).loc main_arg1)) (shapeCast NormRefIdeal.S1x3072 (m ((c.tc : Thread nD τ).loc main_arg3)) NormRefIdeal.Gen.shapeCasts_S3072_S1x3072) = X
  blk_ext [idx t]

/-- Window 7 ends as the reference's array, on the same arguments. -/
theorem tie7 (c : Dev nD) : (dats m 0 c).arrAt 7 cfg0.N = NormRefIdeal.Gen.k0_pay5 (F := Ideal) (m ((c.tc : Thread nD τ).loc main_arg0)) (shapeCast NormRefIdeal.S1x3072 (m ((c.tc : Thread nD τ).loc main_arg2)) NormRefIdeal.Gen.shapeCasts_S3072_S1x3072) := by
  refine (dats m 0 c).arrAt_eq_of_covers 7 _ (by decide +kernel) fun t hf y => ?_
  blk_simp
  rw [after0_7]
  frame_out
  have hN : t.val < 8 := lt_of_lt_of_eq t.isLt N_0
  have key : ∀ (a : Fin 256) (b : Fin 128), k0_pay6 (F := Ideal) (iblk m c 0 t) (iblk m c 2 t) (ix2 a b)
      = NormRefIdeal.Gen.k0_pay5 (F := Ideal) (m ((c.tc : Thread nD τ).loc main_arg0)) (shapeCast NormRefIdeal.S1x3072 (m ((c.tc : Thread nD τ).loc main_arg2)) NormRefIdeal.Gen.shapeCasts_S3072_S1x3072) (ix2 ⟨t.val * 256 + a.val, by omega⟩ b) := by
    intro a b
    rw [k_scales, r_scales, rows0 m c t a (by omega), gain0 m c t]
  refine (at_ix2 _ y).trans ((key (y 0) (y 1)).trans ?_)
  generalize NormRefIdeal.Gen.k0_pay5 (F := Ideal) (m ((c.tc : Thread nD τ).loc main_arg0)) (shapeCast NormRefIdeal.S1x3072 (m ((c.tc : Thread nD τ).loc main_arg2)) NormRefIdeal.Gen.shapeCasts_S3072_S1x3072) = X
  blk_ext [idx t]

/-- Window 8 ends as the reference's array, on the same arguments. -/
theorem tie8 (c : Dev nD) : (dats m 0 c).arrAt 8 cfg0.N = NormRefIdeal.Gen.k0_pay9 (F := Ideal) (m ((c.tc : Thread nD τ).loc main_arg1)) (shapeCast NormRefIdeal.S1x3072 (m ((c.tc : Thread nD τ).loc main_arg3)) NormRefIdeal.Gen.shapeCasts_S3072_S1x3072) := by
  refine (dats m 0 c).arrAt_eq_of_covers 8 _ (by decide +kernel) fun t hf y => ?_
  blk_simp
  rw [after0_8]
  frame_out
  have hN : t.val < 8 := lt_of_lt_of_eq t.isLt N_0
  have key : ∀ (a : Fin 256) (b : Fin 128), k0_pay10 (F := Ideal) (iblk m c 1 t) (iblk m c 3 t) (ix2 a b)
      = NormRefIdeal.Gen.k0_pay9 (F := Ideal) (m ((c.tc : Thread nD τ).loc main_arg1)) (shapeCast NormRefIdeal.S1x3072 (m ((c.tc : Thread nD τ).loc main_arg3)) NormRefIdeal.Gen.shapeCasts_S3072_S1x3072) (ix2 ⟨t.val * 256 + a.val, by omega⟩ b) := by
    intro a b
    simp only [k_scales', r_scales']; rw [k_scales, r_scales, rows1 m c t a (by omega), gain1 m c t]
  refine (at_ix2 _ y).trans ((key (y 0) (y 1)).trans ?_)
  generalize NormRefIdeal.Gen.k0_pay9 (F := Ideal) (m ((c.tc : Thread nD τ).loc main_arg1)) (shapeCast NormRefIdeal.S1x3072 (m ((c.tc : Thread nD τ).loc main_arg3)) NormRefIdeal.Gen.shapeCasts_S3072_S1x3072) = X
  blk_ext [idx t]

/-- A block's labels, each repeated along its row. -/
def labRows (B : Vec Ideal S2x1x128 .i32) : Vec Ideal S256x128 .i32 := fun y =>
  B (ix3 ⟨(y 0).val / 128, by have := (y 0).isLt; dsimp [S256x128] at this; omega⟩ 0 ⟨(y 0).val % 128, Nat.mod_lt _ (by omega)⟩)

/-- The stored rows of labels: the first half. -/
theorem lab_lo (v : Vec Ideal S1x1x128 .i32) (a b : Fin 128) : k0_pay1 (F := Ideal) v (ix2 a b) = v (ix3 0 0 a) := by
  pointwise [k0_pay1]

/-- The second half. -/
theorem lab_hi (v : Vec Ideal S1x1x128 .i32) (a b : Fin 128) : k0_pay2 (F := Ideal) v (ix2 a b) = v (ix3 0 0 a) := by
  pointwise [k0_pay2]

/-- What the two stores of labels leave in a block. -/
theorem lab_block (B : Vec Ideal S2x1x128 .i32) (y : S256x128.Idx) :
    View.canon [⟨r0_6, k0_pay2 (F := Ideal) (View.ld B r0_5)⟩, ⟨r0_4, k0_pay1 (F := Ideal) (View.ld B r0_3)⟩] y = labRows B y := by
  canon_tiles x h
  · refine (at_ix2 (k0_pay2 (F := Ideal) (View.ld B r0_5)) x).trans ((lab_hi (View.ld B r0_5) (x 0) (x 1)).trans ?_)
    refine View.ld_unit_apply_of B _ _ _ (ix3 0 0 (x 0)) _ fun a => ?_
    match a with
    | 0 => exact (by show (y 0).val / 128 = 1 + 0; omega)
    | 1 => rfl
    | 2 => exact (by show (y 0).val % 128 = 0 + (x 0).val; omega)
  · refine (at_ix2 (k0_pay1 (F := Ideal) (View.ld B r0_3)) x).trans ((lab_lo (View.ld B r0_3) (x 0) (x 1)).trans ?_)
    refine View.ld_unit_apply_of B _ _ _ (ix3 0 0 (x 0)) _ fun a => ?_
    match a with
    | 0 => exact (by show (y 0).val / 128 = 0 + 0; omega)
    | 1 => rfl
    | 2 => exact (by show (y 0).val % 128 = 0 + (x 0).val; omega)

/-- The reference's labels, repeated along the lanes. -/
theorem lab_ref (L : Vec Ideal NormRefIdeal.S2048 .i32) (a : Fin 2048) (b : Fin 128) :
    NormRefIdeal.Gen.k0_pay1 (NormRefIdeal.Gen.k0_pay10 (F := Ideal) (shapeCast NormRefIdeal.S2048x1 L NormRefIdeal.Gen.shapeCasts_S2048_S2048x1)) (ix2 a b) = L (ix1 a) := by
  pointwise [NormRefIdeal.Gen.k0_pay1, NormRefIdeal.Gen.k0_pay10]

/-- The labels in groups of 128. -/
theorem labels_apply (L : Vec Ideal S2048 .i32) (i : Fin 16) (j : Fin 128) :
    shapeCast S16x1x128 L shapeCasts_S2048_S16x1x128 (ix3 i 0 j) = L (ix1 ⟨i.val * 128 + j.val, by omega⟩) := by
  pointwise

/-- The labels a point sees. -/
theorem labels (c : Dev nD) (t : Fin cfg0.N) (i : Fin 2) (j : Fin 128) (h : t.val * 256 + (i.val * 128 + j.val) < 2048) :
    iblk m c 4 t (ix3 i 0 j) = m ((c.tc : Thread nD τ).loc main_arg4) (ix1 ⟨t.val * 256 + (i.val * 128 + j.val), h⟩) := by
  have e : V m c main_v2 = shapeCast S16x1x128 (m ((c.tc : Thread nD τ).loc main_arg4)) shapeCasts_S2048_S16x1x128 := rfl
  have ep : (win0_4.blk t).view.emb (ix3 i 0 j) = (ix3 ⟨t.val * 2 + i.val, by omega⟩ 0 j : S16x1x128.Idx) := by
    blk_ext [idx t]
  refine (congrArg (V m c main_v2) ep).trans ?_
  rw [e, labels_apply]
  exact congrArg _ (congrArg ix1 (Fin.ext (by dsimp only; omega)))

/-- The labels, repeated along the lanes. -/
theorem tie9 (c : Dev nD) : (dats m 0 c).arrAt 9 cfg0.N
    = NormRefIdeal.Gen.k0_pay1 (NormRefIdeal.Gen.k0_pay10 (F := Ideal) (shapeCast NormRefIdeal.S2048x1 (m ((c.tc : Thread nD τ).loc main_arg4)) NormRefIdeal.Gen.shapeCasts_S2048_S2048x1)) := by
  refine (dats m 0 c).arrAt_eq_of_covers 9 _ (by decide +kernel) fun t hf y => ?_
  blk_simp
  rw [after0_9]
  frame_out
  have hN : t.val < 8 := lt_of_lt_of_eq t.isLt N_0
  have key : ∀ (a : Fin 256) (b : Fin 128), labRows (iblk m c 4 t) (ix2 a b)
      = NormRefIdeal.Gen.k0_pay1 (NormRefIdeal.Gen.k0_pay10 (F := Ideal) (shapeCast NormRefIdeal.S2048x1 (m ((c.tc : Thread nD τ).loc main_arg4)) NormRefIdeal.Gen.shapeCasts_S2048_S2048x1)) (ix2 ⟨t.val * 256 + a.val, by omega⟩ b) := by
    intro a b
    have ha := a.isLt
    rw [lab_ref]
    refine (labels m c t ⟨a.val / 128, by omega⟩ ⟨a.val % 128, by omega⟩ (by dsimp only; omega)).trans ?_
    have ea : a.val / 128 * 128 + a.val % 128 = a.val := by omega
    simp only [ea]
  refine (lab_block (iblk m c 4 t) y).trans ((at_ix2 (labRows (iblk m c 4 t)) y).trans ((key (y 0) (y 1)).trans ?_))
  generalize NormRefIdeal.Gen.k0_pay1 (NormRefIdeal.Gen.k0_pay10 (F := Ideal) (shapeCast NormRefIdeal.S2048x1 (m ((c.tc : Thread nD τ).loc main_arg4)) NormRefIdeal.Gen.shapeCasts_S2048_S2048x1)) = X
  blk_ext [idx t]

/-- On equal arguments the call and its reference end with the same codes, the same scales and the same labels, exactly. -/
theorem algebraic : Cert.algebraic_NormIdeal_NormRefIdeal := by
  intro m ρ m' ρ' _ hagree
  refine ⟨fun c => (dats (F := Ideal) m 0 c).arrAt 5 cfg0.N, fun c => (dats (F := Ideal) m 0 c).arrAt 6 cfg0.N,
    fun c => (dats (F := Ideal) m 0 c).arrAt 7 cfg0.N, fun c => (dats (F := Ideal) m 0 c).arrAt 8 cfg0.N,
    fun c => (dats (F := Ideal) m 0 c).arrAt 9 cfg0.N, Cert.NormIdeal.Value.run_blocks (F := Ideal) m ρ, ?_⟩
  refine (θ_run Cert.NormRefIdeal.defs _ _).mono (fun _ h c => ⟨(h c).1.trans ?_, (h c).2.1.trans ?_,
    (h c).2.2.1.trans ?_, (h c).2.2.2.1.trans ?_, (h c).2.2.2.2.1.trans ?_, (h c).2.2.2.2.2⟩)
    (Cert.NormRefIdeal.Value.run_blocks (F := Ideal) m' ρ')
  all_goals obtain ⟨a0, a1, a2, a3, a4⟩ := hagree c
  · refine Eq.trans ?_ (tie5 m c).symm
    rw [NormRef.final5, a0, a2]
  · refine Eq.trans ?_ (tie6 m c).symm
    rw [NormRef.final6, a1, a3]
  · refine Eq.trans ?_ (tie7 m c).symm
    rw [NormRef.final7, a0, a2]
  · refine Eq.trans ?_ (tie8 m c).symm
    rw [NormRef.final8, a1, a3]
  · refine Eq.trans ?_ (tie9 m c).symm
    rw [NormRef.final9, a4]

end Cert.Proof.Norm

end
-- ==== Proof.Bwd.lean ====
module

public import proofs.«01_k».proof.Defs
public import proofs.«01_k».proof.Proof.Gen.BwdIdeal.Value
public import proofs.«01_k».proof.Proof.Gen.BwdRefIdeal.Run
public import Idealize.ShloMosaic.Lib.Pipeline.ValueKit

@[expose] public section

set_option maxRecDepth 16384

noncomputable section

namespace Cert.Proof.Bwd

open Idealize.ShloMosaic Idealize.ShloMosaic.TcCoe Idealize.SL.Sem
open Cert.BwdIdeal Cert.BwdIdeal.Gen

/-- The index maps of the five windows. -/
theorem idx : ∀ t : Fin cfg0.N, win0_0.index t = ![(grid0.coords t 0).val, 0] ∧ win0_1.index t = ![(grid0.coords t 0).val, 0]
    ∧ win0_2.index t = ![0, 0] ∧ win0_3.index t = ![(grid0.coords t 0).val, 0] ∧ win0_4.index t = ![(grid0.coords t 0).val, 0] := by
  decide +kernel

/-- On equal arguments the call and its reference end with the same gradient, exactly. -/
theorem algebraic : Cert.algebraic_BwdIdeal_BwdRefIdeal := by
  intro m ρ m' ρ' _ hagree
  refine ⟨fun c => (dats (F := Ideal) m 0 c).arrAt 4 cfg0.N, Cert.BwdIdeal.Value.run_blocks (F := Ideal) m ρ, ?_⟩
  refine (θ_run Cert.BwdRefIdeal.defs _ _).mono (fun _ h c => ⟨(h c).1.trans (Eq.symm ?_), (h c).2⟩)
    (Cert.BwdRefIdeal.Value.run (F := Ideal) m' ρ')
  rw [(hagree c).1, (hagree c).2.1, (hagree c).2.2.1, (hagree c).2.2.2]
  refine (dats m 0 c).arrAt_eq_of_covers 4 _ (by decide +kernel) fun t hf y => ?_
  blk_simp
  rw [after0_4]
  frame_out
  unfold k0_pay1
  pointwise
  blk_point [iblk, V, idx t]

end Cert.Proof.Bwd

end
-- ==== Proof.lean ====
module

public import proofs.«01_k».proof.Defs
public import proofs.«01_k».proof.Proof.Gen.Grad
public import proofs.«01_k».proof.Proof.GradBits
public import proofs.«01_k».proof.Proof.Gen.GradIdeal
public import proofs.«01_k».proof.Proof.Gen.GradRefIdeal
public import proofs.«01_k».proof.Proof.Gen.GradRefIdeal.Frame
public import proofs.«01_k».proof.Proof.Grad
public import proofs.«01_k».proof.Proof.Gen.Stats
public import proofs.«01_k».proof.Proof.Gen.Stats.Frame
public import proofs.«01_k».proof.Proof.Gen.StatsIdeal
public import proofs.«01_k».proof.Proof.Gen.StatsIdeal.Frame
public import proofs.«01_k».proof.Proof.Gen.StatsRefIdeal
public import proofs.«01_k».proof.Proof.Gen.StatsRefIdeal.Frame
public import proofs.«01_k».proof.Proof.Stats
public import proofs.«01_k».proof.Proof.Gen.Coef
public import proofs.«01_k».proof.Proof.CoefBits
public import proofs.«01_k».proof.Proof.Gen.CoefIdeal
public import proofs.«01_k».proof.Proof.CoefRun
public import proofs.«01_k».proof.Proof.Gen.CoefRefIdeal
public import proofs.«01_k».proof.Proof.Gen.CoefRefIdeal.Run
public import proofs.«01_k».proof.Proof.Coef
public import proofs.«01_k».proof.Proof.Gen.Norm
public import proofs.«01_k».proof.Proof.Gen.Norm.Frame
public import proofs.«01_k».proof.Proof.Gen.NormIdeal
public import proofs.«01_k».proof.Proof.Gen.NormIdeal.Frame
public import proofs.«01_k».proof.Proof.Gen.NormRefIdeal
public import proofs.«01_k».proof.Proof.Gen.NormRefIdeal.Frame
public import proofs.«01_k».proof.Proof.Norm
public import proofs.«01_k».proof.Proof.Gen.Bwd
public import proofs.«01_k».proof.Proof.Gen.Bwd.Frame
public import proofs.«01_k».proof.Proof.Gen.BwdIdeal
public import proofs.«01_k».proof.Proof.Gen.BwdIdeal.Frame
public import proofs.«01_k».proof.Proof.Gen.BwdRefIdeal
public import proofs.«01_k».proof.Proof.Gen.BwdRefIdeal.Run
public import proofs.«01_k».proof.Proof.Bwd
public import proofs.«01_k».proof.Proof.GradRun
public import Idealize.ShloMosaic.Lib.Quiescent

@[expose] public section

noncomputable section

namespace Cert.Proof

open Idealize.ShloMosaic Idealize.SL.Sem

/-- The reference of the normalisation's gradient runs to its end and leaves its arguments as they were. -/
theorem bwdRefFrame : Cert.quiescent_BwdRefIdeal := fun m ρ _ =>
  (θ_run Cert.BwdRefIdeal.defs _ _).mono
    (fun r h => ⟨fun c => (h c).2, Idealize.ShloMosaic.sem_eq_zero_of_no_sems (by decide) r.2⟩)
    (Cert.BwdRefIdeal.Value.run (F := Ideal) m ρ)

/-- The reference of the token coefficients runs to its end and leaves its arguments as they were. -/
theorem coefRefFrame : Cert.quiescent_CoefRefIdeal := fun m ρ _ =>
  (θ_run Cert.CoefRefIdeal.defs _ _).mono
    (fun r h => ⟨fun c => (h c).2.2.2.2.2.2.2.2.2.2.2, Idealize.ShloMosaic.sem_eq_zero_of_no_sems (by decide) r.2⟩)
    (Cert.CoefRefIdeal.Value.run (F := Ideal) m ρ)

/-- Every claim: each call runs to its end and leaves its arguments unchanged, and on equal arguments its results over
the extended reals are its reference's. -/
theorem claim : Cert.Claim := ⟨Cert.Grad.Gen.facts, Cert.GradIdeal.Gen.facts, Cert.GradRefIdeal.Gen.facts, Cert.Stats.Gen.facts, Cert.StatsIdeal.Gen.facts, Cert.StatsRefIdeal.Gen.facts, Cert.Coef.Gen.facts, Cert.CoefIdeal.Gen.facts, Cert.CoefRefIdeal.Gen.facts, Cert.Norm.Gen.facts, Cert.NormIdeal.Gen.facts, Cert.NormRefIdeal.Gen.facts, Cert.Bwd.Gen.facts, Cert.BwdIdeal.Gen.facts, Cert.BwdRefIdeal.Gen.facts,
  GradBits.frame,
  fun m ρ _ => Cert.GradIdeal.GradRun.frame m ρ,
  fun m ρ _ => Cert.GradRefIdeal.Gen.frame m ρ,
  fun m ρ _ => Cert.Stats.Gen.frame m ρ,
  fun m ρ _ => Cert.StatsIdeal.Gen.frame m ρ,
  fun m ρ _ => Cert.StatsRefIdeal.Gen.frame m ρ,
  CoefBits.frame,
  fun m ρ _ => Cert.CoefIdeal.CoefRun.frame m ρ,
  coefRefFrame,
  fun m ρ _ => Cert.Norm.Gen.frame m ρ,
  fun m ρ _ => Cert.NormIdeal.Gen.frame m ρ,
  fun m ρ _ => Cert.NormRefIdeal.Gen.frame m ρ,
  fun m ρ _ => Cert.Bwd.Gen.frame m ρ,
  fun m ρ _ => Cert.BwdIdeal.Gen.frame m ρ,
  bwdRefFrame,
  trivial, Cert.Proof.Grad.algebraic, trivial, Cert.Proof.Stats.algebraic, trivial, Cert.Proof.Coef.algebraic, trivial, Cert.Proof.Norm.algebraic, trivial, Cert.Proof.Bwd.algebraic⟩

end Cert.Proof

end
